-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_FwdA (m : (ℓ : Loc Cert.FwdA.nD Cert.FwdA.τ Cert.FwdA.sig) → Buf (Elt Bits) ℓ) : Prop :=
  True

def Pre_FwdAIdeal (m : (ℓ : Loc Cert.FwdAIdeal.nD Cert.FwdAIdeal.τ Cert.FwdAIdeal.sig) → Buf (Elt Ideal) ℓ) : Prop :=
  True

def Pre_FwdARefIdeal (m : (ℓ : Loc Cert.FwdARefIdeal.nD Cert.FwdARefIdeal.τ Cert.FwdARefIdeal.sig) → Buf (Elt Ideal) ℓ) : Prop :=
  True

def Pre_FwdB (m : (ℓ : Loc Cert.FwdB.nD Cert.FwdB.τ Cert.FwdB.sig) → Buf (Elt Bits) ℓ) : Prop :=
  True

def Pre_FwdBIdeal (m : (ℓ : Loc Cert.FwdBIdeal.nD Cert.FwdBIdeal.τ Cert.FwdBIdeal.sig) → Buf (Elt Ideal) ℓ) : Prop :=
  True

def Pre_FwdBRefIdeal (m : (ℓ : Loc Cert.FwdBRefIdeal.nD Cert.FwdBRefIdeal.τ Cert.FwdBRefIdeal.sig) → Buf (Elt Ideal) ℓ) : Prop :=
  True

def Pre_BwdA (m : (ℓ : Loc Cert.BwdA.nD Cert.BwdA.τ Cert.BwdA.sig) → Buf (Elt Bits) ℓ) : Prop :=
  True

def Pre_BwdAIdeal (m : (ℓ : Loc Cert.BwdAIdeal.nD Cert.BwdAIdeal.τ Cert.BwdAIdeal.sig) → Buf (Elt Ideal) ℓ) : Prop :=
  True

def Pre_BwdAIdeal_finite_ba [hPre_finite_ba : Cert.Pre_finite_ba.Facts] (m : (ℓ : Loc Cert.BwdAIdeal.nD Cert.BwdAIdeal.τ Cert.BwdAIdeal.sig) → Buf (Elt Ideal) ℓ) : Prop :=
  ∀ c : Dev Cert.BwdAIdeal.nD,
    (Cert.Pre_finite_ba.fn (F := Ideal) (m ((c.tc : Thread Cert.BwdAIdeal.nD Cert.BwdAIdeal.τ).loc Cert.BwdAIdeal.main_arg0)) (m ((c.tc : Thread Cert.BwdAIdeal.nD Cert.BwdAIdeal.τ).loc Cert.BwdAIdeal.main_arg1)) (m ((c.tc : Thread Cert.BwdAIdeal.nD Cert.BwdAIdeal.τ).loc Cert.BwdAIdeal.main_arg2)) (m ((c.tc : Thread Cert.BwdAIdeal.nD Cert.BwdAIdeal.τ).loc Cert.BwdAIdeal.main_arg3)) (m ((c.tc : Thread Cert.BwdAIdeal.nD Cert.BwdAIdeal.τ).loc Cert.BwdAIdeal.main_arg4))).1 = (fun _ => 1#1)
    ∧ (Cert.Pre_finite_ba.fn (F := Ideal) (m ((c.tc : Thread Cert.BwdAIdeal.nD Cert.BwdAIdeal.τ).loc Cert.BwdAIdeal.main_arg0)) (m ((c.tc : Thread Cert.BwdAIdeal.nD Cert.BwdAIdeal.τ).loc Cert.BwdAIdeal.main_arg1)) (m ((c.tc : Thread Cert.BwdAIdeal.nD Cert.BwdAIdeal.τ).loc Cert.BwdAIdeal.main_arg2)) (m ((c.tc : Thread Cert.BwdAIdeal.nD Cert.BwdAIdeal.τ).loc Cert.BwdAIdeal.main_arg3)) (m ((c.tc : Thread Cert.BwdAIdeal.nD Cert.BwdAIdeal.τ).loc Cert.BwdAIdeal.main_arg4))).2.1 = (fun _ => 1#1)
    ∧ (Cert.Pre_finite_ba.fn (F := Ideal) (m ((c.tc : Thread Cert.BwdAIdeal.nD Cert.BwdAIdeal.τ).loc Cert.BwdAIdeal.main_arg0)) (m ((c.tc : Thread Cert.BwdAIdeal.nD Cert.BwdAIdeal.τ).loc Cert.BwdAIdeal.main_arg1)) (m ((c.tc : Thread Cert.BwdAIdeal.nD Cert.BwdAIdeal.τ).loc Cert.BwdAIdeal.main_arg2)) (m ((c.tc : Thread Cert.BwdAIdeal.nD Cert.BwdAIdeal.τ).loc Cert.BwdAIdeal.main_arg3)) (m ((c.tc : Thread Cert.BwdAIdeal.nD Cert.BwdAIdeal.τ).loc Cert.BwdAIdeal.main_arg4))).2.2.1 = (fun _ => 1#1)
    ∧ (Cert.Pre_finite_ba.fn (F := Ideal) (m ((c.tc : Thread Cert.BwdAIdeal.nD Cert.BwdAIdeal.τ).loc Cert.BwdAIdeal.main_arg0)) (m ((c.tc : Thread Cert.BwdAIdeal.nD Cert.BwdAIdeal.τ).loc Cert.BwdAIdeal.main_arg1)) (m ((c.tc : Thread Cert.BwdAIdeal.nD Cert.BwdAIdeal.τ).loc Cert.BwdAIdeal.main_arg2)) (m ((c.tc : Thread Cert.BwdAIdeal.nD Cert.BwdAIdeal.τ).loc Cert.BwdAIdeal.main_arg3)) (m ((c.tc : Thread Cert.BwdAIdeal.nD Cert.BwdAIdeal.τ).loc Cert.BwdAIdeal.main_arg4))).2.2.2.1 = (fun _ => 1#1)
    ∧ (Cert.Pre_finite_ba.fn (F := Ideal) (m ((c.tc : Thread Cert.BwdAIdeal.nD Cert.BwdAIdeal.τ).loc Cert.BwdAIdeal.main_arg0)) (m ((c.tc : Thread Cert.BwdAIdeal.nD Cert.BwdAIdeal.τ).loc Cert.BwdAIdeal.main_arg1)) (m ((c.tc : Thread Cert.BwdAIdeal.nD Cert.BwdAIdeal.τ).loc Cert.BwdAIdeal.main_arg2)) (m ((c.tc : Thread Cert.BwdAIdeal.nD Cert.BwdAIdeal.τ).loc Cert.BwdAIdeal.main_arg3)) (m ((c.tc : Thread Cert.BwdAIdeal.nD Cert.BwdAIdeal.τ).loc Cert.BwdAIdeal.main_arg4))).2.2.2.2 = (fun _ => 1#1)

def Pre_BwdARefIdeal (m : (ℓ : Loc Cert.BwdARefIdeal.nD Cert.BwdARefIdeal.τ Cert.BwdARefIdeal.sig) → Buf (Elt Ideal) ℓ) : Prop :=
  True

def Pre_BwdARefIdeal_finite_ba [hPre_finite_ba : Cert.Pre_finite_ba.Facts] (m : (ℓ : Loc Cert.BwdARefIdeal.nD Cert.BwdARefIdeal.τ Cert.BwdARefIdeal.sig) → Buf (Elt Ideal) ℓ) : Prop :=
  ∀ c : Dev Cert.BwdARefIdeal.nD,
    (Cert.Pre_finite_ba.fn (F := Ideal) (m ((c.tc : Thread Cert.BwdARefIdeal.nD Cert.BwdARefIdeal.τ).loc Cert.BwdARefIdeal.main_arg0)) (m ((c.tc : Thread Cert.BwdARefIdeal.nD Cert.BwdARefIdeal.τ).loc Cert.BwdARefIdeal.main_arg1)) (m ((c.tc : Thread Cert.BwdARefIdeal.nD Cert.BwdARefIdeal.τ).loc Cert.BwdARefIdeal.main_arg2)) (m ((c.tc : Thread Cert.BwdARefIdeal.nD Cert.BwdARefIdeal.τ).loc Cert.BwdARefIdeal.main_arg3)) (m ((c.tc : Thread Cert.BwdARefIdeal.nD Cert.BwdARefIdeal.τ).loc Cert.BwdARefIdeal.main_arg4))).1 = (fun _ => 1#1)
    ∧ (Cert.Pre_finite_ba.fn (F := Ideal) (m ((c.tc : Thread Cert.BwdARefIdeal.nD Cert.BwdARefIdeal.τ).loc Cert.BwdARefIdeal.main_arg0)) (m ((c.tc : Thread Cert.BwdARefIdeal.nD Cert.BwdARefIdeal.τ).loc Cert.BwdARefIdeal.main_arg1)) (m ((c.tc : Thread Cert.BwdARefIdeal.nD Cert.BwdARefIdeal.τ).loc Cert.BwdARefIdeal.main_arg2)) (m ((c.tc : Thread Cert.BwdARefIdeal.nD Cert.BwdARefIdeal.τ).loc Cert.BwdARefIdeal.main_arg3)) (m ((c.tc : Thread Cert.BwdARefIdeal.nD Cert.BwdARefIdeal.τ).loc Cert.BwdARefIdeal.main_arg4))).2.1 = (fun _ => 1#1)
    ∧ (Cert.Pre_finite_ba.fn (F := Ideal) (m ((c.tc : Thread Cert.BwdARefIdeal.nD Cert.BwdARefIdeal.τ).loc Cert.BwdARefIdeal.main_arg0)) (m ((c.tc : Thread Cert.BwdARefIdeal.nD Cert.BwdARefIdeal.τ).loc Cert.BwdARefIdeal.main_arg1)) (m ((c.tc : Thread Cert.BwdARefIdeal.nD Cert.BwdARefIdeal.τ).loc Cert.BwdARefIdeal.main_arg2)) (m ((c.tc : Thread Cert.BwdARefIdeal.nD Cert.BwdARefIdeal.τ).loc Cert.BwdARefIdeal.main_arg3)) (m ((c.tc : Thread Cert.BwdARefIdeal.nD Cert.BwdARefIdeal.τ).loc Cert.BwdARefIdeal.main_arg4))).2.2.1 = (fun _ => 1#1)
    ∧ (Cert.Pre_finite_ba.fn (F := Ideal) (m ((c.tc : Thread Cert.BwdARefIdeal.nD Cert.BwdARefIdeal.τ).loc Cert.BwdARefIdeal.main_arg0)) (m ((c.tc : Thread Cert.BwdARefIdeal.nD Cert.BwdARefIdeal.τ).loc Cert.BwdARefIdeal.main_arg1)) (m ((c.tc : Thread Cert.BwdARefIdeal.nD Cert.BwdARefIdeal.τ).loc Cert.BwdARefIdeal.main_arg2)) (m ((c.tc : Thread Cert.BwdARefIdeal.nD Cert.BwdARefIdeal.τ).loc Cert.BwdARefIdeal.main_arg3)) (m ((c.tc : Thread Cert.BwdARefIdeal.nD Cert.BwdARefIdeal.τ).loc Cert.BwdARefIdeal.main_arg4))).2.2.2.1 = (fun _ => 1#1)
    ∧ (Cert.Pre_finite_ba.fn (F := Ideal) (m ((c.tc : Thread Cert.BwdARefIdeal.nD Cert.BwdARefIdeal.τ).loc Cert.BwdARefIdeal.main_arg0)) (m ((c.tc : Thread Cert.BwdARefIdeal.nD Cert.BwdARefIdeal.τ).loc Cert.BwdARefIdeal.main_arg1)) (m ((c.tc : Thread Cert.BwdARefIdeal.nD Cert.BwdARefIdeal.τ).loc Cert.BwdARefIdeal.main_arg2)) (m ((c.tc : Thread Cert.BwdARefIdeal.nD Cert.BwdARefIdeal.τ).loc Cert.BwdARefIdeal.main_arg3)) (m ((c.tc : Thread Cert.BwdARefIdeal.nD Cert.BwdARefIdeal.τ).loc Cert.BwdARefIdeal.main_arg4))).2.2.2.2 = (fun _ => 1#1)

def Pre_BwdB (m : (ℓ : Loc Cert.BwdB.nD Cert.BwdB.τ Cert.BwdB.sig) → Buf (Elt Bits) ℓ) : Prop :=
  True

def Pre_BwdBIdeal (m : (ℓ : Loc Cert.BwdBIdeal.nD Cert.BwdBIdeal.τ Cert.BwdBIdeal.sig) → Buf (Elt Ideal) ℓ) : Prop :=
  True

def Pre_BwdBIdeal_finite_bb [hPre_finite_bb : Cert.Pre_finite_bb.Facts] (m : (ℓ : Loc Cert.BwdBIdeal.nD Cert.BwdBIdeal.τ Cert.BwdBIdeal.sig) → Buf (Elt Ideal) ℓ) : Prop :=
  ∀ c : Dev Cert.BwdBIdeal.nD,
    (Cert.Pre_finite_bb.fn (F := Ideal) (m ((c.tc : Thread Cert.BwdBIdeal.nD Cert.BwdBIdeal.τ).loc Cert.BwdBIdeal.main_arg0)) (m ((c.tc : Thread Cert.BwdBIdeal.nD Cert.BwdBIdeal.τ).loc Cert.BwdBIdeal.main_arg1)) (m ((c.tc : Thread Cert.BwdBIdeal.nD Cert.BwdBIdeal.τ).loc Cert.BwdBIdeal.main_arg2)) (m ((c.tc : Thread Cert.BwdBIdeal.nD Cert.BwdBIdeal.τ).loc Cert.BwdBIdeal.main_arg3)) (m ((c.tc : Thread Cert.BwdBIdeal.nD Cert.BwdBIdeal.τ).loc Cert.BwdBIdeal.main_arg4)) (m ((c.tc : Thread Cert.BwdBIdeal.nD Cert.BwdBIdeal.τ).loc Cert.BwdBIdeal.main_arg5))).1 = (fun _ => 1#1)
    ∧ (Cert.Pre_finite_bb.fn (F := Ideal) (m ((c.tc : Thread Cert.BwdBIdeal.nD Cert.BwdBIdeal.τ).loc Cert.BwdBIdeal.main_arg0)) (m ((c.tc : Thread Cert.BwdBIdeal.nD Cert.BwdBIdeal.τ).loc Cert.BwdBIdeal.main_arg1)) (m ((c.tc : Thread Cert.BwdBIdeal.nD Cert.BwdBIdeal.τ).loc Cert.BwdBIdeal.main_arg2)) (m ((c.tc : Thread Cert.BwdBIdeal.nD Cert.BwdBIdeal.τ).loc Cert.BwdBIdeal.main_arg3)) (m ((c.tc : Thread Cert.BwdBIdeal.nD Cert.BwdBIdeal.τ).loc Cert.BwdBIdeal.main_arg4)) (m ((c.tc : Thread Cert.BwdBIdeal.nD Cert.BwdBIdeal.τ).loc Cert.BwdBIdeal.main_arg5))).2.1 = (fun _ => 1#1)
    ∧ (Cert.Pre_finite_bb.fn (F := Ideal) (m ((c.tc : Thread Cert.BwdBIdeal.nD Cert.BwdBIdeal.τ).loc Cert.BwdBIdeal.main_arg0)) (m ((c.tc : Thread Cert.BwdBIdeal.nD Cert.BwdBIdeal.τ).loc Cert.BwdBIdeal.main_arg1)) (m ((c.tc : Thread Cert.BwdBIdeal.nD Cert.BwdBIdeal.τ).loc Cert.BwdBIdeal.main_arg2)) (m ((c.tc : Thread Cert.BwdBIdeal.nD Cert.BwdBIdeal.τ).loc Cert.BwdBIdeal.main_arg3)) (m ((c.tc : Thread Cert.BwdBIdeal.nD Cert.BwdBIdeal.τ).loc Cert.BwdBIdeal.main_arg4)) (m ((c.tc : Thread Cert.BwdBIdeal.nD Cert.BwdBIdeal.τ).loc Cert.BwdBIdeal.main_arg5))).2.2.1 = (fun _ => 1#1)
    ∧ (Cert.Pre_finite_bb.fn (F := Ideal) (m ((c.tc : Thread Cert.BwdBIdeal.nD Cert.BwdBIdeal.τ).loc Cert.BwdBIdeal.main_arg0)) (m ((c.tc : Thread Cert.BwdBIdeal.nD Cert.BwdBIdeal.τ).loc Cert.BwdBIdeal.main_arg1)) (m ((c.tc : Thread Cert.BwdBIdeal.nD Cert.BwdBIdeal.τ).loc Cert.BwdBIdeal.main_arg2)) (m ((c.tc : Thread Cert.BwdBIdeal.nD Cert.BwdBIdeal.τ).loc Cert.BwdBIdeal.main_arg3)) (m ((c.tc : Thread Cert.BwdBIdeal.nD Cert.BwdBIdeal.τ).loc Cert.BwdBIdeal.main_arg4)) (m ((c.tc : Thread Cert.BwdBIdeal.nD Cert.BwdBIdeal.τ).loc Cert.BwdBIdeal.main_arg5))).2.2.2.1 = (fun _ => 1#1)
    ∧ (Cert.Pre_finite_bb.fn (F := Ideal) (m ((c.tc : Thread Cert.BwdBIdeal.nD Cert.BwdBIdeal.τ).loc Cert.BwdBIdeal.main_arg0)) (m ((c.tc : Thread Cert.BwdBIdeal.nD Cert.BwdBIdeal.τ).loc Cert.BwdBIdeal.main_arg1)) (m ((c.tc : Thread Cert.BwdBIdeal.nD Cert.BwdBIdeal.τ).loc Cert.BwdBIdeal.main_arg2)) (m ((c.tc : Thread Cert.BwdBIdeal.nD Cert.BwdBIdeal.τ).loc Cert.BwdBIdeal.main_arg3)) (m ((c.tc : Thread Cert.BwdBIdeal.nD Cert.BwdBIdeal.τ).loc Cert.BwdBIdeal.main_arg4)) (m ((c.tc : Thread Cert.BwdBIdeal.nD Cert.BwdBIdeal.τ).loc Cert.BwdBIdeal.main_arg5))).2.2.2.2.1 = (fun _ => 1#1)
    ∧ (Cert.Pre_finite_bb.fn (F := Ideal) (m ((c.tc : Thread Cert.BwdBIdeal.nD Cert.BwdBIdeal.τ).loc Cert.BwdBIdeal.main_arg0)) (m ((c.tc : Thread Cert.BwdBIdeal.nD Cert.BwdBIdeal.τ).loc Cert.BwdBIdeal.main_arg1)) (m ((c.tc : Thread Cert.BwdBIdeal.nD Cert.BwdBIdeal.τ).loc Cert.BwdBIdeal.main_arg2)) (m ((c.tc : Thread Cert.BwdBIdeal.nD Cert.BwdBIdeal.τ).loc Cert.BwdBIdeal.main_arg3)) (m ((c.tc : Thread Cert.BwdBIdeal.nD Cert.BwdBIdeal.τ).loc Cert.BwdBIdeal.main_arg4)) (m ((c.tc : Thread Cert.BwdBIdeal.nD Cert.BwdBIdeal.τ).loc Cert.BwdBIdeal.main_arg5))).2.2.2.2.2 = (fun _ => 1#1)

def Pre_BwdBRefIdeal (m : (ℓ : Loc Cert.BwdBRefIdeal.nD Cert.BwdBRefIdeal.τ Cert.BwdBRefIdeal.sig) → Buf (Elt Ideal) ℓ) : Prop :=
  True

def Pre_BwdBRefIdeal_finite_bb [hPre_finite_bb : Cert.Pre_finite_bb.Facts] (m : (ℓ : Loc Cert.BwdBRefIdeal.nD Cert.BwdBRefIdeal.τ Cert.BwdBRefIdeal.sig) → Buf (Elt Ideal) ℓ) : Prop :=
  ∀ c : Dev Cert.BwdBRefIdeal.nD,
    (Cert.Pre_finite_bb.fn (F := Ideal) (m ((c.tc : Thread Cert.BwdBRefIdeal.nD Cert.BwdBRefIdeal.τ).loc Cert.BwdBRefIdeal.main_arg0)) (m ((c.tc : Thread Cert.BwdBRefIdeal.nD Cert.BwdBRefIdeal.τ).loc Cert.BwdBRefIdeal.main_arg1)) (m ((c.tc : Thread Cert.BwdBRefIdeal.nD Cert.BwdBRefIdeal.τ).loc Cert.BwdBRefIdeal.main_arg2)) (m ((c.tc : Thread Cert.BwdBRefIdeal.nD Cert.BwdBRefIdeal.τ).loc Cert.BwdBRefIdeal.main_arg3)) (m ((c.tc : Thread Cert.BwdBRefIdeal.nD Cert.BwdBRefIdeal.τ).loc Cert.BwdBRefIdeal.main_arg4)) (m ((c.tc : Thread Cert.BwdBRefIdeal.nD Cert.BwdBRefIdeal.τ).loc Cert.BwdBRefIdeal.main_arg5))).1 = (fun _ => 1#1)
    ∧ (Cert.Pre_finite_bb.fn (F := Ideal) (m ((c.tc : Thread Cert.BwdBRefIdeal.nD Cert.BwdBRefIdeal.τ).loc Cert.BwdBRefIdeal.main_arg0)) (m ((c.tc : Thread Cert.BwdBRefIdeal.nD Cert.BwdBRefIdeal.τ).loc Cert.BwdBRefIdeal.main_arg1)) (m ((c.tc : Thread Cert.BwdBRefIdeal.nD Cert.BwdBRefIdeal.τ).loc Cert.BwdBRefIdeal.main_arg2)) (m ((c.tc : Thread Cert.BwdBRefIdeal.nD Cert.BwdBRefIdeal.τ).loc Cert.BwdBRefIdeal.main_arg3)) (m ((c.tc : Thread Cert.BwdBRefIdeal.nD Cert.BwdBRefIdeal.τ).loc Cert.BwdBRefIdeal.main_arg4)) (m ((c.tc : Thread Cert.BwdBRefIdeal.nD Cert.BwdBRefIdeal.τ).loc Cert.BwdBRefIdeal.main_arg5))).2.1 = (fun _ => 1#1)
    ∧ (Cert.Pre_finite_bb.fn (F := Ideal) (m ((c.tc : Thread Cert.BwdBRefIdeal.nD Cert.BwdBRefIdeal.τ).loc Cert.BwdBRefIdeal.main_arg0)) (m ((c.tc : Thread Cert.BwdBRefIdeal.nD Cert.BwdBRefIdeal.τ).loc Cert.BwdBRefIdeal.main_arg1)) (m ((c.tc : Thread Cert.BwdBRefIdeal.nD Cert.BwdBRefIdeal.τ).loc Cert.BwdBRefIdeal.main_arg2)) (m ((c.tc : Thread Cert.BwdBRefIdeal.nD Cert.BwdBRefIdeal.τ).loc Cert.BwdBRefIdeal.main_arg3)) (m ((c.tc : Thread Cert.BwdBRefIdeal.nD Cert.BwdBRefIdeal.τ).loc Cert.BwdBRefIdeal.main_arg4)) (m ((c.tc : Thread Cert.BwdBRefIdeal.nD Cert.BwdBRefIdeal.τ).loc Cert.BwdBRefIdeal.main_arg5))).2.2.1 = (fun _ => 1#1)
    ∧ (Cert.Pre_finite_bb.fn (F := Ideal) (m ((c.tc : Thread Cert.BwdBRefIdeal.nD Cert.BwdBRefIdeal.τ).loc Cert.BwdBRefIdeal.main_arg0)) (m ((c.tc : Thread Cert.BwdBRefIdeal.nD Cert.BwdBRefIdeal.τ).loc Cert.BwdBRefIdeal.main_arg1)) (m ((c.tc : Thread Cert.BwdBRefIdeal.nD Cert.BwdBRefIdeal.τ).loc Cert.BwdBRefIdeal.main_arg2)) (m ((c.tc : Thread Cert.BwdBRefIdeal.nD Cert.BwdBRefIdeal.τ).loc Cert.BwdBRefIdeal.main_arg3)) (m ((c.tc : Thread Cert.BwdBRefIdeal.nD Cert.BwdBRefIdeal.τ).loc Cert.BwdBRefIdeal.main_arg4)) (m ((c.tc : Thread Cert.BwdBRefIdeal.nD Cert.BwdBRefIdeal.τ).loc Cert.BwdBRefIdeal.main_arg5))).2.2.2.1 = (fun _ => 1#1)
    ∧ (Cert.Pre_finite_bb.fn (F := Ideal) (m ((c.tc : Thread Cert.BwdBRefIdeal.nD Cert.BwdBRefIdeal.τ).loc Cert.BwdBRefIdeal.main_arg0)) (m ((c.tc : Thread Cert.BwdBRefIdeal.nD Cert.BwdBRefIdeal.τ).loc Cert.BwdBRefIdeal.main_arg1)) (m ((c.tc : Thread Cert.BwdBRefIdeal.nD Cert.BwdBRefIdeal.τ).loc Cert.BwdBRefIdeal.main_arg2)) (m ((c.tc : Thread Cert.BwdBRefIdeal.nD Cert.BwdBRefIdeal.τ).loc Cert.BwdBRefIdeal.main_arg3)) (m ((c.tc : Thread Cert.BwdBRefIdeal.nD Cert.BwdBRefIdeal.τ).loc Cert.BwdBRefIdeal.main_arg4)) (m ((c.tc : Thread Cert.BwdBRefIdeal.nD Cert.BwdBRefIdeal.τ).loc Cert.BwdBRefIdeal.main_arg5))).2.2.2.2.1 = (fun _ => 1#1)
    ∧ (Cert.Pre_finite_bb.fn (F := Ideal) (m ((c.tc : Thread Cert.BwdBRefIdeal.nD Cert.BwdBRefIdeal.τ).loc Cert.BwdBRefIdeal.main_arg0)) (m ((c.tc : Thread Cert.BwdBRefIdeal.nD Cert.BwdBRefIdeal.τ).loc Cert.BwdBRefIdeal.main_arg1)) (m ((c.tc : Thread Cert.BwdBRefIdeal.nD Cert.BwdBRefIdeal.τ).loc Cert.BwdBRefIdeal.main_arg2)) (m ((c.tc : Thread Cert.BwdBRefIdeal.nD Cert.BwdBRefIdeal.τ).loc Cert.BwdBRefIdeal.main_arg3)) (m ((c.tc : Thread Cert.BwdBRefIdeal.nD Cert.BwdBRefIdeal.τ).loc Cert.BwdBRefIdeal.main_arg4)) (m ((c.tc : Thread Cert.BwdBRefIdeal.nD Cert.BwdBRefIdeal.τ).loc Cert.BwdBRefIdeal.main_arg5))).2.2.2.2.2 = (fun _ => 1#1)

def Pre_AdaB (m : (ℓ : Loc Cert.AdaB.nD Cert.AdaB.τ Cert.AdaB.sig) → Buf (Elt Bits) ℓ) : Prop :=
  True

def Pre_AdaBIdeal (m : (ℓ : Loc Cert.AdaBIdeal.nD Cert.AdaBIdeal.τ Cert.AdaBIdeal.sig) → Buf (Elt Ideal) ℓ) : Prop :=
  True

def Pre_AdaBRefIdeal (m : (ℓ : Loc Cert.AdaBRefIdeal.nD Cert.AdaBRefIdeal.τ Cert.AdaBRefIdeal.sig) → Buf (Elt Ideal) ℓ) : Prop :=
  True

def Pre_StepAda (m : (ℓ : Loc Cert.StepAda.nD Cert.StepAda.τ Cert.StepAda.sig) → Buf (Elt Bits) ℓ) : Prop :=
  True

def Pre_StepAdaIdeal (m : (ℓ : Loc Cert.StepAdaIdeal.nD Cert.StepAdaIdeal.τ Cert.StepAdaIdeal.sig) → Buf (Elt Ideal) ℓ) : Prop :=
  True

def Pre_StepAdaRefIdeal (m : (ℓ : Loc Cert.StepAdaRefIdeal.nD Cert.StepAdaRefIdeal.τ Cert.StepAdaRefIdeal.sig) → Buf (Elt Ideal) ℓ) : Prop :=
  True

def Pre_StepIn (m : (ℓ : Loc Cert.StepIn.nD Cert.StepIn.τ Cert.StepIn.sig) → Buf (Elt Bits) ℓ) : Prop :=
  True

def Pre_StepInIdeal (m : (ℓ : Loc Cert.StepInIdeal.nD Cert.StepInIdeal.τ Cert.StepInIdeal.sig) → Buf (Elt Ideal) ℓ) : Prop :=
  True

def Pre_StepInRefIdeal (m : (ℓ : Loc Cert.StepInRefIdeal.nD Cert.StepInRefIdeal.τ Cert.StepInRefIdeal.sig) → Buf (Elt Ideal) ℓ) : Prop :=
  True

def Pre_StepOut (m : (ℓ : Loc Cert.StepOut.nD Cert.StepOut.τ Cert.StepOut.sig) → Buf (Elt Bits) ℓ) : Prop :=
  True

def Pre_StepOutIdeal (m : (ℓ : Loc Cert.StepOutIdeal.nD Cert.StepOutIdeal.τ Cert.StepOutIdeal.sig) → Buf (Elt Ideal) ℓ) : Prop :=
  True

def Pre_StepOutRefIdeal (m : (ℓ : Loc Cert.StepOutRefIdeal.nD Cert.StepOutRefIdeal.τ Cert.StepOutRefIdeal.sig) → Buf (Elt Ideal) ℓ) : Prop :=
  True

def Pre_StepGlu (m : (ℓ : Loc Cert.StepGlu.nD Cert.StepGlu.τ Cert.StepGlu.sig) → Buf (Elt Bits) ℓ) : Prop :=
  True

def Pre_StepGluIdeal (m : (ℓ : Loc Cert.StepGluIdeal.nD Cert.StepGluIdeal.τ Cert.StepGluIdeal.sig) → Buf (Elt Ideal) ℓ) : Prop :=
  True

def Pre_StepGluRefIdeal (m : (ℓ : Loc Cert.StepGluRefIdeal.nD Cert.StepGluRefIdeal.τ Cert.StepGluRefIdeal.sig) → Buf (Elt Ideal) ℓ) : Prop :=
  True

def Pre_StepSq (m : (ℓ : Loc Cert.StepSq.nD Cert.StepSq.τ Cert.StepSq.sig) → Buf (Elt Bits) ℓ) : Prop :=
  True

def Pre_StepSqIdeal (m : (ℓ : Loc Cert.StepSqIdeal.nD Cert.StepSqIdeal.τ Cert.StepSqIdeal.sig) → Buf (Elt Ideal) ℓ) : Prop :=
  True

def Pre_StepSqRefIdeal (m : (ℓ : Loc Cert.StepSqRefIdeal.nD Cert.StepSqRefIdeal.τ Cert.StepSqRefIdeal.sig) → Buf (Elt Ideal) ℓ) : Prop :=
  True

def Pre_StepDn (m : (ℓ : Loc Cert.StepDn.nD Cert.StepDn.τ Cert.StepDn.sig) → Buf (Elt Bits) ℓ) : Prop :=
  True

def Pre_StepDnIdeal (m : (ℓ : Loc Cert.StepDnIdeal.nD Cert.StepDnIdeal.τ Cert.StepDnIdeal.sig) → Buf (Elt Ideal) ℓ) : Prop :=
  True

def Pre_StepDnRefIdeal (m : (ℓ : Loc Cert.StepDnRefIdeal.nD Cert.StepDnRefIdeal.τ Cert.StepDnRefIdeal.sig) → Buf (Elt Ideal) ℓ) : Prop :=
  True

def Pre_StepSmall (m : (ℓ : Loc Cert.StepSmall.nD Cert.StepSmall.τ Cert.StepSmall.sig) → Buf (Elt Bits) ℓ) : Prop :=
  True

def Pre_StepSmallIdeal (m : (ℓ : Loc Cert.StepSmallIdeal.nD Cert.StepSmallIdeal.τ Cert.StepSmallIdeal.sig) → Buf (Elt Ideal) ℓ) : Prop :=
  True

def Pre_StepSmallRefIdeal (m : (ℓ : Loc Cert.StepSmallRefIdeal.nD Cert.StepSmallRefIdeal.τ Cert.StepSmallRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_FwdA [hFwdA : Cert.FwdA.Facts] : Prop :=
  ∀ (m : (ℓ : Loc Cert.FwdA.nD Cert.FwdA.τ Cert.FwdA.sig) → Buf (Elt Bits) ℓ) (g : Dev Cert.FwdA.nD → PrngReg), Pre_FwdA m →
    θ_run (Cert.FwdA.defs (F := Bits)) (onTc (τ := Cert.FwdA.τ) (Cert.FwdA.main (F := Bits))) ⟨m, fun _ => 0, g⟩ (fun r => (∀ c : Dev Cert.FwdA.nD,
      r.2.mem ((c.tc : Thread Cert.FwdA.nD Cert.FwdA.τ).loc Cert.FwdA.main_arg0) = m ((c.tc : Thread Cert.FwdA.nD Cert.FwdA.τ).loc Cert.FwdA.main_arg0)
      ∧ r.2.mem ((c.tc : Thread Cert.FwdA.nD Cert.FwdA.τ).loc Cert.FwdA.main_arg1) = m ((c.tc : Thread Cert.FwdA.nD Cert.FwdA.τ).loc Cert.FwdA.main_arg1)
      ∧ r.2.mem ((c.tc : Thread Cert.FwdA.nD Cert.FwdA.τ).loc Cert.FwdA.main_arg2) = m ((c.tc : Thread Cert.FwdA.nD Cert.FwdA.τ).loc Cert.FwdA.main_arg2)
      ∧ r.2.mem ((c.tc : Thread Cert.FwdA.nD Cert.FwdA.τ).loc Cert.FwdA.main_arg3) = m ((c.tc : Thread Cert.FwdA.nD Cert.FwdA.τ).loc Cert.FwdA.main_arg3)
      ∧ r.2.mem ((c.tc : Thread Cert.FwdA.nD Cert.FwdA.τ).loc Cert.FwdA.main_arg4) = m ((c.tc : Thread Cert.FwdA.nD Cert.FwdA.τ).loc Cert.FwdA.main_arg4))
      ∧ r.2.sem = fun _ => 0)

def quiescent_FwdAIdeal [hFwdAIdeal : Cert.FwdAIdeal.Facts] : Prop :=
  ∀ (m : (ℓ : Loc Cert.FwdAIdeal.nD Cert.FwdAIdeal.τ Cert.FwdAIdeal.sig) → Buf (Elt Ideal) ℓ) (g : Dev Cert.FwdAIdeal.nD → PrngReg), Pre_FwdAIdeal m →
    θ_run (Cert.FwdAIdeal.defs (F := Ideal)) (onTc (τ := Cert.FwdAIdeal.τ) (Cert.FwdAIdeal.main (F := Ideal))) ⟨m, fun _ => 0, g⟩ (fun r => (∀ c : Dev Cert.FwdAIdeal.nD,
      r.2.mem ((c.tc : Thread Cert.FwdAIdeal.nD Cert.FwdAIdeal.τ).loc Cert.FwdAIdeal.main_arg0) = m ((c.tc : Thread Cert.FwdAIdeal.nD Cert.FwdAIdeal.τ).loc Cert.FwdAIdeal.main_arg0)
      ∧ r.2.mem ((c.tc : Thread Cert.FwdAIdeal.nD Cert.FwdAIdeal.τ).loc Cert.FwdAIdeal.main_arg1) = m ((c.tc : Thread Cert.FwdAIdeal.nD Cert.FwdAIdeal.τ).loc Cert.FwdAIdeal.main_arg1)
      ∧ r.2.mem ((c.tc : Thread Cert.FwdAIdeal.nD Cert.FwdAIdeal.τ).loc Cert.FwdAIdeal.main_arg2) = m ((c.tc : Thread Cert.FwdAIdeal.nD Cert.FwdAIdeal.τ).loc Cert.FwdAIdeal.main_arg2)
      ∧ r.2.mem ((c.tc : Thread Cert.FwdAIdeal.nD Cert.FwdAIdeal.τ).loc Cert.FwdAIdeal.main_arg3) = m ((c.tc : Thread Cert.FwdAIdeal.nD Cert.FwdAIdeal.τ).loc Cert.FwdAIdeal.main_arg3)
      ∧ r.2.mem ((c.tc : Thread Cert.FwdAIdeal.nD Cert.FwdAIdeal.τ).loc Cert.FwdAIdeal.main_arg4) = m ((c.tc : Thread Cert.FwdAIdeal.nD Cert.FwdAIdeal.τ).loc Cert.FwdAIdeal.main_arg4))
      ∧ r.2.sem = fun _ => 0)

def quiescent_FwdARefIdeal [hFwdARefIdeal : Cert.FwdARefIdeal.Facts] : Prop :=
  ∀ (m : (ℓ : Loc Cert.FwdARefIdeal.nD Cert.FwdARefIdeal.τ Cert.FwdARefIdeal.sig) → Buf (Elt Ideal) ℓ) (g : Dev Cert.FwdARefIdeal.nD → PrngReg), Pre_FwdARefIdeal m →
    θ_run (Cert.FwdARefIdeal.defs (F := Ideal)) (onTc (τ := Cert.FwdARefIdeal.τ) (Cert.FwdARefIdeal.main (F := Ideal))) ⟨m, fun _ => 0, g⟩ (fun r => (∀ c : Dev Cert.FwdARefIdeal.nD,
      r.2.mem ((c.tc : Thread Cert.FwdARefIdeal.nD Cert.FwdARefIdeal.τ).loc Cert.FwdARefIdeal.main_arg0) = m ((c.tc : Thread Cert.FwdARefIdeal.nD Cert.FwdARefIdeal.τ).loc Cert.FwdARefIdeal.main_arg0)
      ∧ r.2.mem ((c.tc : Thread Cert.FwdARefIdeal.nD Cert.FwdARefIdeal.τ).loc Cert.FwdARefIdeal.main_arg1) = m ((c.tc : Thread Cert.FwdARefIdeal.nD Cert.FwdARefIdeal.τ).loc Cert.FwdARefIdeal.main_arg1)
      ∧ r.2.mem ((c.tc : Thread Cert.FwdARefIdeal.nD Cert.FwdARefIdeal.τ).loc Cert.FwdARefIdeal.main_arg2) = m ((c.tc : Thread Cert.FwdARefIdeal.nD Cert.FwdARefIdeal.τ).loc Cert.FwdARefIdeal.main_arg2)
      ∧ r.2.mem ((c.tc : Thread Cert.FwdARefIdeal.nD Cert.FwdARefIdeal.τ).loc Cert.FwdARefIdeal.main_arg3) = m ((c.tc : Thread Cert.FwdARefIdeal.nD Cert.FwdARefIdeal.τ).loc Cert.FwdARefIdeal.main_arg3)
      ∧ r.2.mem ((c.tc : Thread Cert.FwdARefIdeal.nD Cert.FwdARefIdeal.τ).loc Cert.FwdARefIdeal.main_arg4) = m ((c.tc : Thread Cert.FwdARefIdeal.nD Cert.FwdARefIdeal.τ).loc Cert.FwdARefIdeal.main_arg4))
      ∧ r.2.sem = fun _ => 0)

def quiescent_FwdB [hFwdB : Cert.FwdB.Facts] : Prop :=
  ∀ (m : (ℓ : Loc Cert.FwdB.nD Cert.FwdB.τ Cert.FwdB.sig) → Buf (Elt Bits) ℓ) (g : Dev Cert.FwdB.nD → PrngReg), Pre_FwdB m →
    θ_run (Cert.FwdB.defs (F := Bits)) (onTc (τ := Cert.FwdB.τ) (Cert.FwdB.main (F := Bits))) ⟨m, fun _ => 0, g⟩ (fun r => (∀ c : Dev Cert.FwdB.nD,
      r.2.mem ((c.tc : Thread Cert.FwdB.nD Cert.FwdB.τ).loc Cert.FwdB.main_arg0) = m ((c.tc : Thread Cert.FwdB.nD Cert.FwdB.τ).loc Cert.FwdB.main_arg0)
      ∧ r.2.mem ((c.tc : Thread Cert.FwdB.nD Cert.FwdB.τ).loc Cert.FwdB.main_arg1) = m ((c.tc : Thread Cert.FwdB.nD Cert.FwdB.τ).loc Cert.FwdB.main_arg1)
      ∧ r.2.mem ((c.tc : Thread Cert.FwdB.nD Cert.FwdB.τ).loc Cert.FwdB.main_arg2) = m ((c.tc : Thread Cert.FwdB.nD Cert.FwdB.τ).loc Cert.FwdB.main_arg2)
      ∧ r.2.mem ((c.tc : Thread Cert.FwdB.nD Cert.FwdB.τ).loc Cert.FwdB.main_arg3) = m ((c.tc : Thread Cert.FwdB.nD Cert.FwdB.τ).loc Cert.FwdB.main_arg3)
      ∧ r.2.mem ((c.tc : Thread Cert.FwdB.nD Cert.FwdB.τ).loc Cert.FwdB.main_arg4) = m ((c.tc : Thread Cert.FwdB.nD Cert.FwdB.τ).loc Cert.FwdB.main_arg4))
      ∧ r.2.sem = fun _ => 0)

def quiescent_FwdBIdeal [hFwdBIdeal : Cert.FwdBIdeal.Facts] : Prop :=
  ∀ (m : (ℓ : Loc Cert.FwdBIdeal.nD Cert.FwdBIdeal.τ Cert.FwdBIdeal.sig) → Buf (Elt Ideal) ℓ) (g : Dev Cert.FwdBIdeal.nD → PrngReg), Pre_FwdBIdeal m →
    θ_run (Cert.FwdBIdeal.defs (F := Ideal)) (onTc (τ := Cert.FwdBIdeal.τ) (Cert.FwdBIdeal.main (F := Ideal))) ⟨m, fun _ => 0, g⟩ (fun r => (∀ c : Dev Cert.FwdBIdeal.nD,
      r.2.mem ((c.tc : Thread Cert.FwdBIdeal.nD Cert.FwdBIdeal.τ).loc Cert.FwdBIdeal.main_arg0) = m ((c.tc : Thread Cert.FwdBIdeal.nD Cert.FwdBIdeal.τ).loc Cert.FwdBIdeal.main_arg0)
      ∧ r.2.mem ((c.tc : Thread Cert.FwdBIdeal.nD Cert.FwdBIdeal.τ).loc Cert.FwdBIdeal.main_arg1) = m ((c.tc : Thread Cert.FwdBIdeal.nD Cert.FwdBIdeal.τ).loc Cert.FwdBIdeal.main_arg1)
      ∧ r.2.mem ((c.tc : Thread Cert.FwdBIdeal.nD Cert.FwdBIdeal.τ).loc Cert.FwdBIdeal.main_arg2) = m ((c.tc : Thread Cert.FwdBIdeal.nD Cert.FwdBIdeal.τ).loc Cert.FwdBIdeal.main_arg2)
      ∧ r.2.mem ((c.tc : Thread Cert.FwdBIdeal.nD Cert.FwdBIdeal.τ).loc Cert.FwdBIdeal.main_arg3) = m ((c.tc : Thread Cert.FwdBIdeal.nD Cert.FwdBIdeal.τ).loc Cert.FwdBIdeal.main_arg3)
      ∧ r.2.mem ((c.tc : Thread Cert.FwdBIdeal.nD Cert.FwdBIdeal.τ).loc Cert.FwdBIdeal.main_arg4) = m ((c.tc : Thread Cert.FwdBIdeal.nD Cert.FwdBIdeal.τ).loc Cert.FwdBIdeal.main_arg4))
      ∧ r.2.sem = fun _ => 0)

def quiescent_FwdBRefIdeal [hFwdBRefIdeal : Cert.FwdBRefIdeal.Facts] : Prop :=
  ∀ (m : (ℓ : Loc Cert.FwdBRefIdeal.nD Cert.FwdBRefIdeal.τ Cert.FwdBRefIdeal.sig) → Buf (Elt Ideal) ℓ) (g : Dev Cert.FwdBRefIdeal.nD → PrngReg), Pre_FwdBRefIdeal m →
    θ_run (Cert.FwdBRefIdeal.defs (F := Ideal)) (onTc (τ := Cert.FwdBRefIdeal.τ) (Cert.FwdBRefIdeal.main (F := Ideal))) ⟨m, fun _ => 0, g⟩ (fun r => (∀ c : Dev Cert.FwdBRefIdeal.nD,
      r.2.mem ((c.tc : Thread Cert.FwdBRefIdeal.nD Cert.FwdBRefIdeal.τ).loc Cert.FwdBRefIdeal.main_arg0) = m ((c.tc : Thread Cert.FwdBRefIdeal.nD Cert.FwdBRefIdeal.τ).loc Cert.FwdBRefIdeal.main_arg0)
      ∧ r.2.mem ((c.tc : Thread Cert.FwdBRefIdeal.nD Cert.FwdBRefIdeal.τ).loc Cert.FwdBRefIdeal.main_arg1) = m ((c.tc : Thread Cert.FwdBRefIdeal.nD Cert.FwdBRefIdeal.τ).loc Cert.FwdBRefIdeal.main_arg1)
      ∧ r.2.mem ((c.tc : Thread Cert.FwdBRefIdeal.nD Cert.FwdBRefIdeal.τ).loc Cert.FwdBRefIdeal.main_arg2) = m ((c.tc : Thread Cert.FwdBRefIdeal.nD Cert.FwdBRefIdeal.τ).loc Cert.FwdBRefIdeal.main_arg2)
      ∧ r.2.mem ((c.tc : Thread Cert.FwdBRefIdeal.nD Cert.FwdBRefIdeal.τ).loc Cert.FwdBRefIdeal.main_arg3) = m ((c.tc : Thread Cert.FwdBRefIdeal.nD Cert.FwdBRefIdeal.τ).loc Cert.FwdBRefIdeal.main_arg3)
      ∧ r.2.mem ((c.tc : Thread Cert.FwdBRefIdeal.nD Cert.FwdBRefIdeal.τ).loc Cert.FwdBRefIdeal.main_arg4) = m ((c.tc : Thread Cert.FwdBRefIdeal.nD Cert.FwdBRefIdeal.τ).loc Cert.FwdBRefIdeal.main_arg4))
      ∧ r.2.sem = fun _ => 0)

def quiescent_BwdA [hBwdA : Cert.BwdA.Facts] : Prop :=
  ∀ (m : (ℓ : Loc Cert.BwdA.nD Cert.BwdA.τ Cert.BwdA.sig) → Buf (Elt Bits) ℓ) (g : Dev Cert.BwdA.nD → PrngReg), Pre_BwdA m →
    θ_run (Cert.BwdA.defs (F := Bits)) (onTc (τ := Cert.BwdA.τ) (Cert.BwdA.main (F := Bits))) ⟨m, fun _ => 0, g⟩ (fun r => (∀ c : Dev Cert.BwdA.nD,
      r.2.mem ((c.tc : Thread Cert.BwdA.nD Cert.BwdA.τ).loc Cert.BwdA.main_arg0) = m ((c.tc : Thread Cert.BwdA.nD Cert.BwdA.τ).loc Cert.BwdA.main_arg0)
      ∧ r.2.mem ((c.tc : Thread Cert.BwdA.nD Cert.BwdA.τ).loc Cert.BwdA.main_arg1) = m ((c.tc : Thread Cert.BwdA.nD Cert.BwdA.τ).loc Cert.BwdA.main_arg1)
      ∧ r.2.mem ((c.tc : Thread Cert.BwdA.nD Cert.BwdA.τ).loc Cert.BwdA.main_arg2) = m ((c.tc : Thread Cert.BwdA.nD Cert.BwdA.τ).loc Cert.BwdA.main_arg2)
      ∧ r.2.mem ((c.tc : Thread Cert.BwdA.nD Cert.BwdA.τ).loc Cert.BwdA.main_arg3) = m ((c.tc : Thread Cert.BwdA.nD Cert.BwdA.τ).loc Cert.BwdA.main_arg3)
      ∧ r.2.mem ((c.tc : Thread Cert.BwdA.nD Cert.BwdA.τ).loc Cert.BwdA.main_arg4) = m ((c.tc : Thread Cert.BwdA.nD Cert.BwdA.τ).loc Cert.BwdA.main_arg4))
      ∧ r.2.sem = fun _ => 0)

def quiescent_BwdAIdeal [hBwdAIdeal : Cert.BwdAIdeal.Facts] : Prop :=
  ∀ (m : (ℓ : Loc Cert.BwdAIdeal.nD Cert.BwdAIdeal.τ Cert.BwdAIdeal.sig) → Buf (Elt Ideal) ℓ) (g : Dev Cert.BwdAIdeal.nD → PrngReg), Pre_BwdAIdeal m →
    θ_run (Cert.BwdAIdeal.defs (F := Ideal)) (onTc (τ := Cert.BwdAIdeal.τ) (Cert.BwdAIdeal.main (F := Ideal))) ⟨m, fun _ => 0, g⟩ (fun r => (∀ c : Dev Cert.BwdAIdeal.nD,
      r.2.mem ((c.tc : Thread Cert.BwdAIdeal.nD Cert.BwdAIdeal.τ).loc Cert.BwdAIdeal.main_arg0) = m ((c.tc : Thread Cert.BwdAIdeal.nD Cert.BwdAIdeal.τ).loc Cert.BwdAIdeal.main_arg0)
      ∧ r.2.mem ((c.tc : Thread Cert.BwdAIdeal.nD Cert.BwdAIdeal.τ).loc Cert.BwdAIdeal.main_arg1) = m ((c.tc : Thread Cert.BwdAIdeal.nD Cert.BwdAIdeal.τ).loc Cert.BwdAIdeal.main_arg1)
      ∧ r.2.mem ((c.tc : Thread Cert.BwdAIdeal.nD Cert.BwdAIdeal.τ).loc Cert.BwdAIdeal.main_arg2) = m ((c.tc : Thread Cert.BwdAIdeal.nD Cert.BwdAIdeal.τ).loc Cert.BwdAIdeal.main_arg2)
      ∧ r.2.mem ((c.tc : Thread Cert.BwdAIdeal.nD Cert.BwdAIdeal.τ).loc Cert.BwdAIdeal.main_arg3) = m ((c.tc : Thread Cert.BwdAIdeal.nD Cert.BwdAIdeal.τ).loc Cert.BwdAIdeal.main_arg3)
      ∧ r.2.mem ((c.tc : Thread Cert.BwdAIdeal.nD Cert.BwdAIdeal.τ).loc Cert.BwdAIdeal.main_arg4) = m ((c.tc : Thread Cert.BwdAIdeal.nD Cert.BwdAIdeal.τ).loc Cert.BwdAIdeal.main_arg4))
      ∧ r.2.sem = fun _ => 0)

def quiescent_BwdAIdeal_pre_finite_ba [hBwdAIdeal : Cert.BwdAIdeal.Facts] [hPre_finite_ba : Cert.Pre_finite_ba.Facts] : Prop :=
  ∀ (m : (ℓ : Loc Cert.BwdAIdeal.nD Cert.BwdAIdeal.τ Cert.BwdAIdeal.sig) → Buf (Elt Ideal) ℓ) (g : Dev Cert.BwdAIdeal.nD → PrngReg), Pre_BwdAIdeal_finite_ba m →
    θ_run (Cert.BwdAIdeal.defs (F := Ideal)) (onTc (τ := Cert.BwdAIdeal.τ) (Cert.BwdAIdeal.main (F := Ideal))) ⟨m, fun _ => 0, g⟩ (fun r => (∀ c : Dev Cert.BwdAIdeal.nD,
      r.2.mem ((c.tc : Thread Cert.BwdAIdeal.nD Cert.BwdAIdeal.τ).loc Cert.BwdAIdeal.main_arg0) = m ((c.tc : Thread Cert.BwdAIdeal.nD Cert.BwdAIdeal.τ).loc Cert.BwdAIdeal.main_arg0)
      ∧ r.2.mem ((c.tc : Thread Cert.BwdAIdeal.nD Cert.BwdAIdeal.τ).loc Cert.BwdAIdeal.main_arg1) = m ((c.tc : Thread Cert.BwdAIdeal.nD Cert.BwdAIdeal.τ).loc Cert.BwdAIdeal.main_arg1)
      ∧ r.2.mem ((c.tc : Thread Cert.BwdAIdeal.nD Cert.BwdAIdeal.τ).loc Cert.BwdAIdeal.main_arg2) = m ((c.tc : Thread Cert.BwdAIdeal.nD Cert.BwdAIdeal.τ).loc Cert.BwdAIdeal.main_arg2)
      ∧ r.2.mem ((c.tc : Thread Cert.BwdAIdeal.nD Cert.BwdAIdeal.τ).loc Cert.BwdAIdeal.main_arg3) = m ((c.tc : Thread Cert.BwdAIdeal.nD Cert.BwdAIdeal.τ).loc Cert.BwdAIdeal.main_arg3)
      ∧ r.2.mem ((c.tc : Thread Cert.BwdAIdeal.nD Cert.BwdAIdeal.τ).loc Cert.BwdAIdeal.main_arg4) = m ((c.tc : Thread Cert.BwdAIdeal.nD Cert.BwdAIdeal.τ).loc Cert.BwdAIdeal.main_arg4))
      ∧ r.2.sem = fun _ => 0)

def quiescent_BwdARefIdeal [hBwdARefIdeal : Cert.BwdARefIdeal.Facts] : Prop :=
  ∀ (m : (ℓ : Loc Cert.BwdARefIdeal.nD Cert.BwdARefIdeal.τ Cert.BwdARefIdeal.sig) → Buf (Elt Ideal) ℓ) (g : Dev Cert.BwdARefIdeal.nD → PrngReg), Pre_BwdARefIdeal m →
    θ_run (Cert.BwdARefIdeal.defs (F := Ideal)) (onTc (τ := Cert.BwdARefIdeal.τ) (Cert.BwdARefIdeal.main (F := Ideal))) ⟨m, fun _ => 0, g⟩ (fun r => (∀ c : Dev Cert.BwdARefIdeal.nD,
      r.2.mem ((c.tc : Thread Cert.BwdARefIdeal.nD Cert.BwdARefIdeal.τ).loc Cert.BwdARefIdeal.main_arg0) = m ((c.tc : Thread Cert.BwdARefIdeal.nD Cert.BwdARefIdeal.τ).loc Cert.BwdARefIdeal.main_arg0)
      ∧ r.2.mem ((c.tc : Thread Cert.BwdARefIdeal.nD Cert.BwdARefIdeal.τ).loc Cert.BwdARefIdeal.main_arg1) = m ((c.tc : Thread Cert.BwdARefIdeal.nD Cert.BwdARefIdeal.τ).loc Cert.BwdARefIdeal.main_arg1)
      ∧ r.2.mem ((c.tc : Thread Cert.BwdARefIdeal.nD Cert.BwdARefIdeal.τ).loc Cert.BwdARefIdeal.main_arg2) = m ((c.tc : Thread Cert.BwdARefIdeal.nD Cert.BwdARefIdeal.τ).loc Cert.BwdARefIdeal.main_arg2)
      ∧ r.2.mem ((c.tc : Thread Cert.BwdARefIdeal.nD Cert.BwdARefIdeal.τ).loc Cert.BwdARefIdeal.main_arg3) = m ((c.tc : Thread Cert.BwdARefIdeal.nD Cert.BwdARefIdeal.τ).loc Cert.BwdARefIdeal.main_arg3)
      ∧ r.2.mem ((c.tc : Thread Cert.BwdARefIdeal.nD Cert.BwdARefIdeal.τ).loc Cert.BwdARefIdeal.main_arg4) = m ((c.tc : Thread Cert.BwdARefIdeal.nD Cert.BwdARefIdeal.τ).loc Cert.BwdARefIdeal.main_arg4))
      ∧ r.2.sem = fun _ => 0)

def quiescent_BwdARefIdeal_pre_finite_ba [hBwdARefIdeal : Cert.BwdARefIdeal.Facts] [hPre_finite_ba : Cert.Pre_finite_ba.Facts] : Prop :=
  ∀ (m : (ℓ : Loc Cert.BwdARefIdeal.nD Cert.BwdARefIdeal.τ Cert.BwdARefIdeal.sig) → Buf (Elt Ideal) ℓ) (g : Dev Cert.BwdARefIdeal.nD → PrngReg), Pre_BwdARefIdeal_finite_ba m →
    θ_run (Cert.BwdARefIdeal.defs (F := Ideal)) (onTc (τ := Cert.BwdARefIdeal.τ) (Cert.BwdARefIdeal.main (F := Ideal))) ⟨m, fun _ => 0, g⟩ (fun r => (∀ c : Dev Cert.BwdARefIdeal.nD,
      r.2.mem ((c.tc : Thread Cert.BwdARefIdeal.nD Cert.BwdARefIdeal.τ).loc Cert.BwdARefIdeal.main_arg0) = m ((c.tc : Thread Cert.BwdARefIdeal.nD Cert.BwdARefIdeal.τ).loc Cert.BwdARefIdeal.main_arg0)
      ∧ r.2.mem ((c.tc : Thread Cert.BwdARefIdeal.nD Cert.BwdARefIdeal.τ).loc Cert.BwdARefIdeal.main_arg1) = m ((c.tc : Thread Cert.BwdARefIdeal.nD Cert.BwdARefIdeal.τ).loc Cert.BwdARefIdeal.main_arg1)
      ∧ r.2.mem ((c.tc : Thread Cert.BwdARefIdeal.nD Cert.BwdARefIdeal.τ).loc Cert.BwdARefIdeal.main_arg2) = m ((c.tc : Thread Cert.BwdARefIdeal.nD Cert.BwdARefIdeal.τ).loc Cert.BwdARefIdeal.main_arg2)
      ∧ r.2.mem ((c.tc : Thread Cert.BwdARefIdeal.nD Cert.BwdARefIdeal.τ).loc Cert.BwdARefIdeal.main_arg3) = m ((c.tc : Thread Cert.BwdARefIdeal.nD Cert.BwdARefIdeal.τ).loc Cert.BwdARefIdeal.main_arg3)
      ∧ r.2.mem ((c.tc : Thread Cert.BwdARefIdeal.nD Cert.BwdARefIdeal.τ).loc Cert.BwdARefIdeal.main_arg4) = m ((c.tc : Thread Cert.BwdARefIdeal.nD Cert.BwdARefIdeal.τ).loc Cert.BwdARefIdeal.main_arg4))
      ∧ r.2.sem = fun _ => 0)

def quiescent_BwdB [hBwdB : Cert.BwdB.Facts] : Prop :=
  ∀ (m : (ℓ : Loc Cert.BwdB.nD Cert.BwdB.τ Cert.BwdB.sig) → Buf (Elt Bits) ℓ) (g : Dev Cert.BwdB.nD → PrngReg), Pre_BwdB m →
    θ_run (Cert.BwdB.defs (F := Bits)) (onTc (τ := Cert.BwdB.τ) (Cert.BwdB.main (F := Bits))) ⟨m, fun _ => 0, g⟩ (fun r => (∀ c : Dev Cert.BwdB.nD,
      r.2.mem ((c.tc : Thread Cert.BwdB.nD Cert.BwdB.τ).loc Cert.BwdB.main_arg0) = m ((c.tc : Thread Cert.BwdB.nD Cert.BwdB.τ).loc Cert.BwdB.main_arg0)
      ∧ r.2.mem ((c.tc : Thread Cert.BwdB.nD Cert.BwdB.τ).loc Cert.BwdB.main_arg1) = m ((c.tc : Thread Cert.BwdB.nD Cert.BwdB.τ).loc Cert.BwdB.main_arg1)
      ∧ r.2.mem ((c.tc : Thread Cert.BwdB.nD Cert.BwdB.τ).loc Cert.BwdB.main_arg2) = m ((c.tc : Thread Cert.BwdB.nD Cert.BwdB.τ).loc Cert.BwdB.main_arg2)
      ∧ r.2.mem ((c.tc : Thread Cert.BwdB.nD Cert.BwdB.τ).loc Cert.BwdB.main_arg3) = m ((c.tc : Thread Cert.BwdB.nD Cert.BwdB.τ).loc Cert.BwdB.main_arg3)
      ∧ r.2.mem ((c.tc : Thread Cert.BwdB.nD Cert.BwdB.τ).loc Cert.BwdB.main_arg4) = m ((c.tc : Thread Cert.BwdB.nD Cert.BwdB.τ).loc Cert.BwdB.main_arg4)
      ∧ r.2.mem ((c.tc : Thread Cert.BwdB.nD Cert.BwdB.τ).loc Cert.BwdB.main_arg5) = m ((c.tc : Thread Cert.BwdB.nD Cert.BwdB.τ).loc Cert.BwdB.main_arg5))
      ∧ r.2.sem = fun _ => 0)

def quiescent_BwdBIdeal [hBwdBIdeal : Cert.BwdBIdeal.Facts] : Prop :=
  ∀ (m : (ℓ : Loc Cert.BwdBIdeal.nD Cert.BwdBIdeal.τ Cert.BwdBIdeal.sig) → Buf (Elt Ideal) ℓ) (g : Dev Cert.BwdBIdeal.nD → PrngReg), Pre_BwdBIdeal m →
    θ_run (Cert.BwdBIdeal.defs (F := Ideal)) (onTc (τ := Cert.BwdBIdeal.τ) (Cert.BwdBIdeal.main (F := Ideal))) ⟨m, fun _ => 0, g⟩ (fun r => (∀ c : Dev Cert.BwdBIdeal.nD,
      r.2.mem ((c.tc : Thread Cert.BwdBIdeal.nD Cert.BwdBIdeal.τ).loc Cert.BwdBIdeal.main_arg0) = m ((c.tc : Thread Cert.BwdBIdeal.nD Cert.BwdBIdeal.τ).loc Cert.BwdBIdeal.main_arg0)
      ∧ r.2.mem ((c.tc : Thread Cert.BwdBIdeal.nD Cert.BwdBIdeal.τ).loc Cert.BwdBIdeal.main_arg1) = m ((c.tc : Thread Cert.BwdBIdeal.nD Cert.BwdBIdeal.τ).loc Cert.BwdBIdeal.main_arg1)
      ∧ r.2.mem ((c.tc : Thread Cert.BwdBIdeal.nD Cert.BwdBIdeal.τ).loc Cert.BwdBIdeal.main_arg2) = m ((c.tc : Thread Cert.BwdBIdeal.nD Cert.BwdBIdeal.τ).loc Cert.BwdBIdeal.main_arg2)
      ∧ r.2.mem ((c.tc : Thread Cert.BwdBIdeal.nD Cert.BwdBIdeal.τ).loc Cert.BwdBIdeal.main_arg3) = m ((c.tc : Thread Cert.BwdBIdeal.nD Cert.BwdBIdeal.τ).loc Cert.BwdBIdeal.main_arg3)
      ∧ r.2.mem ((c.tc : Thread Cert.BwdBIdeal.nD Cert.BwdBIdeal.τ).loc Cert.BwdBIdeal.main_arg4) = m ((c.tc : Thread Cert.BwdBIdeal.nD Cert.BwdBIdeal.τ).loc Cert.BwdBIdeal.main_arg4)
      ∧ r.2.mem ((c.tc : Thread Cert.BwdBIdeal.nD Cert.BwdBIdeal.τ).loc Cert.BwdBIdeal.main_arg5) = m ((c.tc : Thread Cert.BwdBIdeal.nD Cert.BwdBIdeal.τ).loc Cert.BwdBIdeal.main_arg5))
      ∧ r.2.sem = fun _ => 0)

def quiescent_BwdBIdeal_pre_finite_bb [hBwdBIdeal : Cert.BwdBIdeal.Facts] [hPre_finite_bb : Cert.Pre_finite_bb.Facts] : Prop :=
  ∀ (m : (ℓ : Loc Cert.BwdBIdeal.nD Cert.BwdBIdeal.τ Cert.BwdBIdeal.sig) → Buf (Elt Ideal) ℓ) (g : Dev Cert.BwdBIdeal.nD → PrngReg), Pre_BwdBIdeal_finite_bb m →
    θ_run (Cert.BwdBIdeal.defs (F := Ideal)) (onTc (τ := Cert.BwdBIdeal.τ) (Cert.BwdBIdeal.main (F := Ideal))) ⟨m, fun _ => 0, g⟩ (fun r => (∀ c : Dev Cert.BwdBIdeal.nD,
      r.2.mem ((c.tc : Thread Cert.BwdBIdeal.nD Cert.BwdBIdeal.τ).loc Cert.BwdBIdeal.main_arg0) = m ((c.tc : Thread Cert.BwdBIdeal.nD Cert.BwdBIdeal.τ).loc Cert.BwdBIdeal.main_arg0)
      ∧ r.2.mem ((c.tc : Thread Cert.BwdBIdeal.nD Cert.BwdBIdeal.τ).loc Cert.BwdBIdeal.main_arg1) = m ((c.tc : Thread Cert.BwdBIdeal.nD Cert.BwdBIdeal.τ).loc Cert.BwdBIdeal.main_arg1)
      ∧ r.2.mem ((c.tc : Thread Cert.BwdBIdeal.nD Cert.BwdBIdeal.τ).loc Cert.BwdBIdeal.main_arg2) = m ((c.tc : Thread Cert.BwdBIdeal.nD Cert.BwdBIdeal.τ).loc Cert.BwdBIdeal.main_arg2)
      ∧ r.2.mem ((c.tc : Thread Cert.BwdBIdeal.nD Cert.BwdBIdeal.τ).loc Cert.BwdBIdeal.main_arg3) = m ((c.tc : Thread Cert.BwdBIdeal.nD Cert.BwdBIdeal.τ).loc Cert.BwdBIdeal.main_arg3)
      ∧ r.2.mem ((c.tc : Thread Cert.BwdBIdeal.nD Cert.BwdBIdeal.τ).loc Cert.BwdBIdeal.main_arg4) = m ((c.tc : Thread Cert.BwdBIdeal.nD Cert.BwdBIdeal.τ).loc Cert.BwdBIdeal.main_arg4)
      ∧ r.2.mem ((c.tc : Thread Cert.BwdBIdeal.nD Cert.BwdBIdeal.τ).loc Cert.BwdBIdeal.main_arg5) = m ((c.tc : Thread Cert.BwdBIdeal.nD Cert.BwdBIdeal.τ).loc Cert.BwdBIdeal.main_arg5))
      ∧ r.2.sem = fun _ => 0)

def quiescent_BwdBRefIdeal [hBwdBRefIdeal : Cert.BwdBRefIdeal.Facts] : Prop :=
  ∀ (m : (ℓ : Loc Cert.BwdBRefIdeal.nD Cert.BwdBRefIdeal.τ Cert.BwdBRefIdeal.sig) → Buf (Elt Ideal) ℓ) (g : Dev Cert.BwdBRefIdeal.nD → PrngReg), Pre_BwdBRefIdeal m →
    θ_run (Cert.BwdBRefIdeal.defs (F := Ideal)) (onTc (τ := Cert.BwdBRefIdeal.τ) (Cert.BwdBRefIdeal.main (F := Ideal))) ⟨m, fun _ => 0, g⟩ (fun r => (∀ c : Dev Cert.BwdBRefIdeal.nD,
      r.2.mem ((c.tc : Thread Cert.BwdBRefIdeal.nD Cert.BwdBRefIdeal.τ).loc Cert.BwdBRefIdeal.main_arg0) = m ((c.tc : Thread Cert.BwdBRefIdeal.nD Cert.BwdBRefIdeal.τ).loc Cert.BwdBRefIdeal.main_arg0)
      ∧ r.2.mem ((c.tc : Thread Cert.BwdBRefIdeal.nD Cert.BwdBRefIdeal.τ).loc Cert.BwdBRefIdeal.main_arg1) = m ((c.tc : Thread Cert.BwdBRefIdeal.nD Cert.BwdBRefIdeal.τ).loc Cert.BwdBRefIdeal.main_arg1)
      ∧ r.2.mem ((c.tc : Thread Cert.BwdBRefIdeal.nD Cert.BwdBRefIdeal.τ).loc Cert.BwdBRefIdeal.main_arg2) = m ((c.tc : Thread Cert.BwdBRefIdeal.nD Cert.BwdBRefIdeal.τ).loc Cert.BwdBRefIdeal.main_arg2)
      ∧ r.2.mem ((c.tc : Thread Cert.BwdBRefIdeal.nD Cert.BwdBRefIdeal.τ).loc Cert.BwdBRefIdeal.main_arg3) = m ((c.tc : Thread Cert.BwdBRefIdeal.nD Cert.BwdBRefIdeal.τ).loc Cert.BwdBRefIdeal.main_arg3)
      ∧ r.2.mem ((c.tc : Thread Cert.BwdBRefIdeal.nD Cert.BwdBRefIdeal.τ).loc Cert.BwdBRefIdeal.main_arg4) = m ((c.tc : Thread Cert.BwdBRefIdeal.nD Cert.BwdBRefIdeal.τ).loc Cert.BwdBRefIdeal.main_arg4)
      ∧ r.2.mem ((c.tc : Thread Cert.BwdBRefIdeal.nD Cert.BwdBRefIdeal.τ).loc Cert.BwdBRefIdeal.main_arg5) = m ((c.tc : Thread Cert.BwdBRefIdeal.nD Cert.BwdBRefIdeal.τ).loc Cert.BwdBRefIdeal.main_arg5))
      ∧ r.2.sem = fun _ => 0)

def quiescent_BwdBRefIdeal_pre_finite_bb [hBwdBRefIdeal : Cert.BwdBRefIdeal.Facts] [hPre_finite_bb : Cert.Pre_finite_bb.Facts] : Prop :=
  ∀ (m : (ℓ : Loc Cert.BwdBRefIdeal.nD Cert.BwdBRefIdeal.τ Cert.BwdBRefIdeal.sig) → Buf (Elt Ideal) ℓ) (g : Dev Cert.BwdBRefIdeal.nD → PrngReg), Pre_BwdBRefIdeal_finite_bb m →
    θ_run (Cert.BwdBRefIdeal.defs (F := Ideal)) (onTc (τ := Cert.BwdBRefIdeal.τ) (Cert.BwdBRefIdeal.main (F := Ideal))) ⟨m, fun _ => 0, g⟩ (fun r => (∀ c : Dev Cert.BwdBRefIdeal.nD,
      r.2.mem ((c.tc : Thread Cert.BwdBRefIdeal.nD Cert.BwdBRefIdeal.τ).loc Cert.BwdBRefIdeal.main_arg0) = m ((c.tc : Thread Cert.BwdBRefIdeal.nD Cert.BwdBRefIdeal.τ).loc Cert.BwdBRefIdeal.main_arg0)
      ∧ r.2.mem ((c.tc : Thread Cert.BwdBRefIdeal.nD Cert.BwdBRefIdeal.τ).loc Cert.BwdBRefIdeal.main_arg1) = m ((c.tc : Thread Cert.BwdBRefIdeal.nD Cert.BwdBRefIdeal.τ).loc Cert.BwdBRefIdeal.main_arg1)
      ∧ r.2.mem ((c.tc : Thread Cert.BwdBRefIdeal.nD Cert.BwdBRefIdeal.τ).loc Cert.BwdBRefIdeal.main_arg2) = m ((c.tc : Thread Cert.BwdBRefIdeal.nD Cert.BwdBRefIdeal.τ).loc Cert.BwdBRefIdeal.main_arg2)
      ∧ r.2.mem ((c.tc : Thread Cert.BwdBRefIdeal.nD Cert.BwdBRefIdeal.τ).loc Cert.BwdBRefIdeal.main_arg3) = m ((c.tc : Thread Cert.BwdBRefIdeal.nD Cert.BwdBRefIdeal.τ).loc Cert.BwdBRefIdeal.main_arg3)
      ∧ r.2.mem ((c.tc : Thread Cert.BwdBRefIdeal.nD Cert.BwdBRefIdeal.τ).loc Cert.BwdBRefIdeal.main_arg4) = m ((c.tc : Thread Cert.BwdBRefIdeal.nD Cert.BwdBRefIdeal.τ).loc Cert.BwdBRefIdeal.main_arg4)
      ∧ r.2.mem ((c.tc : Thread Cert.BwdBRefIdeal.nD Cert.BwdBRefIdeal.τ).loc Cert.BwdBRefIdeal.main_arg5) = m ((c.tc : Thread Cert.BwdBRefIdeal.nD Cert.BwdBRefIdeal.τ).loc Cert.BwdBRefIdeal.main_arg5))
      ∧ r.2.sem = fun _ => 0)

def quiescent_AdaB [hAdaB : Cert.AdaB.Facts] : Prop :=
  ∀ (m : (ℓ : Loc Cert.AdaB.nD Cert.AdaB.τ Cert.AdaB.sig) → Buf (Elt Bits) ℓ) (g : Dev Cert.AdaB.nD → PrngReg), Pre_AdaB m →
    θ_run (Cert.AdaB.defs (F := Bits)) (onTc (τ := Cert.AdaB.τ) (Cert.AdaB.main (F := Bits))) ⟨m, fun _ => 0, g⟩ (fun r => (∀ c : Dev Cert.AdaB.nD,
      r.2.mem ((c.tc : Thread Cert.AdaB.nD Cert.AdaB.τ).loc Cert.AdaB.main_arg0) = m ((c.tc : Thread Cert.AdaB.nD Cert.AdaB.τ).loc Cert.AdaB.main_arg0)
      ∧ r.2.mem ((c.tc : Thread Cert.AdaB.nD Cert.AdaB.τ).loc Cert.AdaB.main_arg1) = m ((c.tc : Thread Cert.AdaB.nD Cert.AdaB.τ).loc Cert.AdaB.main_arg1)
      ∧ r.2.mem ((c.tc : Thread Cert.AdaB.nD Cert.AdaB.τ).loc Cert.AdaB.main_arg2) = m ((c.tc : Thread Cert.AdaB.nD Cert.AdaB.τ).loc Cert.AdaB.main_arg2))
      ∧ r.2.sem = fun _ => 0)

def quiescent_AdaBIdeal [hAdaBIdeal : Cert.AdaBIdeal.Facts] : Prop :=
  ∀ (m : (ℓ : Loc Cert.AdaBIdeal.nD Cert.AdaBIdeal.τ Cert.AdaBIdeal.sig) → Buf (Elt Ideal) ℓ) (g : Dev Cert.AdaBIdeal.nD → PrngReg), Pre_AdaBIdeal m →
    θ_run (Cert.AdaBIdeal.defs (F := Ideal)) (onTc (τ := Cert.AdaBIdeal.τ) (Cert.AdaBIdeal.main (F := Ideal))) ⟨m, fun _ => 0, g⟩ (fun r => (∀ c : Dev Cert.AdaBIdeal.nD,
      r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
      ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1)
      ∧ r.2.mem ((c.tc : Thread Cert.AdaBIdeal.nD Cert.AdaBIdeal.τ).loc Cert.AdaBIdeal.main_arg2) = m ((c.tc : Thread Cert.AdaBIdeal.nD Cert.AdaBIdeal.τ).loc Cert.AdaBIdeal.main_arg2))
      ∧ r.2.sem = fun _ => 0)

def quiescent_AdaBRefIdeal [hAdaBRefIdeal : Cert.AdaBRefIdeal.Facts] : Prop :=
  ∀ (m : (ℓ : Loc Cert.AdaBRefIdeal.nD Cert.AdaBRefIdeal.τ Cert.AdaBRefIdeal.sig) → Buf (Elt Ideal) ℓ) (g : Dev Cert.AdaBRefIdeal.nD → PrngReg), Pre_AdaBRefIdeal m →
    θ_run (Cert.AdaBRefIdeal.defs (F := Ideal)) (onTc (τ := Cert.AdaBRefIdeal.τ) (Cert.AdaBRefIdeal.main (F := Ideal))) ⟨m, fun _ => 0, g⟩ (fun r => (∀ c : Dev Cert.AdaBRefIdeal.nD,
      r.2.mem ((c.tc : Thread Cert.AdaBRefIdeal.nD Cert.AdaBRefIdeal.τ).loc Cert.AdaBRefIdeal.main_arg0) = m ((c.tc : Thread Cert.AdaBRefIdeal.nD Cert.AdaBRefIdeal.τ).loc Cert.AdaBRefIdeal.main_arg0)
      ∧ r.2.mem ((c.tc : Thread Cert.AdaBRefIdeal.nD Cert.AdaBRefIdeal.τ).loc Cert.AdaBRefIdeal.main_arg1) = m ((c.tc : Thread Cert.AdaBRefIdeal.nD Cert.AdaBRefIdeal.τ).loc Cert.AdaBRefIdeal.main_arg1)
      ∧ r.2.mem ((c.tc : Thread Cert.AdaBRefIdeal.nD Cert.AdaBRefIdeal.τ).loc Cert.AdaBRefIdeal.main_arg2) = m ((c.tc : Thread Cert.AdaBRefIdeal.nD Cert.AdaBRefIdeal.τ).loc Cert.AdaBRefIdeal.main_arg2))
      ∧ r.2.sem = fun _ => 0)

def quiescent_StepAda [hStepAda : Cert.StepAda.Facts] : Prop :=
  ∀ (m : (ℓ : Loc Cert.StepAda.nD Cert.StepAda.τ Cert.StepAda.sig) → Buf (Elt Bits) ℓ) (g : Dev Cert.StepAda.nD → PrngReg), Pre_StepAda m →
    θ_run (Cert.StepAda.defs (F := Bits)) (onTc (τ := Cert.StepAda.τ) (Cert.StepAda.main (F := Bits))) ⟨m, fun _ => 0, g⟩ (fun r => (∀ c : Dev Cert.StepAda.nD,
      r.2.mem ((c.tc : Thread Cert.StepAda.nD Cert.StepAda.τ).loc Cert.StepAda.main_arg0) = m ((c.tc : Thread Cert.StepAda.nD Cert.StepAda.τ).loc Cert.StepAda.main_arg0)
      ∧ r.2.mem ((c.tc : Thread Cert.StepAda.nD Cert.StepAda.τ).loc Cert.StepAda.main_arg1) = m ((c.tc : Thread Cert.StepAda.nD Cert.StepAda.τ).loc Cert.StepAda.main_arg1)
      ∧ r.2.mem ((c.tc : Thread Cert.StepAda.nD Cert.StepAda.τ).loc Cert.StepAda.main_arg2) = m ((c.tc : Thread Cert.StepAda.nD Cert.StepAda.τ).loc Cert.StepAda.main_arg2)
      ∧ r.2.mem ((c.tc : Thread Cert.StepAda.nD Cert.StepAda.τ).loc Cert.StepAda.main_arg3) = m ((c.tc : Thread Cert.StepAda.nD Cert.StepAda.τ).loc Cert.StepAda.main_arg3))
      ∧ r.2.sem = fun _ => 0)

def quiescent_StepAdaIdeal [hStepAdaIdeal : Cert.StepAdaIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg), Pre_StepAdaIdeal m →
    θ_run (Cert.StepAdaIdeal.defs (F := Ideal)) (onTc (τ := Cert.StepAdaIdeal.τ) (Cert.StepAdaIdeal.main (F := Ideal))) ⟨m, fun _ => 0, g⟩ (fun r => (∀ c : Dev Cert.StepAdaIdeal.nD,
      r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
      ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
      ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
      ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
      ∧ r.2.sem = fun _ => 0)

def quiescent_StepAdaRefIdeal [hStepAdaRefIdeal : Cert.StepAdaRefIdeal.Facts] : Prop :=
  ∀ (m : (ℓ : Loc Cert.StepAdaRefIdeal.nD Cert.StepAdaRefIdeal.τ Cert.StepAdaRefIdeal.sig) → Buf (Elt Ideal) ℓ) (g : Dev Cert.StepAdaRefIdeal.nD → PrngReg), Pre_StepAdaRefIdeal m →
    θ_run (Cert.StepAdaRefIdeal.defs (F := Ideal)) (onTc (τ := Cert.StepAdaRefIdeal.τ) (Cert.StepAdaRefIdeal.main (F := Ideal))) ⟨m, fun _ => 0, g⟩ (fun r => (∀ c : Dev Cert.StepAdaRefIdeal.nD,
      r.2.mem ((c.tc : Thread Cert.StepAdaRefIdeal.nD Cert.StepAdaRefIdeal.τ).loc Cert.StepAdaRefIdeal.main_arg0) = m ((c.tc : Thread Cert.StepAdaRefIdeal.nD Cert.StepAdaRefIdeal.τ).loc Cert.StepAdaRefIdeal.main_arg0)
      ∧ r.2.mem ((c.tc : Thread Cert.StepAdaRefIdeal.nD Cert.StepAdaRefIdeal.τ).loc Cert.StepAdaRefIdeal.main_arg1) = m ((c.tc : Thread Cert.StepAdaRefIdeal.nD Cert.StepAdaRefIdeal.τ).loc Cert.StepAdaRefIdeal.main_arg1)
      ∧ r.2.mem ((c.tc : Thread Cert.StepAdaRefIdeal.nD Cert.StepAdaRefIdeal.τ).loc Cert.StepAdaRefIdeal.main_arg2) = m ((c.tc : Thread Cert.StepAdaRefIdeal.nD Cert.StepAdaRefIdeal.τ).loc Cert.StepAdaRefIdeal.main_arg2)
      ∧ r.2.mem ((c.tc : Thread Cert.StepAdaRefIdeal.nD Cert.StepAdaRefIdeal.τ).loc Cert.StepAdaRefIdeal.main_arg3) = m ((c.tc : Thread Cert.StepAdaRefIdeal.nD Cert.StepAdaRefIdeal.τ).loc Cert.StepAdaRefIdeal.main_arg3))
      ∧ r.2.sem = fun _ => 0)

def quiescent_StepIn [hStepIn : Cert.StepIn.Facts] : Prop :=
  ∀ (m : (ℓ : Loc Cert.StepIn.nD Cert.StepIn.τ Cert.StepIn.sig) → Buf (Elt Bits) ℓ) (g : Dev Cert.StepIn.nD → PrngReg), Pre_StepIn m →
    θ_run (Cert.StepIn.defs (F := Bits)) (onTc (τ := Cert.StepIn.τ) (Cert.StepIn.main (F := Bits))) ⟨m, fun _ => 0, g⟩ (fun r => (∀ c : Dev Cert.StepIn.nD,
      r.2.mem ((c.tc : Thread Cert.StepIn.nD Cert.StepIn.τ).loc Cert.StepIn.main_arg0) = m ((c.tc : Thread Cert.StepIn.nD Cert.StepIn.τ).loc Cert.StepIn.main_arg0)
      ∧ r.2.mem ((c.tc : Thread Cert.StepIn.nD Cert.StepIn.τ).loc Cert.StepIn.main_arg1) = m ((c.tc : Thread Cert.StepIn.nD Cert.StepIn.τ).loc Cert.StepIn.main_arg1)
      ∧ r.2.mem ((c.tc : Thread Cert.StepIn.nD Cert.StepIn.τ).loc Cert.StepIn.main_arg2) = m ((c.tc : Thread Cert.StepIn.nD Cert.StepIn.τ).loc Cert.StepIn.main_arg2)
      ∧ r.2.mem ((c.tc : Thread Cert.StepIn.nD Cert.StepIn.τ).loc Cert.StepIn.main_arg3) = m ((c.tc : Thread Cert.StepIn.nD Cert.StepIn.τ).loc Cert.StepIn.main_arg3))
      ∧ r.2.sem = fun _ => 0)

def quiescent_StepInIdeal [hStepInIdeal : Cert.StepInIdeal.Facts] : Prop :=
  ∀ (m : (ℓ : Loc Cert.StepInIdeal.nD Cert.StepInIdeal.τ Cert.StepInIdeal.sig) → Buf (Elt Ideal) ℓ) (g : Dev Cert.StepInIdeal.nD → PrngReg), Pre_StepInIdeal m →
    θ_run (Cert.StepInIdeal.defs (F := Ideal)) (onTc (τ := Cert.StepInIdeal.τ) (Cert.StepInIdeal.main (F := Ideal))) ⟨m, fun _ => 0, g⟩ (fun r => (∀ c : Dev Cert.StepInIdeal.nD,
      r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
      ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
      ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
      ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ r.2.sem = fun _ => 0)

def quiescent_StepInRefIdeal [hStepInRefIdeal : Cert.StepInRefIdeal.Facts] : Prop :=
  ∀ (m : (ℓ : Loc Cert.StepInRefIdeal.nD Cert.StepInRefIdeal.τ Cert.StepInRefIdeal.sig) → Buf (Elt Ideal) ℓ) (g : Dev Cert.StepInRefIdeal.nD → PrngReg), Pre_StepInRefIdeal m →
    θ_run (Cert.StepInRefIdeal.defs (F := Ideal)) (onTc (τ := Cert.StepInRefIdeal.τ) (Cert.StepInRefIdeal.main (F := Ideal))) ⟨m, fun _ => 0, g⟩ (fun r => (∀ c : Dev Cert.StepInRefIdeal.nD,
      r.2.mem ((c.tc : Thread Cert.StepInRefIdeal.nD Cert.StepInRefIdeal.τ).loc Cert.StepInRefIdeal.main_arg0) = m ((c.tc : Thread Cert.StepInRefIdeal.nD Cert.StepInRefIdeal.τ).loc Cert.StepInRefIdeal.main_arg0)
      ∧ r.2.mem ((c.tc : Thread Cert.StepInRefIdeal.nD Cert.StepInRefIdeal.τ).loc Cert.StepInRefIdeal.main_arg1) = m ((c.tc : Thread Cert.StepInRefIdeal.nD Cert.StepInRefIdeal.τ).loc Cert.StepInRefIdeal.main_arg1)
      ∧ r.2.mem ((c.tc : Thread Cert.StepInRefIdeal.nD Cert.StepInRefIdeal.τ).loc Cert.StepInRefIdeal.main_arg2) = m ((c.tc : Thread Cert.StepInRefIdeal.nD Cert.StepInRefIdeal.τ).loc Cert.StepInRefIdeal.main_arg2)
      ∧ r.2.mem ((c.tc : Thread Cert.StepInRefIdeal.nD Cert.StepInRefIdeal.τ).loc Cert.StepInRefIdeal.main_arg3) = m ((c.tc : Thread Cert.StepInRefIdeal.nD Cert.StepInRefIdeal.τ).loc Cert.StepInRefIdeal.main_arg3))
      ∧ r.2.sem = fun _ => 0)

def quiescent_StepOut [hStepOut : Cert.StepOut.Facts] : Prop :=
  ∀ (m : (ℓ : Loc Cert.StepOut.nD Cert.StepOut.τ Cert.StepOut.sig) → Buf (Elt Bits) ℓ) (g : Dev Cert.StepOut.nD → PrngReg), Pre_StepOut m →
    θ_run (Cert.StepOut.defs (F := Bits)) (onTc (τ := Cert.StepOut.τ) (Cert.StepOut.main (F := Bits))) ⟨m, fun _ => 0, g⟩ (fun r => (∀ c : Dev Cert.StepOut.nD,
      r.2.mem ((c.tc : Thread Cert.StepOut.nD Cert.StepOut.τ).loc Cert.StepOut.main_arg0) = m ((c.tc : Thread Cert.StepOut.nD Cert.StepOut.τ).loc Cert.StepOut.main_arg0)
      ∧ r.2.mem ((c.tc : Thread Cert.StepOut.nD Cert.StepOut.τ).loc Cert.StepOut.main_arg1) = m ((c.tc : Thread Cert.StepOut.nD Cert.StepOut.τ).loc Cert.StepOut.main_arg1)
      ∧ r.2.mem ((c.tc : Thread Cert.StepOut.nD Cert.StepOut.τ).loc Cert.StepOut.main_arg2) = m ((c.tc : Thread Cert.StepOut.nD Cert.StepOut.τ).loc Cert.StepOut.main_arg2)
      ∧ r.2.mem ((c.tc : Thread Cert.StepOut.nD Cert.StepOut.τ).loc Cert.StepOut.main_arg3) = m ((c.tc : Thread Cert.StepOut.nD Cert.StepOut.τ).loc Cert.StepOut.main_arg3))
      ∧ r.2.sem = fun _ => 0)

def quiescent_StepOutIdeal [hStepOutIdeal : Cert.StepOutIdeal.Facts] : Prop :=
  ∀ (m : (ℓ : Loc Cert.StepOutIdeal.nD Cert.StepOutIdeal.τ Cert.StepOutIdeal.sig) → Buf (Elt Ideal) ℓ) (g : Dev Cert.StepOutIdeal.nD → PrngReg), Pre_StepOutIdeal m →
    θ_run (Cert.StepOutIdeal.defs (F := Ideal)) (onTc (τ := Cert.StepOutIdeal.τ) (Cert.StepOutIdeal.main (F := Ideal))) ⟨m, fun _ => 0, g⟩ (fun r => (∀ c : Dev Cert.StepOutIdeal.nD,
      r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
      ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
      ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
      ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ r.2.sem = fun _ => 0)

def quiescent_StepOutRefIdeal [hStepOutRefIdeal : Cert.StepOutRefIdeal.Facts] : Prop :=
  ∀ (m : (ℓ : Loc Cert.StepOutRefIdeal.nD Cert.StepOutRefIdeal.τ Cert.StepOutRefIdeal.sig) → Buf (Elt Ideal) ℓ) (g : Dev Cert.StepOutRefIdeal.nD → PrngReg), Pre_StepOutRefIdeal m →
    θ_run (Cert.StepOutRefIdeal.defs (F := Ideal)) (onTc (τ := Cert.StepOutRefIdeal.τ) (Cert.StepOutRefIdeal.main (F := Ideal))) ⟨m, fun _ => 0, g⟩ (fun r => (∀ c : Dev Cert.StepOutRefIdeal.nD,
      r.2.mem ((c.tc : Thread Cert.StepOutRefIdeal.nD Cert.StepOutRefIdeal.τ).loc Cert.StepOutRefIdeal.main_arg0) = m ((c.tc : Thread Cert.StepOutRefIdeal.nD Cert.StepOutRefIdeal.τ).loc Cert.StepOutRefIdeal.main_arg0)
      ∧ r.2.mem ((c.tc : Thread Cert.StepOutRefIdeal.nD Cert.StepOutRefIdeal.τ).loc Cert.StepOutRefIdeal.main_arg1) = m ((c.tc : Thread Cert.StepOutRefIdeal.nD Cert.StepOutRefIdeal.τ).loc Cert.StepOutRefIdeal.main_arg1)
      ∧ r.2.mem ((c.tc : Thread Cert.StepOutRefIdeal.nD Cert.StepOutRefIdeal.τ).loc Cert.StepOutRefIdeal.main_arg2) = m ((c.tc : Thread Cert.StepOutRefIdeal.nD Cert.StepOutRefIdeal.τ).loc Cert.StepOutRefIdeal.main_arg2)
      ∧ r.2.mem ((c.tc : Thread Cert.StepOutRefIdeal.nD Cert.StepOutRefIdeal.τ).loc Cert.StepOutRefIdeal.main_arg3) = m ((c.tc : Thread Cert.StepOutRefIdeal.nD Cert.StepOutRefIdeal.τ).loc Cert.StepOutRefIdeal.main_arg3))
      ∧ r.2.sem = fun _ => 0)

def quiescent_StepGlu [hStepGlu : Cert.StepGlu.Facts] : Prop :=
  ∀ (m : (ℓ : Loc Cert.StepGlu.nD Cert.StepGlu.τ Cert.StepGlu.sig) → Buf (Elt Bits) ℓ) (g : Dev Cert.StepGlu.nD → PrngReg), Pre_StepGlu m →
    θ_run (Cert.StepGlu.defs (F := Bits)) (onTc (τ := Cert.StepGlu.τ) (Cert.StepGlu.main (F := Bits))) ⟨m, fun _ => 0, g⟩ (fun r => (∀ c : Dev Cert.StepGlu.nD,
      r.2.mem ((c.tc : Thread Cert.StepGlu.nD Cert.StepGlu.τ).loc Cert.StepGlu.main_arg0) = m ((c.tc : Thread Cert.StepGlu.nD Cert.StepGlu.τ).loc Cert.StepGlu.main_arg0)
      ∧ r.2.mem ((c.tc : Thread Cert.StepGlu.nD Cert.StepGlu.τ).loc Cert.StepGlu.main_arg1) = m ((c.tc : Thread Cert.StepGlu.nD Cert.StepGlu.τ).loc Cert.StepGlu.main_arg1)
      ∧ r.2.mem ((c.tc : Thread Cert.StepGlu.nD Cert.StepGlu.τ).loc Cert.StepGlu.main_arg2) = m ((c.tc : Thread Cert.StepGlu.nD Cert.StepGlu.τ).loc Cert.StepGlu.main_arg2)
      ∧ r.2.mem ((c.tc : Thread Cert.StepGlu.nD Cert.StepGlu.τ).loc Cert.StepGlu.main_arg3) = m ((c.tc : Thread Cert.StepGlu.nD Cert.StepGlu.τ).loc Cert.StepGlu.main_arg3))
      ∧ r.2.sem = fun _ => 0)

def quiescent_StepGluIdeal [hStepGluIdeal : Cert.StepGluIdeal.Facts] : Prop :=
  ∀ (m : (ℓ : Loc Cert.StepGluIdeal.nD Cert.StepGluIdeal.τ Cert.StepGluIdeal.sig) → Buf (Elt Ideal) ℓ) (g : Dev Cert.StepGluIdeal.nD → PrngReg), Pre_StepGluIdeal m →
    θ_run (Cert.StepGluIdeal.defs (F := Ideal)) (onTc (τ := Cert.StepGluIdeal.τ) (Cert.StepGluIdeal.main (F := Ideal))) ⟨m, fun _ => 0, g⟩ (fun r => (∀ c : Dev Cert.StepGluIdeal.nD,
      r.2.mem ((c.tc : Thread Cert.StepGluIdeal.nD Cert.StepGluIdeal.τ).loc Cert.StepGluIdeal.main_arg0) = m ((c.tc : Thread Cert.StepGluIdeal.nD Cert.StepGluIdeal.τ).loc Cert.StepGluIdeal.main_arg0)
      ∧ r.2.mem ((c.tc : Thread Cert.StepGluIdeal.nD Cert.StepGluIdeal.τ).loc Cert.StepGluIdeal.main_arg1) = m ((c.tc : Thread Cert.StepGluIdeal.nD Cert.StepGluIdeal.τ).loc Cert.StepGluIdeal.main_arg1)
      ∧ r.2.mem ((c.tc : Thread Cert.StepGluIdeal.nD Cert.StepGluIdeal.τ).loc Cert.StepGluIdeal.main_arg2) = m ((c.tc : Thread Cert.StepGluIdeal.nD Cert.StepGluIdeal.τ).loc Cert.StepGluIdeal.main_arg2)
      ∧ r.2.mem ((c.tc : Thread Cert.StepGluIdeal.nD Cert.StepGluIdeal.τ).loc Cert.StepGluIdeal.main_arg3) = m ((c.tc : Thread Cert.StepGluIdeal.nD Cert.StepGluIdeal.τ).loc Cert.StepGluIdeal.main_arg3))
      ∧ r.2.sem = fun _ => 0)

def quiescent_StepGluRefIdeal [hStepGluRefIdeal : Cert.StepGluRefIdeal.Facts] : Prop :=
  ∀ (m : (ℓ : Loc Cert.StepGluRefIdeal.nD Cert.StepGluRefIdeal.τ Cert.StepGluRefIdeal.sig) → Buf (Elt Ideal) ℓ) (g : Dev Cert.StepGluRefIdeal.nD → PrngReg), Pre_StepGluRefIdeal m →
    θ_run (Cert.StepGluRefIdeal.defs (F := Ideal)) (onTc (τ := Cert.StepGluRefIdeal.τ) (Cert.StepGluRefIdeal.main (F := Ideal))) ⟨m, fun _ => 0, g⟩ (fun r => (∀ c : Dev Cert.StepGluRefIdeal.nD,
      r.2.mem ((c.tc : Thread Cert.StepGluRefIdeal.nD Cert.StepGluRefIdeal.τ).loc Cert.StepGluRefIdeal.main_arg0) = m ((c.tc : Thread Cert.StepGluRefIdeal.nD Cert.StepGluRefIdeal.τ).loc Cert.StepGluRefIdeal.main_arg0)
      ∧ r.2.mem ((c.tc : Thread Cert.StepGluRefIdeal.nD Cert.StepGluRefIdeal.τ).loc Cert.StepGluRefIdeal.main_arg1) = m ((c.tc : Thread Cert.StepGluRefIdeal.nD Cert.StepGluRefIdeal.τ).loc Cert.StepGluRefIdeal.main_arg1)
      ∧ r.2.mem ((c.tc : Thread Cert.StepGluRefIdeal.nD Cert.StepGluRefIdeal.τ).loc Cert.StepGluRefIdeal.main_arg2) = m ((c.tc : Thread Cert.StepGluRefIdeal.nD Cert.StepGluRefIdeal.τ).loc Cert.StepGluRefIdeal.main_arg2)
      ∧ r.2.mem ((c.tc : Thread Cert.StepGluRefIdeal.nD Cert.StepGluRefIdeal.τ).loc Cert.StepGluRefIdeal.main_arg3) = m ((c.tc : Thread Cert.StepGluRefIdeal.nD Cert.StepGluRefIdeal.τ).loc Cert.StepGluRefIdeal.main_arg3))
      ∧ r.2.sem = fun _ => 0)

def quiescent_StepSq [hStepSq : Cert.StepSq.Facts] : Prop :=
  ∀ (m : (ℓ : Loc Cert.StepSq.nD Cert.StepSq.τ Cert.StepSq.sig) → Buf (Elt Bits) ℓ) (g : Dev Cert.StepSq.nD → PrngReg), Pre_StepSq m →
    θ_run (Cert.StepSq.defs (F := Bits)) (onTc (τ := Cert.StepSq.τ) (Cert.StepSq.main (F := Bits))) ⟨m, fun _ => 0, g⟩ (fun r => (∀ c : Dev Cert.StepSq.nD,
      r.2.mem ((c.tc : Thread Cert.StepSq.nD Cert.StepSq.τ).loc Cert.StepSq.main_arg0) = m ((c.tc : Thread Cert.StepSq.nD Cert.StepSq.τ).loc Cert.StepSq.main_arg0)
      ∧ r.2.mem ((c.tc : Thread Cert.StepSq.nD Cert.StepSq.τ).loc Cert.StepSq.main_arg1) = m ((c.tc : Thread Cert.StepSq.nD Cert.StepSq.τ).loc Cert.StepSq.main_arg1)
      ∧ r.2.mem ((c.tc : Thread Cert.StepSq.nD Cert.StepSq.τ).loc Cert.StepSq.main_arg2) = m ((c.tc : Thread Cert.StepSq.nD Cert.StepSq.τ).loc Cert.StepSq.main_arg2)
      ∧ r.2.mem ((c.tc : Thread Cert.StepSq.nD Cert.StepSq.τ).loc Cert.StepSq.main_arg3) = m ((c.tc : Thread Cert.StepSq.nD Cert.StepSq.τ).loc Cert.StepSq.main_arg3))
      ∧ r.2.sem = fun _ => 0)

def quiescent_StepSqIdeal [hStepSqIdeal : Cert.StepSqIdeal.Facts] : Prop :=
  ∀ (m : (ℓ : Loc Cert.StepSqIdeal.nD Cert.StepSqIdeal.τ Cert.StepSqIdeal.sig) → Buf (Elt Ideal) ℓ) (g : Dev Cert.StepSqIdeal.nD → PrngReg), Pre_StepSqIdeal m →
    θ_run (Cert.StepSqIdeal.defs (F := Ideal)) (onTc (τ := Cert.StepSqIdeal.τ) (Cert.StepSqIdeal.main (F := Ideal))) ⟨m, fun _ => 0, g⟩ (fun r => (∀ c : Dev Cert.StepSqIdeal.nD,
      r.2.mem ((c.tc : Thread Cert.StepSqIdeal.nD Cert.StepSqIdeal.τ).loc Cert.StepSqIdeal.main_arg0) = m ((c.tc : Thread Cert.StepSqIdeal.nD Cert.StepSqIdeal.τ).loc Cert.StepSqIdeal.main_arg0)
      ∧ r.2.mem ((c.tc : Thread Cert.StepSqIdeal.nD Cert.StepSqIdeal.τ).loc Cert.StepSqIdeal.main_arg1) = m ((c.tc : Thread Cert.StepSqIdeal.nD Cert.StepSqIdeal.τ).loc Cert.StepSqIdeal.main_arg1)
      ∧ r.2.mem ((c.tc : Thread Cert.StepSqIdeal.nD Cert.StepSqIdeal.τ).loc Cert.StepSqIdeal.main_arg2) = m ((c.tc : Thread Cert.StepSqIdeal.nD Cert.StepSqIdeal.τ).loc Cert.StepSqIdeal.main_arg2)
      ∧ r.2.mem ((c.tc : Thread Cert.StepSqIdeal.nD Cert.StepSqIdeal.τ).loc Cert.StepSqIdeal.main_arg3) = m ((c.tc : Thread Cert.StepSqIdeal.nD Cert.StepSqIdeal.τ).loc Cert.StepSqIdeal.main_arg3))
      ∧ r.2.sem = fun _ => 0)

def quiescent_StepSqRefIdeal [hStepSqRefIdeal : Cert.StepSqRefIdeal.Facts] : Prop :=
  ∀ (m : (ℓ : Loc Cert.StepSqRefIdeal.nD Cert.StepSqRefIdeal.τ Cert.StepSqRefIdeal.sig) → Buf (Elt Ideal) ℓ) (g : Dev Cert.StepSqRefIdeal.nD → PrngReg), Pre_StepSqRefIdeal m →
    θ_run (Cert.StepSqRefIdeal.defs (F := Ideal)) (onTc (τ := Cert.StepSqRefIdeal.τ) (Cert.StepSqRefIdeal.main (F := Ideal))) ⟨m, fun _ => 0, g⟩ (fun r => (∀ c : Dev Cert.StepSqRefIdeal.nD,
      r.2.mem ((c.tc : Thread Cert.StepSqRefIdeal.nD Cert.StepSqRefIdeal.τ).loc Cert.StepSqRefIdeal.main_arg0) = m ((c.tc : Thread Cert.StepSqRefIdeal.nD Cert.StepSqRefIdeal.τ).loc Cert.StepSqRefIdeal.main_arg0)
      ∧ r.2.mem ((c.tc : Thread Cert.StepSqRefIdeal.nD Cert.StepSqRefIdeal.τ).loc Cert.StepSqRefIdeal.main_arg1) = m ((c.tc : Thread Cert.StepSqRefIdeal.nD Cert.StepSqRefIdeal.τ).loc Cert.StepSqRefIdeal.main_arg1)
      ∧ r.2.mem ((c.tc : Thread Cert.StepSqRefIdeal.nD Cert.StepSqRefIdeal.τ).loc Cert.StepSqRefIdeal.main_arg2) = m ((c.tc : Thread Cert.StepSqRefIdeal.nD Cert.StepSqRefIdeal.τ).loc Cert.StepSqRefIdeal.main_arg2)
      ∧ r.2.mem ((c.tc : Thread Cert.StepSqRefIdeal.nD Cert.StepSqRefIdeal.τ).loc Cert.StepSqRefIdeal.main_arg3) = m ((c.tc : Thread Cert.StepSqRefIdeal.nD Cert.StepSqRefIdeal.τ).loc Cert.StepSqRefIdeal.main_arg3))
      ∧ r.2.sem = fun _ => 0)

def quiescent_StepDn [hStepDn : Cert.StepDn.Facts] : Prop :=
  ∀ (m : (ℓ : Loc Cert.StepDn.nD Cert.StepDn.τ Cert.StepDn.sig) → Buf (Elt Bits) ℓ) (g : Dev Cert.StepDn.nD → PrngReg), Pre_StepDn m →
    θ_run (Cert.StepDn.defs (F := Bits)) (onTc (τ := Cert.StepDn.τ) (Cert.StepDn.main (F := Bits))) ⟨m, fun _ => 0, g⟩ (fun r => (∀ c : Dev Cert.StepDn.nD,
      r.2.mem ((c.tc : Thread Cert.StepDn.nD Cert.StepDn.τ).loc Cert.StepDn.main_arg0) = m ((c.tc : Thread Cert.StepDn.nD Cert.StepDn.τ).loc Cert.StepDn.main_arg0)
      ∧ r.2.mem ((c.tc : Thread Cert.StepDn.nD Cert.StepDn.τ).loc Cert.StepDn.main_arg1) = m ((c.tc : Thread Cert.StepDn.nD Cert.StepDn.τ).loc Cert.StepDn.main_arg1)
      ∧ r.2.mem ((c.tc : Thread Cert.StepDn.nD Cert.StepDn.τ).loc Cert.StepDn.main_arg2) = m ((c.tc : Thread Cert.StepDn.nD Cert.StepDn.τ).loc Cert.StepDn.main_arg2)
      ∧ r.2.mem ((c.tc : Thread Cert.StepDn.nD Cert.StepDn.τ).loc Cert.StepDn.main_arg3) = m ((c.tc : Thread Cert.StepDn.nD Cert.StepDn.τ).loc Cert.StepDn.main_arg3))
      ∧ r.2.sem = fun _ => 0)

def quiescent_StepDnIdeal [hStepDnIdeal : Cert.StepDnIdeal.Facts] : Prop :=
  ∀ (m : (ℓ : Loc Cert.StepDnIdeal.nD Cert.StepDnIdeal.τ Cert.StepDnIdeal.sig) → Buf (Elt Ideal) ℓ) (g : Dev Cert.StepDnIdeal.nD → PrngReg), Pre_StepDnIdeal m →
    θ_run (Cert.StepDnIdeal.defs (F := Ideal)) (onTc (τ := Cert.StepDnIdeal.τ) (Cert.StepDnIdeal.main (F := Ideal))) ⟨m, fun _ => 0, g⟩ (fun r => (∀ c : Dev Cert.StepDnIdeal.nD,
      r.2.mem ((c.tc : Thread Cert.StepDnIdeal.nD Cert.StepDnIdeal.τ).loc Cert.StepDnIdeal.main_arg0) = m ((c.tc : Thread Cert.StepDnIdeal.nD Cert.StepDnIdeal.τ).loc Cert.StepDnIdeal.main_arg0)
      ∧ r.2.mem ((c.tc : Thread Cert.StepDnIdeal.nD Cert.StepDnIdeal.τ).loc Cert.StepDnIdeal.main_arg1) = m ((c.tc : Thread Cert.StepDnIdeal.nD Cert.StepDnIdeal.τ).loc Cert.StepDnIdeal.main_arg1)
      ∧ r.2.mem ((c.tc : Thread Cert.StepDnIdeal.nD Cert.StepDnIdeal.τ).loc Cert.StepDnIdeal.main_arg2) = m ((c.tc : Thread Cert.StepDnIdeal.nD Cert.StepDnIdeal.τ).loc Cert.StepDnIdeal.main_arg2)
      ∧ r.2.mem ((c.tc : Thread Cert.StepDnIdeal.nD Cert.StepDnIdeal.τ).loc Cert.StepDnIdeal.main_arg3) = m ((c.tc : Thread Cert.StepDnIdeal.nD Cert.StepDnIdeal.τ).loc Cert.StepDnIdeal.main_arg3))
      ∧ r.2.sem = fun _ => 0)

def quiescent_StepDnRefIdeal [hStepDnRefIdeal : Cert.StepDnRefIdeal.Facts] : Prop :=
  ∀ (m : (ℓ : Loc Cert.StepDnRefIdeal.nD Cert.StepDnRefIdeal.τ Cert.StepDnRefIdeal.sig) → Buf (Elt Ideal) ℓ) (g : Dev Cert.StepDnRefIdeal.nD → PrngReg), Pre_StepDnRefIdeal m →
    θ_run (Cert.StepDnRefIdeal.defs (F := Ideal)) (onTc (τ := Cert.StepDnRefIdeal.τ) (Cert.StepDnRefIdeal.main (F := Ideal))) ⟨m, fun _ => 0, g⟩ (fun r => (∀ c : Dev Cert.StepDnRefIdeal.nD,
      r.2.mem ((c.tc : Thread Cert.StepDnRefIdeal.nD Cert.StepDnRefIdeal.τ).loc Cert.StepDnRefIdeal.main_arg0) = m ((c.tc : Thread Cert.StepDnRefIdeal.nD Cert.StepDnRefIdeal.τ).loc Cert.StepDnRefIdeal.main_arg0)
      ∧ r.2.mem ((c.tc : Thread Cert.StepDnRefIdeal.nD Cert.StepDnRefIdeal.τ).loc Cert.StepDnRefIdeal.main_arg1) = m ((c.tc : Thread Cert.StepDnRefIdeal.nD Cert.StepDnRefIdeal.τ).loc Cert.StepDnRefIdeal.main_arg1)
      ∧ r.2.mem ((c.tc : Thread Cert.StepDnRefIdeal.nD Cert.StepDnRefIdeal.τ).loc Cert.StepDnRefIdeal.main_arg2) = m ((c.tc : Thread Cert.StepDnRefIdeal.nD Cert.StepDnRefIdeal.τ).loc Cert.StepDnRefIdeal.main_arg2)
      ∧ r.2.mem ((c.tc : Thread Cert.StepDnRefIdeal.nD Cert.StepDnRefIdeal.τ).loc Cert.StepDnRefIdeal.main_arg3) = m ((c.tc : Thread Cert.StepDnRefIdeal.nD Cert.StepDnRefIdeal.τ).loc Cert.StepDnRefIdeal.main_arg3))
      ∧ r.2.sem = fun _ => 0)

def quiescent_StepSmall [hStepSmall : Cert.StepSmall.Facts] : Prop :=
  ∀ (m : (ℓ : Loc Cert.StepSmall.nD Cert.StepSmall.τ Cert.StepSmall.sig) → Buf (Elt Bits) ℓ) (g : Dev Cert.StepSmall.nD → PrngReg), Pre_StepSmall m →
    θ_run (Cert.StepSmall.defs (F := Bits)) (onTc (τ := Cert.StepSmall.τ) (Cert.StepSmall.main (F := Bits))) ⟨m, fun _ => 0, g⟩ (fun r => (∀ c : Dev Cert.StepSmall.nD,
      r.2.mem ((c.tc : Thread Cert.StepSmall.nD Cert.StepSmall.τ).loc Cert.StepSmall.main_arg0) = m ((c.tc : Thread Cert.StepSmall.nD Cert.StepSmall.τ).loc Cert.StepSmall.main_arg0)
      ∧ r.2.mem ((c.tc : Thread Cert.StepSmall.nD Cert.StepSmall.τ).loc Cert.StepSmall.main_arg1) = m ((c.tc : Thread Cert.StepSmall.nD Cert.StepSmall.τ).loc Cert.StepSmall.main_arg1)
      ∧ r.2.mem ((c.tc : Thread Cert.StepSmall.nD Cert.StepSmall.τ).loc Cert.StepSmall.main_arg2) = m ((c.tc : Thread Cert.StepSmall.nD Cert.StepSmall.τ).loc Cert.StepSmall.main_arg2)
      ∧ r.2.mem ((c.tc : Thread Cert.StepSmall.nD Cert.StepSmall.τ).loc Cert.StepSmall.main_arg3) = m ((c.tc : Thread Cert.StepSmall.nD Cert.StepSmall.τ).loc Cert.StepSmall.main_arg3)
      ∧ r.2.mem ((c.tc : Thread Cert.StepSmall.nD Cert.StepSmall.τ).loc Cert.StepSmall.main_arg4) = m ((c.tc : Thread Cert.StepSmall.nD Cert.StepSmall.τ).loc Cert.StepSmall.main_arg4)
      ∧ r.2.mem ((c.tc : Thread Cert.StepSmall.nD Cert.StepSmall.τ).loc Cert.StepSmall.main_arg5) = m ((c.tc : Thread Cert.StepSmall.nD Cert.StepSmall.τ).loc Cert.StepSmall.main_arg5)
      ∧ r.2.mem ((c.tc : Thread Cert.StepSmall.nD Cert.StepSmall.τ).loc Cert.StepSmall.main_arg6) = m ((c.tc : Thread Cert.StepSmall.nD Cert.StepSmall.τ).loc Cert.StepSmall.main_arg6)
      ∧ r.2.mem ((c.tc : Thread Cert.StepSmall.nD Cert.StepSmall.τ).loc Cert.StepSmall.main_arg7) = m ((c.tc : Thread Cert.StepSmall.nD Cert.StepSmall.τ).loc Cert.StepSmall.main_arg7)
      ∧ r.2.mem ((c.tc : Thread Cert.StepSmall.nD Cert.StepSmall.τ).loc Cert.StepSmall.main_arg8) = m ((c.tc : Thread Cert.StepSmall.nD Cert.StepSmall.τ).loc Cert.StepSmall.main_arg8)
      ∧ r.2.mem ((c.tc : Thread Cert.StepSmall.nD Cert.StepSmall.τ).loc Cert.StepSmall.main_arg9) = m ((c.tc : Thread Cert.StepSmall.nD Cert.StepSmall.τ).loc Cert.StepSmall.main_arg9)
      ∧ r.2.mem ((c.tc : Thread Cert.StepSmall.nD Cert.StepSmall.τ).loc Cert.StepSmall.main_arg10) = m ((c.tc : Thread Cert.StepSmall.nD Cert.StepSmall.τ).loc Cert.StepSmall.main_arg10)
      ∧ r.2.mem ((c.tc : Thread Cert.StepSmall.nD Cert.StepSmall.τ).loc Cert.StepSmall.main_arg11) = m ((c.tc : Thread Cert.StepSmall.nD Cert.StepSmall.τ).loc Cert.StepSmall.main_arg11)
      ∧ r.2.mem ((c.tc : Thread Cert.StepSmall.nD Cert.StepSmall.τ).loc Cert.StepSmall.main_arg12) = m ((c.tc : Thread Cert.StepSmall.nD Cert.StepSmall.τ).loc Cert.StepSmall.main_arg12)
      ∧ r.2.mem ((c.tc : Thread Cert.StepSmall.nD Cert.StepSmall.τ).loc Cert.StepSmall.main_arg13) = m ((c.tc : Thread Cert.StepSmall.nD Cert.StepSmall.τ).loc Cert.StepSmall.main_arg13)
      ∧ r.2.mem ((c.tc : Thread Cert.StepSmall.nD Cert.StepSmall.τ).loc Cert.StepSmall.main_arg14) = m ((c.tc : Thread Cert.StepSmall.nD Cert.StepSmall.τ).loc Cert.StepSmall.main_arg14)
      ∧ r.2.mem ((c.tc : Thread Cert.StepSmall.nD Cert.StepSmall.τ).loc Cert.StepSmall.main_arg15) = m ((c.tc : Thread Cert.StepSmall.nD Cert.StepSmall.τ).loc Cert.StepSmall.main_arg15)
      ∧ r.2.mem ((c.tc : Thread Cert.StepSmall.nD Cert.StepSmall.τ).loc Cert.StepSmall.main_arg16) = m ((c.tc : Thread Cert.StepSmall.nD Cert.StepSmall.τ).loc Cert.StepSmall.main_arg16)
      ∧ r.2.mem ((c.tc : Thread Cert.StepSmall.nD Cert.StepSmall.τ).loc Cert.StepSmall.main_arg17) = m ((c.tc : Thread Cert.StepSmall.nD Cert.StepSmall.τ).loc Cert.StepSmall.main_arg17)
      ∧ r.2.mem ((c.tc : Thread Cert.StepSmall.nD Cert.StepSmall.τ).loc Cert.StepSmall.main_arg18) = m ((c.tc : Thread Cert.StepSmall.nD Cert.StepSmall.τ).loc Cert.StepSmall.main_arg18)
      ∧ r.2.mem ((c.tc : Thread Cert.StepSmall.nD Cert.StepSmall.τ).loc Cert.StepSmall.main_arg19) = m ((c.tc : Thread Cert.StepSmall.nD Cert.StepSmall.τ).loc Cert.StepSmall.main_arg19)
      ∧ r.2.mem ((c.tc : Thread Cert.StepSmall.nD Cert.StepSmall.τ).loc Cert.StepSmall.main_arg20) = m ((c.tc : Thread Cert.StepSmall.nD Cert.StepSmall.τ).loc Cert.StepSmall.main_arg20)
      ∧ r.2.mem ((c.tc : Thread Cert.StepSmall.nD Cert.StepSmall.τ).loc Cert.StepSmall.main_arg21) = m ((c.tc : Thread Cert.StepSmall.nD Cert.StepSmall.τ).loc Cert.StepSmall.main_arg21)
      ∧ r.2.mem ((c.tc : Thread Cert.StepSmall.nD Cert.StepSmall.τ).loc Cert.StepSmall.main_arg22) = m ((c.tc : Thread Cert.StepSmall.nD Cert.StepSmall.τ).loc Cert.StepSmall.main_arg22)
      ∧ r.2.mem ((c.tc : Thread Cert.StepSmall.nD Cert.StepSmall.τ).loc Cert.StepSmall.main_arg23) = m ((c.tc : Thread Cert.StepSmall.nD Cert.StepSmall.τ).loc Cert.StepSmall.main_arg23)
      ∧ r.2.mem ((c.tc : Thread Cert.StepSmall.nD Cert.StepSmall.τ).loc Cert.StepSmall.main_arg24) = m ((c.tc : Thread Cert.StepSmall.nD Cert.StepSmall.τ).loc Cert.StepSmall.main_arg24)
      ∧ r.2.mem ((c.tc : Thread Cert.StepSmall.nD Cert.StepSmall.τ).loc Cert.StepSmall.main_arg25) = m ((c.tc : Thread Cert.StepSmall.nD Cert.StepSmall.τ).loc Cert.StepSmall.main_arg25)
      ∧ r.2.mem ((c.tc : Thread Cert.StepSmall.nD Cert.StepSmall.τ).loc Cert.StepSmall.main_arg26) = m ((c.tc : Thread Cert.StepSmall.nD Cert.StepSmall.τ).loc Cert.StepSmall.main_arg26)
      ∧ r.2.mem ((c.tc : Thread Cert.StepSmall.nD Cert.StepSmall.τ).loc Cert.StepSmall.main_arg27) = m ((c.tc : Thread Cert.StepSmall.nD Cert.StepSmall.τ).loc Cert.StepSmall.main_arg27)
      ∧ r.2.mem ((c.tc : Thread Cert.StepSmall.nD Cert.StepSmall.τ).loc Cert.StepSmall.main_arg28) = m ((c.tc : Thread Cert.StepSmall.nD Cert.StepSmall.τ).loc Cert.StepSmall.main_arg28)
      ∧ r.2.mem ((c.tc : Thread Cert.StepSmall.nD Cert.StepSmall.τ).loc Cert.StepSmall.main_arg29) = m ((c.tc : Thread Cert.StepSmall.nD Cert.StepSmall.τ).loc Cert.StepSmall.main_arg29)
      ∧ r.2.mem ((c.tc : Thread Cert.StepSmall.nD Cert.StepSmall.τ).loc Cert.StepSmall.main_arg30) = m ((c.tc : Thread Cert.StepSmall.nD Cert.StepSmall.τ).loc Cert.StepSmall.main_arg30)
      ∧ r.2.mem ((c.tc : Thread Cert.StepSmall.nD Cert.StepSmall.τ).loc Cert.StepSmall.main_arg31) = m ((c.tc : Thread Cert.StepSmall.nD Cert.StepSmall.τ).loc Cert.StepSmall.main_arg31)
      ∧ r.2.mem ((c.tc : Thread Cert.StepSmall.nD Cert.StepSmall.τ).loc Cert.StepSmall.main_arg32) = m ((c.tc : Thread Cert.StepSmall.nD Cert.StepSmall.τ).loc Cert.StepSmall.main_arg32)
      ∧ r.2.mem ((c.tc : Thread Cert.StepSmall.nD Cert.StepSmall.τ).loc Cert.StepSmall.main_arg33) = m ((c.tc : Thread Cert.StepSmall.nD Cert.StepSmall.τ).loc Cert.StepSmall.main_arg33)
      ∧ r.2.mem ((c.tc : Thread Cert.StepSmall.nD Cert.StepSmall.τ).loc Cert.StepSmall.main_arg34) = m ((c.tc : Thread Cert.StepSmall.nD Cert.StepSmall.τ).loc Cert.StepSmall.main_arg34)
      ∧ r.2.mem ((c.tc : Thread Cert.StepSmall.nD Cert.StepSmall.τ).loc Cert.StepSmall.main_arg35) = m ((c.tc : Thread Cert.StepSmall.nD Cert.StepSmall.τ).loc Cert.StepSmall.main_arg35)
      ∧ r.2.mem ((c.tc : Thread Cert.StepSmall.nD Cert.StepSmall.τ).loc Cert.StepSmall.main_arg36) = m ((c.tc : Thread Cert.StepSmall.nD Cert.StepSmall.τ).loc Cert.StepSmall.main_arg36)
      ∧ r.2.mem ((c.tc : Thread Cert.StepSmall.nD Cert.StepSmall.τ).loc Cert.StepSmall.main_arg37) = m ((c.tc : Thread Cert.StepSmall.nD Cert.StepSmall.τ).loc Cert.StepSmall.main_arg37)
      ∧ r.2.mem ((c.tc : Thread Cert.StepSmall.nD Cert.StepSmall.τ).loc Cert.StepSmall.main_arg38) = m ((c.tc : Thread Cert.StepSmall.nD Cert.StepSmall.τ).loc Cert.StepSmall.main_arg38)
      ∧ r.2.mem ((c.tc : Thread Cert.StepSmall.nD Cert.StepSmall.τ).loc Cert.StepSmall.main_arg39) = m ((c.tc : Thread Cert.StepSmall.nD Cert.StepSmall.τ).loc Cert.StepSmall.main_arg39)
      ∧ r.2.mem ((c.tc : Thread Cert.StepSmall.nD Cert.StepSmall.τ).loc Cert.StepSmall.main_arg40) = m ((c.tc : Thread Cert.StepSmall.nD Cert.StepSmall.τ).loc Cert.StepSmall.main_arg40)
      ∧ r.2.mem ((c.tc : Thread Cert.StepSmall.nD Cert.StepSmall.τ).loc Cert.StepSmall.main_arg41) = m ((c.tc : Thread Cert.StepSmall.nD Cert.StepSmall.τ).loc Cert.StepSmall.main_arg41)
      ∧ r.2.mem ((c.tc : Thread Cert.StepSmall.nD Cert.StepSmall.τ).loc Cert.StepSmall.main_arg42) = m ((c.tc : Thread Cert.StepSmall.nD Cert.StepSmall.τ).loc Cert.StepSmall.main_arg42)
      ∧ r.2.mem ((c.tc : Thread Cert.StepSmall.nD Cert.StepSmall.τ).loc Cert.StepSmall.main_arg43) = m ((c.tc : Thread Cert.StepSmall.nD Cert.StepSmall.τ).loc Cert.StepSmall.main_arg43)
      ∧ r.2.mem ((c.tc : Thread Cert.StepSmall.nD Cert.StepSmall.τ).loc Cert.StepSmall.main_arg44) = m ((c.tc : Thread Cert.StepSmall.nD Cert.StepSmall.τ).loc Cert.StepSmall.main_arg44)
      ∧ r.2.mem ((c.tc : Thread Cert.StepSmall.nD Cert.StepSmall.τ).loc Cert.StepSmall.main_arg45) = m ((c.tc : Thread Cert.StepSmall.nD Cert.StepSmall.τ).loc Cert.StepSmall.main_arg45)
      ∧ r.2.mem ((c.tc : Thread Cert.StepSmall.nD Cert.StepSmall.τ).loc Cert.StepSmall.main_arg46) = m ((c.tc : Thread Cert.StepSmall.nD Cert.StepSmall.τ).loc Cert.StepSmall.main_arg46)
      ∧ r.2.mem ((c.tc : Thread Cert.StepSmall.nD Cert.StepSmall.τ).loc Cert.StepSmall.main_arg47) = m ((c.tc : Thread Cert.StepSmall.nD Cert.StepSmall.τ).loc Cert.StepSmall.main_arg47)
      ∧ r.2.mem ((c.tc : Thread Cert.StepSmall.nD Cert.StepSmall.τ).loc Cert.StepSmall.main_arg48) = m ((c.tc : Thread Cert.StepSmall.nD Cert.StepSmall.τ).loc Cert.StepSmall.main_arg48)
      ∧ r.2.mem ((c.tc : Thread Cert.StepSmall.nD Cert.StepSmall.τ).loc Cert.StepSmall.main_arg49) = m ((c.tc : Thread Cert.StepSmall.nD Cert.StepSmall.τ).loc Cert.StepSmall.main_arg49)
      ∧ r.2.mem ((c.tc : Thread Cert.StepSmall.nD Cert.StepSmall.τ).loc Cert.StepSmall.main_arg50) = m ((c.tc : Thread Cert.StepSmall.nD Cert.StepSmall.τ).loc Cert.StepSmall.main_arg50)
      ∧ r.2.mem ((c.tc : Thread Cert.StepSmall.nD Cert.StepSmall.τ).loc Cert.StepSmall.main_arg51) = m ((c.tc : Thread Cert.StepSmall.nD Cert.StepSmall.τ).loc Cert.StepSmall.main_arg51))
      ∧ r.2.sem = fun _ => 0)

def quiescent_StepSmallIdeal [hStepSmallIdeal : Cert.StepSmallIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg), Pre_StepSmallIdeal m →
    θ_run (Cert.StepSmallIdeal.defs (F := Ideal)) (onTc (τ := Cert.StepSmallIdeal.τ) (Cert.StepSmallIdeal.main (F := Ideal))) ⟨m, fun _ => 0, g⟩ (fun r => (∀ c : Dev Cert.StepSmallIdeal.nD,
      r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
      ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
      ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
      ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
      ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
      ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
      ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
      ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
      ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
      ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
      ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
      ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11)
      ∧ r.2.mem ((c.tc : Thread Cert.StepSmallIdeal.nD Cert.StepSmallIdeal.τ).loc Cert.StepSmallIdeal.main_arg12) = m ((c.tc : Thread Cert.StepSmallIdeal.nD Cert.StepSmallIdeal.τ).loc Cert.StepSmallIdeal.main_arg12)
      ∧ r.2.mem ((c.tc : Thread Cert.StepSmallIdeal.nD Cert.StepSmallIdeal.τ).loc Cert.StepSmallIdeal.main_arg13) = m ((c.tc : Thread Cert.StepSmallIdeal.nD Cert.StepSmallIdeal.τ).loc Cert.StepSmallIdeal.main_arg13)
      ∧ r.2.mem ((c.tc : Thread Cert.StepSmallIdeal.nD Cert.StepSmallIdeal.τ).loc Cert.StepSmallIdeal.main_arg14) = m ((c.tc : Thread Cert.StepSmallIdeal.nD Cert.StepSmallIdeal.τ).loc Cert.StepSmallIdeal.main_arg14)
      ∧ r.2.mem ((c.tc : Thread Cert.StepSmallIdeal.nD Cert.StepSmallIdeal.τ).loc Cert.StepSmallIdeal.main_arg15) = m ((c.tc : Thread Cert.StepSmallIdeal.nD Cert.StepSmallIdeal.τ).loc Cert.StepSmallIdeal.main_arg15)
      ∧ r.2.mem ((c.tc : Thread Cert.StepSmallIdeal.nD Cert.StepSmallIdeal.τ).loc Cert.StepSmallIdeal.main_arg16) = m ((c.tc : Thread Cert.StepSmallIdeal.nD Cert.StepSmallIdeal.τ).loc Cert.StepSmallIdeal.main_arg16)
      ∧ r.2.mem ((c.tc : Thread Cert.StepSmallIdeal.nD Cert.StepSmallIdeal.τ).loc Cert.StepSmallIdeal.main_arg17) = m ((c.tc : Thread Cert.StepSmallIdeal.nD Cert.StepSmallIdeal.τ).loc Cert.StepSmallIdeal.main_arg17)
      ∧ r.2.mem ((c.tc : Thread Cert.StepSmallIdeal.nD Cert.StepSmallIdeal.τ).loc Cert.StepSmallIdeal.main_arg18) = m ((c.tc : Thread Cert.StepSmallIdeal.nD Cert.StepSmallIdeal.τ).loc Cert.StepSmallIdeal.main_arg18)
      ∧ r.2.mem ((c.tc : Thread Cert.StepSmallIdeal.nD Cert.StepSmallIdeal.τ).loc Cert.StepSmallIdeal.main_arg19) = m ((c.tc : Thread Cert.StepSmallIdeal.nD Cert.StepSmallIdeal.τ).loc Cert.StepSmallIdeal.main_arg19)
      ∧ r.2.mem ((c.tc : Thread Cert.StepSmallIdeal.nD Cert.StepSmallIdeal.τ).loc Cert.StepSmallIdeal.main_arg20) = m ((c.tc : Thread Cert.StepSmallIdeal.nD Cert.StepSmallIdeal.τ).loc Cert.StepSmallIdeal.main_arg20)
      ∧ r.2.mem ((c.tc : Thread Cert.StepSmallIdeal.nD Cert.StepSmallIdeal.τ).loc Cert.StepSmallIdeal.main_arg21) = m ((c.tc : Thread Cert.StepSmallIdeal.nD Cert.StepSmallIdeal.τ).loc Cert.StepSmallIdeal.main_arg21)
      ∧ r.2.mem ((c.tc : Thread Cert.StepSmallIdeal.nD Cert.StepSmallIdeal.τ).loc Cert.StepSmallIdeal.main_arg22) = m ((c.tc : Thread Cert.StepSmallIdeal.nD Cert.StepSmallIdeal.τ).loc Cert.StepSmallIdeal.main_arg22)
      ∧ r.2.mem ((c.tc : Thread Cert.StepSmallIdeal.nD Cert.StepSmallIdeal.τ).loc Cert.StepSmallIdeal.main_arg23) = m ((c.tc : Thread Cert.StepSmallIdeal.nD Cert.StepSmallIdeal.τ).loc Cert.StepSmallIdeal.main_arg23)
      ∧ r.2.mem ((c.tc : Thread Cert.StepSmallIdeal.nD Cert.StepSmallIdeal.τ).loc Cert.StepSmallIdeal.main_arg24) = m ((c.tc : Thread Cert.StepSmallIdeal.nD Cert.StepSmallIdeal.τ).loc Cert.StepSmallIdeal.main_arg24)
      ∧ r.2.mem ((c.tc : Thread Cert.StepSmallIdeal.nD Cert.StepSmallIdeal.τ).loc Cert.StepSmallIdeal.main_arg25) = m ((c.tc : Thread Cert.StepSmallIdeal.nD Cert.StepSmallIdeal.τ).loc Cert.StepSmallIdeal.main_arg25)
      ∧ r.2.mem ((c.tc : Thread Cert.StepSmallIdeal.nD Cert.StepSmallIdeal.τ).loc Cert.StepSmallIdeal.main_arg26) = m ((c.tc : Thread Cert.StepSmallIdeal.nD Cert.StepSmallIdeal.τ).loc Cert.StepSmallIdeal.main_arg26)
      ∧ r.2.mem ((c.tc : Thread Cert.StepSmallIdeal.nD Cert.StepSmallIdeal.τ).loc Cert.StepSmallIdeal.main_arg27) = m ((c.tc : Thread Cert.StepSmallIdeal.nD Cert.StepSmallIdeal.τ).loc Cert.StepSmallIdeal.main_arg27)
      ∧ r.2.mem ((c.tc : Thread Cert.StepSmallIdeal.nD Cert.StepSmallIdeal.τ).loc Cert.StepSmallIdeal.main_arg28) = m ((c.tc : Thread Cert.StepSmallIdeal.nD Cert.StepSmallIdeal.τ).loc Cert.StepSmallIdeal.main_arg28)
      ∧ r.2.mem ((c.tc : Thread Cert.StepSmallIdeal.nD Cert.StepSmallIdeal.τ).loc Cert.StepSmallIdeal.main_arg29) = m ((c.tc : Thread Cert.StepSmallIdeal.nD Cert.StepSmallIdeal.τ).loc Cert.StepSmallIdeal.main_arg29)
      ∧ r.2.mem ((c.tc : Thread Cert.StepSmallIdeal.nD Cert.StepSmallIdeal.τ).loc Cert.StepSmallIdeal.main_arg30) = m ((c.tc : Thread Cert.StepSmallIdeal.nD Cert.StepSmallIdeal.τ).loc Cert.StepSmallIdeal.main_arg30)
      ∧ r.2.mem ((c.tc : Thread Cert.StepSmallIdeal.nD Cert.StepSmallIdeal.τ).loc Cert.StepSmallIdeal.main_arg31) = m ((c.tc : Thread Cert.StepSmallIdeal.nD Cert.StepSmallIdeal.τ).loc Cert.StepSmallIdeal.main_arg31)
      ∧ r.2.mem ((c.tc : Thread Cert.StepSmallIdeal.nD Cert.StepSmallIdeal.τ).loc Cert.StepSmallIdeal.main_arg32) = m ((c.tc : Thread Cert.StepSmallIdeal.nD Cert.StepSmallIdeal.τ).loc Cert.StepSmallIdeal.main_arg32)
      ∧ r.2.mem ((c.tc : Thread Cert.StepSmallIdeal.nD Cert.StepSmallIdeal.τ).loc Cert.StepSmallIdeal.main_arg33) = m ((c.tc : Thread Cert.StepSmallIdeal.nD Cert.StepSmallIdeal.τ).loc Cert.StepSmallIdeal.main_arg33)
      ∧ r.2.mem ((c.tc : Thread Cert.StepSmallIdeal.nD Cert.StepSmallIdeal.τ).loc Cert.StepSmallIdeal.main_arg34) = m ((c.tc : Thread Cert.StepSmallIdeal.nD Cert.StepSmallIdeal.τ).loc Cert.StepSmallIdeal.main_arg34)
      ∧ r.2.mem ((c.tc : Thread Cert.StepSmallIdeal.nD Cert.StepSmallIdeal.τ).loc Cert.StepSmallIdeal.main_arg35) = m ((c.tc : Thread Cert.StepSmallIdeal.nD Cert.StepSmallIdeal.τ).loc Cert.StepSmallIdeal.main_arg35)
      ∧ r.2.mem ((c.tc : Thread Cert.StepSmallIdeal.nD Cert.StepSmallIdeal.τ).loc Cert.StepSmallIdeal.main_arg36) = m ((c.tc : Thread Cert.StepSmallIdeal.nD Cert.StepSmallIdeal.τ).loc Cert.StepSmallIdeal.main_arg36)
      ∧ r.2.mem ((c.tc : Thread Cert.StepSmallIdeal.nD Cert.StepSmallIdeal.τ).loc Cert.StepSmallIdeal.main_arg37) = m ((c.tc : Thread Cert.StepSmallIdeal.nD Cert.StepSmallIdeal.τ).loc Cert.StepSmallIdeal.main_arg37)
      ∧ r.2.mem ((c.tc : Thread Cert.StepSmallIdeal.nD Cert.StepSmallIdeal.τ).loc Cert.StepSmallIdeal.main_arg38) = m ((c.tc : Thread Cert.StepSmallIdeal.nD Cert.StepSmallIdeal.τ).loc Cert.StepSmallIdeal.main_arg38)
      ∧ r.2.mem ((c.tc : Thread Cert.StepSmallIdeal.nD Cert.StepSmallIdeal.τ).loc Cert.StepSmallIdeal.main_arg39) = m ((c.tc : Thread Cert.StepSmallIdeal.nD Cert.StepSmallIdeal.τ).loc Cert.StepSmallIdeal.main_arg39)
      ∧ r.2.mem ((c.tc : Thread Cert.StepSmallIdeal.nD Cert.StepSmallIdeal.τ).loc Cert.StepSmallIdeal.main_arg40) = m ((c.tc : Thread Cert.StepSmallIdeal.nD Cert.StepSmallIdeal.τ).loc Cert.StepSmallIdeal.main_arg40)
      ∧ r.2.mem ((c.tc : Thread Cert.StepSmallIdeal.nD Cert.StepSmallIdeal.τ).loc Cert.StepSmallIdeal.main_arg41) = m ((c.tc : Thread Cert.StepSmallIdeal.nD Cert.StepSmallIdeal.τ).loc Cert.StepSmallIdeal.main_arg41)
      ∧ r.2.mem ((c.tc : Thread Cert.StepSmallIdeal.nD Cert.StepSmallIdeal.τ).loc Cert.StepSmallIdeal.main_arg42) = m ((c.tc : Thread Cert.StepSmallIdeal.nD Cert.StepSmallIdeal.τ).loc Cert.StepSmallIdeal.main_arg42)
      ∧ r.2.mem ((c.tc : Thread Cert.StepSmallIdeal.nD Cert.StepSmallIdeal.τ).loc Cert.StepSmallIdeal.main_arg43) = m ((c.tc : Thread Cert.StepSmallIdeal.nD Cert.StepSmallIdeal.τ).loc Cert.StepSmallIdeal.main_arg43)
      ∧ r.2.mem ((c.tc : Thread Cert.StepSmallIdeal.nD Cert.StepSmallIdeal.τ).loc Cert.StepSmallIdeal.main_arg44) = m ((c.tc : Thread Cert.StepSmallIdeal.nD Cert.StepSmallIdeal.τ).loc Cert.StepSmallIdeal.main_arg44)
      ∧ r.2.mem ((c.tc : Thread Cert.StepSmallIdeal.nD Cert.StepSmallIdeal.τ).loc Cert.StepSmallIdeal.main_arg45) = m ((c.tc : Thread Cert.StepSmallIdeal.nD Cert.StepSmallIdeal.τ).loc Cert.StepSmallIdeal.main_arg45)
      ∧ r.2.mem ((c.tc : Thread Cert.StepSmallIdeal.nD Cert.StepSmallIdeal.τ).loc Cert.StepSmallIdeal.main_arg46) = m ((c.tc : Thread Cert.StepSmallIdeal.nD Cert.StepSmallIdeal.τ).loc Cert.StepSmallIdeal.main_arg46)
      ∧ r.2.mem ((c.tc : Thread Cert.StepSmallIdeal.nD Cert.StepSmallIdeal.τ).loc Cert.StepSmallIdeal.main_arg47) = m ((c.tc : Thread Cert.StepSmallIdeal.nD Cert.StepSmallIdeal.τ).loc Cert.StepSmallIdeal.main_arg47)
      ∧ r.2.mem ((c.tc : Thread Cert.StepSmallIdeal.nD Cert.StepSmallIdeal.τ).loc Cert.StepSmallIdeal.main_arg48) = m ((c.tc : Thread Cert.StepSmallIdeal.nD Cert.StepSmallIdeal.τ).loc Cert.StepSmallIdeal.main_arg48)
      ∧ r.2.mem ((c.tc : Thread Cert.StepSmallIdeal.nD Cert.StepSmallIdeal.τ).loc Cert.StepSmallIdeal.main_arg49) = m ((c.tc : Thread Cert.StepSmallIdeal.nD Cert.StepSmallIdeal.τ).loc Cert.StepSmallIdeal.main_arg49)
      ∧ r.2.mem ((c.tc : Thread Cert.StepSmallIdeal.nD Cert.StepSmallIdeal.τ).loc Cert.StepSmallIdeal.main_arg50) = m ((c.tc : Thread Cert.StepSmallIdeal.nD Cert.StepSmallIdeal.τ).loc Cert.StepSmallIdeal.main_arg50)
      ∧ r.2.mem ((c.tc : Thread Cert.StepSmallIdeal.nD Cert.StepSmallIdeal.τ).loc Cert.StepSmallIdeal.main_arg51) = m ((c.tc : Thread Cert.StepSmallIdeal.nD Cert.StepSmallIdeal.τ).loc Cert.StepSmallIdeal.main_arg51))
      ∧ r.2.sem = fun _ => 0)

def quiescent_StepSmallRefIdeal [hStepSmallRefIdeal : Cert.StepSmallRefIdeal.Facts] : Prop :=
  ∀ (m : (ℓ : Loc Cert.StepSmallRefIdeal.nD Cert.StepSmallRefIdeal.τ Cert.StepSmallRefIdeal.sig) → Buf (Elt Ideal) ℓ) (g : Dev Cert.StepSmallRefIdeal.nD → PrngReg), Pre_StepSmallRefIdeal m →
    θ_run (Cert.StepSmallRefIdeal.defs (F := Ideal)) (onTc (τ := Cert.StepSmallRefIdeal.τ) (Cert.StepSmallRefIdeal.main (F := Ideal))) ⟨m, fun _ => 0, g⟩ (fun r => (∀ c : Dev Cert.StepSmallRefIdeal.nD,
      r.2.mem ((c.tc : Thread Cert.StepSmallRefIdeal.nD Cert.StepSmallRefIdeal.τ).loc Cert.StepSmallRefIdeal.main_arg0) = m ((c.tc : Thread Cert.StepSmallRefIdeal.nD Cert.StepSmallRefIdeal.τ).loc Cert.StepSmallRefIdeal.main_arg0)
      ∧ r.2.mem ((c.tc : Thread Cert.StepSmallRefIdeal.nD Cert.StepSmallRefIdeal.τ).loc Cert.StepSmallRefIdeal.main_arg1) = m ((c.tc : Thread Cert.StepSmallRefIdeal.nD Cert.StepSmallRefIdeal.τ).loc Cert.StepSmallRefIdeal.main_arg1)
      ∧ r.2.mem ((c.tc : Thread Cert.StepSmallRefIdeal.nD Cert.StepSmallRefIdeal.τ).loc Cert.StepSmallRefIdeal.main_arg2) = m ((c.tc : Thread Cert.StepSmallRefIdeal.nD Cert.StepSmallRefIdeal.τ).loc Cert.StepSmallRefIdeal.main_arg2)
      ∧ r.2.mem ((c.tc : Thread Cert.StepSmallRefIdeal.nD Cert.StepSmallRefIdeal.τ).loc Cert.StepSmallRefIdeal.main_arg3) = m ((c.tc : Thread Cert.StepSmallRefIdeal.nD Cert.StepSmallRefIdeal.τ).loc Cert.StepSmallRefIdeal.main_arg3)
      ∧ r.2.mem ((c.tc : Thread Cert.StepSmallRefIdeal.nD Cert.StepSmallRefIdeal.τ).loc Cert.StepSmallRefIdeal.main_arg4) = m ((c.tc : Thread Cert.StepSmallRefIdeal.nD Cert.StepSmallRefIdeal.τ).loc Cert.StepSmallRefIdeal.main_arg4)
      ∧ r.2.mem ((c.tc : Thread Cert.StepSmallRefIdeal.nD Cert.StepSmallRefIdeal.τ).loc Cert.StepSmallRefIdeal.main_arg5) = m ((c.tc : Thread Cert.StepSmallRefIdeal.nD Cert.StepSmallRefIdeal.τ).loc Cert.StepSmallRefIdeal.main_arg5)
      ∧ r.2.mem ((c.tc : Thread Cert.StepSmallRefIdeal.nD Cert.StepSmallRefIdeal.τ).loc Cert.StepSmallRefIdeal.main_arg6) = m ((c.tc : Thread Cert.StepSmallRefIdeal.nD Cert.StepSmallRefIdeal.τ).loc Cert.StepSmallRefIdeal.main_arg6)
      ∧ r.2.mem ((c.tc : Thread Cert.StepSmallRefIdeal.nD Cert.StepSmallRefIdeal.τ).loc Cert.StepSmallRefIdeal.main_arg7) = m ((c.tc : Thread Cert.StepSmallRefIdeal.nD Cert.StepSmallRefIdeal.τ).loc Cert.StepSmallRefIdeal.main_arg7)
      ∧ r.2.mem ((c.tc : Thread Cert.StepSmallRefIdeal.nD Cert.StepSmallRefIdeal.τ).loc Cert.StepSmallRefIdeal.main_arg8) = m ((c.tc : Thread Cert.StepSmallRefIdeal.nD Cert.StepSmallRefIdeal.τ).loc Cert.StepSmallRefIdeal.main_arg8)
      ∧ r.2.mem ((c.tc : Thread Cert.StepSmallRefIdeal.nD Cert.StepSmallRefIdeal.τ).loc Cert.StepSmallRefIdeal.main_arg9) = m ((c.tc : Thread Cert.StepSmallRefIdeal.nD Cert.StepSmallRefIdeal.τ).loc Cert.StepSmallRefIdeal.main_arg9)
      ∧ r.2.mem ((c.tc : Thread Cert.StepSmallRefIdeal.nD Cert.StepSmallRefIdeal.τ).loc Cert.StepSmallRefIdeal.main_arg10) = m ((c.tc : Thread Cert.StepSmallRefIdeal.nD Cert.StepSmallRefIdeal.τ).loc Cert.StepSmallRefIdeal.main_arg10)
      ∧ r.2.mem ((c.tc : Thread Cert.StepSmallRefIdeal.nD Cert.StepSmallRefIdeal.τ).loc Cert.StepSmallRefIdeal.main_arg11) = m ((c.tc : Thread Cert.StepSmallRefIdeal.nD Cert.StepSmallRefIdeal.τ).loc Cert.StepSmallRefIdeal.main_arg11)
      ∧ r.2.mem ((c.tc : Thread Cert.StepSmallRefIdeal.nD Cert.StepSmallRefIdeal.τ).loc Cert.StepSmallRefIdeal.main_arg12) = m ((c.tc : Thread Cert.StepSmallRefIdeal.nD Cert.StepSmallRefIdeal.τ).loc Cert.StepSmallRefIdeal.main_arg12)
      ∧ r.2.mem ((c.tc : Thread Cert.StepSmallRefIdeal.nD Cert.StepSmallRefIdeal.τ).loc Cert.StepSmallRefIdeal.main_arg13) = m ((c.tc : Thread Cert.StepSmallRefIdeal.nD Cert.StepSmallRefIdeal.τ).loc Cert.StepSmallRefIdeal.main_arg13)
      ∧ r.2.mem ((c.tc : Thread Cert.StepSmallRefIdeal.nD Cert.StepSmallRefIdeal.τ).loc Cert.StepSmallRefIdeal.main_arg14) = m ((c.tc : Thread Cert.StepSmallRefIdeal.nD Cert.StepSmallRefIdeal.τ).loc Cert.StepSmallRefIdeal.main_arg14)
      ∧ r.2.mem ((c.tc : Thread Cert.StepSmallRefIdeal.nD Cert.StepSmallRefIdeal.τ).loc Cert.StepSmallRefIdeal.main_arg15) = m ((c.tc : Thread Cert.StepSmallRefIdeal.nD Cert.StepSmallRefIdeal.τ).loc Cert.StepSmallRefIdeal.main_arg15)
      ∧ r.2.mem ((c.tc : Thread Cert.StepSmallRefIdeal.nD Cert.StepSmallRefIdeal.τ).loc Cert.StepSmallRefIdeal.main_arg16) = m ((c.tc : Thread Cert.StepSmallRefIdeal.nD Cert.StepSmallRefIdeal.τ).loc Cert.StepSmallRefIdeal.main_arg16)
      ∧ r.2.mem ((c.tc : Thread Cert.StepSmallRefIdeal.nD Cert.StepSmallRefIdeal.τ).loc Cert.StepSmallRefIdeal.main_arg17) = m ((c.tc : Thread Cert.StepSmallRefIdeal.nD Cert.StepSmallRefIdeal.τ).loc Cert.StepSmallRefIdeal.main_arg17)
      ∧ r.2.mem ((c.tc : Thread Cert.StepSmallRefIdeal.nD Cert.StepSmallRefIdeal.τ).loc Cert.StepSmallRefIdeal.main_arg18) = m ((c.tc : Thread Cert.StepSmallRefIdeal.nD Cert.StepSmallRefIdeal.τ).loc Cert.StepSmallRefIdeal.main_arg18)
      ∧ r.2.mem ((c.tc : Thread Cert.StepSmallRefIdeal.nD Cert.StepSmallRefIdeal.τ).loc Cert.StepSmallRefIdeal.main_arg19) = m ((c.tc : Thread Cert.StepSmallRefIdeal.nD Cert.StepSmallRefIdeal.τ).loc Cert.StepSmallRefIdeal.main_arg19)
      ∧ r.2.mem ((c.tc : Thread Cert.StepSmallRefIdeal.nD Cert.StepSmallRefIdeal.τ).loc Cert.StepSmallRefIdeal.main_arg20) = m ((c.tc : Thread Cert.StepSmallRefIdeal.nD Cert.StepSmallRefIdeal.τ).loc Cert.StepSmallRefIdeal.main_arg20)
      ∧ r.2.mem ((c.tc : Thread Cert.StepSmallRefIdeal.nD Cert.StepSmallRefIdeal.τ).loc Cert.StepSmallRefIdeal.main_arg21) = m ((c.tc : Thread Cert.StepSmallRefIdeal.nD Cert.StepSmallRefIdeal.τ).loc Cert.StepSmallRefIdeal.main_arg21)
      ∧ r.2.mem ((c.tc : Thread Cert.StepSmallRefIdeal.nD Cert.StepSmallRefIdeal.τ).loc Cert.StepSmallRefIdeal.main_arg22) = m ((c.tc : Thread Cert.StepSmallRefIdeal.nD Cert.StepSmallRefIdeal.τ).loc Cert.StepSmallRefIdeal.main_arg22)
      ∧ r.2.mem ((c.tc : Thread Cert.StepSmallRefIdeal.nD Cert.StepSmallRefIdeal.τ).loc Cert.StepSmallRefIdeal.main_arg23) = m ((c.tc : Thread Cert.StepSmallRefIdeal.nD Cert.StepSmallRefIdeal.τ).loc Cert.StepSmallRefIdeal.main_arg23)
      ∧ r.2.mem ((c.tc : Thread Cert.StepSmallRefIdeal.nD Cert.StepSmallRefIdeal.τ).loc Cert.StepSmallRefIdeal.main_arg24) = m ((c.tc : Thread Cert.StepSmallRefIdeal.nD Cert.StepSmallRefIdeal.τ).loc Cert.StepSmallRefIdeal.main_arg24)
      ∧ r.2.mem ((c.tc : Thread Cert.StepSmallRefIdeal.nD Cert.StepSmallRefIdeal.τ).loc Cert.StepSmallRefIdeal.main_arg25) = m ((c.tc : Thread Cert.StepSmallRefIdeal.nD Cert.StepSmallRefIdeal.τ).loc Cert.StepSmallRefIdeal.main_arg25)
      ∧ r.2.mem ((c.tc : Thread Cert.StepSmallRefIdeal.nD Cert.StepSmallRefIdeal.τ).loc Cert.StepSmallRefIdeal.main_arg26) = m ((c.tc : Thread Cert.StepSmallRefIdeal.nD Cert.StepSmallRefIdeal.τ).loc Cert.StepSmallRefIdeal.main_arg26)
      ∧ r.2.mem ((c.tc : Thread Cert.StepSmallRefIdeal.nD Cert.StepSmallRefIdeal.τ).loc Cert.StepSmallRefIdeal.main_arg27) = m ((c.tc : Thread Cert.StepSmallRefIdeal.nD Cert.StepSmallRefIdeal.τ).loc Cert.StepSmallRefIdeal.main_arg27)
      ∧ r.2.mem ((c.tc : Thread Cert.StepSmallRefIdeal.nD Cert.StepSmallRefIdeal.τ).loc Cert.StepSmallRefIdeal.main_arg28) = m ((c.tc : Thread Cert.StepSmallRefIdeal.nD Cert.StepSmallRefIdeal.τ).loc Cert.StepSmallRefIdeal.main_arg28)
      ∧ r.2.mem ((c.tc : Thread Cert.StepSmallRefIdeal.nD Cert.StepSmallRefIdeal.τ).loc Cert.StepSmallRefIdeal.main_arg29) = m ((c.tc : Thread Cert.StepSmallRefIdeal.nD Cert.StepSmallRefIdeal.τ).loc Cert.StepSmallRefIdeal.main_arg29)
      ∧ r.2.mem ((c.tc : Thread Cert.StepSmallRefIdeal.nD Cert.StepSmallRefIdeal.τ).loc Cert.StepSmallRefIdeal.main_arg30) = m ((c.tc : Thread Cert.StepSmallRefIdeal.nD Cert.StepSmallRefIdeal.τ).loc Cert.StepSmallRefIdeal.main_arg30)
      ∧ r.2.mem ((c.tc : Thread Cert.StepSmallRefIdeal.nD Cert.StepSmallRefIdeal.τ).loc Cert.StepSmallRefIdeal.main_arg31) = m ((c.tc : Thread Cert.StepSmallRefIdeal.nD Cert.StepSmallRefIdeal.τ).loc Cert.StepSmallRefIdeal.main_arg31)
      ∧ r.2.mem ((c.tc : Thread Cert.StepSmallRefIdeal.nD Cert.StepSmallRefIdeal.τ).loc Cert.StepSmallRefIdeal.main_arg32) = m ((c.tc : Thread Cert.StepSmallRefIdeal.nD Cert.StepSmallRefIdeal.τ).loc Cert.StepSmallRefIdeal.main_arg32)
      ∧ r.2.mem ((c.tc : Thread Cert.StepSmallRefIdeal.nD Cert.StepSmallRefIdeal.τ).loc Cert.StepSmallRefIdeal.main_arg33) = m ((c.tc : Thread Cert.StepSmallRefIdeal.nD Cert.StepSmallRefIdeal.τ).loc Cert.StepSmallRefIdeal.main_arg33)
      ∧ r.2.mem ((c.tc : Thread Cert.StepSmallRefIdeal.nD Cert.StepSmallRefIdeal.τ).loc Cert.StepSmallRefIdeal.main_arg34) = m ((c.tc : Thread Cert.StepSmallRefIdeal.nD Cert.StepSmallRefIdeal.τ).loc Cert.StepSmallRefIdeal.main_arg34)
      ∧ r.2.mem ((c.tc : Thread Cert.StepSmallRefIdeal.nD Cert.StepSmallRefIdeal.τ).loc Cert.StepSmallRefIdeal.main_arg35) = m ((c.tc : Thread Cert.StepSmallRefIdeal.nD Cert.StepSmallRefIdeal.τ).loc Cert.StepSmallRefIdeal.main_arg35)
      ∧ r.2.mem ((c.tc : Thread Cert.StepSmallRefIdeal.nD Cert.StepSmallRefIdeal.τ).loc Cert.StepSmallRefIdeal.main_arg36) = m ((c.tc : Thread Cert.StepSmallRefIdeal.nD Cert.StepSmallRefIdeal.τ).loc Cert.StepSmallRefIdeal.main_arg36)
      ∧ r.2.mem ((c.tc : Thread Cert.StepSmallRefIdeal.nD Cert.StepSmallRefIdeal.τ).loc Cert.StepSmallRefIdeal.main_arg37) = m ((c.tc : Thread Cert.StepSmallRefIdeal.nD Cert.StepSmallRefIdeal.τ).loc Cert.StepSmallRefIdeal.main_arg37)
      ∧ r.2.mem ((c.tc : Thread Cert.StepSmallRefIdeal.nD Cert.StepSmallRefIdeal.τ).loc Cert.StepSmallRefIdeal.main_arg38) = m ((c.tc : Thread Cert.StepSmallRefIdeal.nD Cert.StepSmallRefIdeal.τ).loc Cert.StepSmallRefIdeal.main_arg38)
      ∧ r.2.mem ((c.tc : Thread Cert.StepSmallRefIdeal.nD Cert.StepSmallRefIdeal.τ).loc Cert.StepSmallRefIdeal.main_arg39) = m ((c.tc : Thread Cert.StepSmallRefIdeal.nD Cert.StepSmallRefIdeal.τ).loc Cert.StepSmallRefIdeal.main_arg39)
      ∧ r.2.mem ((c.tc : Thread Cert.StepSmallRefIdeal.nD Cert.StepSmallRefIdeal.τ).loc Cert.StepSmallRefIdeal.main_arg40) = m ((c.tc : Thread Cert.StepSmallRefIdeal.nD Cert.StepSmallRefIdeal.τ).loc Cert.StepSmallRefIdeal.main_arg40)
      ∧ r.2.mem ((c.tc : Thread Cert.StepSmallRefIdeal.nD Cert.StepSmallRefIdeal.τ).loc Cert.StepSmallRefIdeal.main_arg41) = m ((c.tc : Thread Cert.StepSmallRefIdeal.nD Cert.StepSmallRefIdeal.τ).loc Cert.StepSmallRefIdeal.main_arg41)
      ∧ r.2.mem ((c.tc : Thread Cert.StepSmallRefIdeal.nD Cert.StepSmallRefIdeal.τ).loc Cert.StepSmallRefIdeal.main_arg42) = m ((c.tc : Thread Cert.StepSmallRefIdeal.nD Cert.StepSmallRefIdeal.τ).loc Cert.StepSmallRefIdeal.main_arg42)
      ∧ r.2.mem ((c.tc : Thread Cert.StepSmallRefIdeal.nD Cert.StepSmallRefIdeal.τ).loc Cert.StepSmallRefIdeal.main_arg43) = m ((c.tc : Thread Cert.StepSmallRefIdeal.nD Cert.StepSmallRefIdeal.τ).loc Cert.StepSmallRefIdeal.main_arg43)
      ∧ r.2.mem ((c.tc : Thread Cert.StepSmallRefIdeal.nD Cert.StepSmallRefIdeal.τ).loc Cert.StepSmallRefIdeal.main_arg44) = m ((c.tc : Thread Cert.StepSmallRefIdeal.nD Cert.StepSmallRefIdeal.τ).loc Cert.StepSmallRefIdeal.main_arg44)
      ∧ r.2.mem ((c.tc : Thread Cert.StepSmallRefIdeal.nD Cert.StepSmallRefIdeal.τ).loc Cert.StepSmallRefIdeal.main_arg45) = m ((c.tc : Thread Cert.StepSmallRefIdeal.nD Cert.StepSmallRefIdeal.τ).loc Cert.StepSmallRefIdeal.main_arg45)
      ∧ r.2.mem ((c.tc : Thread Cert.StepSmallRefIdeal.nD Cert.StepSmallRefIdeal.τ).loc Cert.StepSmallRefIdeal.main_arg46) = m ((c.tc : Thread Cert.StepSmallRefIdeal.nD Cert.StepSmallRefIdeal.τ).loc Cert.StepSmallRefIdeal.main_arg46)
      ∧ r.2.mem ((c.tc : Thread Cert.StepSmallRefIdeal.nD Cert.StepSmallRefIdeal.τ).loc Cert.StepSmallRefIdeal.main_arg47) = m ((c.tc : Thread Cert.StepSmallRefIdeal.nD Cert.StepSmallRefIdeal.τ).loc Cert.StepSmallRefIdeal.main_arg47)
      ∧ r.2.mem ((c.tc : Thread Cert.StepSmallRefIdeal.nD Cert.StepSmallRefIdeal.τ).loc Cert.StepSmallRefIdeal.main_arg48) = m ((c.tc : Thread Cert.StepSmallRefIdeal.nD Cert.StepSmallRefIdeal.τ).loc Cert.StepSmallRefIdeal.main_arg48)
      ∧ r.2.mem ((c.tc : Thread Cert.StepSmallRefIdeal.nD Cert.StepSmallRefIdeal.τ).loc Cert.StepSmallRefIdeal.main_arg49) = m ((c.tc : Thread Cert.StepSmallRefIdeal.nD Cert.StepSmallRefIdeal.τ).loc Cert.StepSmallRefIdeal.main_arg49)
      ∧ r.2.mem ((c.tc : Thread Cert.StepSmallRefIdeal.nD Cert.StepSmallRefIdeal.τ).loc Cert.StepSmallRefIdeal.main_arg50) = m ((c.tc : Thread Cert.StepSmallRefIdeal.nD Cert.StepSmallRefIdeal.τ).loc Cert.StepSmallRefIdeal.main_arg50)
      ∧ r.2.mem ((c.tc : Thread Cert.StepSmallRefIdeal.nD Cert.StepSmallRefIdeal.τ).loc Cert.StepSmallRefIdeal.main_arg51) = m ((c.tc : Thread Cert.StepSmallRefIdeal.nD Cert.StepSmallRefIdeal.τ).loc Cert.StepSmallRefIdeal.main_arg51))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0)
      ∧ r.2.mem ((c.tc : Thread Cert.Sums.nD Cert.Sums.τ).loc Cert.Sums.main_arg1) = m ((c.tc : Thread Cert.Sums.nD Cert.Sums.τ).loc Cert.Sums.main_arg1)
      ∧ r.2.mem ((c.tc : Thread Cert.Sums.nD Cert.Sums.τ).loc Cert.Sums.main_arg2) = m ((c.tc : Thread Cert.Sums.nD Cert.Sums.τ).loc Cert.Sums.main_arg2)
      ∧ r.2.mem ((c.tc : Thread Cert.Sums.nD Cert.Sums.τ).loc Cert.Sums.main_arg3) = m ((c.tc : Thread Cert.Sums.nD Cert.Sums.τ).loc Cert.Sums.main_arg3)
      ∧ r.2.mem ((c.tc : Thread Cert.Sums.nD Cert.Sums.τ).loc Cert.Sums.main_arg4) = m ((c.tc : Thread Cert.Sums.nD Cert.Sums.τ).loc Cert.Sums.main_arg4)
      ∧ r.2.mem ((c.tc : Thread Cert.Sums.nD Cert.Sums.τ).loc Cert.Sums.main_arg5) = m ((c.tc : Thread Cert.Sums.nD Cert.Sums.τ).loc Cert.Sums.main_arg5)
      ∧ r.2.mem ((c.tc : Thread Cert.Sums.nD Cert.Sums.τ).loc Cert.Sums.main_arg6) = m ((c.tc : Thread Cert.Sums.nD Cert.Sums.τ).loc Cert.Sums.main_arg6)
      ∧ r.2.mem ((c.tc : Thread Cert.Sums.nD Cert.Sums.τ).loc Cert.Sums.main_arg7) = m ((c.tc : Thread Cert.Sums.nD Cert.Sums.τ).loc Cert.Sums.main_arg7)
      ∧ r.2.mem ((c.tc : Thread Cert.Sums.nD Cert.Sums.τ).loc Cert.Sums.main_arg8) = m ((c.tc : Thread Cert.Sums.nD Cert.Sums.τ).loc Cert.Sums.main_arg8)
      ∧ r.2.mem ((c.tc : Thread Cert.Sums.nD Cert.Sums.τ).loc Cert.Sums.main_arg9) = m ((c.tc : Thread Cert.Sums.nD Cert.Sums.τ).loc Cert.Sums.main_arg9)
      ∧ r.2.mem ((c.tc : Thread Cert.Sums.nD Cert.Sums.τ).loc Cert.Sums.main_arg10) = m ((c.tc : Thread Cert.Sums.nD Cert.Sums.τ).loc Cert.Sums.main_arg10)
      ∧ r.2.mem ((c.tc : Thread Cert.Sums.nD Cert.Sums.τ).loc Cert.Sums.main_arg11) = m ((c.tc : Thread Cert.Sums.nD Cert.Sums.τ).loc Cert.Sums.main_arg11)
      ∧ r.2.mem ((c.tc : Thread Cert.Sums.nD Cert.Sums.τ).loc Cert.Sums.main_arg12) = m ((c.tc : Thread Cert.Sums.nD Cert.Sums.τ).loc Cert.Sums.main_arg12)
      ∧ r.2.mem ((c.tc : Thread Cert.Sums.nD Cert.Sums.τ).loc Cert.Sums.main_arg13) = m ((c.tc : Thread Cert.Sums.nD Cert.Sums.τ).loc Cert.Sums.main_arg13))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
      ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
      ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
      ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
      ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
      ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6)
      ∧ r.2.mem ((c.tc : Thread Cert.SumsIdeal.nD Cert.SumsIdeal.τ).loc Cert.SumsIdeal.main_arg7) = m ((c.tc : Thread Cert.SumsIdeal.nD Cert.SumsIdeal.τ).loc Cert.SumsIdeal.main_arg7)
      ∧ r.2.mem ((c.tc : Thread Cert.SumsIdeal.nD Cert.SumsIdeal.τ).loc Cert.SumsIdeal.main_arg8) = m ((c.tc : Thread Cert.SumsIdeal.nD Cert.SumsIdeal.τ).loc Cert.SumsIdeal.main_arg8)
      ∧ r.2.mem ((c.tc : Thread Cert.SumsIdeal.nD Cert.SumsIdeal.τ).loc Cert.SumsIdeal.main_arg9) = m ((c.tc : Thread Cert.SumsIdeal.nD Cert.SumsIdeal.τ).loc Cert.SumsIdeal.main_arg9)
      ∧ r.2.mem ((c.tc : Thread Cert.SumsIdeal.nD Cert.SumsIdeal.τ).loc Cert.SumsIdeal.main_arg10) = m ((c.tc : Thread Cert.SumsIdeal.nD Cert.SumsIdeal.τ).loc Cert.SumsIdeal.main_arg10)
      ∧ r.2.mem ((c.tc : Thread Cert.SumsIdeal.nD Cert.SumsIdeal.τ).loc Cert.SumsIdeal.main_arg11) = m ((c.tc : Thread Cert.SumsIdeal.nD Cert.SumsIdeal.τ).loc Cert.SumsIdeal.main_arg11)
      ∧ r.2.mem ((c.tc : Thread Cert.SumsIdeal.nD Cert.SumsIdeal.τ).loc Cert.SumsIdeal.main_arg12) = m ((c.tc : Thread Cert.SumsIdeal.nD Cert.SumsIdeal.τ).loc Cert.SumsIdeal.main_arg12)
      ∧ r.2.mem ((c.tc : Thread Cert.SumsIdeal.nD Cert.SumsIdeal.τ).loc Cert.SumsIdeal.main_arg13) = m ((c.tc : Thread Cert.SumsIdeal.nD Cert.SumsIdeal.τ).loc Cert.SumsIdeal.main_arg13))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0)
      ∧ r.2.mem ((c.tc : Thread Cert.SumsRefIdeal.nD Cert.SumsRefIdeal.τ).loc Cert.SumsRefIdeal.main_arg1) = m ((c.tc : Thread Cert.SumsRefIdeal.nD Cert.SumsRefIdeal.τ).loc Cert.SumsRefIdeal.main_arg1)
      ∧ r.2.mem ((c.tc : Thread Cert.SumsRefIdeal.nD Cert.SumsRefIdeal.τ).loc Cert.SumsRefIdeal.main_arg2) = m ((c.tc : Thread Cert.SumsRefIdeal.nD Cert.SumsRefIdeal.τ).loc Cert.SumsRefIdeal.main_arg2)
      ∧ r.2.mem ((c.tc : Thread Cert.SumsRefIdeal.nD Cert.SumsRefIdeal.τ).loc Cert.SumsRefIdeal.main_arg3) = m ((c.tc : Thread Cert.SumsRefIdeal.nD Cert.SumsRefIdeal.τ).loc Cert.SumsRefIdeal.main_arg3)
      ∧ r.2.mem ((c.tc : Thread Cert.SumsRefIdeal.nD Cert.SumsRefIdeal.τ).loc Cert.SumsRefIdeal.main_arg4) = m ((c.tc : Thread Cert.SumsRefIdeal.nD Cert.SumsRefIdeal.τ).loc Cert.SumsRefIdeal.main_arg4)
      ∧ r.2.mem ((c.tc : Thread Cert.SumsRefIdeal.nD Cert.SumsRefIdeal.τ).loc Cert.SumsRefIdeal.main_arg5) = m ((c.tc : Thread Cert.SumsRefIdeal.nD Cert.SumsRefIdeal.τ).loc Cert.SumsRefIdeal.main_arg5)
      ∧ r.2.mem ((c.tc : Thread Cert.SumsRefIdeal.nD Cert.SumsRefIdeal.τ).loc Cert.SumsRefIdeal.main_arg6) = m ((c.tc : Thread Cert.SumsRefIdeal.nD Cert.SumsRefIdeal.τ).loc Cert.SumsRefIdeal.main_arg6)
      ∧ r.2.mem ((c.tc : Thread Cert.SumsRefIdeal.nD Cert.SumsRefIdeal.τ).loc Cert.SumsRefIdeal.main_arg7) = m ((c.tc : Thread Cert.SumsRefIdeal.nD Cert.SumsRefIdeal.τ).loc Cert.SumsRefIdeal.main_arg7)
      ∧ r.2.mem ((c.tc : Thread Cert.SumsRefIdeal.nD Cert.SumsRefIdeal.τ).loc Cert.SumsRefIdeal.main_arg8) = m ((c.tc : Thread Cert.SumsRefIdeal.nD Cert.SumsRefIdeal.τ).loc Cert.SumsRefIdeal.main_arg8)
      ∧ r.2.mem ((c.tc : Thread Cert.SumsRefIdeal.nD Cert.SumsRefIdeal.τ).loc Cert.SumsRefIdeal.main_arg9) = m ((c.tc : Thread Cert.SumsRefIdeal.nD Cert.SumsRefIdeal.τ).loc Cert.SumsRefIdeal.main_arg9)
      ∧ r.2.mem ((c.tc : Thread Cert.SumsRefIdeal.nD Cert.SumsRefIdeal.τ).loc Cert.SumsRefIdeal.main_arg10) = m ((c.tc : Thread Cert.SumsRefIdeal.nD Cert.SumsRefIdeal.τ).loc Cert.SumsRefIdeal.main_arg10)
      ∧ r.2.mem ((c.tc : Thread Cert.SumsRefIdeal.nD Cert.SumsRefIdeal.τ).loc Cert.SumsRefIdeal.main_arg11) = m ((c.tc : Thread Cert.SumsRefIdeal.nD Cert.SumsRefIdeal.τ).loc Cert.SumsRefIdeal.main_arg11)
      ∧ r.2.mem ((c.tc : Thread Cert.SumsRefIdeal.nD Cert.SumsRefIdeal.τ).loc Cert.SumsRefIdeal.main_arg12) = m ((c.tc : Thread Cert.SumsRefIdeal.nD Cert.SumsRefIdeal.τ).loc Cert.SumsRefIdeal.main_arg12)
      ∧ r.2.mem ((c.tc : Thread Cert.SumsRefIdeal.nD Cert.SumsRefIdeal.τ).loc Cert.SumsRefIdeal.main_arg13) = m ((c.tc : Thread Cert.SumsRefIdeal.nD Cert.SumsRefIdeal.τ).loc Cert.SumsRefIdeal.main_arg13))
      ∧ r.2.sem = fun _ => 0)

def preserves_Kernel_KernelIdeal : Prop :=
  True

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v4)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v4) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v3)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v3) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_FwdA_FwdAIdeal : Prop :=
  True

def algebraic_FwdAIdeal_FwdARefIdeal [hFwdAIdeal : Cert.FwdAIdeal.Facts] [hFwdARefIdeal : Cert.FwdARefIdeal.Facts] : Prop :=
  ∀ (m : (ℓ : Loc Cert.FwdAIdeal.nD Cert.FwdAIdeal.τ Cert.FwdAIdeal.sig) → Buf (Elt Ideal) ℓ) (g : Dev Cert.FwdAIdeal.nD → PrngReg)
    (m' : (ℓ : Loc Cert.FwdARefIdeal.nD Cert.FwdARefIdeal.τ Cert.FwdARefIdeal.sig) → Buf (Elt Ideal) ℓ) (g' : Dev Cert.FwdARefIdeal.nD → PrngReg), Pre_FwdAIdeal m →
    (∀ c : Dev Cert.FwdAIdeal.nD,
      m' ((c.tc : Thread Cert.FwdARefIdeal.nD Cert.FwdARefIdeal.τ).loc Cert.FwdARefIdeal.main_arg0) = m ((c.tc : Thread Cert.FwdAIdeal.nD Cert.FwdAIdeal.τ).loc Cert.FwdAIdeal.main_arg0)
      ∧ m' ((c.tc : Thread Cert.FwdARefIdeal.nD Cert.FwdARefIdeal.τ).loc Cert.FwdARefIdeal.main_arg1) = m ((c.tc : Thread Cert.FwdAIdeal.nD Cert.FwdAIdeal.τ).loc Cert.FwdAIdeal.main_arg1)
      ∧ m' ((c.tc : Thread Cert.FwdARefIdeal.nD Cert.FwdARefIdeal.τ).loc Cert.FwdARefIdeal.main_arg2) = m ((c.tc : Thread Cert.FwdAIdeal.nD Cert.FwdAIdeal.τ).loc Cert.FwdAIdeal.main_arg2)
      ∧ m' ((c.tc : Thread Cert.FwdARefIdeal.nD Cert.FwdARefIdeal.τ).loc Cert.FwdARefIdeal.main_arg3) = m ((c.tc : Thread Cert.FwdAIdeal.nD Cert.FwdAIdeal.τ).loc Cert.FwdAIdeal.main_arg3)
      ∧ m' ((c.tc : Thread Cert.FwdARefIdeal.nD Cert.FwdARefIdeal.τ).loc Cert.FwdARefIdeal.main_arg4) = m ((c.tc : Thread Cert.FwdAIdeal.nD Cert.FwdAIdeal.τ).loc Cert.FwdAIdeal.main_arg4)) →
    ∃ (v0 : (c : Dev Cert.FwdAIdeal.nD) → Buf (Elt Ideal) ((c.tc : Thread Cert.FwdAIdeal.nD Cert.FwdAIdeal.τ).loc Cert.FwdAIdeal.main_v8_0)) (v1 : (c : Dev Cert.FwdAIdeal.nD) → Buf (Elt Ideal) ((c.tc : Thread Cert.FwdAIdeal.nD Cert.FwdAIdeal.τ).loc Cert.FwdAIdeal.main_v8_2)),
      θ_run (Cert.FwdAIdeal.defs (F := Ideal)) (onTc (τ := Cert.FwdAIdeal.τ) (Cert.FwdAIdeal.main (F := Ideal))) ⟨m, fun _ => 0, g⟩ (fun r => ∀ c : Dev Cert.FwdAIdeal.nD,
          r.2.mem ((c.tc : Thread Cert.FwdAIdeal.nD Cert.FwdAIdeal.τ).loc Cert.FwdAIdeal.main_v8_0) = v0 c
          ∧ r.2.mem ((c.tc : Thread Cert.FwdAIdeal.nD Cert.FwdAIdeal.τ).loc Cert.FwdAIdeal.main_v8_2) = v1 c
          ∧ r.2.mem ((c.tc : Thread Cert.FwdAIdeal.nD Cert.FwdAIdeal.τ).loc Cert.FwdAIdeal.main_arg0) = m ((c.tc : Thread Cert.FwdAIdeal.nD Cert.FwdAIdeal.τ).loc Cert.FwdAIdeal.main_arg0)
          ∧ r.2.mem ((c.tc : Thread Cert.FwdAIdeal.nD Cert.FwdAIdeal.τ).loc Cert.FwdAIdeal.main_arg1) = m ((c.tc : Thread Cert.FwdAIdeal.nD Cert.FwdAIdeal.τ).loc Cert.FwdAIdeal.main_arg1)
          ∧ r.2.mem ((c.tc : Thread Cert.FwdAIdeal.nD Cert.FwdAIdeal.τ).loc Cert.FwdAIdeal.main_arg2) = m ((c.tc : Thread Cert.FwdAIdeal.nD Cert.FwdAIdeal.τ).loc Cert.FwdAIdeal.main_arg2)
          ∧ r.2.mem ((c.tc : Thread Cert.FwdAIdeal.nD Cert.FwdAIdeal.τ).loc Cert.FwdAIdeal.main_arg3) = m ((c.tc : Thread Cert.FwdAIdeal.nD Cert.FwdAIdeal.τ).loc Cert.FwdAIdeal.main_arg3)
          ∧ r.2.mem ((c.tc : Thread Cert.FwdAIdeal.nD Cert.FwdAIdeal.τ).loc Cert.FwdAIdeal.main_arg4) = m ((c.tc : Thread Cert.FwdAIdeal.nD Cert.FwdAIdeal.τ).loc Cert.FwdAIdeal.main_arg4))
      ∧ θ_run (Cert.FwdARefIdeal.defs (F := Ideal)) (onTc (τ := Cert.FwdARefIdeal.τ) (Cert.FwdARefIdeal.main (F := Ideal))) ⟨m', fun _ => 0, g'⟩ (fun r => ∀ c : Dev Cert.FwdARefIdeal.nD,
          r.2.mem ((c.tc : Thread Cert.FwdARefIdeal.nD Cert.FwdARefIdeal.τ).loc Cert.FwdARefIdeal.main_v28) = v0 c
          ∧ r.2.mem ((c.tc : Thread Cert.FwdARefIdeal.nD Cert.FwdARefIdeal.τ).loc Cert.FwdARefIdeal.main_v33) = v1 c
          ∧ r.2.mem ((c.tc : Thread Cert.FwdARefIdeal.nD Cert.FwdARefIdeal.τ).loc Cert.FwdARefIdeal.main_arg0) = m' ((c.tc : Thread Cert.FwdARefIdeal.nD Cert.FwdARefIdeal.τ).loc Cert.FwdARefIdeal.main_arg0)
          ∧ r.2.mem ((c.tc : Thread Cert.FwdARefIdeal.nD Cert.FwdARefIdeal.τ).loc Cert.FwdARefIdeal.main_arg1) = m' ((c.tc : Thread Cert.FwdARefIdeal.nD Cert.FwdARefIdeal.τ).loc Cert.FwdARefIdeal.main_arg1)
          ∧ r.2.mem ((c.tc : Thread Cert.FwdARefIdeal.nD Cert.FwdARefIdeal.τ).loc Cert.FwdARefIdeal.main_arg2) = m' ((c.tc : Thread Cert.FwdARefIdeal.nD Cert.FwdARefIdeal.τ).loc Cert.FwdARefIdeal.main_arg2)
          ∧ r.2.mem ((c.tc : Thread Cert.FwdARefIdeal.nD Cert.FwdARefIdeal.τ).loc Cert.FwdARefIdeal.main_arg3) = m' ((c.tc : Thread Cert.FwdARefIdeal.nD Cert.FwdARefIdeal.τ).loc Cert.FwdARefIdeal.main_arg3)
          ∧ r.2.mem ((c.tc : Thread Cert.FwdARefIdeal.nD Cert.FwdARefIdeal.τ).loc Cert.FwdARefIdeal.main_arg4) = m' ((c.tc : Thread Cert.FwdARefIdeal.nD Cert.FwdARefIdeal.τ).loc Cert.FwdARefIdeal.main_arg4))

def preserves_FwdB_FwdBIdeal : Prop :=
  True

def algebraic_FwdBIdeal_FwdBRefIdeal [hFwdBIdeal : Cert.FwdBIdeal.Facts] [hFwdBRefIdeal : Cert.FwdBRefIdeal.Facts] : Prop :=
  ∀ (m : (ℓ : Loc Cert.FwdBIdeal.nD Cert.FwdBIdeal.τ Cert.FwdBIdeal.sig) → Buf (Elt Ideal) ℓ) (g : Dev Cert.FwdBIdeal.nD → PrngReg)
    (m' : (ℓ : Loc Cert.FwdBRefIdeal.nD Cert.FwdBRefIdeal.τ Cert.FwdBRefIdeal.sig) → Buf (Elt Ideal) ℓ) (g' : Dev Cert.FwdBRefIdeal.nD → PrngReg), Pre_FwdBIdeal m →
    (∀ c : Dev Cert.FwdBIdeal.nD,
      m' ((c.tc : Thread Cert.FwdBRefIdeal.nD Cert.FwdBRefIdeal.τ).loc Cert.FwdBRefIdeal.main_arg0) = m ((c.tc : Thread Cert.FwdBIdeal.nD Cert.FwdBIdeal.τ).loc Cert.FwdBIdeal.main_arg0)
      ∧ m' ((c.tc : Thread Cert.FwdBRefIdeal.nD Cert.FwdBRefIdeal.τ).loc Cert.FwdBRefIdeal.main_arg1) = m ((c.tc : Thread Cert.FwdBIdeal.nD Cert.FwdBIdeal.τ).loc Cert.FwdBIdeal.main_arg1)
      ∧ m' ((c.tc : Thread Cert.FwdBRefIdeal.nD Cert.FwdBRefIdeal.τ).loc Cert.FwdBRefIdeal.main_arg2) = m ((c.tc : Thread Cert.FwdBIdeal.nD Cert.FwdBIdeal.τ).loc Cert.FwdBIdeal.main_arg2)
      ∧ m' ((c.tc : Thread Cert.FwdBRefIdeal.nD Cert.FwdBRefIdeal.τ).loc Cert.FwdBRefIdeal.main_arg3) = m ((c.tc : Thread Cert.FwdBIdeal.nD Cert.FwdBIdeal.τ).loc Cert.FwdBIdeal.main_arg3)
      ∧ m' ((c.tc : Thread Cert.FwdBRefIdeal.nD Cert.FwdBRefIdeal.τ).loc Cert.FwdBRefIdeal.main_arg4) = m ((c.tc : Thread Cert.FwdBIdeal.nD Cert.FwdBIdeal.τ).loc Cert.FwdBIdeal.main_arg4)) →
    ∃ (v0 : (c : Dev Cert.FwdBIdeal.nD) → Buf (Elt Ideal) ((c.tc : Thread Cert.FwdBIdeal.nD Cert.FwdBIdeal.τ).loc Cert.FwdBIdeal.main_v48_0)) (v1 : (c : Dev Cert.FwdBIdeal.nD) → Buf (Elt Ideal) ((c.tc : Thread Cert.FwdBIdeal.nD Cert.FwdBIdeal.τ).loc Cert.FwdBIdeal.main_v48_1)),
      θ_run (Cert.FwdBIdeal.defs (F := Ideal)) (onTc (τ := Cert.FwdBIdeal.τ) (Cert.FwdBIdeal.main (F := Ideal))) ⟨m, fun _ => 0, g⟩ (fun r => ∀ c : Dev Cert.FwdBIdeal.nD,
          r.2.mem ((c.tc : Thread Cert.FwdBIdeal.nD Cert.FwdBIdeal.τ).loc Cert.FwdBIdeal.main_v48_0) = v0 c
          ∧ r.2.mem ((c.tc : Thread Cert.FwdBIdeal.nD Cert.FwdBIdeal.τ).loc Cert.FwdBIdeal.main_v48_1) = v1 c
          ∧ r.2.mem ((c.tc : Thread Cert.FwdBIdeal.nD Cert.FwdBIdeal.τ).loc Cert.FwdBIdeal.main_arg0) = m ((c.tc : Thread Cert.FwdBIdeal.nD Cert.FwdBIdeal.τ).loc Cert.FwdBIdeal.main_arg0)
          ∧ r.2.mem ((c.tc : Thread Cert.FwdBIdeal.nD Cert.FwdBIdeal.τ).loc Cert.FwdBIdeal.main_arg1) = m ((c.tc : Thread Cert.FwdBIdeal.nD Cert.FwdBIdeal.τ).loc Cert.FwdBIdeal.main_arg1)
          ∧ r.2.mem ((c.tc : Thread Cert.FwdBIdeal.nD Cert.FwdBIdeal.τ).loc Cert.FwdBIdeal.main_arg2) = m ((c.tc : Thread Cert.FwdBIdeal.nD Cert.FwdBIdeal.τ).loc Cert.FwdBIdeal.main_arg2)
          ∧ r.2.mem ((c.tc : Thread Cert.FwdBIdeal.nD Cert.FwdBIdeal.τ).loc Cert.FwdBIdeal.main_arg3) = m ((c.tc : Thread Cert.FwdBIdeal.nD Cert.FwdBIdeal.τ).loc Cert.FwdBIdeal.main_arg3)
          ∧ r.2.mem ((c.tc : Thread Cert.FwdBIdeal.nD Cert.FwdBIdeal.τ).loc Cert.FwdBIdeal.main_arg4) = m ((c.tc : Thread Cert.FwdBIdeal.nD Cert.FwdBIdeal.τ).loc Cert.FwdBIdeal.main_arg4))
      ∧ θ_run (Cert.FwdBRefIdeal.defs (F := Ideal)) (onTc (τ := Cert.FwdBRefIdeal.τ) (Cert.FwdBRefIdeal.main (F := Ideal))) ⟨m', fun _ => 0, g'⟩ (fun r => ∀ c : Dev Cert.FwdBRefIdeal.nD,
          r.2.mem ((c.tc : Thread Cert.FwdBRefIdeal.nD Cert.FwdBRefIdeal.τ).loc Cert.FwdBRefIdeal.main_v40) = v0 c
          ∧ r.2.mem ((c.tc : Thread Cert.FwdBRefIdeal.nD Cert.FwdBRefIdeal.τ).loc Cert.FwdBRefIdeal.main_v41) = v1 c
          ∧ r.2.mem ((c.tc : Thread Cert.FwdBRefIdeal.nD Cert.FwdBRefIdeal.τ).loc Cert.FwdBRefIdeal.main_arg0) = m' ((c.tc : Thread Cert.FwdBRefIdeal.nD Cert.FwdBRefIdeal.τ).loc Cert.FwdBRefIdeal.main_arg0)
          ∧ r.2.mem ((c.tc : Thread Cert.FwdBRefIdeal.nD Cert.FwdBRefIdeal.τ).loc Cert.FwdBRefIdeal.main_arg1) = m' ((c.tc : Thread Cert.FwdBRefIdeal.nD Cert.FwdBRefIdeal.τ).loc Cert.FwdBRefIdeal.main_arg1)
          ∧ r.2.mem ((c.tc : Thread Cert.FwdBRefIdeal.nD Cert.FwdBRefIdeal.τ).loc Cert.FwdBRefIdeal.main_arg2) = m' ((c.tc : Thread Cert.FwdBRefIdeal.nD Cert.FwdBRefIdeal.τ).loc Cert.FwdBRefIdeal.main_arg2)
          ∧ r.2.mem ((c.tc : Thread Cert.FwdBRefIdeal.nD Cert.FwdBRefIdeal.τ).loc Cert.FwdBRefIdeal.main_arg3) = m' ((c.tc : Thread Cert.FwdBRefIdeal.nD Cert.FwdBRefIdeal.τ).loc Cert.FwdBRefIdeal.main_arg3)
          ∧ r.2.mem ((c.tc : Thread Cert.FwdBRefIdeal.nD Cert.FwdBRefIdeal.τ).loc Cert.FwdBRefIdeal.main_arg4) = m' ((c.tc : Thread Cert.FwdBRefIdeal.nD Cert.FwdBRefIdeal.τ).loc Cert.FwdBRefIdeal.main_arg4))

def preserves_BwdA_BwdAIdeal : Prop :=
  True

def algebraic_BwdAIdeal_BwdARefIdeal_pre_finite_ba [hBwdAIdeal : Cert.BwdAIdeal.Facts] [hBwdARefIdeal : Cert.BwdARefIdeal.Facts] [hPre_finite_ba : Cert.Pre_finite_ba.Facts] : Prop :=
  ∀ (m : (ℓ : Loc Cert.BwdAIdeal.nD Cert.BwdAIdeal.τ Cert.BwdAIdeal.sig) → Buf (Elt Ideal) ℓ) (g : Dev Cert.BwdAIdeal.nD → PrngReg)
    (m' : (ℓ : Loc Cert.BwdARefIdeal.nD Cert.BwdARefIdeal.τ Cert.BwdARefIdeal.sig) → Buf (Elt Ideal) ℓ) (g' : Dev Cert.BwdARefIdeal.nD → PrngReg), Pre_BwdAIdeal_finite_ba m →
    (∀ c : Dev Cert.BwdAIdeal.nD,
      m' ((c.tc : Thread Cert.BwdARefIdeal.nD Cert.BwdARefIdeal.τ).loc Cert.BwdARefIdeal.main_arg0) = m ((c.tc : Thread Cert.BwdAIdeal.nD Cert.BwdAIdeal.τ).loc Cert.BwdAIdeal.main_arg0)
      ∧ m' ((c.tc : Thread Cert.BwdARefIdeal.nD Cert.BwdARefIdeal.τ).loc Cert.BwdARefIdeal.main_arg1) = m ((c.tc : Thread Cert.BwdAIdeal.nD Cert.BwdAIdeal.τ).loc Cert.BwdAIdeal.main_arg1)
      ∧ m' ((c.tc : Thread Cert.BwdARefIdeal.nD Cert.BwdARefIdeal.τ).loc Cert.BwdARefIdeal.main_arg2) = m ((c.tc : Thread Cert.BwdAIdeal.nD Cert.BwdAIdeal.τ).loc Cert.BwdAIdeal.main_arg2)
      ∧ m' ((c.tc : Thread Cert.BwdARefIdeal.nD Cert.BwdARefIdeal.τ).loc Cert.BwdARefIdeal.main_arg3) = m ((c.tc : Thread Cert.BwdAIdeal.nD Cert.BwdAIdeal.τ).loc Cert.BwdAIdeal.main_arg3)
      ∧ m' ((c.tc : Thread Cert.BwdARefIdeal.nD Cert.BwdARefIdeal.τ).loc Cert.BwdARefIdeal.main_arg4) = m ((c.tc : Thread Cert.BwdAIdeal.nD Cert.BwdAIdeal.τ).loc Cert.BwdAIdeal.main_arg4)) →
    ∃ (v0 : (c : Dev Cert.BwdAIdeal.nD) → Buf (Elt Ideal) ((c.tc : Thread Cert.BwdAIdeal.nD Cert.BwdAIdeal.τ).loc Cert.BwdAIdeal.main_v21_2)) (v1 : (c : Dev Cert.BwdAIdeal.nD) → Buf (Elt Ideal) ((c.tc : Thread Cert.BwdAIdeal.nD Cert.BwdAIdeal.τ).loc Cert.BwdAIdeal.main_v21_3)) (v2 : (c : Dev Cert.BwdAIdeal.nD) → Buf (Elt Ideal) ((c.tc : Thread Cert.BwdAIdeal.nD Cert.BwdAIdeal.τ).loc Cert.BwdAIdeal.main_v21_4)),
      θ_run (Cert.BwdAIdeal.defs (F := Ideal)) (onTc (τ := Cert.BwdAIdeal.τ) (Cert.BwdAIdeal.main (F := Ideal))) ⟨m, fun _ => 0, g⟩ (fun r => ∀ c : Dev Cert.BwdAIdeal.nD,
          r.2.mem ((c.tc : Thread Cert.BwdAIdeal.nD Cert.BwdAIdeal.τ).loc Cert.BwdAIdeal.main_v21_2) = v0 c
          ∧ r.2.mem ((c.tc : Thread Cert.BwdAIdeal.nD Cert.BwdAIdeal.τ).loc Cert.BwdAIdeal.main_v21_3) = v1 c
          ∧ r.2.mem ((c.tc : Thread Cert.BwdAIdeal.nD Cert.BwdAIdeal.τ).loc Cert.BwdAIdeal.main_v21_4) = v2 c
          ∧ r.2.mem ((c.tc : Thread Cert.BwdAIdeal.nD Cert.BwdAIdeal.τ).loc Cert.BwdAIdeal.main_arg0) = m ((c.tc : Thread Cert.BwdAIdeal.nD Cert.BwdAIdeal.τ).loc Cert.BwdAIdeal.main_arg0)
          ∧ r.2.mem ((c.tc : Thread Cert.BwdAIdeal.nD Cert.BwdAIdeal.τ).loc Cert.BwdAIdeal.main_arg1) = m ((c.tc : Thread Cert.BwdAIdeal.nD Cert.BwdAIdeal.τ).loc Cert.BwdAIdeal.main_arg1)
          ∧ r.2.mem ((c.tc : Thread Cert.BwdAIdeal.nD Cert.BwdAIdeal.τ).loc Cert.BwdAIdeal.main_arg2) = m ((c.tc : Thread Cert.BwdAIdeal.nD Cert.BwdAIdeal.τ).loc Cert.BwdAIdeal.main_arg2)
          ∧ r.2.mem ((c.tc : Thread Cert.BwdAIdeal.nD Cert.BwdAIdeal.τ).loc Cert.BwdAIdeal.main_arg3) = m ((c.tc : Thread Cert.BwdAIdeal.nD Cert.BwdAIdeal.τ).loc Cert.BwdAIdeal.main_arg3)
          ∧ r.2.mem ((c.tc : Thread Cert.BwdAIdeal.nD Cert.BwdAIdeal.τ).loc Cert.BwdAIdeal.main_arg4) = m ((c.tc : Thread Cert.BwdAIdeal.nD Cert.BwdAIdeal.τ).loc Cert.BwdAIdeal.main_arg4))
      ∧ θ_run (Cert.BwdARefIdeal.defs (F := Ideal)) (onTc (τ := Cert.BwdARefIdeal.τ) (Cert.BwdARefIdeal.main (F := Ideal))) ⟨m', fun _ => 0, g'⟩ (fun r => ∀ c : Dev Cert.BwdARefIdeal.nD,
          r.2.mem ((c.tc : Thread Cert.BwdARefIdeal.nD Cert.BwdARefIdeal.τ).loc Cert.BwdARefIdeal.main_v38) = v0 c
          ∧ r.2.mem ((c.tc : Thread Cert.BwdARefIdeal.nD Cert.BwdARefIdeal.τ).loc Cert.BwdARefIdeal.main_v37) = v1 c
          ∧ r.2.mem ((c.tc : Thread Cert.BwdARefIdeal.nD Cert.BwdARefIdeal.τ).loc Cert.BwdARefIdeal.main_v22) = v2 c
          ∧ r.2.mem ((c.tc : Thread Cert.BwdARefIdeal.nD Cert.BwdARefIdeal.τ).loc Cert.BwdARefIdeal.main_arg0) = m' ((c.tc : Thread Cert.BwdARefIdeal.nD Cert.BwdARefIdeal.τ).loc Cert.BwdARefIdeal.main_arg0)
          ∧ r.2.mem ((c.tc : Thread Cert.BwdARefIdeal.nD Cert.BwdARefIdeal.τ).loc Cert.BwdARefIdeal.main_arg1) = m' ((c.tc : Thread Cert.BwdARefIdeal.nD Cert.BwdARefIdeal.τ).loc Cert.BwdARefIdeal.main_arg1)
          ∧ r.2.mem ((c.tc : Thread Cert.BwdARefIdeal.nD Cert.BwdARefIdeal.τ).loc Cert.BwdARefIdeal.main_arg2) = m' ((c.tc : Thread Cert.BwdARefIdeal.nD Cert.BwdARefIdeal.τ).loc Cert.BwdARefIdeal.main_arg2)
          ∧ r.2.mem ((c.tc : Thread Cert.BwdARefIdeal.nD Cert.BwdARefIdeal.τ).loc Cert.BwdARefIdeal.main_arg3) = m' ((c.tc : Thread Cert.BwdARefIdeal.nD Cert.BwdARefIdeal.τ).loc Cert.BwdARefIdeal.main_arg3)
          ∧ r.2.mem ((c.tc : Thread Cert.BwdARefIdeal.nD Cert.BwdARefIdeal.τ).loc Cert.BwdARefIdeal.main_arg4) = m' ((c.tc : Thread Cert.BwdARefIdeal.nD Cert.BwdARefIdeal.τ).loc Cert.BwdARefIdeal.main_arg4))

def preserves_BwdB_BwdBIdeal : Prop :=
  True

def algebraic_BwdBIdeal_BwdBRefIdeal_pre_finite_bb [hBwdBIdeal : Cert.BwdBIdeal.Facts] [hBwdBRefIdeal : Cert.BwdBRefIdeal.Facts] [hPre_finite_bb : Cert.Pre_finite_bb.Facts] : Prop :=
  ∀ (m : (ℓ : Loc Cert.BwdBIdeal.nD Cert.BwdBIdeal.τ Cert.BwdBIdeal.sig) → Buf (Elt Ideal) ℓ) (g : Dev Cert.BwdBIdeal.nD → PrngReg)
    (m' : (ℓ : Loc Cert.BwdBRefIdeal.nD Cert.BwdBRefIdeal.τ Cert.BwdBRefIdeal.sig) → Buf (Elt Ideal) ℓ) (g' : Dev Cert.BwdBRefIdeal.nD → PrngReg), Pre_BwdBIdeal_finite_bb m →
    (∀ c : Dev Cert.BwdBIdeal.nD,
      m' ((c.tc : Thread Cert.BwdBRefIdeal.nD Cert.BwdBRefIdeal.τ).loc Cert.BwdBRefIdeal.main_arg0) = m ((c.tc : Thread Cert.BwdBIdeal.nD Cert.BwdBIdeal.τ).loc Cert.BwdBIdeal.main_arg0)
      ∧ m' ((c.tc : Thread Cert.BwdBRefIdeal.nD Cert.BwdBRefIdeal.τ).loc Cert.BwdBRefIdeal.main_arg1) = m ((c.tc : Thread Cert.BwdBIdeal.nD Cert.BwdBIdeal.τ).loc Cert.BwdBIdeal.main_arg1)
      ∧ m' ((c.tc : Thread Cert.BwdBRefIdeal.nD Cert.BwdBRefIdeal.τ).loc Cert.BwdBRefIdeal.main_arg2) = m ((c.tc : Thread Cert.BwdBIdeal.nD Cert.BwdBIdeal.τ).loc Cert.BwdBIdeal.main_arg2)
      ∧ m' ((c.tc : Thread Cert.BwdBRefIdeal.nD Cert.BwdBRefIdeal.τ).loc Cert.BwdBRefIdeal.main_arg3) = m ((c.tc : Thread Cert.BwdBIdeal.nD Cert.BwdBIdeal.τ).loc Cert.BwdBIdeal.main_arg3)
      ∧ m' ((c.tc : Thread Cert.BwdBRefIdeal.nD Cert.BwdBRefIdeal.τ).loc Cert.BwdBRefIdeal.main_arg4) = m ((c.tc : Thread Cert.BwdBIdeal.nD Cert.BwdBIdeal.τ).loc Cert.BwdBIdeal.main_arg4)
      ∧ m' ((c.tc : Thread Cert.BwdBRefIdeal.nD Cert.BwdBRefIdeal.τ).loc Cert.BwdBRefIdeal.main_arg5) = m ((c.tc : Thread Cert.BwdBIdeal.nD Cert.BwdBIdeal.τ).loc Cert.BwdBIdeal.main_arg5)) →
    ∃ (v0 : (c : Dev Cert.BwdBIdeal.nD) → Buf (Elt Ideal) ((c.tc : Thread Cert.BwdBIdeal.nD Cert.BwdBIdeal.τ).loc Cert.BwdBIdeal.main_v64_0)) (v1 : (c : Dev Cert.BwdBIdeal.nD) → Buf (Elt Ideal) ((c.tc : Thread Cert.BwdBIdeal.nD Cert.BwdBIdeal.τ).loc Cert.BwdBIdeal.main_v64_3)) (v2 : (c : Dev Cert.BwdBIdeal.nD) → Buf (Elt Ideal) ((c.tc : Thread Cert.BwdBIdeal.nD Cert.BwdBIdeal.τ).loc Cert.BwdBIdeal.main_v64_4)),
      θ_run (Cert.BwdBIdeal.defs (F := Ideal)) (onTc (τ := Cert.BwdBIdeal.τ) (Cert.BwdBIdeal.main (F := Ideal))) ⟨m, fun _ => 0, g⟩ (fun r => ∀ c : Dev Cert.BwdBIdeal.nD,
          r.2.mem ((c.tc : Thread Cert.BwdBIdeal.nD Cert.BwdBIdeal.τ).loc Cert.BwdBIdeal.main_v64_0) = v0 c
          ∧ r.2.mem ((c.tc : Thread Cert.BwdBIdeal.nD Cert.BwdBIdeal.τ).loc Cert.BwdBIdeal.main_v64_3) = v1 c
          ∧ r.2.mem ((c.tc : Thread Cert.BwdBIdeal.nD Cert.BwdBIdeal.τ).loc Cert.BwdBIdeal.main_v64_4) = v2 c
          ∧ r.2.mem ((c.tc : Thread Cert.BwdBIdeal.nD Cert.BwdBIdeal.τ).loc Cert.BwdBIdeal.main_arg0) = m ((c.tc : Thread Cert.BwdBIdeal.nD Cert.BwdBIdeal.τ).loc Cert.BwdBIdeal.main_arg0)
          ∧ r.2.mem ((c.tc : Thread Cert.BwdBIdeal.nD Cert.BwdBIdeal.τ).loc Cert.BwdBIdeal.main_arg1) = m ((c.tc : Thread Cert.BwdBIdeal.nD Cert.BwdBIdeal.τ).loc Cert.BwdBIdeal.main_arg1)
          ∧ r.2.mem ((c.tc : Thread Cert.BwdBIdeal.nD Cert.BwdBIdeal.τ).loc Cert.BwdBIdeal.main_arg2) = m ((c.tc : Thread Cert.BwdBIdeal.nD Cert.BwdBIdeal.τ).loc Cert.BwdBIdeal.main_arg2)
          ∧ r.2.mem ((c.tc : Thread Cert.BwdBIdeal.nD Cert.BwdBIdeal.τ).loc Cert.BwdBIdeal.main_arg3) = m ((c.tc : Thread Cert.BwdBIdeal.nD Cert.BwdBIdeal.τ).loc Cert.BwdBIdeal.main_arg3)
          ∧ r.2.mem ((c.tc : Thread Cert.BwdBIdeal.nD Cert.BwdBIdeal.τ).loc Cert.BwdBIdeal.main_arg4) = m ((c.tc : Thread Cert.BwdBIdeal.nD Cert.BwdBIdeal.τ).loc Cert.BwdBIdeal.main_arg4)
          ∧ r.2.mem ((c.tc : Thread Cert.BwdBIdeal.nD Cert.BwdBIdeal.τ).loc Cert.BwdBIdeal.main_arg5) = m ((c.tc : Thread Cert.BwdBIdeal.nD Cert.BwdBIdeal.τ).loc Cert.BwdBIdeal.main_arg5))
      ∧ θ_run (Cert.BwdBRefIdeal.defs (F := Ideal)) (onTc (τ := Cert.BwdBRefIdeal.τ) (Cert.BwdBRefIdeal.main (F := Ideal))) ⟨m', fun _ => 0, g'⟩ (fun r => ∀ c : Dev Cert.BwdBRefIdeal.nD,
          r.2.mem ((c.tc : Thread Cert.BwdBRefIdeal.nD Cert.BwdBRefIdeal.τ).loc Cert.BwdBRefIdeal.main_v75) = v0 c
          ∧ r.2.mem ((c.tc : Thread Cert.BwdBRefIdeal.nD Cert.BwdBRefIdeal.τ).loc Cert.BwdBRefIdeal.main_v77) = v1 c
          ∧ r.2.mem ((c.tc : Thread Cert.BwdBRefIdeal.nD Cert.BwdBRefIdeal.τ).loc Cert.BwdBRefIdeal.main_v58) = v2 c
          ∧ r.2.mem ((c.tc : Thread Cert.BwdBRefIdeal.nD Cert.BwdBRefIdeal.τ).loc Cert.BwdBRefIdeal.main_arg0) = m' ((c.tc : Thread Cert.BwdBRefIdeal.nD Cert.BwdBRefIdeal.τ).loc Cert.BwdBRefIdeal.main_arg0)
          ∧ r.2.mem ((c.tc : Thread Cert.BwdBRefIdeal.nD Cert.BwdBRefIdeal.τ).loc Cert.BwdBRefIdeal.main_arg1) = m' ((c.tc : Thread Cert.BwdBRefIdeal.nD Cert.BwdBRefIdeal.τ).loc Cert.BwdBRefIdeal.main_arg1)
          ∧ r.2.mem ((c.tc : Thread Cert.BwdBRefIdeal.nD Cert.BwdBRefIdeal.τ).loc Cert.BwdBRefIdeal.main_arg2) = m' ((c.tc : Thread Cert.BwdBRefIdeal.nD Cert.BwdBRefIdeal.τ).loc Cert.BwdBRefIdeal.main_arg2)
          ∧ r.2.mem ((c.tc : Thread Cert.BwdBRefIdeal.nD Cert.BwdBRefIdeal.τ).loc Cert.BwdBRefIdeal.main_arg3) = m' ((c.tc : Thread Cert.BwdBRefIdeal.nD Cert.BwdBRefIdeal.τ).loc Cert.BwdBRefIdeal.main_arg3)
          ∧ r.2.mem ((c.tc : Thread Cert.BwdBRefIdeal.nD Cert.BwdBRefIdeal.τ).loc Cert.BwdBRefIdeal.main_arg4) = m' ((c.tc : Thread Cert.BwdBRefIdeal.nD Cert.BwdBRefIdeal.τ).loc Cert.BwdBRefIdeal.main_arg4)
          ∧ r.2.mem ((c.tc : Thread Cert.BwdBRefIdeal.nD Cert.BwdBRefIdeal.τ).loc Cert.BwdBRefIdeal.main_arg5) = m' ((c.tc : Thread Cert.BwdBRefIdeal.nD Cert.BwdBRefIdeal.τ).loc Cert.BwdBRefIdeal.main_arg5))

def preserves_AdaB_AdaBIdeal : Prop :=
  True

def algebraic_AdaBIdeal_AdaBRefIdeal [hAdaBIdeal : Cert.AdaBIdeal.Facts] [hAdaBRefIdeal : Cert.AdaBRefIdeal.Facts] : Prop :=
  ∀ (m : (ℓ : Loc Cert.AdaBIdeal.nD Cert.AdaBIdeal.τ Cert.AdaBIdeal.sig) → Buf (Elt Ideal) ℓ) (g : Dev Cert.AdaBIdeal.nD → PrngReg)
    (m' : (ℓ : Loc Cert.AdaBRefIdeal.nD Cert.AdaBRefIdeal.τ Cert.AdaBRefIdeal.sig) → Buf (Elt Ideal) ℓ) (g' : Dev Cert.AdaBRefIdeal.nD → PrngReg), Pre_AdaBIdeal m →
    (∀ c : Dev Cert.AdaBIdeal.nD,
      m' ((c.tc : Thread Cert.AdaBRefIdeal.nD Cert.AdaBRefIdeal.τ).loc Cert.AdaBRefIdeal.main_arg0) = m ((c.tc : Thread Cert.AdaBIdeal.nD Cert.AdaBIdeal.τ).loc Cert.AdaBIdeal.main_arg0)
      ∧ m' ((c.tc : Thread Cert.AdaBRefIdeal.nD Cert.AdaBRefIdeal.τ).loc Cert.AdaBRefIdeal.main_arg1) = m ((c.tc : Thread Cert.AdaBIdeal.nD Cert.AdaBIdeal.τ).loc Cert.AdaBIdeal.main_arg1)
      ∧ m' ((c.tc : Thread Cert.AdaBRefIdeal.nD Cert.AdaBRefIdeal.τ).loc Cert.AdaBRefIdeal.main_arg2) = m ((c.tc : Thread Cert.AdaBIdeal.nD Cert.AdaBIdeal.τ).loc Cert.AdaBIdeal.main_arg2)) →
    ∃ (v0 : (c : Dev Cert.AdaBIdeal.nD) → Buf (Elt Ideal) ((c.tc : Thread Cert.AdaBIdeal.nD Cert.AdaBIdeal.τ).loc Cert.AdaBIdeal.main_v0_0)) (v1 : (c : Dev Cert.AdaBIdeal.nD) → Buf (Elt Ideal) ((c.tc : Thread Cert.AdaBIdeal.nD Cert.AdaBIdeal.τ).loc Cert.AdaBIdeal.main_v0_1)),
      θ_run (Cert.AdaBIdeal.defs (F := Ideal)) (onTc (τ := Cert.AdaBIdeal.τ) (Cert.AdaBIdeal.main (F := Ideal))) ⟨m, fun _ => 0, g⟩ (fun r => ∀ c : Dev Cert.AdaBIdeal.nD,
          r.2.mem ((c.tc : Thread Cert.AdaBIdeal.nD Cert.AdaBIdeal.τ).loc Cert.AdaBIdeal.main_v0_0) = v0 c
          ∧ r.2.mem ((c.tc : Thread Cert.AdaBIdeal.nD Cert.AdaBIdeal.τ).loc Cert.AdaBIdeal.main_v0_1) = v1 c
          ∧ r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
          ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1)
          ∧ r.2.mem ((c.tc : Thread Cert.AdaBIdeal.nD Cert.AdaBIdeal.τ).loc Cert.AdaBIdeal.main_arg2) = m ((c.tc : Thread Cert.AdaBIdeal.nD Cert.AdaBIdeal.τ).loc Cert.AdaBIdeal.main_arg2))
      ∧ θ_run (Cert.AdaBRefIdeal.defs (F := Ideal)) (onTc (τ := Cert.AdaBRefIdeal.τ) (Cert.AdaBRefIdeal.main (F := Ideal))) ⟨m', fun _ => 0, g'⟩ (fun r => ∀ c : Dev Cert.AdaBRefIdeal.nD,
          r.2.mem ((c.tc : Thread Cert.AdaBRefIdeal.nD Cert.AdaBRefIdeal.τ).loc Cert.AdaBRefIdeal.main_v7) = v0 c
          ∧ r.2.mem ((c.tc : Thread Cert.AdaBRefIdeal.nD Cert.AdaBRefIdeal.τ).loc Cert.AdaBRefIdeal.main_v10) = v1 c
          ∧ r.2.mem ((c.tc : Thread Cert.AdaBRefIdeal.nD Cert.AdaBRefIdeal.τ).loc Cert.AdaBRefIdeal.main_arg0) = m' ((c.tc : Thread Cert.AdaBRefIdeal.nD Cert.AdaBRefIdeal.τ).loc Cert.AdaBRefIdeal.main_arg0)
          ∧ r.2.mem ((c.tc : Thread Cert.AdaBRefIdeal.nD Cert.AdaBRefIdeal.τ).loc Cert.AdaBRefIdeal.main_arg1) = m' ((c.tc : Thread Cert.AdaBRefIdeal.nD Cert.AdaBRefIdeal.τ).loc Cert.AdaBRefIdeal.main_arg1)
          ∧ r.2.mem ((c.tc : Thread Cert.AdaBRefIdeal.nD Cert.AdaBRefIdeal.τ).loc Cert.AdaBRefIdeal.main_arg2) = m' ((c.tc : Thread Cert.AdaBRefIdeal.nD Cert.AdaBRefIdeal.τ).loc Cert.AdaBRefIdeal.main_arg2))

def preserves_StepAda_StepAdaIdeal : Prop :=
  True

def algebraic_StepAdaIdeal_StepAdaRefIdeal [hStepAdaIdeal : Cert.StepAdaIdeal.Facts] [hStepAdaRefIdeal : Cert.StepAdaRefIdeal.Facts] : Prop :=
  ∀ (m : (ℓ : Loc Cert.StepAdaIdeal.nD Cert.StepAdaIdeal.τ Cert.StepAdaIdeal.sig) → Buf (Elt Ideal) ℓ) (g : Dev Cert.StepAdaIdeal.nD → PrngReg)
    (m' : (ℓ : Loc Cert.StepAdaRefIdeal.nD Cert.StepAdaRefIdeal.τ Cert.StepAdaRefIdeal.sig) → Buf (Elt Ideal) ℓ) (g' : Dev Cert.StepAdaRefIdeal.nD → PrngReg), Pre_StepAdaIdeal m →
    (∀ c : Dev Cert.StepAdaIdeal.nD,
      m' ((c.tc : Thread Cert.StepAdaRefIdeal.nD Cert.StepAdaRefIdeal.τ).loc Cert.StepAdaRefIdeal.main_arg0) = m ((c.tc : Thread Cert.StepAdaIdeal.nD Cert.StepAdaIdeal.τ).loc Cert.StepAdaIdeal.main_arg0)
      ∧ m' ((c.tc : Thread Cert.StepAdaRefIdeal.nD Cert.StepAdaRefIdeal.τ).loc Cert.StepAdaRefIdeal.main_arg1) = m ((c.tc : Thread Cert.StepAdaIdeal.nD Cert.StepAdaIdeal.τ).loc Cert.StepAdaIdeal.main_arg1)
      ∧ m' ((c.tc : Thread Cert.StepAdaRefIdeal.nD Cert.StepAdaRefIdeal.τ).loc Cert.StepAdaRefIdeal.main_arg2) = m ((c.tc : Thread Cert.StepAdaIdeal.nD Cert.StepAdaIdeal.τ).loc Cert.StepAdaIdeal.main_arg2)
      ∧ m' ((c.tc : Thread Cert.StepAdaRefIdeal.nD Cert.StepAdaRefIdeal.τ).loc Cert.StepAdaRefIdeal.main_arg3) = m ((c.tc : Thread Cert.StepAdaIdeal.nD Cert.StepAdaIdeal.τ).loc Cert.StepAdaIdeal.main_arg3)) →
    ∃ (v0 : (c : Dev Cert.StepAdaIdeal.nD) → Buf (Elt Ideal) ((c.tc : Thread Cert.StepAdaIdeal.nD Cert.StepAdaIdeal.τ).loc Cert.StepAdaIdeal.main_v5_0)) (v1 : (c : Dev Cert.StepAdaIdeal.nD) → Buf (Elt Ideal) ((c.tc : Thread Cert.StepAdaIdeal.nD Cert.StepAdaIdeal.τ).loc Cert.StepAdaIdeal.main_v5_1)) (v2 : (c : Dev Cert.StepAdaIdeal.nD) → Buf (Elt Ideal) ((c.tc : Thread Cert.StepAdaIdeal.nD Cert.StepAdaIdeal.τ).loc Cert.StepAdaIdeal.main_v5_2)),
      θ_run (Cert.StepAdaIdeal.defs (F := Ideal)) (onTc (τ := Cert.StepAdaIdeal.τ) (Cert.StepAdaIdeal.main (F := Ideal))) ⟨m, fun _ => 0, g⟩ (fun r => ∀ c : Dev Cert.StepAdaIdeal.nD,
          r.2.mem ((c.tc : Thread Cert.StepAdaIdeal.nD Cert.StepAdaIdeal.τ).loc Cert.StepAdaIdeal.main_v5_0) = v0 c
          ∧ r.2.mem ((c.tc : Thread Cert.StepAdaIdeal.nD Cert.StepAdaIdeal.τ).loc Cert.StepAdaIdeal.main_v5_1) = v1 c
          ∧ r.2.mem ((c.tc : Thread Cert.StepAdaIdeal.nD Cert.StepAdaIdeal.τ).loc Cert.StepAdaIdeal.main_v5_2) = v2 c
          ∧ r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
          ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
          ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
          ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
      ∧ θ_run (Cert.StepAdaRefIdeal.defs (F := Ideal)) (onTc (τ := Cert.StepAdaRefIdeal.τ) (Cert.StepAdaRefIdeal.main (F := Ideal))) ⟨m', fun _ => 0, g'⟩ (fun r => ∀ c : Dev Cert.StepAdaRefIdeal.nD,
          r.2.mem ((c.tc : Thread Cert.StepAdaRefIdeal.nD Cert.StepAdaRefIdeal.τ).loc Cert.StepAdaRefIdeal.main_v24) = v0 c
          ∧ r.2.mem ((c.tc : Thread Cert.StepAdaRefIdeal.nD Cert.StepAdaRefIdeal.τ).loc Cert.StepAdaRefIdeal.main_v25) = v1 c
          ∧ r.2.mem ((c.tc : Thread Cert.StepAdaRefIdeal.nD Cert.StepAdaRefIdeal.τ).loc Cert.StepAdaRefIdeal.main_v26) = v2 c
          ∧ r.2.mem ((c.tc : Thread Cert.StepAdaRefIdeal.nD Cert.StepAdaRefIdeal.τ).loc Cert.StepAdaRefIdeal.main_arg0) = m' ((c.tc : Thread Cert.StepAdaRefIdeal.nD Cert.StepAdaRefIdeal.τ).loc Cert.StepAdaRefIdeal.main_arg0)
          ∧ r.2.mem ((c.tc : Thread Cert.StepAdaRefIdeal.nD Cert.StepAdaRefIdeal.τ).loc Cert.StepAdaRefIdeal.main_arg1) = m' ((c.tc : Thread Cert.StepAdaRefIdeal.nD Cert.StepAdaRefIdeal.τ).loc Cert.StepAdaRefIdeal.main_arg1)
          ∧ r.2.mem ((c.tc : Thread Cert.StepAdaRefIdeal.nD Cert.StepAdaRefIdeal.τ).loc Cert.StepAdaRefIdeal.main_arg2) = m' ((c.tc : Thread Cert.StepAdaRefIdeal.nD Cert.StepAdaRefIdeal.τ).loc Cert.StepAdaRefIdeal.main_arg2)
          ∧ r.2.mem ((c.tc : Thread Cert.StepAdaRefIdeal.nD Cert.StepAdaRefIdeal.τ).loc Cert.StepAdaRefIdeal.main_arg3) = m' ((c.tc : Thread Cert.StepAdaRefIdeal.nD Cert.StepAdaRefIdeal.τ).loc Cert.StepAdaRefIdeal.main_arg3))

def preserves_StepIn_StepInIdeal : Prop :=
  True

def algebraic_StepInIdeal_StepInRefIdeal [hStepInIdeal : Cert.StepInIdeal.Facts] [hStepInRefIdeal : Cert.StepInRefIdeal.Facts] : Prop :=
  ∀ (m : (ℓ : Loc Cert.StepInIdeal.nD Cert.StepInIdeal.τ Cert.StepInIdeal.sig) → Buf (Elt Ideal) ℓ) (g : Dev Cert.StepInIdeal.nD → PrngReg)
    (m' : (ℓ : Loc Cert.StepInRefIdeal.nD Cert.StepInRefIdeal.τ Cert.StepInRefIdeal.sig) → Buf (Elt Ideal) ℓ) (g' : Dev Cert.StepInRefIdeal.nD → PrngReg), Pre_StepInIdeal m →
    (∀ c : Dev Cert.StepInIdeal.nD,
      m' ((c.tc : Thread Cert.StepInRefIdeal.nD Cert.StepInRefIdeal.τ).loc Cert.StepInRefIdeal.main_arg0) = m ((c.tc : Thread Cert.StepInIdeal.nD Cert.StepInIdeal.τ).loc Cert.StepInIdeal.main_arg0)
      ∧ m' ((c.tc : Thread Cert.StepInRefIdeal.nD Cert.StepInRefIdeal.τ).loc Cert.StepInRefIdeal.main_arg1) = m ((c.tc : Thread Cert.StepInIdeal.nD Cert.StepInIdeal.τ).loc Cert.StepInIdeal.main_arg1)
      ∧ m' ((c.tc : Thread Cert.StepInRefIdeal.nD Cert.StepInRefIdeal.τ).loc Cert.StepInRefIdeal.main_arg2) = m ((c.tc : Thread Cert.StepInIdeal.nD Cert.StepInIdeal.τ).loc Cert.StepInIdeal.main_arg2)
      ∧ m' ((c.tc : Thread Cert.StepInRefIdeal.nD Cert.StepInRefIdeal.τ).loc Cert.StepInRefIdeal.main_arg3) = m ((c.tc : Thread Cert.StepInIdeal.nD Cert.StepInIdeal.τ).loc Cert.StepInIdeal.main_arg3)) →
    ∃ (v0 : (c : Dev Cert.StepInIdeal.nD) → Buf (Elt Ideal) ((c.tc : Thread Cert.StepInIdeal.nD Cert.StepInIdeal.τ).loc Cert.StepInIdeal.main_v5_0)) (v1 : (c : Dev Cert.StepInIdeal.nD) → Buf (Elt Ideal) ((c.tc : Thread Cert.StepInIdeal.nD Cert.StepInIdeal.τ).loc Cert.StepInIdeal.main_v5_1)) (v2 : (c : Dev Cert.StepInIdeal.nD) → Buf (Elt Ideal) ((c.tc : Thread Cert.StepInIdeal.nD Cert.StepInIdeal.τ).loc Cert.StepInIdeal.main_v5_2)),
      θ_run (Cert.StepInIdeal.defs (F := Ideal)) (onTc (τ := Cert.StepInIdeal.τ) (Cert.StepInIdeal.main (F := Ideal))) ⟨m, fun _ => 0, g⟩ (fun r => ∀ c : Dev Cert.StepInIdeal.nD,
          r.2.mem ((c.tc : Thread Cert.StepInIdeal.nD Cert.StepInIdeal.τ).loc Cert.StepInIdeal.main_v5_0) = v0 c
          ∧ r.2.mem ((c.tc : Thread Cert.StepInIdeal.nD Cert.StepInIdeal.τ).loc Cert.StepInIdeal.main_v5_1) = v1 c
          ∧ r.2.mem ((c.tc : Thread Cert.StepInIdeal.nD Cert.StepInIdeal.τ).loc Cert.StepInIdeal.main_v5_2) = v2 c
          ∧ r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
          ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
          ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
          ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
      ∧ θ_run (Cert.StepInRefIdeal.defs (F := Ideal)) (onTc (τ := Cert.StepInRefIdeal.τ) (Cert.StepInRefIdeal.main (F := Ideal))) ⟨m', fun _ => 0, g'⟩ (fun r => ∀ c : Dev Cert.StepInRefIdeal.nD,
          r.2.mem ((c.tc : Thread Cert.StepInRefIdeal.nD Cert.StepInRefIdeal.τ).loc Cert.StepInRefIdeal.main_v24) = v0 c
          ∧ r.2.mem ((c.tc : Thread Cert.StepInRefIdeal.nD Cert.StepInRefIdeal.τ).loc Cert.StepInRefIdeal.main_v25) = v1 c
          ∧ r.2.mem ((c.tc : Thread Cert.StepInRefIdeal.nD Cert.StepInRefIdeal.τ).loc Cert.StepInRefIdeal.main_v26) = v2 c
          ∧ r.2.mem ((c.tc : Thread Cert.StepInRefIdeal.nD Cert.StepInRefIdeal.τ).loc Cert.StepInRefIdeal.main_arg0) = m' ((c.tc : Thread Cert.StepInRefIdeal.nD Cert.StepInRefIdeal.τ).loc Cert.StepInRefIdeal.main_arg0)
          ∧ r.2.mem ((c.tc : Thread Cert.StepInRefIdeal.nD Cert.StepInRefIdeal.τ).loc Cert.StepInRefIdeal.main_arg1) = m' ((c.tc : Thread Cert.StepInRefIdeal.nD Cert.StepInRefIdeal.τ).loc Cert.StepInRefIdeal.main_arg1)
          ∧ r.2.mem ((c.tc : Thread Cert.StepInRefIdeal.nD Cert.StepInRefIdeal.τ).loc Cert.StepInRefIdeal.main_arg2) = m' ((c.tc : Thread Cert.StepInRefIdeal.nD Cert.StepInRefIdeal.τ).loc Cert.StepInRefIdeal.main_arg2)
          ∧ r.2.mem ((c.tc : Thread Cert.StepInRefIdeal.nD Cert.StepInRefIdeal.τ).loc Cert.StepInRefIdeal.main_arg3) = m' ((c.tc : Thread Cert.StepInRefIdeal.nD Cert.StepInRefIdeal.τ).loc Cert.StepInRefIdeal.main_arg3))

def preserves_StepOut_StepOutIdeal : Prop :=
  True

def algebraic_StepOutIdeal_StepOutRefIdeal [hStepOutIdeal : Cert.StepOutIdeal.Facts] [hStepOutRefIdeal : Cert.StepOutRefIdeal.Facts] : Prop :=
  ∀ (m : (ℓ : Loc Cert.StepOutIdeal.nD Cert.StepOutIdeal.τ Cert.StepOutIdeal.sig) → Buf (Elt Ideal) ℓ) (g : Dev Cert.StepOutIdeal.nD → PrngReg)
    (m' : (ℓ : Loc Cert.StepOutRefIdeal.nD Cert.StepOutRefIdeal.τ Cert.StepOutRefIdeal.sig) → Buf (Elt Ideal) ℓ) (g' : Dev Cert.StepOutRefIdeal.nD → PrngReg), Pre_StepOutIdeal m →
    (∀ c : Dev Cert.StepOutIdeal.nD,
      m' ((c.tc : Thread Cert.StepOutRefIdeal.nD Cert.StepOutRefIdeal.τ).loc Cert.StepOutRefIdeal.main_arg0) = m ((c.tc : Thread Cert.StepOutIdeal.nD Cert.StepOutIdeal.τ).loc Cert.StepOutIdeal.main_arg0)
      ∧ m' ((c.tc : Thread Cert.StepOutRefIdeal.nD Cert.StepOutRefIdeal.τ).loc Cert.StepOutRefIdeal.main_arg1) = m ((c.tc : Thread Cert.StepOutIdeal.nD Cert.StepOutIdeal.τ).loc Cert.StepOutIdeal.main_arg1)
      ∧ m' ((c.tc : Thread Cert.StepOutRefIdeal.nD Cert.StepOutRefIdeal.τ).loc Cert.StepOutRefIdeal.main_arg2) = m ((c.tc : Thread Cert.StepOutIdeal.nD Cert.StepOutIdeal.τ).loc Cert.StepOutIdeal.main_arg2)
      ∧ m' ((c.tc : Thread Cert.StepOutRefIdeal.nD Cert.StepOutRefIdeal.τ).loc Cert.StepOutRefIdeal.main_arg3) = m ((c.tc : Thread Cert.StepOutIdeal.nD Cert.StepOutIdeal.τ).loc Cert.StepOutIdeal.main_arg3)) →
    ∃ (v0 : (c : Dev Cert.StepOutIdeal.nD) → Buf (Elt Ideal) ((c.tc : Thread Cert.StepOutIdeal.nD Cert.StepOutIdeal.τ).loc Cert.StepOutIdeal.main_v5_0)) (v1 : (c : Dev Cert.StepOutIdeal.nD) → Buf (Elt Ideal) ((c.tc : Thread Cert.StepOutIdeal.nD Cert.StepOutIdeal.τ).loc Cert.StepOutIdeal.main_v5_1)) (v2 : (c : Dev Cert.StepOutIdeal.nD) → Buf (Elt Ideal) ((c.tc : Thread Cert.StepOutIdeal.nD Cert.StepOutIdeal.τ).loc Cert.StepOutIdeal.main_v5_2)),
      θ_run (Cert.StepOutIdeal.defs (F := Ideal)) (onTc (τ := Cert.StepOutIdeal.τ) (Cert.StepOutIdeal.main (F := Ideal))) ⟨m, fun _ => 0, g⟩ (fun r => ∀ c : Dev Cert.StepOutIdeal.nD,
          r.2.mem ((c.tc : Thread Cert.StepOutIdeal.nD Cert.StepOutIdeal.τ).loc Cert.StepOutIdeal.main_v5_0) = v0 c
          ∧ r.2.mem ((c.tc : Thread Cert.StepOutIdeal.nD Cert.StepOutIdeal.τ).loc Cert.StepOutIdeal.main_v5_1) = v1 c
          ∧ r.2.mem ((c.tc : Thread Cert.StepOutIdeal.nD Cert.StepOutIdeal.τ).loc Cert.StepOutIdeal.main_v5_2) = v2 c
          ∧ r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
          ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
          ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
          ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
      ∧ θ_run (Cert.StepOutRefIdeal.defs (F := Ideal)) (onTc (τ := Cert.StepOutRefIdeal.τ) (Cert.StepOutRefIdeal.main (F := Ideal))) ⟨m', fun _ => 0, g'⟩ (fun r => ∀ c : Dev Cert.StepOutRefIdeal.nD,
          r.2.mem ((c.tc : Thread Cert.StepOutRefIdeal.nD Cert.StepOutRefIdeal.τ).loc Cert.StepOutRefIdeal.main_v24) = v0 c
          ∧ r.2.mem ((c.tc : Thread Cert.StepOutRefIdeal.nD Cert.StepOutRefIdeal.τ).loc Cert.StepOutRefIdeal.main_v25) = v1 c
          ∧ r.2.mem ((c.tc : Thread Cert.StepOutRefIdeal.nD Cert.StepOutRefIdeal.τ).loc Cert.StepOutRefIdeal.main_v26) = v2 c
          ∧ r.2.mem ((c.tc : Thread Cert.StepOutRefIdeal.nD Cert.StepOutRefIdeal.τ).loc Cert.StepOutRefIdeal.main_arg0) = m' ((c.tc : Thread Cert.StepOutRefIdeal.nD Cert.StepOutRefIdeal.τ).loc Cert.StepOutRefIdeal.main_arg0)
          ∧ r.2.mem ((c.tc : Thread Cert.StepOutRefIdeal.nD Cert.StepOutRefIdeal.τ).loc Cert.StepOutRefIdeal.main_arg1) = m' ((c.tc : Thread Cert.StepOutRefIdeal.nD Cert.StepOutRefIdeal.τ).loc Cert.StepOutRefIdeal.main_arg1)
          ∧ r.2.mem ((c.tc : Thread Cert.StepOutRefIdeal.nD Cert.StepOutRefIdeal.τ).loc Cert.StepOutRefIdeal.main_arg2) = m' ((c.tc : Thread Cert.StepOutRefIdeal.nD Cert.StepOutRefIdeal.τ).loc Cert.StepOutRefIdeal.main_arg2)
          ∧ r.2.mem ((c.tc : Thread Cert.StepOutRefIdeal.nD Cert.StepOutRefIdeal.τ).loc Cert.StepOutRefIdeal.main_arg3) = m' ((c.tc : Thread Cert.StepOutRefIdeal.nD Cert.StepOutRefIdeal.τ).loc Cert.StepOutRefIdeal.main_arg3))

def preserves_StepGlu_StepGluIdeal : Prop :=
  True

def algebraic_StepGluIdeal_StepGluRefIdeal [hStepGluIdeal : Cert.StepGluIdeal.Facts] [hStepGluRefIdeal : Cert.StepGluRefIdeal.Facts] : Prop :=
  ∀ (m : (ℓ : Loc Cert.StepGluIdeal.nD Cert.StepGluIdeal.τ Cert.StepGluIdeal.sig) → Buf (Elt Ideal) ℓ) (g : Dev Cert.StepGluIdeal.nD → PrngReg)
    (m' : (ℓ : Loc Cert.StepGluRefIdeal.nD Cert.StepGluRefIdeal.τ Cert.StepGluRefIdeal.sig) → Buf (Elt Ideal) ℓ) (g' : Dev Cert.StepGluRefIdeal.nD → PrngReg), Pre_StepGluIdeal m →
    (∀ c : Dev Cert.StepGluIdeal.nD,
      m' ((c.tc : Thread Cert.StepGluRefIdeal.nD Cert.StepGluRefIdeal.τ).loc Cert.StepGluRefIdeal.main_arg0) = m ((c.tc : Thread Cert.StepGluIdeal.nD Cert.StepGluIdeal.τ).loc Cert.StepGluIdeal.main_arg0)
      ∧ m' ((c.tc : Thread Cert.StepGluRefIdeal.nD Cert.StepGluRefIdeal.τ).loc Cert.StepGluRefIdeal.main_arg1) = m ((c.tc : Thread Cert.StepGluIdeal.nD Cert.StepGluIdeal.τ).loc Cert.StepGluIdeal.main_arg1)
      ∧ m' ((c.tc : Thread Cert.StepGluRefIdeal.nD Cert.StepGluRefIdeal.τ).loc Cert.StepGluRefIdeal.main_arg2) = m ((c.tc : Thread Cert.StepGluIdeal.nD Cert.StepGluIdeal.τ).loc Cert.StepGluIdeal.main_arg2)
      ∧ m' ((c.tc : Thread Cert.StepGluRefIdeal.nD Cert.StepGluRefIdeal.τ).loc Cert.StepGluRefIdeal.main_arg3) = m ((c.tc : Thread Cert.StepGluIdeal.nD Cert.StepGluIdeal.τ).loc Cert.StepGluIdeal.main_arg3)) →
    ∃ (v0 : (c : Dev Cert.StepGluIdeal.nD) → Buf (Elt Ideal) ((c.tc : Thread Cert.StepGluIdeal.nD Cert.StepGluIdeal.τ).loc Cert.StepGluIdeal.main_v5_0)) (v1 : (c : Dev Cert.StepGluIdeal.nD) → Buf (Elt Ideal) ((c.tc : Thread Cert.StepGluIdeal.nD Cert.StepGluIdeal.τ).loc Cert.StepGluIdeal.main_v5_1)) (v2 : (c : Dev Cert.StepGluIdeal.nD) → Buf (Elt Ideal) ((c.tc : Thread Cert.StepGluIdeal.nD Cert.StepGluIdeal.τ).loc Cert.StepGluIdeal.main_v5_2)),
      θ_run (Cert.StepGluIdeal.defs (F := Ideal)) (onTc (τ := Cert.StepGluIdeal.τ) (Cert.StepGluIdeal.main (F := Ideal))) ⟨m, fun _ => 0, g⟩ (fun r => ∀ c : Dev Cert.StepGluIdeal.nD,
          r.2.mem ((c.tc : Thread Cert.StepGluIdeal.nD Cert.StepGluIdeal.τ).loc Cert.StepGluIdeal.main_v5_0) = v0 c
          ∧ r.2.mem ((c.tc : Thread Cert.StepGluIdeal.nD Cert.StepGluIdeal.τ).loc Cert.StepGluIdeal.main_v5_1) = v1 c
          ∧ r.2.mem ((c.tc : Thread Cert.StepGluIdeal.nD Cert.StepGluIdeal.τ).loc Cert.StepGluIdeal.main_v5_2) = v2 c
          ∧ r.2.mem ((c.tc : Thread Cert.StepGluIdeal.nD Cert.StepGluIdeal.τ).loc Cert.StepGluIdeal.main_arg0) = m ((c.tc : Thread Cert.StepGluIdeal.nD Cert.StepGluIdeal.τ).loc Cert.StepGluIdeal.main_arg0)
          ∧ r.2.mem ((c.tc : Thread Cert.StepGluIdeal.nD Cert.StepGluIdeal.τ).loc Cert.StepGluIdeal.main_arg1) = m ((c.tc : Thread Cert.StepGluIdeal.nD Cert.StepGluIdeal.τ).loc Cert.StepGluIdeal.main_arg1)
          ∧ r.2.mem ((c.tc : Thread Cert.StepGluIdeal.nD Cert.StepGluIdeal.τ).loc Cert.StepGluIdeal.main_arg2) = m ((c.tc : Thread Cert.StepGluIdeal.nD Cert.StepGluIdeal.τ).loc Cert.StepGluIdeal.main_arg2)
          ∧ r.2.mem ((c.tc : Thread Cert.StepGluIdeal.nD Cert.StepGluIdeal.τ).loc Cert.StepGluIdeal.main_arg3) = m ((c.tc : Thread Cert.StepGluIdeal.nD Cert.StepGluIdeal.τ).loc Cert.StepGluIdeal.main_arg3))
      ∧ θ_run (Cert.StepGluRefIdeal.defs (F := Ideal)) (onTc (τ := Cert.StepGluRefIdeal.τ) (Cert.StepGluRefIdeal.main (F := Ideal))) ⟨m', fun _ => 0, g'⟩ (fun r => ∀ c : Dev Cert.StepGluRefIdeal.nD,
          r.2.mem ((c.tc : Thread Cert.StepGluRefIdeal.nD Cert.StepGluRefIdeal.τ).loc Cert.StepGluRefIdeal.main_v24) = v0 c
          ∧ r.2.mem ((c.tc : Thread Cert.StepGluRefIdeal.nD Cert.StepGluRefIdeal.τ).loc Cert.StepGluRefIdeal.main_v25) = v1 c
          ∧ r.2.mem ((c.tc : Thread Cert.StepGluRefIdeal.nD Cert.StepGluRefIdeal.τ).loc Cert.StepGluRefIdeal.main_v26) = v2 c
          ∧ r.2.mem ((c.tc : Thread Cert.StepGluRefIdeal.nD Cert.StepGluRefIdeal.τ).loc Cert.StepGluRefIdeal.main_arg0) = m' ((c.tc : Thread Cert.StepGluRefIdeal.nD Cert.StepGluRefIdeal.τ).loc Cert.StepGluRefIdeal.main_arg0)
          ∧ r.2.mem ((c.tc : Thread Cert.StepGluRefIdeal.nD Cert.StepGluRefIdeal.τ).loc Cert.StepGluRefIdeal.main_arg1) = m' ((c.tc : Thread Cert.StepGluRefIdeal.nD Cert.StepGluRefIdeal.τ).loc Cert.StepGluRefIdeal.main_arg1)
          ∧ r.2.mem ((c.tc : Thread Cert.StepGluRefIdeal.nD Cert.StepGluRefIdeal.τ).loc Cert.StepGluRefIdeal.main_arg2) = m' ((c.tc : Thread Cert.StepGluRefIdeal.nD Cert.StepGluRefIdeal.τ).loc Cert.StepGluRefIdeal.main_arg2)
          ∧ r.2.mem ((c.tc : Thread Cert.StepGluRefIdeal.nD Cert.StepGluRefIdeal.τ).loc Cert.StepGluRefIdeal.main_arg3) = m' ((c.tc : Thread Cert.StepGluRefIdeal.nD Cert.StepGluRefIdeal.τ).loc Cert.StepGluRefIdeal.main_arg3))

def preserves_StepSq_StepSqIdeal : Prop :=
  True

def algebraic_StepSqIdeal_StepSqRefIdeal [hStepSqIdeal : Cert.StepSqIdeal.Facts] [hStepSqRefIdeal : Cert.StepSqRefIdeal.Facts] : Prop :=
  ∀ (m : (ℓ : Loc Cert.StepSqIdeal.nD Cert.StepSqIdeal.τ Cert.StepSqIdeal.sig) → Buf (Elt Ideal) ℓ) (g : Dev Cert.StepSqIdeal.nD → PrngReg)
    (m' : (ℓ : Loc Cert.StepSqRefIdeal.nD Cert.StepSqRefIdeal.τ Cert.StepSqRefIdeal.sig) → Buf (Elt Ideal) ℓ) (g' : Dev Cert.StepSqRefIdeal.nD → PrngReg), Pre_StepSqIdeal m →
    (∀ c : Dev Cert.StepSqIdeal.nD,
      m' ((c.tc : Thread Cert.StepSqRefIdeal.nD Cert.StepSqRefIdeal.τ).loc Cert.StepSqRefIdeal.main_arg0) = m ((c.tc : Thread Cert.StepSqIdeal.nD Cert.StepSqIdeal.τ).loc Cert.StepSqIdeal.main_arg0)
      ∧ m' ((c.tc : Thread Cert.StepSqRefIdeal.nD Cert.StepSqRefIdeal.τ).loc Cert.StepSqRefIdeal.main_arg1) = m ((c.tc : Thread Cert.StepSqIdeal.nD Cert.StepSqIdeal.τ).loc Cert.StepSqIdeal.main_arg1)
      ∧ m' ((c.tc : Thread Cert.StepSqRefIdeal.nD Cert.StepSqRefIdeal.τ).loc Cert.StepSqRefIdeal.main_arg2) = m ((c.tc : Thread Cert.StepSqIdeal.nD Cert.StepSqIdeal.τ).loc Cert.StepSqIdeal.main_arg2)
      ∧ m' ((c.tc : Thread Cert.StepSqRefIdeal.nD Cert.StepSqRefIdeal.τ).loc Cert.StepSqRefIdeal.main_arg3) = m ((c.tc : Thread Cert.StepSqIdeal.nD Cert.StepSqIdeal.τ).loc Cert.StepSqIdeal.main_arg3)) →
    ∃ (v0 : (c : Dev Cert.StepSqIdeal.nD) → Buf (Elt Ideal) ((c.tc : Thread Cert.StepSqIdeal.nD Cert.StepSqIdeal.τ).loc Cert.StepSqIdeal.main_v5_0)) (v1 : (c : Dev Cert.StepSqIdeal.nD) → Buf (Elt Ideal) ((c.tc : Thread Cert.StepSqIdeal.nD Cert.StepSqIdeal.τ).loc Cert.StepSqIdeal.main_v5_1)) (v2 : (c : Dev Cert.StepSqIdeal.nD) → Buf (Elt Ideal) ((c.tc : Thread Cert.StepSqIdeal.nD Cert.StepSqIdeal.τ).loc Cert.StepSqIdeal.main_v5_2)),
      θ_run (Cert.StepSqIdeal.defs (F := Ideal)) (onTc (τ := Cert.StepSqIdeal.τ) (Cert.StepSqIdeal.main (F := Ideal))) ⟨m, fun _ => 0, g⟩ (fun r => ∀ c : Dev Cert.StepSqIdeal.nD,
          r.2.mem ((c.tc : Thread Cert.StepSqIdeal.nD Cert.StepSqIdeal.τ).loc Cert.StepSqIdeal.main_v5_0) = v0 c
          ∧ r.2.mem ((c.tc : Thread Cert.StepSqIdeal.nD Cert.StepSqIdeal.τ).loc Cert.StepSqIdeal.main_v5_1) = v1 c
          ∧ r.2.mem ((c.tc : Thread Cert.StepSqIdeal.nD Cert.StepSqIdeal.τ).loc Cert.StepSqIdeal.main_v5_2) = v2 c
          ∧ r.2.mem ((c.tc : Thread Cert.StepSqIdeal.nD Cert.StepSqIdeal.τ).loc Cert.StepSqIdeal.main_arg0) = m ((c.tc : Thread Cert.StepSqIdeal.nD Cert.StepSqIdeal.τ).loc Cert.StepSqIdeal.main_arg0)
          ∧ r.2.mem ((c.tc : Thread Cert.StepSqIdeal.nD Cert.StepSqIdeal.τ).loc Cert.StepSqIdeal.main_arg1) = m ((c.tc : Thread Cert.StepSqIdeal.nD Cert.StepSqIdeal.τ).loc Cert.StepSqIdeal.main_arg1)
          ∧ r.2.mem ((c.tc : Thread Cert.StepSqIdeal.nD Cert.StepSqIdeal.τ).loc Cert.StepSqIdeal.main_arg2) = m ((c.tc : Thread Cert.StepSqIdeal.nD Cert.StepSqIdeal.τ).loc Cert.StepSqIdeal.main_arg2)
          ∧ r.2.mem ((c.tc : Thread Cert.StepSqIdeal.nD Cert.StepSqIdeal.τ).loc Cert.StepSqIdeal.main_arg3) = m ((c.tc : Thread Cert.StepSqIdeal.nD Cert.StepSqIdeal.τ).loc Cert.StepSqIdeal.main_arg3))
      ∧ θ_run (Cert.StepSqRefIdeal.defs (F := Ideal)) (onTc (τ := Cert.StepSqRefIdeal.τ) (Cert.StepSqRefIdeal.main (F := Ideal))) ⟨m', fun _ => 0, g'⟩ (fun r => ∀ c : Dev Cert.StepSqRefIdeal.nD,
          r.2.mem ((c.tc : Thread Cert.StepSqRefIdeal.nD Cert.StepSqRefIdeal.τ).loc Cert.StepSqRefIdeal.main_v24) = v0 c
          ∧ r.2.mem ((c.tc : Thread Cert.StepSqRefIdeal.nD Cert.StepSqRefIdeal.τ).loc Cert.StepSqRefIdeal.main_v25) = v1 c
          ∧ r.2.mem ((c.tc : Thread Cert.StepSqRefIdeal.nD Cert.StepSqRefIdeal.τ).loc Cert.StepSqRefIdeal.main_v26) = v2 c
          ∧ r.2.mem ((c.tc : Thread Cert.StepSqRefIdeal.nD Cert.StepSqRefIdeal.τ).loc Cert.StepSqRefIdeal.main_arg0) = m' ((c.tc : Thread Cert.StepSqRefIdeal.nD Cert.StepSqRefIdeal.τ).loc Cert.StepSqRefIdeal.main_arg0)
          ∧ r.2.mem ((c.tc : Thread Cert.StepSqRefIdeal.nD Cert.StepSqRefIdeal.τ).loc Cert.StepSqRefIdeal.main_arg1) = m' ((c.tc : Thread Cert.StepSqRefIdeal.nD Cert.StepSqRefIdeal.τ).loc Cert.StepSqRefIdeal.main_arg1)
          ∧ r.2.mem ((c.tc : Thread Cert.StepSqRefIdeal.nD Cert.StepSqRefIdeal.τ).loc Cert.StepSqRefIdeal.main_arg2) = m' ((c.tc : Thread Cert.StepSqRefIdeal.nD Cert.StepSqRefIdeal.τ).loc Cert.StepSqRefIdeal.main_arg2)
          ∧ r.2.mem ((c.tc : Thread Cert.StepSqRefIdeal.nD Cert.StepSqRefIdeal.τ).loc Cert.StepSqRefIdeal.main_arg3) = m' ((c.tc : Thread Cert.StepSqRefIdeal.nD Cert.StepSqRefIdeal.τ).loc Cert.StepSqRefIdeal.main_arg3))

def preserves_StepDn_StepDnIdeal : Prop :=
  True

def algebraic_StepDnIdeal_StepDnRefIdeal [hStepDnIdeal : Cert.StepDnIdeal.Facts] [hStepDnRefIdeal : Cert.StepDnRefIdeal.Facts] : Prop :=
  ∀ (m : (ℓ : Loc Cert.StepDnIdeal.nD Cert.StepDnIdeal.τ Cert.StepDnIdeal.sig) → Buf (Elt Ideal) ℓ) (g : Dev Cert.StepDnIdeal.nD → PrngReg)
    (m' : (ℓ : Loc Cert.StepDnRefIdeal.nD Cert.StepDnRefIdeal.τ Cert.StepDnRefIdeal.sig) → Buf (Elt Ideal) ℓ) (g' : Dev Cert.StepDnRefIdeal.nD → PrngReg), Pre_StepDnIdeal m →
    (∀ c : Dev Cert.StepDnIdeal.nD,
      m' ((c.tc : Thread Cert.StepDnRefIdeal.nD Cert.StepDnRefIdeal.τ).loc Cert.StepDnRefIdeal.main_arg0) = m ((c.tc : Thread Cert.StepDnIdeal.nD Cert.StepDnIdeal.τ).loc Cert.StepDnIdeal.main_arg0)
      ∧ m' ((c.tc : Thread Cert.StepDnRefIdeal.nD Cert.StepDnRefIdeal.τ).loc Cert.StepDnRefIdeal.main_arg1) = m ((c.tc : Thread Cert.StepDnIdeal.nD Cert.StepDnIdeal.τ).loc Cert.StepDnIdeal.main_arg1)
      ∧ m' ((c.tc : Thread Cert.StepDnRefIdeal.nD Cert.StepDnRefIdeal.τ).loc Cert.StepDnRefIdeal.main_arg2) = m ((c.tc : Thread Cert.StepDnIdeal.nD Cert.StepDnIdeal.τ).loc Cert.StepDnIdeal.main_arg2)
      ∧ m' ((c.tc : Thread Cert.StepDnRefIdeal.nD Cert.StepDnRefIdeal.τ).loc Cert.StepDnRefIdeal.main_arg3) = m ((c.tc : Thread Cert.StepDnIdeal.nD Cert.StepDnIdeal.τ).loc Cert.StepDnIdeal.main_arg3)) →
    ∃ (v0 : (c : Dev Cert.StepDnIdeal.nD) → Buf (Elt Ideal) ((c.tc : Thread Cert.StepDnIdeal.nD Cert.StepDnIdeal.τ).loc Cert.StepDnIdeal.main_v5_0)) (v1 : (c : Dev Cert.StepDnIdeal.nD) → Buf (Elt Ideal) ((c.tc : Thread Cert.StepDnIdeal.nD Cert.StepDnIdeal.τ).loc Cert.StepDnIdeal.main_v5_1)) (v2 : (c : Dev Cert.StepDnIdeal.nD) → Buf (Elt Ideal) ((c.tc : Thread Cert.StepDnIdeal.nD Cert.StepDnIdeal.τ).loc Cert.StepDnIdeal.main_v5_2)),
      θ_run (Cert.StepDnIdeal.defs (F := Ideal)) (onTc (τ := Cert.StepDnIdeal.τ) (Cert.StepDnIdeal.main (F := Ideal))) ⟨m, fun _ => 0, g⟩ (fun r => ∀ c : Dev Cert.StepDnIdeal.nD,
          r.2.mem ((c.tc : Thread Cert.StepDnIdeal.nD Cert.StepDnIdeal.τ).loc Cert.StepDnIdeal.main_v5_0) = v0 c
          ∧ r.2.mem ((c.tc : Thread Cert.StepDnIdeal.nD Cert.StepDnIdeal.τ).loc Cert.StepDnIdeal.main_v5_1) = v1 c
          ∧ r.2.mem ((c.tc : Thread Cert.StepDnIdeal.nD Cert.StepDnIdeal.τ).loc Cert.StepDnIdeal.main_v5_2) = v2 c
          ∧ r.2.mem ((c.tc : Thread Cert.StepDnIdeal.nD Cert.StepDnIdeal.τ).loc Cert.StepDnIdeal.main_arg0) = m ((c.tc : Thread Cert.StepDnIdeal.nD Cert.StepDnIdeal.τ).loc Cert.StepDnIdeal.main_arg0)
          ∧ r.2.mem ((c.tc : Thread Cert.StepDnIdeal.nD Cert.StepDnIdeal.τ).loc Cert.StepDnIdeal.main_arg1) = m ((c.tc : Thread Cert.StepDnIdeal.nD Cert.StepDnIdeal.τ).loc Cert.StepDnIdeal.main_arg1)
          ∧ r.2.mem ((c.tc : Thread Cert.StepDnIdeal.nD Cert.StepDnIdeal.τ).loc Cert.StepDnIdeal.main_arg2) = m ((c.tc : Thread Cert.StepDnIdeal.nD Cert.StepDnIdeal.τ).loc Cert.StepDnIdeal.main_arg2)
          ∧ r.2.mem ((c.tc : Thread Cert.StepDnIdeal.nD Cert.StepDnIdeal.τ).loc Cert.StepDnIdeal.main_arg3) = m ((c.tc : Thread Cert.StepDnIdeal.nD Cert.StepDnIdeal.τ).loc Cert.StepDnIdeal.main_arg3))
      ∧ θ_run (Cert.StepDnRefIdeal.defs (F := Ideal)) (onTc (τ := Cert.StepDnRefIdeal.τ) (Cert.StepDnRefIdeal.main (F := Ideal))) ⟨m', fun _ => 0, g'⟩ (fun r => ∀ c : Dev Cert.StepDnRefIdeal.nD,
          r.2.mem ((c.tc : Thread Cert.StepDnRefIdeal.nD Cert.StepDnRefIdeal.τ).loc Cert.StepDnRefIdeal.main_v24) = v0 c
          ∧ r.2.mem ((c.tc : Thread Cert.StepDnRefIdeal.nD Cert.StepDnRefIdeal.τ).loc Cert.StepDnRefIdeal.main_v25) = v1 c
          ∧ r.2.mem ((c.tc : Thread Cert.StepDnRefIdeal.nD Cert.StepDnRefIdeal.τ).loc Cert.StepDnRefIdeal.main_v26) = v2 c
          ∧ r.2.mem ((c.tc : Thread Cert.StepDnRefIdeal.nD Cert.StepDnRefIdeal.τ).loc Cert.StepDnRefIdeal.main_arg0) = m' ((c.tc : Thread Cert.StepDnRefIdeal.nD Cert.StepDnRefIdeal.τ).loc Cert.StepDnRefIdeal.main_arg0)
          ∧ r.2.mem ((c.tc : Thread Cert.StepDnRefIdeal.nD Cert.StepDnRefIdeal.τ).loc Cert.StepDnRefIdeal.main_arg1) = m' ((c.tc : Thread Cert.StepDnRefIdeal.nD Cert.StepDnRefIdeal.τ).loc Cert.StepDnRefIdeal.main_arg1)
          ∧ r.2.mem ((c.tc : Thread Cert.StepDnRefIdeal.nD Cert.StepDnRefIdeal.τ).loc Cert.StepDnRefIdeal.main_arg2) = m' ((c.tc : Thread Cert.StepDnRefIdeal.nD Cert.StepDnRefIdeal.τ).loc Cert.StepDnRefIdeal.main_arg2)
          ∧ r.2.mem ((c.tc : Thread Cert.StepDnRefIdeal.nD Cert.StepDnRefIdeal.τ).loc Cert.StepDnRefIdeal.main_arg3) = m' ((c.tc : Thread Cert.StepDnRefIdeal.nD Cert.StepDnRefIdeal.τ).loc Cert.StepDnRefIdeal.main_arg3))

def preserves_StepSmall_StepSmallIdeal : Prop :=
  True

def algebraic_StepSmallIdeal_StepSmallRefIdeal [hStepSmallIdeal : Cert.StepSmallIdeal.Facts] [hStepSmallRefIdeal : Cert.StepSmallRefIdeal.Facts] : Prop :=
  ∀ (m : (ℓ : Loc Cert.StepSmallIdeal.nD Cert.StepSmallIdeal.τ Cert.StepSmallIdeal.sig) → Buf (Elt Ideal) ℓ) (g : Dev Cert.StepSmallIdeal.nD → PrngReg)
    (m' : (ℓ : Loc Cert.StepSmallRefIdeal.nD Cert.StepSmallRefIdeal.τ Cert.StepSmallRefIdeal.sig) → Buf (Elt Ideal) ℓ) (g' : Dev Cert.StepSmallRefIdeal.nD → PrngReg), Pre_StepSmallIdeal m →
    (∀ c : Dev Cert.StepSmallIdeal.nD,
      m' ((c.tc : Thread Cert.StepSmallRefIdeal.nD Cert.StepSmallRefIdeal.τ).loc Cert.StepSmallRefIdeal.main_arg0) = m ((c.tc : Thread Cert.StepSmallIdeal.nD Cert.StepSmallIdeal.τ).loc Cert.StepSmallIdeal.main_arg0)
      ∧ m' ((c.tc : Thread Cert.StepSmallRefIdeal.nD Cert.StepSmallRefIdeal.τ).loc Cert.StepSmallRefIdeal.main_arg1) = m ((c.tc : Thread Cert.StepSmallIdeal.nD Cert.StepSmallIdeal.τ).loc Cert.StepSmallIdeal.main_arg1)
      ∧ m' ((c.tc : Thread Cert.StepSmallRefIdeal.nD Cert.StepSmallRefIdeal.τ).loc Cert.StepSmallRefIdeal.main_arg2) = m ((c.tc : Thread Cert.StepSmallIdeal.nD Cert.StepSmallIdeal.τ).loc Cert.StepSmallIdeal.main_arg2)
      ∧ m' ((c.tc : Thread Cert.StepSmallRefIdeal.nD Cert.StepSmallRefIdeal.τ).loc Cert.StepSmallRefIdeal.main_arg3) = m ((c.tc : Thread Cert.StepSmallIdeal.nD Cert.StepSmallIdeal.τ).loc Cert.StepSmallIdeal.main_arg3)
      ∧ m' ((c.tc : Thread Cert.StepSmallRefIdeal.nD Cert.StepSmallRefIdeal.τ).loc Cert.StepSmallRefIdeal.main_arg4) = m ((c.tc : Thread Cert.StepSmallIdeal.nD Cert.StepSmallIdeal.τ).loc Cert.StepSmallIdeal.main_arg4)
      ∧ m' ((c.tc : Thread Cert.StepSmallRefIdeal.nD Cert.StepSmallRefIdeal.τ).loc Cert.StepSmallRefIdeal.main_arg5) = m ((c.tc : Thread Cert.StepSmallIdeal.nD Cert.StepSmallIdeal.τ).loc Cert.StepSmallIdeal.main_arg5)
      ∧ m' ((c.tc : Thread Cert.StepSmallRefIdeal.nD Cert.StepSmallRefIdeal.τ).loc Cert.StepSmallRefIdeal.main_arg6) = m ((c.tc : Thread Cert.StepSmallIdeal.nD Cert.StepSmallIdeal.τ).loc Cert.StepSmallIdeal.main_arg6)
      ∧ m' ((c.tc : Thread Cert.StepSmallRefIdeal.nD Cert.StepSmallRefIdeal.τ).loc Cert.StepSmallRefIdeal.main_arg7) = m ((c.tc : Thread Cert.StepSmallIdeal.nD Cert.StepSmallIdeal.τ).loc Cert.StepSmallIdeal.main_arg7)
      ∧ m' ((c.tc : Thread Cert.StepSmallRefIdeal.nD Cert.StepSmallRefIdeal.τ).loc Cert.StepSmallRefIdeal.main_arg8) = m ((c.tc : Thread Cert.StepSmallIdeal.nD Cert.StepSmallIdeal.τ).loc Cert.StepSmallIdeal.main_arg8)
      ∧ m' ((c.tc : Thread Cert.StepSmallRefIdeal.nD Cert.StepSmallRefIdeal.τ).loc Cert.StepSmallRefIdeal.main_arg9) = m ((c.tc : Thread Cert.StepSmallIdeal.nD Cert.StepSmallIdeal.τ).loc Cert.StepSmallIdeal.main_arg9)
      ∧ m' ((c.tc : Thread Cert.StepSmallRefIdeal.nD Cert.StepSmallRefIdeal.τ).loc Cert.StepSmallRefIdeal.main_arg10) = m ((c.tc : Thread Cert.StepSmallIdeal.nD Cert.StepSmallIdeal.τ).loc Cert.StepSmallIdeal.main_arg10)
      ∧ m' ((c.tc : Thread Cert.StepSmallRefIdeal.nD Cert.StepSmallRefIdeal.τ).loc Cert.StepSmallRefIdeal.main_arg11) = m ((c.tc : Thread Cert.StepSmallIdeal.nD Cert.StepSmallIdeal.τ).loc Cert.StepSmallIdeal.main_arg11)
      ∧ m' ((c.tc : Thread Cert.StepSmallRefIdeal.nD Cert.StepSmallRefIdeal.τ).loc Cert.StepSmallRefIdeal.main_arg12) = m ((c.tc : Thread Cert.StepSmallIdeal.nD Cert.StepSmallIdeal.τ).loc Cert.StepSmallIdeal.main_arg12)
      ∧ m' ((c.tc : Thread Cert.StepSmallRefIdeal.nD Cert.StepSmallRefIdeal.τ).loc Cert.StepSmallRefIdeal.main_arg13) = m ((c.tc : Thread Cert.StepSmallIdeal.nD Cert.StepSmallIdeal.τ).loc Cert.StepSmallIdeal.main_arg13)
      ∧ m' ((c.tc : Thread Cert.StepSmallRefIdeal.nD Cert.StepSmallRefIdeal.τ).loc Cert.StepSmallRefIdeal.main_arg14) = m ((c.tc : Thread Cert.StepSmallIdeal.nD Cert.StepSmallIdeal.τ).loc Cert.StepSmallIdeal.main_arg14)
      ∧ m' ((c.tc : Thread Cert.StepSmallRefIdeal.nD Cert.StepSmallRefIdeal.τ).loc Cert.StepSmallRefIdeal.main_arg15) = m ((c.tc : Thread Cert.StepSmallIdeal.nD Cert.StepSmallIdeal.τ).loc Cert.StepSmallIdeal.main_arg15)
      ∧ m' ((c.tc : Thread Cert.StepSmallRefIdeal.nD Cert.StepSmallRefIdeal.τ).loc Cert.StepSmallRefIdeal.main_arg16) = m ((c.tc : Thread Cert.StepSmallIdeal.nD Cert.StepSmallIdeal.τ).loc Cert.StepSmallIdeal.main_arg16)
      ∧ m' ((c.tc : Thread Cert.StepSmallRefIdeal.nD Cert.StepSmallRefIdeal.τ).loc Cert.StepSmallRefIdeal.main_arg17) = m ((c.tc : Thread Cert.StepSmallIdeal.nD Cert.StepSmallIdeal.τ).loc Cert.StepSmallIdeal.main_arg17)
      ∧ m' ((c.tc : Thread Cert.StepSmallRefIdeal.nD Cert.StepSmallRefIdeal.τ).loc Cert.StepSmallRefIdeal.main_arg18) = m ((c.tc : Thread Cert.StepSmallIdeal.nD Cert.StepSmallIdeal.τ).loc Cert.StepSmallIdeal.main_arg18)
      ∧ m' ((c.tc : Thread Cert.StepSmallRefIdeal.nD Cert.StepSmallRefIdeal.τ).loc Cert.StepSmallRefIdeal.main_arg19) = m ((c.tc : Thread Cert.StepSmallIdeal.nD Cert.StepSmallIdeal.τ).loc Cert.StepSmallIdeal.main_arg19)
      ∧ m' ((c.tc : Thread Cert.StepSmallRefIdeal.nD Cert.StepSmallRefIdeal.τ).loc Cert.StepSmallRefIdeal.main_arg20) = m ((c.tc : Thread Cert.StepSmallIdeal.nD Cert.StepSmallIdeal.τ).loc Cert.StepSmallIdeal.main_arg20)
      ∧ m' ((c.tc : Thread Cert.StepSmallRefIdeal.nD Cert.StepSmallRefIdeal.τ).loc Cert.StepSmallRefIdeal.main_arg21) = m ((c.tc : Thread Cert.StepSmallIdeal.nD Cert.StepSmallIdeal.τ).loc Cert.StepSmallIdeal.main_arg21)
      ∧ m' ((c.tc : Thread Cert.StepSmallRefIdeal.nD Cert.StepSmallRefIdeal.τ).loc Cert.StepSmallRefIdeal.main_arg22) = m ((c.tc : Thread Cert.StepSmallIdeal.nD Cert.StepSmallIdeal.τ).loc Cert.StepSmallIdeal.main_arg22)
      ∧ m' ((c.tc : Thread Cert.StepSmallRefIdeal.nD Cert.StepSmallRefIdeal.τ).loc Cert.StepSmallRefIdeal.main_arg23) = m ((c.tc : Thread Cert.StepSmallIdeal.nD Cert.StepSmallIdeal.τ).loc Cert.StepSmallIdeal.main_arg23)
      ∧ m' ((c.tc : Thread Cert.StepSmallRefIdeal.nD Cert.StepSmallRefIdeal.τ).loc Cert.StepSmallRefIdeal.main_arg24) = m ((c.tc : Thread Cert.StepSmallIdeal.nD Cert.StepSmallIdeal.τ).loc Cert.StepSmallIdeal.main_arg24)
      ∧ m' ((c.tc : Thread Cert.StepSmallRefIdeal.nD Cert.StepSmallRefIdeal.τ).loc Cert.StepSmallRefIdeal.main_arg25) = m ((c.tc : Thread Cert.StepSmallIdeal.nD Cert.StepSmallIdeal.τ).loc Cert.StepSmallIdeal.main_arg25)
      ∧ m' ((c.tc : Thread Cert.StepSmallRefIdeal.nD Cert.StepSmallRefIdeal.τ).loc Cert.StepSmallRefIdeal.main_arg26) = m ((c.tc : Thread Cert.StepSmallIdeal.nD Cert.StepSmallIdeal.τ).loc Cert.StepSmallIdeal.main_arg26)
      ∧ m' ((c.tc : Thread Cert.StepSmallRefIdeal.nD Cert.StepSmallRefIdeal.τ).loc Cert.StepSmallRefIdeal.main_arg27) = m ((c.tc : Thread Cert.StepSmallIdeal.nD Cert.StepSmallIdeal.τ).loc Cert.StepSmallIdeal.main_arg27)
      ∧ m' ((c.tc : Thread Cert.StepSmallRefIdeal.nD Cert.StepSmallRefIdeal.τ).loc Cert.StepSmallRefIdeal.main_arg28) = m ((c.tc : Thread Cert.StepSmallIdeal.nD Cert.StepSmallIdeal.τ).loc Cert.StepSmallIdeal.main_arg28)
      ∧ m' ((c.tc : Thread Cert.StepSmallRefIdeal.nD Cert.StepSmallRefIdeal.τ).loc Cert.StepSmallRefIdeal.main_arg29) = m ((c.tc : Thread Cert.StepSmallIdeal.nD Cert.StepSmallIdeal.τ).loc Cert.StepSmallIdeal.main_arg29)
      ∧ m' ((c.tc : Thread Cert.StepSmallRefIdeal.nD Cert.StepSmallRefIdeal.τ).loc Cert.StepSmallRefIdeal.main_arg30) = m ((c.tc : Thread Cert.StepSmallIdeal.nD Cert.StepSmallIdeal.τ).loc Cert.StepSmallIdeal.main_arg30)
      ∧ m' ((c.tc : Thread Cert.StepSmallRefIdeal.nD Cert.StepSmallRefIdeal.τ).loc Cert.StepSmallRefIdeal.main_arg31) = m ((c.tc : Thread Cert.StepSmallIdeal.nD Cert.StepSmallIdeal.τ).loc Cert.StepSmallIdeal.main_arg31)
      ∧ m' ((c.tc : Thread Cert.StepSmallRefIdeal.nD Cert.StepSmallRefIdeal.τ).loc Cert.StepSmallRefIdeal.main_arg32) = m ((c.tc : Thread Cert.StepSmallIdeal.nD Cert.StepSmallIdeal.τ).loc Cert.StepSmallIdeal.main_arg32)
      ∧ m' ((c.tc : Thread Cert.StepSmallRefIdeal.nD Cert.StepSmallRefIdeal.τ).loc Cert.StepSmallRefIdeal.main_arg33) = m ((c.tc : Thread Cert.StepSmallIdeal.nD Cert.StepSmallIdeal.τ).loc Cert.StepSmallIdeal.main_arg33)
      ∧ m' ((c.tc : Thread Cert.StepSmallRefIdeal.nD Cert.StepSmallRefIdeal.τ).loc Cert.StepSmallRefIdeal.main_arg34) = m ((c.tc : Thread Cert.StepSmallIdeal.nD Cert.StepSmallIdeal.τ).loc Cert.StepSmallIdeal.main_arg34)
      ∧ m' ((c.tc : Thread Cert.StepSmallRefIdeal.nD Cert.StepSmallRefIdeal.τ).loc Cert.StepSmallRefIdeal.main_arg35) = m ((c.tc : Thread Cert.StepSmallIdeal.nD Cert.StepSmallIdeal.τ).loc Cert.StepSmallIdeal.main_arg35)
      ∧ m' ((c.tc : Thread Cert.StepSmallRefIdeal.nD Cert.StepSmallRefIdeal.τ).loc Cert.StepSmallRefIdeal.main_arg36) = m ((c.tc : Thread Cert.StepSmallIdeal.nD Cert.StepSmallIdeal.τ).loc Cert.StepSmallIdeal.main_arg36)
      ∧ m' ((c.tc : Thread Cert.StepSmallRefIdeal.nD Cert.StepSmallRefIdeal.τ).loc Cert.StepSmallRefIdeal.main_arg37) = m ((c.tc : Thread Cert.StepSmallIdeal.nD Cert.StepSmallIdeal.τ).loc Cert.StepSmallIdeal.main_arg37)
      ∧ m' ((c.tc : Thread Cert.StepSmallRefIdeal.nD Cert.StepSmallRefIdeal.τ).loc Cert.StepSmallRefIdeal.main_arg38) = m ((c.tc : Thread Cert.StepSmallIdeal.nD Cert.StepSmallIdeal.τ).loc Cert.StepSmallIdeal.main_arg38)
      ∧ m' ((c.tc : Thread Cert.StepSmallRefIdeal.nD Cert.StepSmallRefIdeal.τ).loc Cert.StepSmallRefIdeal.main_arg39) = m ((c.tc : Thread Cert.StepSmallIdeal.nD Cert.StepSmallIdeal.τ).loc Cert.StepSmallIdeal.main_arg39)
      ∧ m' ((c.tc : Thread Cert.StepSmallRefIdeal.nD Cert.StepSmallRefIdeal.τ).loc Cert.StepSmallRefIdeal.main_arg40) = m ((c.tc : Thread Cert.StepSmallIdeal.nD Cert.StepSmallIdeal.τ).loc Cert.StepSmallIdeal.main_arg40)
      ∧ m' ((c.tc : Thread Cert.StepSmallRefIdeal.nD Cert.StepSmallRefIdeal.τ).loc Cert.StepSmallRefIdeal.main_arg41) = m ((c.tc : Thread Cert.StepSmallIdeal.nD Cert.StepSmallIdeal.τ).loc Cert.StepSmallIdeal.main_arg41)
      ∧ m' ((c.tc : Thread Cert.StepSmallRefIdeal.nD Cert.StepSmallRefIdeal.τ).loc Cert.StepSmallRefIdeal.main_arg42) = m ((c.tc : Thread Cert.StepSmallIdeal.nD Cert.StepSmallIdeal.τ).loc Cert.StepSmallIdeal.main_arg42)
      ∧ m' ((c.tc : Thread Cert.StepSmallRefIdeal.nD Cert.StepSmallRefIdeal.τ).loc Cert.StepSmallRefIdeal.main_arg43) = m ((c.tc : Thread Cert.StepSmallIdeal.nD Cert.StepSmallIdeal.τ).loc Cert.StepSmallIdeal.main_arg43)
      ∧ m' ((c.tc : Thread Cert.StepSmallRefIdeal.nD Cert.StepSmallRefIdeal.τ).loc Cert.StepSmallRefIdeal.main_arg44) = m ((c.tc : Thread Cert.StepSmallIdeal.nD Cert.StepSmallIdeal.τ).loc Cert.StepSmallIdeal.main_arg44)
      ∧ m' ((c.tc : Thread Cert.StepSmallRefIdeal.nD Cert.StepSmallRefIdeal.τ).loc Cert.StepSmallRefIdeal.main_arg45) = m ((c.tc : Thread Cert.StepSmallIdeal.nD Cert.StepSmallIdeal.τ).loc Cert.StepSmallIdeal.main_arg45)
      ∧ m' ((c.tc : Thread Cert.StepSmallRefIdeal.nD Cert.StepSmallRefIdeal.τ).loc Cert.StepSmallRefIdeal.main_arg46) = m ((c.tc : Thread Cert.StepSmallIdeal.nD Cert.StepSmallIdeal.τ).loc Cert.StepSmallIdeal.main_arg46)
      ∧ m' ((c.tc : Thread Cert.StepSmallRefIdeal.nD Cert.StepSmallRefIdeal.τ).loc Cert.StepSmallRefIdeal.main_arg47) = m ((c.tc : Thread Cert.StepSmallIdeal.nD Cert.StepSmallIdeal.τ).loc Cert.StepSmallIdeal.main_arg47)
      ∧ m' ((c.tc : Thread Cert.StepSmallRefIdeal.nD Cert.StepSmallRefIdeal.τ).loc Cert.StepSmallRefIdeal.main_arg48) = m ((c.tc : Thread Cert.StepSmallIdeal.nD Cert.StepSmallIdeal.τ).loc Cert.StepSmallIdeal.main_arg48)
      ∧ m' ((c.tc : Thread Cert.StepSmallRefIdeal.nD Cert.StepSmallRefIdeal.τ).loc Cert.StepSmallRefIdeal.main_arg49) = m ((c.tc : Thread Cert.StepSmallIdeal.nD Cert.StepSmallIdeal.τ).loc Cert.StepSmallIdeal.main_arg49)
      ∧ m' ((c.tc : Thread Cert.StepSmallRefIdeal.nD Cert.StepSmallRefIdeal.τ).loc Cert.StepSmallRefIdeal.main_arg50) = m ((c.tc : Thread Cert.StepSmallIdeal.nD Cert.StepSmallIdeal.τ).loc Cert.StepSmallIdeal.main_arg50)
      ∧ m' ((c.tc : Thread Cert.StepSmallRefIdeal.nD Cert.StepSmallRefIdeal.τ).loc Cert.StepSmallRefIdeal.main_arg51) = m ((c.tc : Thread Cert.StepSmallIdeal.nD Cert.StepSmallIdeal.τ).loc Cert.StepSmallIdeal.main_arg51)) →
    ∃ (v0 : (c : Dev Cert.StepSmallIdeal.nD) → Buf (Elt Ideal) ((c.tc : Thread Cert.StepSmallIdeal.nD Cert.StepSmallIdeal.τ).loc Cert.StepSmallIdeal.main_v64)) (v1 : (c : Dev Cert.StepSmallIdeal.nD) → Buf (Elt Ideal) ((c.tc : Thread Cert.StepSmallIdeal.nD Cert.StepSmallIdeal.τ).loc Cert.StepSmallIdeal.main_v66)) (v2 : (c : Dev Cert.StepSmallIdeal.nD) → Buf (Elt Ideal) ((c.tc : Thread Cert.StepSmallIdeal.nD Cert.StepSmallIdeal.τ).loc Cert.StepSmallIdeal.main_v68)) (v3 : (c : Dev Cert.StepSmallIdeal.nD) → Buf (Elt Ideal) ((c.tc : Thread Cert.StepSmallIdeal.nD Cert.StepSmallIdeal.τ).loc Cert.StepSmallIdeal.main_v70)) (v4 : (c : Dev Cert.StepSmallIdeal.nD) → Buf (Elt Ideal) ((c.tc : Thread Cert.StepSmallIdeal.nD Cert.StepSmallIdeal.τ).loc Cert.StepSmallIdeal.main_v72)) (v5 : (c : Dev Cert.StepSmallIdeal.nD) → Buf (Elt Ideal) ((c.tc : Thread Cert.StepSmallIdeal.nD Cert.StepSmallIdeal.τ).loc Cert.StepSmallIdeal.main_v74)) (v6 : (c : Dev Cert.StepSmallIdeal.nD) → Buf (Elt Ideal) ((c.tc : Thread Cert.StepSmallIdeal.nD Cert.StepSmallIdeal.τ).loc Cert.StepSmallIdeal.main_v76)) (v7 : (c : Dev Cert.StepSmallIdeal.nD) → Buf (Elt Ideal) ((c.tc : Thread Cert.StepSmallIdeal.nD Cert.StepSmallIdeal.τ).loc Cert.StepSmallIdeal.main_v78)) (v8 : (c : Dev Cert.StepSmallIdeal.nD) → Buf (Elt Ideal) ((c.tc : Thread Cert.StepSmallIdeal.nD Cert.StepSmallIdeal.τ).loc Cert.StepSmallIdeal.main_v80)) (v9 : (c : Dev Cert.StepSmallIdeal.nD) → Buf (Elt Ideal) ((c.tc : Thread Cert.StepSmallIdeal.nD Cert.StepSmallIdeal.τ).loc Cert.StepSmallIdeal.main_v82)) (v10 : (c : Dev Cert.StepSmallIdeal.nD) → Buf (Elt Ideal) ((c.tc : Thread Cert.StepSmallIdeal.nD Cert.StepSmallIdeal.τ).loc Cert.StepSmallIdeal.main_v84)) (v11 : (c : Dev Cert.StepSmallIdeal.nD) → Buf (Elt Ideal) ((c.tc : Thread Cert.StepSmallIdeal.nD Cert.StepSmallIdeal.τ).loc Cert.StepSmallIdeal.main_v86)) (v12 : (c : Dev Cert.StepSmallIdeal.nD) → Buf (Elt Ideal) ((c.tc : Thread Cert.StepSmallIdeal.nD Cert.StepSmallIdeal.τ).loc Cert.StepSmallIdeal.main_v87)) (v13 : (c : Dev Cert.StepSmallIdeal.nD) → Buf (Elt Ideal) ((c.tc : Thread Cert.StepSmallIdeal.nD Cert.StepSmallIdeal.τ).loc Cert.StepSmallIdeal.main_v90)) (v14 : (c : Dev Cert.StepSmallIdeal.nD) → Buf (Elt Ideal) ((c.tc : Thread Cert.StepSmallIdeal.nD Cert.StepSmallIdeal.τ).loc Cert.StepSmallIdeal.main_v92)) (v15 : (c : Dev Cert.StepSmallIdeal.nD) → Buf (Elt Ideal) ((c.tc : Thread Cert.StepSmallIdeal.nD Cert.StepSmallIdeal.τ).loc Cert.StepSmallIdeal.main_v94)) (v16 : (c : Dev Cert.StepSmallIdeal.nD) → Buf (Elt Ideal) ((c.tc : Thread Cert.StepSmallIdeal.nD Cert.StepSmallIdeal.τ).loc Cert.StepSmallIdeal.main_v96)) (v17 : (c : Dev Cert.StepSmallIdeal.nD) → Buf (Elt Ideal) ((c.tc : Thread Cert.StepSmallIdeal.nD Cert.StepSmallIdeal.τ).loc Cert.StepSmallIdeal.main_v98)) (v18 : (c : Dev Cert.StepSmallIdeal.nD) → Buf (Elt Ideal) ((c.tc : Thread Cert.StepSmallIdeal.nD Cert.StepSmallIdeal.τ).loc Cert.StepSmallIdeal.main_v100)) (v19 : (c : Dev Cert.StepSmallIdeal.nD) → Buf (Elt Ideal) ((c.tc : Thread Cert.StepSmallIdeal.nD Cert.StepSmallIdeal.τ).loc Cert.StepSmallIdeal.main_v102)) (v20 : (c : Dev Cert.StepSmallIdeal.nD) → Buf (Elt Ideal) ((c.tc : Thread Cert.StepSmallIdeal.nD Cert.StepSmallIdeal.τ).loc Cert.StepSmallIdeal.main_v104)) (v21 : (c : Dev Cert.StepSmallIdeal.nD) → Buf (Elt Ideal) ((c.tc : Thread Cert.StepSmallIdeal.nD Cert.StepSmallIdeal.τ).loc Cert.StepSmallIdeal.main_v106)) (v22 : (c : Dev Cert.StepSmallIdeal.nD) → Buf (Elt Ideal) ((c.tc : Thread Cert.StepSmallIdeal.nD Cert.StepSmallIdeal.τ).loc Cert.StepSmallIdeal.main_v108)) (v23 : (c : Dev Cert.StepSmallIdeal.nD) → Buf (Elt Ideal) ((c.tc : Thread Cert.StepSmallIdeal.nD Cert.StepSmallIdeal.τ).loc Cert.StepSmallIdeal.main_v110)) (v24 : (c : Dev Cert.StepSmallIdeal.nD) → Buf (Elt Ideal) ((c.tc : Thread Cert.StepSmallIdeal.nD Cert.StepSmallIdeal.τ).loc Cert.StepSmallIdeal.main_v112)) (v25 : (c : Dev Cert.StepSmallIdeal.nD) → Buf (Elt Ideal) ((c.tc : Thread Cert.StepSmallIdeal.nD Cert.StepSmallIdeal.τ).loc Cert.StepSmallIdeal.main_v113)) (v26 : (c : Dev Cert.StepSmallIdeal.nD) → Buf (Elt Ideal) ((c.tc : Thread Cert.StepSmallIdeal.nD Cert.StepSmallIdeal.τ).loc Cert.StepSmallIdeal.main_v116)) (v27 : (c : Dev Cert.StepSmallIdeal.nD) → Buf (Elt Ideal) ((c.tc : Thread Cert.StepSmallIdeal.nD Cert.StepSmallIdeal.τ).loc Cert.StepSmallIdeal.main_v118)) (v28 : (c : Dev Cert.StepSmallIdeal.nD) → Buf (Elt Ideal) ((c.tc : Thread Cert.StepSmallIdeal.nD Cert.StepSmallIdeal.τ).loc Cert.StepSmallIdeal.main_v120)) (v29 : (c : Dev Cert.StepSmallIdeal.nD) → Buf (Elt Ideal) ((c.tc : Thread Cert.StepSmallIdeal.nD Cert.StepSmallIdeal.τ).loc Cert.StepSmallIdeal.main_v122)) (v30 : (c : Dev Cert.StepSmallIdeal.nD) → Buf (Elt Ideal) ((c.tc : Thread Cert.StepSmallIdeal.nD Cert.StepSmallIdeal.τ).loc Cert.StepSmallIdeal.main_v124)) (v31 : (c : Dev Cert.StepSmallIdeal.nD) → Buf (Elt Ideal) ((c.tc : Thread Cert.StepSmallIdeal.nD Cert.StepSmallIdeal.τ).loc Cert.StepSmallIdeal.main_v126)) (v32 : (c : Dev Cert.StepSmallIdeal.nD) → Buf (Elt Ideal) ((c.tc : Thread Cert.StepSmallIdeal.nD Cert.StepSmallIdeal.τ).loc Cert.StepSmallIdeal.main_v128)) (v33 : (c : Dev Cert.StepSmallIdeal.nD) → Buf (Elt Ideal) ((c.tc : Thread Cert.StepSmallIdeal.nD Cert.StepSmallIdeal.τ).loc Cert.StepSmallIdeal.main_v130)) (v34 : (c : Dev Cert.StepSmallIdeal.nD) → Buf (Elt Ideal) ((c.tc : Thread Cert.StepSmallIdeal.nD Cert.StepSmallIdeal.τ).loc Cert.StepSmallIdeal.main_v132)) (v35 : (c : Dev Cert.StepSmallIdeal.nD) → Buf (Elt Ideal) ((c.tc : Thread Cert.StepSmallIdeal.nD Cert.StepSmallIdeal.τ).loc Cert.StepSmallIdeal.main_v134)) (v36 : (c : Dev Cert.StepSmallIdeal.nD) → Buf (Elt Ideal) ((c.tc : Thread Cert.StepSmallIdeal.nD Cert.StepSmallIdeal.τ).loc Cert.StepSmallIdeal.main_v136)) (v37 : (c : Dev Cert.StepSmallIdeal.nD) → Buf (Elt Ideal) ((c.tc : Thread Cert.StepSmallIdeal.nD Cert.StepSmallIdeal.τ).loc Cert.StepSmallIdeal.main_v138)) (v38 : (c : Dev Cert.StepSmallIdeal.nD) → Buf (Elt Ideal) ((c.tc : Thread Cert.StepSmallIdeal.nD Cert.StepSmallIdeal.τ).loc Cert.StepSmallIdeal.main_v139)),
      θ_run (Cert.StepSmallIdeal.defs (F := Ideal)) (onTc (τ := Cert.StepSmallIdeal.τ) (Cert.StepSmallIdeal.main (F := Ideal))) ⟨m, fun _ => 0, g⟩ (fun r => ∀ c : Dev Cert.StepSmallIdeal.nD,
          r.2.mem ((c.tc : Thread Cert.StepSmallIdeal.nD Cert.StepSmallIdeal.τ).loc Cert.StepSmallIdeal.main_v64) = v0 c
          ∧ r.2.mem ((c.tc : Thread Cert.StepSmallIdeal.nD Cert.StepSmallIdeal.τ).loc Cert.StepSmallIdeal.main_v66) = v1 c
          ∧ r.2.mem ((c.tc : Thread Cert.StepSmallIdeal.nD Cert.StepSmallIdeal.τ).loc Cert.StepSmallIdeal.main_v68) = v2 c
          ∧ r.2.mem ((c.tc : Thread Cert.StepSmallIdeal.nD Cert.StepSmallIdeal.τ).loc Cert.StepSmallIdeal.main_v70) = v3 c
          ∧ r.2.mem ((c.tc : Thread Cert.StepSmallIdeal.nD Cert.StepSmallIdeal.τ).loc Cert.StepSmallIdeal.main_v72) = v4 c
          ∧ r.2.mem ((c.tc : Thread Cert.StepSmallIdeal.nD Cert.StepSmallIdeal.τ).loc Cert.StepSmallIdeal.main_v74) = v5 c
          ∧ r.2.mem ((c.tc : Thread Cert.StepSmallIdeal.nD Cert.StepSmallIdeal.τ).loc Cert.StepSmallIdeal.main_v76) = v6 c
          ∧ r.2.mem ((c.tc : Thread Cert.StepSmallIdeal.nD Cert.StepSmallIdeal.τ).loc Cert.StepSmallIdeal.main_v78) = v7 c
          ∧ r.2.mem ((c.tc : Thread Cert.StepSmallIdeal.nD Cert.StepSmallIdeal.τ).loc Cert.StepSmallIdeal.main_v80) = v8 c
          ∧ r.2.mem ((c.tc : Thread Cert.StepSmallIdeal.nD Cert.StepSmallIdeal.τ).loc Cert.StepSmallIdeal.main_v82) = v9 c
          ∧ r.2.mem ((c.tc : Thread Cert.StepSmallIdeal.nD Cert.StepSmallIdeal.τ).loc Cert.StepSmallIdeal.main_v84) = v10 c
          ∧ r.2.mem ((c.tc : Thread Cert.StepSmallIdeal.nD Cert.StepSmallIdeal.τ).loc Cert.StepSmallIdeal.main_v86) = v11 c
          ∧ r.2.mem ((c.tc : Thread Cert.StepSmallIdeal.nD Cert.StepSmallIdeal.τ).loc Cert.StepSmallIdeal.main_v87) = v12 c
          ∧ r.2.mem ((c.tc : Thread Cert.StepSmallIdeal.nD Cert.StepSmallIdeal.τ).loc Cert.StepSmallIdeal.main_v90) = v13 c
          ∧ r.2.mem ((c.tc : Thread Cert.StepSmallIdeal.nD Cert.StepSmallIdeal.τ).loc Cert.StepSmallIdeal.main_v92) = v14 c
          ∧ r.2.mem ((c.tc : Thread Cert.StepSmallIdeal.nD Cert.StepSmallIdeal.τ).loc Cert.StepSmallIdeal.main_v94) = v15 c
          ∧ r.2.mem ((c.tc : Thread Cert.StepSmallIdeal.nD Cert.StepSmallIdeal.τ).loc Cert.StepSmallIdeal.main_v96) = v16 c
          ∧ r.2.mem ((c.tc : Thread Cert.StepSmallIdeal.nD Cert.StepSmallIdeal.τ).loc Cert.StepSmallIdeal.main_v98) = v17 c
          ∧ r.2.mem ((c.tc : Thread Cert.StepSmallIdeal.nD Cert.StepSmallIdeal.τ).loc Cert.StepSmallIdeal.main_v100) = v18 c
          ∧ r.2.mem ((c.tc : Thread Cert.StepSmallIdeal.nD Cert.StepSmallIdeal.τ).loc Cert.StepSmallIdeal.main_v102) = v19 c
          ∧ r.2.mem ((c.tc : Thread Cert.StepSmallIdeal.nD Cert.StepSmallIdeal.τ).loc Cert.StepSmallIdeal.main_v104) = v20 c
          ∧ r.2.mem ((c.tc : Thread Cert.StepSmallIdeal.nD Cert.StepSmallIdeal.τ).loc Cert.StepSmallIdeal.main_v106) = v21 c
          ∧ r.2.mem ((c.tc : Thread Cert.StepSmallIdeal.nD Cert.StepSmallIdeal.τ).loc Cert.StepSmallIdeal.main_v108) = v22 c
          ∧ r.2.mem ((c.tc : Thread Cert.StepSmallIdeal.nD Cert.StepSmallIdeal.τ).loc Cert.StepSmallIdeal.main_v110) = v23 c
          ∧ r.2.mem ((c.tc : Thread Cert.StepSmallIdeal.nD Cert.StepSmallIdeal.τ).loc Cert.StepSmallIdeal.main_v112) = v24 c
          ∧ r.2.mem ((c.tc : Thread Cert.StepSmallIdeal.nD Cert.StepSmallIdeal.τ).loc Cert.StepSmallIdeal.main_v113) = v25 c
          ∧ r.2.mem ((c.tc : Thread Cert.StepSmallIdeal.nD Cert.StepSmallIdeal.τ).loc Cert.StepSmallIdeal.main_v116) = v26 c
          ∧ r.2.mem ((c.tc : Thread Cert.StepSmallIdeal.nD Cert.StepSmallIdeal.τ).loc Cert.StepSmallIdeal.main_v118) = v27 c
          ∧ r.2.mem ((c.tc : Thread Cert.StepSmallIdeal.nD Cert.StepSmallIdeal.τ).loc Cert.StepSmallIdeal.main_v120) = v28 c
          ∧ r.2.mem ((c.tc : Thread Cert.StepSmallIdeal.nD Cert.StepSmallIdeal.τ).loc Cert.StepSmallIdeal.main_v122) = v29 c
          ∧ r.2.mem ((c.tc : Thread Cert.StepSmallIdeal.nD Cert.StepSmallIdeal.τ).loc Cert.StepSmallIdeal.main_v124) = v30 c
          ∧ r.2.mem ((c.tc : Thread Cert.StepSmallIdeal.nD Cert.StepSmallIdeal.τ).loc Cert.StepSmallIdeal.main_v126) = v31 c
          ∧ r.2.mem ((c.tc : Thread Cert.StepSmallIdeal.nD Cert.StepSmallIdeal.τ).loc Cert.StepSmallIdeal.main_v128) = v32 c
          ∧ r.2.mem ((c.tc : Thread Cert.StepSmallIdeal.nD Cert.StepSmallIdeal.τ).loc Cert.StepSmallIdeal.main_v130) = v33 c
          ∧ r.2.mem ((c.tc : Thread Cert.StepSmallIdeal.nD Cert.StepSmallIdeal.τ).loc Cert.StepSmallIdeal.main_v132) = v34 c
          ∧ r.2.mem ((c.tc : Thread Cert.StepSmallIdeal.nD Cert.StepSmallIdeal.τ).loc Cert.StepSmallIdeal.main_v134) = v35 c
          ∧ r.2.mem ((c.tc : Thread Cert.StepSmallIdeal.nD Cert.StepSmallIdeal.τ).loc Cert.StepSmallIdeal.main_v136) = v36 c
          ∧ r.2.mem ((c.tc : Thread Cert.StepSmallIdeal.nD Cert.StepSmallIdeal.τ).loc Cert.StepSmallIdeal.main_v138) = v37 c
          ∧ r.2.mem ((c.tc : Thread Cert.StepSmallIdeal.nD Cert.StepSmallIdeal.τ).loc Cert.StepSmallIdeal.main_v139) = v38 c
          ∧ r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
          ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
          ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
          ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
          ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
          ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
          ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
          ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
          ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
          ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
          ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
          ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11)
          ∧ r.2.mem ((c.tc : Thread Cert.StepSmallIdeal.nD Cert.StepSmallIdeal.τ).loc Cert.StepSmallIdeal.main_arg12) = m ((c.tc : Thread Cert.StepSmallIdeal.nD Cert.StepSmallIdeal.τ).loc Cert.StepSmallIdeal.main_arg12)
          ∧ r.2.mem ((c.tc : Thread Cert.StepSmallIdeal.nD Cert.StepSmallIdeal.τ).loc Cert.StepSmallIdeal.main_arg13) = m ((c.tc : Thread Cert.StepSmallIdeal.nD Cert.StepSmallIdeal.τ).loc Cert.StepSmallIdeal.main_arg13)
          ∧ r.2.mem ((c.tc : Thread Cert.StepSmallIdeal.nD Cert.StepSmallIdeal.τ).loc Cert.StepSmallIdeal.main_arg14) = m ((c.tc : Thread Cert.StepSmallIdeal.nD Cert.StepSmallIdeal.τ).loc Cert.StepSmallIdeal.main_arg14)
          ∧ r.2.mem ((c.tc : Thread Cert.StepSmallIdeal.nD Cert.StepSmallIdeal.τ).loc Cert.StepSmallIdeal.main_arg15) = m ((c.tc : Thread Cert.StepSmallIdeal.nD Cert.StepSmallIdeal.τ).loc Cert.StepSmallIdeal.main_arg15)
          ∧ r.2.mem ((c.tc : Thread Cert.StepSmallIdeal.nD Cert.StepSmallIdeal.τ).loc Cert.StepSmallIdeal.main_arg16) = m ((c.tc : Thread Cert.StepSmallIdeal.nD Cert.StepSmallIdeal.τ).loc Cert.StepSmallIdeal.main_arg16)
          ∧ r.2.mem ((c.tc : Thread Cert.StepSmallIdeal.nD Cert.StepSmallIdeal.τ).loc Cert.StepSmallIdeal.main_arg17) = m ((c.tc : Thread Cert.StepSmallIdeal.nD Cert.StepSmallIdeal.τ).loc Cert.StepSmallIdeal.main_arg17)
          ∧ r.2.mem ((c.tc : Thread Cert.StepSmallIdeal.nD Cert.StepSmallIdeal.τ).loc Cert.StepSmallIdeal.main_arg18) = m ((c.tc : Thread Cert.StepSmallIdeal.nD Cert.StepSmallIdeal.τ).loc Cert.StepSmallIdeal.main_arg18)
          ∧ r.2.mem ((c.tc : Thread Cert.StepSmallIdeal.nD Cert.StepSmallIdeal.τ).loc Cert.StepSmallIdeal.main_arg19) = m ((c.tc : Thread Cert.StepSmallIdeal.nD Cert.StepSmallIdeal.τ).loc Cert.StepSmallIdeal.main_arg19)
          ∧ r.2.mem ((c.tc : Thread Cert.StepSmallIdeal.nD Cert.StepSmallIdeal.τ).loc Cert.StepSmallIdeal.main_arg20) = m ((c.tc : Thread Cert.StepSmallIdeal.nD Cert.StepSmallIdeal.τ).loc Cert.StepSmallIdeal.main_arg20)
          ∧ r.2.mem ((c.tc : Thread Cert.StepSmallIdeal.nD Cert.StepSmallIdeal.τ).loc Cert.StepSmallIdeal.main_arg21) = m ((c.tc : Thread Cert.StepSmallIdeal.nD Cert.StepSmallIdeal.τ).loc Cert.StepSmallIdeal.main_arg21)
          ∧ r.2.mem ((c.tc : Thread Cert.StepSmallIdeal.nD Cert.StepSmallIdeal.τ).loc Cert.StepSmallIdeal.main_arg22) = m ((c.tc : Thread Cert.StepSmallIdeal.nD Cert.StepSmallIdeal.τ).loc Cert.StepSmallIdeal.main_arg22)
          ∧ r.2.mem ((c.tc : Thread Cert.StepSmallIdeal.nD Cert.StepSmallIdeal.τ).loc Cert.StepSmallIdeal.main_arg23) = m ((c.tc : Thread Cert.StepSmallIdeal.nD Cert.StepSmallIdeal.τ).loc Cert.StepSmallIdeal.main_arg23)
          ∧ r.2.mem ((c.tc : Thread Cert.StepSmallIdeal.nD Cert.StepSmallIdeal.τ).loc Cert.StepSmallIdeal.main_arg24) = m ((c.tc : Thread Cert.StepSmallIdeal.nD Cert.StepSmallIdeal.τ).loc Cert.StepSmallIdeal.main_arg24)
          ∧ r.2.mem ((c.tc : Thread Cert.StepSmallIdeal.nD Cert.StepSmallIdeal.τ).loc Cert.StepSmallIdeal.main_arg25) = m ((c.tc : Thread Cert.StepSmallIdeal.nD Cert.StepSmallIdeal.τ).loc Cert.StepSmallIdeal.main_arg25)
          ∧ r.2.mem ((c.tc : Thread Cert.StepSmallIdeal.nD Cert.StepSmallIdeal.τ).loc Cert.StepSmallIdeal.main_arg26) = m ((c.tc : Thread Cert.StepSmallIdeal.nD Cert.StepSmallIdeal.τ).loc Cert.StepSmallIdeal.main_arg26)
          ∧ r.2.mem ((c.tc : Thread Cert.StepSmallIdeal.nD Cert.StepSmallIdeal.τ).loc Cert.StepSmallIdeal.main_arg27) = m ((c.tc : Thread Cert.StepSmallIdeal.nD Cert.StepSmallIdeal.τ).loc Cert.StepSmallIdeal.main_arg27)
          ∧ r.2.mem ((c.tc : Thread Cert.StepSmallIdeal.nD Cert.StepSmallIdeal.τ).loc Cert.StepSmallIdeal.main_arg28) = m ((c.tc : Thread Cert.StepSmallIdeal.nD Cert.StepSmallIdeal.τ).loc Cert.StepSmallIdeal.main_arg28)
          ∧ r.2.mem ((c.tc : Thread Cert.StepSmallIdeal.nD Cert.StepSmallIdeal.τ).loc Cert.StepSmallIdeal.main_arg29) = m ((c.tc : Thread Cert.StepSmallIdeal.nD Cert.StepSmallIdeal.τ).loc Cert.StepSmallIdeal.main_arg29)
          ∧ r.2.mem ((c.tc : Thread Cert.StepSmallIdeal.nD Cert.StepSmallIdeal.τ).loc Cert.StepSmallIdeal.main_arg30) = m ((c.tc : Thread Cert.StepSmallIdeal.nD Cert.StepSmallIdeal.τ).loc Cert.StepSmallIdeal.main_arg30)
          ∧ r.2.mem ((c.tc : Thread Cert.StepSmallIdeal.nD Cert.StepSmallIdeal.τ).loc Cert.StepSmallIdeal.main_arg31) = m ((c.tc : Thread Cert.StepSmallIdeal.nD Cert.StepSmallIdeal.τ).loc Cert.StepSmallIdeal.main_arg31)
          ∧ r.2.mem ((c.tc : Thread Cert.StepSmallIdeal.nD Cert.StepSmallIdeal.τ).loc Cert.StepSmallIdeal.main_arg32) = m ((c.tc : Thread Cert.StepSmallIdeal.nD Cert.StepSmallIdeal.τ).loc Cert.StepSmallIdeal.main_arg32)
          ∧ r.2.mem ((c.tc : Thread Cert.StepSmallIdeal.nD Cert.StepSmallIdeal.τ).loc Cert.StepSmallIdeal.main_arg33) = m ((c.tc : Thread Cert.StepSmallIdeal.nD Cert.StepSmallIdeal.τ).loc Cert.StepSmallIdeal.main_arg33)
          ∧ r.2.mem ((c.tc : Thread Cert.StepSmallIdeal.nD Cert.StepSmallIdeal.τ).loc Cert.StepSmallIdeal.main_arg34) = m ((c.tc : Thread Cert.StepSmallIdeal.nD Cert.StepSmallIdeal.τ).loc Cert.StepSmallIdeal.main_arg34)
          ∧ r.2.mem ((c.tc : Thread Cert.StepSmallIdeal.nD Cert.StepSmallIdeal.τ).loc Cert.StepSmallIdeal.main_arg35) = m ((c.tc : Thread Cert.StepSmallIdeal.nD Cert.StepSmallIdeal.τ).loc Cert.StepSmallIdeal.main_arg35)
          ∧ r.2.mem ((c.tc : Thread Cert.StepSmallIdeal.nD Cert.StepSmallIdeal.τ).loc Cert.StepSmallIdeal.main_arg36) = m ((c.tc : Thread Cert.StepSmallIdeal.nD Cert.StepSmallIdeal.τ).loc Cert.StepSmallIdeal.main_arg36)
          ∧ r.2.mem ((c.tc : Thread Cert.StepSmallIdeal.nD Cert.StepSmallIdeal.τ).loc Cert.StepSmallIdeal.main_arg37) = m ((c.tc : Thread Cert.StepSmallIdeal.nD Cert.StepSmallIdeal.τ).loc Cert.StepSmallIdeal.main_arg37)
          ∧ r.2.mem ((c.tc : Thread Cert.StepSmallIdeal.nD Cert.StepSmallIdeal.τ).loc Cert.StepSmallIdeal.main_arg38) = m ((c.tc : Thread Cert.StepSmallIdeal.nD Cert.StepSmallIdeal.τ).loc Cert.StepSmallIdeal.main_arg38)
          ∧ r.2.mem ((c.tc : Thread Cert.StepSmallIdeal.nD Cert.StepSmallIdeal.τ).loc Cert.StepSmallIdeal.main_arg39) = m ((c.tc : Thread Cert.StepSmallIdeal.nD Cert.StepSmallIdeal.τ).loc Cert.StepSmallIdeal.main_arg39)
          ∧ r.2.mem ((c.tc : Thread Cert.StepSmallIdeal.nD Cert.StepSmallIdeal.τ).loc Cert.StepSmallIdeal.main_arg40) = m ((c.tc : Thread Cert.StepSmallIdeal.nD Cert.StepSmallIdeal.τ).loc Cert.StepSmallIdeal.main_arg40)
          ∧ r.2.mem ((c.tc : Thread Cert.StepSmallIdeal.nD Cert.StepSmallIdeal.τ).loc Cert.StepSmallIdeal.main_arg41) = m ((c.tc : Thread Cert.StepSmallIdeal.nD Cert.StepSmallIdeal.τ).loc Cert.StepSmallIdeal.main_arg41)
          ∧ r.2.mem ((c.tc : Thread Cert.StepSmallIdeal.nD Cert.StepSmallIdeal.τ).loc Cert.StepSmallIdeal.main_arg42) = m ((c.tc : Thread Cert.StepSmallIdeal.nD Cert.StepSmallIdeal.τ).loc Cert.StepSmallIdeal.main_arg42)
          ∧ r.2.mem ((c.tc : Thread Cert.StepSmallIdeal.nD Cert.StepSmallIdeal.τ).loc Cert.StepSmallIdeal.main_arg43) = m ((c.tc : Thread Cert.StepSmallIdeal.nD Cert.StepSmallIdeal.τ).loc Cert.StepSmallIdeal.main_arg43)
          ∧ r.2.mem ((c.tc : Thread Cert.StepSmallIdeal.nD Cert.StepSmallIdeal.τ).loc Cert.StepSmallIdeal.main_arg44) = m ((c.tc : Thread Cert.StepSmallIdeal.nD Cert.StepSmallIdeal.τ).loc Cert.StepSmallIdeal.main_arg44)
          ∧ r.2.mem ((c.tc : Thread Cert.StepSmallIdeal.nD Cert.StepSmallIdeal.τ).loc Cert.StepSmallIdeal.main_arg45) = m ((c.tc : Thread Cert.StepSmallIdeal.nD Cert.StepSmallIdeal.τ).loc Cert.StepSmallIdeal.main_arg45)
          ∧ r.2.mem ((c.tc : Thread Cert.StepSmallIdeal.nD Cert.StepSmallIdeal.τ).loc Cert.StepSmallIdeal.main_arg46) = m ((c.tc : Thread Cert.StepSmallIdeal.nD Cert.StepSmallIdeal.τ).loc Cert.StepSmallIdeal.main_arg46)
          ∧ r.2.mem ((c.tc : Thread Cert.StepSmallIdeal.nD Cert.StepSmallIdeal.τ).loc Cert.StepSmallIdeal.main_arg47) = m ((c.tc : Thread Cert.StepSmallIdeal.nD Cert.StepSmallIdeal.τ).loc Cert.StepSmallIdeal.main_arg47)
          ∧ r.2.mem ((c.tc : Thread Cert.StepSmallIdeal.nD Cert.StepSmallIdeal.τ).loc Cert.StepSmallIdeal.main_arg48) = m ((c.tc : Thread Cert.StepSmallIdeal.nD Cert.StepSmallIdeal.τ).loc Cert.StepSmallIdeal.main_arg48)
          ∧ r.2.mem ((c.tc : Thread Cert.StepSmallIdeal.nD Cert.StepSmallIdeal.τ).loc Cert.StepSmallIdeal.main_arg49) = m ((c.tc : Thread Cert.StepSmallIdeal.nD Cert.StepSmallIdeal.τ).loc Cert.StepSmallIdeal.main_arg49)
          ∧ r.2.mem ((c.tc : Thread Cert.StepSmallIdeal.nD Cert.StepSmallIdeal.τ).loc Cert.StepSmallIdeal.main_arg50) = m ((c.tc : Thread Cert.StepSmallIdeal.nD Cert.StepSmallIdeal.τ).loc Cert.StepSmallIdeal.main_arg50)
          ∧ r.2.mem ((c.tc : Thread Cert.StepSmallIdeal.nD Cert.StepSmallIdeal.τ).loc Cert.StepSmallIdeal.main_arg51) = m ((c.tc : Thread Cert.StepSmallIdeal.nD Cert.StepSmallIdeal.τ).loc Cert.StepSmallIdeal.main_arg51))
      ∧ θ_run (Cert.StepSmallRefIdeal.defs (F := Ideal)) (onTc (τ := Cert.StepSmallRefIdeal.τ) (Cert.StepSmallRefIdeal.main (F := Ideal))) ⟨m', fun _ => 0, g'⟩ (fun r => ∀ c : Dev Cert.StepSmallRefIdeal.nD,
          r.2.mem ((c.tc : Thread Cert.StepSmallRefIdeal.nD Cert.StepSmallRefIdeal.τ).loc Cert.StepSmallRefIdeal.main_v23) = v0 c
          ∧ r.2.mem ((c.tc : Thread Cert.StepSmallRefIdeal.nD Cert.StepSmallRefIdeal.τ).loc Cert.StepSmallRefIdeal.main_v47) = v1 c
          ∧ r.2.mem ((c.tc : Thread Cert.StepSmallRefIdeal.nD Cert.StepSmallRefIdeal.τ).loc Cert.StepSmallRefIdeal.main_v71) = v2 c
          ∧ r.2.mem ((c.tc : Thread Cert.StepSmallRefIdeal.nD Cert.StepSmallRefIdeal.τ).loc Cert.StepSmallRefIdeal.main_v95) = v3 c
          ∧ r.2.mem ((c.tc : Thread Cert.StepSmallRefIdeal.nD Cert.StepSmallRefIdeal.τ).loc Cert.StepSmallRefIdeal.main_v119) = v4 c
          ∧ r.2.mem ((c.tc : Thread Cert.StepSmallRefIdeal.nD Cert.StepSmallRefIdeal.τ).loc Cert.StepSmallRefIdeal.main_v143) = v5 c
          ∧ r.2.mem ((c.tc : Thread Cert.StepSmallRefIdeal.nD Cert.StepSmallRefIdeal.τ).loc Cert.StepSmallRefIdeal.main_v167) = v6 c
          ∧ r.2.mem ((c.tc : Thread Cert.StepSmallRefIdeal.nD Cert.StepSmallRefIdeal.τ).loc Cert.StepSmallRefIdeal.main_v191) = v7 c
          ∧ r.2.mem ((c.tc : Thread Cert.StepSmallRefIdeal.nD Cert.StepSmallRefIdeal.τ).loc Cert.StepSmallRefIdeal.main_v215) = v8 c
          ∧ r.2.mem ((c.tc : Thread Cert.StepSmallRefIdeal.nD Cert.StepSmallRefIdeal.τ).loc Cert.StepSmallRefIdeal.main_v239) = v9 c
          ∧ r.2.mem ((c.tc : Thread Cert.StepSmallRefIdeal.nD Cert.StepSmallRefIdeal.τ).loc Cert.StepSmallRefIdeal.main_v263) = v10 c
          ∧ r.2.mem ((c.tc : Thread Cert.StepSmallRefIdeal.nD Cert.StepSmallRefIdeal.τ).loc Cert.StepSmallRefIdeal.main_v287) = v11 c
          ∧ r.2.mem ((c.tc : Thread Cert.StepSmallRefIdeal.nD Cert.StepSmallRefIdeal.τ).loc Cert.StepSmallRefIdeal.main_v311) = v12 c
          ∧ r.2.mem ((c.tc : Thread Cert.StepSmallRefIdeal.nD Cert.StepSmallRefIdeal.τ).loc Cert.StepSmallRefIdeal.main_v4) = v13 c
          ∧ r.2.mem ((c.tc : Thread Cert.StepSmallRefIdeal.nD Cert.StepSmallRefIdeal.τ).loc Cert.StepSmallRefIdeal.main_v28) = v14 c
          ∧ r.2.mem ((c.tc : Thread Cert.StepSmallRefIdeal.nD Cert.StepSmallRefIdeal.τ).loc Cert.StepSmallRefIdeal.main_v52) = v15 c
          ∧ r.2.mem ((c.tc : Thread Cert.StepSmallRefIdeal.nD Cert.StepSmallRefIdeal.τ).loc Cert.StepSmallRefIdeal.main_v76) = v16 c
          ∧ r.2.mem ((c.tc : Thread Cert.StepSmallRefIdeal.nD Cert.StepSmallRefIdeal.τ).loc Cert.StepSmallRefIdeal.main_v100) = v17 c
          ∧ r.2.mem ((c.tc : Thread Cert.StepSmallRefIdeal.nD Cert.StepSmallRefIdeal.τ).loc Cert.StepSmallRefIdeal.main_v124) = v18 c
          ∧ r.2.mem ((c.tc : Thread Cert.StepSmallRefIdeal.nD Cert.StepSmallRefIdeal.τ).loc Cert.StepSmallRefIdeal.main_v148) = v19 c
          ∧ r.2.mem ((c.tc : Thread Cert.StepSmallRefIdeal.nD Cert.StepSmallRefIdeal.τ).loc Cert.StepSmallRefIdeal.main_v172) = v20 c
          ∧ r.2.mem ((c.tc : Thread Cert.StepSmallRefIdeal.nD Cert.StepSmallRefIdeal.τ).loc Cert.StepSmallRefIdeal.main_v196) = v21 c
          ∧ r.2.mem ((c.tc : Thread Cert.StepSmallRefIdeal.nD Cert.StepSmallRefIdeal.τ).loc Cert.StepSmallRefIdeal.main_v220) = v22 c
          ∧ r.2.mem ((c.tc : Thread Cert.StepSmallRefIdeal.nD Cert.StepSmallRefIdeal.τ).loc Cert.StepSmallRefIdeal.main_v244) = v23 c
          ∧ r.2.mem ((c.tc : Thread Cert.StepSmallRefIdeal.nD Cert.StepSmallRefIdeal.τ).loc Cert.StepSmallRefIdeal.main_v268) = v24 c
          ∧ r.2.mem ((c.tc : Thread Cert.StepSmallRefIdeal.nD Cert.StepSmallRefIdeal.τ).loc Cert.StepSmallRefIdeal.main_v292) = v25 c
          ∧ r.2.mem ((c.tc : Thread Cert.StepSmallRefIdeal.nD Cert.StepSmallRefIdeal.τ).loc Cert.StepSmallRefIdeal.main_v10) = v26 c
          ∧ r.2.mem ((c.tc : Thread Cert.StepSmallRefIdeal.nD Cert.StepSmallRefIdeal.τ).loc Cert.StepSmallRefIdeal.main_v34) = v27 c
          ∧ r.2.mem ((c.tc : Thread Cert.StepSmallRefIdeal.nD Cert.StepSmallRefIdeal.τ).loc Cert.StepSmallRefIdeal.main_v58) = v28 c
          ∧ r.2.mem ((c.tc : Thread Cert.StepSmallRefIdeal.nD Cert.StepSmallRefIdeal.τ).loc Cert.StepSmallRefIdeal.main_v82) = v29 c
          ∧ r.2.mem ((c.tc : Thread Cert.StepSmallRefIdeal.nD Cert.StepSmallRefIdeal.τ).loc Cert.StepSmallRefIdeal.main_v106) = v30 c
          ∧ r.2.mem ((c.tc : Thread Cert.StepSmallRefIdeal.nD Cert.StepSmallRefIdeal.τ).loc Cert.StepSmallRefIdeal.main_v130) = v31 c
          ∧ r.2.mem ((c.tc : Thread Cert.StepSmallRefIdeal.nD Cert.StepSmallRefIdeal.τ).loc Cert.StepSmallRefIdeal.main_v154) = v32 c
          ∧ r.2.mem ((c.tc : Thread Cert.StepSmallRefIdeal.nD Cert.StepSmallRefIdeal.τ).loc Cert.StepSmallRefIdeal.main_v178) = v33 c
          ∧ r.2.mem ((c.tc : Thread Cert.StepSmallRefIdeal.nD Cert.StepSmallRefIdeal.τ).loc Cert.StepSmallRefIdeal.main_v202) = v34 c
          ∧ r.2.mem ((c.tc : Thread Cert.StepSmallRefIdeal.nD Cert.StepSmallRefIdeal.τ).loc Cert.StepSmallRefIdeal.main_v226) = v35 c
          ∧ r.2.mem ((c.tc : Thread Cert.StepSmallRefIdeal.nD Cert.StepSmallRefIdeal.τ).loc Cert.StepSmallRefIdeal.main_v250) = v36 c
          ∧ r.2.mem ((c.tc : Thread Cert.StepSmallRefIdeal.nD Cert.StepSmallRefIdeal.τ).loc Cert.StepSmallRefIdeal.main_v274) = v37 c
          ∧ r.2.mem ((c.tc : Thread Cert.StepSmallRefIdeal.nD Cert.StepSmallRefIdeal.τ).loc Cert.StepSmallRefIdeal.main_v298) = v38 c
          ∧ r.2.mem ((c.tc : Thread Cert.StepSmallRefIdeal.nD Cert.StepSmallRefIdeal.τ).loc Cert.StepSmallRefIdeal.main_arg0) = m' ((c.tc : Thread Cert.StepSmallRefIdeal.nD Cert.StepSmallRefIdeal.τ).loc Cert.StepSmallRefIdeal.main_arg0)
          ∧ r.2.mem ((c.tc : Thread Cert.StepSmallRefIdeal.nD Cert.StepSmallRefIdeal.τ).loc Cert.StepSmallRefIdeal.main_arg1) = m' ((c.tc : Thread Cert.StepSmallRefIdeal.nD Cert.StepSmallRefIdeal.τ).loc Cert.StepSmallRefIdeal.main_arg1)
          ∧ r.2.mem ((c.tc : Thread Cert.StepSmallRefIdeal.nD Cert.StepSmallRefIdeal.τ).loc Cert.StepSmallRefIdeal.main_arg2) = m' ((c.tc : Thread Cert.StepSmallRefIdeal.nD Cert.StepSmallRefIdeal.τ).loc Cert.StepSmallRefIdeal.main_arg2)
          ∧ r.2.mem ((c.tc : Thread Cert.StepSmallRefIdeal.nD Cert.StepSmallRefIdeal.τ).loc Cert.StepSmallRefIdeal.main_arg3) = m' ((c.tc : Thread Cert.StepSmallRefIdeal.nD Cert.StepSmallRefIdeal.τ).loc Cert.StepSmallRefIdeal.main_arg3)
          ∧ r.2.mem ((c.tc : Thread Cert.StepSmallRefIdeal.nD Cert.StepSmallRefIdeal.τ).loc Cert.StepSmallRefIdeal.main_arg4) = m' ((c.tc : Thread Cert.StepSmallRefIdeal.nD Cert.StepSmallRefIdeal.τ).loc Cert.StepSmallRefIdeal.main_arg4)
          ∧ r.2.mem ((c.tc : Thread Cert.StepSmallRefIdeal.nD Cert.StepSmallRefIdeal.τ).loc Cert.StepSmallRefIdeal.main_arg5) = m' ((c.tc : Thread Cert.StepSmallRefIdeal.nD Cert.StepSmallRefIdeal.τ).loc Cert.StepSmallRefIdeal.main_arg5)
          ∧ r.2.mem ((c.tc : Thread Cert.StepSmallRefIdeal.nD Cert.StepSmallRefIdeal.τ).loc Cert.StepSmallRefIdeal.main_arg6) = m' ((c.tc : Thread Cert.StepSmallRefIdeal.nD Cert.StepSmallRefIdeal.τ).loc Cert.StepSmallRefIdeal.main_arg6)
          ∧ r.2.mem ((c.tc : Thread Cert.StepSmallRefIdeal.nD Cert.StepSmallRefIdeal.τ).loc Cert.StepSmallRefIdeal.main_arg7) = m' ((c.tc : Thread Cert.StepSmallRefIdeal.nD Cert.StepSmallRefIdeal.τ).loc Cert.StepSmallRefIdeal.main_arg7)
          ∧ r.2.mem ((c.tc : Thread Cert.StepSmallRefIdeal.nD Cert.StepSmallRefIdeal.τ).loc Cert.StepSmallRefIdeal.main_arg8) = m' ((c.tc : Thread Cert.StepSmallRefIdeal.nD Cert.StepSmallRefIdeal.τ).loc Cert.StepSmallRefIdeal.main_arg8)
          ∧ r.2.mem ((c.tc : Thread Cert.StepSmallRefIdeal.nD Cert.StepSmallRefIdeal.τ).loc Cert.StepSmallRefIdeal.main_arg9) = m' ((c.tc : Thread Cert.StepSmallRefIdeal.nD Cert.StepSmallRefIdeal.τ).loc Cert.StepSmallRefIdeal.main_arg9)
          ∧ r.2.mem ((c.tc : Thread Cert.StepSmallRefIdeal.nD Cert.StepSmallRefIdeal.τ).loc Cert.StepSmallRefIdeal.main_arg10) = m' ((c.tc : Thread Cert.StepSmallRefIdeal.nD Cert.StepSmallRefIdeal.τ).loc Cert.StepSmallRefIdeal.main_arg10)
          ∧ r.2.mem ((c.tc : Thread Cert.StepSmallRefIdeal.nD Cert.StepSmallRefIdeal.τ).loc Cert.StepSmallRefIdeal.main_arg11) = m' ((c.tc : Thread Cert.StepSmallRefIdeal.nD Cert.StepSmallRefIdeal.τ).loc Cert.StepSmallRefIdeal.main_arg11)
          ∧ r.2.mem ((c.tc : Thread Cert.StepSmallRefIdeal.nD Cert.StepSmallRefIdeal.τ).loc Cert.StepSmallRefIdeal.main_arg12) = m' ((c.tc : Thread Cert.StepSmallRefIdeal.nD Cert.StepSmallRefIdeal.τ).loc Cert.StepSmallRefIdeal.main_arg12)
          ∧ r.2.mem ((c.tc : Thread Cert.StepSmallRefIdeal.nD Cert.StepSmallRefIdeal.τ).loc Cert.StepSmallRefIdeal.main_arg13) = m' ((c.tc : Thread Cert.StepSmallRefIdeal.nD Cert.StepSmallRefIdeal.τ).loc Cert.StepSmallRefIdeal.main_arg13)
          ∧ r.2.mem ((c.tc : Thread Cert.StepSmallRefIdeal.nD Cert.StepSmallRefIdeal.τ).loc Cert.StepSmallRefIdeal.main_arg14) = m' ((c.tc : Thread Cert.StepSmallRefIdeal.nD Cert.StepSmallRefIdeal.τ).loc Cert.StepSmallRefIdeal.main_arg14)
          ∧ r.2.mem ((c.tc : Thread Cert.StepSmallRefIdeal.nD Cert.StepSmallRefIdeal.τ).loc Cert.StepSmallRefIdeal.main_arg15) = m' ((c.tc : Thread Cert.StepSmallRefIdeal.nD Cert.StepSmallRefIdeal.τ).loc Cert.StepSmallRefIdeal.main_arg15)
          ∧ r.2.mem ((c.tc : Thread Cert.StepSmallRefIdeal.nD Cert.StepSmallRefIdeal.τ).loc Cert.StepSmallRefIdeal.main_arg16) = m' ((c.tc : Thread Cert.StepSmallRefIdeal.nD Cert.StepSmallRefIdeal.τ).loc Cert.StepSmallRefIdeal.main_arg16)
          ∧ r.2.mem ((c.tc : Thread Cert.StepSmallRefIdeal.nD Cert.StepSmallRefIdeal.τ).loc Cert.StepSmallRefIdeal.main_arg17) = m' ((c.tc : Thread Cert.StepSmallRefIdeal.nD Cert.StepSmallRefIdeal.τ).loc Cert.StepSmallRefIdeal.main_arg17)
          ∧ r.2.mem ((c.tc : Thread Cert.StepSmallRefIdeal.nD Cert.StepSmallRefIdeal.τ).loc Cert.StepSmallRefIdeal.main_arg18) = m' ((c.tc : Thread Cert.StepSmallRefIdeal.nD Cert.StepSmallRefIdeal.τ).loc Cert.StepSmallRefIdeal.main_arg18)
          ∧ r.2.mem ((c.tc : Thread Cert.StepSmallRefIdeal.nD Cert.StepSmallRefIdeal.τ).loc Cert.StepSmallRefIdeal.main_arg19) = m' ((c.tc : Thread Cert.StepSmallRefIdeal.nD Cert.StepSmallRefIdeal.τ).loc Cert.StepSmallRefIdeal.main_arg19)
          ∧ r.2.mem ((c.tc : Thread Cert.StepSmallRefIdeal.nD Cert.StepSmallRefIdeal.τ).loc Cert.StepSmallRefIdeal.main_arg20) = m' ((c.tc : Thread Cert.StepSmallRefIdeal.nD Cert.StepSmallRefIdeal.τ).loc Cert.StepSmallRefIdeal.main_arg20)
          ∧ r.2.mem ((c.tc : Thread Cert.StepSmallRefIdeal.nD Cert.StepSmallRefIdeal.τ).loc Cert.StepSmallRefIdeal.main_arg21) = m' ((c.tc : Thread Cert.StepSmallRefIdeal.nD Cert.StepSmallRefIdeal.τ).loc Cert.StepSmallRefIdeal.main_arg21)
          ∧ r.2.mem ((c.tc : Thread Cert.StepSmallRefIdeal.nD Cert.StepSmallRefIdeal.τ).loc Cert.StepSmallRefIdeal.main_arg22) = m' ((c.tc : Thread Cert.StepSmallRefIdeal.nD Cert.StepSmallRefIdeal.τ).loc Cert.StepSmallRefIdeal.main_arg22)
          ∧ r.2.mem ((c.tc : Thread Cert.StepSmallRefIdeal.nD Cert.StepSmallRefIdeal.τ).loc Cert.StepSmallRefIdeal.main_arg23) = m' ((c.tc : Thread Cert.StepSmallRefIdeal.nD Cert.StepSmallRefIdeal.τ).loc Cert.StepSmallRefIdeal.main_arg23)
          ∧ r.2.mem ((c.tc : Thread Cert.StepSmallRefIdeal.nD Cert.StepSmallRefIdeal.τ).loc Cert.StepSmallRefIdeal.main_arg24) = m' ((c.tc : Thread Cert.StepSmallRefIdeal.nD Cert.StepSmallRefIdeal.τ).loc Cert.StepSmallRefIdeal.main_arg24)
          ∧ r.2.mem ((c.tc : Thread Cert.StepSmallRefIdeal.nD Cert.StepSmallRefIdeal.τ).loc Cert.StepSmallRefIdeal.main_arg25) = m' ((c.tc : Thread Cert.StepSmallRefIdeal.nD Cert.StepSmallRefIdeal.τ).loc Cert.StepSmallRefIdeal.main_arg25)
          ∧ r.2.mem ((c.tc : Thread Cert.StepSmallRefIdeal.nD Cert.StepSmallRefIdeal.τ).loc Cert.StepSmallRefIdeal.main_arg26) = m' ((c.tc : Thread Cert.StepSmallRefIdeal.nD Cert.StepSmallRefIdeal.τ).loc Cert.StepSmallRefIdeal.main_arg26)
          ∧ r.2.mem ((c.tc : Thread Cert.StepSmallRefIdeal.nD Cert.StepSmallRefIdeal.τ).loc Cert.StepSmallRefIdeal.main_arg27) = m' ((c.tc : Thread Cert.StepSmallRefIdeal.nD Cert.StepSmallRefIdeal.τ).loc Cert.StepSmallRefIdeal.main_arg27)
          ∧ r.2.mem ((c.tc : Thread Cert.StepSmallRefIdeal.nD Cert.StepSmallRefIdeal.τ).loc Cert.StepSmallRefIdeal.main_arg28) = m' ((c.tc : Thread Cert.StepSmallRefIdeal.nD Cert.StepSmallRefIdeal.τ).loc Cert.StepSmallRefIdeal.main_arg28)
          ∧ r.2.mem ((c.tc : Thread Cert.StepSmallRefIdeal.nD Cert.StepSmallRefIdeal.τ).loc Cert.StepSmallRefIdeal.main_arg29) = m' ((c.tc : Thread Cert.StepSmallRefIdeal.nD Cert.StepSmallRefIdeal.τ).loc Cert.StepSmallRefIdeal.main_arg29)
          ∧ r.2.mem ((c.tc : Thread Cert.StepSmallRefIdeal.nD Cert.StepSmallRefIdeal.τ).loc Cert.StepSmallRefIdeal.main_arg30) = m' ((c.tc : Thread Cert.StepSmallRefIdeal.nD Cert.StepSmallRefIdeal.τ).loc Cert.StepSmallRefIdeal.main_arg30)
          ∧ r.2.mem ((c.tc : Thread Cert.StepSmallRefIdeal.nD Cert.StepSmallRefIdeal.τ).loc Cert.StepSmallRefIdeal.main_arg31) = m' ((c.tc : Thread Cert.StepSmallRefIdeal.nD Cert.StepSmallRefIdeal.τ).loc Cert.StepSmallRefIdeal.main_arg31)
          ∧ r.2.mem ((c.tc : Thread Cert.StepSmallRefIdeal.nD Cert.StepSmallRefIdeal.τ).loc Cert.StepSmallRefIdeal.main_arg32) = m' ((c.tc : Thread Cert.StepSmallRefIdeal.nD Cert.StepSmallRefIdeal.τ).loc Cert.StepSmallRefIdeal.main_arg32)
          ∧ r.2.mem ((c.tc : Thread Cert.StepSmallRefIdeal.nD Cert.StepSmallRefIdeal.τ).loc Cert.StepSmallRefIdeal.main_arg33) = m' ((c.tc : Thread Cert.StepSmallRefIdeal.nD Cert.StepSmallRefIdeal.τ).loc Cert.StepSmallRefIdeal.main_arg33)
          ∧ r.2.mem ((c.tc : Thread Cert.StepSmallRefIdeal.nD Cert.StepSmallRefIdeal.τ).loc Cert.StepSmallRefIdeal.main_arg34) = m' ((c.tc : Thread Cert.StepSmallRefIdeal.nD Cert.StepSmallRefIdeal.τ).loc Cert.StepSmallRefIdeal.main_arg34)
          ∧ r.2.mem ((c.tc : Thread Cert.StepSmallRefIdeal.nD Cert.StepSmallRefIdeal.τ).loc Cert.StepSmallRefIdeal.main_arg35) = m' ((c.tc : Thread Cert.StepSmallRefIdeal.nD Cert.StepSmallRefIdeal.τ).loc Cert.StepSmallRefIdeal.main_arg35)
          ∧ r.2.mem ((c.tc : Thread Cert.StepSmallRefIdeal.nD Cert.StepSmallRefIdeal.τ).loc Cert.StepSmallRefIdeal.main_arg36) = m' ((c.tc : Thread Cert.StepSmallRefIdeal.nD Cert.StepSmallRefIdeal.τ).loc Cert.StepSmallRefIdeal.main_arg36)
          ∧ r.2.mem ((c.tc : Thread Cert.StepSmallRefIdeal.nD Cert.StepSmallRefIdeal.τ).loc Cert.StepSmallRefIdeal.main_arg37) = m' ((c.tc : Thread Cert.StepSmallRefIdeal.nD Cert.StepSmallRefIdeal.τ).loc Cert.StepSmallRefIdeal.main_arg37)
          ∧ r.2.mem ((c.tc : Thread Cert.StepSmallRefIdeal.nD Cert.StepSmallRefIdeal.τ).loc Cert.StepSmallRefIdeal.main_arg38) = m' ((c.tc : Thread Cert.StepSmallRefIdeal.nD Cert.StepSmallRefIdeal.τ).loc Cert.StepSmallRefIdeal.main_arg38)
          ∧ r.2.mem ((c.tc : Thread Cert.StepSmallRefIdeal.nD Cert.StepSmallRefIdeal.τ).loc Cert.StepSmallRefIdeal.main_arg39) = m' ((c.tc : Thread Cert.StepSmallRefIdeal.nD Cert.StepSmallRefIdeal.τ).loc Cert.StepSmallRefIdeal.main_arg39)
          ∧ r.2.mem ((c.tc : Thread Cert.StepSmallRefIdeal.nD Cert.StepSmallRefIdeal.τ).loc Cert.StepSmallRefIdeal.main_arg40) = m' ((c.tc : Thread Cert.StepSmallRefIdeal.nD Cert.StepSmallRefIdeal.τ).loc Cert.StepSmallRefIdeal.main_arg40)
          ∧ r.2.mem ((c.tc : Thread Cert.StepSmallRefIdeal.nD Cert.StepSmallRefIdeal.τ).loc Cert.StepSmallRefIdeal.main_arg41) = m' ((c.tc : Thread Cert.StepSmallRefIdeal.nD Cert.StepSmallRefIdeal.τ).loc Cert.StepSmallRefIdeal.main_arg41)
          ∧ r.2.mem ((c.tc : Thread Cert.StepSmallRefIdeal.nD Cert.StepSmallRefIdeal.τ).loc Cert.StepSmallRefIdeal.main_arg42) = m' ((c.tc : Thread Cert.StepSmallRefIdeal.nD Cert.StepSmallRefIdeal.τ).loc Cert.StepSmallRefIdeal.main_arg42)
          ∧ r.2.mem ((c.tc : Thread Cert.StepSmallRefIdeal.nD Cert.StepSmallRefIdeal.τ).loc Cert.StepSmallRefIdeal.main_arg43) = m' ((c.tc : Thread Cert.StepSmallRefIdeal.nD Cert.StepSmallRefIdeal.τ).loc Cert.StepSmallRefIdeal.main_arg43)
          ∧ r.2.mem ((c.tc : Thread Cert.StepSmallRefIdeal.nD Cert.StepSmallRefIdeal.τ).loc Cert.StepSmallRefIdeal.main_arg44) = m' ((c.tc : Thread Cert.StepSmallRefIdeal.nD Cert.StepSmallRefIdeal.τ).loc Cert.StepSmallRefIdeal.main_arg44)
          ∧ r.2.mem ((c.tc : Thread Cert.StepSmallRefIdeal.nD Cert.StepSmallRefIdeal.τ).loc Cert.StepSmallRefIdeal.main_arg45) = m' ((c.tc : Thread Cert.StepSmallRefIdeal.nD Cert.StepSmallRefIdeal.τ).loc Cert.StepSmallRefIdeal.main_arg45)
          ∧ r.2.mem ((c.tc : Thread Cert.StepSmallRefIdeal.nD Cert.StepSmallRefIdeal.τ).loc Cert.StepSmallRefIdeal.main_arg46) = m' ((c.tc : Thread Cert.StepSmallRefIdeal.nD Cert.StepSmallRefIdeal.τ).loc Cert.StepSmallRefIdeal.main_arg46)
          ∧ r.2.mem ((c.tc : Thread Cert.StepSmallRefIdeal.nD Cert.StepSmallRefIdeal.τ).loc Cert.StepSmallRefIdeal.main_arg47) = m' ((c.tc : Thread Cert.StepSmallRefIdeal.nD Cert.StepSmallRefIdeal.τ).loc Cert.StepSmallRefIdeal.main_arg47)
          ∧ r.2.mem ((c.tc : Thread Cert.StepSmallRefIdeal.nD Cert.StepSmallRefIdeal.τ).loc Cert.StepSmallRefIdeal.main_arg48) = m' ((c.tc : Thread Cert.StepSmallRefIdeal.nD Cert.StepSmallRefIdeal.τ).loc Cert.StepSmallRefIdeal.main_arg48)
          ∧ r.2.mem ((c.tc : Thread Cert.StepSmallRefIdeal.nD Cert.StepSmallRefIdeal.τ).loc Cert.StepSmallRefIdeal.main_arg49) = m' ((c.tc : Thread Cert.StepSmallRefIdeal.nD Cert.StepSmallRefIdeal.τ).loc Cert.StepSmallRefIdeal.main_arg49)
          ∧ r.2.mem ((c.tc : Thread Cert.StepSmallRefIdeal.nD Cert.StepSmallRefIdeal.τ).loc Cert.StepSmallRefIdeal.main_arg50) = m' ((c.tc : Thread Cert.StepSmallRefIdeal.nD Cert.StepSmallRefIdeal.τ).loc Cert.StepSmallRefIdeal.main_arg50)
          ∧ r.2.mem ((c.tc : Thread Cert.StepSmallRefIdeal.nD Cert.StepSmallRefIdeal.τ).loc Cert.StepSmallRefIdeal.main_arg51) = m' ((c.tc : Thread Cert.StepSmallRefIdeal.nD Cert.StepSmallRefIdeal.τ).loc Cert.StepSmallRefIdeal.main_arg51))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)
      ∧ m' ((c.tc : Thread Cert.SumsRefIdeal.nD Cert.SumsRefIdeal.τ).loc Cert.SumsRefIdeal.main_arg1) = m ((c.tc : Thread Cert.SumsIdeal.nD Cert.SumsIdeal.τ).loc Cert.SumsIdeal.main_arg1)
      ∧ m' ((c.tc : Thread Cert.SumsRefIdeal.nD Cert.SumsRefIdeal.τ).loc Cert.SumsRefIdeal.main_arg2) = m ((c.tc : Thread Cert.SumsIdeal.nD Cert.SumsIdeal.τ).loc Cert.SumsIdeal.main_arg2)
      ∧ m' ((c.tc : Thread Cert.SumsRefIdeal.nD Cert.SumsRefIdeal.τ).loc Cert.SumsRefIdeal.main_arg3) = m ((c.tc : Thread Cert.SumsIdeal.nD Cert.SumsIdeal.τ).loc Cert.SumsIdeal.main_arg3)
      ∧ m' ((c.tc : Thread Cert.SumsRefIdeal.nD Cert.SumsRefIdeal.τ).loc Cert.SumsRefIdeal.main_arg4) = m ((c.tc : Thread Cert.SumsIdeal.nD Cert.SumsIdeal.τ).loc Cert.SumsIdeal.main_arg4)
      ∧ m' ((c.tc : Thread Cert.SumsRefIdeal.nD Cert.SumsRefIdeal.τ).loc Cert.SumsRefIdeal.main_arg5) = m ((c.tc : Thread Cert.SumsIdeal.nD Cert.SumsIdeal.τ).loc Cert.SumsIdeal.main_arg5)
      ∧ m' ((c.tc : Thread Cert.SumsRefIdeal.nD Cert.SumsRefIdeal.τ).loc Cert.SumsRefIdeal.main_arg6) = m ((c.tc : Thread Cert.SumsIdeal.nD Cert.SumsIdeal.τ).loc Cert.SumsIdeal.main_arg6)
      ∧ m' ((c.tc : Thread Cert.SumsRefIdeal.nD Cert.SumsRefIdeal.τ).loc Cert.SumsRefIdeal.main_arg7) = m ((c.tc : Thread Cert.SumsIdeal.nD Cert.SumsIdeal.τ).loc Cert.SumsIdeal.main_arg7)
      ∧ m' ((c.tc : Thread Cert.SumsRefIdeal.nD Cert.SumsRefIdeal.τ).loc Cert.SumsRefIdeal.main_arg8) = m ((c.tc : Thread Cert.SumsIdeal.nD Cert.SumsIdeal.τ).loc Cert.SumsIdeal.main_arg8)
      ∧ m' ((c.tc : Thread Cert.SumsRefIdeal.nD Cert.SumsRefIdeal.τ).loc Cert.SumsRefIdeal.main_arg9) = m ((c.tc : Thread Cert.SumsIdeal.nD Cert.SumsIdeal.τ).loc Cert.SumsIdeal.main_arg9)
      ∧ m' ((c.tc : Thread Cert.SumsRefIdeal.nD Cert.SumsRefIdeal.τ).loc Cert.SumsRefIdeal.main_arg10) = m ((c.tc : Thread Cert.SumsIdeal.nD Cert.SumsIdeal.τ).loc Cert.SumsIdeal.main_arg10)
      ∧ m' ((c.tc : Thread Cert.SumsRefIdeal.nD Cert.SumsRefIdeal.τ).loc Cert.SumsRefIdeal.main_arg11) = m ((c.tc : Thread Cert.SumsIdeal.nD Cert.SumsIdeal.τ).loc Cert.SumsIdeal.main_arg11)
      ∧ m' ((c.tc : Thread Cert.SumsRefIdeal.nD Cert.SumsRefIdeal.τ).loc Cert.SumsRefIdeal.main_arg12) = m ((c.tc : Thread Cert.SumsIdeal.nD Cert.SumsIdeal.τ).loc Cert.SumsIdeal.main_arg12)
      ∧ m' ((c.tc : Thread Cert.SumsRefIdeal.nD Cert.SumsRefIdeal.τ).loc Cert.SumsRefIdeal.main_arg13) = m ((c.tc : Thread Cert.SumsIdeal.nD Cert.SumsIdeal.τ).loc Cert.SumsIdeal.main_arg13)) →
    ∃ (v0 : (c : Dev Cert.SumsIdeal.nD) → Buf (Elt Ideal) ((c.tc : Thread Cert.SumsIdeal.nD Cert.SumsIdeal.τ).loc Cert.SumsIdeal.main_v18)) (v1 : (c : Dev Cert.SumsIdeal.nD) → Buf (Elt Ideal) ((c.tc : Thread Cert.SumsIdeal.nD Cert.SumsIdeal.τ).loc Cert.SumsIdeal.main_v20)) (v2 : (c : Dev Cert.SumsIdeal.nD) → Buf (Elt Ideal) ((c.tc : Thread Cert.SumsIdeal.nD Cert.SumsIdeal.τ).loc Cert.SumsIdeal.main_v22)) (v3 : (c : Dev Cert.SumsIdeal.nD) → Buf (Elt Ideal) ((c.tc : Thread Cert.SumsIdeal.nD Cert.SumsIdeal.τ).loc Cert.SumsIdeal.main_v24)) (v4 : (c : Dev Cert.SumsIdeal.nD) → Buf (Elt Ideal) ((c.tc : Thread Cert.SumsIdeal.nD Cert.SumsIdeal.τ).loc Cert.SumsIdeal.main_v26)) (v5 : (c : Dev Cert.SumsIdeal.nD) → Buf (Elt Ideal) ((c.tc : Thread Cert.SumsIdeal.nD Cert.SumsIdeal.τ).loc Cert.SumsIdeal.main_v28)) (v6 : (c : Dev Cert.SumsIdeal.nD) → Buf (Elt Ideal) ((c.tc : Thread Cert.SumsIdeal.nD Cert.SumsIdeal.τ).loc Cert.SumsIdeal.main_v30)) (v7 : (c : Dev Cert.SumsIdeal.nD) → Buf (Elt Ideal) ((c.tc : Thread Cert.SumsIdeal.nD Cert.SumsIdeal.τ).loc Cert.SumsIdeal.main_v32)) (v8 : (c : Dev Cert.SumsIdeal.nD) → Buf (Elt Ideal) ((c.tc : Thread Cert.SumsIdeal.nD Cert.SumsIdeal.τ).loc Cert.SumsIdeal.main_v34)) (v9 : (c : Dev Cert.SumsIdeal.nD) → Buf (Elt Ideal) ((c.tc : Thread Cert.SumsIdeal.nD Cert.SumsIdeal.τ).loc Cert.SumsIdeal.main_v36)) (v10 : (c : Dev Cert.SumsIdeal.nD) → Buf (Elt Ideal) ((c.tc : Thread Cert.SumsIdeal.nD Cert.SumsIdeal.τ).loc Cert.SumsIdeal.main_v38)) (v11 : (c : Dev Cert.SumsIdeal.nD) → Buf (Elt Ideal) ((c.tc : Thread Cert.SumsIdeal.nD Cert.SumsIdeal.τ).loc Cert.SumsIdeal.main_v39)) (v12 : (c : Dev Cert.SumsIdeal.nD) → Buf (Elt Ideal) ((c.tc : Thread Cert.SumsIdeal.nD Cert.SumsIdeal.τ).loc Cert.SumsIdeal.main_v40)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v18) = v0 c
          ∧ r.2.mem ((c.tc : Thread Cert.SumsIdeal.nD Cert.SumsIdeal.τ).loc Cert.SumsIdeal.main_v20) = v1 c
          ∧ r.2.mem ((c.tc : Thread Cert.SumsIdeal.nD Cert.SumsIdeal.τ).loc Cert.SumsIdeal.main_v22) = v2 c
          ∧ r.2.mem ((c.tc : Thread Cert.SumsIdeal.nD Cert.SumsIdeal.τ).loc Cert.SumsIdeal.main_v24) = v3 c
          ∧ r.2.mem ((c.tc : Thread Cert.SumsIdeal.nD Cert.SumsIdeal.τ).loc Cert.SumsIdeal.main_v26) = v4 c
          ∧ r.2.mem ((c.tc : Thread Cert.SumsIdeal.nD Cert.SumsIdeal.τ).loc Cert.SumsIdeal.main_v28) = v5 c
          ∧ r.2.mem ((c.tc : Thread Cert.SumsIdeal.nD Cert.SumsIdeal.τ).loc Cert.SumsIdeal.main_v30) = v6 c
          ∧ r.2.mem ((c.tc : Thread Cert.SumsIdeal.nD Cert.SumsIdeal.τ).loc Cert.SumsIdeal.main_v32) = v7 c
          ∧ r.2.mem ((c.tc : Thread Cert.SumsIdeal.nD Cert.SumsIdeal.τ).loc Cert.SumsIdeal.main_v34) = v8 c
          ∧ r.2.mem ((c.tc : Thread Cert.SumsIdeal.nD Cert.SumsIdeal.τ).loc Cert.SumsIdeal.main_v36) = v9 c
          ∧ r.2.mem ((c.tc : Thread Cert.SumsIdeal.nD Cert.SumsIdeal.τ).loc Cert.SumsIdeal.main_v38) = v10 c
          ∧ r.2.mem ((c.tc : Thread Cert.SumsIdeal.nD Cert.SumsIdeal.τ).loc Cert.SumsIdeal.main_v39) = v11 c
          ∧ r.2.mem ((c.tc : Thread Cert.SumsIdeal.nD Cert.SumsIdeal.τ).loc Cert.SumsIdeal.main_v40) = v12 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
          ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
          ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
          ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
          ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
          ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
          ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6)
          ∧ r.2.mem ((c.tc : Thread Cert.SumsIdeal.nD Cert.SumsIdeal.τ).loc Cert.SumsIdeal.main_arg7) = m ((c.tc : Thread Cert.SumsIdeal.nD Cert.SumsIdeal.τ).loc Cert.SumsIdeal.main_arg7)
          ∧ r.2.mem ((c.tc : Thread Cert.SumsIdeal.nD Cert.SumsIdeal.τ).loc Cert.SumsIdeal.main_arg8) = m ((c.tc : Thread Cert.SumsIdeal.nD Cert.SumsIdeal.τ).loc Cert.SumsIdeal.main_arg8)
          ∧ r.2.mem ((c.tc : Thread Cert.SumsIdeal.nD Cert.SumsIdeal.τ).loc Cert.SumsIdeal.main_arg9) = m ((c.tc : Thread Cert.SumsIdeal.nD Cert.SumsIdeal.τ).loc Cert.SumsIdeal.main_arg9)
          ∧ r.2.mem ((c.tc : Thread Cert.SumsIdeal.nD Cert.SumsIdeal.τ).loc Cert.SumsIdeal.main_arg10) = m ((c.tc : Thread Cert.SumsIdeal.nD Cert.SumsIdeal.τ).loc Cert.SumsIdeal.main_arg10)
          ∧ r.2.mem ((c.tc : Thread Cert.SumsIdeal.nD Cert.SumsIdeal.τ).loc Cert.SumsIdeal.main_arg11) = m ((c.tc : Thread Cert.SumsIdeal.nD Cert.SumsIdeal.τ).loc Cert.SumsIdeal.main_arg11)
          ∧ r.2.mem ((c.tc : Thread Cert.SumsIdeal.nD Cert.SumsIdeal.τ).loc Cert.SumsIdeal.main_arg12) = m ((c.tc : Thread Cert.SumsIdeal.nD Cert.SumsIdeal.τ).loc Cert.SumsIdeal.main_arg12)
          ∧ r.2.mem ((c.tc : Thread Cert.SumsIdeal.nD Cert.SumsIdeal.τ).loc Cert.SumsIdeal.main_arg13) = m ((c.tc : Thread Cert.SumsIdeal.nD Cert.SumsIdeal.τ).loc Cert.SumsIdeal.main_arg13))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v0) = v0 c
          ∧ r.2.mem ((c.tc : Thread Cert.SumsRefIdeal.nD Cert.SumsRefIdeal.τ).loc Cert.SumsRefIdeal.main_v1) = v1 c
          ∧ r.2.mem ((c.tc : Thread Cert.SumsRefIdeal.nD Cert.SumsRefIdeal.τ).loc Cert.SumsRefIdeal.main_v2) = v2 c
          ∧ r.2.mem ((c.tc : Thread Cert.SumsRefIdeal.nD Cert.SumsRefIdeal.τ).loc Cert.SumsRefIdeal.main_v3) = v3 c
          ∧ r.2.mem ((c.tc : Thread Cert.SumsRefIdeal.nD Cert.SumsRefIdeal.τ).loc Cert.SumsRefIdeal.main_v4) = v4 c
          ∧ r.2.mem ((c.tc : Thread Cert.SumsRefIdeal.nD Cert.SumsRefIdeal.τ).loc Cert.SumsRefIdeal.main_v5) = v5 c
          ∧ r.2.mem ((c.tc : Thread Cert.SumsRefIdeal.nD Cert.SumsRefIdeal.τ).loc Cert.SumsRefIdeal.main_v6) = v6 c
          ∧ r.2.mem ((c.tc : Thread Cert.SumsRefIdeal.nD Cert.SumsRefIdeal.τ).loc Cert.SumsRefIdeal.main_v7) = v7 c
          ∧ r.2.mem ((c.tc : Thread Cert.SumsRefIdeal.nD Cert.SumsRefIdeal.τ).loc Cert.SumsRefIdeal.main_v8) = v8 c
          ∧ r.2.mem ((c.tc : Thread Cert.SumsRefIdeal.nD Cert.SumsRefIdeal.τ).loc Cert.SumsRefIdeal.main_v9) = v9 c
          ∧ r.2.mem ((c.tc : Thread Cert.SumsRefIdeal.nD Cert.SumsRefIdeal.τ).loc Cert.SumsRefIdeal.main_v10) = v10 c
          ∧ r.2.mem ((c.tc : Thread Cert.SumsRefIdeal.nD Cert.SumsRefIdeal.τ).loc Cert.SumsRefIdeal.main_v11) = v11 c
          ∧ r.2.mem ((c.tc : Thread Cert.SumsRefIdeal.nD Cert.SumsRefIdeal.τ).loc Cert.SumsRefIdeal.main_v12) = v12 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0)
          ∧ r.2.mem ((c.tc : Thread Cert.SumsRefIdeal.nD Cert.SumsRefIdeal.τ).loc Cert.SumsRefIdeal.main_arg1) = m' ((c.tc : Thread Cert.SumsRefIdeal.nD Cert.SumsRefIdeal.τ).loc Cert.SumsRefIdeal.main_arg1)
          ∧ r.2.mem ((c.tc : Thread Cert.SumsRefIdeal.nD Cert.SumsRefIdeal.τ).loc Cert.SumsRefIdeal.main_arg2) = m' ((c.tc : Thread Cert.SumsRefIdeal.nD Cert.SumsRefIdeal.τ).loc Cert.SumsRefIdeal.main_arg2)
          ∧ r.2.mem ((c.tc : Thread Cert.SumsRefIdeal.nD Cert.SumsRefIdeal.τ).loc Cert.SumsRefIdeal.main_arg3) = m' ((c.tc : Thread Cert.SumsRefIdeal.nD Cert.SumsRefIdeal.τ).loc Cert.SumsRefIdeal.main_arg3)
          ∧ r.2.mem ((c.tc : Thread Cert.SumsRefIdeal.nD Cert.SumsRefIdeal.τ).loc Cert.SumsRefIdeal.main_arg4) = m' ((c.tc : Thread Cert.SumsRefIdeal.nD Cert.SumsRefIdeal.τ).loc Cert.SumsRefIdeal.main_arg4)
          ∧ r.2.mem ((c.tc : Thread Cert.SumsRefIdeal.nD Cert.SumsRefIdeal.τ).loc Cert.SumsRefIdeal.main_arg5) = m' ((c.tc : Thread Cert.SumsRefIdeal.nD Cert.SumsRefIdeal.τ).loc Cert.SumsRefIdeal.main_arg5)
          ∧ r.2.mem ((c.tc : Thread Cert.SumsRefIdeal.nD Cert.SumsRefIdeal.τ).loc Cert.SumsRefIdeal.main_arg6) = m' ((c.tc : Thread Cert.SumsRefIdeal.nD Cert.SumsRefIdeal.τ).loc Cert.SumsRefIdeal.main_arg6)
          ∧ r.2.mem ((c.tc : Thread Cert.SumsRefIdeal.nD Cert.SumsRefIdeal.τ).loc Cert.SumsRefIdeal.main_arg7) = m' ((c.tc : Thread Cert.SumsRefIdeal.nD Cert.SumsRefIdeal.τ).loc Cert.SumsRefIdeal.main_arg7)
          ∧ r.2.mem ((c.tc : Thread Cert.SumsRefIdeal.nD Cert.SumsRefIdeal.τ).loc Cert.SumsRefIdeal.main_arg8) = m' ((c.tc : Thread Cert.SumsRefIdeal.nD Cert.SumsRefIdeal.τ).loc Cert.SumsRefIdeal.main_arg8)
          ∧ r.2.mem ((c.tc : Thread Cert.SumsRefIdeal.nD Cert.SumsRefIdeal.τ).loc Cert.SumsRefIdeal.main_arg9) = m' ((c.tc : Thread Cert.SumsRefIdeal.nD Cert.SumsRefIdeal.τ).loc Cert.SumsRefIdeal.main_arg9)
          ∧ r.2.mem ((c.tc : Thread Cert.SumsRefIdeal.nD Cert.SumsRefIdeal.τ).loc Cert.SumsRefIdeal.main_arg10) = m' ((c.tc : Thread Cert.SumsRefIdeal.nD Cert.SumsRefIdeal.τ).loc Cert.SumsRefIdeal.main_arg10)
          ∧ r.2.mem ((c.tc : Thread Cert.SumsRefIdeal.nD Cert.SumsRefIdeal.τ).loc Cert.SumsRefIdeal.main_arg11) = m' ((c.tc : Thread Cert.SumsRefIdeal.nD Cert.SumsRefIdeal.τ).loc Cert.SumsRefIdeal.main_arg11)
          ∧ r.2.mem ((c.tc : Thread Cert.SumsRefIdeal.nD Cert.SumsRefIdeal.τ).loc Cert.SumsRefIdeal.main_arg12) = m' ((c.tc : Thread Cert.SumsRefIdeal.nD Cert.SumsRefIdeal.τ).loc Cert.SumsRefIdeal.main_arg12)
          ∧ r.2.mem ((c.tc : Thread Cert.SumsRefIdeal.nD Cert.SumsRefIdeal.τ).loc Cert.SumsRefIdeal.main_arg13) = m' ((c.tc : Thread Cert.SumsRefIdeal.nD Cert.SumsRefIdeal.τ).loc Cert.SumsRefIdeal.main_arg13))

def Claim : Prop :=
  ∃ (hKernel : Cert.Kernel.Facts) (hKernelIdeal : Cert.KernelIdeal.Facts) (hReferenceIdeal : Cert.ReferenceIdeal.Facts) (hDwIn : Cert.DwIn.Facts) (hDwInIdeal : Cert.DwInIdeal.Facts) (hDwInRefIdeal : Cert.DwInRefIdeal.Facts) (hDwOut : Cert.DwOut.Facts) (hDwOutIdeal : Cert.DwOutIdeal.Facts) (hDwOutRefIdeal : Cert.DwOutRefIdeal.Facts) (hFwdA : Cert.FwdA.Facts) (hFwdAIdeal : Cert.FwdAIdeal.Facts) (hFwdARefIdeal : Cert.FwdARefIdeal.Facts) (hFwdB : Cert.FwdB.Facts) (hFwdBIdeal : Cert.FwdBIdeal.Facts) (hFwdBRefIdeal : Cert.FwdBRefIdeal.Facts) (hBwdA : Cert.BwdA.Facts) (hBwdAIdeal : Cert.BwdAIdeal.Facts) (hBwdARefIdeal : Cert.BwdARefIdeal.Facts) (hBwdB : Cert.BwdB.Facts) (hBwdBIdeal : Cert.BwdBIdeal.Facts) (hBwdBRefIdeal : Cert.BwdBRefIdeal.Facts) (hAdaB : Cert.AdaB.Facts) (hAdaBIdeal : Cert.AdaBIdeal.Facts) (hAdaBRefIdeal : Cert.AdaBRefIdeal.Facts) (hStepAda : Cert.StepAda.Facts) (hStepAdaIdeal : Cert.StepAdaIdeal.Facts) (hStepAdaRefIdeal : Cert.StepAdaRefIdeal.Facts) (hStepIn : Cert.StepIn.Facts) (hStepInIdeal : Cert.StepInIdeal.Facts) (hStepInRefIdeal : Cert.StepInRefIdeal.Facts) (hStepOut : Cert.StepOut.Facts) (hStepOutIdeal : Cert.StepOutIdeal.Facts) (hStepOutRefIdeal : Cert.StepOutRefIdeal.Facts) (hStepGlu : Cert.StepGlu.Facts) (hStepGluIdeal : Cert.StepGluIdeal.Facts) (hStepGluRefIdeal : Cert.StepGluRefIdeal.Facts) (hStepSq : Cert.StepSq.Facts) (hStepSqIdeal : Cert.StepSqIdeal.Facts) (hStepSqRefIdeal : Cert.StepSqRefIdeal.Facts) (hStepDn : Cert.StepDn.Facts) (hStepDnIdeal : Cert.StepDnIdeal.Facts) (hStepDnRefIdeal : Cert.StepDnRefIdeal.Facts) (hStepSmall : Cert.StepSmall.Facts) (hStepSmallIdeal : Cert.StepSmallIdeal.Facts) (hStepSmallRefIdeal : Cert.StepSmallRefIdeal.Facts) (hSums : Cert.Sums.Facts) (hSumsIdeal : Cert.SumsIdeal.Facts) (hSumsRefIdeal : Cert.SumsRefIdeal.Facts) (hPre_finite_ba : Cert.Pre_finite_ba.Facts) (hPre_finite_bb : Cert.Pre_finite_bb.Facts),
    quiescent_Kernel (hKernel := hKernel)
    ∧ quiescent_KernelIdeal (hKernelIdeal := hKernelIdeal)
    ∧ quiescent_ReferenceIdeal (hReferenceIdeal := hReferenceIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_FwdA (hFwdA := hFwdA)
    ∧ quiescent_FwdAIdeal (hFwdAIdeal := hFwdAIdeal)
    ∧ quiescent_FwdARefIdeal (hFwdARefIdeal := hFwdARefIdeal)
    ∧ quiescent_FwdB (hFwdB := hFwdB)
    ∧ quiescent_FwdBIdeal (hFwdBIdeal := hFwdBIdeal)
    ∧ quiescent_FwdBRefIdeal (hFwdBRefIdeal := hFwdBRefIdeal)
    ∧ quiescent_BwdA (hBwdA := hBwdA)
    ∧ quiescent_BwdAIdeal (hBwdAIdeal := hBwdAIdeal)
    ∧ quiescent_BwdAIdeal_pre_finite_ba (hBwdAIdeal := hBwdAIdeal) (hPre_finite_ba := hPre_finite_ba)
    ∧ quiescent_BwdARefIdeal (hBwdARefIdeal := hBwdARefIdeal)
    ∧ quiescent_BwdARefIdeal_pre_finite_ba (hBwdARefIdeal := hBwdARefIdeal) (hPre_finite_ba := hPre_finite_ba)
    ∧ quiescent_BwdB (hBwdB := hBwdB)
    ∧ quiescent_BwdBIdeal (hBwdBIdeal := hBwdBIdeal)
    ∧ quiescent_BwdBIdeal_pre_finite_bb (hBwdBIdeal := hBwdBIdeal) (hPre_finite_bb := hPre_finite_bb)
    ∧ quiescent_BwdBRefIdeal (hBwdBRefIdeal := hBwdBRefIdeal)
    ∧ quiescent_BwdBRefIdeal_pre_finite_bb (hBwdBRefIdeal := hBwdBRefIdeal) (hPre_finite_bb := hPre_finite_bb)
    ∧ quiescent_AdaB (hAdaB := hAdaB)
    ∧ quiescent_AdaBIdeal (hAdaBIdeal := hAdaBIdeal)
    ∧ quiescent_AdaBRefIdeal (hAdaBRefIdeal := hAdaBRefIdeal)
    ∧ quiescent_StepAda (hStepAda := hStepAda)
    ∧ quiescent_StepAdaIdeal (hStepAdaIdeal := hStepAdaIdeal)
    ∧ quiescent_StepAdaRefIdeal (hStepAdaRefIdeal := hStepAdaRefIdeal)
    ∧ quiescent_StepIn (hStepIn := hStepIn)
    ∧ quiescent_StepInIdeal (hStepInIdeal := hStepInIdeal)
    ∧ quiescent_StepInRefIdeal (hStepInRefIdeal := hStepInRefIdeal)
    ∧ quiescent_StepOut (hStepOut := hStepOut)
    ∧ quiescent_StepOutIdeal (hStepOutIdeal := hStepOutIdeal)
    ∧ quiescent_StepOutRefIdeal (hStepOutRefIdeal := hStepOutRefIdeal)
    ∧ quiescent_StepGlu (hStepGlu := hStepGlu)
    ∧ quiescent_StepGluIdeal (hStepGluIdeal := hStepGluIdeal)
    ∧ quiescent_StepGluRefIdeal (hStepGluRefIdeal := hStepGluRefIdeal)
    ∧ quiescent_StepSq (hStepSq := hStepSq)
    ∧ quiescent_StepSqIdeal (hStepSqIdeal := hStepSqIdeal)
    ∧ quiescent_StepSqRefIdeal (hStepSqRefIdeal := hStepSqRefIdeal)
    ∧ quiescent_StepDn (hStepDn := hStepDn)
    ∧ quiescent_StepDnIdeal (hStepDnIdeal := hStepDnIdeal)
    ∧ quiescent_StepDnRefIdeal (hStepDnRefIdeal := hStepDnRefIdeal)
    ∧ quiescent_StepSmall (hStepSmall := hStepSmall)
    ∧ quiescent_StepSmallIdeal (hStepSmallIdeal := hStepSmallIdeal)
    ∧ quiescent_StepSmallRefIdeal (hStepSmallRefIdeal := hStepSmallRefIdeal)
    ∧ quiescent_Sums (hSums := hSums)
    ∧ quiescent_SumsIdeal (hSumsIdeal := hSumsIdeal)
    ∧ quiescent_SumsRefIdeal (hSumsRefIdeal := hSumsRefIdeal)
    ∧ preserves_Kernel_KernelIdeal
    ∧ preserves_DwIn_DwInIdeal
    ∧ algebraic_DwInIdeal_DwInRefIdeal (hDwInIdeal := hDwInIdeal) (hDwInRefIdeal := hDwInRefIdeal)
    ∧ preserves_DwOut_DwOutIdeal
    ∧ algebraic_DwOutIdeal_DwOutRefIdeal (hDwOutIdeal := hDwOutIdeal) (hDwOutRefIdeal := hDwOutRefIdeal)
    ∧ preserves_FwdA_FwdAIdeal
    ∧ algebraic_FwdAIdeal_FwdARefIdeal (hFwdAIdeal := hFwdAIdeal) (hFwdARefIdeal := hFwdARefIdeal)
    ∧ preserves_FwdB_FwdBIdeal
    ∧ algebraic_FwdBIdeal_FwdBRefIdeal (hFwdBIdeal := hFwdBIdeal) (hFwdBRefIdeal := hFwdBRefIdeal)
    ∧ preserves_BwdA_BwdAIdeal
    ∧ algebraic_BwdAIdeal_BwdARefIdeal_pre_finite_ba (hBwdAIdeal := hBwdAIdeal) (hBwdARefIdeal := hBwdARefIdeal) (hPre_finite_ba := hPre_finite_ba)
    ∧ preserves_BwdB_BwdBIdeal
    ∧ algebraic_BwdBIdeal_BwdBRefIdeal_pre_finite_bb (hBwdBIdeal := hBwdBIdeal) (hBwdBRefIdeal := hBwdBRefIdeal) (hPre_finite_bb := hPre_finite_bb)
    ∧ preserves_AdaB_AdaBIdeal
    ∧ algebraic_AdaBIdeal_AdaBRefIdeal (hAdaBIdeal := hAdaBIdeal) (hAdaBRefIdeal := hAdaBRefIdeal)
    ∧ preserves_StepAda_StepAdaIdeal
    ∧ algebraic_StepAdaIdeal_StepAdaRefIdeal (hStepAdaIdeal := hStepAdaIdeal) (hStepAdaRefIdeal := hStepAdaRefIdeal)
    ∧ preserves_StepIn_StepInIdeal
    ∧ algebraic_StepInIdeal_StepInRefIdeal (hStepInIdeal := hStepInIdeal) (hStepInRefIdeal := hStepInRefIdeal)
    ∧ preserves_StepOut_StepOutIdeal
    ∧ algebraic_StepOutIdeal_StepOutRefIdeal (hStepOutIdeal := hStepOutIdeal) (hStepOutRefIdeal := hStepOutRefIdeal)
    ∧ preserves_StepGlu_StepGluIdeal
    ∧ algebraic_StepGluIdeal_StepGluRefIdeal (hStepGluIdeal := hStepGluIdeal) (hStepGluRefIdeal := hStepGluRefIdeal)
    ∧ preserves_StepSq_StepSqIdeal
    ∧ algebraic_StepSqIdeal_StepSqRefIdeal (hStepSqIdeal := hStepSqIdeal) (hStepSqRefIdeal := hStepSqRefIdeal)
    ∧ preserves_StepDn_StepDnIdeal
    ∧ algebraic_StepDnIdeal_StepDnRefIdeal (hStepDnIdeal := hStepDnIdeal) (hStepDnRefIdeal := hStepDnRefIdeal)
    ∧ preserves_StepSmall_StepSmallIdeal
    ∧ algebraic_StepSmallIdeal_StepSmallRefIdeal (hStepSmallIdeal := hStepSmallIdeal) (hStepSmallRefIdeal := hStepSmallRefIdeal)
    ∧ preserves_Sums_SumsIdeal
    ∧ algebraic_SumsIdeal_SumsRefIdeal (hSumsIdeal := hSumsIdeal) (hSumsRefIdeal := hSumsRefIdeal)
-- ==== Pre_finite_ba.lean ====
abbrev S2x2048x1024 : Shape := ⟨3, ![2, 2048, 1024]⟩
abbrev S2x3x1024 : Shape := ⟨3, ![2, 3, 1024]⟩
abbrev S1024x5632 : Shape := ⟨2, ![1024, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  bcast_S_S2x3x1024 : S_.BroadcastsInDim S2x3x1024 (![] : Fin 0 → Fin S2x3x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2x2048x1024 .f32) (main_arg1 : FVec F S2x2048x1024 .f32) (main_arg2 : FVec F S2x3x1024 .f32) (main_arg3 : FVec F S1024x5632 .f32) (main_arg4 : FVec F S2816x1024 .f32) : IVec S2x2048x1024 1 × IVec S2x2048x1024 1 × IVec S2x3x1024 1 × IVec S1024x5632 1 × IVec S2816x1024 1 :=
  let main_v0 : FVec F S2x2048x1024 .f32 := subf main_arg0 main_arg0
  let main_cst : FVec F S_ .f32 := constant S_ .f32 0x00000000#32
  let main_v1 : FVec F S2x2048x1024 .f32 := broadcastInDim S2x2048x1024 ![] bcast_S_S2x2048x1024 main_cst
  let main_v2 : IVec S2x2048x1024 1 := cmpf .oeq main_v0 main_v1
  let main_v3 : FVec F S2x2048x1024 .f32 := subf main_arg1 main_arg1
  let main_cst_0 : FVec F S_ .f32 := constant S_ .f32 0x00000000#32
  let main_v4 : FVec F S2x2048x1024 .f32 := broadcastInDim S2x2048x1024 ![] bcast_S_S2x2048x1024 main_cst_0
  let main_v5 : IVec S2x2048x1024 1 := cmpf .oeq main_v3 main_v4
  let main_v6 : FVec F S2x3x1024 .f32 := subf main_arg2 main_arg2
  let main_cst_1 : FVec F S_ .f32 := constant S_ .f32 0x00000000#32
  let main_v7 : FVec F S2x3x1024 .f32 := broadcastInDim S2x3x1024 ![] bcast_S_S2x3x1024 main_cst_1
  let main_v8 : IVec S2x3x1024 1 := cmpf .oeq main_v6 main_v7
  let main_v9 : FVec F S1024x5632 .f32 := subf main_arg3 main_arg3
  let main_cst_2 : FVec F S_ .f32 := constant S_ .f32 0x00000000#32
  let main_v10 : FVec F S1024x5632 .f32 := broadcastInDim S1024x5632 ![] bcast_S_S1024x5632 main_cst_2
  let main_v11 : IVec S1024x5632 1 := cmpf .oeq main_v9 main_v10
  let main_v12 : FVec F S2816x1024 .f32 := subf main_arg4 main_arg4
  let main_cst_3 : FVec F S_ .f32 := constant S_ .f32 0x00000000#32
  let main_v13 : FVec F S2816x1024 .f32 := broadcastInDim S2816x1024 ![] bcast_S_S2816x1024 main_cst_3
  let main_v14 : IVec S2816x1024 1 := cmpf .oeq main_v12 main_v13
  (main_v2, main_v5, main_v8, main_v11, main_v14)
-- ==== Pre_finite_bb.lean ====
abbrev S2x2048x1024 : Shape := ⟨3, ![2, 2048, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  bcast_S_S2x3x1024 : S_.BroadcastsInDim S2x3x1024 (![] : Fin 0 → Fin S2x3x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2x2048x1024 .f32) (main_arg1 : FVec F S2x2048x1024 .f32) (main_arg2 : FVec F S2x3x1024 .f32) (main_arg3 : FVec F S1024 .f32) (main_arg4 : FVec F S1024x5632 .f32) (main_arg5 : FVec F S2816x1024 .f32) : IVec S2x2048x1024 1 × IVec S2x2048x1024 1 × IVec S2x3x1024 1 × IVec S1024 1 × IVec S1024x5632 1 × IVec S2816x1024 1 :=
  let main_v0 : FVec F S2x2048x1024 .f32 := subf main_arg0 main_arg0
  let main_cst : FVec F S_ .f32 := constant S_ .f32 0x00000000#32
  let main_v1 : FVec F S2x2048x1024 .f32 := broadcastInDim S2x2048x1024 ![] bcast_S_S2x2048x1024 main_cst
  let main_v2 : IVec S2x2048x1024 1 := cmpf .oeq main_v0 main_v1
  let main_v3 : FVec F S2x2048x1024 .f32 := subf main_arg1 main_arg1
  let main_cst_0 : FVec F S_ .f32 := constant S_ .f32 0x00000000#32
  let main_v4 : FVec F S2x2048x1024 .f32 := broadcastInDim S2x2048x1024 ![] bcast_S_S2x2048x1024 main_cst_0
  let main_v5 : IVec S2x2048x1024 1 := cmpf .oeq main_v3 main_v4
  let main_v6 : FVec F S2x3x1024 .f32 := subf main_arg2 main_arg2
  let main_cst_1 : FVec F S_ .f32 := constant S_ .f32 0x00000000#32
  let main_v7 : FVec F S2x3x1024 .f32 := broadcastInDim S2x3x1024 ![] bcast_S_S2x3x1024 main_cst_1
  let main_v8 : IVec S2x3x1024 1 := cmpf .oeq main_v6 main_v7
  let main_v9 : FVec F S1024 .f32 := subf main_arg3 main_arg3
  let main_cst_2 : FVec F S_ .f32 := constant S_ .f32 0x00000000#32
  let main_v10 : FVec F S1024 .f32 := broadcastInDim S1024 ![] bcast_S_S1024 main_cst_2
  let main_v11 : IVec S1024 1 := cmpf .oeq main_v9 main_v10
  let main_v12 : FVec F S1024x5632 .f32 := subf main_arg4 main_arg4
  let main_cst_3 : FVec F S_ .f32 := constant S_ .f32 0x00000000#32
  let main_v13 : FVec F S1024x5632 .f32 := broadcastInDim S1024x5632 ![] bcast_S_S1024x5632 main_cst_3
  let main_v14 : IVec S1024x5632 1 := cmpf .oeq main_v12 main_v13
  let main_v15 : FVec F S2816x1024 .f32 := subf main_arg5 main_arg5
  let main_cst_4 : FVec F S_ .f32 := constant S_ .f32 0x00000000#32
  let main_v16 : FVec F S2816x1024 .f32 := broadcastInDim S2816x1024 ![] bcast_S_S2816x1024 main_cst_4
  let main_v17 : IVec S2816x1024 1 := cmpf .oeq main_v15 main_v16
  (main_v2, main_v5, main_v8, main_v11, main_v14, main_v17)
-- ==== Kernel.lean ====
abbrev S2x8x2048x128 : Shape := ⟨4, ![2, 8, 2048, 128]⟩
abbrev S2x8x2048 : Shape := ⟨3, ![2, 8, 2048]⟩
abbrev S2x32x8x128x128 : Shape := ⟨5, ![2, 32, 8, 128, 128]⟩
abbrev S2x32x8x64x64 : Shape := ⟨5, ![2, 32, 8, 64, 64]⟩
abbrev S2x8x2048x1 : Shape := ⟨4, ![2, 8, 2048, 1]⟩
abbrev S1x8x256x128 : Shape := ⟨4, ![1, 8, 256, 128]⟩
abbrev S1x4x8x128x128 : Shape := ⟨5, ![1, 4, 8, 128, 128]⟩
abbrev S1x4x8x64x64 : Shape := ⟨5, ![1, 4, 8, 64, 64]⟩
abbrev S8x128x128 : Shape := ⟨3, ![8, 128, 128]⟩
abbrev S1x1x8x64x64 : Shape := ⟨5, ![1, 1, 8, 64, 64]⟩
abbrev S8x64x64 : Shape := ⟨3, ![8, 64, 64]⟩
abbrev S1x8x64x128 : Shape := ⟨4, ![1, 8, 64, 128]⟩
abbrev S8x64x128 : Shape := ⟨3, ![8, 64, 128]⟩
abbrev S1x1x8x128x128 : Shape := ⟨5, ![1, 1, 8, 128, 128]⟩
abbrev S8x64 : Shape := ⟨2, ![8, 64]⟩
abbrev S8x64x1 : Shape := ⟨3, ![8, 64, 1]⟩
abbrev S8x128x64 : Shape := ⟨3, ![8, 128, 64]⟩
abbrev S_ : Shape := ⟨0, ![]⟩

abbrev nBuf : Space → Nat
  | .hbm => 21
  | .vmem => 27
  | .smem => 0
  | _ => 0

abbrev bufTy : (tb : Table) → Fin (tcTables nBuf tb) → BufTy
  | .hbm, ⟨0, _⟩ => ⟨S2x8x2048x128, .f32⟩
  | .hbm, ⟨1, _⟩ => ⟨S2x8x2048x128, .f32⟩
  | .hbm, ⟨2, _⟩ => ⟨S2x8x2048x128, .f32⟩
  | .hbm, ⟨3, _⟩ => ⟨S2x8x2048, .f32⟩
  | .hbm, ⟨4, _⟩ => ⟨S2x8x2048, .f32⟩
  | .hbm, ⟨5, _⟩ => ⟨S2x32x8x128x128, .f32⟩
  | .hbm, ⟨6, _⟩ => ⟨S2x32x8x64x64, .f32⟩
  | .hbm, ⟨7, _⟩ => ⟨S2x8x2048x128, .f32⟩
  | .hbm, ⟨8, _⟩ => ⟨S2x8x2048x1, .f32⟩
  | .hbm, ⟨9, _⟩ => ⟨S2x8x2048x128, .f32⟩
  | .hbm, ⟨10, _⟩ => ⟨S2x8x2048x1, .f32⟩
  | .hbm, ⟨11, _⟩ => ⟨S2x8x2048x128, .f32⟩
  | .hbm, ⟨12, _⟩ => ⟨S2x8x2048x128, .f32⟩
  | .hbm, ⟨13, _⟩ => ⟨S2x8x2048x128, .f32⟩
  | .hbm, ⟨14, _⟩ => ⟨S2x8x2048x128, .f32⟩
  | .hbm, ⟨15, _⟩ => ⟨S2x8x2048x128, .f32⟩
  | .hbm, ⟨16, _⟩ => ⟨S2x8x2048x128, .f32⟩
  | .hbm, ⟨17, _⟩ => ⟨S_, .f32⟩
  | .hbm, ⟨18, _⟩ => ⟨S2x8x2048, .f32⟩
  | .hbm, ⟨19, _⟩ => ⟨S_, .f32⟩
  | .hbm, ⟨20, _⟩ => ⟨S2x8x2048, .f32⟩
  | .local _ .vmem, ⟨0, _⟩ => ⟨S1x8x256x128, .f32⟩
  | .local _ .vmem, ⟨1, _⟩ => ⟨S1x8x256x128, .f32⟩
  | .local _ .vmem, ⟨2, _⟩ => ⟨S1x8x256x128, .f32⟩
  | .local _ .vmem, ⟨3, _⟩ => ⟨S1x8x256x128, .f32⟩
  | .local _ .vmem, ⟨4, _⟩ => ⟨S1x8x256x128, .f32⟩
  | .local _ .vmem, ⟨5, _⟩ => ⟨S1x8x256x128, .f32⟩
  | .local _ .vmem, ⟨6, _⟩ => ⟨S1x8x256x128, .f32⟩
  | .local _ .vmem, ⟨7, _⟩ => ⟨S1x8x256x128, .f32⟩
  | .local _ .vmem, ⟨8, _⟩ => ⟨S1x8x256x128, .f32⟩
  | .local _ .vmem, ⟨9, _⟩ => ⟨S1x8x256x128, .f32⟩
  | .local _ .vmem, ⟨10, _⟩ => ⟨S1x4x8x128x128, .f32⟩
  | .local _ .vmem, ⟨11, _⟩ => ⟨S1x4x8x128x128, .f32⟩
  | .local _ .vmem, ⟨12, _⟩ => ⟨S1x4x8x64x64, .f32⟩
  | .local _ .vmem, ⟨13, _⟩ => ⟨S1x4x8x64x64, .f32⟩
  | .local _ .vmem, ⟨14, _⟩ => ⟨S1x8x256x128, .f32⟩
  | .local _ .vmem, ⟨15, _⟩ => ⟨S1x8x256x128, .f32⟩
  | .local _ .vmem, ⟨16, _⟩ => ⟨S1x8x256x128, .f32⟩
  | .local _ .vmem, ⟨17, _⟩ => ⟨S1x8x256x128, .f32⟩
  | .local _ .vmem, ⟨18, _⟩ => ⟨S1x8x256x128, .f32⟩
  | .local _ .vmem, ⟨19, _⟩ => ⟨S1x8x256x128, .f32⟩
  | .local _ .vmem, ⟨20, _⟩ => ⟨S1x8x256x128, .f32⟩
  | .local _ .vmem, ⟨21, _⟩ => ⟨S1x8x256x128, .f32⟩
  | .local _ .vmem, ⟨22, _⟩ => ⟨S1x8x256x128, .f32⟩
  | .local _ .vmem, ⟨23, _⟩ => ⟨S1x8x256x128, .f32⟩
  | .local _ .vmem, ⟨24, _⟩ => ⟨S1x8x256x128, .f32⟩
  | .local _ .vmem, ⟨25, _⟩ => ⟨S1x8x256x128, .f32⟩
  | .local _ .vmem, ⟨26, _⟩ => ⟨S8x128x128, .f32⟩
  | _, _ => ⟨S2x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c3_i32 : BitVec 32 := 3#32
  let c0_i32_1 : BitVec 32 := 0#32
  let c1_i32 : BitVec 32 := 1#32
  let arg16 : BitVec 32 := Scf.iv c0_i32_1 c1_i32 k0_t1
  let v4 : BitVec 32 := Scalar.subi c3_i32 arg16
  let c64_i32 : BitVec 32 := 64#32
  let v5 : BitVec 32 := Scalar.muli v4 c64_i32
  v5
def k0_off1 (k0_t1 : Fin k0_t1_loop.trips) : Fin 5 → Nat :=
  let c0 : Index := 0#32
  let c3_i32 : BitVec 32 := 3#32
  let c0_i32_1 : BitVec 32 := 0#32
  let c1_i32 : BitVec 32 := 1#32
  let arg16 : BitVec 32 := Scf.iv c0_i32_1 c1_i32 k0_t1
  let v4 : BitVec 32 := Scalar.subi c3_i32 arg16
  let v7 : Index := Scalar.indexCast v4
  let c0_3 : Index := 0#32
  let c0_4 : Index := 0#32
  let c0_5 : Index := 0#32
  ![0, v7.toNat, 0, 0, 0]
def k0_off2 (k0_t1 : Fin k0_t1_loop.trips) : Fin 4 → Nat :=
  let c0_6 : Index := 0#32
  let c0_7 : Index := 0#32
  let c3_i32 : BitVec 32 := 3#32
  let c0_i32_1 : BitVec 32 := 0#32
  let c1_i32 : BitVec 32 := 1#32
  let arg16 : BitVec 32 := Scf.iv c0_i32_1 c1_i32 k0_t1
  let v4 : BitVec 32 := Scalar.subi c3_i32 arg16
  let c64_i32 : BitVec 32 := 64#32
  let v5 : BitVec 32 := Scalar.muli v4 c64_i32
  let v6 : BitVec 32 := v5
  let v10 : Index := Scalar.indexCast v6
  let c0_8 : Index := 0#32
  ![0, 0, v10.toNat, 0]
def k0_off3 (k0_t1 : Fin k0_t1_loop.trips) : Fin 5 → Nat :=
  let c0_21 : Index := 0#32
  let c3_i32 : BitVec 32 := 3#32
  let c0_i32_1 : BitVec 32 := 0#32
  let c1_i32 : BitVec 32 := 1#32
  let arg16 : BitVec 32 := Scf.iv c0_i32_1 c1_i32 k0_t1
  let v4 : BitVec 32 := Scalar.subi c3_i32 arg16
  let v25 : Index := Scalar.indexCast v4
  let c0_22 : Index := 0#32
  let c0_23 : Index := 0#32
  let c0_24 : Index := 0#32
  ![0, v25.toNat, 0, 0, 0]
def cc0_transform_0 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_5 (i : grid0.Coords) : Fin 5 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_8 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_9 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_10 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_11 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

def cc0_transform_12 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, c0_i32.toNat, v0.toNat, c0_i32_0.toNat]

abbrev stage0_0 : Fin 2 → Memref sig .tc .vmem S1x8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2x8x2048x128 : Shape := ⟨4, ![2, 8, 2048, 128]⟩
abbrev S2x8x2048 : Shape := ⟨3, ![2, 8, 2048]⟩
abbrev S2x32x8x128x128 : Shape := ⟨5, ![2, 32, 8, 128, 128]⟩
abbrev S2x32x8x64x64 : Shape := ⟨5, ![2, 32, 8, 64, 64]⟩
abbrev S2x8x32x64x128 : Shape := ⟨5, ![2, 8, 32, 64, 128]⟩
abbrev S32x2x8x64x128 : Shape := ⟨5, ![32, 2, 8, 64, 128]⟩
abbrev S2x8x32x64 : Shape := ⟨4, ![2, 8, 32, 64]⟩
abbrev S32x2x8x64 : Shape := ⟨4, ![32, 2, 8, 64]⟩
abbrev S32x2x8x128x128 : Shape := ⟨5, ![32, 2, 8, 128, 128]⟩
abbrev S32x2x8x64x64 : Shape := ⟨5, ![32, 2, 8, 64, 64]⟩
abbrev S_ : Shape := ⟨0, ![]⟩
abbrev S2x8x128x128 : Shape := ⟨4, ![2, 8, 128, 128]⟩
abbrev S1x2x8x64x128 : Shape := ⟨5, ![1, 2, 8, 64, 128]⟩
abbrev S2x8x64x128 : Shape := ⟨4, ![2, 8, 64, 128]⟩
abbrev S1x2x8x64 : Shape := ⟨4, ![1, 2, 8, 64]⟩
abbrev S2x8x64 : Shape := ⟨3, ![2, 8, 64]⟩
abbrev S1x2x8x128x128 : Shape := ⟨5, ![1, 2, 8, 128, 128]⟩
abbrev S1x2x8x64x64 : Shape := ⟨5, ![1, 2, 8, 64, 64]⟩
abbrev S2x8x64x64 : Shape := ⟨4, ![2, 8, 64, 64]⟩
abbrev S2x8x64x1 : Shape := ⟨4, ![2, 8, 64, 1]⟩
abbrev S64x64 : Shape := ⟨2, ![64, 64]⟩
abbrev S2x8x1x64 : Shape := ⟨4, ![2, 8, 1, 64]⟩
abbrev S2x8x1 : Shape := ⟨3, ![2, 8, 1]⟩
abbrev S2x8 : Shape := ⟨2, ![2, 8]⟩
abbrev S2x8x1x1 : Shape := ⟨4, ![2, 8, 1, 1]⟩
abbrev S2x8x128x64 : Shape := ⟨4, ![2, 8, 128, 64]⟩

abbrev nBuf : Space → Nat
  | .hbm => 401
  | .vmem => 0
  | .smem => 0
  | _ => 0

abbrev hbmTy0_0 (i : Nat) : BufTy := match i % 128 with
  | 0 => ⟨S2x8x2048x128, .f32⟩
  | 1 => ⟨S2x8x2048x128, .f32⟩
  | 2 => ⟨S2x8x2048x128, .f32⟩
  | 3 => ⟨S2x8x2048, .f32⟩
  | 4 => ⟨S2x8x2048, .f32⟩
  | 5 => ⟨S2x32x8x128x128, .f32⟩
  | 6 => ⟨S2x32x8x64x64, .f32⟩
  | 7 => ⟨S2x8x2048x128, .f32⟩
  | 8 => ⟨S2x8x32x64x128, .f32⟩
  | 9 => ⟨S32x2x8x64x128, .f32⟩
  | 10 => ⟨S2x8x32x64x128, .f32⟩
  | 11 => ⟨S32x2x8x64x128, .f32⟩
  | 12 => ⟨S2x8x32x64x128, .f32⟩
  | 13 => ⟨S32x2x8x64x128, .f32⟩
  | 14 => ⟨S2x8x32x64, .f32⟩
  | 15 => ⟨S32x2x8x64, .f32⟩
  | 16 => ⟨S2x8x32x64, .f32⟩
  | 17 => ⟨S32x2x8x64, .f32⟩
  | 18 => ⟨S32x2x8x128x128, .f32⟩
  | 19 => ⟨S32x2x8x64x64, .f32⟩
  | 20 => ⟨S2x8x32x64x128, .f32⟩
  | 21 => ⟨S32x2x8x64x128, .f32⟩
  | 22 => ⟨S_, .f32⟩
  | 23 => ⟨S2x8x128x128, .f32⟩
  | 24 => ⟨S_, .f32⟩
  | 25 => ⟨S32x2x8x64x128, .f32⟩
  | 26 => ⟨S_, .f32⟩
  | 27 => ⟨S32x2x8x64x128, .f32⟩
  | 28 => ⟨S_, .f32⟩
  | 29 => ⟨S32x2x8x64x128, .f32⟩
  | 30 => ⟨S_, .f32⟩
  | 31 => ⟨S32x2x8x64, .f32⟩
  | 32 => ⟨S_, .f32⟩
  | 33 => ⟨S32x2x8x64, .f32⟩
  | 34 => ⟨S_, .i32⟩
  | 35 => ⟨S32x2x8x64x128, .f32⟩
  | 36 => ⟨S32x2x8x64x128, .f32⟩
  | 37 => ⟨S32x2x8x64x128, .f32⟩
  | 38 => ⟨S32x2x8x64, .f32⟩
  | 39 => ⟨S32x2x8x64, .f32⟩
  | 40 => ⟨S32x2x8x128x128, .f32⟩
  | 41 => ⟨S32x2x8x64x64, .f32⟩
  | 42 => ⟨S32x2x8x64x128, .f32⟩
  | 43 => ⟨S_, .i32⟩
  | 44 => ⟨S2x8x128x128, .f32⟩
  | 45 => ⟨S32x2x8x64x128, .f32⟩
  | 46 => ⟨S32x2x8x64x128, .f32⟩
  | 47 => ⟨S32x2x8x64x128, .f32⟩
  | 48 => ⟨S32x2x8x64, .f32⟩
  | 49 => ⟨S32x2x8x64, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S1x2x8x64x128, .f32⟩
  | 61 => ⟨S2x8x64x128, .f32⟩
  | 62 => ⟨S_, .i32⟩
  | 63 => ⟨S_, .i32⟩
  | 64 => ⟨S_, .i32⟩
  | 65 => ⟨S_, .i32⟩
  | 66 => ⟨S1x2x8x64x128, .f32⟩
  | 67 => ⟨S2x8x64x128, .f32⟩
  | 68 => ⟨S_, .i32⟩
  | 69 => ⟨S_, .i32⟩
  | 70 => ⟨S_, .i32⟩
  | 71 => ⟨S_, .i32⟩
  | 72 => ⟨S1x2x8x64x128, .f32⟩
  | 73 => ⟨S2x8x64x128, .f32⟩
  | 74 => ⟨S_, .i32⟩
  | 75 => ⟨S_, .i32⟩
  | 76 => ⟨S_, .i32⟩
  | 77 => ⟨S1x2x8x64, .f32⟩
  | 78 => ⟨S2x8x64, .f32⟩
  | 79 => ⟨S_, .i32⟩
  | 80 => ⟨S_, .i32⟩
  | 81 => ⟨S_, .i32⟩
  | 82 => ⟨S1x2x8x64, .f32⟩
  | 83 => ⟨S2x8x64, .f32⟩
  | 84 => ⟨S_, .i32⟩
  | 85 => ⟨S_, .i32⟩
  | 86 => ⟨S_, .i32⟩
  | 87 => ⟨S_, .i32⟩
  | 88 => ⟨S1x2x8x128x128, .f32⟩
  | 89 => ⟨S2x8x128x128, .f32⟩
  | 90 => ⟨S_, .i32⟩
  | 91 => ⟨S_, .i32⟩
  | 92 => ⟨S_, .i32⟩
  | 93 => ⟨S_, .i32⟩
  | 94 => ⟨S1x2x8x64x64, .f32⟩
  | 95 => ⟨S2x8x64x64, .f32⟩
  | 96 => ⟨S_, .i32⟩
  | 97 => ⟨S_, .i32⟩
  | 98 => ⟨S_, .i32⟩
  | 99 => ⟨S_, .i32⟩
  | 100 => ⟨S1x2x8x64x128, .f32⟩
  | 101 => ⟨S2x8x64x128, .f32⟩
  | 102 => ⟨S2x8x64x128, .f32⟩
  | 103 => ⟨S_, .f32⟩
  | 104 => ⟨S2x8x64, .f32⟩
  | 105 => ⟨S2x8x64x1, .f32⟩
  | 106 => ⟨S_, .f32⟩
  | 107 => ⟨S2x8x64x1, .f32⟩
  | 108 => ⟨S2x8x64x1, .f32⟩
  | 109 => ⟨S2x8x64x1, .f32⟩
  | 110 => ⟨S2x8x64x1, .f32⟩
  | 111 => ⟨S_, .f32⟩
  | 112 => ⟨S2x8x64x1, .f32⟩
  | 113 => ⟨S2x8x64x1, .f32⟩
  | 114 => ⟨S2x8x64x128, .f32⟩
  | 115 => ⟨S2x8x64x128, .f32⟩
  | 116 => ⟨S_, .f32⟩
  | 117 => ⟨S2x8x64x128, .f32⟩
  | 118 => ⟨S2x8x64x128, .f32⟩
  | 119 => ⟨S2x8x64x128, .f32⟩
  | 120 => ⟨S_, .f32⟩
  | 121 => ⟨S2x8x64, .f32⟩
  | 122 => ⟨S2x8x64x1, .f32⟩
  | 123 => ⟨S_, .f32⟩
  | 124 => ⟨S2x8x64x1, .f32⟩
  | 125 => ⟨S2x8x64x1, .f32⟩
  | 126 => ⟨S2x8x64x1, .f32⟩
  | 127 => ⟨S2x8x64x1, .f32⟩
  | _ => ⟨S2x8x2048x128, .f32⟩

abbrev hbmTy0_1 (i : Nat) : BufTy := match i % 128 with
  | 0 => ⟨S_, .f32⟩
  | 1 => ⟨S2x8x64x1, .f32⟩
  | 2 => ⟨S2x8x64x1, .f32⟩
  | 3 => ⟨S2x8x64x128, .f32⟩
  | 4 => ⟨S2x8x64x128, .f32⟩
  | 5 => ⟨S_, .f32⟩
  | 6 => ⟨S_, .f32⟩
  | 7 => ⟨S2x8x64, .f32⟩
  | 8 => ⟨S64x64, .i32⟩
  | 9 => ⟨S64x64, .i32⟩
  | 10 => ⟨S64x64, .i1⟩
  | 11 => ⟨S2x8x64x1, .f32⟩
  | 12 => ⟨S2x8x1x64, .f32⟩
  | 13 => ⟨S2x8x64x64, .f32⟩
  | 14 => ⟨S2x8x64x64, .f32⟩
  | 15 => ⟨S2x8x64x64, .f32⟩
  | 16 => ⟨S_, .f32⟩
  | 17 => ⟨S_, .f32⟩
  | 18 => ⟨S2x8x64x64, .i1⟩
  | 19 => ⟨S2x8x64x64, .f32⟩
  | 20 => ⟨S2x8x64x64, .f32⟩
  | 21 => ⟨S_, .f32⟩
  | 22 => ⟨S2x8x64x64, .f32⟩
  | 23 => ⟨S2x8x64x64, .f32⟩
  | 24 => ⟨S2x8x64x1, .f32⟩
  | 25 => ⟨S2x8x64x128, .f32⟩
  | 26 => ⟨S2x8x64x128, .f32⟩
  | 27 => ⟨S2x8x64x1, .f32⟩
  | 28 => ⟨S2x8x64x128, .f32⟩
  | 29 => ⟨S2x8x64x128, .f32⟩
  | 30 => ⟨S64x64, .i1⟩
  | 31 => ⟨S2x8x64x64, .f32⟩
  | 32 => ⟨S2x8x64x64, .f32⟩
  | 33 => ⟨S_, .f32⟩
  | 34 => ⟨S_, .f32⟩
  | 35 => ⟨S2x8x64x64, .i1⟩
  | 36 => ⟨S2x8x64x64, .f32⟩
  | 37 => ⟨S2x8x64x64, .f32⟩
  | 38 => ⟨S_, .f32⟩
  | 39 => ⟨S2x8x64x64, .f32⟩
  | 40 => ⟨S2x8x64x128, .f32⟩
  | 41 => ⟨S2x8x64, .f32⟩
  | 42 => ⟨S2x8x64x1, .f32⟩
  | 43 => ⟨S2x8x64x128, .f32⟩
  | 44 => ⟨S2x8x64x128, .f32⟩
  | 45 => ⟨S2x8x64x128, .f32⟩
  | 46 => ⟨S2x8x64, .f32⟩
  | 47 => ⟨S2x8x64x1, .f32⟩
  | 48 => ⟨S2x8x64x128, .f32⟩
  | 49 => ⟨S2x8x64x128, .f32⟩
  | 50 => ⟨S2x8x64x64, .f32⟩
  | 51 => ⟨S2x8x64x64, .f32⟩
  | 52 => ⟨S2x8x1, .f32⟩
  | 53 => ⟨S2x8, .f32⟩
  | 54 => ⟨S2x8x1, .f32⟩
  | 55 => ⟨S2x8x64, .f32⟩
  | 56 => ⟨S2x8x64, .f32⟩
  | 57 => ⟨S2x8x64, .f32⟩
  | 58 => ⟨S2x8x64x1, .f32⟩
  | 59 => ⟨S2x8x64x128, .f32⟩
  | 60 => ⟨S2x8x64x128, .f32⟩
  | 61 => ⟨S2x8x64x128, .f32⟩
  | 62 => ⟨S2x8x64x128, .f32⟩
  | 63 => ⟨S2x8x64x128, .f32⟩
  | 64 => ⟨S2x8x64x128, .f32⟩
  | 65 => ⟨S2x8x64x128, .f32⟩
  | 66 => ⟨S2x8, .f32⟩
  | 67 => ⟨S2x8x1x1, .f32⟩
  | 68 => ⟨S2x8x128x128, .f32⟩
  | 69 => ⟨S2x8x128x128, .f32⟩
  | 70 => ⟨S2x8x128x128, .f32⟩
  | 71 => ⟨S2x8x128x128, .f32⟩
  | 72 => ⟨S2x8x128x64, .f32⟩
  | 73 => ⟨S2x8x64x128, .f32⟩
  | 74 => ⟨S2x8x128x64, .f32⟩
  | 75 => ⟨S2x8x64x128, .f32⟩
  | 76 => ⟨S2x8x128x128, .f32⟩
  | 77 => ⟨S_, .f32⟩
  | 78 => ⟨S2x8, .f32⟩
  | 79 => ⟨S2x8x1x1, .f32⟩
  | 80 => ⟨S2x8x128x128, .f32⟩
  | 81 => ⟨S2x8x128x128, .f32⟩
  | 82 => ⟨S_, .f32⟩
  | 83 => ⟨S2x8, .f32⟩
  | 84 => ⟨S2x8, .f32⟩
  | 85 => ⟨S2x8x128x64, .f32⟩
  | 86 => ⟨S2x8x64x128, .f32⟩
  | 87 => ⟨S2x8x64x128, .f32⟩
  | 88 => ⟨S2x8x64x64, .f32⟩
  | 89 => ⟨S2x8x128x128, .f32⟩
  | 90 => ⟨S2x8x128x128, .f32⟩
  | 91 => ⟨S2x8x128x128, .f32⟩
  | 92 => ⟨S2x8x64x128, .f32⟩
  | 93 => ⟨S2x8x64x128, .f32⟩
  | 94 => ⟨S2x8x128x128, .f32⟩
  | 95 => ⟨S2x8x128x128, .f32⟩
  | 96 => ⟨S2x8x128x128, .f32⟩
  | 97 => ⟨S2x8x64x128, .f32⟩
  | 98 => ⟨S2x8x64x128, .f32⟩
  | 99 => ⟨S_, .f32⟩
  | 100 => ⟨S2x8x64, .f32⟩
  | 101 => ⟨S2x8x64x1, .f32⟩
  | 102 => ⟨S2x8x64x128, .f32⟩
  | 103 => ⟨S2x8x64x128, .f32⟩
  | 104 => ⟨S_, .f32⟩
  | 105 => ⟨S2x8x64, .f32⟩
  | 106 => ⟨S2x8x64, .f32⟩
  | 107 => ⟨S_, .f32⟩
  | 108 => ⟨S2x8, .f32⟩
  | 109 => ⟨S2x8x1, .f32⟩
  | 110 => ⟨S2x8x64, .f32⟩
  | 111 => ⟨S_, .f32⟩
  | 112 => ⟨S2x8, .f32⟩
  | 113 => ⟨S2x8, .f32⟩
  | 114 => ⟨S2x8x1, .f32⟩
  | 115 => ⟨S_, .f32⟩
  | 116 => ⟨S2x8x64, .f32⟩
  | 117 => ⟨S2x8x64, .f32⟩
  | 118 => ⟨S2x8x64x64, .f32⟩
  | 119 => ⟨S2x8x64x64, .f32⟩
  | 120 => ⟨S2x8x64x128, .f32⟩
  | 121 => ⟨S2x8x64x128, .f32⟩
  | 122 => ⟨S2x8x64x128, .f32⟩
  | 123 => ⟨S2x8x64x128, .f32⟩
  | 124 => ⟨S_, .f32⟩
  | 125 => ⟨S2x8x64, .f32⟩
  | 126 => ⟨S2x8x64x1, .f32⟩
  | 127 => ⟨S2x8x64x128, .f32⟩
  | _ => ⟨S2x8x2048x128, .f32⟩

abbrev hbmTy0_2 (i : Nat) : BufTy := match i % 128 with
  | 0 => ⟨S2x8x64x128, .f32⟩
  | 1 => ⟨S2x8x64x128, .f32⟩
  | 2 => ⟨S_, .f32⟩
  | 3 => ⟨S2x8x64, .f32⟩
  | 4 => ⟨S2x8x64, .f32⟩
  | 5 => ⟨S2x8x64, .f32⟩
  | 6 => ⟨S2x8x128x64, .f32⟩
  | 7 => ⟨S2x8x64x128, .f32⟩
  | 8 => ⟨S2x8x64x64, .f32⟩
  | 9 => ⟨S2x8x64x128, .f32⟩
  | 10 => ⟨S_, .f32⟩
  | 11 => ⟨S2x8x64, .f32⟩
  | 12 => ⟨S2x8x64x1, .f32⟩
  | 13 => ⟨S2x8x64x128, .f32⟩
  | 14 => ⟨S2x8x64x128, .f32⟩
  | 15 => ⟨S_, .f32⟩
  | 16 => ⟨S2x8x64, .f32⟩
  | 17 => ⟨S2x8x64, .f32⟩
  | 18 => ⟨S2x8x64, .f32⟩
  | 19 => ⟨S2x8x128x64, .f32⟩
  | 20 => ⟨S2x8x64x128, .f32⟩
  | 21 => ⟨S2x8x64x64, .f32⟩
  | 22 => ⟨S2x8x64x64, .f32⟩
  | 23 => ⟨S2x8x64x64, .f32⟩
  | 24 => ⟨S2x8x64x64, .f32⟩
  | 25 => ⟨S2x8x64x64, .f32⟩
  | 26 => ⟨S_, .f32⟩
  | 27 => ⟨S2x8x64x64, .f32⟩
  | 28 => ⟨S2x8x64x64, .f32⟩
  | 29 => ⟨S2x8x64x64, .f32⟩
  | 30 => ⟨S2x8x64x64, .f32⟩
  | 31 => ⟨S2x8x64x64, .f32⟩
  | 32 => ⟨S2x8x64x128, .f32⟩
  | 33 => ⟨S2x8x64x128, .f32⟩
  | 34 => ⟨S2x8x64x128, .f32⟩
  | 35 => ⟨S2x8x64x128, .f32⟩
  | 36 => ⟨S2x8x64x128, .f32⟩
  | 37 => ⟨S_, .f32⟩
  | 38 => ⟨S2x8x64, .f32⟩
  | 39 => ⟨S2x8x64x1, .f32⟩
  | 40 => ⟨S2x8x64x128, .f32⟩
  | 41 => ⟨S2x8x64x128, .f32⟩
  | 42 => ⟨S_, .f32⟩
  | 43 => ⟨S2x8x64, .f32⟩
  | 44 => ⟨S2x8x64x128, .f32⟩
  | 45 => ⟨S_, .f32⟩
  | 46 => ⟨S2x8x64, .f32⟩
  | 47 => ⟨S2x8x64x1, .f32⟩
  | 48 => ⟨S2x8x64x128, .f32⟩
  | 49 => ⟨S2x8x64x128, .f32⟩
  | 50 => ⟨S2x8x64x128, .f32⟩
  | 51 => ⟨S_, .f32⟩
  | 52 => ⟨S2x8x64, .f32⟩
  | 53 => ⟨S2x8x64, .f32⟩
  | 54 => ⟨S2x8x64x64, .f32⟩
  | 55 => ⟨S_, .f32⟩
  | 56 => ⟨S2x8x64x64, .f32⟩
  | 57 => ⟨S2x8x64x64, .f32⟩
  | 58 => ⟨S_, .f32⟩
  | 59 => ⟨S2x8x64, .f32⟩
  | 60 => ⟨S2x8x64x1, .f32⟩
  | 61 => ⟨S2x8x64x64, .f32⟩
  | 62 => ⟨S_, .f32⟩
  | 63 => ⟨S2x8x64, .f32⟩
  | 64 => ⟨S2x8x1x64, .f32⟩
  | 65 => ⟨S_, .f32⟩
  | 66 => ⟨S2x8x64, .f32⟩
  | 67 => ⟨S2x8x64, .f32⟩
  | 68 => ⟨S_, .f32⟩
  | 69 => ⟨S2x8x64, .f32⟩
  | 70 => ⟨S2x8x64, .f32⟩
  | 71 => ⟨S_, .f32⟩
  | 72 => ⟨S_, .f32⟩
  | 73 => ⟨S2x8x64, .f32⟩
  | 74 => ⟨S2x8x64x128, .f32⟩
  | 75 => ⟨S_, .f32⟩
  | 76 => ⟨S2x8x64, .f32⟩
  | 77 => ⟨S2x8x64x1, .f32⟩
  | 78 => ⟨S2x8x64x128, .f32⟩
  | 79 => ⟨S2x8x64x128, .f32⟩
  | 80 => ⟨S2x8x64x1, .f32⟩
  | 81 => ⟨S_, .f32⟩
  | 82 => ⟨S2x8x64, .f32⟩
  | 83 => ⟨S2x8x64x128, .f32⟩
  | 84 => ⟨S2x8x64x128, .f32⟩
  | 85 => ⟨S2x8x64x128, .f32⟩
  | 86 => ⟨S2x8x64x128, .f32⟩
  | 87 => ⟨S2x8x64x128, .f32⟩
  | 88 => ⟨S_, .f32⟩
  | 89 => ⟨S2x8x64x128, .f32⟩
  | 90 => ⟨S2x8x64x128, .f32⟩
  | 91 => ⟨S2x8x64x128, .f32⟩
  | 92 => ⟨S_, .f32⟩
  | 93 => ⟨S2x8x64, .f32⟩
  | 94 => ⟨S2x8x64x1, .f32⟩
  | 95 => ⟨S2x8x64x128, .f32⟩
  | 96 => ⟨S2x8x64x128, .f32⟩
  | 97 => ⟨S2x8x64x1, .f32⟩
  | 98 => ⟨S_, .f32⟩
  | 99 => ⟨S2x8x64, .f32⟩
  | 100 => ⟨S2x8x64x128, .f32⟩
  | 101 => ⟨S2x8x64x128, .f32⟩
  | 102 => ⟨S2x8x64x128, .f32⟩
  | 103 => ⟨S2x8x64x128, .f32⟩
  | 104 => ⟨S2x8x64x128, .f32⟩
  | 105 => ⟨S1x2x8x64x128, .f32⟩
  | 106 => ⟨S_, .i32⟩
  | 107 => ⟨S_, .i32⟩
  | 108 => ⟨S_, .i32⟩
  | 109 => ⟨S_, .i32⟩
  | 110 => ⟨S32x2x8x64x128, .f32⟩
  | 111 => ⟨S1x2x8x64x128, .f32⟩
  | 112 => ⟨S_, .i32⟩
  | 113 => ⟨S_, .i32⟩
  | 114 => ⟨S_, .i32⟩
  | 115 => ⟨S_, .i32⟩
  | 116 => ⟨S32x2x8x64x128, .f32⟩
  | 117 => ⟨S1x2x8x64x128, .f32⟩
  | 118 => ⟨S_, .i32⟩
  | 119 => ⟨S_, .i32⟩
  | 120 => ⟨S_, .i32⟩
  | 121 => ⟨S_, .i32⟩
  | 122 => ⟨S32x2x8x64x128, .f32⟩
  | 123 => ⟨S1x2x8x64, .f32⟩
  | 124 => ⟨S_, .i32⟩
  | 125 => ⟨S_, .i32⟩
  | 126 => ⟨S_, .i32⟩
  | 127 => ⟨S32x2x8x64, .f32⟩
  | _ => ⟨S2x8x2048x128, .f32⟩

abbrev hbmTy0_3 (i : Nat) : BufTy := match i % 128 with
  | 0 => ⟨S1x2x8x64, .f32⟩
  | 1 => ⟨S_, .i32⟩
  | 2 => ⟨S_, .i32⟩
  | 3 => ⟨S_, .i32⟩
  | 4 => ⟨S32x2x8x64, .f32⟩
  | 5 => ⟨S_, .i32⟩
  | 6 => ⟨S_, .i32⟩
  | 7 => ⟨S2x8x32x64x128, .f32⟩
  | 8 => ⟨S2x8x2048x128, .f32⟩
  | 9 => ⟨S2x8x32x64x128, .f32⟩
  | 10 => ⟨S2x8x2048x128, .f32⟩
  | 11 => ⟨S2x8x32x64x128, .f32⟩
  | 12 => ⟨S2x8x2048x128, .f32⟩
  | 13 => ⟨S2x8x32x64, .f32⟩
  | 14 => ⟨S2x8x2048, .f32⟩
  | 15 => ⟨S2x8x32x64, .f32⟩
  | 16 => ⟨S2x8x2048, .f32⟩
  | _ => ⟨S2x8x2048x128, .f32⟩

abbrev hbmTy (i : Nat) : BufTy := match i / 128 with
  | 0 => hbmTy0_0 i
  | 1 => hbmTy0_1 i
  | 2 => hbmTy0_2 i
  | 3 => hbmTy0_3 i
  | _ => ⟨S2x8x2048x128, .f32⟩

abbrev bufTy : (tb : Table) → Fin (tcTables nBuf tb) → BufTy
  | .hbm, ⟨i, _⟩ => hbmTy i
  | _, _ => ⟨S2x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_c : Ref sig .tc := ⟨.hbm, 34, rfl⟩
abbrev main_v20_0 : Ref sig .tc := ⟨.hbm, 35, rfl⟩
abbrev main_v20_1 : Ref sig .tc := ⟨.hbm, 36, rfl⟩
abbrev main_v20_2 : Ref sig .tc := ⟨.hbm, 37, rfl⟩
abbrev main_v20_3 : Ref sig .tc := ⟨.hbm, 38, rfl⟩
abbrev main_v20_4 : Ref sig .tc := ⟨.hbm, 39, rfl⟩
abbrev main_v20_5 : Ref sig .tc := ⟨.hbm, 40, rfl⟩
abbrev main_v20_6 : Ref sig .tc := ⟨.hbm, 41, rfl⟩
abbrev main_v20_7 : Ref sig .tc := ⟨.hbm, 42, rfl⟩
abbrev main_v20_8 : Ref sig .tc := ⟨.hbm, 43, rfl⟩
abbrev main_v20_9 : Ref sig .tc := ⟨.hbm, 44, rfl⟩
abbrev main_v20_10 : Ref sig .tc := ⟨.hbm, 45, rfl⟩
abbrev main_v20_11 : Ref sig .tc := ⟨.hbm, 46, rfl⟩
abbrev main_v20_12 : Ref sig .tc := ⟨.hbm, 47, rfl⟩
abbrev main_v20_13 : Ref sig .tc := ⟨.hbm, 48, rfl⟩
abbrev main_v20_14 : Ref sig .tc := ⟨.hbm, 49, rfl⟩
abbrev main_while0c_c_19 : Ref sig .tc := ⟨.hbm, 50, rfl⟩
abbrev main_while0c_v31 : Ref sig .tc := ⟨.hbm, 51, rfl⟩
abbrev main_while0b_c_19 : Ref sig .tc := ⟨.hbm, 52, rfl⟩
abbrev main_while0b_v31 : Ref sig .tc := ⟨.hbm, 53, rfl⟩
abbrev main_while0b_c_20 : Ref sig .tc := ⟨.hbm, 54, rfl⟩
abbrev main_while0b_v32 : Ref sig .tc := ⟨.hbm, 55, rfl⟩
abbrev main_while0b_call0_c : Ref sig .tc := ⟨.hbm, 56, rfl⟩
abbrev main_while0b_call0_c_0 : Ref sig .tc := ⟨.hbm, 57, rfl⟩
abbrev main_while0b_call0_c_1 : Ref sig .tc := ⟨.hbm, 58, rfl⟩
abbrev main_while0b_call0_c_2 : Ref sig .tc := ⟨.hbm, 59, rfl⟩
abbrev main_while0b_call0_v0 : Ref sig .tc := ⟨.hbm, 60, rfl⟩
abbrev main_while0b_v33 : Ref sig .tc := ⟨.hbm, 61, rfl⟩
abbrev main_while0b_call1_c : Ref sig .tc := ⟨.hbm, 62, rfl⟩
abbrev main_while0b_call1_c_0 : Ref sig .tc := ⟨.hbm, 63, rfl⟩
abbrev main_while0b_call1_c_1 : Ref sig .tc := ⟨.hbm, 64, rfl⟩
abbrev main_while0b_call1_c_2 : Ref sig .tc := ⟨.hbm, 65, rfl⟩
abbrev main_while0b_call1_v0 : Ref sig .tc := ⟨.hbm, 66, rfl⟩
abbrev main_while0b_v34 : Ref sig .tc := ⟨.hbm, 67, rfl⟩
abbrev main_while0b_call2_c : Ref sig .tc := ⟨.hbm, 68, rfl⟩
abbrev main_while0b_call2_c_0 : Ref sig .tc := ⟨.hbm, 69, rfl⟩
abbrev main_while0b_call2_c_1 : Ref sig .tc := ⟨.hbm, 70, rfl⟩
abbrev main_while0b_call2_c_2 : Ref sig .tc := ⟨.hbm, 71, rfl⟩
abbrev main_while0b_call2_v0 : Ref sig .tc := ⟨.hbm, 72, rfl⟩
abbrev main_while0b_v35 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_call3_c_1 : Ref sig .tc := ⟨.hbm, 76, rfl⟩
abbrev main_while0b_call3_v0 : Ref sig .tc := ⟨.hbm, 77, rfl⟩
abbrev main_while0b_v36 : Ref sig .tc := ⟨.hbm, 78, rfl⟩
abbrev main_while0b_call4_c : Ref sig .tc := ⟨.hbm, 79, rfl⟩
abbrev main_while0b_call4_c_0 : Ref sig .tc := ⟨.hbm, 80, rfl⟩
abbrev main_while0b_call4_c_1 : Ref sig .tc := ⟨.hbm, 81, rfl⟩
abbrev main_while0b_call4_v0 : Ref sig .tc := ⟨.hbm, 82, rfl⟩
abbrev main_while0b_v37 : Ref sig .tc := ⟨.hbm, 83, rfl⟩
abbrev main_while0b_call5_c : Ref sig .tc := ⟨.hbm, 84, rfl⟩
abbrev main_while0b_call5_c_0 : Ref sig .tc := ⟨.hbm, 85, rfl⟩
abbrev main_while0b_call5_c_1 : Ref sig .tc := ⟨.hbm, 86, rfl⟩
abbrev main_while0b_call5_c_2 : Ref sig .tc := ⟨.hbm, 87, rfl⟩
abbrev main_while0b_call5_v0 : Ref sig .tc := ⟨.hbm, 88, rfl⟩
abbrev main_while0b_v38 : Ref sig .tc := ⟨.hbm, 89, rfl⟩
abbrev main_while0b_call6_c : Ref sig .tc := ⟨.hbm, 90, rfl⟩
abbrev main_while0b_call6_c_0 : Ref sig .tc := ⟨.hbm, 91, rfl⟩
abbrev main_while0b_call6_c_1 : Ref sig .tc := ⟨.hbm, 92, rfl⟩
abbrev main_while0b_call6_c_2 : Ref sig .tc := ⟨.hbm, 93, rfl⟩
abbrev main_while0b_call6_v0 : Ref sig .tc := ⟨.hbm, 94, rfl⟩
abbrev main_while0b_v39 : Ref sig .tc := ⟨.hbm, 95, rfl⟩
abbrev main_while0b_call7_c : Ref sig .tc := ⟨.hbm, 96, rfl⟩
abbrev main_while0b_call7_c_0 : Ref sig .tc := ⟨.hbm, 97, rfl⟩
abbrev main_while0b_call7_c_1 : Ref sig .tc := ⟨.hbm, 98, rfl⟩
abbrev main_while0b_call7_c_2 : Ref sig .tc := ⟨.hbm, 99, rfl⟩
abbrev main_while0b_call7_v0 : Ref sig .tc := ⟨.hbm, 100, rfl⟩
abbrev main_while0b_v40 : Ref sig .tc := ⟨.hbm, 101, rfl⟩
abbrev main_while0b_v41 : Ref sig .tc := ⟨.hbm, 102, rfl⟩
abbrev main_while0b_cst_21 : Ref sig .tc := ⟨.hbm, 103, rfl⟩
abbrev main_while0b_v42 : Ref sig .tc := ⟨.hbm, 104, rfl⟩
abbrev main_while0b_v43 : Ref sig .tc := ⟨.hbm, 105, rfl⟩
abbrev main_while0b_cst_22 : Ref sig .tc := ⟨.hbm, 106, rfl⟩
abbrev main_while0b_v44 : Ref sig .tc := ⟨.hbm, 107, rfl⟩
abbrev main_while0b_v45 : Ref sig .tc := ⟨.hbm, 108, rfl⟩
abbrev main_while0b_v46 : Ref sig .tc := ⟨.hbm, 109, rfl⟩
abbrev main_while0b_v47 : Ref sig .tc := ⟨.hbm, 110, rfl⟩
abbrev main_while0b_cst_23 : Ref sig .tc := ⟨.hbm, 111, rfl⟩
abbrev main_while0b_v48 : Ref sig .tc := ⟨.hbm, 112, rfl⟩
abbrev main_while0b_v49 : Ref sig .tc := ⟨.hbm, 113, rfl⟩
abbrev main_while0b_v50 : Ref sig .tc := ⟨.hbm, 114, rfl⟩
abbrev main_while0b_v51 : Ref sig .tc := ⟨.hbm, 115, rfl⟩
abbrev main_while0b_cst_24 : Ref sig .tc := ⟨.hbm, 116, rfl⟩
abbrev main_while0b_v52 : Ref sig .tc := ⟨.hbm, 117, rfl⟩
abbrev main_while0b_v53 : Ref sig .tc := ⟨.hbm, 118, rfl⟩
abbrev main_while0b_v54 : Ref sig .tc := ⟨.hbm, 119, rfl⟩
abbrev main_while0b_cst_25 : Ref sig .tc := ⟨.hbm, 120, rfl⟩
abbrev main_while0b_v55 : Ref sig .tc := ⟨.hbm, 121, rfl⟩
abbrev main_while0b_v56 : Ref sig .tc := ⟨.hbm, 122, rfl⟩
abbrev main_while0b_cst_26 : Ref sig .tc := ⟨.hbm, 123, rfl⟩
abbrev main_while0b_v57 : Ref sig .tc := ⟨.hbm, 124, rfl⟩
abbrev main_while0b_v58 : Ref sig .tc := ⟨.hbm, 125, rfl⟩
abbrev main_while0b_v59 : Ref sig .tc := ⟨.hbm, 126, rfl⟩
abbrev main_while0b_v60 : Ref sig .tc := ⟨.hbm, 127, rfl⟩
abbrev main_while0b_cst_27 : Ref sig .tc := ⟨.hbm, 128, rfl⟩
abbrev main_while0b_v61 : Ref sig .tc := ⟨.hbm, 129, rfl⟩
abbrev main_while0b_v62 : Ref sig .tc := ⟨.hbm, 130, rfl⟩
abbrev main_while0b_v63 : Ref sig .tc := ⟨.hbm, 131, rfl⟩
abbrev main_while0b_v64 : Ref sig .tc := ⟨.hbm, 132, rfl⟩
abbrev main_while0b_call8_call0_cst : Ref sig .tc := ⟨.hbm, 133, rfl⟩
abbrev main_while0b_call8_call0_v0 : Ref sig .tc := ⟨.hbm, 134, rfl⟩
abbrev main_while0b_v65 : Ref sig .tc := ⟨.hbm, 135, rfl⟩
abbrev main_while0b_v66 : Ref sig .tc := ⟨.hbm, 136, rfl⟩
abbrev main_while0b_v67 : Ref sig .tc := ⟨.hbm, 137, rfl⟩
abbrev main_while0b_v68 : Ref sig .tc := ⟨.hbm, 138, rfl⟩
abbrev main_while0b_v69 : Ref sig .tc := ⟨.hbm, 139, rfl⟩
abbrev main_while0b_v70 : Ref sig .tc := ⟨.hbm, 140, rfl⟩
abbrev main_while0b_v71 : Ref sig .tc := ⟨.hbm, 141, rfl⟩
abbrev main_while0b_v72 : Ref sig .tc := ⟨.hbm, 142, rfl⟩
abbrev main_while0b_v73 : Ref sig .tc := ⟨.hbm, 143, rfl⟩
abbrev main_while0b_cst_28 : Ref sig .tc := ⟨.hbm, 144, rfl⟩
abbrev main_while0b_call9_v0 : Ref sig .tc := ⟨.hbm, 145, rfl⟩
abbrev main_while0b_v74_1 : Ref sig .tc := ⟨.hbm, 146, rfl⟩
abbrev main_while0b_call9_v2 : Ref sig .tc := ⟨.hbm, 147, rfl⟩
abbrev main_while0b_v74_0 : Ref sig .tc := ⟨.hbm, 148, rfl⟩
abbrev main_while0b_call9_cst : Ref sig .tc := ⟨.hbm, 149, rfl⟩
abbrev main_while0b_v74_2 : Ref sig .tc := ⟨.hbm, 150, rfl⟩
abbrev main_while0b_v75 : Ref sig .tc := ⟨.hbm, 151, rfl⟩
abbrev main_while0b_v76 : Ref sig .tc := ⟨.hbm, 152, rfl⟩
abbrev main_while0b_v77 : Ref sig .tc := ⟨.hbm, 153, rfl⟩
abbrev main_while0b_v78 : Ref sig .tc := ⟨.hbm, 154, rfl⟩
abbrev main_while0b_v79 : Ref sig .tc := ⟨.hbm, 155, rfl⟩
abbrev main_while0b_v80 : Ref sig .tc := ⟨.hbm, 156, rfl⟩
abbrev main_while0b_v81 : Ref sig .tc := ⟨.hbm, 157, rfl⟩
abbrev main_while0b_v82 : Ref sig .tc := ⟨.hbm, 158, rfl⟩
abbrev main_while0b_v83 : Ref sig .tc := ⟨.hbm, 159, rfl⟩
abbrev main_while0b_v84 : Ref sig .tc := ⟨.hbm, 160, rfl⟩
abbrev main_while0b_cst_29 : Ref sig .tc := ⟨.hbm, 161, rfl⟩
abbrev main_while0b_call10_v0 : Ref sig .tc := ⟨.hbm, 162, rfl⟩
abbrev main_while0b_v85_1 : Ref sig .tc := ⟨.hbm, 163, rfl⟩
abbrev main_while0b_call10_v2 : Ref sig .tc := ⟨.hbm, 164, rfl⟩
abbrev main_while0b_v85_0 : Ref sig .tc := ⟨.hbm, 165, rfl⟩
abbrev main_while0b_call10_cst : Ref sig .tc := ⟨.hbm, 166, rfl⟩
abbrev main_while0b_v85_2 : Ref sig .tc := ⟨.hbm, 167, rfl⟩
abbrev main_while0b_v86 : Ref sig .tc := ⟨.hbm, 168, rfl⟩
abbrev main_while0b_v87 : Ref sig .tc := ⟨.hbm, 169, rfl⟩
abbrev main_while0b_v88 : Ref sig .tc := ⟨.hbm, 170, rfl⟩
abbrev main_while0b_v89 : Ref sig .tc := ⟨.hbm, 171, rfl⟩
abbrev main_while0b_v90 : Ref sig .tc := ⟨.hbm, 172, rfl⟩
abbrev main_while0b_v91 : Ref sig .tc := ⟨.hbm, 173, rfl⟩
abbrev main_while0b_v92 : Ref sig .tc := ⟨.hbm, 174, rfl⟩
abbrev main_while0b_v93 : Ref sig .tc := ⟨.hbm, 175, rfl⟩
abbrev main_while0b_v94 : Ref sig .tc := ⟨.hbm, 176, rfl⟩
abbrev main_while0b_v95 : Ref sig .tc := ⟨.hbm, 177, rfl⟩
abbrev main_while0b_v96 : Ref sig .tc := ⟨.hbm, 178, rfl⟩
abbrev main_while0b_v97 : Ref sig .tc := ⟨.hbm, 179, rfl⟩
abbrev main_while0b_v98 : Ref sig .tc := ⟨.hbm, 180, rfl⟩
abbrev main_while0b_v99 : Ref sig .tc := ⟨.hbm, 181, rfl⟩
abbrev main_while0b_v100 : Ref sig .tc := ⟨.hbm, 182, rfl⟩
abbrev main_while0b_v101 : Ref sig .tc := ⟨.hbm, 183, rfl⟩
abbrev main_while0b_v102 : Ref sig .tc := ⟨.hbm, 184, rfl⟩
abbrev main_while0b_v103 : Ref sig .tc := ⟨.hbm, 185, rfl⟩
abbrev main_while0b_v104 : Ref sig .tc := ⟨.hbm, 186, rfl⟩
abbrev main_while0b_v105 : Ref sig .tc := ⟨.hbm, 187, rfl⟩
abbrev main_while0b_v106 : Ref sig .tc := ⟨.hbm, 188, rfl⟩
abbrev main_while0b_v107 : Ref sig .tc := ⟨.hbm, 189, rfl⟩
abbrev main_while0b_v108 : Ref sig .tc := ⟨.hbm, 190, rfl⟩
abbrev main_while0b_v109 : Ref sig .tc := ⟨.hbm, 191, rfl⟩
abbrev main_while0b_v110 : Ref sig .tc := ⟨.hbm, 192, rfl⟩
abbrev main_while0b_v111 : Ref sig .tc := ⟨.hbm, 193, rfl⟩
abbrev main_while0b_v112 : Ref sig .tc := ⟨.hbm, 194, rfl⟩
abbrev main_while0b_v113 : Ref sig .tc := ⟨.hbm, 195, rfl⟩
abbrev main_while0b_v114 : Ref sig .tc := ⟨.hbm, 196, rfl⟩
abbrev main_while0b_v115 : Ref sig .tc := ⟨.hbm, 197, rfl⟩
abbrev main_while0b_v116 : Ref sig .tc := ⟨.hbm, 198, rfl⟩
abbrev main_while0b_v117 : Ref sig .tc := ⟨.hbm, 199, rfl⟩
abbrev main_while0b_v118 : Ref sig .tc := ⟨.hbm, 200, rfl⟩
abbrev main_while0b_v119 : Ref sig .tc := ⟨.hbm, 201, rfl⟩
abbrev main_while0b_v120 : Ref sig .tc := ⟨.hbm, 202, rfl⟩
abbrev main_while0b_v121 : Ref sig .tc := ⟨.hbm, 203, rfl⟩
abbrev main_while0b_v122 : Ref sig .tc := ⟨.hbm, 204, rfl⟩
abbrev main_while0b_cst_30 : Ref sig .tc := ⟨.hbm, 205, rfl⟩
abbrev main_while0b_v123 : Ref sig .tc := ⟨.hbm, 206, rfl⟩
abbrev main_while0b_v124 : Ref sig .tc := ⟨.hbm, 207, rfl⟩
abbrev main_while0b_v125 : Ref sig .tc := ⟨.hbm, 208, rfl⟩
abbrev main_while0b_v126 : Ref sig .tc := ⟨.hbm, 209, rfl⟩
abbrev main_while0b_cst_31 : Ref sig .tc := ⟨.hbm, 210, rfl⟩
abbrev main_while0b_v127 : Ref sig .tc := ⟨.hbm, 211, rfl⟩
abbrev main_while0b_v128 : Ref sig .tc := ⟨.hbm, 212, rfl⟩
abbrev main_while0b_v129 : Ref sig .tc := ⟨.hbm, 213, rfl⟩
abbrev main_while0b_v130 : Ref sig .tc := ⟨.hbm, 214, rfl⟩
abbrev main_while0b_v131 : Ref sig .tc := ⟨.hbm, 215, rfl⟩
abbrev main_while0b_v132 : Ref sig .tc := ⟨.hbm, 216, rfl⟩
abbrev main_while0b_v133 : Ref sig .tc := ⟨.hbm, 217, rfl⟩
abbrev main_while0b_v134 : Ref sig .tc := ⟨.hbm, 218, rfl⟩
abbrev main_while0b_v135 : Ref sig .tc := ⟨.hbm, 219, rfl⟩
abbrev main_while0b_v136 : Ref sig .tc := ⟨.hbm, 220, rfl⟩
abbrev main_while0b_v137 : Ref sig .tc := ⟨.hbm, 221, rfl⟩
abbrev main_while0b_v138 : Ref sig .tc := ⟨.hbm, 222, rfl⟩
abbrev main_while0b_v139 : Ref sig .tc := ⟨.hbm, 223, rfl⟩
abbrev main_while0b_v140 : Ref sig .tc := ⟨.hbm, 224, rfl⟩
abbrev main_while0b_v141 : Ref sig .tc := ⟨.hbm, 225, rfl⟩
abbrev main_while0b_v142 : Ref sig .tc := ⟨.hbm, 226, rfl⟩
abbrev main_while0b_cst_32 : Ref sig .tc := ⟨.hbm, 227, rfl⟩
abbrev main_while0b_v143 : Ref sig .tc := ⟨.hbm, 228, rfl⟩
abbrev main_while0b_v144 : Ref sig .tc := ⟨.hbm, 229, rfl⟩
abbrev main_while0b_v145 : Ref sig .tc := ⟨.hbm, 230, rfl⟩
abbrev main_while0b_v146 : Ref sig .tc := ⟨.hbm, 231, rfl⟩
abbrev main_while0b_cst_33 : Ref sig .tc := ⟨.hbm, 232, rfl⟩
abbrev main_while0b_v147 : Ref sig .tc := ⟨.hbm, 233, rfl⟩
abbrev main_while0b_v148 : Ref sig .tc := ⟨.hbm, 234, rfl⟩
abbrev main_while0b_cst_34 : Ref sig .tc := ⟨.hbm, 235, rfl⟩
abbrev main_while0b_v149 : Ref sig .tc := ⟨.hbm, 236, rfl⟩
abbrev main_while0b_v150 : Ref sig .tc := ⟨.hbm, 237, rfl⟩
abbrev main_while0b_v151 : Ref sig .tc := ⟨.hbm, 238, rfl⟩
abbrev main_while0b_cst_35 : Ref sig .tc := ⟨.hbm, 239, rfl⟩
abbrev main_while0b_v152 : Ref sig .tc := ⟨.hbm, 240, rfl⟩
abbrev main_while0b_v153 : Ref sig .tc := ⟨.hbm, 241, rfl⟩
abbrev main_while0b_v154 : Ref sig .tc := ⟨.hbm, 242, rfl⟩
abbrev main_while0b_cst_36 : Ref sig .tc := ⟨.hbm, 243, rfl⟩
abbrev main_while0b_v155 : Ref sig .tc := ⟨.hbm, 244, rfl⟩
abbrev main_while0b_v156 : Ref sig .tc := ⟨.hbm, 245, rfl⟩
abbrev main_while0b_v157 : Ref sig .tc := ⟨.hbm, 246, rfl⟩
abbrev main_while0b_v158 : Ref sig .tc := ⟨.hbm, 247, rfl⟩
abbrev main_while0b_v159 : Ref sig .tc := ⟨.hbm, 248, rfl⟩
abbrev main_while0b_v160 : Ref sig .tc := ⟨.hbm, 249, rfl⟩
abbrev main_while0b_v161 : Ref sig .tc := ⟨.hbm, 250, rfl⟩
abbrev main_while0b_v162 : Ref sig .tc := ⟨.hbm, 251, rfl⟩
abbrev main_while0b_cst_37 : Ref sig .tc := ⟨.hbm, 252, rfl⟩
abbrev main_while0b_v163 : Ref sig .tc := ⟨.hbm, 253, rfl⟩
abbrev main_while0b_v164 : Ref sig .tc := ⟨.hbm, 254, rfl⟩
abbrev main_while0b_v165 : Ref sig .tc := ⟨.hbm, 255, rfl⟩
abbrev main_while0b_v166 : Ref sig .tc := ⟨.hbm, 256, rfl⟩
abbrev main_while0b_v167 : Ref sig .tc := ⟨.hbm, 257, rfl⟩
abbrev main_while0b_cst_38 : Ref sig .tc := ⟨.hbm, 258, rfl⟩
abbrev main_while0b_v168 : Ref sig .tc := ⟨.hbm, 259, rfl⟩
abbrev main_while0b_v169 : Ref sig .tc := ⟨.hbm, 260, rfl⟩
abbrev main_while0b_v170 : Ref sig .tc := ⟨.hbm, 261, rfl⟩
abbrev main_while0b_v171 : Ref sig .tc := ⟨.hbm, 262, rfl⟩
abbrev main_while0b_v172 : Ref sig .tc := ⟨.hbm, 263, rfl⟩
abbrev main_while0b_v173 : Ref sig .tc := ⟨.hbm, 264, rfl⟩
abbrev main_while0b_v174 : Ref sig .tc := ⟨.hbm, 265, rfl⟩
abbrev main_while0b_cst_39 : Ref sig .tc := ⟨.hbm, 266, rfl⟩
abbrev main_while0b_v175 : Ref sig .tc := ⟨.hbm, 267, rfl⟩
abbrev main_while0b_v176 : Ref sig .tc := ⟨.hbm, 268, rfl⟩
abbrev main_while0b_v177 : Ref sig .tc := ⟨.hbm, 269, rfl⟩
abbrev main_while0b_v178 : Ref sig .tc := ⟨.hbm, 270, rfl⟩
abbrev main_while0b_cst_40 : Ref sig .tc := ⟨.hbm, 271, rfl⟩
abbrev main_while0b_v179 : Ref sig .tc := ⟨.hbm, 272, rfl⟩
abbrev main_while0b_v180 : Ref sig .tc := ⟨.hbm, 273, rfl⟩
abbrev main_while0b_v181 : Ref sig .tc := ⟨.hbm, 274, rfl⟩
abbrev main_while0b_v182 : Ref sig .tc := ⟨.hbm, 275, rfl⟩
abbrev main_while0b_v183 : Ref sig .tc := ⟨.hbm, 276, rfl⟩
abbrev main_while0b_v184 : Ref sig .tc := ⟨.hbm, 277, rfl⟩
abbrev main_while0b_v185 : Ref sig .tc := ⟨.hbm, 278, rfl⟩
abbrev main_while0b_v186 : Ref sig .tc := ⟨.hbm, 279, rfl⟩
abbrev main_while0b_v187 : Ref sig .tc := ⟨.hbm, 280, rfl⟩
abbrev main_while0b_v188 : Ref sig .tc := ⟨.hbm, 281, rfl⟩
abbrev main_while0b_call11_cst : Ref sig .tc := ⟨.hbm, 282, rfl⟩
abbrev main_while0b_call11_v0 : Ref sig .tc := ⟨.hbm, 283, rfl⟩
abbrev main_while0b_v189 : Ref sig .tc := ⟨.hbm, 284, rfl⟩
abbrev main_while0b_v190 : Ref sig .tc := ⟨.hbm, 285, rfl⟩
abbrev main_while0b_v191 : Ref sig .tc := ⟨.hbm, 286, rfl⟩
abbrev main_while0b_v192 : Ref sig .tc := ⟨.hbm, 287, rfl⟩
abbrev main_while0b_v193 : Ref sig .tc := ⟨.hbm, 288, rfl⟩
abbrev main_while0b_v194 : Ref sig .tc := ⟨.hbm, 289, rfl⟩
abbrev main_while0b_v195 : Ref sig .tc := ⟨.hbm, 290, rfl⟩
abbrev main_while0b_v196 : Ref sig .tc := ⟨.hbm, 291, rfl⟩
abbrev main_while0b_v197 : Ref sig .tc := ⟨.hbm, 292, rfl⟩
abbrev main_while0b_cst_41 : Ref sig .tc := ⟨.hbm, 293, rfl⟩
abbrev main_while0b_v198 : Ref sig .tc := ⟨.hbm, 294, rfl⟩
abbrev main_while0b_v199 : Ref sig .tc := ⟨.hbm, 295, rfl⟩
abbrev main_while0b_v200 : Ref sig .tc := ⟨.hbm, 296, rfl⟩
abbrev main_while0b_v201 : Ref sig .tc := ⟨.hbm, 297, rfl⟩
abbrev main_while0b_cst_42 : Ref sig .tc := ⟨.hbm, 298, rfl⟩
abbrev main_while0b_v202 : Ref sig .tc := ⟨.hbm, 299, rfl⟩
abbrev main_while0b_v203 : Ref sig .tc := ⟨.hbm, 300, rfl⟩
abbrev main_while0b_cst_43 : Ref sig .tc := ⟨.hbm, 301, rfl⟩
abbrev main_while0b_v204 : Ref sig .tc := ⟨.hbm, 302, rfl⟩
abbrev main_while0b_v205 : Ref sig .tc := ⟨.hbm, 303, rfl⟩
abbrev main_while0b_v206 : Ref sig .tc := ⟨.hbm, 304, rfl⟩
abbrev main_while0b_v207 : Ref sig .tc := ⟨.hbm, 305, rfl⟩
abbrev main_while0b_v208 : Ref sig .tc := ⟨.hbm, 306, rfl⟩
abbrev main_while0b_cst_44 : Ref sig .tc := ⟨.hbm, 307, rfl⟩
abbrev main_while0b_v209 : Ref sig .tc := ⟨.hbm, 308, rfl⟩
abbrev main_while0b_v210 : Ref sig .tc := ⟨.hbm, 309, rfl⟩
abbrev main_while0b_v211 : Ref sig .tc := ⟨.hbm, 310, rfl⟩
abbrev main_while0b_call12_cst : Ref sig .tc := ⟨.hbm, 311, rfl⟩
abbrev main_while0b_call12_v0 : Ref sig .tc := ⟨.hbm, 312, rfl⟩
abbrev main_while0b_v212 : Ref sig .tc := ⟨.hbm, 313, rfl⟩
abbrev main_while0b_cst_45 : Ref sig .tc := ⟨.hbm, 314, rfl⟩
abbrev main_while0b_v213 : Ref sig .tc := ⟨.hbm, 315, rfl⟩
abbrev main_while0b_v214 : Ref sig .tc := ⟨.hbm, 316, rfl⟩
abbrev main_while0b_v215 : Ref sig .tc := ⟨.hbm, 317, rfl⟩
abbrev main_while0b_cst_46 : Ref sig .tc := ⟨.hbm, 318, rfl⟩
abbrev main_while0b_v216 : Ref sig .tc := ⟨.hbm, 319, rfl⟩
abbrev main_while0b_v217 : Ref sig .tc := ⟨.hbm, 320, rfl⟩
abbrev main_while0b_cst_47 : Ref sig .tc := ⟨.hbm, 321, rfl⟩
abbrev main_while0b_v218 : Ref sig .tc := ⟨.hbm, 322, rfl⟩
abbrev main_while0b_v219 : Ref sig .tc := ⟨.hbm, 323, rfl⟩
abbrev main_while0b_cst_48 : Ref sig .tc := ⟨.hbm, 324, rfl⟩
abbrev main_while0b_v220 : Ref sig .tc := ⟨.hbm, 325, rfl⟩
abbrev main_while0b_v221 : Ref sig .tc := ⟨.hbm, 326, rfl⟩
abbrev main_while0b_call13_call0_cst : Ref sig .tc := ⟨.hbm, 327, rfl⟩
abbrev main_while0b_call13_call0_v0 : Ref sig .tc := ⟨.hbm, 328, rfl⟩
abbrev main_while0b_v222 : Ref sig .tc := ⟨.hbm, 329, rfl⟩
abbrev main_while0b_v223 : Ref sig .tc := ⟨.hbm, 330, rfl⟩
abbrev main_while0b_cst_49 : Ref sig .tc := ⟨.hbm, 331, rfl⟩
abbrev main_while0b_v224 : Ref sig .tc := ⟨.hbm, 332, rfl⟩
abbrev main_while0b_v225 : Ref sig .tc := ⟨.hbm, 333, rfl⟩
abbrev main_while0b_v226 : Ref sig .tc := ⟨.hbm, 334, rfl⟩
abbrev main_while0b_v227 : Ref sig .tc := ⟨.hbm, 335, rfl⟩
abbrev main_while0b_v228 : Ref sig .tc := ⟨.hbm, 336, rfl⟩
abbrev main_while0b_cst_50 : Ref sig .tc := ⟨.hbm, 337, rfl⟩
abbrev main_while0b_v229 : Ref sig .tc := ⟨.hbm, 338, rfl⟩
abbrev main_while0b_v230 : Ref sig .tc := ⟨.hbm, 339, rfl⟩
abbrev main_while0b_v231 : Ref sig .tc := ⟨.hbm, 340, rfl⟩
abbrev main_while0b_v232 : Ref sig .tc := ⟨.hbm, 341, rfl⟩
abbrev main_while0b_v233 : Ref sig .tc := ⟨.hbm, 342, rfl⟩
abbrev main_while0b_v234 : Ref sig .tc := ⟨.hbm, 343, rfl⟩
abbrev main_while0b_cst_51 : Ref sig .tc := ⟨.hbm, 344, rfl⟩
abbrev main_while0b_v235 : Ref sig .tc := ⟨.hbm, 345, rfl⟩
abbrev main_while0b_v236 : Ref sig .tc := ⟨.hbm, 346, rfl⟩
abbrev main_while0b_v237 : Ref sig .tc := ⟨.hbm, 347, rfl⟩
abbrev main_while0b_cst_52 : Ref sig .tc := ⟨.hbm, 348, rfl⟩
abbrev main_while0b_v238 : Ref sig .tc := ⟨.hbm, 349, rfl⟩
abbrev main_while0b_v239 : Ref sig .tc := ⟨.hbm, 350, rfl⟩
abbrev main_while0b_v240 : Ref sig .tc := ⟨.hbm, 351, rfl⟩
abbrev main_while0b_v241 : Ref sig .tc := ⟨.hbm, 352, rfl⟩
abbrev main_while0b_v242 : Ref sig .tc := ⟨.hbm, 353, rfl⟩
abbrev main_while0b_cst_53 : Ref sig .tc := ⟨.hbm, 354, rfl⟩
abbrev main_while0b_v243 : Ref sig .tc := ⟨.hbm, 355, rfl⟩
abbrev main_while0b_v244 : Ref sig .tc := ⟨.hbm, 356, rfl⟩
abbrev main_while0b_v245 : Ref sig .tc := ⟨.hbm, 357, rfl⟩
abbrev main_while0b_v246 : Ref sig .tc := ⟨.hbm, 358, rfl⟩
abbrev main_while0b_v247 : Ref sig .tc := ⟨.hbm, 359, rfl⟩
abbrev main_while0b_v248 : Ref sig .tc := ⟨.hbm, 360, rfl⟩
abbrev main_while0b_call14_v0 : Ref sig .tc := ⟨.hbm, 361, rfl⟩
abbrev main_while0b_call14_c : Ref sig .tc := ⟨.hbm, 362, rfl⟩
abbrev main_while0b_call14_c_0 : Ref sig .tc := ⟨.hbm, 363, rfl⟩
abbrev main_while0b_call14_c_1 : Ref sig .tc := ⟨.hbm, 364, rfl⟩
abbrev main_while0b_call14_c_2 : Ref sig .tc := ⟨.hbm, 365, rfl⟩
abbrev main_while0b_v249 : Ref sig .tc := ⟨.hbm, 366, rfl⟩
abbrev main_while0b_call15_v0 : Ref sig .tc := ⟨.hbm, 367, rfl⟩
abbrev main_while0b_call15_c : Ref sig .tc := ⟨.hbm, 368, rfl⟩
abbrev main_while0b_call15_c_0 : Ref sig .tc := ⟨.hbm, 369, rfl⟩
abbrev main_while0b_call15_c_1 : Ref sig .tc := ⟨.hbm, 370, rfl⟩
abbrev main_while0b_call15_c_2 : Ref sig .tc := ⟨.hbm, 371, rfl⟩
abbrev main_while0b_v250 : Ref sig .tc := ⟨.hbm, 372, rfl⟩
abbrev main_while0b_call16_v0 : Ref sig .tc := ⟨.hbm, 373, rfl⟩
abbrev main_while0b_call16_c : Ref sig .tc := ⟨.hbm, 374, rfl⟩
abbrev main_while0b_call16_c_0 : Ref sig .tc := ⟨.hbm, 375, rfl⟩
abbrev main_while0b_call16_c_1 : Ref sig .tc := ⟨.hbm, 376, rfl⟩
abbrev main_while0b_call16_c_2 : Ref sig .tc := ⟨.hbm, 377, rfl⟩
abbrev main_while0b_v251 : Ref sig .tc := ⟨.hbm, 378, rfl⟩
abbrev main_while0b_call17_v0 : Ref sig .tc := ⟨.hbm, 379, rfl⟩
abbrev main_while0b_call17_c : Ref sig .tc := ⟨.hbm, 380, rfl⟩
abbrev main_while0b_call17_c_0 : Ref sig .tc := ⟨.hbm, 381, rfl⟩
abbrev main_while0b_call17_c_1 : Ref sig .tc := ⟨.hbm, 382, rfl⟩
abbrev main_while0b_v252 : Ref sig .tc := ⟨.hbm, 383, rfl⟩
abbrev main_while0b_call18_v0 : Ref sig .tc := ⟨.hbm, 384, rfl⟩
abbrev main_while0b_call18_c : Ref sig .tc := ⟨.hbm, 385, rfl⟩
abbrev main_while0b_call18_c_0 : Ref sig .tc := ⟨.hbm, 386, rfl⟩
abbrev main_while0b_call18_c_1 : Ref sig .tc := ⟨.hbm, 387, rfl⟩
abbrev main_while0b_v253 : Ref sig .tc := ⟨.hbm, 388, rfl⟩
abbrev main_while0b_c_54 : Ref sig .tc := ⟨.hbm, 389, rfl⟩
abbrev main_while0b_v254 : Ref sig .tc := ⟨.hbm, 390, rfl⟩
abbrev main_v21 : Ref sig .tc := ⟨.hbm, 391, rfl⟩
abbrev main_v22 : Ref sig .tc := ⟨.hbm, 392, rfl⟩
abbrev main_v23 : Ref sig .tc := ⟨.hbm, 393, rfl⟩
abbrev main_v24 : Ref sig .tc := ⟨.hbm, 394, rfl⟩
abbrev main_v25 : Ref sig .tc := ⟨.hbm, 395, rfl⟩
abbrev main_v26 : Ref sig .tc := ⟨.hbm, 396, rfl⟩
abbrev main_v27 : Ref sig .tc := ⟨.hbm, 397, rfl⟩
abbrev main_v28 : Ref sig .tc := ⟨.hbm, 398, rfl⟩
abbrev main_v29 : Ref sig .tc := ⟨.hbm, 399, rfl⟩
abbrev main_v30 : Ref sig .tc := ⟨.hbm, 400, rfl⟩

abbrev nD : Nat := 1
abbrev τ : Topo := Topo.v7x

variable {F : FTy → Type} [FloatOps F]

abbrev main_while0_count : Scf.Loop 32 := ⟨0#32, 32#32, 1#32⟩
-- ==== DwIn.lean ====
abbrev S4096x1024 : Shape := ⟨2, ![4096, 1024]⟩
abbrev S4x1024x1408 : Shape := ⟨3, ![4, 1024, 1408]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4x1024x1408, .f32⟩
  | .hbm, ⟨2, _⟩ => ⟨S4096x5632, .f32⟩
  | .hbm, ⟨3, _⟩ => ⟨S4096x2x2816, .f32⟩
  | .hbm, ⟨4, _⟩ => ⟨S2x4096x2816, .f32⟩
  | .hbm, ⟨5, _⟩ => ⟨S2x4096x2816, .bf16⟩
  | .hbm, ⟨6, _⟩ => ⟨S4096x1024, .bf16⟩
  | .hbm, ⟨7, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S4096x1024 : Shape := ⟨2, ![4096, 1024]⟩
abbrev S4x1024x1408 : Shape := ⟨3, ![4, 1024, 1408]⟩
abbrev S4096x5632 : Shape := ⟨2, ![4096, 5632]⟩
abbrev S1024x4x1408 : Shape := ⟨3, ![1024, 4, 1408]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024x1408, .f32⟩
  | .hbm, ⟨2, _⟩ => ⟨S4096x5632, .f32⟩
  | .hbm, ⟨3, _⟩ => ⟨S1024x4x1408, .f32⟩
  | .hbm, ⟨4, _⟩ => ⟨S1024x5632, .f32⟩
  | .hbm, ⟨5, _⟩ => ⟨S4096x5632, .f32⟩
  | .hbm, ⟨6, _⟩ => ⟨S5632x1024, .f32⟩
  | .hbm, ⟨7, _⟩ => ⟨S1024x5632, .f32⟩
  | .hbm, ⟨8, _⟩ => ⟨S1024x4x1408, .f32⟩
  | .hbm, ⟨9, _⟩ => ⟨S4x1024x1408, .f32⟩
  | .hbm, ⟨10, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwOut.lean ====
abbrev S4096x2816 : Shape := ⟨2, ![4096, 2816]⟩
abbrev S1x2816x1024 : Shape := ⟨3, ![1, 2816, 1024]⟩
abbrev S4096x1024 : Shape := ⟨2, ![4096, 1024]⟩
abbrev S1x4096x1024 : Shape := ⟨3, ![1, 4096, 1024]⟩
abbrev S1024x2816 : Shape := ⟨2, ![1024, 2816]⟩
abbrev S1x1024x1024 : Shape := ⟨3, ![1, 1024, 1024]⟩
abbrev S2816x1024 : Shape := ⟨2, ![2816, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S1x2816x1024, .f32⟩
  | .hbm, ⟨2, _⟩ => ⟨S4096x1024, .f32⟩
  | .hbm, ⟨3, _⟩ => ⟨S4096x2816, .bf16⟩
  | .hbm, ⟨4, _⟩ => ⟨S1x4096x1024, .f32⟩
  | .hbm, ⟨5, _⟩ => ⟨S1x4096x1024, .bf16⟩
  | .hbm, ⟨6, _⟩ => ⟨S1x2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x2816x1024, .bf16⟩
  | .local _ .vmem, ⟨5, _⟩ => ⟨S2816x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwOutRefIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1x2816x1024, .f32⟩
  | .hbm, ⟨2, _⟩ => ⟨S4096x1024, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S1x2816x1024, .f32⟩
  | .hbm, ⟨8, _⟩ => ⟨S1x2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FwdA.lean ====
abbrev S2x2048x1024 : Shape := ⟨3, ![2, 2048, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S2x2x1024x1408 : Shape := ⟨4, ![2, 2, 1024, 1408]⟩
abbrev S2x1408x1024 : Shape := ⟨3, ![2, 1408, 1024]⟩
abbrev S2x2x2048x2816 : Shape := ⟨4, ![2, 2, 2048, 2816]⟩
abbrev S1x512x1024 : Shape := ⟨3, ![1, 512, 1024]⟩
abbrev S1x3x1024 : Shape := ⟨3, ![1, 3, 1024]⟩
abbrev S2x1x1024x1408 : Shape := ⟨4, ![2, 1, 1024, 1408]⟩
abbrev S1x1408x1024 : Shape := ⟨3, ![1, 1408, 1024]⟩
abbrev S2x1x512x1408 : Shape := ⟨4, ![2, 1, 512, 1408]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1x1x1024x1408 : Shape := ⟨4, ![1, 1, 1024, 1408]⟩
abbrev S1024x1408 : Shape := ⟨2, ![1024, 1408]⟩
abbrev S512x1408 : Shape := ⟨2, ![512, 1408]⟩
abbrev S1x1x512x1408 : Shape := ⟨4, ![1, 1, 512, 1408]⟩
abbrev S1408x1024 : Shape := ⟨2, ![1408, 1024]⟩

abbrev nBuf : Space → Nat
  | .hbm => 16
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S4x704x1024, .f32⟩
  | .hbm, ⟨10, _⟩ => ⟨S4x704x1024, .bf16⟩
  | .hbm, ⟨11, _⟩ => ⟨S2x2x1024x1408, .bf16⟩
  | .hbm, ⟨12, _⟩ => ⟨S2x1408x1024, .bf16⟩
  | .hbm, ⟨13, _⟩ => ⟨S2x2048x1024, .bf16⟩
  | .hbm, ⟨14, _⟩ => ⟨S2x2x2048x2816, .bf16⟩
  | .hbm, ⟨15, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S2x1x1024x1408, .bf16⟩
  | .local _ .vmem, ⟨6, _⟩ => ⟨S1x1408x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S2x1x512x1408, .bf16⟩
  | .local _ .vmem, ⟨10, _⟩ => ⟨S2x1x512x1408, .bf16⟩
  | .local _ .vmem, ⟨11, _⟩ => ⟨S1x512x1024, .f32⟩
  | .local _ .vmem, ⟨12, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FwdARefIdeal.lean ====
abbrev S2x2048x1024 : Shape := ⟨3, ![2, 2048, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x1024 : Shape := ⟨2, ![2, 1024]⟩
abbrev S2x2048x5632 : Shape := ⟨3, ![2, 2048, 5632]⟩
abbrev S2x2048x2816 : Shape := ⟨3, ![2, 2048, 2816]⟩
abbrev S2x2048x1408 : Shape := ⟨3, ![2, 2048, 1408]⟩
abbrev S1408x1024 : Shape := ⟨2, ![1408, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x1x1024, .f32⟩
  | .hbm, ⟨22, _⟩ => ⟨S2x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x1x1024, .f32⟩
  | .hbm, ⟨30, _⟩ => ⟨S2x1024, .f32⟩
  | .hbm, ⟨31, _⟩ => ⟨S2x1x1024, .f32⟩
  | .hbm, ⟨32, _⟩ => ⟨S2x2048x1024, .f32⟩
  | .hbm, ⟨33, _⟩ => ⟨S2x2048x1024, .f32⟩
  | .hbm, ⟨34, _⟩ => ⟨S2x2048x5632, .f32⟩
  | .hbm, ⟨35, _⟩ => ⟨S2x2048x2816, .f32⟩
  | .hbm, ⟨36, _⟩ => ⟨S2x2048x2816, .f32⟩
  | .hbm, ⟨37, _⟩ => ⟨S2x2048x1024, .bf16⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x1408, .f32⟩
  | .hbm, ⟨49, _⟩ => ⟨S1408x1024, .f32⟩
  | .hbm, ⟨50, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== FwdB.lean ====
abbrev S2x2048x1024 : Shape := ⟨3, ![2, 2048, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x1024 : Shape := ⟨2, ![2, 1024]⟩
abbrev S2x2048x5632 : Shape := ⟨3, ![2, 2048, 5632]⟩
abbrev S2x2048x2816 : Shape := ⟨3, ![2, 2048, 2816]⟩
abbrev S2x2048x1408 : Shape := ⟨3, ![2, 2048, 1408]⟩
abbrev S1408x1024 : Shape := ⟨2, ![1408, 1024]⟩
abbrev S1x2x2048x2816 : Shape := ⟨4, ![1, 2, 2048, 2816]⟩
abbrev S2x2x2048x2816 : Shape := ⟨4, ![2, 2, 2048, 2816]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S2x2x1024x1408 : Shape := ⟨4, ![2, 2, 1024, 1408]⟩
abbrev S2x1408x1024 : Shape := ⟨3, ![2, 1408, 1024]⟩
abbrev S1x512x1024 : Shape := ⟨3, ![1, 512, 1024]⟩
abbrev S1x3x1024 : Shape := ⟨3, ![1, 3, 1024]⟩
abbrev S2x1x1024x1408 : Shape := ⟨4, ![2, 1, 1024, 1408]⟩
abbrev S1x1408x1024 : Shape := ⟨3, ![1, 1408, 1024]⟩
abbrev S2x1x512x1408 : Shape := ⟨4, ![2, 1, 512, 1408]⟩
abbrev S512x1024 : Shape := ⟨2, ![512, 1024]⟩
abbrev S1x1x1024x1408 : Shape := ⟨4, ![1, 1, 1024, 1408]⟩
abbrev S1024x1408 : Shape := ⟨2, ![1024, 1408]⟩
abbrev S512x1408 : Shape := ⟨2, ![512, 1408]⟩
abbrev S1x1x512x1408 : Shape := ⟨4, ![1, 1, 512, 1408]⟩
abbrev S1x1024 : Shape := ⟨2, ![1, 1024]⟩

abbrev nBuf : Space → Nat
  | .hbm => 68
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x1x1024, .f32⟩
  | .hbm, ⟨22, _⟩ => ⟨S2x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x1x1024, .f32⟩
  | .hbm, ⟨30, _⟩ => ⟨S2x1024, .f32⟩
  | .hbm, ⟨31, _⟩ => ⟨S2x1x1024, .f32⟩
  | .hbm, ⟨32, _⟩ => ⟨S2x2048x1024, .f32⟩
  | .hbm, ⟨33, _⟩ => ⟨S2x2048x1024, .f32⟩
  | .hbm, ⟨34, _⟩ => ⟨S2x2048x5632, .f32⟩
  | .hbm, ⟨35, _⟩ => ⟨S2x2048x2816, .f32⟩
  | .hbm, ⟨36, _⟩ => ⟨S2x2048x2816, .f32⟩
  | .hbm, ⟨37, _⟩ => ⟨S2x2048x1024, .bf16⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x1408, .f32⟩
  | .hbm, ⟨49, _⟩ => ⟨S1408x1024, .f32⟩
  | .hbm, ⟨50, _⟩ => ⟨S2x2048x1024, .f32⟩
  | .hbm, ⟨51, _⟩ => ⟨S2x2048x5632, .f32⟩
  | .hbm, ⟨52, _⟩ => ⟨S2x2048x2816, .f32⟩
  | .hbm, ⟨53, _⟩ => ⟨S2x2048x2816, .f32⟩
  | .hbm, ⟨54, _⟩ => ⟨S1x2x2048x2816, .f32⟩
  | .hbm, ⟨55, _⟩ => ⟨S1x2x2048x2816, .f32⟩
  | .hbm, ⟨56, _⟩ => ⟨S2x2x2048x2816, .f32⟩
  | .hbm, ⟨57, _⟩ => ⟨S2x2x2048x2816, .bf16⟩
  | .hbm, ⟨58, _⟩ => ⟨S1024x4x1408, .f32⟩
  | .hbm, ⟨59, _⟩ => ⟨S4x1024x1408, .f32⟩
  | .hbm, ⟨60, _⟩ => ⟨S4x1024x1408, .bf16⟩
  | .hbm, ⟨61, _⟩ => ⟨S4x704x1024, .f32⟩
  | .hbm, ⟨62, _⟩ => ⟨S4x704x1024, .bf16⟩
  | .hbm, ⟨63, _⟩ => ⟨S2x2x1024x1408, .bf16⟩
  | .hbm, ⟨64, _⟩ => ⟨S2x1408x1024, .bf16⟩
  | .hbm, ⟨65, _⟩ => ⟨S2x2048x1024, .f32⟩
  | .hbm, ⟨66, _⟩ => ⟨S2x2048x1024, .bf16⟩
  | .hbm, ⟨67, _⟩ => ⟨S2x2x2048x2816, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x3x1024, .f32⟩
  | .local _ .vmem, ⟨7, _⟩ => ⟨S1x3x1024, .f32⟩
  | .local _ .vmem, ⟨8, _⟩ => ⟨S2x1x1024x1408, .bf16⟩
  | .local _ .vmem, ⟨9, _⟩ => ⟨S1x1408x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S2x1x512x1408, .bf16⟩
  | .local _ .vmem, ⟨15, _⟩ => ⟨S2x1x512x1408, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48_0 : Ref sig .tc := ⟨.hbm, 65, rfl⟩
abbrev main_v48_1 : Ref sig .tc := ⟨.hbm, 66, rfl⟩
abbrev main_v48_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg0.toNat, arg1.toNat, c1_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FwdBRefIdeal.lean ====
abbrev S2x2048x1024 : Shape := ⟨3, ![2, 2048, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x1024 : Shape := ⟨2, ![2, 1024]⟩
abbrev S2x2048x5632 : Shape := ⟨3, ![2, 2048, 5632]⟩
abbrev S2x2048x2816 : Shape := ⟨3, ![2, 2048, 2816]⟩

abbrev nBuf : Space → Nat
  | .hbm => 61
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x3x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1024, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x1x1024, .f32⟩
  | .hbm, ⟨22, _⟩ => ⟨S2x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x1x1024, .f32⟩
  | .hbm, ⟨30, _⟩ => ⟨S2x1024, .f32⟩
  | .hbm, ⟨31, _⟩ => ⟨S2x1x1024, .f32⟩
  | .hbm, ⟨32, _⟩ => ⟨S2x2048x1024, .f32⟩
  | .hbm, ⟨33, _⟩ => ⟨S2x2048x1024, .f32⟩
  | .hbm, ⟨34, _⟩ => ⟨S2x2048x5632, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S_, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x1024, .f32⟩
  | .hbm, ⟨48, _⟩ => ⟨S2x1x1024, .f32⟩
  | .hbm, ⟨49, _⟩ => ⟨S2x1024, .f32⟩
  | .hbm, ⟨50, _⟩ => ⟨S2x1x1024, .f32⟩
  | .hbm, ⟨51, _⟩ => ⟨S_, .f32⟩
  | .hbm, ⟨52, _⟩ => ⟨S2x1x1024, .f32⟩
  | .hbm, ⟨53, _⟩ => ⟨S2x1x1024, .f32⟩
  | .hbm, ⟨54, _⟩ => ⟨S_, .f32⟩
  | .hbm, ⟨55, _⟩ => ⟨S2x1x1024, .f32⟩
  | .hbm, ⟨56, _⟩ => ⟨S2x1x1024, .f32⟩
  | .hbm, ⟨57, _⟩ => ⟨S2x2048x1024, .f32⟩
  | .hbm, ⟨58, _⟩ => ⟨S2x2048x1024, .f32⟩
  | .hbm, ⟨59, _⟩ => ⟨S2x2048x1024, .f32⟩
  | .hbm, ⟨60, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== BwdA.lean ====
abbrev S2x2048x1024 : Shape := ⟨3, ![2, 2048, 1024]⟩
abbrev S2x3x1024 : Shape := ⟨3, ![2, 3, 1024]⟩
abbrev S1024x5632 : Shape := ⟨2, ![1024, 5632]⟩
abbrev S2816x1024 : Shape := ⟨2, ![2816, 1024]⟩
abbrev S1024x2816 : Shape := ⟨2, ![1024, 2816]⟩
abbrev S2x2048x2816 : Shape := ⟨3, ![2, 2048, 2816]⟩
abbrev S_ : Shape := ⟨0, ![]⟩
abbrev S1x2x2048x2816 : Shape := ⟨4, ![1, 2, 2048, 2816]⟩
abbrev S2x2x2048x2816 : Shape := ⟨4, ![2, 2, 2048, 2816]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S2x2x1024x1408 : Shape := ⟨4, ![2, 2, 1024, 1408]⟩
abbrev S2x1408x1024 : Shape := ⟨3, ![2, 1408, 1024]⟩
abbrev S2x1x1024 : Shape := ⟨3, ![2, 1, 1024]⟩
abbrev S1x256x1024 : Shape := ⟨3, ![1, 256, 1024]⟩
abbrev S2x1x256x1408 : Shape := ⟨4, ![2, 1, 256, 1408]⟩
abbrev S1x3x1024 : Shape := ⟨3, ![1, 3, 1024]⟩
abbrev S2x1x1024x1408 : Shape := ⟨4, ![2, 1, 1024, 1408]⟩
abbrev S1x1408x1024 : Shape := ⟨3, ![1, 1408, 1024]⟩
abbrev S1x256x1408 : Shape := ⟨3, ![1, 256, 1408]⟩
abbrev S1x1x1024 : Shape := ⟨3, ![1, 1, 1024]⟩
abbrev S1x1024 : Shape := ⟨2, ![1, 1024]⟩
abbrev S256x1024 : Shape := ⟨2, ![256, 1024]⟩
abbrev S1024 : Shape := ⟨1, ![1024]⟩
abbrev S1x1x256x1408 : Shape := ⟨4, ![1, 1, 256, 1408]⟩
abbrev S256x1408 : Shape := ⟨2, ![256, 1408]⟩
abbrev S1408x1024 : Shape := ⟨2, ![1408, 1024]⟩
abbrev S1x1x1024x1408 : Shape := ⟨4, ![1, 1, 1024, 1408]⟩
abbrev S1024x1408 : Shape := ⟨2, ![1024, 1408]⟩

abbrev nBuf : Space → Nat
  | .hbm => 39
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x3x1024, .f32⟩
  | .hbm, ⟨3, _⟩ => ⟨S1024x5632, .f32⟩
  | .hbm, ⟨4, _⟩ => ⟨S2816x1024, .f32⟩
  | .hbm, ⟨5, _⟩ => ⟨S1024x2816, .f32⟩
  | .hbm, ⟨6, _⟩ => ⟨S1024x2816, .f32⟩
  | .hbm, ⟨7, _⟩ => ⟨S2x2048x2816, .f32⟩
  | .hbm, ⟨8, _⟩ => ⟨S2x2048x2816, .f32⟩
  | .hbm, ⟨9, _⟩ => ⟨S2x2048x2816, .f32⟩
  | .hbm, ⟨10, _⟩ => ⟨S_, .f32⟩
  | .hbm, ⟨11, _⟩ => ⟨S2x2048x2816, .f32⟩
  | .hbm, ⟨12, _⟩ => ⟨S2x2048x2816, .f32⟩
  | .hbm, ⟨13, _⟩ => ⟨S_, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S2x2048x1024, .f32⟩
  | .hbm, ⟨20, _⟩ => ⟨S2x2048x2816, .f32⟩
  | .hbm, ⟨21, _⟩ => ⟨S2x2048x2816, .f32⟩
  | .hbm, ⟨22, _⟩ => ⟨S1x2x2048x2816, .f32⟩
  | .hbm, ⟨23, _⟩ => ⟨S1x2x2048x2816, .f32⟩
  | .hbm, ⟨24, _⟩ => ⟨S2x2x2048x2816, .f32⟩
  | .hbm, ⟨25, _⟩ => ⟨S2x2x2048x2816, .bf16⟩
  | .hbm, ⟨26, _⟩ => ⟨S1024x4x1408, .f32⟩
  | .hbm, ⟨27, _⟩ => ⟨S4x1024x1408, .f32⟩
  | .hbm, ⟨28, _⟩ => ⟨S4x1024x1408, .bf16⟩
  | .hbm, ⟨29, _⟩ => ⟨S4x704x1024, .f32⟩
  | .hbm, ⟨30, _⟩ => ⟨S4x704x1024, .bf16⟩
  | .hbm, ⟨31, _⟩ => ⟨S2x2048x1024, .bf16⟩
  | .hbm, ⟨32, _⟩ => ⟨S2x2x1024x1408, .bf16⟩
  | .hbm, ⟨33, _⟩ => ⟨S2x1408x1024, .bf16⟩
  | .hbm, ⟨34, _⟩ => ⟨S2x2048x2816, .bf16⟩
  | .hbm, ⟨35, _⟩ => ⟨S2x2x2048x2816, .bf16⟩
  | .hbm, ⟨36, _⟩ => ⟨S2x2048x1024, .bf16⟩
  | .hbm, ⟨37, _⟩ => ⟨S2x2048x1024, .f32⟩
  | .hbm, ⟨38, _⟩ => ⟨S2x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S2x1x256x1408, .bf16⟩
  | .local _ .vmem, ⟨5, _⟩ => ⟨S2x1x256x1408, .bf16⟩
  | .local _ .vmem, ⟨6, _⟩ => ⟨S1x3x1024, .f32⟩
  | .local _ .vmem, ⟨7, _⟩ => ⟨S1x3x1024, .f32⟩
  | .local _ .vmem, ⟨8, _⟩ => ⟨S2x1x1024x1408, .bf16⟩
  | .local _ .vmem, ⟨9, _⟩ => ⟨S1x1408x1024, .bf16⟩
  | .local _ .vmem, ⟨10, _⟩ => ⟨S1x256x1408, .bf16⟩
  | .local _ .vmem, ⟨11, _⟩ => ⟨S1x256x1408, .bf16⟩
  | .local _ .vmem, ⟨12, _⟩ => ⟨S2x1x256x1408, .bf16⟩
  | .local _ .vmem, ⟨13, _⟩ => ⟨S2x1x256x1408, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .f32⟩
  | .local _ .vmem, ⟨17, _⟩ => ⟨S1x256x1024, .f32⟩
  | .local _ .vmem, ⟨18, _⟩ => ⟨S1x1x1024, .f32⟩
  | .local _ .vmem, ⟨19, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v21_3 : Ref sig .tc := ⟨.hbm, 37, rfl⟩
abbrev main_v21_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2x1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1x256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== BwdARefIdeal.lean ====
abbrev S2x2048x1024 : Shape := ⟨3, ![2, 2048, 1024]⟩
abbrev S2x3x1024 : Shape := ⟨3, ![2, 3, 1024]⟩
abbrev S1024x5632 : Shape := ⟨2, ![1024, 5632]⟩
abbrev S2816x1024 : Shape := ⟨2, ![2816, 1024]⟩
abbrev S1024x2816 : Shape := ⟨2, ![1024, 2816]⟩
abbrev S2x2048x2816 : Shape := ⟨3, ![2, 2048, 2816]⟩
abbrev S_ : Shape := ⟨0, ![]⟩
abbrev S2x1x1024 : Shape := ⟨3, ![2, 1, 1024]⟩
abbrev S2x1024 : Shape := ⟨2, ![2, 1024]⟩
abbrev S1024x1408 : Shape := ⟨2, ![1024, 1408]⟩
abbrev S1408x1024 : Shape := ⟨2, ![1408, 1024]⟩
abbrev S2x2048x1408 : Shape := ⟨3, ![2, 2048, 1408]⟩

abbrev nBuf : Space → Nat
  | .hbm => 71
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x3x1024, .f32⟩
  | .hbm, ⟨3, _⟩ => ⟨S1024x5632, .f32⟩
  | .hbm, ⟨4, _⟩ => ⟨S2816x1024, .f32⟩
  | .hbm, ⟨5, _⟩ => ⟨S1024x2816, .f32⟩
  | .hbm, ⟨6, _⟩ => ⟨S1024x2816, .f32⟩
  | .hbm, ⟨7, _⟩ => ⟨S2x2048x2816, .f32⟩
  | .hbm, ⟨8, _⟩ => ⟨S2x2048x2816, .f32⟩
  | .hbm, ⟨9, _⟩ => ⟨S2x2048x2816, .f32⟩
  | .hbm, ⟨10, _⟩ => ⟨S_, .f32⟩
  | .hbm, ⟨11, _⟩ => ⟨S2x2048x2816, .f32⟩
  | .hbm, ⟨12, _⟩ => ⟨S2x2048x2816, .f32⟩
  | .hbm, ⟨13, _⟩ => ⟨S_, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S2x2048x1024, .f32⟩
  | .hbm, ⟨20, _⟩ => ⟨S2x1x1024, .f32⟩
  | .hbm, ⟨21, _⟩ => ⟨S2x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S2x1024, .f32⟩
  | .hbm, ⟨36, _⟩ => ⟨S2x1x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S1024x1408, .f32⟩
  | .hbm, ⟨41, _⟩ => ⟨S1024x1408, .f32⟩
  | .hbm, ⟨42, _⟩ => ⟨S1408x1024, .f32⟩
  | .hbm, ⟨43, _⟩ => ⟨S2x2048x1408, .f32⟩
  | .hbm, ⟨44, _⟩ => ⟨S2x2048x1408, .f32⟩
  | .hbm, ⟨45, _⟩ => ⟨S2x2048x1408, .f32⟩
  | .hbm, ⟨46, _⟩ => ⟨S_, .f32⟩
  | .hbm, ⟨47, _⟩ => ⟨S2x2048x1408, .f32⟩
  | .hbm, ⟨48, _⟩ => ⟨S2x2048x1408, .f32⟩
  | .hbm, ⟨49, _⟩ => ⟨S_, .f32⟩
  | .hbm, ⟨50, _⟩ => ⟨S2x2048x1408, .f32⟩
  | .hbm, ⟨51, _⟩ => ⟨S2x2048x1408, .f32⟩
  | .hbm, ⟨52, _⟩ => ⟨S_, .f32⟩
  | .hbm, ⟨53, _⟩ => ⟨S2x2048x1408, .f32⟩
  | .hbm, ⟨54, _⟩ => ⟨S2x2048x1408, .f32⟩
  | .hbm, ⟨55, _⟩ => ⟨S2x2048x1408, .f32⟩
  | .hbm, ⟨56, _⟩ => ⟨S2x2048x1408, .f32⟩
  | .hbm, ⟨57, _⟩ => ⟨S2x2048x1408, .f32⟩
  | .hbm, ⟨58, _⟩ => ⟨S2x2048x1408, .f32⟩
  | .hbm, ⟨59, _⟩ => ⟨S2x2048x1024, .f32⟩
  | .hbm, ⟨60, _⟩ => ⟨S2x2048x1408, .f32⟩
  | .hbm, ⟨61, _⟩ => ⟨S2x2048x1408, .f32⟩
  | .hbm, ⟨62, _⟩ => ⟨S2x2048x1408, .f32⟩
  | .hbm, ⟨63, _⟩ => ⟨S2x2048x1024, .f32⟩
  | .hbm, ⟨64, _⟩ => ⟨S2x2048x1408, .f32⟩
  | .hbm, ⟨65, _⟩ => ⟨S2x2048x1408, .f32⟩
  | .hbm, ⟨66, _⟩ => ⟨S2x2048x1408, .f32⟩
  | .hbm, ⟨67, _⟩ => ⟨S2x2048x1408, .f32⟩
  | .hbm, ⟨68, _⟩ => ⟨S2x2048x1024, .f32⟩
  | .hbm, ⟨69, _⟩ => ⟨S2x2048x1024, .f32⟩
  | .hbm, ⟨70, _⟩ => ⟨S2x2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_v27_2 : Ref sig .tc := ⟨.hbm, 51, rfl⟩
abbrev main_call1_cst_1 : Ref sig .tc := ⟨.hbm, 52, rfl⟩
abbrev main_call1_v6 : Ref sig .tc := ⟨.hbm, 53, rfl⟩
abbrev main_call1_v7 : Ref sig .tc := ⟨.hbm, 54, rfl⟩
abbrev main_v27_1 : Ref sig .tc := ⟨.hbm, 55, rfl⟩
abbrev main_v27_0 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩

abbrev nD : Nat := 1
abbrev τ : Topo := Topo.v7x

variable {F : FTy → Type} [FloatOps F]
-- ==== BwdB.lean ====
abbrev S2x2048x1024 : Shape := ⟨3, ![2, 2048, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2x2048x2816 : Shape := ⟨3, ![2, 2048, 2816]⟩
abbrev S1024x1408 : Shape := ⟨2, ![1024, 1408]⟩
abbrev S1408x1024 : Shape := ⟨2, ![1408, 1024]⟩
abbrev S2x2048x1408 : Shape := ⟨3, ![2, 2048, 1408]⟩
abbrev S1x2x2048x2816 : Shape := ⟨4, ![1, 2, 2048, 2816]⟩
abbrev S2x2x2048x2816 : Shape := ⟨4, ![2, 2, 2048, 2816]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S1x1024 : Shape := ⟨2, ![1, 1024]⟩
abbrev S2x2x1024x1408 : Shape := ⟨4, ![2, 2, 1024, 1408]⟩
abbrev S2x1408x1024 : Shape := ⟨3, ![2, 1408, 1024]⟩
abbrev S1x256x1024 : Shape := ⟨3, ![1, 256, 1024]⟩
abbrev S2x1x256x1408 : Shape := ⟨4, ![2, 1, 256, 1408]⟩
abbrev S1x3x1024 : Shape := ⟨3, ![1, 3, 1024]⟩
abbrev S2x1x1024x1408 : Shape := ⟨4, ![2, 1, 1024, 1408]⟩
abbrev S1x1408x1024 : Shape := ⟨3, ![1, 1408, 1024]⟩
abbrev S1x256x1408 : Shape := ⟨3, ![1, 256, 1408]⟩
abbrev S3x1024 : Shape := ⟨2, ![3, 1024]⟩
abbrev S256x1024 : Shape := ⟨2, ![256, 1024]⟩
abbrev S1x1x256x1408 : Shape := ⟨4, ![1, 1, 256, 1408]⟩
abbrev S256x1408 : Shape := ⟨2, ![256, 1408]⟩
abbrev S1x1x1024x1408 : Shape := ⟨4, ![1, 1, 1024, 1408]⟩
abbrev S256 : Shape := ⟨1, ![256]⟩
abbrev S256x1 : Shape := ⟨2, ![256, 1]⟩

abbrev nBuf : Space → Nat
  | .hbm => 105
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x3x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S2x1x1024, .f32⟩
  | .hbm, ⟨7, _⟩ => ⟨S2x1x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S1024x2816, .f32⟩
  | .hbm, ⟨32, _⟩ => ⟨S1024x2816, .f32⟩
  | .hbm, ⟨33, _⟩ => ⟨S2x2048x2816, .f32⟩
  | .hbm, ⟨34, _⟩ => ⟨S2x2048x2816, .f32⟩
  | .hbm, ⟨35, _⟩ => ⟨S2x1x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x2048x1024, .f32⟩
  | .hbm, ⟨43, _⟩ => ⟨S2x2048x1024, .f32⟩
  | .hbm, ⟨44, _⟩ => ⟨S1024x1408, .f32⟩
  | .hbm, ⟨45, _⟩ => ⟨S1024x1408, .f32⟩
  | .hbm, ⟨46, _⟩ => ⟨S1408x1024, .f32⟩
  | .hbm, ⟨47, _⟩ => ⟨S2x2048x1408, .f32⟩
  | .hbm, ⟨48, _⟩ => ⟨S2x2048x1408, .f32⟩
  | .hbm, ⟨49, _⟩ => ⟨S2x2048x1408, .f32⟩
  | .hbm, ⟨50, _⟩ => ⟨S_, .f32⟩
  | .hbm, ⟨51, _⟩ => ⟨S2x2048x1408, .f32⟩
  | .hbm, ⟨52, _⟩ => ⟨S2x2048x1408, .f32⟩
  | .hbm, ⟨53, _⟩ => ⟨S_, .f32⟩
  | .hbm, ⟨54, _⟩ => ⟨S2x2048x1408, .f32⟩
  | .hbm, ⟨55, _⟩ => ⟨S2x2048x1408, .f32⟩
  | .hbm, ⟨56, _⟩ => ⟨S_, .f32⟩
  | .hbm, ⟨57, _⟩ => ⟨S2x2048x1408, .f32⟩
  | .hbm, ⟨58, _⟩ => ⟨S2x2048x1408, .f32⟩
  | .hbm, ⟨59, _⟩ => ⟨S2x2048x1408, .f32⟩
  | .hbm, ⟨60, _⟩ => ⟨S2x2048x1408, .f32⟩
  | .hbm, ⟨61, _⟩ => ⟨S2x2048x1408, .f32⟩
  | .hbm, ⟨62, _⟩ => ⟨S2x2048x1408, .f32⟩
  | .hbm, ⟨63, _⟩ => ⟨S2x2048x1024, .f32⟩
  | .hbm, ⟨64, _⟩ => ⟨S2x2048x1408, .f32⟩
  | .hbm, ⟨65, _⟩ => ⟨S2x2048x1408, .f32⟩
  | .hbm, ⟨66, _⟩ => ⟨S2x2048x1408, .f32⟩
  | .hbm, ⟨67, _⟩ => ⟨S2x2048x1024, .f32⟩
  | .hbm, ⟨68, _⟩ => ⟨S2x2048x1408, .f32⟩
  | .hbm, ⟨69, _⟩ => ⟨S2x2048x1408, .f32⟩
  | .hbm, ⟨70, _⟩ => ⟨S2x2048x1408, .f32⟩
  | .hbm, ⟨71, _⟩ => ⟨S2x2048x1408, .f32⟩
  | .hbm, ⟨72, _⟩ => ⟨S2x2048x1024, .f32⟩
  | .hbm, ⟨73, _⟩ => ⟨S2x2048x1024, .f32⟩
  | .hbm, ⟨74, _⟩ => ⟨S1x2x2048x2816, .f32⟩
  | .hbm, ⟨75, _⟩ => ⟨S1x2x2048x2816, .f32⟩
  | .hbm, ⟨76, _⟩ => ⟨S2x2x2048x2816, .f32⟩
  | .hbm, ⟨77, _⟩ => ⟨S2x2x2048x2816, .bf16⟩
  | .hbm, ⟨78, _⟩ => ⟨S1024x4x1408, .f32⟩
  | .hbm, ⟨79, _⟩ => ⟨S4x1024x1408, .f32⟩
  | .hbm, ⟨80, _⟩ => ⟨S4x1024x1408, .bf16⟩
  | .hbm, ⟨81, _⟩ => ⟨S4x704x1024, .f32⟩
  | .hbm, ⟨82, _⟩ => ⟨S4x704x1024, .bf16⟩
  | .hbm, ⟨83, _⟩ => ⟨S2x2048x2816, .f32⟩
  | .hbm, ⟨84, _⟩ => ⟨S2x2048x2816, .f32⟩
  | .hbm, ⟨85, _⟩ => ⟨S_, .f32⟩
  | .hbm, ⟨86, _⟩ => ⟨S2x2048x2816, .f32⟩
  | .hbm, ⟨87, _⟩ => ⟨S2x2048x2816, .f32⟩
  | .hbm, ⟨88, _⟩ => ⟨S_, .f32⟩
  | .hbm, ⟨89, _⟩ => ⟨S2x2048x2816, .f32⟩
  | .hbm, ⟨90, _⟩ => ⟨S2x2048x2816, .f32⟩
  | .hbm, ⟨91, _⟩ => ⟨S2x2048x2816, .f32⟩
  | .hbm, ⟨92, _⟩ => ⟨S2x2048x2816, .f32⟩
  | .hbm, ⟨93, _⟩ => ⟨S2x2048x2816, .bf16⟩
  | .hbm, ⟨94, _⟩ => ⟨S_, .bf16⟩
  | .hbm, ⟨95, _⟩ => ⟨S2x2x2048x2816, .bf16⟩
  | .hbm, ⟨96, _⟩ => ⟨S2x2048x1024, .bf16⟩
  | .hbm, ⟨97, _⟩ => ⟨S1x1024, .f32⟩
  | .hbm, ⟨98, _⟩ => ⟨S2x2x1024x1408, .bf16⟩
  | .hbm, ⟨99, _⟩ => ⟨S2x1408x1024, .bf16⟩
  | .hbm, ⟨100, _⟩ => ⟨S2x2048x1024, .f32⟩
  | .hbm, ⟨101, _⟩ => ⟨S2x2048x2816, .bf16⟩
  | .hbm, ⟨102, _⟩ => ⟨S2x2x2048x2816, .bf16⟩
  | .hbm, ⟨103, _⟩ => ⟨S2x3x1024, .f32⟩
  | .hbm, ⟨104, _⟩ => ⟨S2x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S2x1x256x1408, .bf16⟩
  | .local _ .vmem, ⟨9, _⟩ => ⟨S2x1x256x1408, .bf16⟩
  | .local _ .vmem, ⟨10, _⟩ => ⟨S1x3x1024, .f32⟩
  | .local _ .vmem, ⟨11, _⟩ => ⟨S1x3x1024, .f32⟩
  | .local _ .vmem, ⟨12, _⟩ => ⟨S1x1024, .f32⟩
  | .local _ .vmem, ⟨13, _⟩ => ⟨S2x1x1024x1408, .bf16⟩
  | .local _ .vmem, ⟨14, _⟩ => ⟨S1x1408x1024, .bf16⟩
  | .local _ .vmem, ⟨15, _⟩ => ⟨S1x256x1024, .f32⟩
  | .local _ .vmem, ⟨16, _⟩ => ⟨S1x256x1024, .f32⟩
  | .local _ .vmem, ⟨17, _⟩ => ⟨S1x256x1408, .bf16⟩
  | .local _ .vmem, ⟨18, _⟩ => ⟨S1x256x1408, .bf16⟩
  | .local _ .vmem, ⟨19, _⟩ => ⟨S2x1x256x1408, .bf16⟩
  | .local _ .vmem, ⟨20, _⟩ => ⟨S2x1x256x1408, .bf16⟩
  | .local _ .vmem, ⟨21, _⟩ => ⟨S1x3x1024, .f32⟩
  | .local _ .vmem, ⟨22, _⟩ => ⟨S1x3x1024, .f32⟩
  | .local _ .vmem, ⟨23, _⟩ => ⟨S1x1x1024, .f32⟩
  | .local _ .vmem, ⟨24, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v36_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v36_1 : Ref sig .tc := ⟨.hbm, 59, rfl⟩
abbrev main_v36_0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_5 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64_0 : Ref sig .tc := ⟨.hbm, 100, rfl⟩
abbrev main_v64_1 : Ref sig .tc := ⟨.hbm, 101, rfl⟩
abbrev main_v64_2 : Ref sig .tc := ⟨.hbm, 102, rfl⟩
abbrev main_v64_3 : Ref sig .tc := ⟨.hbm, 103, rfl⟩
abbrev main_v64_4 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, arg0.toNat, arg1.toNat, c1_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1408x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x256x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x3x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== BwdBRefIdeal.lean ====
abbrev S2x2048x1024 : Shape := ⟨3, ![2, 2048, 1024]⟩
abbrev S2x3x1024 : Shape := ⟨3, ![2, 3, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S2x2048x2816 : Shape := ⟨3, ![2, 2048, 2816]⟩
abbrev S2x1024 : Shape := ⟨2, ![2, 1024]⟩

abbrev nBuf : Space → Nat
  | .hbm => 113
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x3x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x2816, .f32⟩
  | .hbm, ⟨7, _⟩ => ⟨S1024x2816, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S_, .f32⟩
  | .hbm, ⟨16, _⟩ => ⟨S2x1x1024, .f32⟩
  | .hbm, ⟨17, _⟩ => ⟨S2x1x1024, .f32⟩
  | .hbm, ⟨18, _⟩ => ⟨S2x2048x1024, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S_, .f32⟩
  | .hbm, ⟨48, _⟩ => ⟨S2x2048x2816, .f32⟩
  | .hbm, ⟨49, _⟩ => ⟨S2x2048x2816, .f32⟩
  | .hbm, ⟨50, _⟩ => ⟨S_, .f32⟩
  | .hbm, ⟨51, _⟩ => ⟨S2x2048x2816, .f32⟩
  | .hbm, ⟨52, _⟩ => ⟨S2x2048x2816, .f32⟩
  | .hbm, ⟨53, _⟩ => ⟨S_, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S2x2048x1024, .f32⟩
  | .hbm, ⟨67, _⟩ => ⟨S2x2048x2816, .f32⟩
  | .hbm, ⟨68, _⟩ => ⟨S2x2048x2816, .f32⟩
  | .hbm, ⟨69, _⟩ => ⟨S2x2048x2816, .f32⟩
  | .hbm, ⟨70, _⟩ => ⟨S2x2048x1024, .f32⟩
  | .hbm, ⟨71, _⟩ => ⟨S2x2048x2816, .f32⟩
  | .hbm, ⟨72, _⟩ => ⟨S2x2048x2816, .f32⟩
  | .hbm, ⟨73, _⟩ => ⟨S2x2048x2816, .f32⟩
  | .hbm, ⟨74, _⟩ => ⟨S2x2048x2816, .f32⟩
  | .hbm, ⟨75, _⟩ => ⟨S2x2048x1024, .f32⟩
  | .hbm, ⟨76, _⟩ => ⟨S2x2048x1024, .f32⟩
  | .hbm, ⟨77, _⟩ => ⟨S_, .f32⟩
  | .hbm, ⟨78, _⟩ => ⟨S2x1024, .f32⟩
  | .hbm, ⟨79, _⟩ => ⟨S2x1x1024, .f32⟩
  | .hbm, ⟨80, _⟩ => ⟨S2x2048x1024, .f32⟩
  | .hbm, ⟨81, _⟩ => ⟨S_, .f32⟩
  | .hbm, ⟨82, _⟩ => ⟨S2x1024, .f32⟩
  | .hbm, ⟨83, _⟩ => ⟨S2x1x1024, .f32⟩
  | .hbm, ⟨84, _⟩ => ⟨S2x2048x1024, .f32⟩
  | .hbm, ⟨85, _⟩ => ⟨S2x2048x1024, .f32⟩
  | .hbm, ⟨86, _⟩ => ⟨S2x2048x1024, .f32⟩
  | .hbm, ⟨87, _⟩ => ⟨S_, .f32⟩
  | .hbm, ⟨88, _⟩ => ⟨S2x1024, .f32⟩
  | .hbm, ⟨89, _⟩ => ⟨S2x1x1024, .f32⟩
  | .hbm, ⟨90, _⟩ => ⟨S2x2048x1024, .f32⟩
  | .hbm, ⟨91, _⟩ => ⟨S2x2048x1024, .f32⟩
  | .hbm, ⟨92, _⟩ => ⟨S2x2048x1024, .f32⟩
  | .hbm, ⟨93, _⟩ => ⟨S_, .f32⟩
  | .hbm, ⟨94, _⟩ => ⟨S2x2048, .f32⟩
  | .hbm, ⟨95, _⟩ => ⟨S2x2048x1, .f32⟩
  | .hbm, ⟨96, _⟩ => ⟨S2x2048x1024, .f32⟩
  | .hbm, ⟨97, _⟩ => ⟨S2x2048x1024, .f32⟩
  | .hbm, ⟨98, _⟩ => ⟨S2x2048x1024, .f32⟩
  | .hbm, ⟨99, _⟩ => ⟨S2x2048x1, .f32⟩
  | .hbm, ⟨100, _⟩ => ⟨S_, .f32⟩
  | .hbm, ⟨101, _⟩ => ⟨S2x2048x1, .f32⟩
  | .hbm, ⟨102, _⟩ => ⟨S2x2048x1, .f32⟩
  | .hbm, ⟨103, _⟩ => ⟨S_, .f32⟩
  | .hbm, ⟨104, _⟩ => ⟨S2x2048, .f32⟩
  | .hbm, ⟨105, _⟩ => ⟨S2x2048x1024, .f32⟩
  | .hbm, ⟨106, _⟩ => ⟨S2x2048x1024, .f32⟩
  | .hbm, ⟨107, _⟩ => ⟨S2x2048x1024, .f32⟩
  | .hbm, ⟨108, _⟩ => ⟨S2x2048x1024, .f32⟩
  | .hbm, ⟨109, _⟩ => ⟨S2x2048x1024, .f32⟩
  | .hbm, ⟨110, _⟩ => ⟨S_, .f32⟩
  | .hbm, ⟨111, _⟩ => ⟨S2x1x1024, .f32⟩
  | .hbm, ⟨112, _⟩ => ⟨S2x3x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v32_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v32_1 : Ref sig .tc := ⟨.hbm, 56, rfl⟩
abbrev main_v32_0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_8 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_10 : Ref sig .tc := ⟨.hbm, 100, rfl⟩
abbrev main_v68 : Ref sig .tc := ⟨.hbm, 101, rfl⟩
abbrev main_v69 : Ref sig .tc := ⟨.hbm, 102, rfl⟩
abbrev main_cst_11 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_12 : Ref sig .tc := ⟨.hbm, 110, rfl⟩
abbrev main_v76 : Ref sig .tc := ⟨.hbm, 111, rfl⟩
abbrev main_v77 : Ref sig .tc := ⟨.hbm, 112, rfl⟩

abbrev nD : Nat := 1
abbrev τ : Topo := Topo.v7x

variable {F : FTy → Type} [FloatOps F]
-- ==== AdaB.lean ====
abbrev S16x1024 : Shape := ⟨2, ![16, 1024]⟩
abbrev S4x16x2304 : Shape := ⟨3, ![4, 16, 2304]⟩
abbrev S4x16x9216 : Shape := ⟨3, ![4, 16, 9216]⟩
abbrev S4x1024x2304 : Shape := ⟨3, ![4, 1024, 2304]⟩
abbrev S4x1x9216 : Shape := ⟨3, ![4, 1, 9216]⟩
abbrev S1x16x2304 : Shape := ⟨3, ![1, 16, 2304]⟩
abbrev S1x16x9216 : Shape := ⟨3, ![1, 16, 9216]⟩
abbrev S1x1024x2304 : Shape := ⟨3, ![1, 1024, 2304]⟩
abbrev S1x1x9216 : Shape := ⟨3, ![1, 1, 9216]⟩
abbrev S16x2304 : Shape := ⟨2, ![16, 2304]⟩
abbrev S1024x2304 : Shape := ⟨2, ![1024, 2304]⟩
abbrev S16x9216 : Shape := ⟨2, ![16, 9216]⟩
abbrev S9216 : Shape := ⟨1, ![9216]⟩
abbrev S1x9216 : Shape := ⟨2, ![1, 9216]⟩

abbrev nBuf : Space → Nat
  | .hbm => 5
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S4x16x2304, .f32⟩
  | .hbm, ⟨2, _⟩ => ⟨S4x16x9216, .f32⟩
  | .hbm, ⟨3, _⟩ => ⟨S4x1024x2304, .f32⟩
  | .hbm, ⟨4, _⟩ => ⟨S4x1x9216, .f32⟩
  | .local _ .vmem, ⟨0, _⟩ => ⟨S16x1024, .f32⟩
  | .local _ .vmem, ⟨1, _⟩ => ⟨S1x16x2304, .f32⟩
  | .local _ .vmem, ⟨2, _⟩ => ⟨S1x16x2304, .f32⟩
  | .local _ .vmem, ⟨3, _⟩ => ⟨S1x16x9216, .f32⟩
  | .local _ .vmem, ⟨4, _⟩ => ⟨S1x16x9216, .f32⟩
  | .local _ .vmem, ⟨5, _⟩ => ⟨S1x1024x2304, .f32⟩
  | .local _ .vmem, ⟨6, _⟩ => ⟨S1x1024x2304, .f32⟩
  | .local _ .vmem, ⟨7, _⟩ => ⟨S1x1x9216, .f32⟩
  | .local _ .vmem, ⟨8, _⟩ => ⟨S1x1x9216, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x9216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x9216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AdaBRefIdeal.lean ====
abbrev S16x1024 : Shape := ⟨2, ![16, 1024]⟩
abbrev S4x16x2304 : Shape := ⟨3, ![4, 16, 2304]⟩
abbrev S4x16x9216 : Shape := ⟨3, ![4, 16, 9216]⟩
abbrev S_ : Shape := ⟨0, ![]⟩
abbrev S4x1024x2304 : Shape := ⟨3, ![4, 1024, 2304]⟩
abbrev S4x1x9216 : Shape := ⟨3, ![4, 1, 9216]⟩
abbrev S16x4x2304 : Shape := ⟨3, ![16, 4, 2304]⟩
abbrev S4x2304x1024 : Shape := ⟨3, ![4, 2304, 1024]⟩
abbrev S4x9216 : Shape := ⟨2, ![4, 9216]⟩

abbrev nBuf : Space → Nat
  | .hbm => 25
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x16x2304, .f32⟩
  | .hbm, ⟨2, _⟩ => ⟨S4x16x9216, .f32⟩
  | .hbm, ⟨3, _⟩ => ⟨S_, .f32⟩
  | .hbm, ⟨4, _⟩ => ⟨S4x1024x2304, .f32⟩
  | .hbm, ⟨5, _⟩ => ⟨S_, .f32⟩
  | .hbm, ⟨6, _⟩ => ⟨S4x1x9216, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S16x4x2304, .f32⟩
  | .hbm, ⟨17, _⟩ => ⟨S4x16x2304, .f32⟩
  | .hbm, ⟨18, _⟩ => ⟨S16x4x2304, .f32⟩
  | .hbm, ⟨19, _⟩ => ⟨S4x2304x1024, .f32⟩
  | .hbm, ⟨20, _⟩ => ⟨S4x1024x2304, .f32⟩
  | .hbm, ⟨21, _⟩ => ⟨S4x16x9216, .f32⟩
  | .hbm, ⟨22, _⟩ => ⟨S_, .f32⟩
  | .hbm, ⟨23, _⟩ => ⟨S4x9216, .f32⟩
  | .hbm, ⟨24, _⟩ => ⟨S4x1x9216, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== StepAda.lean ====
abbrev S4x1024x2304 : Shape := ⟨3, ![4, 1024, 2304]⟩
abbrev S4096x2304 : Shape := ⟨2, ![4096, 2304]⟩
abbrev S_ : Shape := ⟨0, ![]⟩
abbrev S8x128 : Shape := ⟨2, ![8, 128]⟩
abbrev S128x2304 : Shape := ⟨2, ![128, 2304]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S4096x2304, .f32⟩
  | .hbm, ⟨5, _⟩ => ⟨S4096x2304, .f32⟩
  | .hbm, ⟨6, _⟩ => ⟨S4096x2304, .f32⟩
  | .hbm, ⟨7, _⟩ => ⟨S4096x2304, .f32⟩
  | .hbm, ⟨8, _⟩ => ⟨S_, .f32⟩
  | .hbm, ⟨9, _⟩ => ⟨S8x128, .f32⟩
  | .hbm, ⟨10, _⟩ => ⟨S4096x2304, .f32⟩
  | .hbm, ⟨11, _⟩ => ⟨S4096x2304, .f32⟩
  | .hbm, ⟨12, _⟩ => ⟨S4096x2304, .f32⟩
  | .local _ .vmem, ⟨0, _⟩ => ⟨S128x2304, .f32⟩
  | .local _ .vmem, ⟨1, _⟩ => ⟨S128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S8x128, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | .local _ .vmem, ⟨14, _⟩ => ⟨S128x2304, .f32⟩
  | _, _ => ⟨S4x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepAdaIdeal.lean ====
abbrev S4x1024x2304 : Shape := ⟨3, ![4, 1024, 2304]⟩
abbrev S4096x2304 : Shape := ⟨2, ![4096, 2304]⟩
abbrev S_ : Shape := ⟨0, ![]⟩
abbrev S8x128 : Shape := ⟨2, ![8, 128]⟩
abbrev S128x2304 : Shape := ⟨2, ![128, 2304]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S4096x2304, .f32⟩
  | .hbm, ⟨5, _⟩ => ⟨S4096x2304, .f32⟩
  | .hbm, ⟨6, _⟩ => ⟨S4096x2304, .f32⟩
  | .hbm, ⟨7, _⟩ => ⟨S4096x2304, .f32⟩
  | .hbm, ⟨8, _⟩ => ⟨S_, .f32⟩
  | .hbm, ⟨9, _⟩ => ⟨S8x128, .f32⟩
  | .hbm, ⟨10, _⟩ => ⟨S4096x2304, .f32⟩
  | .hbm, ⟨11, _⟩ => ⟨S4096x2304, .f32⟩
  | .hbm, ⟨12, _⟩ => ⟨S4096x2304, .f32⟩
  | .local _ .vmem, ⟨0, _⟩ => ⟨S128x2304, .f32⟩
  | .local _ .vmem, ⟨1, _⟩ => ⟨S128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S8x128, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | .local _ .vmem, ⟨14, _⟩ => ⟨S128x2304, .f32⟩
  | _, _ => ⟨S4x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepAdaRefIdeal.lean ====
abbrev S4x1024x2304 : Shape := ⟨3, ![4, 1024, 2304]⟩
abbrev S_ : Shape := ⟨0, ![]⟩
abbrev S4096x2304 : Shape := ⟨2, ![4096, 2304]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S_, .f32⟩
  | .hbm, ⟨5, _⟩ => ⟨S4x1024x2304, .f32⟩
  | .hbm, ⟨6, _⟩ => ⟨S4x1024x2304, .f32⟩
  | .hbm, ⟨7, _⟩ => ⟨S_, .f32⟩
  | .hbm, ⟨8, _⟩ => ⟨S4x1024x2304, .f32⟩
  | .hbm, ⟨9, _⟩ => ⟨S4x1024x2304, .f32⟩
  | .hbm, ⟨10, _⟩ => ⟨S4x1024x2304, .f32⟩
  | .hbm, ⟨11, _⟩ => ⟨S_, .f32⟩
  | .hbm, ⟨12, _⟩ => ⟨S4x1024x2304, .f32⟩
  | .hbm, ⟨13, _⟩ => ⟨S4x1024x2304, .f32⟩
  | .hbm, ⟨14, _⟩ => ⟨S4x1024x2304, .f32⟩
  | .hbm, ⟨15, _⟩ => ⟨S_, .f32⟩
  | .hbm, ⟨16, _⟩ => ⟨S4x1024x2304, .f32⟩
  | .hbm, ⟨17, _⟩ => ⟨S4x1024x2304, .f32⟩
  | .hbm, ⟨18, _⟩ => ⟨S4x1024x2304, .f32⟩
  | .hbm, ⟨19, _⟩ => ⟨S_, .f32⟩
  | .hbm, ⟨20, _⟩ => ⟨S4x1024x2304, .f32⟩
  | .hbm, ⟨21, _⟩ => ⟨S4x1024x2304, .f32⟩
  | .hbm, ⟨22, _⟩ => ⟨S_, .f32⟩
  | .hbm, ⟨23, _⟩ => ⟨S4x1024x2304, .f32⟩
  | .hbm, ⟨24, _⟩ => ⟨S4x1024x2304, .f32⟩
  | .hbm, ⟨25, _⟩ => ⟨S4x1024x2304, .f32⟩
  | .hbm, ⟨26, _⟩ => ⟨S_, .f32⟩
  | .hbm, ⟨27, _⟩ => ⟨S4x1024x2304, .f32⟩
  | .hbm, ⟨28, _⟩ => ⟨S4x1024x2304, .f32⟩
  | .hbm, ⟨29, _⟩ => ⟨S4x1024x2304, .f32⟩
  | .hbm, ⟨30, _⟩ => ⟨S_, .f32⟩
  | .hbm, ⟨31, _⟩ => ⟨S4x1024x2304, .f32⟩
  | .hbm, ⟨32, _⟩ => ⟨S4x1024x2304, .f32⟩
  | .hbm, ⟨33, _⟩ => ⟨S4x1024x2304, .f32⟩
  | .hbm, ⟨34, _⟩ => ⟨S_, .f32⟩
  | .hbm, ⟨35, _⟩ => ⟨S4x1024x2304, .f32⟩
  | .hbm, ⟨36, _⟩ => ⟨S4x1024x2304, .f32⟩
  | .hbm, ⟨37, _⟩ => ⟨S4096x2304, .f32⟩
  | .hbm, ⟨38, _⟩ => ⟨S4096x2304, .f32⟩
  | .hbm, ⟨39, _⟩ => ⟨S4096x2304, .f32⟩
  | _, _ => ⟨S4x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepIn.lean ====
abbrev S4x2x1024x1408 : Shape := ⟨4, ![4, 2, 1024, 1408]⟩
abbrev S8192x1408 : Shape := ⟨2, ![8192, 1408]⟩
abbrev S_ : Shape := ⟨0, ![]⟩
abbrev S8x128 : Shape := ⟨2, ![8, 128]⟩
abbrev S256x1408 : Shape := ⟨2, ![256, 1408]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S4x2x1024x1408, .f32⟩
  | .hbm, ⟨1, _⟩ => ⟨S4x2x1024x1408, .f32⟩
  | .hbm, ⟨2, _⟩ => ⟨S4x2x1024x1408, .f32⟩
  | .hbm, ⟨3, _⟩ => ⟨S4x2x1024x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S_, .f32⟩
  | .hbm, ⟨9, _⟩ => ⟨S8x128, .f32⟩
  | .hbm, ⟨10, _⟩ => ⟨S8192x1408, .f32⟩
  | .hbm, ⟨11, _⟩ => ⟨S8192x1408, .f32⟩
  | .hbm, ⟨12, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S8x128, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | _, _ => ⟨S4x2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInIdeal.lean ====
abbrev S4x2x1024x1408 : Shape := ⟨4, ![4, 2, 1024, 1408]⟩
abbrev S8192x1408 : Shape := ⟨2, ![8192, 1408]⟩
abbrev S_ : Shape := ⟨0, ![]⟩
abbrev S8x128 : Shape := ⟨2, ![8, 128]⟩
abbrev S256x1408 : Shape := ⟨2, ![256, 1408]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S4x2x1024x1408, .f32⟩
  | .hbm, ⟨1, _⟩ => ⟨S4x2x1024x1408, .f32⟩
  | .hbm, ⟨2, _⟩ => ⟨S4x2x1024x1408, .f32⟩
  | .hbm, ⟨3, _⟩ => ⟨S4x2x1024x1408, .f32⟩
  | .hbm, ⟨4, _⟩ => ⟨S8192x1408, .f32⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S_, .f32⟩
  | .hbm, ⟨9, _⟩ => ⟨S8x128, .f32⟩
  | .hbm, ⟨10, _⟩ => ⟨S8192x1408, .f32⟩
  | .hbm, ⟨11, _⟩ => ⟨S8192x1408, .f32⟩
  | .hbm, ⟨12, _⟩ => ⟨S8192x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S8x128, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | _, _ => ⟨S4x2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepInRefIdeal.lean ====
abbrev S4x2x1024x1408 : Shape := ⟨4, ![4, 2, 1024, 1408]⟩
abbrev S_ : Shape := ⟨0, ![]⟩
abbrev S8192x1408 : Shape := ⟨2, ![8192, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x2x1024x1408, .f32⟩
  | .hbm, ⟨1, _⟩ => ⟨S4x2x1024x1408, .f32⟩
  | .hbm, ⟨2, _⟩ => ⟨S4x2x1024x1408, .f32⟩
  | .hbm, ⟨3, _⟩ => ⟨S4x2x1024x1408, .f32⟩
  | .hbm, ⟨4, _⟩ => ⟨S_, .f32⟩
  | .hbm, ⟨5, _⟩ => ⟨S4x2x1024x1408, .f32⟩
  | .hbm, ⟨6, _⟩ => ⟨S4x2x1024x1408, .f32⟩
  | .hbm, ⟨7, _⟩ => ⟨S_, .f32⟩
  | .hbm, ⟨8, _⟩ => ⟨S4x2x1024x1408, .f32⟩
  | .hbm, ⟨9, _⟩ => ⟨S4x2x1024x1408, .f32⟩
  | .hbm, ⟨10, _⟩ => ⟨S4x2x1024x1408, .f32⟩
  | .hbm, ⟨11, _⟩ => ⟨S_, .f32⟩
  | .hbm, ⟨12, _⟩ => ⟨S4x2x1024x1408, .f32⟩
  | .hbm, ⟨13, _⟩ => ⟨S4x2x1024x1408, .f32⟩
  | .hbm, ⟨14, _⟩ => ⟨S4x2x1024x1408, .f32⟩
  | .hbm, ⟨15, _⟩ => ⟨S_, .f32⟩
  | .hbm, ⟨16, _⟩ => ⟨S4x2x1024x1408, .f32⟩
  | .hbm, ⟨17, _⟩ => ⟨S4x2x1024x1408, .f32⟩
  | .hbm, ⟨18, _⟩ => ⟨S4x2x1024x1408, .f32⟩
  | .hbm, ⟨19, _⟩ => ⟨S_, .f32⟩
  | .hbm, ⟨20, _⟩ => ⟨S4x2x1024x1408, .f32⟩
  | .hbm, ⟨21, _⟩ => ⟨S4x2x1024x1408, .f32⟩
  | .hbm, ⟨22, _⟩ => ⟨S_, .f32⟩
  | .hbm, ⟨23, _⟩ => ⟨S4x2x1024x1408, .f32⟩
  | .hbm, ⟨24, _⟩ => ⟨S4x2x1024x1408, .f32⟩
  | .hbm, ⟨25, _⟩ => ⟨S4x2x1024x1408, .f32⟩
  | .hbm, ⟨26, _⟩ => ⟨S_, .f32⟩
  | .hbm, ⟨27, _⟩ => ⟨S4x2x1024x1408, .f32⟩
  | .hbm, ⟨28, _⟩ => ⟨S4x2x1024x1408, .f32⟩
  | .hbm, ⟨29, _⟩ => ⟨S4x2x1024x1408, .f32⟩
  | .hbm, ⟨30, _⟩ => ⟨S_, .f32⟩
  | .hbm, ⟨31, _⟩ => ⟨S4x2x1024x1408, .f32⟩
  | .hbm, ⟨32, _⟩ => ⟨S4x2x1024x1408, .f32⟩
  | .hbm, ⟨33, _⟩ => ⟨S4x2x1024x1408, .f32⟩
  | .hbm, ⟨34, _⟩ => ⟨S_, .f32⟩
  | .hbm, ⟨35, _⟩ => ⟨S4x2x1024x1408, .f32⟩
  | .hbm, ⟨36, _⟩ => ⟨S4x2x1024x1408, .f32⟩
  | .hbm, ⟨37, _⟩ => ⟨S8192x1408, .f32⟩
  | .hbm, ⟨38, _⟩ => ⟨S8192x1408, .f32⟩
  | .hbm, ⟨39, _⟩ => ⟨S8192x1408, .f32⟩
  | _, _ => ⟨S4x2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepOut.lean ====
abbrev S4x2x704x1024 : Shape := ⟨4, ![4, 2, 704, 1024]⟩
abbrev S5632x1024 : Shape := ⟨2, ![5632, 1024]⟩
abbrev S_ : Shape := ⟨0, ![]⟩
abbrev S8x128 : Shape := ⟨2, ![8, 128]⟩
abbrev S512x1024 : Shape := ⟨2, ![512, 1024]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S4x2x704x1024, .f32⟩
  | .hbm, ⟨1, _⟩ => ⟨S4x2x704x1024, .f32⟩
  | .hbm, ⟨2, _⟩ => ⟨S4x2x704x1024, .f32⟩
  | .hbm, ⟨3, _⟩ => ⟨S4x2x704x1024, .f32⟩
  | .hbm, ⟨4, _⟩ => ⟨S5632x1024, .f32⟩
  | .hbm, ⟨5, _⟩ => ⟨S5632x1024, .f32⟩
  | .hbm, ⟨6, _⟩ => ⟨S5632x1024, .f32⟩
  | .hbm, ⟨7, _⟩ => ⟨S5632x1024, .f32⟩
  | .hbm, ⟨8, _⟩ => ⟨S_, .f32⟩
  | .hbm, ⟨9, _⟩ => ⟨S8x128, .f32⟩
  | .hbm, ⟨10, _⟩ => ⟨S5632x1024, .f32⟩
  | .hbm, ⟨11, _⟩ => ⟨S5632x1024, .f32⟩
  | .hbm, ⟨12, _⟩ => ⟨S5632x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S4x2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOutIdeal.lean ====
abbrev S4x2x704x1024 : Shape := ⟨4, ![4, 2, 704, 1024]⟩
abbrev S5632x1024 : Shape := ⟨2, ![5632, 1024]⟩
abbrev S_ : Shape := ⟨0, ![]⟩
abbrev S8x128 : Shape := ⟨2, ![8, 128]⟩
abbrev S512x1024 : Shape := ⟨2, ![512, 1024]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S4x2x704x1024, .f32⟩
  | .hbm, ⟨1, _⟩ => ⟨S4x2x704x1024, .f32⟩
  | .hbm, ⟨2, _⟩ => ⟨S4x2x704x1024, .f32⟩
  | .hbm, ⟨3, _⟩ => ⟨S4x2x704x1024, .f32⟩
  | .hbm, ⟨4, _⟩ => ⟨S5632x1024, .f32⟩
  | .hbm, ⟨5, _⟩ => ⟨S5632x1024, .f32⟩
  | .hbm, ⟨6, _⟩ => ⟨S5632x1024, .f32⟩
  | .hbm, ⟨7, _⟩ => ⟨S5632x1024, .f32⟩
  | .hbm, ⟨8, _⟩ => ⟨S_, .f32⟩
  | .hbm, ⟨9, _⟩ => ⟨S8x128, .f32⟩
  | .hbm, ⟨10, _⟩ => ⟨S5632x1024, .f32⟩
  | .hbm, ⟨11, _⟩ => ⟨S5632x1024, .f32⟩
  | .hbm, ⟨12, _⟩ => ⟨S5632x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S4x2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepOutRefIdeal.lean ====
abbrev S4x2x704x1024 : Shape := ⟨4, ![4, 2, 704, 1024]⟩
abbrev S_ : Shape := ⟨0, ![]⟩
abbrev S5632x1024 : Shape := ⟨2, ![5632, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2x704x1024, .f32⟩
  | .hbm, ⟨1, _⟩ => ⟨S4x2x704x1024, .f32⟩
  | .hbm, ⟨2, _⟩ => ⟨S4x2x704x1024, .f32⟩
  | .hbm, ⟨3, _⟩ => ⟨S4x2x704x1024, .f32⟩
  | .hbm, ⟨4, _⟩ => ⟨S_, .f32⟩
  | .hbm, ⟨5, _⟩ => ⟨S4x2x704x1024, .f32⟩
  | .hbm, ⟨6, _⟩ => ⟨S4x2x704x1024, .f32⟩
  | .hbm, ⟨7, _⟩ => ⟨S_, .f32⟩
  | .hbm, ⟨8, _⟩ => ⟨S4x2x704x1024, .f32⟩
  | .hbm, ⟨9, _⟩ => ⟨S4x2x704x1024, .f32⟩
  | .hbm, ⟨10, _⟩ => ⟨S4x2x704x1024, .f32⟩
  | .hbm, ⟨11, _⟩ => ⟨S_, .f32⟩
  | .hbm, ⟨12, _⟩ => ⟨S4x2x704x1024, .f32⟩
  | .hbm, ⟨13, _⟩ => ⟨S4x2x704x1024, .f32⟩
  | .hbm, ⟨14, _⟩ => ⟨S4x2x704x1024, .f32⟩
  | .hbm, ⟨15, _⟩ => ⟨S_, .f32⟩
  | .hbm, ⟨16, _⟩ => ⟨S4x2x704x1024, .f32⟩
  | .hbm, ⟨17, _⟩ => ⟨S4x2x704x1024, .f32⟩
  | .hbm, ⟨18, _⟩ => ⟨S4x2x704x1024, .f32⟩
  | .hbm, ⟨19, _⟩ => ⟨S_, .f32⟩
  | .hbm, ⟨20, _⟩ => ⟨S4x2x704x1024, .f32⟩
  | .hbm, ⟨21, _⟩ => ⟨S4x2x704x1024, .f32⟩
  | .hbm, ⟨22, _⟩ => ⟨S_, .f32⟩
  | .hbm, ⟨23, _⟩ => ⟨S4x2x704x1024, .f32⟩
  | .hbm, ⟨24, _⟩ => ⟨S4x2x704x1024, .f32⟩
  | .hbm, ⟨25, _⟩ => ⟨S4x2x704x1024, .f32⟩
  | .hbm, ⟨26, _⟩ => ⟨S_, .f32⟩
  | .hbm, ⟨27, _⟩ => ⟨S4x2x704x1024, .f32⟩
  | .hbm, ⟨28, _⟩ => ⟨S4x2x704x1024, .f32⟩
  | .hbm, ⟨29, _⟩ => ⟨S4x2x704x1024, .f32⟩
  | .hbm, ⟨30, _⟩ => ⟨S_, .f32⟩
  | .hbm, ⟨31, _⟩ => ⟨S4x2x704x1024, .f32⟩
  | .hbm, ⟨32, _⟩ => ⟨S4x2x704x1024, .f32⟩
  | .hbm, ⟨33, _⟩ => ⟨S4x2x704x1024, .f32⟩
  | .hbm, ⟨34, _⟩ => ⟨S_, .f32⟩
  | .hbm, ⟨35, _⟩ => ⟨S4x2x704x1024, .f32⟩
  | .hbm, ⟨36, _⟩ => ⟨S4x2x704x1024, .f32⟩
  | .hbm, ⟨37, _⟩ => ⟨S5632x1024, .f32⟩
  | .hbm, ⟨38, _⟩ => ⟨S5632x1024, .f32⟩
  | .hbm, ⟨39, _⟩ => ⟨S5632x1024, .f32⟩
  | _, _ => ⟨S4x2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepGlu.lean ====
abbrev S2x1024x512 : Shape := ⟨3, ![2, 1024, 512]⟩
abbrev S2048x512 : Shape := ⟨2, ![2048, 512]⟩
abbrev S_ : Shape := ⟨0, ![]⟩
abbrev S8x128 : Shape := ⟨2, ![8, 128]⟩
abbrev S1024x512 : Shape := ⟨2, ![1024, 512]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S_, .f32⟩
  | .hbm, ⟨9, _⟩ => ⟨S8x128, .f32⟩
  | .hbm, ⟨10, _⟩ => ⟨S2048x512, .f32⟩
  | .hbm, ⟨11, _⟩ => ⟨S2048x512, .f32⟩
  | .hbm, ⟨12, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepGluIdeal.lean ====
abbrev S2x1024x512 : Shape := ⟨3, ![2, 1024, 512]⟩
abbrev S2048x512 : Shape := ⟨2, ![2048, 512]⟩
abbrev S_ : Shape := ⟨0, ![]⟩
abbrev S8x128 : Shape := ⟨2, ![8, 128]⟩
abbrev S1024x512 : Shape := ⟨2, ![1024, 512]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S_, .f32⟩
  | .hbm, ⟨9, _⟩ => ⟨S8x128, .f32⟩
  | .hbm, ⟨10, _⟩ => ⟨S2048x512, .f32⟩
  | .hbm, ⟨11, _⟩ => ⟨S2048x512, .f32⟩
  | .hbm, ⟨12, _⟩ => ⟨S2048x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepGluRefIdeal.lean ====
abbrev S2x1024x512 : Shape := ⟨3, ![2, 1024, 512]⟩
abbrev S_ : Shape := ⟨0, ![]⟩
abbrev S2048x512 : Shape := ⟨2, ![2048, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2048x512, .f32⟩
  | .hbm, ⟨38, _⟩ => ⟨S2048x512, .f32⟩
  | .hbm, ⟨39, _⟩ => ⟨S2048x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepSq.lean ====
abbrev S2x256x1024 : Shape := ⟨3, ![2, 256, 1024]⟩
abbrev S512x1024 : Shape := ⟨2, ![512, 1024]⟩
abbrev S_ : Shape := ⟨0, ![]⟩
abbrev S8x128 : Shape := ⟨2, ![8, 128]⟩
abbrev S1x1 : Shape := ⟨2, ![1, 1]⟩

abbrev nBuf : Space → Nat
  | .hbm => 13
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S_, .f32⟩
  | .hbm, ⟨9, _⟩ => ⟨S8x128, .f32⟩
  | .hbm, ⟨10, _⟩ => ⟨S512x1024, .f32⟩
  | .hbm, ⟨11, _⟩ => ⟨S512x1024, .f32⟩
  | .hbm, ⟨12, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepSqIdeal.lean ====
abbrev S2x256x1024 : Shape := ⟨3, ![2, 256, 1024]⟩
abbrev S512x1024 : Shape := ⟨2, ![512, 1024]⟩
abbrev S_ : Shape := ⟨0, ![]⟩
abbrev S8x128 : Shape := ⟨2, ![8, 128]⟩
abbrev S1x1 : Shape := ⟨2, ![1, 1]⟩

abbrev nBuf : Space → Nat
  | .hbm => 13
  | .vmem => 8
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S_, .f32⟩
  | .hbm, ⟨9, _⟩ => ⟨S8x128, .f32⟩
  | .hbm, ⟨10, _⟩ => ⟨S512x1024, .f32⟩
  | .hbm, ⟨11, _⟩ => ⟨S512x1024, .f32⟩
  | .hbm, ⟨12, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepSqRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepDn.lean ====
abbrev S2x1024x1028 : Shape := ⟨3, ![2, 1024, 1028]⟩
abbrev S2048x1028 : Shape := ⟨2, ![2048, 1028]⟩
abbrev S_ : Shape := ⟨0, ![]⟩
abbrev S8x128 : Shape := ⟨2, ![8, 128]⟩
abbrev S256x1028 : Shape := ⟨2, ![256, 1028]⟩
abbrev S1x1 : Shape := ⟨2, ![1, 1]⟩

abbrev nBuf : Space → Nat
  | .hbm => 13
  | .vmem => 15
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x1024x1028, .f32⟩
  | .hbm, ⟨4, _⟩ => ⟨S2048x1028, .f32⟩
  | .hbm, ⟨5, _⟩ => ⟨S2048x1028, .f32⟩
  | .hbm, ⟨6, _⟩ => ⟨S2048x1028, .f32⟩
  | .hbm, ⟨7, _⟩ => ⟨S2048x1028, .f32⟩
  | .hbm, ⟨8, _⟩ => ⟨S_, .f32⟩
  | .hbm, ⟨9, _⟩ => ⟨S8x128, .f32⟩
  | .hbm, ⟨10, _⟩ => ⟨S2048x1028, .f32⟩
  | .hbm, ⟨11, _⟩ => ⟨S2048x1028, .f32⟩
  | .hbm, ⟨12, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S8x128, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | .local _ .vmem, ⟨14, _⟩ => ⟨S256x1028, .f32⟩
  | _, _ => ⟨S2x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== StepDnRefIdeal.lean ====
abbrev S2x1024x1028 : Shape := ⟨3, ![2, 1024, 1028]⟩
abbrev S_ : Shape := ⟨0, ![]⟩
abbrev S2048x1028 : Shape := ⟨2, ![2048, 1028]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1028, .f32⟩
  | .hbm, ⟨1, _⟩ => ⟨S2x1024x1028, .f32⟩
  | .hbm, ⟨2, _⟩ => ⟨S2x1024x1028, .f32⟩
  | .hbm, ⟨3, _⟩ => ⟨S2x1024x1028, .f32⟩
  | .hbm, ⟨4, _⟩ => ⟨S_, .f32⟩
  | .hbm, ⟨5, _⟩ => ⟨S2x1024x1028, .f32⟩
  | .hbm, ⟨6, _⟩ => ⟨S2x1024x1028, .f32⟩
  | .hbm, ⟨7, _⟩ => ⟨S_, .f32⟩
  | .hbm, ⟨8, _⟩ => ⟨S2x1024x1028, .f32⟩
  | .hbm, ⟨9, _⟩ => ⟨S2x1024x1028, .f32⟩
  | .hbm, ⟨10, _⟩ => ⟨S2x1024x1028, .f32⟩
  | .hbm, ⟨11, _⟩ => ⟨S_, .f32⟩
  | .hbm, ⟨12, _⟩ => ⟨S2x1024x1028, .f32⟩
  | .hbm, ⟨13, _⟩ => ⟨S2x1024x1028, .f32⟩
  | .hbm, ⟨14, _⟩ => ⟨S2x1024x1028, .f32⟩
  | .hbm, ⟨15, _⟩ => ⟨S_, .f32⟩
  | .hbm, ⟨16, _⟩ => ⟨S2x1024x1028, .f32⟩
  | .hbm, ⟨17, _⟩ => ⟨S2x1024x1028, .f32⟩
  | .hbm, ⟨18, _⟩ => ⟨S2x1024x1028, .f32⟩
  | .hbm, ⟨19, _⟩ => ⟨S_, .f32⟩
  | .hbm, ⟨20, _⟩ => ⟨S2x1024x1028, .f32⟩
  | .hbm, ⟨21, _⟩ => ⟨S2x1024x1028, .f32⟩
  | .hbm, ⟨22, _⟩ => ⟨S_, .f32⟩
  | .hbm, ⟨23, _⟩ => ⟨S2x1024x1028, .f32⟩
  | .hbm, ⟨24, _⟩ => ⟨S2x1024x1028, .f32⟩
  | .hbm, ⟨25, _⟩ => ⟨S2x1024x1028, .f32⟩
  | .hbm, ⟨26, _⟩ => ⟨S_, .f32⟩
  | .hbm, ⟨27, _⟩ => ⟨S2x1024x1028, .f32⟩
  | .hbm, ⟨28, _⟩ => ⟨S2x1024x1028, .f32⟩
  | .hbm, ⟨29, _⟩ => ⟨S2x1024x1028, .f32⟩
  | .hbm, ⟨30, _⟩ => ⟨S_, .f32⟩
  | .hbm, ⟨31, _⟩ => ⟨S2x1024x1028, .f32⟩
  | .hbm, ⟨32, _⟩ => ⟨S2x1024x1028, .f32⟩
  | .hbm, ⟨33, _⟩ => ⟨S2x1024x1028, .f32⟩
  | .hbm, ⟨34, _⟩ => ⟨S_, .f32⟩
  | .hbm, ⟨35, _⟩ => ⟨S2x1024x1028, .f32⟩
  | .hbm, ⟨36, _⟩ => ⟨S2x1024x1028, .f32⟩
  | .hbm, ⟨37, _⟩ => ⟨S2048x1028, .f32⟩
  | .hbm, ⟨38, _⟩ => ⟨S2048x1028, .f32⟩
  | .hbm, ⟨39, _⟩ => ⟨S2048x1028, .f32⟩
  | _, _ => ⟨S2x1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StepSmall.lean ====
abbrev S4x3x256 : Shape := ⟨3, ![4, 3, 256]⟩
abbrev S4x9216 : Shape := ⟨2, ![4, 9216]⟩
abbrev S2x2048 : Shape := ⟨2, ![2, 2048]⟩
abbrev S2x31x256 : Shape := ⟨3, ![2, 31, 256]⟩
abbrev S2x1024 : Shape := ⟨2, ![2, 1024]⟩
abbrev S2x4x768 : Shape := ⟨3, ![2, 4, 768]⟩
abbrev S2x8 : Shape := ⟨2, ![2, 8]⟩
abbrev S2x128 : Shape := ⟨2, ![2, 128]⟩
abbrev S1024 : Shape := ⟨1, ![1024]⟩
abbrev S3072 : Shape := ⟨1, ![3072]⟩
abbrev S36864 : Shape := ⟨1, ![36864]⟩
abbrev S4096 : Shape := ⟨1, ![4096]⟩
abbrev S15872 : Shape := ⟨1, ![15872]⟩
abbrev S2048 : Shape := ⟨1, ![2048]⟩
abbrev S6144 : Shape := ⟨1, ![6144]⟩
abbrev S16 : Shape := ⟨1, ![16]⟩
abbrev S256 : Shape := ⟨1, ![256]⟩
abbrev S75552 : Shape := ⟨1, ![75552]⟩
abbrev S_ : Shape := ⟨0, ![]⟩
abbrev S75776 : Shape := ⟨1, ![75776]⟩
abbrev S592x128 : Shape := ⟨2, ![592, 128]⟩
abbrev S8x128 : Shape := ⟨2, ![8, 128]⟩
abbrev S1x1 : Shape := ⟨2, ![1, 1]⟩

abbrev nBuf : Space → Nat
  | .hbm => 203
  | .vmem => 8
  | .smem => 0
  | _ => 0

abbrev hbmTy0_0 (i : Nat) : BufTy := match i % 128 with
  | 0 => ⟨S4x3x256, .f32⟩
  | 1 => ⟨S4x9216, .f32⟩
  | 2 => ⟨S2x2048, .f32⟩
  | 3 => ⟨S2x31x256, .f32⟩
  | 4 => ⟨S2x1024, .f32⟩
  | 5 => ⟨S2x1024, .f32⟩
  | 6 => ⟨S2x1024, .f32⟩
  | 7 => ⟨S2x1024, .f32⟩
  | 8 => ⟨S2x4x768, .f32⟩
  | 9 => ⟨S2x8, .f32⟩
  | 10 => ⟨S2x8, .f32⟩
  | 11 => ⟨S2x128, .f32⟩
  | 12 => ⟨S1024, .f32⟩
  | 13 => ⟨S4x3x256, .f32⟩
  | 14 => ⟨S4x9216, .f32⟩
  | 15 => ⟨S2x2048, .f32⟩
  | 16 => ⟨S2x31x256, .f32⟩
  | 17 => ⟨S2x1024, .f32⟩
  | 18 => ⟨S2x1024, .f32⟩
  | 19 => ⟨S2x1024, .f32⟩
  | 20 => ⟨S2x1024, .f32⟩
  | 21 => ⟨S2x4x768, .f32⟩
  | 22 => ⟨S2x8, .f32⟩
  | 23 => ⟨S2x8, .f32⟩
  | 24 => ⟨S2x128, .f32⟩
  | 25 => ⟨S1024, .f32⟩
  | 26 => ⟨S4x3x256, .f32⟩
  | 27 => ⟨S4x9216, .f32⟩
  | 28 => ⟨S2x2048, .f32⟩
  | 29 => ⟨S2x31x256, .f32⟩
  | 30 => ⟨S2x1024, .f32⟩
  | 31 => ⟨S2x1024, .f32⟩
  | 32 => ⟨S2x1024, .f32⟩
  | 33 => ⟨S2x1024, .f32⟩
  | 34 => ⟨S2x4x768, .f32⟩
  | 35 => ⟨S2x8, .f32⟩
  | 36 => ⟨S2x8, .f32⟩
  | 37 => ⟨S2x128, .f32⟩
  | 38 => ⟨S1024, .f32⟩
  | 39 => ⟨S4x3x256, .f32⟩
  | 40 => ⟨S4x9216, .f32⟩
  | 41 => ⟨S2x2048, .f32⟩
  | 42 => ⟨S2x31x256, .f32⟩
  | 43 => ⟨S2x1024, .f32⟩
  | 44 => ⟨S2x1024, .f32⟩
  | 45 => ⟨S2x1024, .f32⟩
  | 46 => ⟨S2x1024, .f32⟩
  | 47 => ⟨S2x4x768, .f32⟩
  | 48 => ⟨S2x8, .f32⟩
  | 49 => ⟨S2x8, .f32⟩
  | 50 => ⟨S2x128, .f32⟩
  | 51 => ⟨S1024, .f32⟩
  | 52 => ⟨S3072, .f32⟩
  | 53 => ⟨S36864, .f32⟩
  | 54 => ⟨S4096, .f32⟩
  | 55 => ⟨S15872, .f32⟩
  | 56 => ⟨S2048, .f32⟩
  | 57 => ⟨S2048, .f32⟩
  | 58 => ⟨S2048, .f32⟩
  | 59 => ⟨S2048, .f32⟩
  | 60 => ⟨S6144, .f32⟩
  | 61 => ⟨S16, .f32⟩
  | 62 => ⟨S16, .f32⟩
  | 63 => ⟨S256, .f32⟩
  | 64 => ⟨S75552, .f32⟩
  | 65 => ⟨S_, .i32⟩
  | 66 => ⟨S_, .f32⟩
  | 67 => ⟨S75776, .f32⟩
  | 68 => ⟨S592x128, .f32⟩
  | 69 => ⟨S3072, .f32⟩
  | 70 => ⟨S36864, .f32⟩
  | 71 => ⟨S4096, .f32⟩
  | 72 => ⟨S15872, .f32⟩
  | 73 => ⟨S2048, .f32⟩
  | 74 => ⟨S2048, .f32⟩
  | 75 => ⟨S2048, .f32⟩
  | 76 => ⟨S2048, .f32⟩
  | 77 => ⟨S6144, .f32⟩
  | 78 => ⟨S16, .f32⟩
  | 79 => ⟨S16, .f32⟩
  | 80 => ⟨S256, .f32⟩
  | 81 => ⟨S75552, .f32⟩
  | 82 => ⟨S_, .i32⟩
  | 83 => ⟨S_, .f32⟩
  | 84 => ⟨S75776, .f32⟩
  | 85 => ⟨S592x128, .f32⟩
  | 86 => ⟨S3072, .f32⟩
  | 87 => ⟨S36864, .f32⟩
  | 88 => ⟨S4096, .f32⟩
  | 89 => ⟨S15872, .f32⟩
  | 90 => ⟨S2048, .f32⟩
  | 91 => ⟨S2048, .f32⟩
  | 92 => ⟨S2048, .f32⟩
  | 93 => ⟨S2048, .f32⟩
  | 94 => ⟨S6144, .f32⟩
  | 95 => ⟨S16, .f32⟩
  | 96 => ⟨S16, .f32⟩
  | 97 => ⟨S256, .f32⟩
  | 98 => ⟨S75552, .f32⟩
  | 99 => ⟨S_, .i32⟩
  | 100 => ⟨S_, .f32⟩
  | 101 => ⟨S75776, .f32⟩
  | 102 => ⟨S592x128, .f32⟩
  | 103 => ⟨S3072, .f32⟩
  | 104 => ⟨S36864, .f32⟩
  | 105 => ⟨S4096, .f32⟩
  | 106 => ⟨S15872, .f32⟩
  | 107 => ⟨S2048, .f32⟩
  | 108 => ⟨S2048, .f32⟩
  | 109 => ⟨S2048, .f32⟩
  | 110 => ⟨S2048, .f32⟩
  | 111 => ⟨S6144, .f32⟩
  | 112 => ⟨S16, .f32⟩
  | 113 => ⟨S16, .f32⟩
  | 114 => ⟨S256, .f32⟩
  | 115 => ⟨S75552, .f32⟩
  | 116 => ⟨S_, .i32⟩
  | 117 => ⟨S_, .f32⟩
  | 118 => ⟨S75776, .f32⟩
  | 119 => ⟨S592x128, .f32⟩
  | 120 => ⟨S_, .f32⟩
  | 121 => ⟨S8x128, .f32⟩
  | 122 => ⟨S592x128, .f32⟩
  | 123 => ⟨S592x128, .f32⟩
  | 124 => ⟨S592x128, .f32⟩
  | 125 => ⟨S75776, .f32⟩
  | 126 => ⟨S3072, .f32⟩
  | 127 => ⟨S4x3x256, .f32⟩
  | _ => ⟨S4x3x256, .f32⟩

abbrev hbmTy0_1 (i : Nat) : BufTy := match i % 128 with
  | 0 => ⟨S36864, .f32⟩
  | 1 => ⟨S4x9216, .f32⟩
  | 2 => ⟨S4096, .f32⟩
  | 3 => ⟨S2x2048, .f32⟩
  | 4 => ⟨S15872, .f32⟩
  | 5 => ⟨S2x31x256, .f32⟩
  | 6 => ⟨S2048, .f32⟩
  | 7 => ⟨S2x1024, .f32⟩
  | 8 => ⟨S2048, .f32⟩
  | 9 => ⟨S2x1024, .f32⟩
  | 10 => ⟨S2048, .f32⟩
  | 11 => ⟨S2x1024, .f32⟩
  | 12 => ⟨S2048, .f32⟩
  | 13 => ⟨S2x1024, .f32⟩
  | 14 => ⟨S6144, .f32⟩
  | 15 => ⟨S2x4x768, .f32⟩
  | 16 => ⟨S16, .f32⟩
  | 17 => ⟨S2x8, .f32⟩
  | 18 => ⟨S16, .f32⟩
  | 19 => ⟨S2x8, .f32⟩
  | 20 => ⟨S256, .f32⟩
  | 21 => ⟨S2x128, .f32⟩
  | 22 => ⟨S1024, .f32⟩
  | 23 => ⟨S75776, .f32⟩
  | 24 => ⟨S3072, .f32⟩
  | 25 => ⟨S4x3x256, .f32⟩
  | 26 => ⟨S36864, .f32⟩
  | 27 => ⟨S4x9216, .f32⟩
  | 28 => ⟨S4096, .f32⟩
  | 29 => ⟨S2x2048, .f32⟩
  | 30 => ⟨S15872, .f32⟩
  | 31 => ⟨S2x31x256, .f32⟩
  | 32 => ⟨S2048, .f32⟩
  | 33 => ⟨S2x1024, .f32⟩
  | 34 => ⟨S2048, .f32⟩
  | 35 => ⟨S2x1024, .f32⟩
  | 36 => ⟨S2048, .f32⟩
  | 37 => ⟨S2x1024, .f32⟩
  | 38 => ⟨S2048, .f32⟩
  | 39 => ⟨S2x1024, .f32⟩
  | 40 => ⟨S6144, .f32⟩
  | 41 => ⟨S2x4x768, .f32⟩
  | 42 => ⟨S16, .f32⟩
  | 43 => ⟨S2x8, .f32⟩
  | 44 => ⟨S16, .f32⟩
  | 45 => ⟨S2x8, .f32⟩
  | 46 => ⟨S256, .f32⟩
  | 47 => ⟨S2x128, .f32⟩
  | 48 => ⟨S1024, .f32⟩
  | 49 => ⟨S75776, .f32⟩
  | 50 => ⟨S3072, .f32⟩
  | 51 => ⟨S4x3x256, .f32⟩
  | 52 => ⟨S36864, .f32⟩
  | 53 => ⟨S4x9216, .f32⟩
  | 54 => ⟨S4096, .f32⟩
  | 55 => ⟨S2x2048, .f32⟩
  | 56 => ⟨S15872, .f32⟩
  | 57 => ⟨S2x31x256, .f32⟩
  | 58 => ⟨S2048, .f32⟩
  | 59 => ⟨S2x1024, .f32⟩
  | 60 => ⟨S2048, .f32⟩
  | 61 => ⟨S2x1024, .f32⟩
  | 62 => ⟨S2048, .f32⟩
  | 63 => ⟨S2x1024, .f32⟩
  | 64 => ⟨S2048, .f32⟩
  | 65 => ⟨S2x1024, .f32⟩
  | 66 => ⟨S6144, .f32⟩
  | 67 => ⟨S2x4x768, .f32⟩
  | 68 => ⟨S16, .f32⟩
  | 69 => ⟨S2x8, .f32⟩
  | 70 => ⟨S16, .f32⟩
  | 71 => ⟨S2x8, .f32⟩
  | 72 => ⟨S256, .f32⟩
  | 73 => ⟨S2x128, .f32⟩
  | 74 => ⟨S1024, .f32⟩
  | _ => ⟨S4x3x256, .f32⟩

abbrev hbmTy (i : Nat) : BufTy := match i / 128 with
  | 0 => hbmTy0_0 i
  | 1 => hbmTy0_1 i
  | _ => ⟨S4x3x256, .f32⟩

abbrev bufTy : (tb : Table) → Fin (tcTables nBuf tb) → BufTy
  | .hbm, ⟨i, _⟩ => hbmTy i
  | .local _ .vmem, ⟨0, _⟩ => ⟨S592x128, .f32⟩
  | .local _ .vmem, ⟨1, _⟩ => ⟨S592x128, .f32⟩
  | .local _ .vmem, ⟨2, _⟩ => ⟨S592x128, .f32⟩
  | .local _ .vmem, ⟨3, _⟩ => ⟨S592x128, .f32⟩
  | .local _ .vmem, ⟨4, _⟩ => ⟨S8x128, .f32⟩
  | .local _ .vmem, ⟨5, _⟩ => ⟨S592x128, .f32⟩
  | .local _ .vmem, ⟨6, _⟩ => ⟨S592x128, .f32⟩
  | .local _ .vmem, ⟨7, _⟩ => ⟨S592x128, .f32⟩
  | _, _ => ⟨S4x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_v0 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_c : Ref sig .tc := ⟨.hbm, 65, rfl⟩
abbrev main_call0_v0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_c_0 : Ref sig .tc := ⟨.hbm, 82, rfl⟩
abbrev main_call1_v0 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_c_1 : Ref sig .tc := ⟨.hbm, 99, rfl⟩
abbrev main_call2_v0 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_c_2 : Ref sig .tc := ⟨.hbm, 116, rfl⟩
abbrev main_call3_v0 : Ref sig .tc := ⟨.hbm, 117, rfl⟩
abbrev main_v58 : Ref sig .tc := ⟨.hbm, 118, rfl⟩
abbrev main_v59 : Ref sig .tc := ⟨.hbm, 119, rfl⟩
abbrev main_cst : Ref sig .tc := ⟨.hbm, 120, rfl⟩
abbrev main_v60 : Ref sig .tc := ⟨.hbm, 121, rfl⟩
abbrev main_v61_0 : Ref sig .tc := ⟨.hbm, 122, rfl⟩
abbrev main_v61_1 : Ref sig .tc := ⟨.hbm, 123, rfl⟩
abbrev main_v61_2 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S592x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S592x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S592x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S592x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S592x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S592x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S592x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== StepSmallRefIdeal.lean ====
abbrev S4x3x256 : Shape := ⟨3, ![4, 3, 256]⟩
abbrev S4x9216 : Shape := ⟨2, ![4, 9216]⟩
abbrev S2x2048 : Shape := ⟨2, ![2, 2048]⟩
abbrev S2x31x256 : Shape := ⟨3, ![2, 31, 256]⟩
abbrev S2x1024 : Shape := ⟨2, ![2, 1024]⟩
abbrev S2x4x768 : Shape := ⟨3, ![2, 4, 768]⟩
abbrev S2x8 : Shape := ⟨2, ![2, 8]⟩
abbrev S2x128 : Shape := ⟨2, ![2, 128]⟩
abbrev S1024 : Shape := ⟨1, ![1024]⟩
abbrev S_ : Shape := ⟨0, ![]⟩

abbrev nBuf : Space → Nat
  | .hbm => 481
  | .vmem => 0
  | .smem => 0
  | _ => 0

abbrev hbmTy0_0 (i : Nat) : BufTy := match i % 128 with
  | 0 => ⟨S4x3x256, .f32⟩
  | 1 => ⟨S4x9216, .f32⟩
  | 2 => ⟨S2x2048, .f32⟩
  | 3 => ⟨S2x31x256, .f32⟩
  | 4 => ⟨S2x1024, .f32⟩
  | 5 => ⟨S2x1024, .f32⟩
  | 6 => ⟨S2x1024, .f32⟩
  | 7 => ⟨S2x1024, .f32⟩
  | 8 => ⟨S2x4x768, .f32⟩
  | 9 => ⟨S2x8, .f32⟩
  | 10 => ⟨S2x8, .f32⟩
  | 11 => ⟨S2x128, .f32⟩
  | 12 => ⟨S1024, .f32⟩
  | 13 => ⟨S4x3x256, .f32⟩
  | 14 => ⟨S4x9216, .f32⟩
  | 15 => ⟨S2x2048, .f32⟩
  | 16 => ⟨S2x31x256, .f32⟩
  | 17 => ⟨S2x1024, .f32⟩
  | 18 => ⟨S2x1024, .f32⟩
  | 19 => ⟨S2x1024, .f32⟩
  | 20 => ⟨S2x1024, .f32⟩
  | 21 => ⟨S2x4x768, .f32⟩
  | 22 => ⟨S2x8, .f32⟩
  | 23 => ⟨S2x8, .f32⟩
  | 24 => ⟨S2x128, .f32⟩
  | 25 => ⟨S1024, .f32⟩
  | 26 => ⟨S4x3x256, .f32⟩
  | 27 => ⟨S4x9216, .f32⟩
  | 28 => ⟨S2x2048, .f32⟩
  | 29 => ⟨S2x31x256, .f32⟩
  | 30 => ⟨S2x1024, .f32⟩
  | 31 => ⟨S2x1024, .f32⟩
  | 32 => ⟨S2x1024, .f32⟩
  | 33 => ⟨S2x1024, .f32⟩
  | 34 => ⟨S2x4x768, .f32⟩
  | 35 => ⟨S2x8, .f32⟩
  | 36 => ⟨S2x8, .f32⟩
  | 37 => ⟨S2x128, .f32⟩
  | 38 => ⟨S1024, .f32⟩
  | 39 => ⟨S4x3x256, .f32⟩
  | 40 => ⟨S4x9216, .f32⟩
  | 41 => ⟨S2x2048, .f32⟩
  | 42 => ⟨S2x31x256, .f32⟩
  | 43 => ⟨S2x1024, .f32⟩
  | 44 => ⟨S2x1024, .f32⟩
  | 45 => ⟨S2x1024, .f32⟩
  | 46 => ⟨S2x1024, .f32⟩
  | 47 => ⟨S2x4x768, .f32⟩
  | 48 => ⟨S2x8, .f32⟩
  | 49 => ⟨S2x8, .f32⟩
  | 50 => ⟨S2x128, .f32⟩
  | 51 => ⟨S1024, .f32⟩
  | 52 => ⟨S_, .f32⟩
  | 53 => ⟨S4x3x256, .f32⟩
  | 54 => ⟨S4x3x256, .f32⟩
  | 55 => ⟨S_, .f32⟩
  | 56 => ⟨S4x3x256, .f32⟩
  | 57 => ⟨S4x3x256, .f32⟩
  | 58 => ⟨S4x3x256, .f32⟩
  | 59 => ⟨S_, .f32⟩
  | 60 => ⟨S4x3x256, .f32⟩
  | 61 => ⟨S4x3x256, .f32⟩
  | 62 => ⟨S4x3x256, .f32⟩
  | 63 => ⟨S_, .f32⟩
  | 64 => ⟨S4x3x256, .f32⟩
  | 65 => ⟨S4x3x256, .f32⟩
  | 66 => ⟨S4x3x256, .f32⟩
  | 67 => ⟨S_, .f32⟩
  | 68 => ⟨S4x3x256, .f32⟩
  | 69 => ⟨S4x3x256, .f32⟩
  | 70 => ⟨S_, .f32⟩
  | 71 => ⟨S4x3x256, .f32⟩
  | 72 => ⟨S4x3x256, .f32⟩
  | 73 => ⟨S4x3x256, .f32⟩
  | 74 => ⟨S_, .f32⟩
  | 75 => ⟨S4x3x256, .f32⟩
  | 76 => ⟨S4x3x256, .f32⟩
  | 77 => ⟨S4x3x256, .f32⟩
  | 78 => ⟨S_, .f32⟩
  | 79 => ⟨S4x3x256, .f32⟩
  | 80 => ⟨S4x3x256, .f32⟩
  | 81 => ⟨S4x3x256, .f32⟩
  | 82 => ⟨S_, .f32⟩
  | 83 => ⟨S4x3x256, .f32⟩
  | 84 => ⟨S4x3x256, .f32⟩
  | 85 => ⟨S_, .f32⟩
  | 86 => ⟨S4x9216, .f32⟩
  | 87 => ⟨S4x9216, .f32⟩
  | 88 => ⟨S_, .f32⟩
  | 89 => ⟨S4x9216, .f32⟩
  | 90 => ⟨S4x9216, .f32⟩
  | 91 => ⟨S4x9216, .f32⟩
  | 92 => ⟨S_, .f32⟩
  | 93 => ⟨S4x9216, .f32⟩
  | 94 => ⟨S4x9216, .f32⟩
  | 95 => ⟨S4x9216, .f32⟩
  | 96 => ⟨S_, .f32⟩
  | 97 => ⟨S4x9216, .f32⟩
  | 98 => ⟨S4x9216, .f32⟩
  | 99 => ⟨S4x9216, .f32⟩
  | 100 => ⟨S_, .f32⟩
  | 101 => ⟨S4x9216, .f32⟩
  | 102 => ⟨S4x9216, .f32⟩
  | 103 => ⟨S_, .f32⟩
  | 104 => ⟨S4x9216, .f32⟩
  | 105 => ⟨S4x9216, .f32⟩
  | 106 => ⟨S4x9216, .f32⟩
  | 107 => ⟨S_, .f32⟩
  | 108 => ⟨S4x9216, .f32⟩
  | 109 => ⟨S4x9216, .f32⟩
  | 110 => ⟨S4x9216, .f32⟩
  | 111 => ⟨S_, .f32⟩
  | 112 => ⟨S4x9216, .f32⟩
  | 113 => ⟨S4x9216, .f32⟩
  | 114 => ⟨S4x9216, .f32⟩
  | 115 => ⟨S_, .f32⟩
  | 116 => ⟨S4x9216, .f32⟩
  | 117 => ⟨S4x9216, .f32⟩
  | 118 => ⟨S_, .f32⟩
  | 119 => ⟨S2x2048, .f32⟩
  | 120 => ⟨S2x2048, .f32⟩
  | 121 => ⟨S_, .f32⟩
  | 122 => ⟨S2x2048, .f32⟩
  | 123 => ⟨S2x2048, .f32⟩
  | 124 => ⟨S2x2048, .f32⟩
  | 125 => ⟨S_, .f32⟩
  | 126 => ⟨S2x2048, .f32⟩
  | 127 => ⟨S2x2048, .f32⟩
  | _ => ⟨S4x3x256, .f32⟩

abbrev hbmTy0_1 (i : Nat) : BufTy := match i % 128 with
  | 0 => ⟨S2x2048, .f32⟩
  | 1 => ⟨S_, .f32⟩
  | 2 => ⟨S2x2048, .f32⟩
  | 3 => ⟨S2x2048, .f32⟩
  | 4 => ⟨S2x2048, .f32⟩
  | 5 => ⟨S_, .f32⟩
  | 6 => ⟨S2x2048, .f32⟩
  | 7 => ⟨S2x2048, .f32⟩
  | 8 => ⟨S_, .f32⟩
  | 9 => ⟨S2x2048, .f32⟩
  | 10 => ⟨S2x2048, .f32⟩
  | 11 => ⟨S2x2048, .f32⟩
  | 12 => ⟨S_, .f32⟩
  | 13 => ⟨S2x2048, .f32⟩
  | 14 => ⟨S2x2048, .f32⟩
  | 15 => ⟨S2x2048, .f32⟩
  | 16 => ⟨S_, .f32⟩
  | 17 => ⟨S2x2048, .f32⟩
  | 18 => ⟨S2x2048, .f32⟩
  | 19 => ⟨S2x2048, .f32⟩
  | 20 => ⟨S_, .f32⟩
  | 21 => ⟨S2x2048, .f32⟩
  | 22 => ⟨S2x2048, .f32⟩
  | 23 => ⟨S_, .f32⟩
  | 24 => ⟨S2x31x256, .f32⟩
  | 25 => ⟨S2x31x256, .f32⟩
  | 26 => ⟨S_, .f32⟩
  | 27 => ⟨S2x31x256, .f32⟩
  | 28 => ⟨S2x31x256, .f32⟩
  | 29 => ⟨S2x31x256, .f32⟩
  | 30 => ⟨S_, .f32⟩
  | 31 => ⟨S2x31x256, .f32⟩
  | 32 => ⟨S2x31x256, .f32⟩
  | 33 => ⟨S2x31x256, .f32⟩
  | 34 => ⟨S_, .f32⟩
  | 35 => ⟨S2x31x256, .f32⟩
  | 36 => ⟨S2x31x256, .f32⟩
  | 37 => ⟨S2x31x256, .f32⟩
  | 38 => ⟨S_, .f32⟩
  | 39 => ⟨S2x31x256, .f32⟩
  | 40 => ⟨S2x31x256, .f32⟩
  | 41 => ⟨S_, .f32⟩
  | 42 => ⟨S2x31x256, .f32⟩
  | 43 => ⟨S2x31x256, .f32⟩
  | 44 => ⟨S2x31x256, .f32⟩
  | 45 => ⟨S_, .f32⟩
  | 46 => ⟨S2x31x256, .f32⟩
  | 47 => ⟨S2x31x256, .f32⟩
  | 48 => ⟨S2x31x256, .f32⟩
  | 49 => ⟨S_, .f32⟩
  | 50 => ⟨S2x31x256, .f32⟩
  | 51 => ⟨S2x31x256, .f32⟩
  | 52 => ⟨S2x31x256, .f32⟩
  | 53 => ⟨S_, .f32⟩
  | 54 => ⟨S2x31x256, .f32⟩
  | 55 => ⟨S2x31x256, .f32⟩
  | 56 => ⟨S_, .f32⟩
  | 57 => ⟨S2x1024, .f32⟩
  | 58 => ⟨S2x1024, .f32⟩
  | 59 => ⟨S_, .f32⟩
  | 60 => ⟨S2x1024, .f32⟩
  | 61 => ⟨S2x1024, .f32⟩
  | 62 => ⟨S2x1024, .f32⟩
  | 63 => ⟨S_, .f32⟩
  | 64 => ⟨S2x1024, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S_, .f32⟩
  | 75 => ⟨S2x1024, .f32⟩
  | 76 => ⟨S2x1024, .f32⟩
  | 77 => ⟨S2x1024, .f32⟩
  | 78 => ⟨S_, .f32⟩
  | 79 => ⟨S2x1024, .f32⟩
  | 80 => ⟨S2x1024, .f32⟩
  | 81 => ⟨S2x1024, .f32⟩
  | 82 => ⟨S_, .f32⟩
  | 83 => ⟨S2x1024, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S_, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S2x1024, .f32⟩
  | 104 => ⟨S_, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S2x1024, .f32⟩
  | 119 => ⟨S_, .f32⟩
  | 120 => ⟨S2x1024, .f32⟩
  | 121 => ⟨S2x1024, .f32⟩
  | 122 => ⟨S_, .f32⟩
  | 123 => ⟨S2x1024, .f32⟩
  | 124 => ⟨S2x1024, .f32⟩
  | 125 => ⟨S_, .f32⟩
  | 126 => ⟨S2x1024, .f32⟩
  | 127 => ⟨S2x1024, .f32⟩
  | _ => ⟨S4x3x256, .f32⟩

abbrev hbmTy0_2 (i : Nat) : BufTy := match i % 128 with
  | 0 => ⟨S2x1024, .f32⟩
  | 1 => ⟨S_, .f32⟩
  | 2 => ⟨S2x1024, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S2x1024, .f32⟩
  | 24 => ⟨S_, .f32⟩
  | 25 => ⟨S2x1024, .f32⟩
  | 26 => ⟨S2x1024, .f32⟩
  | 27 => ⟨S_, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S2x1024, .f32⟩
  | 57 => ⟨S_, .f32⟩
  | 58 => ⟨S2x1024, .f32⟩
  | 59 => ⟨S2x1024, .f32⟩
  | 60 => ⟨S_, .f32⟩
  | 61 => ⟨S2x4x768, .f32⟩
  | 62 => ⟨S2x4x768, .f32⟩
  | 63 => ⟨S_, .f32⟩
  | 64 => ⟨S2x4x768, .f32⟩
  | 65 => ⟨S2x4x768, .f32⟩
  | 66 => ⟨S2x4x768, .f32⟩
  | 67 => ⟨S_, .f32⟩
  | 68 => ⟨S2x4x768, .f32⟩
  | 69 => ⟨S2x4x768, .f32⟩
  | 70 => ⟨S2x4x768, .f32⟩
  | 71 => ⟨S_, .f32⟩
  | 72 => ⟨S2x4x768, .f32⟩
  | 73 => ⟨S2x4x768, .f32⟩
  | 74 => ⟨S2x4x768, .f32⟩
  | 75 => ⟨S_, .f32⟩
  | 76 => ⟨S2x4x768, .f32⟩
  | 77 => ⟨S2x4x768, .f32⟩
  | 78 => ⟨S_, .f32⟩
  | 79 => ⟨S2x4x768, .f32⟩
  | 80 => ⟨S2x4x768, .f32⟩
  | 81 => ⟨S2x4x768, .f32⟩
  | 82 => ⟨S_, .f32⟩
  | 83 => ⟨S2x4x768, .f32⟩
  | 84 => ⟨S2x4x768, .f32⟩
  | 85 => ⟨S2x4x768, .f32⟩
  | 86 => ⟨S_, .f32⟩
  | 87 => ⟨S2x4x768, .f32⟩
  | 88 => ⟨S2x4x768, .f32⟩
  | 89 => ⟨S2x4x768, .f32⟩
  | 90 => ⟨S_, .f32⟩
  | 91 => ⟨S2x4x768, .f32⟩
  | 92 => ⟨S2x4x768, .f32⟩
  | 93 => ⟨S_, .f32⟩
  | 94 => ⟨S2x8, .f32⟩
  | 95 => ⟨S2x8, .f32⟩
  | 96 => ⟨S_, .f32⟩
  | 97 => ⟨S2x8, .f32⟩
  | 98 => ⟨S2x8, .f32⟩
  | 99 => ⟨S2x8, .f32⟩
  | 100 => ⟨S_, .f32⟩
  | 101 => ⟨S2x8, .f32⟩
  | 102 => ⟨S2x8, .f32⟩
  | 103 => ⟨S2x8, .f32⟩
  | 104 => ⟨S_, .f32⟩
  | 105 => ⟨S2x8, .f32⟩
  | 106 => ⟨S2x8, .f32⟩
  | 107 => ⟨S2x8, .f32⟩
  | 108 => ⟨S_, .f32⟩
  | 109 => ⟨S2x8, .f32⟩
  | 110 => ⟨S2x8, .f32⟩
  | 111 => ⟨S_, .f32⟩
  | 112 => ⟨S2x8, .f32⟩
  | 113 => ⟨S2x8, .f32⟩
  | 114 => ⟨S2x8, .f32⟩
  | 115 => ⟨S_, .f32⟩
  | 116 => ⟨S2x8, .f32⟩
  | 117 => ⟨S2x8, .f32⟩
  | 118 => ⟨S2x8, .f32⟩
  | 119 => ⟨S_, .f32⟩
  | 120 => ⟨S2x8, .f32⟩
  | 121 => ⟨S2x8, .f32⟩
  | 122 => ⟨S2x8, .f32⟩
  | 123 => ⟨S_, .f32⟩
  | 124 => ⟨S2x8, .f32⟩
  | 125 => ⟨S2x8, .f32⟩
  | 126 => ⟨S_, .f32⟩
  | 127 => ⟨S2x8, .f32⟩
  | _ => ⟨S4x3x256, .f32⟩

abbrev hbmTy0_3 (i : Nat) : BufTy := match i % 128 with
  | 0 => ⟨S2x8, .f32⟩
  | 1 => ⟨S_, .f32⟩
  | 2 => ⟨S2x8, .f32⟩
  | 3 => ⟨S2x8, .f32⟩
  | 4 => ⟨S2x8, .f32⟩
  | 5 => ⟨S_, .f32⟩
  | 6 => ⟨S2x8, .f32⟩
  | 7 => ⟨S2x8, .f32⟩
  | 8 => ⟨S2x8, .f32⟩
  | 9 => ⟨S_, .f32⟩
  | 10 => ⟨S2x8, .f32⟩
  | 11 => ⟨S2x8, .f32⟩
  | 12 => ⟨S2x8, .f32⟩
  | 13 => ⟨S_, .f32⟩
  | 14 => ⟨S2x8, .f32⟩
  | 15 => ⟨S2x8, .f32⟩
  | 16 => ⟨S_, .f32⟩
  | 17 => ⟨S2x8, .f32⟩
  | 18 => ⟨S2x8, .f32⟩
  | 19 => ⟨S2x8, .f32⟩
  | 20 => ⟨S_, .f32⟩
  | 21 => ⟨S2x8, .f32⟩
  | 22 => ⟨S2x8, .f32⟩
  | 23 => ⟨S2x8, .f32⟩
  | 24 => ⟨S_, .f32⟩
  | 25 => ⟨S2x8, .f32⟩
  | 26 => ⟨S2x8, .f32⟩
  | 27 => ⟨S2x8, .f32⟩
  | 28 => ⟨S_, .f32⟩
  | 29 => ⟨S2x8, .f32⟩
  | 30 => ⟨S2x8, .f32⟩
  | 31 => ⟨S_, .f32⟩
  | 32 => ⟨S2x128, .f32⟩
  | 33 => ⟨S2x128, .f32⟩
  | 34 => ⟨S_, .f32⟩
  | 35 => ⟨S2x128, .f32⟩
  | 36 => ⟨S2x128, .f32⟩
  | 37 => ⟨S2x128, .f32⟩
  | 38 => ⟨S_, .f32⟩
  | 39 => ⟨S2x128, .f32⟩
  | 40 => ⟨S2x128, .f32⟩
  | 41 => ⟨S2x128, .f32⟩
  | 42 => ⟨S_, .f32⟩
  | 43 => ⟨S2x128, .f32⟩
  | 44 => ⟨S2x128, .f32⟩
  | 45 => ⟨S2x128, .f32⟩
  | 46 => ⟨S_, .f32⟩
  | 47 => ⟨S2x128, .f32⟩
  | 48 => ⟨S2x128, .f32⟩
  | 49 => ⟨S_, .f32⟩
  | 50 => ⟨S2x128, .f32⟩
  | 51 => ⟨S2x128, .f32⟩
  | 52 => ⟨S2x128, .f32⟩
  | 53 => ⟨S_, .f32⟩
  | 54 => ⟨S2x128, .f32⟩
  | 55 => ⟨S2x128, .f32⟩
  | 56 => ⟨S2x128, .f32⟩
  | 57 => ⟨S_, .f32⟩
  | 58 => ⟨S2x128, .f32⟩
  | 59 => ⟨S2x128, .f32⟩
  | 60 => ⟨S2x128, .f32⟩
  | 61 => ⟨S_, .f32⟩
  | 62 => ⟨S2x128, .f32⟩
  | 63 => ⟨S2x128, .f32⟩
  | 64 => ⟨S_, .f32⟩
  | 65 => ⟨S1024, .f32⟩
  | 66 => ⟨S1024, .f32⟩
  | 67 => ⟨S_, .f32⟩
  | 68 => ⟨S1024, .f32⟩
  | 69 => ⟨S1024, .f32⟩
  | 70 => ⟨S1024, .f32⟩
  | 71 => ⟨S_, .f32⟩
  | 72 => ⟨S1024, .f32⟩
  | 73 => ⟨S1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S_, .f32⟩
  | 80 => ⟨S1024, .f32⟩
  | 81 => ⟨S1024, .f32⟩
  | 82 => ⟨S_, .f32⟩
  | 83 => ⟨S1024, .f32⟩
  | 84 => ⟨S1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S_, .f32⟩
  | 91 => ⟨S1024, .f32⟩
  | 92 => ⟨S1024, .f32⟩
  | 93 => ⟨S1024, .f32⟩
  | 94 => ⟨S_, .f32⟩
  | 95 => ⟨S1024, .f32⟩
  | 96 => ⟨S1024, .f32⟩
  | _ => ⟨S4x3x256, .f32⟩

abbrev hbmTy (i : Nat) : BufTy := match i / 128 with
  | 0 => hbmTy0_0 i
  | 1 => hbmTy0_1 i
  | 2 => hbmTy0_2 i
  | 3 => hbmTy0_3 i
  | _ => ⟨S4x3x256, .f32⟩

abbrev bufTy : (tb : Table) → Fin (tcTables nBuf tb) → BufTy
  | .hbm, ⟨i, _⟩ => hbmTy i
  | _, _ => ⟨S4x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_cst : Ref sig .tc := ⟨.hbm, 52, rfl⟩
abbrev main_v0 : Ref sig .tc := ⟨.hbm, 53, rfl⟩
abbrev main_v1 : Ref sig .tc := ⟨.hbm, 54, rfl⟩
abbrev main_cst_0 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_cst_1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst_2 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst_3 : Ref sig .tc := ⟨.hbm, 67, rfl⟩
abbrev main_v11 : Ref sig .tc := ⟨.hbm, 68, rfl⟩
abbrev main_v12 : Ref sig .tc := ⟨.hbm, 69, rfl⟩
abbrev main_cst_4 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_6 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_7 : Ref sig .tc := ⟨.hbm, 82, rfl⟩
abbrev main_v22 : Ref sig .tc := ⟨.hbm, 83, rfl⟩
abbrev main_v23 : Ref sig .tc := ⟨.hbm, 84, rfl⟩
abbrev main_cst_8 : Ref sig .tc := ⟨.hbm, 85, rfl⟩
abbrev main_v24 : Ref sig .tc := ⟨.hbm, 86, rfl⟩
abbrev main_v25 : Ref sig .tc := ⟨.hbm, 87, rfl⟩
abbrev main_cst_9 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_10 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_cst_11 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_cst_12 : Ref sig .tc := ⟨.hbm, 100, rfl⟩
abbrev main_v35 : Ref sig .tc := ⟨.hbm, 101, rfl⟩
abbrev main_v36 : Ref sig .tc := ⟨.hbm, 102, rfl⟩
abbrev main_cst_13 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_14 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_15 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_cst_16 : Ref sig .tc := ⟨.hbm, 115, rfl⟩
abbrev main_v46 : Ref sig .tc := ⟨.hbm, 116, rfl⟩
abbrev main_v47 : Ref sig .tc := ⟨.hbm, 117, rfl⟩
abbrev main_cst_17 : Ref sig .tc := ⟨.hbm, 118, rfl⟩
abbrev main_v48 : Ref sig .tc := ⟨.hbm, 119, rfl⟩
abbrev main_v49 : Ref sig .tc := ⟨.hbm, 120, rfl⟩
abbrev main_cst_18 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_19 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_cst_20 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_v59 : Ref sig .tc := ⟨.hbm, 134, rfl⟩
abbrev main_v60 : Ref sig .tc := ⟨.hbm, 135, rfl⟩
abbrev main_cst_22 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_cst_23 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_cst_24 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_cst_25 : Ref sig .tc := ⟨.hbm, 148, rfl⟩
abbrev main_v70 : Ref sig .tc := ⟨.hbm, 149, rfl⟩
abbrev main_v71 : Ref sig .tc := ⟨.hbm, 150, rfl⟩
abbrev main_cst_26 : Ref sig .tc := ⟨.hbm, 151, rfl⟩
abbrev main_v72 : Ref sig .tc := ⟨.hbm, 152, rfl⟩
abbrev main_v73 : Ref sig .tc := ⟨.hbm, 153, rfl⟩
abbrev main_cst_27 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_cst_28 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_cst_29 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_cst_30 : Ref sig .tc := ⟨.hbm, 166, rfl⟩
abbrev main_v83 : Ref sig .tc := ⟨.hbm, 167, rfl⟩
abbrev main_v84 : Ref sig .tc := ⟨.hbm, 168, rfl⟩
abbrev main_cst_31 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_32 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_cst_33 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_cst_34 : Ref sig .tc := ⟨.hbm, 181, rfl⟩
abbrev main_v94 : Ref sig .tc := ⟨.hbm, 182, rfl⟩
abbrev main_v95 : Ref sig .tc := ⟨.hbm, 183, rfl⟩
abbrev main_cst_35 : Ref sig .tc := ⟨.hbm, 184, rfl⟩
abbrev main_v96 : Ref sig .tc := ⟨.hbm, 185, rfl⟩
abbrev main_v97 : Ref sig .tc := ⟨.hbm, 186, rfl⟩
abbrev main_cst_36 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_37 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_cst_38 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_cst_39 : Ref sig .tc := ⟨.hbm, 199, rfl⟩
abbrev main_v107 : Ref sig .tc := ⟨.hbm, 200, rfl⟩
abbrev main_v108 : Ref sig .tc := ⟨.hbm, 201, rfl⟩
abbrev main_cst_40 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_cst_41 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_cst_42 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_cst_43 : Ref sig .tc := ⟨.hbm, 214, rfl⟩
abbrev main_v118 : Ref sig .tc := ⟨.hbm, 215, rfl⟩
abbrev main_v119 : Ref sig .tc := ⟨.hbm, 216, rfl⟩
abbrev main_cst_44 : Ref sig .tc := ⟨.hbm, 217, rfl⟩
abbrev main_v120 : Ref sig .tc := ⟨.hbm, 218, rfl⟩
abbrev main_v121 : Ref sig .tc := ⟨.hbm, 219, rfl⟩
abbrev main_cst_45 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_cst_46 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_cst_47 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_cst_48 : Ref sig .tc := ⟨.hbm, 232, rfl⟩
abbrev main_v131 : Ref sig .tc := ⟨.hbm, 233, rfl⟩
abbrev main_v132 : Ref sig .tc := ⟨.hbm, 234, rfl⟩
abbrev main_cst_49 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_50 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_cst_51 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_52 : Ref sig .tc := ⟨.hbm, 247, rfl⟩
abbrev main_v142 : Ref sig .tc := ⟨.hbm, 248, rfl⟩
abbrev main_v143 : Ref sig .tc := ⟨.hbm, 249, rfl⟩
abbrev main_cst_53 : Ref sig .tc := ⟨.hbm, 250, rfl⟩
abbrev main_v144 : Ref sig .tc := ⟨.hbm, 251, rfl⟩
abbrev main_v145 : Ref sig .tc := ⟨.hbm, 252, rfl⟩
abbrev main_cst_54 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_cst_55 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_cst_56 : Ref sig .tc := ⟨.hbm, 261, rfl⟩
abbrev main_v152 : Ref sig .tc := ⟨.hbm, 262, rfl⟩
abbrev main_v153 : Ref sig .tc := ⟨.hbm, 263, rfl⟩
abbrev main_v154 : Ref sig .tc := ⟨.hbm, 264, rfl⟩
abbrev main_cst_57 : Ref sig .tc := ⟨.hbm, 265, rfl⟩
abbrev main_v155 : Ref sig .tc := ⟨.hbm, 266, rfl⟩
abbrev main_v156 : Ref sig .tc := ⟨.hbm, 267, rfl⟩
abbrev main_cst_58 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_cst_59 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_cst_60 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_cst_61 : Ref sig .tc := ⟨.hbm, 280, rfl⟩
abbrev main_v166 : Ref sig .tc := ⟨.hbm, 281, rfl⟩
abbrev main_v167 : Ref sig .tc := ⟨.hbm, 282, rfl⟩
abbrev main_cst_62 : Ref sig .tc := ⟨.hbm, 283, rfl⟩
abbrev main_v168 : Ref sig .tc := ⟨.hbm, 284, rfl⟩
abbrev main_v169 : Ref sig .tc := ⟨.hbm, 285, rfl⟩
abbrev main_cst_63 : Ref sig .tc := ⟨.hbm, 286, rfl⟩
abbrev main_v170 : Ref sig .tc := ⟨.hbm, 287, rfl⟩
abbrev main_v171 : Ref sig .tc := ⟨.hbm, 288, rfl⟩
abbrev main_v172 : Ref sig .tc := ⟨.hbm, 289, rfl⟩
abbrev main_cst_64 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_cst_65 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_cst_66 : Ref sig .tc := ⟨.hbm, 298, rfl⟩
abbrev main_v179 : Ref sig .tc := ⟨.hbm, 299, rfl⟩
abbrev main_v180 : Ref sig .tc := ⟨.hbm, 300, rfl⟩
abbrev main_cst_67 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_68 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_cst_69 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_cst_70 : Ref sig .tc := ⟨.hbm, 313, rfl⟩
abbrev main_v190 : Ref sig .tc := ⟨.hbm, 314, rfl⟩
abbrev main_v191 : Ref sig .tc := ⟨.hbm, 315, rfl⟩
abbrev main_cst_71 : Ref sig .tc := ⟨.hbm, 316, rfl⟩
abbrev main_v192 : Ref sig .tc := ⟨.hbm, 317, rfl⟩
abbrev main_v193 : Ref sig .tc := ⟨.hbm, 318, rfl⟩
abbrev main_cst_72 : Ref sig .tc := ⟨.hbm, 319, rfl⟩
abbrev main_v194 : Ref sig .tc := ⟨.hbm, 320, rfl⟩
abbrev main_v195 : Ref sig .tc := ⟨.hbm, 321, rfl⟩
abbrev main_v196 : Ref sig .tc := ⟨.hbm, 322, rfl⟩
abbrev main_cst_73 : Ref sig .tc := ⟨.hbm, 323, rfl⟩
abbrev main_v197 : Ref sig .tc := ⟨.hbm, 324, rfl⟩
abbrev main_v198 : Ref sig .tc := ⟨.hbm, 325, rfl⟩
abbrev main_v199 : Ref sig .tc := ⟨.hbm, 326, rfl⟩
abbrev main_cst_74 : Ref sig .tc := ⟨.hbm, 327, rfl⟩
abbrev main_v200 : Ref sig .tc := ⟨.hbm, 328, rfl⟩
abbrev main_v201 : Ref sig .tc := ⟨.hbm, 329, rfl⟩
abbrev main_v202 : Ref sig .tc := ⟨.hbm, 330, rfl⟩
abbrev main_cst_75 : Ref sig .tc := ⟨.hbm, 331, rfl⟩
abbrev main_v203 : Ref sig .tc := ⟨.hbm, 332, rfl⟩
abbrev main_v204 : Ref sig .tc := ⟨.hbm, 333, rfl⟩
abbrev main_cst_76 : Ref sig .tc := ⟨.hbm, 334, rfl⟩
abbrev main_v205 : Ref sig .tc := ⟨.hbm, 335, rfl⟩
abbrev main_v206 : Ref sig .tc := ⟨.hbm, 336, rfl⟩
abbrev main_v207 : Ref sig .tc := ⟨.hbm, 337, rfl⟩
abbrev main_cst_77 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_78 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_cst_79 : Ref sig .tc := ⟨.hbm, 346, rfl⟩
abbrev main_v214 : Ref sig .tc := ⟨.hbm, 347, rfl⟩
abbrev main_v215 : Ref sig .tc := ⟨.hbm, 348, rfl⟩
abbrev main_cst_80 : Ref sig .tc := ⟨.hbm, 349, rfl⟩
abbrev main_v216 : Ref sig .tc := ⟨.hbm, 350, rfl⟩
abbrev main_v217 : Ref sig .tc := ⟨.hbm, 351, rfl⟩
abbrev main_cst_81 : Ref sig .tc := ⟨.hbm, 352, rfl⟩
abbrev main_v218 : Ref sig .tc := ⟨.hbm, 353, rfl⟩
abbrev main_v219 : Ref sig .tc := ⟨.hbm, 354, rfl⟩
abbrev main_v220 : Ref sig .tc := ⟨.hbm, 355, rfl⟩
abbrev main_cst_82 : Ref sig .tc := ⟨.hbm, 356, rfl⟩
abbrev main_v221 : Ref sig .tc := ⟨.hbm, 357, rfl⟩
abbrev main_v222 : Ref sig .tc := ⟨.hbm, 358, rfl⟩
abbrev main_v223 : Ref sig .tc := ⟨.hbm, 359, rfl⟩
abbrev main_cst_83 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_cst_84 : Ref sig .tc := ⟨.hbm, 364, rfl⟩
abbrev main_v227 : Ref sig .tc := ⟨.hbm, 365, rfl⟩
abbrev main_v228 : Ref sig .tc := ⟨.hbm, 366, rfl⟩
abbrev main_cst_85 : Ref sig .tc := ⟨.hbm, 367, rfl⟩
abbrev main_v229 : Ref sig .tc := ⟨.hbm, 368, rfl⟩
abbrev main_v230 : Ref sig .tc := ⟨.hbm, 369, rfl⟩
abbrev main_v231 : Ref sig .tc := ⟨.hbm, 370, rfl⟩
abbrev main_cst_86 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_cst_87 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_cst_88 : Ref sig .tc := ⟨.hbm, 379, rfl⟩
abbrev main_v238 : Ref sig .tc := ⟨.hbm, 380, rfl⟩
abbrev main_v239 : Ref sig .tc := ⟨.hbm, 381, rfl⟩
abbrev main_cst_89 : Ref sig .tc := ⟨.hbm, 382, rfl⟩
abbrev main_v240 : Ref sig .tc := ⟨.hbm, 383, rfl⟩
abbrev main_v241 : Ref sig .tc := ⟨.hbm, 384, rfl⟩
abbrev main_cst_90 : Ref sig .tc := ⟨.hbm, 385, rfl⟩
abbrev main_v242 : Ref sig .tc := ⟨.hbm, 386, rfl⟩
abbrev main_v243 : Ref sig .tc := ⟨.hbm, 387, rfl⟩
abbrev main_v244 : Ref sig .tc := ⟨.hbm, 388, rfl⟩
abbrev main_cst_91 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_cst_92 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_cst_93 : Ref sig .tc := ⟨.hbm, 397, rfl⟩
abbrev main_v251 : Ref sig .tc := ⟨.hbm, 398, rfl⟩
abbrev main_v252 : Ref sig .tc := ⟨.hbm, 399, rfl⟩
abbrev main_cst_94 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_cst_95 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_cst_96 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_97 : Ref sig .tc := ⟨.hbm, 412, rfl⟩
abbrev main_v262 : Ref sig .tc := ⟨.hbm, 413, rfl⟩
abbrev main_v263 : Ref sig .tc := ⟨.hbm, 414, rfl⟩
abbrev main_cst_98 : Ref sig .tc := ⟨.hbm, 415, rfl⟩
abbrev main_v264 : Ref sig .tc := ⟨.hbm, 416, rfl⟩
abbrev main_v265 : Ref sig .tc := ⟨.hbm, 417, rfl⟩
abbrev main_cst_99 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_cst_100 : Ref sig .tc := ⟨.hbm, 422, rfl⟩
abbrev main_v269 : Ref sig .tc := ⟨.hbm, 423, rfl⟩
abbrev main_v270 : Ref sig .tc := ⟨.hbm, 424, rfl⟩
abbrev main_v271 : Ref sig .tc := ⟨.hbm, 425, rfl⟩
abbrev main_cst_101 : Ref sig .tc := ⟨.hbm, 426, rfl⟩
abbrev main_v272 : Ref sig .tc := ⟨.hbm, 427, rfl⟩
abbrev main_v273 : Ref sig .tc := ⟨.hbm, 428, rfl⟩
abbrev main_v274 : Ref sig .tc := ⟨.hbm, 429, rfl⟩
abbrev main_cst_102 : Ref sig .tc := ⟨.hbm, 430, rfl⟩
abbrev main_v275 : Ref sig .tc := ⟨.hbm, 431, rfl⟩
abbrev main_v276 : Ref sig .tc := ⟨.hbm, 432, rfl⟩
abbrev main_cst_103 : Ref sig .tc := ⟨.hbm, 433, rfl⟩
abbrev main_v277 : Ref sig .tc := ⟨.hbm, 434, rfl⟩
abbrev main_v278 : Ref sig .tc := ⟨.hbm, 435, rfl⟩
abbrev main_v279 : Ref sig .tc := ⟨.hbm, 436, rfl⟩
abbrev main_cst_104 : Ref sig .tc := ⟨.hbm, 437, rfl⟩
abbrev main_v280 : Ref sig .tc := ⟨.hbm, 438, rfl⟩
abbrev main_v281 : Ref sig .tc := ⟨.hbm, 439, rfl⟩
abbrev main_v282 : Ref sig .tc := ⟨.hbm, 440, rfl⟩
abbrev main_cst_105 : Ref sig .tc := ⟨.hbm, 441, rfl⟩
abbrev main_v283 : Ref sig .tc := ⟨.hbm, 442, rfl⟩
abbrev main_v284 : Ref sig .tc := ⟨.hbm, 443, rfl⟩
abbrev main_v285 : Ref sig .tc := ⟨.hbm, 444, rfl⟩
abbrev main_cst_106 : Ref sig .tc := ⟨.hbm, 445, rfl⟩
abbrev main_v286 : Ref sig .tc := ⟨.hbm, 446, rfl⟩
abbrev main_v287 : Ref sig .tc := ⟨.hbm, 447, rfl⟩
abbrev main_cst_107 : Ref sig .tc := ⟨.hbm, 448, rfl⟩
abbrev main_v288 : Ref sig .tc := ⟨.hbm, 449, rfl⟩
abbrev main_v289 : Ref sig .tc := ⟨.hbm, 450, rfl⟩
abbrev main_cst_108 : Ref sig .tc := ⟨.hbm, 451, rfl⟩
abbrev main_v290 : Ref sig .tc := ⟨.hbm, 452, rfl⟩
abbrev main_v291 : Ref sig .tc := ⟨.hbm, 453, rfl⟩
abbrev main_v292 : Ref sig .tc := ⟨.hbm, 454, rfl⟩
abbrev main_cst_109 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_cst_110 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_111 : Ref sig .tc := ⟨.hbm, 463, rfl⟩
abbrev main_v299 : Ref sig .tc := ⟨.hbm, 464, rfl⟩
abbrev main_v300 : Ref sig .tc := ⟨.hbm, 465, rfl⟩
abbrev main_cst_112 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_cst_113 : Ref sig .tc := ⟨.hbm, 470, rfl⟩
abbrev main_v304 : Ref sig .tc := ⟨.hbm, 471, rfl⟩
abbrev main_v305 : Ref sig .tc := ⟨.hbm, 472, rfl⟩
abbrev main_v306 : Ref sig .tc := ⟨.hbm, 473, rfl⟩
abbrev main_cst_114 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_cst_115 : Ref sig .tc := ⟨.hbm, 478, rfl⟩
abbrev main_v310 : Ref sig .tc := ⟨.hbm, 479, rfl⟩
abbrev main_v311 : Ref sig .tc := ⟨.hbm, 480, rfl⟩

abbrev nD : Nat := 1
abbrev τ : Topo := Topo.v7x

variable {F : FTy → Type} [FloatOps F]
-- ==== Sums.lean ====
abbrev S8x4x3x1024 : Shape := ⟨4, ![8, 4, 3, 1024]⟩
abbrev S8x2x2048 : Shape := ⟨3, ![8, 2, 2048]⟩
abbrev S8x2x31x1024 : Shape := ⟨4, ![8, 2, 31, 1024]⟩
abbrev S8x2x1024 : Shape := ⟨3, ![8, 2, 1024]⟩
abbrev S8x2x4x3072 : Shape := ⟨4, ![8, 2, 4, 3072]⟩
abbrev S8x2x8 : Shape := ⟨3, ![8, 2, 8]⟩
abbrev S8x2x128 : Shape := ⟨3, ![8, 2, 128]⟩
abbrev S8x1024 : Shape := ⟨2, ![8, 1024]⟩
abbrev S8x1 : Shape := ⟨2, ![8, 1]⟩
abbrev S8x4x2x9216 : Shape := ⟨4, ![8, 4, 2, 9216]⟩
abbrev S8x12288 : Shape := ⟨2, ![8, 12288]⟩
abbrev S8x4096 : Shape := ⟨2, ![8, 4096]⟩
abbrev S8x63488 : Shape := ⟨2, ![8, 63488]⟩
abbrev S8x2048 : Shape := ⟨2, ![8, 2048]⟩
abbrev S8x24576 : Shape := ⟨2, ![8, 24576]⟩
abbrev S8x16 : Shape := ⟨2, ![8, 16]⟩
abbrev S8x256 : Shape := ⟨2, ![8, 256]⟩
abbrev S8x73728 : Shape := ⟨2, ![8, 73728]⟩
abbrev S8x187681 : Shape := ⟨2, ![8, 187681]⟩
abbrev S_ : Shape := ⟨0, ![]⟩
abbrev S8x188416 : Shape := ⟨2, ![8, 188416]⟩
abbrev S8x1472x128 : Shape := ⟨3, ![8, 1472, 128]⟩
abbrev S1472x128 : Shape := ⟨2, ![1472, 128]⟩
abbrev S1x1472x128 : Shape := ⟨3, ![1, 1472, 128]⟩
abbrev S188416 : Shape := ⟨1, ![188416]⟩
abbrev S12288 : Shape := ⟨1, ![12288]⟩
abbrev S4x3x1024 : Shape := ⟨3, ![4, 3, 1024]⟩
abbrev S4096 : Shape := ⟨1, ![4096]⟩
abbrev S2x2048 : Shape := ⟨2, ![2, 2048]⟩
abbrev S63488 : Shape := ⟨1, ![63488]⟩
abbrev S2x31x1024 : Shape := ⟨3, ![2, 31, 1024]⟩
abbrev S2048 : Shape := ⟨1, ![2048]⟩
abbrev S2x1024 : Shape := ⟨2, ![2, 1024]⟩
abbrev S24576 : Shape := ⟨1, ![24576]⟩
abbrev S2x4x3072 : Shape := ⟨3, ![2, 4, 3072]⟩
abbrev S16 : Shape := ⟨1, ![16]⟩
abbrev S2x8 : Shape := ⟨2, ![2, 8]⟩
abbrev S256 : Shape := ⟨1, ![256]⟩
abbrev S2x128 : Shape := ⟨2, ![2, 128]⟩
abbrev S1024 : Shape := ⟨1, ![1024]⟩
abbrev S1 : Shape := ⟨1, ![1]⟩

abbrev nBuf : Space → Nat
  | .hbm => 57
  | .vmem => 2
  | .smem => 0
  | _ => 0

abbrev bufTy : (tb : Table) → Fin (tcTables nBuf tb) → BufTy
  | .hbm, ⟨0, _⟩ => ⟨S8x4x3x1024, .f32⟩
  | .hbm, ⟨1, _⟩ => ⟨S8x2x2048, .f32⟩
  | .hbm, ⟨2, _⟩ => ⟨S8x2x31x1024, .f32⟩
  | .hbm, ⟨3, _⟩ => ⟨S8x2x1024, .f32⟩
  | .hbm, ⟨4, _⟩ => ⟨S8x2x1024, .f32⟩
  | .hbm, ⟨5, _⟩ => ⟨S8x2x1024, .f32⟩
  | .hbm, ⟨6, _⟩ => ⟨S8x2x1024, .f32⟩
  | .hbm, ⟨7, _⟩ => ⟨S8x2x4x3072, .f32⟩
  | .hbm, ⟨8, _⟩ => ⟨S8x2x8, .f32⟩
  | .hbm, ⟨9, _⟩ => ⟨S8x2x8, .f32⟩
  | .hbm, ⟨10, _⟩ => ⟨S8x2x128, .f32⟩
  | .hbm, ⟨11, _⟩ => ⟨S8x1024, .f32⟩
  | .hbm, ⟨12, _⟩ => ⟨S8x1, .f32⟩
  | .hbm, ⟨13, _⟩ => ⟨S8x4x2x9216, .f32⟩
  | .hbm, ⟨14, _⟩ => ⟨S8x12288, .f32⟩
  | .hbm, ⟨15, _⟩ => ⟨S8x4096, .f32⟩
  | .hbm, ⟨16, _⟩ => ⟨S8x63488, .f32⟩
  | .hbm, ⟨17, _⟩ => ⟨S8x2048, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S8x24576, .f32⟩
  | .hbm, ⟨22, _⟩ => ⟨S8x16, .f32⟩
  | .hbm, ⟨23, _⟩ => ⟨S8x16, .f32⟩
  | .hbm, ⟨24, _⟩ => ⟨S8x256, .f32⟩
  | .hbm, ⟨25, _⟩ => ⟨S8x73728, .f32⟩
  | .hbm, ⟨26, _⟩ => ⟨S8x187681, .f32⟩
  | .hbm, ⟨27, _⟩ => ⟨S_, .i32⟩
  | .hbm, ⟨28, _⟩ => ⟨S_, .f32⟩
  | .hbm, ⟨29, _⟩ => ⟨S8x188416, .f32⟩
  | .hbm, ⟨30, _⟩ => ⟨S8x1472x128, .f32⟩
  | .hbm, ⟨31, _⟩ => ⟨S1472x128, .f32⟩
  | .hbm, ⟨32, _⟩ => ⟨S188416, .f32⟩
  | .hbm, ⟨33, _⟩ => ⟨S12288, .f32⟩
  | .hbm, ⟨34, _⟩ => ⟨S4x3x1024, .f32⟩
  | .hbm, ⟨35, _⟩ => ⟨S4096, .f32⟩
  | .hbm, ⟨36, _⟩ => ⟨S2x2048, .f32⟩
  | .hbm, ⟨37, _⟩ => ⟨S63488, .f32⟩
  | .hbm, ⟨38, _⟩ => ⟨S2x31x1024, .f32⟩
  | .hbm, ⟨39, _⟩ => ⟨S2048, .f32⟩
  | .hbm, ⟨40, _⟩ => ⟨S2x1024, .f32⟩
  | .hbm, ⟨41, _⟩ => ⟨S2048, .f32⟩
  | .hbm, ⟨42, _⟩ => ⟨S2x1024, .f32⟩
  | .hbm, ⟨43, _⟩ => ⟨S2048, .f32⟩
  | .hbm, ⟨44, _⟩ => ⟨S2x1024, .f32⟩
  | .hbm, ⟨45, _⟩ => ⟨S2048, .f32⟩
  | .hbm, ⟨46, _⟩ => ⟨S2x1024, .f32⟩
  | .hbm, ⟨47, _⟩ => ⟨S24576, .f32⟩
  | .hbm, ⟨48, _⟩ => ⟨S2x4x3072, .f32⟩
  | .hbm, ⟨49, _⟩ => ⟨S16, .f32⟩
  | .hbm, ⟨50, _⟩ => ⟨S2x8, .f32⟩
  | .hbm, ⟨51, _⟩ => ⟨S16, .f32⟩
  | .hbm, ⟨52, _⟩ => ⟨S2x8, .f32⟩
  | .hbm, ⟨53, _⟩ => ⟨S256, .f32⟩
  | .hbm, ⟨54, _⟩ => ⟨S2x128, .f32⟩
  | .hbm, ⟨55, _⟩ => ⟨S1024, .f32⟩
  | .hbm, ⟨56, _⟩ => ⟨S1, .f32⟩
  | .local _ .vmem, ⟨0, _⟩ => ⟨S8x1472x128, .f32⟩
  | .local _ .vmem, ⟨1, _⟩ => ⟨S1472x128, .f32⟩
  | _, _ => ⟨S8x4x3x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1472x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1472x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumsRefIdeal.lean ====
abbrev S8x4x3x1024 : Shape := ⟨4, ![8, 4, 3, 1024]⟩
abbrev S8x2x2048 : Shape := ⟨3, ![8, 2, 2048]⟩
abbrev S8x2x31x1024 : Shape := ⟨4, ![8, 2, 31, 1024]⟩
abbrev S8x2x1024 : Shape := ⟨3, ![8, 2, 1024]⟩
abbrev S8x2x4x3072 : Shape := ⟨4, ![8, 2, 4, 3072]⟩
abbrev S8x2x8 : Shape := ⟨3, ![8, 2, 8]⟩
abbrev S8x2x128 : Shape := ⟨3, ![8, 2, 128]⟩
abbrev S8x1024 : Shape := ⟨2, ![8, 1024]⟩
abbrev S8x1 : Shape := ⟨2, ![8, 1]⟩
abbrev S8x4x2x9216 : Shape := ⟨4, ![8, 4, 2, 9216]⟩
abbrev S_ : Shape := ⟨0, ![]⟩
abbrev S4x3x1024 : Shape := ⟨3, ![4, 3, 1024]⟩
abbrev S2x2048 : Shape := ⟨2, ![2, 2048]⟩
abbrev S2x31x1024 : Shape := ⟨3, ![2, 31, 1024]⟩
abbrev S2x1024 : Shape := ⟨2, ![2, 1024]⟩
abbrev S2x4x3072 : Shape := ⟨3, ![2, 4, 3072]⟩
abbrev S2x8 : Shape := ⟨2, ![2, 8]⟩
abbrev S2x128 : Shape := ⟨2, ![2, 128]⟩
abbrev S1024 : Shape := ⟨1, ![1024]⟩
abbrev S1 : Shape := ⟨1, ![1]⟩

abbrev nBuf : Space → Nat
  | .hbm => 40
  | .vmem => 0
  | .smem => 0
  | _ => 0

abbrev bufTy : (tb : Table) → Fin (tcTables nBuf tb) → BufTy
  | .hbm, ⟨0, _⟩ => ⟨S8x4x3x1024, .f32⟩
  | .hbm, ⟨1, _⟩ => ⟨S8x2x2048, .f32⟩
  | .hbm, ⟨2, _⟩ => ⟨S8x2x31x1024, .f32⟩
  | .hbm, ⟨3, _⟩ => ⟨S8x2x1024, .f32⟩
  | .hbm, ⟨4, _⟩ => ⟨S8x2x1024, .f32⟩
  | .hbm, ⟨5, _⟩ => ⟨S8x2x1024, .f32⟩
  | .hbm, ⟨6, _⟩ => ⟨S8x2x1024, .f32⟩
  | .hbm, ⟨7, _⟩ => ⟨S8x2x4x3072, .f32⟩
  | .hbm, ⟨8, _⟩ => ⟨S8x2x8, .f32⟩
  | .hbm, ⟨9, _⟩ => ⟨S8x2x8, .f32⟩
  | .hbm, ⟨10, _⟩ => ⟨S8x2x128, .f32⟩
  | .hbm, ⟨11, _⟩ => ⟨S8x1024, .f32⟩
  | .hbm, ⟨12, _⟩ => ⟨S8x1, .f32⟩
  | .hbm, ⟨13, _⟩ => ⟨S8x4x2x9216, .f32⟩
  | .hbm, ⟨14, _⟩ => ⟨S_, .f32⟩
  | .hbm, ⟨15, _⟩ => ⟨S4x3x1024, .f32⟩
  | .hbm, ⟨16, _⟩ => ⟨S_, .f32⟩
  | .hbm, ⟨17, _⟩ => ⟨S2x2048, .f32⟩
  | .hbm, ⟨18, _⟩ => ⟨S_, .f32⟩
  | .hbm, ⟨19, _⟩ => ⟨S2x31x1024, .f32⟩
  | .hbm, ⟨20, _⟩ => ⟨S_, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S_, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S_, .f32⟩
  | .hbm, ⟨29, _⟩ => ⟨S2x4x3072, .f32⟩
  | .hbm, ⟨30, _⟩ => ⟨S_, .f32⟩
  | .hbm, ⟨31, _⟩ => ⟨S2x8, .f32⟩
  | .hbm, ⟨32, _⟩ => ⟨S_, .f32⟩
  | .hbm, ⟨33, _⟩ => ⟨S2x8, .f32⟩
  | .hbm, ⟨34, _⟩ => ⟨S_, .f32⟩
  | .hbm, ⟨35, _⟩ => ⟨S2x128, .f32⟩
  | .hbm, ⟨36, _⟩ => ⟨S_, .f32⟩
  | .hbm, ⟨37, _⟩ => ⟨S1024, .f32⟩
  | .hbm, ⟨38, _⟩ => ⟨S_, .f32⟩
  | .hbm, ⟨39, _⟩ => ⟨S1, .f32⟩
  | _, _ => ⟨S8x4x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_cst_2 : Ref sig .tc := ⟨.hbm, 20, rfl⟩
abbrev main_v3 : Ref sig .tc := ⟨.hbm, 21, rfl⟩
abbrev main_cst_3 : Ref sig .tc := ⟨.hbm, 22, rfl⟩
abbrev main_v4 : Ref sig .tc := ⟨.hbm, 23, rfl⟩
abbrev main_cst_4 : Ref sig .tc := ⟨.hbm, 24, rfl⟩
abbrev main_v5 : Ref sig .tc := ⟨.hbm, 25, rfl⟩
abbrev main_cst_5 : Ref sig .tc := ⟨.hbm, 26, rfl⟩
abbrev main_v6 : Ref sig .tc := ⟨.hbm, 27, rfl⟩
abbrev main_cst_6 : Ref sig .tc := ⟨.hbm, 28, rfl⟩
abbrev main_v7 : Ref sig .tc := ⟨.hbm, 29, rfl⟩
abbrev main_cst_7 : Ref sig .tc := ⟨.hbm, 30, rfl⟩
abbrev main_v8 : Ref sig .tc := ⟨.hbm, 31, rfl⟩
abbrev main_cst_8 : Ref sig .tc := ⟨.hbm, 32, rfl⟩
abbrev main_v9 : Ref sig .tc := ⟨.hbm, 33, rfl⟩
abbrev main_cst_9 : Ref sig .tc := ⟨.hbm, 34, rfl⟩
abbrev main_v10 : Ref sig .tc := ⟨.hbm, 35, rfl⟩
abbrev main_cst_10 : Ref sig .tc := ⟨.hbm, 36, rfl⟩
abbrev main_v11 : Ref sig .tc := ⟨.hbm, 37, rfl⟩
abbrev main_cst_11 : Ref sig .tc := ⟨.hbm, 38, rfl⟩
abbrev main_v12 : Ref sig .tc := ⟨.hbm, 39, rfl⟩

abbrev nD : Nat := 1
abbrev τ : Topo := Topo.v7x

variable {F : FTy → Type} [FloatOps F]
-- ==== Proof.BwdVal.lean ====
module

public import proofs.«01_k».proof.Proof.Gen.KernelIdeal.Frame
public import proofs.«01_k».proof.Proof.Gen.KernelIdeal.Skeleton

@[expose] public section

set_option maxRecDepth 8192
set_option maxHeartbeats 4000000

/-! # What one chunk, one grid step and the scratch hold

`Blk` is the eight blocks a grid step reads, `Chk` one chunk of them. `Chk.dq … Chk.dS` are what a trip computes from a
chunk and from the running gradient `d` of the state; `Blk.sc` is the running gradient before trip `k` and `Blk.out…` the
blocks of the five gradients that the grid step leaves. `trip_…` say that the run of a trip finds these values. -/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The eight blocks of a grid step. -/
structure Blk (F : FTy → Type) [FloatOps F] where
  (q k v g b : Vec F S1x8x256x128 .f32)
  s : Vec F S1x4x8x128x128 .f32
  w : Vec F S1x4x8x64x64 .f32
  o : Vec F S1x8x256x128 .f32

/-- One chunk of them: queries, keys, values, decays, write rates, the state before the chunk, the inverse, the
output's gradient. -/
structure Chk (F : FTy → Type) [FloatOps F] where
  (q k v g b : Vec F S1x8x64x128 .f32)
  s : Vec F S1x1x8x128x128 .f32
  w : Vec F S1x1x8x64x64 .f32
  o : Vec F S1x8x64x128 .f32

/-- The rows of a chunk in a block. -/
abbrev rect2 (k : Fin k0_t1_loop.trips) : Rect S1x8x256x128 := Rect.unit (s := S1x8x256x128) (k0_off2 k) S1x8x64x128.size (k0_off2_inb k)
abbrev rect3 (k : Fin k0_t1_loop.trips) : Rect S1x4x8x128x128 := Rect.unit (s := S1x4x8x128x128) (k0_off3 k) S1x1x8x128x128.size (k0_off3_inb k)
abbrev rect1 (k : Fin k0_t1_loop.trips) : Rect S1x4x8x64x64 := Rect.unit (s := S1x4x8x64x64) (k0_off1 k) S1x1x8x64x64.size (k0_off1_inb k)

/-- The chunk that trip `k` reads. -/
def Blk.chk (X : Blk F) (k : Fin k0_t1_loop.trips) : Chk F where
  q := View.ld X.q (rect2 k)
  k := View.ld X.k (rect2 k)
  v := View.ld X.v (rect2 k)
  g := View.ld X.g (rect2 k)
  b := View.ld X.b (rect2 k)
  s := View.ld X.s (rect3 k)
  w := View.ld X.w (rect1 k)
  o := View.ld X.o (rect2 k)

/-! ## The values of a trip, in the kernel's order -/

def Chk.v9 (C : Chk F) : FVec F S8x64x64 .f32 := k0_pay4 C.w
def Chk.v12 (C : Chk F) : FVec F S8x64x128 .f32 := k0_pay5 C.q
def Chk.v15 (C : Chk F) : FVec F S8x64x128 .f32 := k0_pay6 C.k
def Chk.v18 (C : Chk F) : FVec F S8x64x128 .f32 := k0_pay7 C.v
def Chk.v21 (C : Chk F) : FVec F S8x64x128 .f32 := k0_pay8 C.g
def Chk.v24 (C : Chk F) : FVec F S8x64x128 .f32 := k0_pay9 C.b
def Chk.v27 (C : Chk F) : FVec F S8x128x128 .f32 := k0_pay10 C.s
def Chk.v33 (C : Chk F) : FVec F S8x64x1 .f32 := k0_pay12 C.q
def Chk.v34 (C : Chk F) : FVec F S8x64x1 .f32 := k0_pay13 C.q
def Chk.v36 (C : Chk F) : FVec F S8x64x1 .f32 := k0_pay14 (C.v34) (Scalar.ofBits .f32 0xBF000000#32)
def Chk.v40 (C : Chk F) : FVec F S8x64x128 .f32 := k0_pay15 (C.v12) (C.v33)
def Chk.v46 (C : Chk F) : FVec F S8x64x1 .f32 := k0_pay17 (C.v15)
def Chk.v49 (C : Chk F) : FVec F S8x64x1 .f32 := k0_pay18 (C.v15)
def Chk.v51 (C : Chk F) : FVec F S8x64x128 .f32 := k0_pay19 (C.v15)
def v54c : IVec S8x64x64 1 := k0_pay20
def v55c : IVec S8x64x64 1 := k0_pay21
def v57c : FVec F S8x64x64 .f32 := k0_pay22 (F := F)
def Chk.v58 (C : Chk F) : FVec F S8x64x128 .f32 := k0_pay23 (C.v21)
def v59c : FVec F S8x64x128 .f32 := k0_pay24 (F := F)
def Chk.v65 (C : Chk F) : FVec F S8x64x64 .f32 := k0_pay25 (C.v21)
def Chk.v67 (C : Chk F) : FVec F S8x64x64 .f32 := k0_pay26 (C.v21)
def Chk.v68 (C : Chk F) : FVec F S8x64x128 .f32 := k0_pay27 (C.v15) (C.v24)
def Chk.v69 (C : Chk F) : FVec F S8x64x128 .f32 := k0_pay28 (C.v18) (C.v24)
def Chk.v72 (C : Chk F) : FVec F S8x64x64 .f32 := k0_pay29 (C.v15) (C.v24)
def Chk.v73 (C : Chk F) : FVec F S8x64x128 .f32 := k0_pay30 (C.v21)
def Chk.v76 (C : Chk F) : FVec F S8x64x128 .f32 := k0_pay31 (C.v9) (C.v18) (C.v24)
def Chk.v77 (C : Chk F) : FVec F S8x64x128 .f32 := k0_pay32 (C.v15) (C.v21) (C.v24)
def Chk.v80 (C : Chk F) : FVec F S8x64x128 .f32 := k0_pay33 (C.v9) (C.v15) (C.v21) (C.v24)
def Chk.v81 (C : Chk F) : FVec F S8x64x128 .f32 := k0_pay34 (C.v12) (C.v21) (C.v33)
def Chk.v84 (C : Chk F) : FVec F S8x64x64 .f32 := k0_pay35 (C.v40) (C.v51)
def v86c : FVec F S8x64x64 .f32 := k0_pay36 (F := F)
def Chk.v89 (C : Chk F) : FVec F S8x64x128 .f32 := k0_pay38 (C.v21) (C.v58)
def Chk.v105 (C : Chk F) (d : Vec F S8x128x128 .f32) : FVec F S8x64x128 .f32 := k0_pay44 (C.v27) (C.v76) (C.v80) d
def Chk.v110 (C : Chk F) (d : Vec F S8x128x128 .f32) : FVec F S8x128x128 .f32 := k0_pay45 (C.v21) d
def Chk.v114 (C : Chk F) (d : Vec F S8x128x128 .f32) : FVec F S8x64x128 .f32 := k0_pay46 (C.v21) (C.v27) d
def Chk.v115 (C : Chk F) : FVec F S8x64x128 .f32 := k0_pay47 C.o
def Chk.v119 (C : Chk F) : FVec F S8x64x64 .f32 := k0_pay49 (C.v27) (C.v76) (C.v80) C.o
def Chk.v123 (C : Chk F) (d : Vec F S8x128x128 .f32) : FVec F S8x64x128 .f32 := k0_pay50 (C.v21) (C.v40) (C.v51) (C.v58) (C.v67) C.o d
def Chk.v126 (C : Chk F) : FVec F S8x64x128 .f32 := k0_pay51 (C.v27) C.o
def Chk.v139 (C : Chk F) (d : Vec F S8x128x128 .f32) : FVec F S8x128x128 .f32 := k0_pay54 (C.v80) (C.v81) (C.v110 d) (C.v115) (C.v123 d)
def Chk.v144 (C : Chk F) (d : Vec F S8x128x128 .f32) : FVec F S8x64x128 .f32 := k0_pay56 (C.v51) (C.v89) (C.v105 d)
def Chk.v147 (C : Chk F) (d : Vec F S8x128x128 .f32) : FVec F S8x64x128 .f32 := k0_pay57 (C.v51) (v86c (F := F)) (C.v89) (C.v105 d) (C.v114 d)
def Chk.v148 (C : Chk F) : FVec F S8x64x64 .f32 := k0_pay58 (C.v84) (C.v119)
def Chk.v156 (C : Chk F) (d : Vec F S8x128x128 .f32) : FVec F S8x64x128 .f32 := k0_pay60 (C.v40) (C.v67) (C.v89) (C.v105 d) (C.v119)
def Chk.v159 (C : Chk F) : FVec F S8x64x128 .f32 := k0_pay61 (C.v51) (C.v67) (C.v73) (C.v119) (C.v126)
def Chk.v162 (C : Chk F) (d : Vec F S8x128x128 .f32) : FVec F S8x64x64 .f32 := k0_pay62 (C.v27) (C.v77) (C.v123 d)
def Chk.v167 (C : Chk F) (d : Vec F S8x128x128 .f32) : FVec F S8x64x128 .f32 := k0_pay64 (C.v9) (C.v27) (C.v40) (C.v68) (C.v123 d) (C.v126)
def Chk.v168 (C : Chk F) (d : Vec F S8x128x128 .f32) : FVec F S8x64x128 .f32 := k0_pay65 (C.v9) (C.v27) (C.v73) (C.v123 d)
def Chk.v171 (C : Chk F) (d : Vec F S8x128x128 .f32) : FVec F S8x64x64 .f32 := k0_pay66 (C.v69) (C.v123 d)
def Chk.v174 (C : Chk F) (d : Vec F S8x128x128 .f32) : FVec F S8x64x128 .f32 := k0_pay67 (C.v9) (C.v123 d)
def Chk.v196 (C : Chk F) (d : Vec F S8x128x128 .f32) : FVec F S8x64x128 .f32 := k0_pay71 (C.v24) (C.v174 d)
def Chk.v198 (C : Chk F) (d : Vec F S8x128x128 .f32) : FVec F S8x64x128 .f32 := k0_pay72 (C.v9) (C.v18) (C.v51) v55c (C.v67) (C.v162 d) (C.v168 d) (C.v171 d) (C.v174 d)
def Chk.v214 (C : Chk F) (d : Vec F S8x128x128 .f32) : FVec F S8x64x128 .f32 := k0_pay74 (C.v9) v54c v55c (v57c (F := F)) (v59c (F := F)) (C.v65) (C.v72) (C.v73) (C.v144 d) (C.v147 d) (C.v148) (C.v162 d) (C.v167 d) (C.v171 d)
def Chk.v219 (C : Chk F) (d : Vec F S8x128x128 .f32) : FVec F S8x64x128 .f32 := k0_pay75 (C.v9) (C.v24) (C.v46) (C.v51) v55c (C.v67) (C.v68) (C.v156 d) (C.v162 d) (C.v168 d) (C.v171 d)
def Chk.v220 (C : Chk F) (d : Vec F S8x128x128 .f32) : FVec F S8x64x1 .f32 := k0_pay76 (C.v9) (C.v15) (C.v24) (C.v49) (C.v51) v55c (C.v67) (C.v68) (C.v156 d) (C.v162 d) (C.v168 d) (C.v171 d)
def Chk.dq (C : Chk F) : FVec F S1x8x64x128 .f32 := k0_pay77 (C.v12) (C.v33) (C.v36) (C.v159)
def Chk.dk (C : Chk F) (d : Vec F S8x128x128 .f32) : FVec F S1x8x64x128 .f32 := k0_pay78 (C.v15) (C.v219 d) (C.v220 d)
def Chk.dv (C : Chk F) (d : Vec F S8x128x128 .f32) : FVec F S1x8x64x128 .f32 := k0_pay79 (C.v196 d)
def Chk.dg (C : Chk F) (d : Vec F S8x128x128 .f32) : FVec F S1x8x64x128 .f32 := k0_pay80 (C.v214 d)
def Chk.db (C : Chk F) (d : Vec F S8x128x128 .f32) : FVec F S1x8x64x128 .f32 := k0_pay2 (C.v198 d)
def Chk.dS (C : Chk F) (d : Vec F S8x128x128 .f32) : FVec F S8x128x128 .f32 := k0_pay3 (C.v139 d)

/-- The running gradient before trip `k`, from `d` at the start. -/
def Blk.sc (X : Blk F) (d : Vec F S8x128x128 .f32) : ℕ → Vec F S8x128x128 .f32
  | 0 => d
  | k + 1 => if h : k < k0_t1_loop.trips then (X.chk ⟨k, h⟩).dS (X.sc d k) else X.sc d k

/-- The pieces of `dq` before trip `k`, the last one first. -/
def Blk.pdq (X : Blk F) (d : Vec F S8x128x128 .f32) : ℕ → List (View.Piece (Elt F) S1x8x256x128 .f32)
  | 0 => []
  | k + 1 => if h : k < k0_t1_loop.trips then ⟨rect2 ⟨k, h⟩, (X.chk ⟨k, h⟩).dq⟩ :: X.pdq d k else X.pdq d k

/-- The pieces of `dk` before trip `k`, the last one first. -/
def Blk.pdk (X : Blk F) (d : Vec F S8x128x128 .f32) : ℕ → List (View.Piece (Elt F) S1x8x256x128 .f32)
  | 0 => []
  | k + 1 => if h : k < k0_t1_loop.trips then ⟨rect2 ⟨k, h⟩, (X.chk ⟨k, h⟩).dk (X.sc d k)⟩ :: X.pdk d k else X.pdk d k

/-- The pieces of `dv` before trip `k`, the last one first. -/
def Blk.pdv (X : Blk F) (d : Vec F S8x128x128 .f32) : ℕ → List (View.Piece (Elt F) S1x8x256x128 .f32)
  | 0 => []
  | k + 1 => if h : k < k0_t1_loop.trips then ⟨rect2 ⟨k, h⟩, (X.chk ⟨k, h⟩).dv (X.sc d k)⟩ :: X.pdv d k else X.pdv d k

/-- The pieces of `dg` before trip `k`, the last one first. -/
def Blk.pdg (X : Blk F) (d : Vec F S8x128x128 .f32) : ℕ → List (View.Piece (Elt F) S1x8x256x128 .f32)
  | 0 => []
  | k + 1 => if h : k < k0_t1_loop.trips then ⟨rect2 ⟨k, h⟩, (X.chk ⟨k, h⟩).dg (X.sc d k)⟩ :: X.pdg d k else X.pdg d k

/-- The pieces of `db` before trip `k`, the last one first. -/
def Blk.pdb (X : Blk F) (d : Vec F S8x128x128 .f32) : ℕ → List (View.Piece (Elt F) S1x8x256x128 .f32)
  | 0 => []
  | k + 1 => if h : k < k0_t1_loop.trips then ⟨rect2 ⟨k, h⟩, (X.chk ⟨k, h⟩).db (X.sc d k)⟩ :: X.pdb d k else X.pdb d k

end Cert.KernelIdeal.Bwd

end
-- ==== Proof.BwdLoop.lean ====
module

public import proofs.«01_k».proof.Proof.Gen.KernelIdeal.Frame
public import proofs.«01_k».proof.Proof.Gen.KernelIdeal.Loops

@[expose] public section

set_option maxRecDepth 8192
set_option maxHeartbeats 4000000

/-! # One grid step's loop over its four chunks

The gradient of the chunked rule goes through the four chunks of a grid step from the last to the first. A trip reads
one chunk of the eight inputs and the running gradient of the state (the scratch `arg15`), stores one chunk of each of the
five gradients and overwrites the scratch. `trip` runs one trip at a symbolic index: what it stores is a function of
the inputs and of the scratch alone. `scr` is the scratch before trip `k`, `outsW` the pieces an output holds then, and
`loopInv` is the loop by that invariant. -/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- What a trip touches: the eight inputs at their contents, the five outputs and the scratch. -/
abbrev Held (c : Dev nD) (arg2 : Memref sig .tc .vmem S1x8x256x128 .f32) (arg3 : Memref sig .tc .vmem S1x8x256x128 .f32) (arg4 : Memref sig .tc .vmem S1x8x256x128 .f32) (arg5 : Memref sig .tc .vmem S1x8x256x128 .f32) (arg6 : Memref sig .tc .vmem S1x8x256x128 .f32) (arg7 : Memref sig .tc .vmem S1x4x8x128x128 .f32) (arg8 : Memref sig .tc .vmem S1x4x8x64x64 .f32) (arg9 : Memref sig .tc .vmem S1x8x256x128 .f32) (arg10 : Memref sig .tc .vmem S1x8x256x128 .f32) (arg11 : Memref sig .tc .vmem S1x8x256x128 .f32) (arg12 : Memref sig .tc .vmem S1x8x256x128 .f32) (arg13 : Memref sig .tc .vmem S1x8x256x128 .f32) (arg14 : Memref sig .tc .vmem S1x8x256x128 .f32) (arg15 : Memref sig .tc .vmem S8x128x128 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))

/-- One trip: the pieces it stores are what its run finds, functions of the scratch it starts from. -/
@[irreducible] def trip (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k0_t1_loop.trips) :
    Σ' (L10 : BufTy.Contents (Elt F) arg15.view.ty → List (View.Piece (Elt F) S1x8x256x128 .f32)),
     Σ' (L11 : BufTy.Contents (Elt F) arg15.view.ty → List (View.Piece (Elt F) S1x8x256x128 .f32)),
     Σ' (L12 : BufTy.Contents (Elt F) arg15.view.ty → List (View.Piece (Elt F) S1x8x256x128 .f32)),
     Σ' (L13 : BufTy.Contents (Elt F) arg15.view.ty → List (View.Piece (Elt F) S1x8x256x128 .f32)),
     Σ' (L14 : BufTy.Contents (Elt F) arg15.view.ty → List (View.Piece (Elt F) S1x8x256x128 .f32)),
    { L15 : BufTy.Contents (Elt F) arg15.view.ty → List (View.Piece (Elt F) S8x128x128 .f32) // ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty),
      Held c arg2 arg3 arg4 arg5 arg6 arg7 arg8 arg9 arg10 arg11 arg12 arg13 arg14 arg15 X2 X3 X4 X5 X6 X7 X8 X9 f10 f11 f12 f13 f14 f15
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 k ⟨⟩)
          (fun _ => Held c arg2 arg3 arg4 arg5 arg6 arg7 arg8 arg9 arg10 arg11 arg12 arg13 arg14 arg15 X2 X3 X4 X5 X6 X7 X8 X9 (arg10.view.writes (Elt F) f10 (L10 f15)) (arg11.view.writes (Elt F) f11 (L11 f15)) (arg12.view.writes (Elt F) f12 (L12 f15)) (arg13.view.writes (Elt F) f13 (L13 f15)) (arg14.view.writes (Elt F) f14 (L14 f15)) (arg15.view.writes (Elt F) f15 (L15 f15))) } := by
  have hk : k.val < 4 := Nat.lt_of_lt_of_le k.isLt k0_t1_abs.2.1
  refine ⟨?_, ?_, ?_, ?_, ?_, ?_, fun E f10 f11 f12 f13 f14 f15 => ?run⟩
  case run =>
    unfold k0_t1_body
    iintro ⟨H2, H3, H4, H5, H6, H7, H8, H9, H10, H11, H12, H13, H14, H15⟩
    sl_exec
    sl_step
    sl_close

/-- The scratch before trip `k`, from `G15` before the loop. -/
def scr (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty) : ℕ → BufTy.Contents (Elt F) arg15.view.ty
  | 0 => G15
  | k + 1 => if h : k < k0_t1_loop.trips then
      arg15.view.writes (Elt F) (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k) ((trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 ⟨k, h⟩).2.2.2.2.2.1 (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k))
    else scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k

theorem scr_succ (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty) (k : Fin k0_t1_loop.trips) :
    scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 (k.val + 1) = arg15.view.writes (Elt F) (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k.val) ((trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).2.2.2.2.2.1 (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k.val)) := by
  rw [scr.eq_2]; exact dif_pos k.isLt

/-- The pieces output `arg10` holds before trip `k`, the last one first. -/
def outs10 (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty) : ℕ → List (View.Piece (Elt F) S1x8x256x128 .f32)
  | 0 => []
  | k + 1 => if h : k < k0_t1_loop.trips then
      (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 ⟨k, h⟩).1 (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k) ++ outs10 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k
    else outs10 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k

theorem outs10_succ (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty) (k : Fin k0_t1_loop.trips) :
    outs10 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 (k.val + 1) = (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).1 (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k.val) ++ outs10 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k.val := by
  rw [outs10.eq_2]; exact dif_pos k.isLt

/-- The pieces output `arg11` holds before trip `k`, the last one first. -/
def outs11 (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty) : ℕ → List (View.Piece (Elt F) S1x8x256x128 .f32)
  | 0 => []
  | k + 1 => if h : k < k0_t1_loop.trips then
      (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 ⟨k, h⟩).2.1 (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k) ++ outs11 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k
    else outs11 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k

theorem outs11_succ (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty) (k : Fin k0_t1_loop.trips) :
    outs11 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 (k.val + 1) = (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).2.1 (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k.val) ++ outs11 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k.val := by
  rw [outs11.eq_2]; exact dif_pos k.isLt

/-- The pieces output `arg12` holds before trip `k`, the last one first. -/
def outs12 (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty) : ℕ → List (View.Piece (Elt F) S1x8x256x128 .f32)
  | 0 => []
  | k + 1 => if h : k < k0_t1_loop.trips then
      (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 ⟨k, h⟩).2.2.1 (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k) ++ outs12 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k
    else outs12 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k

theorem outs12_succ (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty) (k : Fin k0_t1_loop.trips) :
    outs12 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 (k.val + 1) = (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).2.2.1 (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k.val) ++ outs12 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k.val := by
  rw [outs12.eq_2]; exact dif_pos k.isLt

/-- The pieces output `arg13` holds before trip `k`, the last one first. -/
def outs13 (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty) : ℕ → List (View.Piece (Elt F) S1x8x256x128 .f32)
  | 0 => []
  | k + 1 => if h : k < k0_t1_loop.trips then
      (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 ⟨k, h⟩).2.2.2.1 (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k) ++ outs13 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k
    else outs13 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k

theorem outs13_succ (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty) (k : Fin k0_t1_loop.trips) :
    outs13 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 (k.val + 1) = (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).2.2.2.1 (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k.val) ++ outs13 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k.val := by
  rw [outs13.eq_2]; exact dif_pos k.isLt

/-- The pieces output `arg14` holds before trip `k`, the last one first. -/
def outs14 (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty) : ℕ → List (View.Piece (Elt F) S1x8x256x128 .f32)
  | 0 => []
  | k + 1 => if h : k < k0_t1_loop.trips then
      (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 ⟨k, h⟩).2.2.2.2.1 (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k) ++ outs14 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k
    else outs14 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k

theorem outs14_succ (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty) (k : Fin k0_t1_loop.trips) :
    outs14 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 (k.val + 1) = (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).2.2.2.2.1 (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k.val) ++ outs14 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k.val := by
  rw [outs14.eq_2]; exact dif_pos k.isLt

/-- The invariant before trip `k`. -/
abbrev inv (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (k : ℕ) (_u : PUnit) : sProp 𝕄G :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (∃ f, (arg10.view.loc (c : Thread nD τ) ↦[arg10.view.set]{fullShare} f) ∗ ⌜f = arg10.view.writes (Elt F) G10 (outs10 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k)⌝) ∗ (∃ f, (arg11.view.loc (c : Thread nD τ) ↦[arg11.view.set]{fullShare} f) ∗ ⌜f = arg11.view.writes (Elt F) G11 (outs11 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k)⌝) ∗ (∃ f, (arg12.view.loc (c : Thread nD τ) ↦[arg12.view.set]{fullShare} f) ∗ ⌜f = arg12.view.writes (Elt F) G12 (outs12 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k)⌝) ∗ (∃ f, (arg13.view.loc (c : Thread nD τ) ↦[arg13.view.set]{fullShare} f) ∗ ⌜f = arg13.view.writes (Elt F) G13 (outs13 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k)⌝) ∗ (∃ f, (arg14.view.loc (c : Thread nD τ) ↦[arg14.view.set]{fullShare} f) ∗ ⌜f = arg14.view.writes (Elt F) G14 (outs14 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k)⌝) ∗ (∃ f, (arg15.view.loc (c : Thread nD τ) ↦[arg15.view.set]{fullShare} f) ∗ ⌜f = scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k⌝))

set_option warn.classDefReducibility false in
/-- The loop by its invariant. -/
@[sl_loop] def loopInv (c : Dev nD) (E : Set ℕ) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 where
  inv := inv c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G10 G11 G12 G13 G14 G15
  step k acc := by
    iintro ⟨H2, H3, H4, H5, H6, H7, H8, H9, ⟨%f10, H10, %h10⟩, ⟨%f11, H11, %h11⟩, ⟨%f12, H12, %h12⟩, ⟨%f13, H13, %h13⟩, ⟨%f14, H14, %h14⟩, ⟨%f15, H15, %h15⟩⟩
    iapply (wp_wand_r Idealize.ShloMosaic.frame (wpE (defs₀ (F := F)) Variants.none (c : Thread nD τ) none) E)
    isplitl [H2 H3 H4 H5 H6 H7 H8 H9 H10 H11 H12 H13 H14 H15]
    · iapply ((trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).2.2.2.2.2.2 E f10 f11 f12 f13 f14 f15)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · iintro %_ ⟨H2, H3, H4, H5, H6, H7, H8, H9, H10, H11, H12, H13, H14, H15⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      rw [scr_succ, outs10_succ, outs11_succ, outs12_succ, outs13_succ, outs14_succ]
      isplitl [H10]
      · iexists _; isplitl [H10]; · iexact H10
        ipureintro; rw [h10, h15, ← View.writes_append]
      isplitl [H11]
      · iexists _; isplitl [H11]; · iexact H11
        ipureintro; rw [h11, h15, ← View.writes_append]
      isplitl [H12]
      · iexists _; isplitl [H12]; · iexact H12
        ipureintro; rw [h12, h15, ← View.writes_append]
      isplitl [H13]
      · iexists _; isplitl [H13]; · iexact H13
        ipureintro; rw [h13, h15, ← View.writes_append]
      isplitl [H14]
      · iexists _; isplitl [H14]; · iexact H14
        ipureintro; rw [h14, h15, ← View.writes_append]
      iexists _; isplitl [H15]; · iexact H15
      ipureintro; rw [h15]

end Cert.KernelIdeal.Bwd

end
-- ==== Proof.BwdTrip.lean ====
module

public import proofs.«01_k».proof.Proof.BwdVal
public import proofs.«01_k».proof.Proof.BwdLoop

@[expose] public section

set_option maxRecDepth 8192
set_option maxHeartbeats 4000000

/-! # The run of a trip finds the values of `BwdVal` -/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

section Trip
variable (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)

/-- The blocks as the grid step's memrefs hold them. -/
abbrev blkOf : Blk F := ⟨arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9⟩

theorem trip_dq (k : Fin k0_t1_loop.trips) (s : BufTy.Contents (Elt F) arg15.view.ty) :
    (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).1 s = [⟨rect2 k, (((blkOf (F := F) arg2 arg3 arg4 arg5 arg6 arg7 arg8 arg9 X2 X3 X4 X5 X6 X7 X8 X9)).chk k).dq⟩] := by
  unfold trip; rfl

theorem trip_dk (k : Fin k0_t1_loop.trips) (s : BufTy.Contents (Elt F) arg15.view.ty) :
    (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).2.1 s = [⟨rect2 k, (((blkOf (F := F) arg2 arg3 arg4 arg5 arg6 arg7 arg8 arg9 X2 X3 X4 X5 X6 X7 X8 X9)).chk k).dk (arg15.view.readAt (Elt F) (Rect.unit (s := S8x128x128) ![0,0,0] S8x128x128.size inb_S8x128x128_S8x128x128_0_0_0).toLoadRect s)⟩] := by
  unfold trip; rfl

theorem trip_dv (k : Fin k0_t1_loop.trips) (s : BufTy.Contents (Elt F) arg15.view.ty) :
    (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).2.2.1 s = [⟨rect2 k, (((blkOf (F := F) arg2 arg3 arg4 arg5 arg6 arg7 arg8 arg9 X2 X3 X4 X5 X6 X7 X8 X9)).chk k).dv (arg15.view.readAt (Elt F) (Rect.unit (s := S8x128x128) ![0,0,0] S8x128x128.size inb_S8x128x128_S8x128x128_0_0_0).toLoadRect s)⟩] := by
  unfold trip; rfl

theorem trip_dg (k : Fin k0_t1_loop.trips) (s : BufTy.Contents (Elt F) arg15.view.ty) :
    (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).2.2.2.1 s = [⟨rect2 k, (((blkOf (F := F) arg2 arg3 arg4 arg5 arg6 arg7 arg8 arg9 X2 X3 X4 X5 X6 X7 X8 X9)).chk k).dg (arg15.view.readAt (Elt F) (Rect.unit (s := S8x128x128) ![0,0,0] S8x128x128.size inb_S8x128x128_S8x128x128_0_0_0).toLoadRect s)⟩] := by
  unfold trip; rfl

theorem trip_db (k : Fin k0_t1_loop.trips) (s : BufTy.Contents (Elt F) arg15.view.ty) :
    (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).2.2.2.2.1 s = [⟨rect2 k, (((blkOf (F := F) arg2 arg3 arg4 arg5 arg6 arg7 arg8 arg9 X2 X3 X4 X5 X6 X7 X8 X9)).chk k).db (arg15.view.readAt (Elt F) (Rect.unit (s := S8x128x128) ![0,0,0] S8x128x128.size inb_S8x128x128_S8x128x128_0_0_0).toLoadRect s)⟩] := by
  unfold trip; rfl

theorem trip_dS (k : Fin k0_t1_loop.trips) (s : BufTy.Contents (Elt F) arg15.view.ty) :
    (trip c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 k).2.2.2.2.2.1 s = [⟨Rect.unit (s := S8x128x128) ![0,0,0] S8x128x128.size inb_S8x128x128_S8x128x128_0_0_0, (((blkOf (F := F) arg2 arg3 arg4 arg5 arg6 arg7 arg8 arg9 X2 X3 X4 X5 X6 X7 X8 X9)).chk k).dS  (arg15.view.readAt (Elt F) (Rect.unit (s := S8x128x128) ![0,0,0] S8x128x128.size inb_S8x128x128_S8x128x128_0_0_0).toLoadRect s)⟩] := by
  unfold trip; rfl

end Trip

end Cert.KernelIdeal.Bwd

end
-- ==== Proof.BwdRead.lean ====
module

public import Idealize.ShloMosaic.Lib.VecWindow
public import proofs.«01_k».proof.Proof.BwdTrip

@[expose] public section

set_option maxRecDepth 16384
set_option maxHeartbeats 4000000

/-! # What a grid step leaves, read off its run -/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

theorem trips_eq : k0_t1_loop.trips = 4 := by decide

/-- The block of `dq` that a grid step leaves. -/
def Blk.odq (X : Blk F) (d : Vec F S8x128x128 .f32) : Vec F S1x8x256x128 .f32 := View.canon (X.pdq d 4)

theorem Blk.cover_dq (X : Blk F) (d : Vec F S8x128x128 .f32) (y : S1x8x256x128.Idx) : ∃ p ∈ X.pdq d 4, y ∈ p.1.set :=
  View.cover_of_tiledL (X.pdq d 4) S1x8x64x128.size (by sl_kernel_rfl) y

/-- The block of `dk` that a grid step leaves. -/
def Blk.odk (X : Blk F) (d : Vec F S8x128x128 .f32) : Vec F S1x8x256x128 .f32 := View.canon (X.pdk d 4)

theorem Blk.cover_dk (X : Blk F) (d : Vec F S8x128x128 .f32) (y : S1x8x256x128.Idx) : ∃ p ∈ X.pdk d 4, y ∈ p.1.set :=
  View.cover_of_tiledL (X.pdk d 4) S1x8x64x128.size (by sl_kernel_rfl) y

/-- The block of `dv` that a grid step leaves. -/
def Blk.odv (X : Blk F) (d : Vec F S8x128x128 .f32) : Vec F S1x8x256x128 .f32 := View.canon (X.pdv d 4)

theorem Blk.cover_dv (X : Blk F) (d : Vec F S8x128x128 .f32) (y : S1x8x256x128.Idx) : ∃ p ∈ X.pdv d 4, y ∈ p.1.set :=
  View.cover_of_tiledL (X.pdv d 4) S1x8x64x128.size (by sl_kernel_rfl) y

/-- The block of `dg` that a grid step leaves. -/
def Blk.odg (X : Blk F) (d : Vec F S8x128x128 .f32) : Vec F S1x8x256x128 .f32 := View.canon (X.pdg d 4)

theorem Blk.cover_dg (X : Blk F) (d : Vec F S8x128x128 .f32) (y : S1x8x256x128.Idx) : ∃ p ∈ X.pdg d 4, y ∈ p.1.set :=
  View.cover_of_tiledL (X.pdg d 4) S1x8x64x128.size (by sl_kernel_rfl) y

/-- The block of `db` that a grid step leaves. -/
def Blk.odb (X : Blk F) (d : Vec F S8x128x128 .f32) : Vec F S1x8x256x128 .f32 := View.canon (X.pdb d 4)

theorem Blk.cover_db (X : Blk F) (d : Vec F S8x128x128 .f32) (y : S1x8x256x128.Idx) : ∃ p ∈ X.pdb d 4, y ∈ p.1.set :=
  View.cover_of_tiledL (X.pdb d 4) S1x8x64x128.size (by sl_kernel_rfl) y

section Reads
variable (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G15 : BufTy.Contents (Elt F) arg15.view.ty)

theorem scr_read (k : ℕ) (hk : k ≤ k0_t1_loop.trips) :
    arg15.view.read (Elt F) (scr c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k) = ((blkOf (F := F) arg2 arg3 arg4 arg5 arg6 arg7 arg8 arg9 X2 X3 X4 X5 X6 X7 X8 X9)).sc (arg15.view.read (Elt F) G15) k := by
  induction k with
  | zero => rfl
  | succ k ih =>
    have h : k < k0_t1_loop.trips := hk
    rw [show k + 1 = (⟨k, h⟩ : Fin k0_t1_loop.trips).val + 1 from rfl, scr_succ, trip_dS]
    rw [View.read_writes_full, View.readAt_full, ih (Nat.le_of_succ_le hk)]
    exact (show _ = ((blkOf (F := F) arg2 arg3 arg4 arg5 arg6 arg7 arg8 arg9 X2 X3 X4 X5 X6 X7 X8 X9)).sc (arg15.view.read (Elt F) G15) (k + 1) by rw [Blk.sc.eq_2, dif_pos h])

theorem outs10_eq (k : ℕ) (hk : k ≤ k0_t1_loop.trips) :
    outs10 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k = ((blkOf (F := F) arg2 arg3 arg4 arg5 arg6 arg7 arg8 arg9 X2 X3 X4 X5 X6 X7 X8 X9)).pdq (arg15.view.read (Elt F) G15) k := by
  induction k with
  | zero => rfl
  | succ k ih =>
    have h : k < k0_t1_loop.trips := hk
    rw [show k + 1 = (⟨k, h⟩ : Fin k0_t1_loop.trips).val + 1 from rfl, outs10_succ, trip_dq, ih (Nat.le_of_succ_le hk)]

    exact (show _ = ((blkOf (F := F) arg2 arg3 arg4 arg5 arg6 arg7 arg8 arg9 X2 X3 X4 X5 X6 X7 X8 X9)).pdq (arg15.view.read (Elt F) G15) (k + 1) by rw [Blk.pdq.eq_2, dif_pos h]; rfl)

theorem read_outs10 (f : BufTy.Contents (Elt F) arg10.view.ty) :
    arg10.view.read (Elt F) (arg10.view.writes (Elt F) f (outs10 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k0_t1_loop.trips)) = ((blkOf (F := F) arg2 arg3 arg4 arg5 arg6 arg7 arg8 arg9 X2 X3 X4 X5 X6 X7 X8 X9)).odq (arg15.view.read (Elt F) G15) := by
  rw [outs10_eq _ _ _ _ _ _ _ _ _ _ _ _ _ _ _ _ _ _ _ _ _ _ _ _ _ _ _ _ _ _ _ _ _ _ _ _ _ _ _ _ le_rfl, trips_eq]
  exact View.read_writes_eq_canon _ _ _ (Blk.cover_dq _ _)

theorem outs11_eq (k : ℕ) (hk : k ≤ k0_t1_loop.trips) :
    outs11 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k = ((blkOf (F := F) arg2 arg3 arg4 arg5 arg6 arg7 arg8 arg9 X2 X3 X4 X5 X6 X7 X8 X9)).pdk (arg15.view.read (Elt F) G15) k := by
  induction k with
  | zero => rfl
  | succ k ih =>
    have h : k < k0_t1_loop.trips := hk
    rw [show k + 1 = (⟨k, h⟩ : Fin k0_t1_loop.trips).val + 1 from rfl, outs11_succ, trip_dk, ih (Nat.le_of_succ_le hk)]
    rw [View.readAt_full, scr_read _ _ _ _ _ _ _ _ _ _ _ _ _ _ _ _ _ _ _ _ _ _ _ _ _ _ _ _ _ _ _ _ _ _ _ _ _ _ _ k (Nat.le_of_succ_le hk)]
    exact (show _ = ((blkOf (F := F) arg2 arg3 arg4 arg5 arg6 arg7 arg8 arg9 X2 X3 X4 X5 X6 X7 X8 X9)).pdk (arg15.view.read (Elt F) G15) (k + 1) by rw [Blk.pdk.eq_2, dif_pos h]; rfl)

theorem read_outs11 (f : BufTy.Contents (Elt F) arg11.view.ty) :
    arg11.view.read (Elt F) (arg11.view.writes (Elt F) f (outs11 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k0_t1_loop.trips)) = ((blkOf (F := F) arg2 arg3 arg4 arg5 arg6 arg7 arg8 arg9 X2 X3 X4 X5 X6 X7 X8 X9)).odk (arg15.view.read (Elt F) G15) := by
  rw [outs11_eq _ _ _ _ _ _ _ _ _ _ _ _ _ _ _ _ _ _ _ _ _ _ _ _ _ _ _ _ _ _ _ _ _ _ _ _ _ _ _ _ le_rfl, trips_eq]
  exact View.read_writes_eq_canon _ _ _ (Blk.cover_dk _ _)

theorem outs12_eq (k : ℕ) (hk : k ≤ k0_t1_loop.trips) :
    outs12 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k = ((blkOf (F := F) arg2 arg3 arg4 arg5 arg6 arg7 arg8 arg9 X2 X3 X4 X5 X6 X7 X8 X9)).pdv (arg15.view.read (Elt F) G15) k := by
  induction k with
  | zero => rfl
  | succ k ih =>
    have h : k < k0_t1_loop.trips := hk
    rw [show k + 1 = (⟨k, h⟩ : Fin k0_t1_loop.trips).val + 1 from rfl, outs12_succ, trip_dv, ih (Nat.le_of_succ_le hk)]
    rw [View.readAt_full, scr_read _ _ _ _ _ _ _ _ _ _ _ _ _ _ _ _ _ _ _ _ _ _ _ _ _ _ _ _ _ _ _ _ _ _ _ _ _ _ _ k (Nat.le_of_succ_le hk)]
    exact (show _ = ((blkOf (F := F) arg2 arg3 arg4 arg5 arg6 arg7 arg8 arg9 X2 X3 X4 X5 X6 X7 X8 X9)).pdv (arg15.view.read (Elt F) G15) (k + 1) by rw [Blk.pdv.eq_2, dif_pos h]; rfl)

theorem read_outs12 (f : BufTy.Contents (Elt F) arg12.view.ty) :
    arg12.view.read (Elt F) (arg12.view.writes (Elt F) f (outs12 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k0_t1_loop.trips)) = ((blkOf (F := F) arg2 arg3 arg4 arg5 arg6 arg7 arg8 arg9 X2 X3 X4 X5 X6 X7 X8 X9)).odv (arg15.view.read (Elt F) G15) := by
  rw [outs12_eq _ _ _ _ _ _ _ _ _ _ _ _ _ _ _ _ _ _ _ _ _ _ _ _ _ _ _ _ _ _ _ _ _ _ _ _ _ _ _ _ le_rfl, trips_eq]
  exact View.read_writes_eq_canon _ _ _ (Blk.cover_dv _ _)

theorem outs13_eq (k : ℕ) (hk : k ≤ k0_t1_loop.trips) :
    outs13 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k = ((blkOf (F := F) arg2 arg3 arg4 arg5 arg6 arg7 arg8 arg9 X2 X3 X4 X5 X6 X7 X8 X9)).pdg (arg15.view.read (Elt F) G15) k := by
  induction k with
  | zero => rfl
  | succ k ih =>
    have h : k < k0_t1_loop.trips := hk
    rw [show k + 1 = (⟨k, h⟩ : Fin k0_t1_loop.trips).val + 1 from rfl, outs13_succ, trip_dg, ih (Nat.le_of_succ_le hk)]
    rw [View.readAt_full, scr_read _ _ _ _ _ _ _ _ _ _ _ _ _ _ _ _ _ _ _ _ _ _ _ _ _ _ _ _ _ _ _ _ _ _ _ _ _ _ _ k (Nat.le_of_succ_le hk)]
    exact (show _ = ((blkOf (F := F) arg2 arg3 arg4 arg5 arg6 arg7 arg8 arg9 X2 X3 X4 X5 X6 X7 X8 X9)).pdg (arg15.view.read (Elt F) G15) (k + 1) by rw [Blk.pdg.eq_2, dif_pos h]; rfl)

theorem read_outs13 (f : BufTy.Contents (Elt F) arg13.view.ty) :
    arg13.view.read (Elt F) (arg13.view.writes (Elt F) f (outs13 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k0_t1_loop.trips)) = ((blkOf (F := F) arg2 arg3 arg4 arg5 arg6 arg7 arg8 arg9 X2 X3 X4 X5 X6 X7 X8 X9)).odg (arg15.view.read (Elt F) G15) := by
  rw [outs13_eq _ _ _ _ _ _ _ _ _ _ _ _ _ _ _ _ _ _ _ _ _ _ _ _ _ _ _ _ _ _ _ _ _ _ _ _ _ _ _ _ le_rfl, trips_eq]
  exact View.read_writes_eq_canon _ _ _ (Blk.cover_dg _ _)

theorem outs14_eq (k : ℕ) (hk : k ≤ k0_t1_loop.trips) :
    outs14 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k = ((blkOf (F := F) arg2 arg3 arg4 arg5 arg6 arg7 arg8 arg9 X2 X3 X4 X5 X6 X7 X8 X9)).pdb (arg15.view.read (Elt F) G15) k := by
  induction k with
  | zero => rfl
  | succ k ih =>
    have h : k < k0_t1_loop.trips := hk
    rw [show k + 1 = (⟨k, h⟩ : Fin k0_t1_loop.trips).val + 1 from rfl, outs14_succ, trip_db, ih (Nat.le_of_succ_le hk)]
    rw [View.readAt_full, scr_read _ _ _ _ _ _ _ _ _ _ _ _ _ _ _ _ _ _ _ _ _ _ _ _ _ _ _ _ _ _ _ _ _ _ _ _ _ _ _ k (Nat.le_of_succ_le hk)]
    exact (show _ = ((blkOf (F := F) arg2 arg3 arg4 arg5 arg6 arg7 arg8 arg9 X2 X3 X4 X5 X6 X7 X8 X9)).pdb (arg15.view.read (Elt F) G15) (k + 1) by rw [Blk.pdb.eq_2, dif_pos h]; rfl)

theorem read_outs14 (f : BufTy.Contents (Elt F) arg14.view.ty) :
    arg14.view.read (Elt F) (arg14.view.writes (Elt F) f (outs14 c i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6 X7 X8 X9 G15 k0_t1_loop.trips)) = ((blkOf (F := F) arg2 arg3 arg4 arg5 arg6 arg7 arg8 arg9 X2 X3 X4 X5 X6 X7 X8 X9)).odb (arg15.view.read (Elt F) G15) := by
  rw [outs14_eq _ _ _ _ _ _ _ _ _ _ _ _ _ _ _ _ _ _ _ _ _ _ _ _ _ _ _ _ _ _ _ _ _ _ _ _ _ _ _ _ le_rfl, trips_eq]
  exact View.read_writes_eq_canon _ _ _ (Blk.cover_db _ _)

end Reads

end Cert.KernelIdeal.Bwd

end
-- ==== Proof.BwdRun.lean ====
module

public import proofs.«01_k».proof.Proof.BwdRead

@[expose] public section

set_option maxRecDepth 16384
set_option maxHeartbeats 4000000

/-! # The body of a grid step -/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄R" => MT nD τ sig Unit (Elt F) ℕ (UR sig nD τ) ℕ

/-- The first-step condition of a grid step. -/
abbrev cond0_0 (i : grid0.Coords) : Prop := (Scalar.cmpi .ne (Scalar.extui (Scalar.cmpi .eq (BitVec.ofNat 32 (i 1).val) 0#32)) 0#32) = 1#1

/-- A grid step that begins a batch: the running gradient starts at zero. -/
theorem runA (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole) (hc0 : cond0_0 i)
    (x2 : Vec F S1x8x256x128 .f32) (x3 : Vec F S1x8x256x128 .f32) (x4 : Vec F S1x8x256x128 .f32) (x5 : Vec F S1x8x256x128 .f32) (x6 : Vec F S1x8x256x128 .f32) (x7 : Vec F S1x4x8x128x128 .f32) (x8 : Vec F S1x4x8x64x64 .f32) (x9 : Vec F S1x8x256x128 .f32)  (E : Set ℕ) (K : PUnit → sProp 𝕄R) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare ((⟨x2, x3, x4, x5, x6, x7, x8, x9⟩ : Blk F).odq k0_pay1) ∗ owns (c : Thread nD τ) arg11 fullShare ((⟨x2, x3, x4, x5, x6, x7, x8, x9⟩ : Blk F).odk k0_pay1) ∗ owns (c : Thread nD τ) arg12 fullShare ((⟨x2, x3, x4, x5, x6, x7, x8, x9⟩ : Blk F).odv k0_pay1) ∗ owns (c : Thread nD τ) arg13 fullShare ((⟨x2, x3, x4, x5, x6, x7, x8, x9⟩ : Blk F).odg k0_pay1) ∗ owns (c : Thread nD τ) arg14 fullShare ((⟨x2, x3, x4, x5, x6, x7, x8, x9⟩ : Blk F).odb k0_pay1) ∗ owns (c : Thread nD τ) arg15 fullShare ((⟨x2, x3, x4, x5, x6, x7, x8, x9⟩ : Blk F).sc k0_pay1 4)) -∗ K ⟨⟩))
      ⊢ wp frame (wpE (defs₀ (F := F)) Variants.none (c : Thread nD τ) none) E (cc0_dn_chunk_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dn_chunk_bwd_eq_skeleton]; unfold cc0_dn_chunk_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf2; subst hf3; subst hf4; subst hf5; subst hf6; subst hf7; subst hf8; subst hf9
  sl_exec (disch := first | sl_exact hc0)
  sl_step
  iapply Hk
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; swap; · iexact H10
    ipureintro
    exact (read_outs10 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 _ f10).trans (congrArg (fun d => Blk.odq _ d ) (View.read_writes_full _ _ _ _ _))
  isplitl [H11]
  · iexists _; isplitr; swap; · iexact H11
    ipureintro
    exact (read_outs11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 _ f11).trans (congrArg (fun d => Blk.odk _ d ) (View.read_writes_full _ _ _ _ _))
  isplitl [H12]
  · iexists _; isplitr; swap; · iexact H12
    ipureintro
    exact (read_outs12 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 _ f12).trans (congrArg (fun d => Blk.odv _ d ) (View.read_writes_full _ _ _ _ _))
  isplitl [H13]
  · iexists _; isplitr; swap; · iexact H13
    ipureintro
    exact (read_outs13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 _ f13).trans (congrArg (fun d => Blk.odg _ d ) (View.read_writes_full _ _ _ _ _))
  isplitl [H14]
  · iexists _; isplitr; swap; · iexact H14
    ipureintro
    exact (read_outs14 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 _ f14).trans (congrArg (fun d => Blk.odb _ d ) (View.read_writes_full _ _ _ _ _))
  iexists _; isplitr; swap; · iexact H15
  ipureintro
  exact (scr_read c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 _ k0_t1_loop.trips le_rfl).trans ((congrArg _ trips_eq).trans (congrArg (fun d => Blk.sc _ d 4) (View.read_writes_full _ _ _ _ _)))

/-- A grid step that goes on: the running gradient is the one it finds. -/
theorem runB (c : Dev nD) (i : grid0.Coords) (arg2 : Memref sig .tc .vmem S1x8x256x128 .f32) (harg2 : arg2.IsWhole) (arg3 : Memref sig .tc .vmem S1x8x256x128 .f32) (harg3 : arg3.IsWhole) (arg4 : Memref sig .tc .vmem S1x8x256x128 .f32) (harg4 : arg4.IsWhole) (arg5 : Memref sig .tc .vmem S1x8x256x128 .f32) (harg5 : arg5.IsWhole) (arg6 : Memref sig .tc .vmem S1x8x256x128 .f32) (harg6 : arg6.IsWhole) (arg7 : Memref sig .tc .vmem S1x4x8x128x128 .f32) (harg7 : arg7.IsWhole) (arg8 : Memref sig .tc .vmem S1x4x8x64x64 .f32) (harg8 : arg8.IsWhole) (arg9 : Memref sig .tc .vmem S1x8x256x128 .f32) (harg9 : arg9.IsWhole) (arg10 : Memref sig .tc .vmem S1x8x256x128 .f32) (harg10 : arg10.IsWhole) (arg11 : Memref sig .tc .vmem S1x8x256x128 .f32) (harg11 : arg11.IsWhole) (arg12 : Memref sig .tc .vmem S1x8x256x128 .f32) (harg12 : arg12.IsWhole) (arg13 : Memref sig .tc .vmem S1x8x256x128 .f32) (harg13 : arg13.IsWhole) (arg14 : Memref sig .tc .vmem S1x8x256x128 .f32) (harg14 : arg14.IsWhole) (arg15 : Memref sig .tc .vmem S8x128x128 .f32) (harg15 : arg15.IsWhole) (hc0 : ¬ cond0_0 i)
    (x2 : Vec F S1x8x256x128 .f32) (x3 : Vec F S1x8x256x128 .f32) (x4 : Vec F S1x8x256x128 .f32) (x5 : Vec F S1x8x256x128 .f32) (x6 : Vec F S1x8x256x128 .f32) (x7 : Vec F S1x4x8x128x128 .f32) (x8 : Vec F S1x4x8x64x64 .f32) (x9 : Vec F S1x8x256x128 .f32) (d : Vec F S8x128x128 .f32) (E : Set ℕ) (K : PUnit → sProp 𝕄R) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare d ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare ((⟨x2, x3, x4, x5, x6, x7, x8, x9⟩ : Blk F).odq d) ∗ owns (c : Thread nD τ) arg11 fullShare ((⟨x2, x3, x4, x5, x6, x7, x8, x9⟩ : Blk F).odk d) ∗ owns (c : Thread nD τ) arg12 fullShare ((⟨x2, x3, x4, x5, x6, x7, x8, x9⟩ : Blk F).odv d) ∗ owns (c : Thread nD τ) arg13 fullShare ((⟨x2, x3, x4, x5, x6, x7, x8, x9⟩ : Blk F).odg d) ∗ owns (c : Thread nD τ) arg14 fullShare ((⟨x2, x3, x4, x5, x6, x7, x8, x9⟩ : Blk F).odb d) ∗ owns (c : Thread nD τ) arg15 fullShare ((⟨x2, x3, x4, x5, x6, x7, x8, x9⟩ : Blk F).sc d 4)) -∗ K ⟨⟩))
      ⊢ wp frame (wpE (defs₀ (F := F)) Variants.none (c : Thread nD τ) none) E (cc0_dn_chunk_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dn_chunk_bwd_eq_skeleton]; unfold cc0_dn_chunk_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, Hk⟩
  subst hf2; subst hf3; subst hf4; subst hf5; subst hf6; subst hf7; subst hf8; subst hf9; subst hf15
  sl_exec (disch := first | sl_exact hc0)
  sl_step
  iapply Hk
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; swap; · iexact H10
    ipureintro
    exact (read_outs10 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 _ f10)
  isplitl [H11]
  · iexists _; isplitr; swap; · iexact H11
    ipureintro
    exact (read_outs11 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 _ f11)
  isplitl [H12]
  · iexists _; isplitr; swap; · iexact H12
    ipureintro
    exact (read_outs12 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 _ f12)
  isplitl [H13]
  · iexists _; isplitr; swap; · iexact H13
    ipureintro
    exact (read_outs13 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 _ f13)
  isplitl [H14]
  · iexists _; isplitr; swap; · iexact H14
    ipureintro
    exact (read_outs14 c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 _ f14)
  iexists _; isplitr; swap; · iexact H15
  ipureintro
  exact (scr_read c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 _ k0_t1_loop.trips le_rfl).trans ((congrArg _ trips_eq))

end Cert.KernelIdeal.Bwd

end
-- ==== Proof.BwdFrame.lean ====
module

public import proofs.«01_k».proof.Proof.BwdRun
public import Idealize.ShloMosaic.Lib.Claim

@[expose] public section

set_option maxRecDepth 16384
set_option maxHeartbeats 4000000

/-! # The frame of the gradient call -/

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A grid step begins a batch at the points that are multiples of eight. -/
theorem hcond0_0 (t : Fin cfg0.N) : cond0_0 (grid0.coords t) ↔ t.val % 8 = 0 := by
  have ht : t.val < 16 := Nat.lt_of_lt_of_eq t.isLt N_0
  have e1 : (grid0.coords t 1).val = t.val / 1 % 8 := Pipeline.Grid.coords_val t 1 (by decide) rfl
  simp only [cond0_0, e1]
  word_cmp

abbrev ms0_0 (t : Fin cfg0.N) : Memref sig .tc .vmem S1x8x256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4x8x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x8x64x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x256x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x256x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x8x256x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x8x256x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x8x256x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8x256x128 .f32 := win0_12.stage (cfg0.slots t 12)
abbrev hs0_12 (t : Fin cfg0.N) : (ms0_12 t).IsWhole := hstage0_12 ((cfg0.slots t 12).cast nbuf0_12)

/-- The scratch that carries the running gradient of the state from a grid step to the next. -/
abbrev scM : Memref sig .tc .vmem S8x128x128 .f32 := Memref.whole cc0_scratch0

theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The blocks that point `t` reads. -/
def blkAt (c : Dev nD) (t : Fin cfg0.N) : Blk F :=
  ⟨iblk m c 0 t, iblk m c 1 t, iblk m c 2 t, iblk m c 3 t, iblk m c 4 t, iblk m c 5 t, iblk m c 6 t, iblk m c 7 t⟩

/-- The running gradient of the state at the start of point `n`: zero where a batch begins. -/
def start (c : Dev nD) : (n : ℕ) → n ≤ cfg0.N → Vec F S8x128x128 .f32
  | 0, _ => k0_pay1
  | n + 1, h => if (n + 1) % 8 = 0 then k0_pay1 else (blkAt m c ⟨n, h⟩).sc (start c n (Nat.le_of_lt h)) 4

theorem start_zero (c : Dev nD) (n : ℕ) (h : n ≤ cfg0.N) (hz : n % 8 = 0) : start m c n h = k0_pay1 := by
  cases n with
  | zero => rfl
  | succ n => exact if_pos hz

theorem start_succ (c : Dev nD) (n : ℕ) (h : n + 1 ≤ cfg0.N) (hz : ¬(n + 1) % 8 = 0) :
    start m c (n + 1) h = (blkAt m c ⟨n, h⟩).sc (start m c n (Nat.le_of_lt h)) 4 := if_neg hz

/-- What the scratch holds after point `n`. -/
def left (c : Dev nD) (n : ℕ) (h : n < cfg0.N) : Vec F S8x128x128 .f32 := (blkAt m c ⟨n, h⟩).sc (start m c n (Nat.le_of_lt h)) 4

theorem start_pos (c : Dev nD) (n : ℕ) (h : n ≤ cfg0.N) (hz : ¬n % 8 = 0) :
    start m c n h = left m c (n - 1) (by omega) := by
  cases n with
  | zero => exact absurd rfl hz
  | succ n => exact start_succ m c n h hz

/-- The invariant before point `n`: the scratch at anything before the first point, then at what the point before left. -/
def PhiS (c : Dev nD) : (n : ℕ) → n ≤ cfg0.N → sProp 𝕄
  | 0, _ => Pipeline.ΦA spec0 c
  | n + 1, hn => iprop(iprop(owns (c : Thread nD τ) scM fullShare (left m c n hn)) ∗ (∃ r, prngReg c r))

theorem PhiS_pos (c : Dev nD) (n : ℕ) (h : n ≤ cfg0.N) (hz : n ≠ 0) :
    PhiS m c n h = iprop(iprop(owns (c : Thread nD τ) scM fullShare (left m c (n - 1) (by omega))) ∗ (∃ r, prngReg c r)) := by
  cases n with
  | zero => exact absurd rfl hz
  | succ n => rfl

/-- The proof data of the call's pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (blkAt m c t).odq (start m c t.val (Nat.le_of_lt t.isLt))
    | ⟨9, _⟩ => (blkAt m c t).odk (start m c t.val (Nat.le_of_lt t.isLt))
    | ⟨10, _⟩ => (blkAt m c t).odv (start m c t.val (Nat.le_of_lt t.isLt))
    | ⟨11, _⟩ => (blkAt m c t).odg (start m c t.val (Nat.le_of_lt t.isLt))
    | ⟨12, _⟩ => (blkAt m c t).odb (start m c t.val (Nat.le_of_lt t.isLt))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (blkAt m c t).odq (start m c t.val (Nat.le_of_lt t.isLt)) := by dsimp only [dats]
theorem after0_9 (c : Dev nD) (t : Fin cfg0.N) : (dats m 0 c).after 9 t = (blkAt m c t).odk (start m c t.val (Nat.le_of_lt t.isLt)) := by dsimp only [dats]
theorem after0_10 (c : Dev nD) (t : Fin cfg0.N) : (dats m 0 c).after 10 t = (blkAt m c t).odv (start m c t.val (Nat.le_of_lt t.isLt)) := by dsimp only [dats]
theorem after0_11 (c : Dev nD) (t : Fin cfg0.N) : (dats m 0 c).after 11 t = (blkAt m c t).odg (start m c t.val (Nat.le_of_lt t.isLt)) := by dsimp only [dats]
theorem after0_12 (c : Dev nD) (t : Fin cfg0.N) : (dats m 0 c).after 12 t = (blkAt m c t).odb (start m c t.val (Nat.le_of_lt t.isLt)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, the windows one by one, -/
def bodyPre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ
    ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = iprop(iprop(owns (c : Thread nD τ) scM fullShare (left m c t.val t.isLt)) ∗ (∃ r, prngReg c r)) from rfl]
  rw [left]
  by_cases h0 : t.val % 8 = 0
  · rw [start_zero m c _ _ h0]
    by_cases hz : t.val = 0
    · rw [PhiS_castSucc m c t, show PhiS m c t.val (Nat.le_of_lt t.isLt) = Pipeline.ΦA spec0 c by
        obtain ⟨n, hn⟩ := t; subst hz; rfl, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runA c (grid0.coords t) _ _ _ _ _ _ _ _ _ _ _ _ _ _ _ _ _ _ _ _ _ _ _ _ _ _ _ _  ((hcond0_0 t).mpr h0) (iblk m c 0 t) (iblk m c 1 t) (iblk m c 2 t) (iblk m c 3 t) (iblk m c 4 t) (iblk m c 5 t) (iblk m c 6 t) (iblk m c 7 t)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS]; · iexact HS
      iintro ⟨H0, H1, H2, H3, H4, H5, H6, H7, H8, H9, H10, H11, H12, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runA c (grid0.coords t) _ _ _ _ _ _ _ _ _ _ _ _ _ _ _ _ _ _ _ _ _ _ _ _ _ _ _ _  ((hcond0_0 t).mpr h0) (iblk m c 0 t) (iblk m c 1 t) (iblk m c 2 t) (iblk m c 3 t) (iblk m c 4 t) (iblk m c 5 t) (iblk m c 6 t) (iblk m c 7 t)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS]; · iexists _; iexact HS
      iintro ⟨H0, H1, H2, H3, H4, H5, H6, H7, H8, H9, H10, H11, H12, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
  · have hz : t.val ≠ 0 := fun h => h0 (by rw [h])
    · rw [PhiS_castSucc m c t, PhiS_pos m c _ _ hz, start_pos m c t.val (Nat.le_of_lt t.isLt) h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (runB c (grid0.coords t) _ _ _ _ _ _ _ _ _ _ _ _ _ _ _ _ _ _ _ _ _ _ _ _ _ _ _ _  (fun h => h0 ((hcond0_0 t).mp h)) (iblk m c 0 t) (iblk m c 1 t) (iblk m c 2 t) (iblk m c 3 t) (iblk m c 4 t) (iblk m c 5 t) (iblk m c 6 t) (iblk m c 7 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS]; · iexact HS
      iintro ⟨H0, H1, H2, H3, H4, H5, H6, H7, H8, H9, H10, H11, H12, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨HS, Hg⟩
  isplitl [HS]
  · iexists _; iexact HS
  iexact Hg

-- the implicit arguments of the launch are found by unifying its conclusion with this one, which takes unfolding plain
-- definitions in a metavariable's type
set_option backward.isDefEq.respectTransparency.types false in
/-- The run of the whole program: the arrays at what the pipeline leaves, then the host's lane sums; the counters at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.KernelIdeal.Bwd

end
-- ==== Proof.BitsFrame.lean ====
/- The frames over bit patterns. A printed kernel and its ideal reading have the same text, and the frame was proved
   for that text whatever the numbers are, so one run serves both. -/
module

public import proofs.«01_k».proof.Defs
public import proofs.«01_k».proof.Proof.Gen.Kernel
public import proofs.«01_k».proof.Proof.Gen.DwIn
public import proofs.«01_k».proof.Proof.Gen.DwOut
public import proofs.«01_k».proof.Proof.Gen.FwdA
public import proofs.«01_k».proof.Proof.Gen.FwdB
public import proofs.«01_k».proof.Proof.Gen.BwdA
public import proofs.«01_k».proof.Proof.Gen.BwdB
public import proofs.«01_k».proof.Proof.Gen.AdaB
public import proofs.«01_k».proof.Proof.Gen.StepAda
public import proofs.«01_k».proof.Proof.Gen.StepIn
public import proofs.«01_k».proof.Proof.Gen.StepOut
public import proofs.«01_k».proof.Proof.Gen.StepGlu
public import proofs.«01_k».proof.Proof.Gen.StepSq
public import proofs.«01_k».proof.Proof.Gen.StepDn
public import proofs.«01_k».proof.Proof.Gen.StepSmall
public import proofs.«01_k».proof.Proof.Gen.Sums
public import proofs.«01_k».proof.Proof.BwdFrame
public import proofs.«01_k».proof.Proof.Gen.DwInIdeal.Frame
public import proofs.«01_k».proof.Proof.Gen.DwOutIdeal.Frame
public import proofs.«01_k».proof.Proof.Gen.FwdAIdeal.Frame
public import proofs.«01_k».proof.Proof.Gen.FwdBIdeal.Frame
public import proofs.«01_k».proof.Proof.Gen.BwdAIdeal.Frame
public import proofs.«01_k».proof.Proof.Gen.BwdBIdeal.Frame
public import proofs.«01_k».proof.Proof.Gen.AdaBIdeal.Frame
public import proofs.«01_k».proof.Proof.Gen.StepAdaIdeal.Frame
public import proofs.«01_k».proof.Proof.Gen.StepInIdeal.Frame
public import proofs.«01_k».proof.Proof.Gen.StepOutIdeal.Frame
public import proofs.«01_k».proof.Proof.Gen.StepGluIdeal.Frame
public import proofs.«01_k».proof.Proof.Gen.StepSqIdeal.Frame
public import proofs.«01_k».proof.Proof.Gen.StepDnIdeal.Frame
public import proofs.«01_k».proof.Proof.Gen.StepSmallIdeal.Frame
public import proofs.«01_k».proof.Proof.Gen.SumsIdeal.Frame

@[expose] public section

namespace Cert.Bits

open Idealize.ShloMosaic Idealize.ShloMosaic.TcCoe Idealize.SL.Sem

/-- The backward pass of the gated delta rule: the run of the kernel's text over bit patterns. -/
def RunsKernel : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩
      (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
        ∧ r.2.sem = fun _ => 0)

/-- It is the frame proved for every carrier. -/
theorem runsKernel : RunsKernel := fun m g _ => Cert.KernelIdeal.Bwd.frame (F := Bits) m g

/-- The frame of the kernel as printed. -/
theorem frameKernel : Cert.quiescent_Kernel :=
  (show RunsKernel = Cert.quiescent_Kernel by sl_kernel_rfl) ▸ runsKernel

/-- The gradient of the feed-forward block's first weights: the run of the kernel's text over bit patterns. -/
def RunsDwIn : Prop :=
  ∀ (m : (ℓ : Loc Cert.DwInIdeal.nD Cert.DwInIdeal.τ Cert.DwInIdeal.sig) → Buf (Elt Bits) ℓ) (g : Dev Cert.DwInIdeal.nD → PrngReg), True →
    θ_run (Cert.DwInIdeal.defs (F := Bits)) (onTc (τ := Cert.DwInIdeal.τ) (Cert.DwInIdeal.main (F := Bits))) ⟨m, fun _ => 0, g⟩
      (fun r => (∀ c : Dev Cert.DwInIdeal.nD, r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
        ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
        ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
        ∧ r.2.sem = fun _ => 0)

/-- It is the frame proved for every carrier. -/
theorem runsDwIn : RunsDwIn := fun m g _ => Cert.DwInIdeal.Gen.frame (F := Bits) m g

/-- The frame of the kernel as printed. -/
theorem frameDwIn : Cert.quiescent_DwIn :=
  (show RunsDwIn = Cert.quiescent_DwIn by sl_kernel_rfl) ▸ runsDwIn

/-- The gradient of the feed-forward block's last weights: the run of the kernel's text over bit patterns. -/
def RunsDwOut : Prop :=
  ∀ (m : (ℓ : Loc Cert.DwOutIdeal.nD Cert.DwOutIdeal.τ Cert.DwOutIdeal.sig) → Buf (Elt Bits) ℓ) (g : Dev Cert.DwOutIdeal.nD → PrngReg), True →
    θ_run (Cert.DwOutIdeal.defs (F := Bits)) (onTc (τ := Cert.DwOutIdeal.τ) (Cert.DwOutIdeal.main (F := Bits))) ⟨m, fun _ => 0, g⟩
      (fun r => (∀ c : Dev Cert.DwOutIdeal.nD, r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
        ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
        ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
        ∧ r.2.sem = fun _ => 0)

/-- It is the frame proved for every carrier. -/
theorem runsDwOut : RunsDwOut := fun m g _ => Cert.DwOutIdeal.Gen.frame (F := Bits) m g

/-- The frame of the kernel as printed. -/
theorem frameDwOut : Cert.quiescent_DwOut :=
  (show RunsDwOut = Cert.quiescent_DwOut by sl_kernel_rfl) ▸ runsDwOut

/-- The first half of the feed-forward block: the run of the kernel's text over bit patterns. -/
def RunsFwdA : Prop :=
  ∀ (m : (ℓ : Loc Cert.FwdAIdeal.nD Cert.FwdAIdeal.τ Cert.FwdAIdeal.sig) → Buf (Elt Bits) ℓ) (g : Dev Cert.FwdAIdeal.nD → PrngReg), True →
    θ_run (Cert.FwdAIdeal.defs (F := Bits)) (onTc (τ := Cert.FwdAIdeal.τ) (Cert.FwdAIdeal.main (F := Bits))) ⟨m, fun _ => 0, g⟩
      (fun r => (∀ c : Dev Cert.FwdAIdeal.nD, r.2.mem ((c.tc : Thread Cert.FwdAIdeal.nD Cert.FwdAIdeal.τ).loc Cert.FwdAIdeal.main_arg0) = m ((c.tc : Thread Cert.FwdAIdeal.nD Cert.FwdAIdeal.τ).loc Cert.FwdAIdeal.main_arg0)
        ∧ r.2.mem ((c.tc : Thread Cert.FwdAIdeal.nD Cert.FwdAIdeal.τ).loc Cert.FwdAIdeal.main_arg1) = m ((c.tc : Thread Cert.FwdAIdeal.nD Cert.FwdAIdeal.τ).loc Cert.FwdAIdeal.main_arg1)
        ∧ r.2.mem ((c.tc : Thread Cert.FwdAIdeal.nD Cert.FwdAIdeal.τ).loc Cert.FwdAIdeal.main_arg2) = m ((c.tc : Thread Cert.FwdAIdeal.nD Cert.FwdAIdeal.τ).loc Cert.FwdAIdeal.main_arg2)
        ∧ r.2.mem ((c.tc : Thread Cert.FwdAIdeal.nD Cert.FwdAIdeal.τ).loc Cert.FwdAIdeal.main_arg3) = m ((c.tc : Thread Cert.FwdAIdeal.nD Cert.FwdAIdeal.τ).loc Cert.FwdAIdeal.main_arg3)
        ∧ r.2.mem ((c.tc : Thread Cert.FwdAIdeal.nD Cert.FwdAIdeal.τ).loc Cert.FwdAIdeal.main_arg4) = m ((c.tc : Thread Cert.FwdAIdeal.nD Cert.FwdAIdeal.τ).loc Cert.FwdAIdeal.main_arg4))
        ∧ r.2.sem = fun _ => 0)

/-- It is the frame proved for every carrier. -/
theorem runsFwdA : RunsFwdA := fun m g _ => Cert.FwdAIdeal.Gen.frame (F := Bits) m g

/-- The frame of the kernel as printed. -/
theorem frameFwdA : Cert.quiescent_FwdA :=
  (show RunsFwdA = Cert.quiescent_FwdA by sl_kernel_rfl) ▸ runsFwdA

/-- The second half of the feed-forward block, and the residual sum: the run of the kernel's text over bit patterns. -/
def RunsFwdB : Prop :=
  ∀ (m : (ℓ : Loc Cert.FwdBIdeal.nD Cert.FwdBIdeal.τ Cert.FwdBIdeal.sig) → Buf (Elt Bits) ℓ) (g : Dev Cert.FwdBIdeal.nD → PrngReg), True →
    θ_run (Cert.FwdBIdeal.defs (F := Bits)) (onTc (τ := Cert.FwdBIdeal.τ) (Cert.FwdBIdeal.main (F := Bits))) ⟨m, fun _ => 0, g⟩
      (fun r => (∀ c : Dev Cert.FwdBIdeal.nD, r.2.mem ((c.tc : Thread Cert.FwdBIdeal.nD Cert.FwdBIdeal.τ).loc Cert.FwdBIdeal.main_arg0) = m ((c.tc : Thread Cert.FwdBIdeal.nD Cert.FwdBIdeal.τ).loc Cert.FwdBIdeal.main_arg0)
        ∧ r.2.mem ((c.tc : Thread Cert.FwdBIdeal.nD Cert.FwdBIdeal.τ).loc Cert.FwdBIdeal.main_arg1) = m ((c.tc : Thread Cert.FwdBIdeal.nD Cert.FwdBIdeal.τ).loc Cert.FwdBIdeal.main_arg1)
        ∧ r.2.mem ((c.tc : Thread Cert.FwdBIdeal.nD Cert.FwdBIdeal.τ).loc Cert.FwdBIdeal.main_arg2) = m ((c.tc : Thread Cert.FwdBIdeal.nD Cert.FwdBIdeal.τ).loc Cert.FwdBIdeal.main_arg2)
        ∧ r.2.mem ((c.tc : Thread Cert.FwdBIdeal.nD Cert.FwdBIdeal.τ).loc Cert.FwdBIdeal.main_arg3) = m ((c.tc : Thread Cert.FwdBIdeal.nD Cert.FwdBIdeal.τ).loc Cert.FwdBIdeal.main_arg3)
        ∧ r.2.mem ((c.tc : Thread Cert.FwdBIdeal.nD Cert.FwdBIdeal.τ).loc Cert.FwdBIdeal.main_arg4) = m ((c.tc : Thread Cert.FwdBIdeal.nD Cert.FwdBIdeal.τ).loc Cert.FwdBIdeal.main_arg4))
        ∧ r.2.sem = fun _ => 0)

/-- It is the frame proved for every carrier. -/
theorem runsFwdB : RunsFwdB := fun m g _ => Cert.FwdBIdeal.Gen.frame (F := Bits) m g

/-- The frame of the kernel as printed. -/
theorem frameFwdB : Cert.quiescent_FwdB :=
  (show RunsFwdB = Cert.quiescent_FwdB by sl_kernel_rfl) ▸ runsFwdB

/-- The gradient through the first half of the feed-forward block: the run of the kernel's text over bit patterns. -/
def RunsBwdA : Prop :=
  ∀ (m : (ℓ : Loc Cert.BwdAIdeal.nD Cert.BwdAIdeal.τ Cert.BwdAIdeal.sig) → Buf (Elt Bits) ℓ) (g : Dev Cert.BwdAIdeal.nD → PrngReg), True →
    θ_run (Cert.BwdAIdeal.defs (F := Bits)) (onTc (τ := Cert.BwdAIdeal.τ) (Cert.BwdAIdeal.main (F := Bits))) ⟨m, fun _ => 0, g⟩
      (fun r => (∀ c : Dev Cert.BwdAIdeal.nD, r.2.mem ((c.tc : Thread Cert.BwdAIdeal.nD Cert.BwdAIdeal.τ).loc Cert.BwdAIdeal.main_arg0) = m ((c.tc : Thread Cert.BwdAIdeal.nD Cert.BwdAIdeal.τ).loc Cert.BwdAIdeal.main_arg0)
        ∧ r.2.mem ((c.tc : Thread Cert.BwdAIdeal.nD Cert.BwdAIdeal.τ).loc Cert.BwdAIdeal.main_arg1) = m ((c.tc : Thread Cert.BwdAIdeal.nD Cert.BwdAIdeal.τ).loc Cert.BwdAIdeal.main_arg1)
        ∧ r.2.mem ((c.tc : Thread Cert.BwdAIdeal.nD Cert.BwdAIdeal.τ).loc Cert.BwdAIdeal.main_arg2) = m ((c.tc : Thread Cert.BwdAIdeal.nD Cert.BwdAIdeal.τ).loc Cert.BwdAIdeal.main_arg2)
        ∧ r.2.mem ((c.tc : Thread Cert.BwdAIdeal.nD Cert.BwdAIdeal.τ).loc Cert.BwdAIdeal.main_arg3) = m ((c.tc : Thread Cert.BwdAIdeal.nD Cert.BwdAIdeal.τ).loc Cert.BwdAIdeal.main_arg3)
        ∧ r.2.mem ((c.tc : Thread Cert.BwdAIdeal.nD Cert.BwdAIdeal.τ).loc Cert.BwdAIdeal.main_arg4) = m ((c.tc : Thread Cert.BwdAIdeal.nD Cert.BwdAIdeal.τ).loc Cert.BwdAIdeal.main_arg4))
        ∧ r.2.sem = fun _ => 0)

/-- It is the frame proved for every carrier. -/
theorem runsBwdA : RunsBwdA := fun m g _ => Cert.BwdAIdeal.Gen.frame (F := Bits) m g

/-- The frame of the kernel as printed. -/
theorem frameBwdA : Cert.quiescent_BwdA :=
  (show RunsBwdA = Cert.quiescent_BwdA by sl_kernel_rfl) ▸ runsBwdA

/-- The gradient through the second half of the feed-forward block and its norm: the run of the kernel's text over bit patterns. -/
def RunsBwdB : Prop :=
  ∀ (m : (ℓ : Loc Cert.BwdBIdeal.nD Cert.BwdBIdeal.τ Cert.BwdBIdeal.sig) → Buf (Elt Bits) ℓ) (g : Dev Cert.BwdBIdeal.nD → PrngReg), True →
    θ_run (Cert.BwdBIdeal.defs (F := Bits)) (onTc (τ := Cert.BwdBIdeal.τ) (Cert.BwdBIdeal.main (F := Bits))) ⟨m, fun _ => 0, g⟩
      (fun r => (∀ c : Dev Cert.BwdBIdeal.nD, r.2.mem ((c.tc : Thread Cert.BwdBIdeal.nD Cert.BwdBIdeal.τ).loc Cert.BwdBIdeal.main_arg0) = m ((c.tc : Thread Cert.BwdBIdeal.nD Cert.BwdBIdeal.τ).loc Cert.BwdBIdeal.main_arg0)
        ∧ r.2.mem ((c.tc : Thread Cert.BwdBIdeal.nD Cert.BwdBIdeal.τ).loc Cert.BwdBIdeal.main_arg1) = m ((c.tc : Thread Cert.BwdBIdeal.nD Cert.BwdBIdeal.τ).loc Cert.BwdBIdeal.main_arg1)
        ∧ r.2.mem ((c.tc : Thread Cert.BwdBIdeal.nD Cert.BwdBIdeal.τ).loc Cert.BwdBIdeal.main_arg2) = m ((c.tc : Thread Cert.BwdBIdeal.nD Cert.BwdBIdeal.τ).loc Cert.BwdBIdeal.main_arg2)
        ∧ r.2.mem ((c.tc : Thread Cert.BwdBIdeal.nD Cert.BwdBIdeal.τ).loc Cert.BwdBIdeal.main_arg3) = m ((c.tc : Thread Cert.BwdBIdeal.nD Cert.BwdBIdeal.τ).loc Cert.BwdBIdeal.main_arg3)
        ∧ r.2.mem ((c.tc : Thread Cert.BwdBIdeal.nD Cert.BwdBIdeal.τ).loc Cert.BwdBIdeal.main_arg4) = m ((c.tc : Thread Cert.BwdBIdeal.nD Cert.BwdBIdeal.τ).loc Cert.BwdBIdeal.main_arg4)
        ∧ r.2.mem ((c.tc : Thread Cert.BwdBIdeal.nD Cert.BwdBIdeal.τ).loc Cert.BwdBIdeal.main_arg5) = m ((c.tc : Thread Cert.BwdBIdeal.nD Cert.BwdBIdeal.τ).loc Cert.BwdBIdeal.main_arg5))
        ∧ r.2.sem = fun _ => 0)

/-- It is the frame proved for every carrier. -/
theorem runsBwdB : RunsBwdB := fun m g _ => Cert.BwdBIdeal.Gen.frame (F := Bits) m g

/-- The frame of the kernel as printed. -/
theorem frameBwdB : Cert.quiescent_BwdB :=
  (show RunsBwdB = Cert.quiescent_BwdB by sl_kernel_rfl) ▸ runsBwdB

/-- The gradients of the modulation's weights and bias: the run of the kernel's text over bit patterns. -/
def RunsAdaB : Prop :=
  ∀ (m : (ℓ : Loc Cert.AdaBIdeal.nD Cert.AdaBIdeal.τ Cert.AdaBIdeal.sig) → Buf (Elt Bits) ℓ) (g : Dev Cert.AdaBIdeal.nD → PrngReg), True →
    θ_run (Cert.AdaBIdeal.defs (F := Bits)) (onTc (τ := Cert.AdaBIdeal.τ) (Cert.AdaBIdeal.main (F := Bits))) ⟨m, fun _ => 0, g⟩
      (fun r => (∀ c : Dev Cert.AdaBIdeal.nD, r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
        ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1)
        ∧ r.2.mem ((c.tc : Thread Cert.AdaBIdeal.nD Cert.AdaBIdeal.τ).loc Cert.AdaBIdeal.main_arg2) = m ((c.tc : Thread Cert.AdaBIdeal.nD Cert.AdaBIdeal.τ).loc Cert.AdaBIdeal.main_arg2))
        ∧ r.2.sem = fun _ => 0)

/-- It is the frame proved for every carrier. -/
theorem runsAdaB : RunsAdaB := fun m g _ => Cert.AdaBIdeal.Gen.frame (F := Bits) m g

/-- The frame of the kernel as printed. -/
theorem frameAdaB : Cert.quiescent_AdaB :=
  (show RunsAdaB = Cert.quiescent_AdaB by sl_kernel_rfl) ▸ runsAdaB

/-- The optimiser's step of the modulation's weights: the run of the kernel's text over bit patterns. -/
def RunsStepAda : Prop :=
  ∀ (m : (ℓ : Loc Cert.StepAdaIdeal.nD Cert.StepAdaIdeal.τ Cert.StepAdaIdeal.sig) → Buf (Elt Bits) ℓ) (g : Dev Cert.StepAdaIdeal.nD → PrngReg), True →
    θ_run (Cert.StepAdaIdeal.defs (F := Bits)) (onTc (τ := Cert.StepAdaIdeal.τ) (Cert.StepAdaIdeal.main (F := Bits))) ⟨m, fun _ => 0, g⟩
      (fun r => (∀ c : Dev Cert.StepAdaIdeal.nD, r.2.mem ((c.tc : Thread Cert.StepAdaIdeal.nD Cert.StepAdaIdeal.τ).loc Cert.StepAdaIdeal.main_arg0) = m ((c.tc : Thread Cert.StepAdaIdeal.nD Cert.StepAdaIdeal.τ).loc Cert.StepAdaIdeal.main_arg0)
        ∧ r.2.mem ((c.tc : Thread Cert.StepAdaIdeal.nD Cert.StepAdaIdeal.τ).loc Cert.StepAdaIdeal.main_arg1) = m ((c.tc : Thread Cert.StepAdaIdeal.nD Cert.StepAdaIdeal.τ).loc Cert.StepAdaIdeal.main_arg1)
        ∧ r.2.mem ((c.tc : Thread Cert.StepAdaIdeal.nD Cert.StepAdaIdeal.τ).loc Cert.StepAdaIdeal.main_arg2) = m ((c.tc : Thread Cert.StepAdaIdeal.nD Cert.StepAdaIdeal.τ).loc Cert.StepAdaIdeal.main_arg2)
        ∧ r.2.mem ((c.tc : Thread Cert.StepAdaIdeal.nD Cert.StepAdaIdeal.τ).loc Cert.StepAdaIdeal.main_arg3) = m ((c.tc : Thread Cert.StepAdaIdeal.nD Cert.StepAdaIdeal.τ).loc Cert.StepAdaIdeal.main_arg3))
        ∧ r.2.sem = fun _ => 0)

/-- It is the frame proved for every carrier. -/
theorem runsStepAda : RunsStepAda := fun m g _ => Cert.StepAdaIdeal.Gen.frame (F := Bits) m g

/-- The frame of the kernel as printed. -/
theorem frameStepAda : Cert.quiescent_StepAda :=
  (show RunsStepAda = Cert.quiescent_StepAda by sl_kernel_rfl) ▸ runsStepAda

/-- The optimiser's step of the feed-forward blocks' first weights: the run of the kernel's text over bit patterns. -/
def RunsStepIn : Prop :=
  ∀ (m : (ℓ : Loc Cert.StepInIdeal.nD Cert.StepInIdeal.τ Cert.StepInIdeal.sig) → Buf (Elt Bits) ℓ) (g : Dev Cert.StepInIdeal.nD → PrngReg), True →
    θ_run (Cert.StepInIdeal.defs (F := Bits)) (onTc (τ := Cert.StepInIdeal.τ) (Cert.StepInIdeal.main (F := Bits))) ⟨m, fun _ => 0, g⟩
      (fun r => (∀ c : Dev Cert.StepInIdeal.nD, r.2.mem ((c.tc : Thread Cert.StepInIdeal.nD Cert.StepInIdeal.τ).loc Cert.StepInIdeal.main_arg0) = m ((c.tc : Thread Cert.StepInIdeal.nD Cert.StepInIdeal.τ).loc Cert.StepInIdeal.main_arg0)
        ∧ r.2.mem ((c.tc : Thread Cert.StepInIdeal.nD Cert.StepInIdeal.τ).loc Cert.StepInIdeal.main_arg1) = m ((c.tc : Thread Cert.StepInIdeal.nD Cert.StepInIdeal.τ).loc Cert.StepInIdeal.main_arg1)
        ∧ r.2.mem ((c.tc : Thread Cert.StepInIdeal.nD Cert.StepInIdeal.τ).loc Cert.StepInIdeal.main_arg2) = m ((c.tc : Thread Cert.StepInIdeal.nD Cert.StepInIdeal.τ).loc Cert.StepInIdeal.main_arg2)
        ∧ r.2.mem ((c.tc : Thread Cert.StepInIdeal.nD Cert.StepInIdeal.τ).loc Cert.StepInIdeal.main_arg3) = m ((c.tc : Thread Cert.StepInIdeal.nD Cert.StepInIdeal.τ).loc Cert.StepInIdeal.main_arg3))
        ∧ r.2.sem = fun _ => 0)

/-- It is the frame proved for every carrier. -/
theorem runsStepIn : RunsStepIn := fun m g _ => Cert.StepInIdeal.Gen.frame (F := Bits) m g

/-- The frame of the kernel as printed. -/
theorem frameStepIn : Cert.quiescent_StepIn :=
  (show RunsStepIn = Cert.quiescent_StepIn by sl_kernel_rfl) ▸ runsStepIn

/-- The optimiser's step of the feed-forward blocks' last weights: the run of the kernel's text over bit patterns. -/
def RunsStepOut : Prop :=
  ∀ (m : (ℓ : Loc Cert.StepOutIdeal.nD Cert.StepOutIdeal.τ Cert.StepOutIdeal.sig) → Buf (Elt Bits) ℓ) (g : Dev Cert.StepOutIdeal.nD → PrngReg), True →
    θ_run (Cert.StepOutIdeal.defs (F := Bits)) (onTc (τ := Cert.StepOutIdeal.τ) (Cert.StepOutIdeal.main (F := Bits))) ⟨m, fun _ => 0, g⟩
      (fun r => (∀ c : Dev Cert.StepOutIdeal.nD, r.2.mem ((c.tc : Thread Cert.StepOutIdeal.nD Cert.StepOutIdeal.τ).loc Cert.StepOutIdeal.main_arg0) = m ((c.tc : Thread Cert.StepOutIdeal.nD Cert.StepOutIdeal.τ).loc Cert.StepOutIdeal.main_arg0)
        ∧ r.2.mem ((c.tc : Thread Cert.StepOutIdeal.nD Cert.StepOutIdeal.τ).loc Cert.StepOutIdeal.main_arg1) = m ((c.tc : Thread Cert.StepOutIdeal.nD Cert.StepOutIdeal.τ).loc Cert.StepOutIdeal.main_arg1)
        ∧ r.2.mem ((c.tc : Thread Cert.StepOutIdeal.nD Cert.StepOutIdeal.τ).loc Cert.StepOutIdeal.main_arg2) = m ((c.tc : Thread Cert.StepOutIdeal.nD Cert.StepOutIdeal.τ).loc Cert.StepOutIdeal.main_arg2)
        ∧ r.2.mem ((c.tc : Thread Cert.StepOutIdeal.nD Cert.StepOutIdeal.τ).loc Cert.StepOutIdeal.main_arg3) = m ((c.tc : Thread Cert.StepOutIdeal.nD Cert.StepOutIdeal.τ).loc Cert.StepOutIdeal.main_arg3))
        ∧ r.2.sem = fun _ => 0)

/-- It is the frame proved for every carrier. -/
theorem runsStepOut : RunsStepOut := fun m g _ => Cert.StepOutIdeal.Gen.frame (F := Bits) m g

/-- The frame of the kernel as printed. -/
theorem frameStepOut : Cert.quiescent_StepOut :=
  (show RunsStepOut = Cert.quiescent_StepOut by sl_kernel_rfl) ▸ runsStepOut

/-- The optimiser's step of the convolution module's gated weights: the run of the kernel's text over bit patterns. -/
def RunsStepGlu : Prop :=
  ∀ (m : (ℓ : Loc Cert.StepGluIdeal.nD Cert.StepGluIdeal.τ Cert.StepGluIdeal.sig) → Buf (Elt Bits) ℓ) (g : Dev Cert.StepGluIdeal.nD → PrngReg), True →
    θ_run (Cert.StepGluIdeal.defs (F := Bits)) (onTc (τ := Cert.StepGluIdeal.τ) (Cert.StepGluIdeal.main (F := Bits))) ⟨m, fun _ => 0, g⟩
      (fun r => (∀ c : Dev Cert.StepGluIdeal.nD, r.2.mem ((c.tc : Thread Cert.StepGluIdeal.nD Cert.StepGluIdeal.τ).loc Cert.StepGluIdeal.main_arg0) = m ((c.tc : Thread Cert.StepGluIdeal.nD Cert.StepGluIdeal.τ).loc Cert.StepGluIdeal.main_arg0)
        ∧ r.2.mem ((c.tc : Thread Cert.StepGluIdeal.nD Cert.StepGluIdeal.τ).loc Cert.StepGluIdeal.main_arg1) = m ((c.tc : Thread Cert.StepGluIdeal.nD Cert.StepGluIdeal.τ).loc Cert.StepGluIdeal.main_arg1)
        ∧ r.2.mem ((c.tc : Thread Cert.StepGluIdeal.nD Cert.StepGluIdeal.τ).loc Cert.StepGluIdeal.main_arg2) = m ((c.tc : Thread Cert.StepGluIdeal.nD Cert.StepGluIdeal.τ).loc Cert.StepGluIdeal.main_arg2)
        ∧ r.2.mem ((c.tc : Thread Cert.StepGluIdeal.nD Cert.StepGluIdeal.τ).loc Cert.StepGluIdeal.main_arg3) = m ((c.tc : Thread Cert.StepGluIdeal.nD Cert.StepGluIdeal.τ).loc Cert.StepGluIdeal.main_arg3))
        ∧ r.2.sem = fun _ => 0)

/-- It is the frame proved for every carrier. -/
theorem runsStepGlu : RunsStepGlu := fun m g _ => Cert.StepGluIdeal.Gen.frame (F := Bits) m g

/-- The frame of the kernel as printed. -/
theorem frameStepGlu : Cert.quiescent_StepGlu :=
  (show RunsStepGlu = Cert.quiescent_StepGlu by sl_kernel_rfl) ▸ runsStepGlu

/-- The optimiser's step of the mixers' closing weights: the run of the kernel's text over bit patterns. -/
def RunsStepSq : Prop :=
  ∀ (m : (ℓ : Loc Cert.StepSqIdeal.nD Cert.StepSqIdeal.τ Cert.StepSqIdeal.sig) → Buf (Elt Bits) ℓ) (g : Dev Cert.StepSqIdeal.nD → PrngReg), True →
    θ_run (Cert.StepSqIdeal.defs (F := Bits)) (onTc (τ := Cert.StepSqIdeal.τ) (Cert.StepSqIdeal.main (F := Bits))) ⟨m, fun _ => 0, g⟩
      (fun r => (∀ c : Dev Cert.StepSqIdeal.nD, r.2.mem ((c.tc : Thread Cert.StepSqIdeal.nD Cert.StepSqIdeal.τ).loc Cert.StepSqIdeal.main_arg0) = m ((c.tc : Thread Cert.StepSqIdeal.nD Cert.StepSqIdeal.τ).loc Cert.StepSqIdeal.main_arg0)
        ∧ r.2.mem ((c.tc : Thread Cert.StepSqIdeal.nD Cert.StepSqIdeal.τ).loc Cert.StepSqIdeal.main_arg1) = m ((c.tc : Thread Cert.StepSqIdeal.nD Cert.StepSqIdeal.τ).loc Cert.StepSqIdeal.main_arg1)
        ∧ r.2.mem ((c.tc : Thread Cert.StepSqIdeal.nD Cert.StepSqIdeal.τ).loc Cert.StepSqIdeal.main_arg2) = m ((c.tc : Thread Cert.StepSqIdeal.nD Cert.StepSqIdeal.τ).loc Cert.StepSqIdeal.main_arg2)
        ∧ r.2.mem ((c.tc : Thread Cert.StepSqIdeal.nD Cert.StepSqIdeal.τ).loc Cert.StepSqIdeal.main_arg3) = m ((c.tc : Thread Cert.StepSqIdeal.nD Cert.StepSqIdeal.τ).loc Cert.StepSqIdeal.main_arg3))
        ∧ r.2.sem = fun _ => 0)

/-- It is the frame proved for every carrier. -/
theorem runsStepSq : RunsStepSq := fun m g _ => Cert.StepSqIdeal.Gen.frame (F := Bits) m g

/-- The frame of the kernel as printed. -/
theorem frameStepSq : Cert.quiescent_StepSq :=
  (show RunsStepSq = Cert.quiescent_StepSq by sl_kernel_rfl) ▸ runsStepSq

/-- The optimiser's step of the delta rule's opening weights: the run of the kernel's text over bit patterns. -/
def RunsStepDn : Prop :=
  ∀ (m : (ℓ : Loc Cert.StepDnIdeal.nD Cert.StepDnIdeal.τ Cert.StepDnIdeal.sig) → Buf (Elt Bits) ℓ) (g : Dev Cert.StepDnIdeal.nD → PrngReg), True →
    θ_run (Cert.StepDnIdeal.defs (F := Bits)) (onTc (τ := Cert.StepDnIdeal.τ) (Cert.StepDnIdeal.main (F := Bits))) ⟨m, fun _ => 0, g⟩
      (fun r => (∀ c : Dev Cert.StepDnIdeal.nD, r.2.mem ((c.tc : Thread Cert.StepDnIdeal.nD Cert.StepDnIdeal.τ).loc Cert.StepDnIdeal.main_arg0) = m ((c.tc : Thread Cert.StepDnIdeal.nD Cert.StepDnIdeal.τ).loc Cert.StepDnIdeal.main_arg0)
        ∧ r.2.mem ((c.tc : Thread Cert.StepDnIdeal.nD Cert.StepDnIdeal.τ).loc Cert.StepDnIdeal.main_arg1) = m ((c.tc : Thread Cert.StepDnIdeal.nD Cert.StepDnIdeal.τ).loc Cert.StepDnIdeal.main_arg1)
        ∧ r.2.mem ((c.tc : Thread Cert.StepDnIdeal.nD Cert.StepDnIdeal.τ).loc Cert.StepDnIdeal.main_arg2) = m ((c.tc : Thread Cert.StepDnIdeal.nD Cert.StepDnIdeal.τ).loc Cert.StepDnIdeal.main_arg2)
        ∧ r.2.mem ((c.tc : Thread Cert.StepDnIdeal.nD Cert.StepDnIdeal.τ).loc Cert.StepDnIdeal.main_arg3) = m ((c.tc : Thread Cert.StepDnIdeal.nD Cert.StepDnIdeal.τ).loc Cert.StepDnIdeal.main_arg3))
        ∧ r.2.sem = fun _ => 0)

/-- It is the frame proved for every carrier. -/
theorem runsStepDn : RunsStepDn := fun m g _ => Cert.StepDnIdeal.Gen.frame (F := Bits) m g

/-- The frame of the kernel as printed. -/
theorem frameStepDn : Cert.quiescent_StepDn :=
  (show RunsStepDn = Cert.quiescent_StepDn by sl_kernel_rfl) ▸ runsStepDn

/-- The optimiser's step of the small weights: the run of the kernel's text over bit patterns. -/
def RunsStepSmall : Prop :=
  ∀ (m : (ℓ : Loc Cert.StepSmallIdeal.nD Cert.StepSmallIdeal.τ Cert.StepSmallIdeal.sig) → Buf (Elt Bits) ℓ) (g : Dev Cert.StepSmallIdeal.nD → PrngReg), True →
    θ_run (Cert.StepSmallIdeal.defs (F := Bits)) (onTc (τ := Cert.StepSmallIdeal.τ) (Cert.StepSmallIdeal.main (F := Bits))) ⟨m, fun _ => 0, g⟩
      (fun r => (∀ c : Dev Cert.StepSmallIdeal.nD, r.2.mem ((c.tc : Thread Cert.StepSmallIdeal.nD Cert.StepSmallIdeal.τ).loc Cert.StepSmallIdeal.main_arg0) = m ((c.tc : Thread Cert.StepSmallIdeal.nD Cert.StepSmallIdeal.τ).loc Cert.StepSmallIdeal.main_arg0)
        ∧ r.2.mem ((c.tc : Thread Cert.StepSmallIdeal.nD Cert.StepSmallIdeal.τ).loc Cert.StepSmallIdeal.main_arg1) = m ((c.tc : Thread Cert.StepSmallIdeal.nD Cert.StepSmallIdeal.τ).loc Cert.StepSmallIdeal.main_arg1)
        ∧ r.2.mem ((c.tc : Thread Cert.StepSmallIdeal.nD Cert.StepSmallIdeal.τ).loc Cert.StepSmallIdeal.main_arg2) = m ((c.tc : Thread Cert.StepSmallIdeal.nD Cert.StepSmallIdeal.τ).loc Cert.StepSmallIdeal.main_arg2)
        ∧ r.2.mem ((c.tc : Thread Cert.StepSmallIdeal.nD Cert.StepSmallIdeal.τ).loc Cert.StepSmallIdeal.main_arg3) = m ((c.tc : Thread Cert.StepSmallIdeal.nD Cert.StepSmallIdeal.τ).loc Cert.StepSmallIdeal.main_arg3)
        ∧ r.2.mem ((c.tc : Thread Cert.StepSmallIdeal.nD Cert.StepSmallIdeal.τ).loc Cert.StepSmallIdeal.main_arg4) = m ((c.tc : Thread Cert.StepSmallIdeal.nD Cert.StepSmallIdeal.τ).loc Cert.StepSmallIdeal.main_arg4)
        ∧ r.2.mem ((c.tc : Thread Cert.StepSmallIdeal.nD Cert.StepSmallIdeal.τ).loc Cert.StepSmallIdeal.main_arg5) = m ((c.tc : Thread Cert.StepSmallIdeal.nD Cert.StepSmallIdeal.τ).loc Cert.StepSmallIdeal.main_arg5)
        ∧ r.2.mem ((c.tc : Thread Cert.StepSmallIdeal.nD Cert.StepSmallIdeal.τ).loc Cert.StepSmallIdeal.main_arg6) = m ((c.tc : Thread Cert.StepSmallIdeal.nD Cert.StepSmallIdeal.τ).loc Cert.StepSmallIdeal.main_arg6)
        ∧ r.2.mem ((c.tc : Thread Cert.StepSmallIdeal.nD Cert.StepSmallIdeal.τ).loc Cert.StepSmallIdeal.main_arg7) = m ((c.tc : Thread Cert.StepSmallIdeal.nD Cert.StepSmallIdeal.τ).loc Cert.StepSmallIdeal.main_arg7)
        ∧ r.2.mem ((c.tc : Thread Cert.StepSmallIdeal.nD Cert.StepSmallIdeal.τ).loc Cert.StepSmallIdeal.main_arg8) = m ((c.tc : Thread Cert.StepSmallIdeal.nD Cert.StepSmallIdeal.τ).loc Cert.StepSmallIdeal.main_arg8)
        ∧ r.2.mem ((c.tc : Thread Cert.StepSmallIdeal.nD Cert.StepSmallIdeal.τ).loc Cert.StepSmallIdeal.main_arg9) = m ((c.tc : Thread Cert.StepSmallIdeal.nD Cert.StepSmallIdeal.τ).loc Cert.StepSmallIdeal.main_arg9)
        ∧ r.2.mem ((c.tc : Thread Cert.StepSmallIdeal.nD Cert.StepSmallIdeal.τ).loc Cert.StepSmallIdeal.main_arg10) = m ((c.tc : Thread Cert.StepSmallIdeal.nD Cert.StepSmallIdeal.τ).loc Cert.StepSmallIdeal.main_arg10)
        ∧ r.2.mem ((c.tc : Thread Cert.StepSmallIdeal.nD Cert.StepSmallIdeal.τ).loc Cert.StepSmallIdeal.main_arg11) = m ((c.tc : Thread Cert.StepSmallIdeal.nD Cert.StepSmallIdeal.τ).loc Cert.StepSmallIdeal.main_arg11)
        ∧ r.2.mem ((c.tc : Thread Cert.StepSmallIdeal.nD Cert.StepSmallIdeal.τ).loc Cert.StepSmallIdeal.main_arg12) = m ((c.tc : Thread Cert.StepSmallIdeal.nD Cert.StepSmallIdeal.τ).loc Cert.StepSmallIdeal.main_arg12)
        ∧ r.2.mem ((c.tc : Thread Cert.StepSmallIdeal.nD Cert.StepSmallIdeal.τ).loc Cert.StepSmallIdeal.main_arg13) = m ((c.tc : Thread Cert.StepSmallIdeal.nD Cert.StepSmallIdeal.τ).loc Cert.StepSmallIdeal.main_arg13)
        ∧ r.2.mem ((c.tc : Thread Cert.StepSmallIdeal.nD Cert.StepSmallIdeal.τ).loc Cert.StepSmallIdeal.main_arg14) = m ((c.tc : Thread Cert.StepSmallIdeal.nD Cert.StepSmallIdeal.τ).loc Cert.StepSmallIdeal.main_arg14)
        ∧ r.2.mem ((c.tc : Thread Cert.StepSmallIdeal.nD Cert.StepSmallIdeal.τ).loc Cert.StepSmallIdeal.main_arg15) = m ((c.tc : Thread Cert.StepSmallIdeal.nD Cert.StepSmallIdeal.τ).loc Cert.StepSmallIdeal.main_arg15)
        ∧ r.2.mem ((c.tc : Thread Cert.StepSmallIdeal.nD Cert.StepSmallIdeal.τ).loc Cert.StepSmallIdeal.main_arg16) = m ((c.tc : Thread Cert.StepSmallIdeal.nD Cert.StepSmallIdeal.τ).loc Cert.StepSmallIdeal.main_arg16)
        ∧ r.2.mem ((c.tc : Thread Cert.StepSmallIdeal.nD Cert.StepSmallIdeal.τ).loc Cert.StepSmallIdeal.main_arg17) = m ((c.tc : Thread Cert.StepSmallIdeal.nD Cert.StepSmallIdeal.τ).loc Cert.StepSmallIdeal.main_arg17)
        ∧ r.2.mem ((c.tc : Thread Cert.StepSmallIdeal.nD Cert.StepSmallIdeal.τ).loc Cert.StepSmallIdeal.main_arg18) = m ((c.tc : Thread Cert.StepSmallIdeal.nD Cert.StepSmallIdeal.τ).loc Cert.StepSmallIdeal.main_arg18)
        ∧ r.2.mem ((c.tc : Thread Cert.StepSmallIdeal.nD Cert.StepSmallIdeal.τ).loc Cert.StepSmallIdeal.main_arg19) = m ((c.tc : Thread Cert.StepSmallIdeal.nD Cert.StepSmallIdeal.τ).loc Cert.StepSmallIdeal.main_arg19)
        ∧ r.2.mem ((c.tc : Thread Cert.StepSmallIdeal.nD Cert.StepSmallIdeal.τ).loc Cert.StepSmallIdeal.main_arg20) = m ((c.tc : Thread Cert.StepSmallIdeal.nD Cert.StepSmallIdeal.τ).loc Cert.StepSmallIdeal.main_arg20)
        ∧ r.2.mem ((c.tc : Thread Cert.StepSmallIdeal.nD Cert.StepSmallIdeal.τ).loc Cert.StepSmallIdeal.main_arg21) = m ((c.tc : Thread Cert.StepSmallIdeal.nD Cert.StepSmallIdeal.τ).loc Cert.StepSmallIdeal.main_arg21)
        ∧ r.2.mem ((c.tc : Thread Cert.StepSmallIdeal.nD Cert.StepSmallIdeal.τ).loc Cert.StepSmallIdeal.main_arg22) = m ((c.tc : Thread Cert.StepSmallIdeal.nD Cert.StepSmallIdeal.τ).loc Cert.StepSmallIdeal.main_arg22)
        ∧ r.2.mem ((c.tc : Thread Cert.StepSmallIdeal.nD Cert.StepSmallIdeal.τ).loc Cert.StepSmallIdeal.main_arg23) = m ((c.tc : Thread Cert.StepSmallIdeal.nD Cert.StepSmallIdeal.τ).loc Cert.StepSmallIdeal.main_arg23)
        ∧ r.2.mem ((c.tc : Thread Cert.StepSmallIdeal.nD Cert.StepSmallIdeal.τ).loc Cert.StepSmallIdeal.main_arg24) = m ((c.tc : Thread Cert.StepSmallIdeal.nD Cert.StepSmallIdeal.τ).loc Cert.StepSmallIdeal.main_arg24)
        ∧ r.2.mem ((c.tc : Thread Cert.StepSmallIdeal.nD Cert.StepSmallIdeal.τ).loc Cert.StepSmallIdeal.main_arg25) = m ((c.tc : Thread Cert.StepSmallIdeal.nD Cert.StepSmallIdeal.τ).loc Cert.StepSmallIdeal.main_arg25)
        ∧ r.2.mem ((c.tc : Thread Cert.StepSmallIdeal.nD Cert.StepSmallIdeal.τ).loc Cert.StepSmallIdeal.main_arg26) = m ((c.tc : Thread Cert.StepSmallIdeal.nD Cert.StepSmallIdeal.τ).loc Cert.StepSmallIdeal.main_arg26)
        ∧ r.2.mem ((c.tc : Thread Cert.StepSmallIdeal.nD Cert.StepSmallIdeal.τ).loc Cert.StepSmallIdeal.main_arg27) = m ((c.tc : Thread Cert.StepSmallIdeal.nD Cert.StepSmallIdeal.τ).loc Cert.StepSmallIdeal.main_arg27)
        ∧ r.2.mem ((c.tc : Thread Cert.StepSmallIdeal.nD Cert.StepSmallIdeal.τ).loc Cert.StepSmallIdeal.main_arg28) = m ((c.tc : Thread Cert.StepSmallIdeal.nD Cert.StepSmallIdeal.τ).loc Cert.StepSmallIdeal.main_arg28)
        ∧ r.2.mem ((c.tc : Thread Cert.StepSmallIdeal.nD Cert.StepSmallIdeal.τ).loc Cert.StepSmallIdeal.main_arg29) = m ((c.tc : Thread Cert.StepSmallIdeal.nD Cert.StepSmallIdeal.τ).loc Cert.StepSmallIdeal.main_arg29)
        ∧ r.2.mem ((c.tc : Thread Cert.StepSmallIdeal.nD Cert.StepSmallIdeal.τ).loc Cert.StepSmallIdeal.main_arg30) = m ((c.tc : Thread Cert.StepSmallIdeal.nD Cert.StepSmallIdeal.τ).loc Cert.StepSmallIdeal.main_arg30)
        ∧ r.2.mem ((c.tc : Thread Cert.StepSmallIdeal.nD Cert.StepSmallIdeal.τ).loc Cert.StepSmallIdeal.main_arg31) = m ((c.tc : Thread Cert.StepSmallIdeal.nD Cert.StepSmallIdeal.τ).loc Cert.StepSmallIdeal.main_arg31)
        ∧ r.2.mem ((c.tc : Thread Cert.StepSmallIdeal.nD Cert.StepSmallIdeal.τ).loc Cert.StepSmallIdeal.main_arg32) = m ((c.tc : Thread Cert.StepSmallIdeal.nD Cert.StepSmallIdeal.τ).loc Cert.StepSmallIdeal.main_arg32)
        ∧ r.2.mem ((c.tc : Thread Cert.StepSmallIdeal.nD Cert.StepSmallIdeal.τ).loc Cert.StepSmallIdeal.main_arg33) = m ((c.tc : Thread Cert.StepSmallIdeal.nD Cert.StepSmallIdeal.τ).loc Cert.StepSmallIdeal.main_arg33)
        ∧ r.2.mem ((c.tc : Thread Cert.StepSmallIdeal.nD Cert.StepSmallIdeal.τ).loc Cert.StepSmallIdeal.main_arg34) = m ((c.tc : Thread Cert.StepSmallIdeal.nD Cert.StepSmallIdeal.τ).loc Cert.StepSmallIdeal.main_arg34)
        ∧ r.2.mem ((c.tc : Thread Cert.StepSmallIdeal.nD Cert.StepSmallIdeal.τ).loc Cert.StepSmallIdeal.main_arg35) = m ((c.tc : Thread Cert.StepSmallIdeal.nD Cert.StepSmallIdeal.τ).loc Cert.StepSmallIdeal.main_arg35)
        ∧ r.2.mem ((c.tc : Thread Cert.StepSmallIdeal.nD Cert.StepSmallIdeal.τ).loc Cert.StepSmallIdeal.main_arg36) = m ((c.tc : Thread Cert.StepSmallIdeal.nD Cert.StepSmallIdeal.τ).loc Cert.StepSmallIdeal.main_arg36)
        ∧ r.2.mem ((c.tc : Thread Cert.StepSmallIdeal.nD Cert.StepSmallIdeal.τ).loc Cert.StepSmallIdeal.main_arg37) = m ((c.tc : Thread Cert.StepSmallIdeal.nD Cert.StepSmallIdeal.τ).loc Cert.StepSmallIdeal.main_arg37)
        ∧ r.2.mem ((c.tc : Thread Cert.StepSmallIdeal.nD Cert.StepSmallIdeal.τ).loc Cert.StepSmallIdeal.main_arg38) = m ((c.tc : Thread Cert.StepSmallIdeal.nD Cert.StepSmallIdeal.τ).loc Cert.StepSmallIdeal.main_arg38)
        ∧ r.2.mem ((c.tc : Thread Cert.StepSmallIdeal.nD Cert.StepSmallIdeal.τ).loc Cert.StepSmallIdeal.main_arg39) = m ((c.tc : Thread Cert.StepSmallIdeal.nD Cert.StepSmallIdeal.τ).loc Cert.StepSmallIdeal.main_arg39)
        ∧ r.2.mem ((c.tc : Thread Cert.StepSmallIdeal.nD Cert.StepSmallIdeal.τ).loc Cert.StepSmallIdeal.main_arg40) = m ((c.tc : Thread Cert.StepSmallIdeal.nD Cert.StepSmallIdeal.τ).loc Cert.StepSmallIdeal.main_arg40)
        ∧ r.2.mem ((c.tc : Thread Cert.StepSmallIdeal.nD Cert.StepSmallIdeal.τ).loc Cert.StepSmallIdeal.main_arg41) = m ((c.tc : Thread Cert.StepSmallIdeal.nD Cert.StepSmallIdeal.τ).loc Cert.StepSmallIdeal.main_arg41)
        ∧ r.2.mem ((c.tc : Thread Cert.StepSmallIdeal.nD Cert.StepSmallIdeal.τ).loc Cert.StepSmallIdeal.main_arg42) = m ((c.tc : Thread Cert.StepSmallIdeal.nD Cert.StepSmallIdeal.τ).loc Cert.StepSmallIdeal.main_arg42)
        ∧ r.2.mem ((c.tc : Thread Cert.StepSmallIdeal.nD Cert.StepSmallIdeal.τ).loc Cert.StepSmallIdeal.main_arg43) = m ((c.tc : Thread Cert.StepSmallIdeal.nD Cert.StepSmallIdeal.τ).loc Cert.StepSmallIdeal.main_arg43)
        ∧ r.2.mem ((c.tc : Thread Cert.StepSmallIdeal.nD Cert.StepSmallIdeal.τ).loc Cert.StepSmallIdeal.main_arg44) = m ((c.tc : Thread Cert.StepSmallIdeal.nD Cert.StepSmallIdeal.τ).loc Cert.StepSmallIdeal.main_arg44)
        ∧ r.2.mem ((c.tc : Thread Cert.StepSmallIdeal.nD Cert.StepSmallIdeal.τ).loc Cert.StepSmallIdeal.main_arg45) = m ((c.tc : Thread Cert.StepSmallIdeal.nD Cert.StepSmallIdeal.τ).loc Cert.StepSmallIdeal.main_arg45)
        ∧ r.2.mem ((c.tc : Thread Cert.StepSmallIdeal.nD Cert.StepSmallIdeal.τ).loc Cert.StepSmallIdeal.main_arg46) = m ((c.tc : Thread Cert.StepSmallIdeal.nD Cert.StepSmallIdeal.τ).loc Cert.StepSmallIdeal.main_arg46)
        ∧ r.2.mem ((c.tc : Thread Cert.StepSmallIdeal.nD Cert.StepSmallIdeal.τ).loc Cert.StepSmallIdeal.main_arg47) = m ((c.tc : Thread Cert.StepSmallIdeal.nD Cert.StepSmallIdeal.τ).loc Cert.StepSmallIdeal.main_arg47)
        ∧ r.2.mem ((c.tc : Thread Cert.StepSmallIdeal.nD Cert.StepSmallIdeal.τ).loc Cert.StepSmallIdeal.main_arg48) = m ((c.tc : Thread Cert.StepSmallIdeal.nD Cert.StepSmallIdeal.τ).loc Cert.StepSmallIdeal.main_arg48)
        ∧ r.2.mem ((c.tc : Thread Cert.StepSmallIdeal.nD Cert.StepSmallIdeal.τ).loc Cert.StepSmallIdeal.main_arg49) = m ((c.tc : Thread Cert.StepSmallIdeal.nD Cert.StepSmallIdeal.τ).loc Cert.StepSmallIdeal.main_arg49)
        ∧ r.2.mem ((c.tc : Thread Cert.StepSmallIdeal.nD Cert.StepSmallIdeal.τ).loc Cert.StepSmallIdeal.main_arg50) = m ((c.tc : Thread Cert.StepSmallIdeal.nD Cert.StepSmallIdeal.τ).loc Cert.StepSmallIdeal.main_arg50)
        ∧ r.2.mem ((c.tc : Thread Cert.StepSmallIdeal.nD Cert.StepSmallIdeal.τ).loc Cert.StepSmallIdeal.main_arg51) = m ((c.tc : Thread Cert.StepSmallIdeal.nD Cert.StepSmallIdeal.τ).loc Cert.StepSmallIdeal.main_arg51))
        ∧ r.2.sem = fun _ => 0)

/-- It is the frame proved for every carrier. -/
theorem runsStepSmall : RunsStepSmall := fun m g _ => Cert.StepSmallIdeal.Gen.frame (F := Bits) m g

/-- The frame of the kernel as printed. -/
theorem frameStepSmall : Cert.quiescent_StepSmall :=
  (show RunsStepSmall = Cert.quiescent_StepSmall by sl_kernel_rfl) ▸ runsStepSmall

/-- The sum over the devices: the run of the kernel's text over bit patterns. -/
def RunsSums : Prop :=
  ∀ (m : (ℓ : Loc Cert.SumsIdeal.nD Cert.SumsIdeal.τ Cert.SumsIdeal.sig) → Buf (Elt Bits) ℓ) (g : Dev Cert.SumsIdeal.nD → PrngReg), True →
    θ_run (Cert.SumsIdeal.defs (F := Bits)) (onTc (τ := Cert.SumsIdeal.τ) (Cert.SumsIdeal.main (F := Bits))) ⟨m, fun _ => 0, g⟩
      (fun r => (∀ c : Dev Cert.SumsIdeal.nD, r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
        ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
        ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2)
        ∧ r.2.mem ((c.tc : Thread Cert.SumsIdeal.nD Cert.SumsIdeal.τ).loc Cert.SumsIdeal.main_arg3) = m ((c.tc : Thread Cert.SumsIdeal.nD Cert.SumsIdeal.τ).loc Cert.SumsIdeal.main_arg3)
        ∧ r.2.mem ((c.tc : Thread Cert.SumsIdeal.nD Cert.SumsIdeal.τ).loc Cert.SumsIdeal.main_arg4) = m ((c.tc : Thread Cert.SumsIdeal.nD Cert.SumsIdeal.τ).loc Cert.SumsIdeal.main_arg4)
        ∧ r.2.mem ((c.tc : Thread Cert.SumsIdeal.nD Cert.SumsIdeal.τ).loc Cert.SumsIdeal.main_arg5) = m ((c.tc : Thread Cert.SumsIdeal.nD Cert.SumsIdeal.τ).loc Cert.SumsIdeal.main_arg5)
        ∧ r.2.mem ((c.tc : Thread Cert.SumsIdeal.nD Cert.SumsIdeal.τ).loc Cert.SumsIdeal.main_arg6) = m ((c.tc : Thread Cert.SumsIdeal.nD Cert.SumsIdeal.τ).loc Cert.SumsIdeal.main_arg6)
        ∧ r.2.mem ((c.tc : Thread Cert.SumsIdeal.nD Cert.SumsIdeal.τ).loc Cert.SumsIdeal.main_arg7) = m ((c.tc : Thread Cert.SumsIdeal.nD Cert.SumsIdeal.τ).loc Cert.SumsIdeal.main_arg7)
        ∧ r.2.mem ((c.tc : Thread Cert.SumsIdeal.nD Cert.SumsIdeal.τ).loc Cert.SumsIdeal.main_arg8) = m ((c.tc : Thread Cert.SumsIdeal.nD Cert.SumsIdeal.τ).loc Cert.SumsIdeal.main_arg8)
        ∧ r.2.mem ((c.tc : Thread Cert.SumsIdeal.nD Cert.SumsIdeal.τ).loc Cert.SumsIdeal.main_arg9) = m ((c.tc : Thread Cert.SumsIdeal.nD Cert.SumsIdeal.τ).loc Cert.SumsIdeal.main_arg9)
        ∧ r.2.mem ((c.tc : Thread Cert.SumsIdeal.nD Cert.SumsIdeal.τ).loc Cert.SumsIdeal.main_arg10) = m ((c.tc : Thread Cert.SumsIdeal.nD Cert.SumsIdeal.τ).loc Cert.SumsIdeal.main_arg10)
        ∧ r.2.mem ((c.tc : Thread Cert.SumsIdeal.nD Cert.SumsIdeal.τ).loc Cert.SumsIdeal.main_arg11) = m ((c.tc : Thread Cert.SumsIdeal.nD Cert.SumsIdeal.τ).loc Cert.SumsIdeal.main_arg11)
        ∧ r.2.mem ((c.tc : Thread Cert.SumsIdeal.nD Cert.SumsIdeal.τ).loc Cert.SumsIdeal.main_arg12) = m ((c.tc : Thread Cert.SumsIdeal.nD Cert.SumsIdeal.τ).loc Cert.SumsIdeal.main_arg12)
        ∧ r.2.mem ((c.tc : Thread Cert.SumsIdeal.nD Cert.SumsIdeal.τ).loc Cert.SumsIdeal.main_arg13) = m ((c.tc : Thread Cert.SumsIdeal.nD Cert.SumsIdeal.τ).loc Cert.SumsIdeal.main_arg13))
        ∧ r.2.sem = fun _ => 0)

/-- It is the frame proved for every carrier. -/
theorem runsSums : RunsSums := fun m g _ => Cert.SumsIdeal.Gen.frame (F := Bits) m g

/-- The frame of the kernel as printed. -/
theorem frameSums : Cert.quiescent_Sums :=
  (show RunsSums = Cert.quiescent_Sums by sl_kernel_rfl) ▸ runsSums

end Cert.Bits
-- ==== Proof.DwInValue.lean ====
/- The gradient of the weights of the product that opens the feed-forward block.

   Each block of the kernel's result is accumulated over two stretches of 2048 tokens; the reference contracts all
   4096 tokens at once. The two stretches together are the whole contraction. -/
module

public import proofs.«01_k».proof.Proof.Gen.DwInIdeal.Value
public import proofs.«01_k».proof.Proof.Gen.DwInRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwInIdeal.Weights

open Cert.DwInIdeal Cert.DwInIdeal.Gen

variable (m : (ℓ : Loc nD τ sig) → Buf (Elt Ideal) ℓ)

/-- The reference's result as a term of its arguments. -/
abbrev grad (h : FVec Ideal Cert.DwInRefIdeal.S4096x1024 .f32) (ct : FVec Ideal Cert.DwInRefIdeal.S4096x5632 .f32) :
    FVec Ideal Cert.DwInRefIdeal.S4x1024x1408 .bf16 :=
  truncf .bf16 (transpose Cert.DwInRefIdeal.S4x1024x1408 [1, 0, 2] (shapeCast Cert.DwInRefIdeal.S1024x4x1408
    (transpose Cert.DwInRefIdeal.S1024x5632 [1, 0]
      (Host.dotGeneral (φ₁ := .f32) (φ₂ := .f32) Cert.DwInRefIdeal.dot_S4096x5632_S4096x1024_S5632x1024_0_0_1_1_n_n none ct h)
      Cert.DwInRefIdeal.Gen.transposes_S5632x1024_S1024x5632_1_0)
    Cert.DwInRefIdeal.Gen.shapeCasts_S1024x5632_S1024x4x1408)
    Cert.DwInRefIdeal.Gen.transposes_S1024x4x1408_S4x1024x1408_1_0_2) Cert.DwInRefIdeal.Gen.bitsLt_bf16_f32

/-- Where the windows stand at a grid point. -/
theorem place : ∀ t : Fin cfg0.N, win0_0.index t = ![t.val % 2, 0]
    ∧ win0_1.index t = ![t.val / 4, t.val % 2, t.val / 2 % 2] ∧ win0_2.index t = ![t.val / 2, 0, 0] :=
  (by decide +kernel : ∀ t : Fin grid0.N, _)

/-- The accumulator starts at zero. -/
theorem zero_apply (j) : k0_pay1 (F := Ideal) j = 0 := by pointwise [k0_pay1]

/-- One stretch of tokens adds its own contraction. -/
theorem step_apply (acc : Vec Ideal S1024x1408 .f32) (x : Vec Ideal S2048x1024 .bf16) (y : Vec Ideal S1x2048x1408 .bf16) (j) :
    k0_pay2 acc x y j = acc j + ∑ k : Fin 2048, x (ix2 k (j 0)) * y (ix3 0 k (j 1)) := by
  pointwise [k0_pay2]

/-- The block written back is the accumulator. -/
theorem store_apply (acc : Vec Ideal S1024x1408 .f32) (j) : k0_pay3 acc j = acc (ix2 (j 1) (j 2)) := by
  pointwise [k0_pay3]

/-- The reference at an index: the contraction over all tokens. -/
theorem grad_apply (h : FVec Ideal Cert.DwInRefIdeal.S4096x1024 .f32) (ct : FVec Ideal Cert.DwInRefIdeal.S4096x5632 .f32)
    (j : Cert.DwInRefIdeal.S4x1024x1408.Idx) (hj : (j 0).val * 1408 + (j 2).val < 5632) :
    grad h ct j = ∑ k : Fin 4096, ct (ix2 k ⟨(j 0).val * 1408 + (j 2).val, hj⟩) * h (ix2 k (j 1)) := by
  pointwise [grad]

/-- The array the call ends with is the reference's result. -/
theorem final (c : Dev nD) : (dats m 0 c).arrAt 2 (cfgs 0).N
    = grad (m ((c : Thread nD τ).loc main_arg0)) (m ((c : Thread nD τ).loc main_arg2)) := by
  refine (dats m 0 c).arrAt_eq_of_covers 2 _ (by decide +kernel) fun t hf y => ?_
  blk_simp
  have h1 : t.val % 2 = 1 := (flush0_2 t).mp hf
  have h0 : ¬ t.val % 2 = 0 := by omega
  have hN : t.val < 8 := lt_of_lt_of_eq t.isLt N_0
  let s : Fin cfg0.N := ⟨t.val - 1, Nat.lt_of_le_of_lt (Nat.sub_le _ _) t.isLt⟩
  have e0 : s.val % 2 = 0 := by show (t.val - 1) % 2 = 0; omega
  have e1 : ¬ s.val % 2 = 1 := by omega
  rw [after0_2, outsAt0_B m c t h0 h1]
  frame_out
  rw [show outsAt0 m c (t.val - 1) (Nat.lt_of_le_of_lt (Nat.sub_le _ _) t.isLt) = outsAt0 m c s.val s.isLt from rfl,
    outsAt0_A m c s e0 e1]
  frame_out
  simp only [read_unread_whole]
  rw [store_apply, step_apply, step_apply, zero_apply, zero_add]
  have hy : (((((cfg0.win 2).blk t).view.emb y) 0 : Fin _) : ℕ) * 1408 + ((((cfg0.win 2).blk t).view.emb y) 2 : Fin _).val < 5632 := by
    blk_simp [place t]
    idx_bounds
    omega
  rw [grad_apply _ _ _ hy, Fin.sum_univ_add (a := 2048) (b := 2048)]
  have hs : s.val = t.val - 1 := rfl
  clear_value s
  refine congrArg₂ (· + ·) (Fintype.sum_congr _ _ fun k => ?_) (Fintype.sum_congr _ _ fun k => ?_)
  · rw [mul_comm]
    blk_point [iblk, V, place s, place t]
    all_goals (show _ = k.val; omega)
  · rw [mul_comm]
    blk_point [iblk, V, place t]
    all_goals (show _ = 2048 + k.val; omega)

/-- The two programs end with equal results. -/
theorem algebraic : Cert.algebraic_DwInIdeal_DwInRefIdeal := fun m g m' g' _ hagree =>
  ⟨fun c => grad (m ((c : Thread nD τ).loc main_arg0)) (m ((c : Thread nD τ).loc main_arg2)),
    (θ_run defs _ _).mono (fun _ h c => ⟨(h c).1.trans (final m c), (h c).2⟩) (Cert.DwInIdeal.Value.run_blocks m g),
    (θ_run Cert.DwInRefIdeal.defs _ _).mono
      (fun _ h c => ⟨(h c).1.trans (by rw [(hagree c).1, (hagree c).2.2]), (h c).2⟩) (Cert.DwInRefIdeal.Value.run m' g')⟩

end Cert.DwInIdeal.Weights
-- ==== Proof.DwOutValue.lean ====
/- The gradient of the weights of the product that closes the feed-forward block.

   The kernel's result is accumulated over four stretches of 1024 tokens; the reference contracts all
   4096 tokens at once. The four stretches together are the whole contraction. -/
module

public import proofs.«01_k».proof.Proof.Gen.DwOutIdeal.Value
public import proofs.«01_k».proof.Proof.Gen.DwOutRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwOutIdeal.Weights

open Cert.DwOutIdeal Cert.DwOutIdeal.Gen

variable (m : (ℓ : Loc nD τ sig) → Buf (Elt Ideal) ℓ)

/-- The reference's result as a term of its arguments. -/
abbrev grad (h : FVec Ideal Cert.DwOutRefIdeal.S4096x2816 .f32) (ct : FVec Ideal Cert.DwOutRefIdeal.S4096x1024 .f32) :
    FVec Ideal Cert.DwOutRefIdeal.S1x2816x1024 .bf16 :=
  truncf .bf16 (broadcastInDim Cert.DwOutRefIdeal.S1x2816x1024 ![1, 2] Cert.DwOutRefIdeal.Gen.bcast_S2816x1024_S1x2816x1024_1_2
    (transpose Cert.DwOutRefIdeal.S2816x1024 [1, 0] (Host.dotGeneral (φ₁ := .f32) (φ₂ := .f32) Cert.DwOutRefIdeal.dot_S4096x1024_S4096x2816_S1024x2816_0_0_1_1_n_n none ct h)
      Cert.DwOutRefIdeal.Gen.transposes_S1024x2816_S2816x1024_1_0)) Cert.DwOutRefIdeal.Gen.bitsLt_bf16_f32

/-- Where the windows stand at a grid point. -/
theorem place : ∀ t : Fin cfg0.N, win0_0.index t = ![t.val, 0]
    ∧ win0_1.index t = ![0, t.val, 0] ∧ win0_2.index t = ![0, 0, 0] :=
  (by decide +kernel : ∀ t : Fin grid0.N, _)

/-- The accumulator starts at zero. -/
theorem zero_apply (j) : k0_pay1 (F := Ideal) j = 0 := by pointwise [k0_pay1]

/-- One stretch of tokens adds its own contraction. -/
theorem step_apply (acc : Vec Ideal S2816x1024 .f32) (x : Vec Ideal S1024x2816 .bf16) (y : Vec Ideal S1x1024x1024 .bf16) (j) :
    k0_pay2 acc x y j = acc j + ∑ k : Fin 1024, x (ix2 k (j 0)) * y (ix3 0 k (j 1)) := by
  pointwise [k0_pay2]

/-- The block written back is the accumulator. -/
theorem store_apply (acc : Vec Ideal S2816x1024 .f32) (j) : k0_pay3 acc j = acc (ix2 (j 1) (j 2)) := by
  pointwise [k0_pay3]

/-- The reference at an index: the contraction over all tokens. -/
theorem grad_apply (h : FVec Ideal Cert.DwOutRefIdeal.S4096x2816 .f32) (ct : FVec Ideal Cert.DwOutRefIdeal.S4096x1024 .f32)
    (j : Cert.DwOutRefIdeal.S1x2816x1024.Idx) :
    grad h ct j = ∑ k : Fin 4096, ct (ix2 k (j 2)) * h (ix2 k (j 1)) := by
  pointwise [grad]

/-- The sum over the tokens, one stretch of 1024 after another. -/
theorem sum_stretches (f : Fin 4096 → EReal) : ∑ k, f k =
    (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  rw [Fin.sum_univ_add (a := 3072) (b := 1024), Fin.sum_univ_add (a := 2048) (b := 1024),
    Fin.sum_univ_add (a := 1024) (b := 1024)]
  rfl

/-- The array the call ends with is the reference's result. -/
theorem final (c : Dev nD) : (dats m 0 c).arrAt 2 (cfgs 0).N
    = grad (m ((c : Thread nD τ).loc main_arg0)) (m ((c : Thread nD τ).loc main_arg2)) := by
  refine (dats m 0 c).arrAt_eq_of_covers 2 _ (by decide +kernel) fun t hf y => ?_
  blk_simp
  have h1 : t.val % 4 = 3 := (flush0_2 t).mp hf
  have hN : t.val < 4 := lt_of_lt_of_eq t.isLt N_0
  have before : ∀ d, t.val - d < cfg0.N := fun d => Nat.lt_of_le_of_lt (Nat.sub_le _ _) t.isLt
  have p2 := outsAt0_B m c ⟨t.val - 1, before 1⟩ (by show ¬ (t.val - 1) % 4 = 0; omega) (by show ¬ (t.val - 1) % 4 = 3; omega)
  have p1 := outsAt0_B m c ⟨t.val - 1 - 1, before 2⟩ (by show ¬ (t.val - 1 - 1) % 4 = 0; omega) (by show ¬ (t.val - 1 - 1) % 4 = 3; omega)
  have p0 := outsAt0_A m c ⟨t.val - 1 - 1 - 1, before 3⟩ (by show (t.val - 1 - 1 - 1) % 4 = 0; omega) (by show ¬ (t.val - 1 - 1 - 1) % 4 = 3; omega)
  have e2 : (⟨t.val - 1, before 1⟩ : Fin cfg0.N).val = 2 := by show t.val - 1 = 2; omega
  have e1 : (⟨t.val - 1 - 1, before 2⟩ : Fin cfg0.N).val = 1 := by show t.val - 1 - 1 = 1; omega
  have e0 : (⟨t.val - 1 - 1 - 1, before 3⟩ : Fin cfg0.N).val = 0 := by show t.val - 1 - 1 - 1 = 0; omega
  rw [after0_2, outsAt0_C m c t (by omega) h1]
  frame_out
  rw [p2]
  frame_out
  rw [p1]
  frame_out
  rw [p0]
  frame_out
  generalize (⟨t.val - 1, before 1⟩ : Fin cfg0.N) = s2 at e2 ⊢
  generalize (⟨t.val - 1 - 1, before 2⟩ : Fin cfg0.N) = s1 at e1 ⊢
  generalize (⟨t.val - 1 - 1 - 1, before 3⟩ : Fin cfg0.N) = s0 at e0 ⊢
  simp only [read_unread_whole]
  rw [store_apply, step_apply, step_apply, step_apply, step_apply, zero_apply, zero_add]
  rw [grad_apply, sum_stretches]
  refine congrArg₂ (· + ·) (congrArg₂ (· + ·) (congrArg₂ (· + ·) (Fintype.sum_congr _ _ fun k => ?_) (Fintype.sum_congr _ _ fun k => ?_))
    (Fintype.sum_congr _ _ fun k => ?_)) (Fintype.sum_congr _ _ fun k => ?_)
  · rw [mul_comm]
    blk_point [iblk, V, place s0, place t, e0]
  · rw [mul_comm]
    blk_point [iblk, V, place s1, place t, e1]
  · rw [mul_comm]
    blk_point [iblk, V, place s2, place t, e2]
  · rw [mul_comm]
    blk_point [iblk, V, place t]

/-- The two programs end with equal results. -/
theorem algebraic : Cert.algebraic_DwOutIdeal_DwOutRefIdeal := fun m g m' g' _ hagree =>
  ⟨fun c => grad (m ((c : Thread nD τ).loc main_arg0)) (m ((c : Thread nD τ).loc main_arg2)),
    (θ_run defs _ _).mono (fun _ h c => ⟨(h c).1.trans (final m c), (h c).2⟩) (Cert.DwOutIdeal.Value.run_blocks m g),
    (θ_run Cert.DwOutRefIdeal.defs _ _).mono
      (fun _ h c => ⟨(h c).1.trans (by rw [(hagree c).1, (hagree c).2.2]), (h c).2⟩) (Cert.DwOutRefIdeal.Value.run m' g')⟩

end Cert.DwOutIdeal.Weights
-- ==== Proof.FwdARef.lean ====
/- The first half of the feed-forward block as the reference computes it: the modulated norm, its products with the
   weights, the gated product, read at an index. -/
module

public import proofs.«01_k».proof.Proof.Gen.FwdARefIdeal.Run
public import Idealize.ShloMosaic.Lib.Pipeline.ValueKit

@[expose] public section

set_option maxRecDepth 16384

noncomputable section

open Idealize.ShloMosaic Idealize.ShloMosaic.TcCoe Idealize.SL.Sem

namespace Cert.FwdARefIdeal.Half

open Cert.FwdARefIdeal Cert.FwdARefIdeal.Gen

/-- The modulated norm. -/
def norm (x : FVec Ideal S2x2048x1024 .f32) (mod : FVec Ideal S2x3x1024 .f32) (g : FVec Ideal S1024 .f32) :
    FVec Ideal S2x2048x1024 .f32 :=
  addf (mulf (mulf (mulf x (broadcastInDim S2x2048x1024 ![0, 1, 2] bcast_S2x2048x1_S2x2048x1024_0_1_2 (Host.rsqrt (addf
    (Host.divf (broadcastInDim S2x2048x1 ![0, 1] bcast_S2x2048_S2x2048x1_0_1 (Host.reduceAdd (mulf x x)
      (constant S_ .f32 0x00000000#32) reducesTo_S2x2048x1024_S2x2048_d2 h_S_))
      (broadcastInDim S2x2048x1 ![] bcast_S_S2x2048x1 (constant S_ .f32 0x44800000#32)))
    (broadcastInDim S2x2048x1 ![] bcast_S_S2x2048x1 (constant S_ .f32 0x358637BD#32))))))
    (broadcastInDim S2x2048x1024 ![0, 1, 2] bcast_S1x1x1024_S2x2048x1024_0_1_2
      (broadcastInDim S1x1x1024 ![2] bcast_S1024_S1x1x1024_2 g)))
    (broadcastInDim S2x2048x1024 ![0, 1, 2] bcast_S2x1x1024_S2x2048x1024_0_1_2
      (addf (broadcastInDim S2x1x1024 ![] bcast_S_S2x1x1024 (constant S_ .f32 0x3F800000#32))
        (broadcastInDim S2x1x1024 ![0, 2] bcast_S2x1024_S2x1x1024_0_2 (shapeCast _
          (extractStridedSlice S2x1x1024 ![0, 1, 0] mod slices_S2x3x1024_S2x1x1024_0_1_0) shapeCasts_S2x1x1024_S2x1024)))))
    (broadcastInDim S2x2048x1024 ![0, 1, 2] bcast_S2x1x1024_S2x2048x1024_0_1_2
      (broadcastInDim S2x1x1024 ![0, 2] bcast_S2x1024_S2x1x1024_0_2 (shapeCast _
        (extractStridedSlice S2x1x1024 ![0, 0, 0] mod slices_S2x3x1024_S2x1x1024_0_0_0) shapeCasts_S2x1x1024_S2x1024)))

/-- The product with the first weights: gate and upper half side by side. -/
def wide (h : FVec Ideal S2x2048x1024 .f32) (w : FVec Ideal S1024x5632 .f32) : FVec Ideal S2x2048x5632 .f32 :=
  Host.dotGeneral (φ₁ := .f32) (φ₂ := .f32) dot_S2x2048x1024_S1024x5632_S2x2048x5632_2_0_01_1_n_n none h w

/-- The gated product of a wide array. -/
def gated (u : FVec Ideal S2x2048x5632 .f32) : FVec Ideal S2x2048x2816 .f32 :=
  mulf (mulf (extractStridedSlice S2x2048x2816 ![0, 0, 0] u slices_S2x2048x5632_S2x2048x2816_0_0_0)
    (Host.divf (broadcastInDim S2x2048x2816 ![] bcast_S_S2x2048x2816 (constant S_ .f32 0x3F800000#32))
      (addf (broadcastInDim S2x2048x2816 ![] bcast_S_S2x2048x2816 (constant S_ .f32 0x3F800000#32))
        (Host.exp (Host.negf (extractStridedSlice S2x2048x2816 ![0, 0, 0] u slices_S2x2048x5632_S2x2048x2816_0_0_0))))))
    (extractStridedSlice S2x2048x2816 ![0, 0, 2816] u slices_S2x2048x5632_S2x2048x2816_0_0_2816)

/-- The first half's share of the closing product. -/
def close (p : FVec Ideal S2x2048x2816 .f32) (w : FVec Ideal S2816x1024 .f32) : FVec Ideal S2x2048x1024 .f32 :=
  Host.dotGeneral (φ₁ := .f32) (φ₂ := .f32) dot_S2x2048x1408_S1408x1024_S2x2048x1024_2_0_01_1_n_n none
    (extractStridedSlice S2x2048x1408 ![0, 0, 0] p slices_S2x2048x2816_S2x2048x1408_0_0_0)
    (extractStridedSlice S1408x1024 ![0, 0] w slices_S2816x1024_S1408x1024_0_0)

/-- The second result of the reference is this composition. -/
theorem res_eq (m : (ℓ : Loc nD τ sig) → Buf (Elt Ideal) ℓ) (c : Dev nD) :
    Value.res_main_v33 m c = close (gated (wide (norm (m ((c.tc : Thread nD τ).loc main_arg0)) (m ((c.tc : Thread nD τ).loc main_arg1))
      (m ((c.tc : Thread nD τ).loc main_arg2))) (m ((c.tc : Thread nD τ).loc main_arg3)))) (m ((c.tc : Thread nD τ).loc main_arg4)) := rfl

/-- The modulated norm at an index. -/
theorem norm_apply (x mod g) (j : S2x2048x1024.Idx) : norm x mod g j
    = x j * Ideal.rsqrt (Ideal.div (∑ k, x (ix3 (j 0) (j 1) k) * x (ix3 (j 0) (j 1) k)) (Ideal.ofBits FTy.f32 0x44800000#32)
        + Ideal.ofBits FTy.f32 0x358637BD#32) * g (ix1 (j 2)) * (1 + mod (ix3 (j 0) 1 (j 2))) + mod (ix3 (j 0) 0 (j 2)) := by
  pointwise [norm]

/-- The opening product at an index. -/
theorem wide_apply (h w) (j : S2x2048x5632.Idx) : wide h w j = ∑ k : Fin 1024, h (ix3 (j 0) (j 1) k) * w (ix2 k (j 2)) := by
  pointwise [wide]

/-- The gated product at an index. -/
theorem gated_apply (u) (j : S2x2048x2816.Idx) (h₁ : (j 2).val < 5632) (h₂ : 2816 + (j 2).val < 5632) : gated u j
    = u (ix3 (j 0) (j 1) ⟨(j 2).val, h₁⟩) * Ideal.div 1 (1 + Ideal.exp (-u (ix3 (j 0) (j 1) ⟨(j 2).val, h₁⟩)))
      * u (ix3 (j 0) (j 1) ⟨2816 + (j 2).val, h₂⟩) := by
  pointwise [gated]

/-- The first half's share of the closing product at an index. -/
theorem close_apply (p w) (j : S2x2048x1024.Idx) :
    close p w j = ∑ k : Fin 1408, p (ix3 (j 0) (j 1) ⟨k, by omega⟩) * w (ix2 ⟨k, by omega⟩ (j 2)) := by
  pointwise [close]

end Cert.FwdARefIdeal.Half
-- ==== Proof.FwdAValue.lean ====
/- The first half of the feed-forward block: the call computes the modulated norm and the first half's share of the
   closing product. -/
module

public import proofs.«01_k».proof.Proof.Gen.FwdAIdeal.Value
public import proofs.«01_k».proof.Proof.FwdARef
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.FwdARefIdeal.Half

namespace Cert.FwdAIdeal.Half

open Cert.FwdAIdeal Cert.FwdAIdeal.Gen

variable (m : (ℓ : Loc nD τ sig) → Buf (Elt Ideal) ℓ)

/-- Where the windows stand at a grid point. -/
theorem place : ∀ t : Fin cfg0.N, win0_0.index t = ![t.val / 4, t.val % 4, 0] ∧ win0_1.index t = ![t.val / 4, 0, 0]
    ∧ win0_2.index t = ![0, 0] ∧ win0_3.index t = ![0, 0, 0, 0] ∧ win0_4.index t = ![0, 0, 0]
    ∧ win0_5.index t = ![t.val / 4, t.val % 4, 0] ∧ win0_6.index t = ![0, t.val / 4, t.val % 4, 0]
    ∧ win0_7.index t = ![t.val / 4, t.val % 4, 0] :=
  (by decide +kernel : ∀ t : Fin grid0.N, _)

/-- The array coordinates of a row of a grid point's token block. -/
abbrev seq (t : Fin cfg0.N) : Fin 2 := ⟨t.val / 4, by have h := lt_of_lt_of_eq t.isLt N_0; omega⟩
abbrev row (t : Fin cfg0.N) (r : Fin 512) : Fin 2048 := ⟨t.val % 4 * 512 + r.val, by have h := r.isLt; omega⟩

/-- The first weights in the version's layout: the column blocks one after another. -/
def blocks (w : FVec Ideal S1024x5632 .f32) : FVec Ideal S2x2x1024x1408 .bf16 :=
  shapeCast _ (truncf .bf16 (transpose S4x1024x1408 [1, 0, 2] (shapeCast S1024x4x1408 w shapeCasts_S1024x5632_S1024x4x1408)
    transposes_S1024x4x1408_S4x1024x1408_1_0_2) bitsLt_bf16_f32) shapeCasts_S4x1024x1408_S2x2x1024x1408

theorem blocks_apply (w) (j : S2x2x1024x1408.Idx) (h : ((j 0).val * 2 + (j 1).val) * 1408 + (j 3).val < 5632) :
    blocks w j = w (ix2 (j 2) ⟨((j 0).val * 2 + (j 1).val) * 1408 + (j 3).val, h⟩) := by
  pointwise [blocks]

theorem entry_blocks (c : Dev nD) : V m c main_v6 = blocks (m ((c : Thread nD τ).loc main_arg3)) := by
  unfold V
  after_results
  try rfl

/-- A block of the first weights holds the first half's columns of the gate and of the upper half. -/
theorem read_blocks (c : Dev nD) (t : Fin cfg0.N) (i : S2x1x1024x1408.Idx) (h : (i 0).val * 2816 + (i 3).val < 5632) :
    iblk m c 3 t i = m ((c : Thread nD τ).loc main_arg3) (ix2 (i 2) ⟨(i 0).val * 2816 + (i 3).val, h⟩) := by
  blk_simp [iblk, place t]
  rw [entry_blocks]
  refine (blocks_apply _ _ ?_).trans ?_
  · blk_simp [place t]
    idx_bounds
    omega
  · blk_ext [place t]

/-- The modulated norm of a block is the modulated norm at the block's rows. -/
theorem norm_point (c : Dev nD) (t : Fin cfg0.N) (j : S512x1024.Idx) :
    k0_pay8 (iblk m c 0 t) (iblk m c 1 t) (iblk m c 2 t) (iblk m c 3 t) (iblk m c 4 t) j
      = norm (m ((c : Thread nD τ).loc main_arg0)) (m ((c : Thread nD τ).loc main_arg1)) (m ((c : Thread nD τ).loc main_arg2))
          (ix3 (seq t) (row t (j 0)) (j 1)) := by
  rw [norm_apply]
  unfold k0_pay8
  pointwise [k0_pay5]
  blk_point [iblk, V, place t]

/-- Where the two loads of the weights' block stand. -/
theorem stand_0 (k : Fin 1024) (f : Fin 1408) : r0_4.idx (ix4 0 0 k f) = (ix4 0 0 k f : S2x1x1024x1408.Idx) := by
  ext a
  fin_cases a <;> simp [r0_4]

theorem stand_1 (k : Fin 1024) (f : Fin 1408) : r0_5.idx (ix4 0 0 k f) = (ix4 1 0 k f : S2x1x1024x1408.Idx) := by
  ext a
  fin_cases a <;> simp [r0_5]

/-- The gate of a block. -/
theorem gate_apply (x : FVec Ideal S1x512x1024 .f32) (y) (z) (u) (w : Vec Ideal S1x1x1024x1408 .bf16) (j : S512x1408.Idx) :
    k0_pay7 x y z u w j = ∑ k : Fin 1024, k0_pay5 x y z u (ix2 (j 0) k) * w (ix4 0 0 k (j 1)) := by
  pointwise [k0_pay7]

/-- The upper half of a block. -/
theorem upper_apply (h : FVec Ideal S512x1024 .bf16) (w : Vec Ideal S1x1x1024x1408 .bf16) (j : S512x1408.Idx) :
    k0_pay1 h w j = ∑ k : Fin 1024, h (ix2 (j 0) k) * w (ix4 0 0 k (j 1)) := by
  pointwise [k0_pay1]

/-- The share of a block. -/
theorem share_apply (h : FVec Ideal S512x1024 .bf16) (u : FVec Ideal S512x1408 .f32) (w : Vec Ideal S1x1x1024x1408 .bf16)
    (wo : Vec Ideal S1x1408x1024 .bf16) (j : S1x512x1024.Idx) :
    k0_pay4 h u w wo j = ∑ k : Fin 1408, u (ix2 (j 1) k) * Ideal.logistic (u (ix2 (j 1) k))
      * k0_pay1 h w (ix2 (j 1) k) * wo (ix3 0 k (j 2)) := by
  pointwise [k0_pay4]

/-- The gate at the array's index. -/
theorem gate_point (c : Dev nD) (t : Fin cfg0.N) (j : S512x1408.Idx) (hj : (j 1).val < 5632) :
    k0_pay9 (iblk m c 0 t) (iblk m c 1 t) (iblk m c 2 t) (iblk m c 3 t) (iblk m c 4 t) j
      = wide (norm (m ((c : Thread nD τ).loc main_arg0)) (m ((c : Thread nD τ).loc main_arg1)) (m ((c : Thread nD τ).loc main_arg2)))
          (m ((c : Thread nD τ).loc main_arg3)) (ix3 (seq t) (row t (j 0)) ⟨(j 1).val, hj⟩) := by
  rw [wide_apply]
  unfold k0_pay9
  rw [gate_apply]
  refine Fintype.sum_congr _ _ fun k => congrArg₂ (· * ·) (norm_point m c t _) ?_
  refine (congrArg (iblk m c 3 t) (stand_0 k (j 1))).trans ((read_blocks m c t (ix4 0 0 k (j 1)) ?_).trans (by blk_ext))
  show 0 * 2816 + (j 1).val < 5632
  omega

/-- The upper half at the array's index. -/
theorem upper_point (c : Dev nD) (t : Fin cfg0.N) (j : S512x1408.Idx) (hj : 2816 + (j 1).val < 5632) :
    k0_pay1 (k0_pay8 (iblk m c 0 t) (iblk m c 1 t) (iblk m c 2 t) (iblk m c 3 t) (iblk m c 4 t)) (View.ld (iblk m c 3 t) r0_5) j
      = wide (norm (m ((c : Thread nD τ).loc main_arg0)) (m ((c : Thread nD τ).loc main_arg1)) (m ((c : Thread nD τ).loc main_arg2)))
          (m ((c : Thread nD τ).loc main_arg3)) (ix3 (seq t) (row t (j 0)) ⟨2816 + (j 1).val, hj⟩) := by
  rw [wide_apply, upper_apply]
  refine Fintype.sum_congr _ _ fun k => congrArg₂ (· * ·) (norm_point m c t _) ?_
  refine (congrArg (iblk m c 3 t) (stand_1 k (j 1))).trans ((read_blocks m c t (ix4 1 0 k (j 1)) ?_).trans (by blk_ext))
  show 1 * 2816 + (j 1).val < 5632
  omega

/-- The stored norm at the array's index. -/
theorem norm_row (c : Dev nD) (t : Fin cfg0.N) (r : Fin 512) (d : Fin 1024) :
    k0_pay6 (iblk m c 0 t) (iblk m c 2 t) (View.ld (iblk m c 1 t) r0_2) (View.ld (iblk m c 1 t) r0_3) (ix3 0 r d)
      = norm (m ((c : Thread nD τ).loc main_arg0)) (m ((c : Thread nD τ).loc main_arg1)) (m ((c : Thread nD τ).loc main_arg2))
          (ix3 (seq t) (row t r) d) := by
  rw [norm_apply]
  pointwise [k0_pay6, k0_pay5]
  blk_point [iblk, V, place t]

/-- The call's first result. -/
theorem final_norm (c : Dev nD) : (dats m 0 c).arrAt 5 (cfgs 0).N
    = truncf .bf16 (norm (m ((c : Thread nD τ).loc main_arg0)) (m ((c : Thread nD τ).loc main_arg1)) (m ((c : Thread nD τ).loc main_arg2)))
        Cert.FwdARefIdeal.Gen.bitsLt_bf16_f32 := by
  refine (dats m 0 c).arrAt_eq_of_covers 5 _ (by decide +kernel) fun t hf y => ?_
  blk_simp
  rw [after0_5]
  frame_out
  refine Eq.trans ?_ ((norm_row m c t (y 1) (y 2)).trans (congrArg _ ?_))
  · exact congrArg _ (by blk_ext)
  · blk_ext [place t]

/-- The share at the array's index. -/
theorem share_point (c : Dev nD) (t : Fin cfg0.N) (r : Fin 512) (d : Fin 1024) :
    k0_pay4 (k0_pay8 (iblk m c 0 t) (iblk m c 1 t) (iblk m c 2 t) (iblk m c 3 t) (iblk m c 4 t))
        (k0_pay9 (iblk m c 0 t) (iblk m c 1 t) (iblk m c 2 t) (iblk m c 3 t) (iblk m c 4 t)) (View.ld (iblk m c 3 t) r0_5)
        (iblk m c 4 t) (ix3 0 r d)
      = close (gated (wide (norm (m ((c : Thread nD τ).loc main_arg0)) (m ((c : Thread nD τ).loc main_arg1)) (m ((c : Thread nD τ).loc main_arg2)))
        (m ((c : Thread nD τ).loc main_arg3)))) (m ((c : Thread nD τ).loc main_arg4)) (ix3 (seq t) (row t r) d) := by
  refine (share_apply _ _ _ _ _).trans (Eq.trans ?_ (close_apply _ _ _).symm)
  refine Fintype.sum_congr _ _ fun k => ?_
  have h₁ : k.val < 5632 := by omega
  have h₂ : 2816 + k.val < 5632 := by omega
  refine congrArg₂ (· * ·) (Eq.trans ?_ (gated_apply _ (ix3 (seq t) (row t r) ⟨k.val, by omega⟩) h₁ h₂).symm) ?_
  · exact congrArg₂ (· * ·) (congrArg₂ (· * ·) (gate_point m c t (ix2 r k) h₁) (congrArg Ideal.logistic (gate_point m c t (ix2 r k) h₁)))
      (upper_point m c t (ix2 r k) h₂)
  · blk_point [iblk, V, place t]

/-- The call's second result. -/
theorem final_share (c : Dev nD) : (dats m 0 c).arrAt 7 (cfgs 0).N
    = close (gated (wide (norm (m ((c : Thread nD τ).loc main_arg0)) (m ((c : Thread nD τ).loc main_arg1)) (m ((c : Thread nD τ).loc main_arg2)))
        (m ((c : Thread nD τ).loc main_arg3)))) (m ((c : Thread nD τ).loc main_arg4)) := by
  refine (dats m 0 c).arrAt_eq_of_covers 7 _ (by decide +kernel) fun t hf y => ?_
  blk_simp
  rw [after0_7]
  frame_out
  refine Eq.trans ?_ ((share_point m c t (y 1) (y 2)).trans (congrArg _ ?_))
  · exact congrArg _ (by blk_ext)
  · blk_ext [place t]

/-- The two programs end with equal results. -/
theorem algebraic : Cert.algebraic_FwdAIdeal_FwdARefIdeal := fun m g m' g' _ hagree =>
  ⟨fun c => truncf .bf16 (norm (m ((c : Thread nD τ).loc main_arg0)) (m ((c : Thread nD τ).loc main_arg1)) (m ((c : Thread nD τ).loc main_arg2)))
        Cert.FwdARefIdeal.Gen.bitsLt_bf16_f32,
    fun c => close (gated (wide (norm (m ((c : Thread nD τ).loc main_arg0)) (m ((c : Thread nD τ).loc main_arg1)) (m ((c : Thread nD τ).loc main_arg2)))
        (m ((c : Thread nD τ).loc main_arg3)))) (m ((c : Thread nD τ).loc main_arg4)),
    (θ_run defs _ _).mono (fun _ h c => ⟨(h c).1.trans (final_norm m c), (h c).2.2.1.trans (final_share m c), (h c).2.2.2⟩)
      (Cert.FwdAIdeal.Value.run_blocks m g),
    (θ_run Cert.FwdARefIdeal.defs _ _).mono
      (fun _ h c => ⟨(h c).1.trans (by rw [(hagree c).1, (hagree c).2.1, (hagree c).2.2.1]; rfl),
        (h c).2.1.trans (by rw [res_eq, (hagree c).1, (hagree c).2.1, (hagree c).2.2.1, (hagree c).2.2.2.1, (hagree c).2.2.2.2]),
        (h c).2.2⟩) (Cert.FwdARefIdeal.Value.run m' g')⟩

end Cert.FwdAIdeal.Half
-- ==== Proof.FwdBRef.lean ====
/- The feed-forward block as the reference computes it, read at an index. -/
module

public import proofs.«01_k».proof.Proof.Gen.FwdBRefIdeal.Run
public import proofs.«01_k».proof.Proof.FwdARef

@[expose] public section

set_option maxRecDepth 16384

noncomputable section

open Idealize.ShloMosaic Idealize.ShloMosaic.TcCoe Idealize.SL.Sem
open Cert.FwdARefIdeal.Half (norm wide gated)

namespace Cert.FwdBRefIdeal.Whole

open Cert.FwdBRefIdeal Cert.FwdBRefIdeal.Gen

/-- The closing product. -/
def close (p : FVec Ideal S2x2048x2816 .f32) (w : FVec Ideal S2816x1024 .f32) : FVec Ideal S2x2048x1024 .f32 :=
  Host.dotGeneral (φ₁ := .f32) (φ₂ := .f32) dot_S2x2048x2816_S2816x1024_S2x2048x1024_2_0_01_1_n_n none p w

/-- The residual sum with its gate. -/
def residual (x : FVec Ideal S2x2048x1024 .f32) (mod : FVec Ideal S2x3x1024 .f32) (y : FVec Ideal S2x2048x1024 .f32) :
    FVec Ideal S2x2048x1024 .f32 :=
  addf x (mulf (broadcastInDim S2x2048x1024 ![0, 1, 2] bcast_S2x1x1024_S2x2048x1024_0_1_2
    (mulf (broadcastInDim S2x1x1024 ![] bcast_S_S2x1x1024 (constant S_ .f32 0x3F000000#32))
      (addf (broadcastInDim S2x1x1024 ![] bcast_S_S2x1x1024 (constant S_ .f32 0x3F800000#32))
        (broadcastInDim S2x1x1024 ![0, 2] bcast_S2x1024_S2x1x1024_0_2 (shapeCast _
          (extractStridedSlice S2x1x1024 ![0, 2, 0] mod slices_S2x3x1024_S2x1x1024_0_2_0) shapeCasts_S2x1x1024_S2x1024))))) y)

/-- The block's result before the residual sum. -/
abbrev inner (x : FVec Ideal S2x2048x1024 .f32) (mod : FVec Ideal S2x3x1024 .f32) (g : FVec Ideal S1024 .f32)
    (w : FVec Ideal S1024x5632 .f32) (v : FVec Ideal S2816x1024 .f32) : FVec Ideal S2x2048x1024 .f32 :=
  close (gated (wide (norm x mod g) w)) v

/-- The first result of the reference is this composition. -/
theorem res_sum (m : (ℓ : Loc nD τ sig) → Buf (Elt Ideal) ℓ) (c : Dev nD) :
    Value.res_main_v40 m c = residual (m ((c.tc : Thread nD τ).loc main_arg0)) (m ((c.tc : Thread nD τ).loc main_arg1))
      (inner (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) := rfl

/-- The second result of the reference is this composition. -/
theorem res_inner (m : (ℓ : Loc nD τ sig) → Buf (Elt Ideal) ℓ) (c : Dev nD) :
    Value.res_main_v41 m c = truncf .bf16 (inner (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      bitsLt_bf16_f32 := rfl

/-- The closing product at an index. -/
theorem close_apply (p w) (j : S2x2048x1024.Idx) :
    close p w j = ∑ k : Fin 2816, p (ix3 (j 0) (j 1) k) * w (ix2 k (j 2)) := by
  pointwise [close]

/-- The residual sum at an index. -/
theorem residual_apply (x mod y) (j : S2x2048x1024.Idx) :
    residual x mod y j = x j + Ideal.ofBits FTy.f32 0x3F000000#32 * (1 + mod (ix3 (j 0) 2 (j 2))) * y j := by
  pointwise [residual]

end Cert.FwdBRefIdeal.Whole
-- ==== Proof.FwdBValue.lean ====
/- The second half of the feed-forward block: the call adds the second half's share of the closing product to the
   first half's, and the residual to the gated sum. -/
module

public import proofs.«01_k».proof.Proof.Gen.FwdBIdeal.Value
public import proofs.«01_k».proof.Proof.FwdBRef
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.FwdARefIdeal.Half (norm wide gated)
open Cert.FwdBRefIdeal.Whole

namespace Cert.FwdBIdeal.Whole

open Cert.FwdBIdeal Cert.FwdBIdeal.Gen

variable (m : (ℓ : Loc nD τ sig) → Buf (Elt Ideal) ℓ)

/-- Where the windows stand at a grid point. -/
theorem place : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, 0, 0] ∧ win0_4.index t = ![0, 1, 0, 0]
    ∧ win0_5.index t = ![1, 0, 0] ∧ win0_7.index t = ![t.val / 4, t.val % 4, 0] ∧ win0_6.index t = ![t.val / 4, t.val % 4, 0] :=
  (by decide +kernel : ∀ t : Fin grid0.N, _)

/-- The array coordinates of a row of a grid point's token block. -/
abbrev seq (t : Fin cfg0.N) : Fin 2 := ⟨t.val / 4, by have h := lt_of_lt_of_eq t.isLt N_0; omega⟩
abbrev row (t : Fin cfg0.N) (r : Fin 512) : Fin 2048 := ⟨t.val % 4 * 512 + r.val, by have h := r.isLt; omega⟩

/-- The first weights in the version's layout: the column blocks one after another. -/
def blocks (w : FVec Ideal S1024x5632 .f32) : FVec Ideal S2x2x1024x1408 .bf16 :=
  shapeCast _ (truncf .bf16 (transpose S4x1024x1408 [1, 0, 2] (shapeCast S1024x4x1408 w shapeCasts_S1024x5632_S1024x4x1408)
    transposes_S1024x4x1408_S4x1024x1408_1_0_2) bitsLt_bf16_f32) shapeCasts_S4x1024x1408_S2x2x1024x1408

theorem blocks_apply (w) (j : S2x2x1024x1408.Idx) (h : ((j 0).val * 2 + (j 1).val) * 1408 + (j 3).val < 5632) :
    blocks w j = w (ix2 (j 2) ⟨((j 0).val * 2 + (j 1).val) * 1408 + (j 3).val, h⟩) := by
  pointwise [blocks]

theorem entry_blocks (c : Dev nD) : V m c main_v46 = blocks (m ((c : Thread nD τ).loc main_arg3)) := by
  entry_read
  rfl

/-- The second weights in the version's layout: the row blocks one after another. -/
def rows (w : FVec Ideal S2816x1024 .f32) : FVec Ideal S2x1408x1024 .bf16 :=
  shapeCast _ (truncf .bf16 (shapeCast S4x704x1024 w shapeCasts_S2816x1024_S4x704x1024) bitsLt_bf16_f32) shapeCasts_S4x704x1024_S2x1408x1024

theorem rows_apply (w) (j : S2x1408x1024.Idx) (h : (j 0).val * 1408 + (j 1).val < 2816) :
    rows w j = w (ix2 ⟨(j 0).val * 1408 + (j 1).val, h⟩ (j 2)) := by
  pointwise [rows]
  refine congrArg (fun i => w (ix2 i (j 2))) (Fin.ext ?_)
  show ((j 0).val * 2 + (j 1).val / 704) * 704 + (j 1).val % 704 = (j 0).val * 1408 + (j 1).val
  omega

theorem entry_out (c : Dev nD) : V m c main_v47 = rows (m ((c : Thread nD τ).loc main_arg4)) := by
  entry_read
  rfl

/-- A block of the second weights holds the second half's rows. -/
theorem read_out (c : Dev nD) (t : Fin cfg0.N) (k : Fin 1408) (d : Fin 1024) :
    iblk m c 5 t (ix3 0 k d) = m ((c : Thread nD τ).loc main_arg4) (ix2 ⟨1408 + k.val, by omega⟩ d) := by
  blk_simp [iblk, place t]
  rw [entry_out]
  refine (rows_apply _ _ ?_).trans ?_
  · blk_simp [place t]
    idx_bounds
    omega
  · blk_ext [place t]

/-- What the call finds as the block's normed input. -/
theorem entry_norm (c : Dev nD) : V m c main_v28 = truncf .bf16 (norm (m ((c : Thread nD τ).loc main_arg0)) (m ((c : Thread nD τ).loc main_arg1)) (m ((c : Thread nD τ).loc main_arg2))) bitsLt_bf16_f32 := by
  entry_read
  rfl

/-- What the call finds as the first half's share. -/
theorem entry_share (c : Dev nD) : V m c main_v33 = Cert.FwdARefIdeal.Half.close (gated (wide (norm (m ((c : Thread nD τ).loc main_arg0)) (m ((c : Thread nD τ).loc main_arg1)) (m ((c : Thread nD τ).loc main_arg2)))
          (m ((c : Thread nD τ).loc main_arg3))))
    (m ((c : Thread nD τ).loc main_arg4)) := by
  entry_read
  rfl

/-- A block of the first weights holds the second half's columns of the gate and of the upper half. -/
theorem read_blocks (c : Dev nD) (t : Fin cfg0.N) (i : S2x1x1024x1408.Idx) (h : (i 0).val * 2816 + (1408 + (i 3).val) < 5632) :
    iblk m c 4 t i = m ((c : Thread nD τ).loc main_arg3) (ix2 (i 2) ⟨(i 0).val * 2816 + (1408 + (i 3).val), h⟩) := by
  blk_simp [iblk, place t]
  rw [entry_blocks]
  refine (blocks_apply _ _ ?_).trans ?_
  · blk_simp [place t]
    idx_bounds
    omega
  · blk_ext [place t]

/-- A block of the normed input. -/
theorem read_norm (c : Dev nD) (t : Fin cfg0.N) (r : Fin 512) (k : Fin 1024) :
    iblk m c 1 t (ix3 0 r k) = norm (m ((c : Thread nD τ).loc main_arg0)) (m ((c : Thread nD τ).loc main_arg1)) (m ((c : Thread nD τ).loc main_arg2)) (ix3 (seq t) (row t r) k) := by
  blk_simp [iblk, place t]
  rw [entry_norm]
  refine congrArg (norm (m ((c : Thread nD τ).loc main_arg0)) (m ((c : Thread nD τ).loc main_arg1)) (m ((c : Thread nD τ).loc main_arg2))) ?_
  blk_ext [place t]

/-- A block of the first half's share. -/
theorem read_share (c : Dev nD) (t : Fin cfg0.N) (r : Fin 512) (k : Fin 1024) :
    iblk m c 2 t (ix3 0 r k) = Cert.FwdARefIdeal.Half.close (gated (wide (norm (m ((c : Thread nD τ).loc main_arg0)) (m ((c : Thread nD τ).loc main_arg1)) (m ((c : Thread nD τ).loc main_arg2)))
          (m ((c : Thread nD τ).loc main_arg3)))) (m ((c : Thread nD τ).loc main_arg4))
      (ix3 (seq t) (row t r) k) := by
  blk_simp [iblk, place t]
  rw [entry_share]
  refine congrArg _ ?_
  blk_ext [place t]

/-- Where the two loads of the weights' block stand. -/
theorem stand_0 (k : Fin 1024) (f : Fin 1408) :
    (Rect.unit (s := S2x1x1024x1408) ![0, 0, 0, 0] ![1, 1, 1024, 1408] inb_S2x1x1024x1408_S1x1x1024x1408_0_0_0_0).idx (ix4 0 0 k f)
      = (ix4 0 0 k f : S2x1x1024x1408.Idx) := by
  ext a
  fin_cases a <;> simp

theorem stand_1 (k : Fin 1024) (f : Fin 1408) :
    (Rect.unit (s := S2x1x1024x1408) ![1, 0, 0, 0] ![1, 1, 1024, 1408] inb_S2x1x1024x1408_S1x1x1024x1408_1_0_0_0).idx (ix4 0 0 k f)
      = (ix4 1 0 k f : S2x1x1024x1408.Idx) := by
  ext a
  fin_cases a <;> simp

/-- The gate of a block. -/
theorem gate_apply (h : Vec Ideal S1x512x1024 .bf16) (w : Vec Ideal S1x1x1024x1408 .bf16) (j : S512x1408.Idx) :
    k0_pay4 h w j = ∑ k : Fin 1024, h (ix3 0 (j 0) k) * w (ix4 0 0 k (j 1)) := by
  pointwise [k0_pay4, k0_pay3]

/-- The upper half of a block. -/
theorem upper_apply (h : Vec Ideal S1x512x1024 .bf16) (w : Vec Ideal S1x1x1024x1408 .bf16) (j : S512x1408.Idx) :
    k0_pay5 h w j = ∑ k : Fin 1024, h (ix3 0 (j 0) k) * w (ix4 0 0 k (j 1)) := by
  pointwise [k0_pay5, k0_pay3]

/-- The sum of the two shares in a block. -/
theorem sum_apply (y : Vec Ideal S1x512x1024 .f32) (h : Vec Ideal S1x512x1024 .bf16) (w u : Vec Ideal S1x1x1024x1408 .bf16)
    (wo : Vec Ideal S1x1408x1024 .bf16) (j : S512x1024.Idx) :
    k0_pay8 y h w u wo j = y (ix3 0 (j 0) (j 1)) + ∑ k : Fin 1408, k0_pay4 h w (ix2 (j 0) k)
      * Ideal.logistic (k0_pay4 h w (ix2 (j 0) k)) * k0_pay5 h u (ix2 (j 0) k) * wo (ix3 0 k (j 1)) := by
  pointwise [k0_pay8]

/-- The residual sum in a block. -/
theorem residual_block (y : FVec Ideal S512x1024 .f32) (x : Vec Ideal S1x512x1024 .f32) (mod : Vec Ideal S1x1x1024 .f32) (j : S1x512x1024.Idx) :
    k0_pay2 y x mod j = x (ix3 0 (j 1) (j 2)) + Ideal.ofBits FTy.f32 0x3F000000#32 * (1 + mod (ix3 0 0 (j 2))) * y (ix2 (j 1) (j 2)) := by
  obtain ⟨b, r, d, rfl⟩ : ∃ (b : Fin 1) (r : Fin 512) (d : Fin 1024), j = ix3 b r d := ⟨j 0, j 1, j 2, by blk_ext⟩
  obtain rfl : b = 0 := Subsingleton.elim _ _
  pointwise [k0_pay2]

/-- The gate at the array's index. -/
theorem gate_point (c : Dev nD) (t : Fin cfg0.N) (r : Fin 512) (f : Fin 1408) (hf : 1408 + f.val < 5632) :
    k0_pay4 (iblk m c 1 t) (View.ld (iblk m c 4 t) (Rect.unit ![0, 0, 0, 0] ![1, 1, 1024, 1408] inb_S2x1x1024x1408_S1x1x1024x1408_0_0_0_0))
        (ix2 r f)
      = wide (norm (m ((c : Thread nD τ).loc main_arg0)) (m ((c : Thread nD τ).loc main_arg1)) (m ((c : Thread nD τ).loc main_arg2)))
          (m ((c : Thread nD τ).loc main_arg3)) (ix3 (seq t) (row t r) ⟨1408 + f.val, hf⟩) := by
  refine (gate_apply _ _ _).trans (Eq.trans ?_ (Cert.FwdARefIdeal.Half.wide_apply _ _ _).symm)
  refine Fintype.sum_congr _ _ fun k => congrArg₂ (· * ·) (read_norm m c t r k) ?_
  refine (congrArg (iblk m c 4 t) (stand_0 k f)).trans ((read_blocks m c t (ix4 0 0 k f) ?_).trans (by blk_ext))
  show 0 * 2816 + (1408 + f.val) < 5632
  omega

/-- The upper half at the array's index. -/
theorem upper_point (c : Dev nD) (t : Fin cfg0.N) (r : Fin 512) (f : Fin 1408) (hf : 2816 + (1408 + f.val) < 5632) :
    k0_pay5 (iblk m c 1 t) (View.ld (iblk m c 4 t) (Rect.unit ![1, 0, 0, 0] ![1, 1, 1024, 1408] inb_S2x1x1024x1408_S1x1x1024x1408_1_0_0_0))
        (ix2 r f)
      = wide (norm (m ((c : Thread nD τ).loc main_arg0)) (m ((c : Thread nD τ).loc main_arg1)) (m ((c : Thread nD τ).loc main_arg2)))
          (m ((c : Thread nD τ).loc main_arg3)) (ix3 (seq t) (row t r) ⟨2816 + (1408 + f.val), hf⟩) := by
  refine (upper_apply _ _ _).trans (Eq.trans ?_ (Cert.FwdARefIdeal.Half.wide_apply _ _ _).symm)
  refine Fintype.sum_congr _ _ fun k => congrArg₂ (· * ·) (read_norm m c t r k) ?_
  refine (congrArg (iblk m c 4 t) (stand_1 k f)).trans ((read_blocks m c t (ix4 1 0 k f) ?_).trans (by blk_ext))
  show 1 * 2816 + (1408 + f.val) < 5632
  omega

/-- The two shares together are the closing product over all columns. -/
theorem sum_point (c : Dev nD) (t : Fin cfg0.N) (r : Fin 512) (d : Fin 1024) :
    k0_pay8 (iblk m c 2 t) (iblk m c 1 t)
        (View.ld (iblk m c 4 t) (Rect.unit ![0, 0, 0, 0] ![1, 1, 1024, 1408] inb_S2x1x1024x1408_S1x1x1024x1408_0_0_0_0))
        (View.ld (iblk m c 4 t) (Rect.unit ![1, 0, 0, 0] ![1, 1, 1024, 1408] inb_S2x1x1024x1408_S1x1x1024x1408_1_0_0_0))
        (iblk m c 5 t) (ix2 r d)
      = inner (m ((c : Thread nD τ).loc main_arg0)) (m ((c : Thread nD τ).loc main_arg1)) (m ((c : Thread nD τ).loc main_arg2))
        (m ((c : Thread nD τ).loc main_arg3)) (m ((c : Thread nD τ).loc main_arg4)) (ix3 (seq t) (row t r) d) := by
  refine (sum_apply _ _ _ _ _ _).trans (Eq.trans ?_ (close_apply _ _ _).symm)
  rw [Fin.sum_univ_add (a := 1408) (b := 1408)]
  refine congrArg₂ (· + ·) ((read_share m c t r d).trans ((Cert.FwdARefIdeal.Half.close_apply _ _ _).trans ?_))
    (Fintype.sum_congr _ _ fun k => ?_)
  · rfl
  have h₁ : 1408 + k.val < 5632 := by omega
  have h₂ : 2816 + (1408 + k.val) < 5632 := by omega
  refine congrArg₂ (· * ·) (Eq.trans ?_ (Cert.FwdARefIdeal.Half.gated_apply _ (ix3 (seq t) (row t r) ⟨1408 + k.val, by omega⟩) h₁ h₂).symm) ?_
  · exact congrArg₂ (· * ·) (congrArg₂ (· * ·) (gate_point m c t r k h₁) (congrArg Ideal.logistic (gate_point m c t r k h₁)))
      (upper_point m c t r k h₂)
  · exact read_out m c t k d

/-- The residual sum at the array's index. -/
theorem residual_point (c : Dev nD) (t : Fin cfg0.N) (r : Fin 512) (d : Fin 1024) :
    k0_pay2 (k0_pay8 (iblk m c 2 t) (iblk m c 1 t)
        (View.ld (iblk m c 4 t) (Rect.unit ![0, 0, 0, 0] ![1, 1, 1024, 1408] inb_S2x1x1024x1408_S1x1x1024x1408_0_0_0_0))
        (View.ld (iblk m c 4 t) (Rect.unit ![1, 0, 0, 0] ![1, 1, 1024, 1408] inb_S2x1x1024x1408_S1x1x1024x1408_1_0_0_0))
        (iblk m c 5 t))
      (iblk m c 0 t) (View.ld (iblk m c 3 t) (Rect.unit ![0, 2, 0] ![1, 1, 1024] inb_S1x3x1024_S1x1x1024_0_2_0)) (ix3 0 r d)
      = residual (m ((c : Thread nD τ).loc main_arg0)) (m ((c : Thread nD τ).loc main_arg1)) (inner (m ((c : Thread nD τ).loc main_arg0)) (m ((c : Thread nD τ).loc main_arg1)) (m ((c : Thread nD τ).loc main_arg2))
        (m ((c : Thread nD τ).loc main_arg3)) (m ((c : Thread nD τ).loc main_arg4))) (ix3 (seq t) (row t r) d) := by
  refine (residual_block _ _ _ _).trans (Eq.trans ?_ (residual_apply _ _ _ _).symm)
  refine congrArg₂ (· + ·) ?_ (congrArg₂ (· * ·) (congrArg₂ (· * ·) rfl (congrArg₂ (· + ·) rfl ?_)) (sum_point m c t r d))
  · blk_point [iblk, V, place t]
  · blk_point [iblk, V, place t]

/-- The call's first result. -/
theorem final_sum (c : Dev nD) : (dats m 0 c).arrAt 6 (cfgs 0).N
    = residual (m ((c : Thread nD τ).loc main_arg0)) (m ((c : Thread nD τ).loc main_arg1)) (inner (m ((c : Thread nD τ).loc main_arg0)) (m ((c : Thread nD τ).loc main_arg1)) (m ((c : Thread nD τ).loc main_arg2))
        (m ((c : Thread nD τ).loc main_arg3)) (m ((c : Thread nD τ).loc main_arg4))) := by
  refine (dats m 0 c).arrAt_eq_of_covers 6 _ (by decide +kernel) fun t hf y => ?_
  blk_simp
  rw [after0_6]
  unfold outsAt0
  frame_out
  refine Eq.trans ?_ ((residual_point m c t (y 1) (y 2)).trans (congrArg _ ?_))
  · exact congrArg _ (by blk_ext)
  · blk_ext [place t]

/-- The stored sum in a block. -/
theorem store_apply (y : Vec Ideal S1x512x1024 .f32) (h : Vec Ideal S1x512x1024 .bf16) (w u : Vec Ideal S1x1x1024x1408 .bf16)
    (wo : Vec Ideal S1x1408x1024 .bf16) (r : Fin 512) (d : Fin 1024) :
    k0_pay1 (k0_pay9 y h w u wo) (ix3 0 r d) = k0_pay8 y h w u wo (ix2 r d) := by
  pointwise [k0_pay1, k0_pay9]

/-- The call's second result. -/
theorem final_inner (c : Dev nD) : (dats m 0 c).arrAt 7 (cfgs 0).N
    = truncf .bf16 (inner (m ((c : Thread nD τ).loc main_arg0)) (m ((c : Thread nD τ).loc main_arg1)) (m ((c : Thread nD τ).loc main_arg2))
        (m ((c : Thread nD τ).loc main_arg3)) (m ((c : Thread nD τ).loc main_arg4))) bitsLt_bf16_f32 := by
  refine (dats m 0 c).arrAt_eq_of_covers 7 _ (by decide +kernel) fun t hf y => ?_
  blk_simp
  rw [after0_7]
  unfold outsAt0
  frame_out
  refine Eq.trans ?_ ((store_apply _ _ _ _ _ _ _).trans ((sum_point m c t (y 1) (y 2)).trans (congrArg (inner (m ((c : Thread nD τ).loc main_arg0)) (m ((c : Thread nD τ).loc main_arg1)) (m ((c : Thread nD τ).loc main_arg2))
        (m ((c : Thread nD τ).loc main_arg3)) (m ((c : Thread nD τ).loc main_arg4))) ?_)))
  · exact congrArg _ (by blk_ext)
  · blk_ext [place t]

/-- The two programs end with equal results. -/
theorem algebraic : Cert.algebraic_FwdBIdeal_FwdBRefIdeal := fun m g m' g' _ hagree =>
  ⟨fun c => residual (m ((c : Thread nD τ).loc main_arg0)) (m ((c : Thread nD τ).loc main_arg1)) (inner (m ((c : Thread nD τ).loc main_arg0)) (m ((c : Thread nD τ).loc main_arg1)) (m ((c : Thread nD τ).loc main_arg2))
        (m ((c : Thread nD τ).loc main_arg3)) (m ((c : Thread nD τ).loc main_arg4))),
    fun c => truncf .bf16 (inner (m ((c : Thread nD τ).loc main_arg0)) (m ((c : Thread nD τ).loc main_arg1)) (m ((c : Thread nD τ).loc main_arg2))
        (m ((c : Thread nD τ).loc main_arg3)) (m ((c : Thread nD τ).loc main_arg4))) bitsLt_bf16_f32,
    (θ_run defs _ _).mono (fun _ h c => ⟨(h c).1.trans (final_sum m c), (h c).2.1.trans (final_inner m c), (h c).2.2.2⟩)
      (Cert.FwdBIdeal.Value.run_blocks m g),
    (θ_run Cert.FwdBRefIdeal.defs _ _).mono
      (fun _ h c => ⟨(h c).1.trans (by rw [res_sum, (hagree c).1, (hagree c).2.1, (hagree c).2.2.1, (hagree c).2.2.2.1, (hagree c).2.2.2.2]),
        (h c).2.1.trans (by rw [res_inner, (hagree c).1, (hagree c).2.1, (hagree c).2.2.1, (hagree c).2.2.2.1, (hagree c).2.2.2.2]),
        (h c).2.2⟩) (Cert.FwdBRefIdeal.Value.run m' g')⟩

end Cert.FwdBIdeal.Whole
-- ==== Proof.BwdARef.lean ====
/- The backward pass of the feed-forward block's first half as the reference computes it: the gradient of the block's
   inner result, the gradient of the normed activations through the first half's columns, the gradient of the gate row,
   each read at an index. -/
module

public import proofs.«01_k».proof.Proof.Gen.BwdARefIdeal.Run
public import Idealize.ShloMosaic.Lib.Pipeline.ValueKit

@[expose] public section

set_option maxRecDepth 16384

noncomputable section

open Idealize.ShloMosaic Idealize.ShloMosaic.TcCoe Idealize.SL.Sem

namespace Cert.BwdARefIdeal.Back

open Cert.BwdARefIdeal Cert.BwdARefIdeal.Gen

/-- The gradient of the inner result: half of the gate row's successor times the incoming gradient. -/
def dyOf (mod : FVec Ideal S2x3x1024 .f32) (dres : FVec Ideal S2x2048x1024 .f32) : FVec Ideal S2x2048x1024 .f32 :=
  mulf (broadcastInDim S2x2048x1024 ![0, 1, 2] bcast_S2x1x1024_S2x2048x1024_0_1_2 (mulf
    (broadcastInDim S2x1x1024 ![] bcast_S_S2x1x1024 (constant S_ .f32 0x3F000000#32))
    (addf (broadcastInDim S2x1x1024 ![] bcast_S_S2x1x1024 (constant S_ .f32 0x3F800000#32))
      (broadcastInDim S2x1x1024 ![0, 2] bcast_S2x1024_S2x1x1024_0_2 (shapeCast _
        (extractStridedSlice S2x1x1024 ![0, 2, 0] mod slices_S2x3x1024_S2x1x1024_0_2_0) shapeCasts_S2x1x1024_S2x1024))))) dres

/-- The first half's columns of the gate's weights, of the upper half's, and its rows of the closing weights. -/
def gateCols (w : FVec Ideal S1024x5632 .f32) : FVec Ideal S1024x1408 .f32 :=
  extractStridedSlice S1024x1408 ![0, 0] (extractStridedSlice S1024x2816 ![0, 0] w slices_S1024x5632_S1024x2816_0_0)
    slices_S1024x2816_S1024x1408_0_0

def upCols (w : FVec Ideal S1024x5632 .f32) : FVec Ideal S1024x1408 .f32 :=
  extractStridedSlice S1024x1408 ![0, 0] (extractStridedSlice S1024x2816 ![0, 2816] w slices_S1024x5632_S1024x2816_0_2816)
    slices_S1024x2816_S1024x1408_0_0

def topRows (w : FVec Ideal S2816x1024 .f32) : FVec Ideal S1408x1024 .f32 :=
  extractStridedSlice S1408x1024 ![0, 0] w slices_S2816x1024_S1408x1024_0_0

/-- The product of the activations with some columns. -/
def prodOf (h : FVec Ideal S2x2048x1024 .f32) (w : FVec Ideal S1024x1408 .f32) : FVec Ideal S2x2048x1408 .f32 :=
  Host.dotGeneral (φ₁ := .f32) (φ₂ := .f32) dot_S2x2048x1024_S1024x1408_S2x2048x1408_2_0_01_1_n_n none h w

/-- The gradient of the gated product. -/
def daOf (dy : FVec Ideal S2x2048x1024 .f32) (w : FVec Ideal S1408x1024 .f32) : FVec Ideal S2x2048x1408 .f32 :=
  Host.dotGeneral (φ₁ := .f32) (φ₂ := .f32) dot_S2x2048x1024_S1408x1024_S2x2048x1408_2_1_01_0_n_n none dy w

/-- The logistic function as the host writes it. -/
def sigma (g : FVec Ideal S2x2048x1408 .f32) : FVec Ideal S2x2048x1408 .f32 :=
  Host.divf (broadcastInDim S2x2048x1408 ![] bcast_S_S2x2048x1408 (constant S_ .f32 0x3F800000#32))
    (addf (broadcastInDim S2x2048x1408 ![] bcast_S_S2x2048x1408 (constant S_ .f32 0x3F800000#32)) (Host.exp (Host.negf g)))

/-- The gradients of the upper half and of the gate. -/
def dupOf (g da : FVec Ideal S2x2048x1408 .f32) : FVec Ideal S2x2048x1408 .f32 := mulf (mulf g (sigma g)) da

def dgtOf (g u da : FVec Ideal S2x2048x1408 .f32) : FVec Ideal S2x2048x1408 .f32 :=
  addf (mulf (mulf da u) (sigma g)) (mulf (mulf g (mulf da u)) (mulf (sigma g)
    (subf (broadcastInDim S2x2048x1408 ![] bcast_S_S2x2048x1408 (constant S_ .f32 0x3F800000#32)) (sigma g))))

/-- The gradient of the activations. -/
def dhOf (dup dgt : FVec Ideal S2x2048x1408 .f32) (wg wu : FVec Ideal S1024x1408 .f32) : FVec Ideal S2x2048x1024 .f32 :=
  addf (Host.dotGeneral (φ₁ := .f32) (φ₂ := .f32) dot_S2x2048x1408_S1024x1408_S2x2048x1024_2_1_01_0_n_n none dup wu)
    (Host.dotGeneral (φ₁ := .f32) (φ₂ := .f32) dot_S2x2048x1408_S1024x1408_S2x2048x1024_2_1_01_0_n_n none dgt wg)

/-- The inner result of the whole block. -/
def inner (h : FVec Ideal S2x2048x1024 .f32) (w : FVec Ideal S1024x5632 .f32) (wo : FVec Ideal S2816x1024 .f32) :
    FVec Ideal S2x2048x1024 .f32 :=
  Host.dotGeneral (φ₁ := .f32) (φ₂ := .f32) dot_S2x2048x2816_S2816x1024_S2x2048x1024_2_0_01_1_n_n none
    (mulf (mulf (Host.dotGeneral (φ₁ := .f32) (φ₂ := .f32) dot_S2x2048x1024_S1024x2816_S2x2048x2816_2_0_01_1_n_n none h
        (extractStridedSlice S1024x2816 ![0, 0] w slices_S1024x5632_S1024x2816_0_0))
      (Host.divf (broadcastInDim S2x2048x2816 ![] bcast_S_S2x2048x2816 (constant S_ .f32 0x3F800000#32))
        (addf (broadcastInDim S2x2048x2816 ![] bcast_S_S2x2048x2816 (constant S_ .f32 0x3F800000#32)) (Host.exp (Host.negf
          (Host.dotGeneral (φ₁ := .f32) (φ₂ := .f32) dot_S2x2048x1024_S1024x2816_S2x2048x2816_2_0_01_1_n_n none h
            (extractStridedSlice S1024x2816 ![0, 0] w slices_S1024x5632_S1024x2816_0_0)))))))
      (Host.dotGeneral (φ₁ := .f32) (φ₂ := .f32) dot_S2x2048x1024_S1024x2816_S2x2048x2816_2_0_01_1_n_n none h
        (extractStridedSlice S1024x2816 ![0, 2816] w slices_S1024x5632_S1024x2816_0_2816))) wo

/-- The gradient of the gate row. -/
def dgateOf (dres y : FVec Ideal S2x2048x1024 .f32) : FVec Ideal S2x1x1024 .f32 :=
  mulf (broadcastInDim S2x1x1024 ![] bcast_S_S2x1x1024 (constant S_ .f32 0x3F000000#32)) (shapeCast _
    (Host.reduceAdd (mulf dres y) (constant S_ .f32 0x00000000#32) reducesTo_S2x2048x1024_S2x1024_d1 h_S_)
    shapeCasts_S2x1024_S2x1x1024)

/-- The gradient of the activations from the arguments. -/
abbrev dhAll (h dres : FVec Ideal S2x2048x1024 .f32) (mod : FVec Ideal S2x3x1024 .f32) (w : FVec Ideal S1024x5632 .f32)
    (wo : FVec Ideal S2816x1024 .f32) : FVec Ideal S2x2048x1024 .f32 :=
  dhOf (dupOf (prodOf h (gateCols w)) (daOf (dyOf mod dres) (topRows wo)))
    (dgtOf (prodOf h (gateCols w)) (prodOf h (upCols w)) (daOf (dyOf mod dres) (topRows wo))) (gateCols w) (upCols w)

/-- The second result of the reference is this composition. -/
theorem res_eq (m : (ℓ : Loc nD τ sig) → Buf (Elt Ideal) ℓ) (c : Dev nD) :
    Value.res_main_v37 m c = dhAll (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem dyOf_apply (mod dres) (j : S2x2048x1024.Idx) :
    dyOf mod dres j = Ideal.ofBits .f32 0x3F000000#32 * (1 + mod (ix3 (j 0) 2 (j 2))) * dres j := by
  pointwise [dyOf]

theorem gateCols_apply (w) (j : S1024x1408.Idx) (h : (j 1).val < 5632) : gateCols w j = w (ix2 (j 0) ⟨(j 1).val, h⟩) := by
  pointwise [gateCols]

theorem upCols_apply (w) (j : S1024x1408.Idx) (h : 2816 + (j 1).val < 5632) :
    upCols w j = w (ix2 (j 0) ⟨2816 + (j 1).val, h⟩) := by
  pointwise [upCols]

theorem topRows_apply (w) (j : S1408x1024.Idx) (h : (j 0).val < 2816) : topRows w j = w (ix2 ⟨(j 0).val, h⟩ (j 1)) := by
  pointwise [topRows]

theorem prodOf_apply (h w) (j : S2x2048x1408.Idx) : prodOf h w j = ∑ k : Fin 1024, h (ix3 (j 0) (j 1) k) * w (ix2 k (j 2)) := by
  pointwise [prodOf]

theorem daOf_apply (dy w) (j : S2x2048x1408.Idx) : daOf dy w j = ∑ k : Fin 1024, dy (ix3 (j 0) (j 1) k) * w (ix2 (j 2) k) := by
  pointwise [daOf]

theorem sigma_apply (g) (j : S2x2048x1408.Idx) : sigma g j = Ideal.logistic (g j) := by
  refine Eq.trans (b := Ideal.div 1 (1 + Ideal.exp (-g j))) ?_ rfl
  pointwise [sigma]

theorem dupOf_apply (g da) (j : S2x2048x1408.Idx) : dupOf g da j = g j * Ideal.logistic (g j) * da j := by
  rw [← sigma_apply]
  rfl

theorem dgtOf_apply (g u da) (j : S2x2048x1408.Idx) : dgtOf g u da j
    = da j * u j * Ideal.logistic (g j) + g j * (da j * u j) * (Ideal.logistic (g j) * (1 - Ideal.logistic (g j))) := by
  rw [← sigma_apply]
  pointwise [dgtOf]

theorem dhOf_apply (dup dgt wg wu) (j : S2x2048x1024.Idx) : dhOf dup dgt wg wu j
    = (∑ k : Fin 1408, dup (ix3 (j 0) (j 1) k) * wu (ix2 (j 2) k)) + ∑ k : Fin 1408, dgt (ix3 (j 0) (j 1) k) * wg (ix2 (j 2) k) := by
  pointwise [dhOf]

theorem dgateOf_apply (dres y) (j : S2x1x1024.Idx) : dgateOf dres y j
    = Ideal.ofBits .f32 0x3F000000#32 * ∑ k : Fin 2048, dres (ix3 (j 0) k (j 2)) * y (ix3 (j 0) k (j 2)) := by
  pointwise [dgateOf]

end Cert.BwdARefIdeal.Back
-- ==== Proof.Reals.lean ====
/- Extended reals that are real numbers, and the identities of the backward pass that hold for them: the derivative of
   the gate, a factor taken out of a sum, and what a finiteness test says of an element. -/
module

public import Idealize.ShloMosaic.Lib.Pipeline.ValueKit

@[expose] public section

noncomputable section

open Idealize.ShloMosaic

namespace Cert.Reals

/-- An extended real that is a real number. -/
def IsReal (x : EReal) : Prop := ∃ r : ℝ, x = (r : EReal)

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.sum {ι : Type} (s : Finset ι) (f : ι → EReal) (hf : ∀ i, IsReal (f i)) : IsReal (∑ i ∈ s, f i) := by
  classical
  induction s using Finset.induction_on with
  | empty => exact ⟨0, by simp⟩
  | insert a s ha ih => rw [Finset.sum_insert ha]; exact (hf a).add ih

theorem isReal_one : IsReal 1 := ⟨1, rfl⟩

/-- A difference of an element with itself that compares equal to zero comes from a real number. -/
theorem isReal_of_test {x : EReal} (h : Ideal.cmp .oeq (x - x) (Ideal.ofBits .f32 0x00000000#32) = 1#1) : IsReal x := by
  rw [show Ideal.ofBits .f32 0x00000000#32 = 0 by simp [Ideal.ofBits, Ideal.ieee]] at h
  induction x using EReal.rec with
  | bot => simp [Ideal.cmp] at h
  | top => simp [Ideal.cmp] at h
  | coe r => exact ⟨r, rfl⟩

/-- One half, as both widths write it. -/
theorem half_f32 : Ideal.ofBits .f32 0x3F000000#32 = ((1 / 2 : ℝ) : EReal) := by
  simp [Ideal.ofBits, Ideal.ieee, -EReal.coe_mul]; norm_num

theorem half_bf16 : Ideal.ofBits .bf16 0x3F00#16 = ((1 / 2 : ℝ) : EReal) := by
  simp [Ideal.ofBits, Ideal.ieee, -EReal.coe_mul]; norm_num

/-- A real nonnegative factor goes into a sum. -/
theorem mul_sum_of_nonneg {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

/-- The logistic of a real number is a real number. -/
theorem IsReal.logistic {x : EReal} : IsReal x → IsReal (Ideal.logistic x) := by
  rintro ⟨a, rfl⟩
  have h : (1 + Real.exp (-a)) ≠ 0 := by positivity
  refine ⟨1 / (1 + Real.exp (-a)), ?_⟩
  unfold Ideal.logistic
  rw [← EReal.coe_neg, Ideal.exp_coe, ← EReal.coe_one, ← EReal.coe_add, Ideal.div_coe h, ← EReal.coe_mul, one_mul]

/-- The derivative of the gate: the factored form and the two-term form agree at real numbers. -/
theorem gate_derivative {c x : EReal} (hc : IsReal c) (hx : IsReal x) :
    c * (Ideal.logistic x * (1 + x * (1 - Ideal.logistic x)))
      = c * Ideal.logistic x + x * c * (Ideal.logistic x * (1 - Ideal.logistic x)) := by
  obtain ⟨s, hs⟩ := hx.logistic
  obtain ⟨a, rfl⟩ := hc
  obtain ⟨b, rfl⟩ := hx
  rw [hs]
  norm_cast
  ring

/-- The same at equal factors. -/
theorem gate_chain {a a' x x' u u' : EReal} (ea : a = a') (ex : x = x') (eu : u = u') (ha : IsReal a') (hx : IsReal x')
    (hu : IsReal u') : a * u * (Ideal.logistic x * (1 + x * (1 - Ideal.logistic x)))
      = a' * u' * Ideal.logistic x' + x' * (a' * u') * (Ideal.logistic x' * (1 - Ideal.logistic x')) := by
  subst ea ex eu
  exact gate_derivative (ha.mul hu) hx

end Cert.Reals
-- ==== Proof.BwdAValue.lean ====
/- The backward pass of the feed-forward block's first half: the call computes the gradient of the block's inner result,
   the gradient of the normed activations through the first half's columns, and the gradient of the gate row. -/
module

public import proofs.«01_k».proof.Proof.Gen.BwdAIdeal.Value
public import proofs.«01_k».proof.Proof.Gen.Pre_finite_ba
public import proofs.«01_k».proof.Proof.BwdARef
public import proofs.«01_k».proof.Proof.Reals
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.BwdARefIdeal.Back Cert.Reals

namespace Cert.BwdAIdeal.Back

open Cert.BwdAIdeal Cert.BwdAIdeal.Gen

variable (m : (ℓ : Loc nD τ sig) → Buf (Elt Ideal) ℓ)

/-- The arguments. -/
abbrev aH (c : Dev nD) : FVec Ideal S2x2048x1024 .f32 := m ((c : Thread nD τ).loc main_arg0)
abbrev aRes (c : Dev nD) : FVec Ideal S2x2048x1024 .f32 := m ((c : Thread nD τ).loc main_arg1)
abbrev aMod (c : Dev nD) : FVec Ideal S2x3x1024 .f32 := m ((c : Thread nD τ).loc main_arg2)
abbrev aIn (c : Dev nD) : FVec Ideal S1024x5632 .f32 := m ((c : Thread nD τ).loc main_arg3)
abbrev aOut (c : Dev nD) : FVec Ideal S2816x1024 .f32 := m ((c : Thread nD τ).loc main_arg4)

/-- Where the windows stand at a grid point. -/
theorem place : ∀ t : Fin cfg0.N, win0_0.index t = ![t.val / 8, t.val % 8, 0] ∧ win0_1.index t = ![t.val / 8, t.val % 8, 0]
    ∧ win0_2.index t = ![0, t.val / 8, t.val % 8, 0] ∧ win0_3.index t = ![t.val / 8, 0, 0]
    ∧ win0_4.index t = ![0, 0, 0, 0] ∧ win0_5.index t = ![0, 0, 0] ∧ win0_6.index t = ![t.val / 8, t.val % 8, 0]
    ∧ win0_7.index t = ![0, t.val / 8, t.val % 8, 0] ∧ win0_8.index t = ![t.val / 8, t.val % 8, 0]
    ∧ win0_9.index t = ![t.val / 8, t.val % 8, 0] ∧ win0_10.index t = ![t.val / 8, 0, 0] :=
  (by decide +kernel : ∀ t : Fin grid0.N, _)

/-- The array coordinates of a row of a grid point's token block. -/
abbrev seq (t : Fin cfg0.N) : Fin 2 := ⟨t.val / 8, by have h := lt_of_lt_of_eq t.isLt N_0; omega⟩
abbrev row (t : Fin cfg0.N) (r : Fin 256) : Fin 2048 := ⟨t.val % 8 * 256 + r.val, by have h := r.isLt; omega⟩

/-! ### What the host prepares -/

/-- The gates and the upper halves, one above the other. -/
def gates (h : FVec Ideal S2x2048x1024 .f32) (w : FVec Ideal S1024x5632 .f32) : FVec Ideal S2x2x2048x2816 .bf16 :=
  truncf .bf16 (concatenate S2x2x2048x2816 0
    [⟨S1x2x2048x2816, broadcastInDim S1x2x2048x2816 ![1, 2, 3] bcast_S2x2048x2816_S1x2x2048x2816_1_2_3
        (Host.dotGeneral (φ₁ := .f32) (φ₂ := .f32) dot_S2x2048x1024_S1024x2816_S2x2048x2816_2_0_01_1_n_n none h
          (extractStridedSlice S1024x2816 ![0, 0] w slices_S1024x5632_S1024x2816_0_0))⟩,
     ⟨S1x2x2048x2816, broadcastInDim S1x2x2048x2816 ![1, 2, 3] bcast_S2x2048x2816_S1x2x2048x2816_1_2_3
        (Host.dotGeneral (φ₁ := .f32) (φ₂ := .f32) dot_S2x2048x1024_S1024x2816_S2x2048x2816_2_0_01_1_n_n none h
          (extractStridedSlice S1024x2816 ![0, 2816] w slices_S1024x5632_S1024x2816_0_2816))⟩]
    concatenates_S1x2x2048x2816_S1x2x2048x2816_S2x2x2048x2816_d0) bitsLt_bf16_f32

theorem gates_apply_0 (h w) (b : Fin 2) (r : Fin 2048) (f : Fin 2816) (hf : f.val < 5632) :
    gates h w (ix4 0 b r f) = ∑ k : Fin 1024, h (ix3 b r k) * w (ix2 k ⟨f.val, hf⟩) := by
  pointwise [gates]

theorem gates_apply_1 (h w) (b : Fin 2) (r : Fin 2048) (f : Fin 2816) (hf : 2816 + f.val < 5632) :
    gates h w (ix4 1 b r f) = ∑ k : Fin 1024, h (ix3 b r k) * w (ix2 k ⟨2816 + f.val, hf⟩) := by
  pointwise [gates]

/-- The first weights in the version's layout: the column blocks one after another. -/
def blocks (w : FVec Ideal S1024x5632 .f32) : FVec Ideal S2x2x1024x1408 .bf16 :=
  shapeCast _ (truncf .bf16 (transpose S4x1024x1408 [1, 0, 2] (shapeCast S1024x4x1408 w shapeCasts_S1024x5632_S1024x4x1408)
    transposes_S1024x4x1408_S4x1024x1408_1_0_2) bitsLt_bf16_f32) shapeCasts_S4x1024x1408_S2x2x1024x1408

theorem blocks_apply (w) (j : S2x2x1024x1408.Idx) (h : ((j 0).val * 2 + (j 1).val) * 1408 + (j 3).val < 5632) :
    blocks w j = w (ix2 (j 2) ⟨((j 0).val * 2 + (j 1).val) * 1408 + (j 3).val, h⟩) := by
  pointwise [blocks]

/-- The closing weights in the version's layout: two row blocks. -/
def rows (w : FVec Ideal S2816x1024 .f32) : FVec Ideal S2x1408x1024 .bf16 :=
  shapeCast _ (truncf .bf16 (shapeCast S4x704x1024 w shapeCasts_S2816x1024_S4x704x1024) bitsLt_bf16_f32)
    shapeCasts_S4x704x1024_S2x1408x1024

theorem rows_apply (w) (j : S2x1408x1024.Idx) (h : (j 0).val * 1408 + (j 1).val < 2816) :
    rows w j = w (ix2 ⟨(j 0).val * 1408 + (j 1).val, h⟩ (j 2)) := by
  pointwise [rows]
  refine congrArg (fun i => w (ix2 i (j 2))) (Fin.ext ?_)
  show ((j 0).val * 2 + (j 1).val / 704) * 704 + (j 1).val % 704 = (j 0).val * 1408 + (j 1).val
  omega

theorem entry_gates (c : Dev nD) : V m c main_v12 = gates (aH m c) (aIn m c) := by
  entry_read
  rfl

theorem entry_inner (c : Dev nD) : V m c main_v18
    = truncf (φ := .f32) .bf16 (inner (aH m c) (aIn m c) (aOut m c)) bitsLt_bf16_f32 := by
  entry_read
  rfl

theorem entry_blocks (c : Dev nD) : V m c main_v19 = blocks (aIn m c) := by
  entry_read
  rfl

theorem entry_rows (c : Dev nD) : V m c main_v20 = rows (aOut m c) := by
  entry_read
  rfl

/-! ### The payloads -/

theorem dy_apply (x : Vec Ideal S1x256x1024 .f32) (y : Vec Ideal S1x1x1024 .f32) (j : S256x1024.Idx) :
    k0_pay4 x y j = Ideal.ofBits .f32 0x3F000000#32 * (1 + y (ix3 0 0 (j 1))) * x (ix3 0 (j 0) (j 1)) := by
  pointwise [k0_pay4, k0_pay3]

theorem gate_apply (x : Vec Ideal S1x1x256x1408 .bf16) (j : S256x1408.Idx) : k0_pay7 x j = x (ix4 0 0 (j 0) (j 1)) := by
  pointwise [k0_pay7]

theorem up_apply (x : Vec Ideal S1x1x256x1408 .bf16) (j : S256x1408.Idx) : k0_pay8 x j = x (ix4 0 0 (j 0) (j 1)) := by
  pointwise [k0_pay8]

theorem da_apply (dy : FVec Ideal S256x1024 .bf16) (w : Vec Ideal S1x1408x1024 .bf16) (j : S256x1408.Idx) :
    k0_pay12 dy w j = ∑ k : Fin 1024, dy (ix2 (j 0) k) * w (ix3 0 (j 1) k) := by
  pointwise [k0_pay12]

theorem dup_apply (dy : FVec Ideal S256x1024 .bf16) (x : Vec Ideal S1x1x256x1408 .bf16) (w : Vec Ideal S1x1408x1024 .bf16)
    (j : S256x1408.Idx) : k0_pay13 dy x w j = k0_pay12 dy w j * (k0_pay7 x j * Ideal.logistic (k0_pay7 x j)) := by
  pointwise [k0_pay13, k0_pay10, k0_pay9]

theorem dgt_apply (dy : FVec Ideal S256x1024 .bf16) (x u : Vec Ideal S1x1x256x1408 .bf16) (w : Vec Ideal S1x1408x1024 .bf16)
    (j : S256x1408.Idx) : k0_pay14 dy x u w j = k0_pay12 dy w j * k0_pay8 u j
      * (Ideal.logistic (k0_pay7 x j) * (1 + k0_pay7 x j * (1 - Ideal.logistic (k0_pay7 x j)))) := by
  pointwise [k0_pay14, k0_pay9]

theorem dh_apply (dup dgt : FVec Ideal S256x1408 .bf16) (wg wu : Vec Ideal S1x1x1024x1408 .bf16) (j : S1x256x1024.Idx) :
    k0_pay1 dup dgt wg wu j = (∑ k : Fin 1408, dgt (ix2 (j 1) k) * wg (ix4 0 0 (j 2) k))
      + ∑ k : Fin 1408, dup (ix2 (j 1) k) * wu (ix4 0 0 (j 2) k) := by
  pointwise [k0_pay1]

theorem zero_apply (j : S1x1x1024.Idx) : k0_pay2 (F := Ideal) j = 0 := by
  pointwise! [k0_pay2]

/-- What one token block adds to the gradient of the gate row. -/
def part (x : FVec Ideal S1x256x1024 .f32) (y : FVec Ideal S1x256x1024 .bf16) (d : Fin 1024) : EReal :=
  ∑ r : Fin 256, x (ix3 0 r d) * (Ideal.ofBits .bf16 0x3F00#16 * y (ix3 0 r d))

theorem dgate_apply (x : Vec Ideal S1x256x1024 .f32) (acc : Vec Ideal S1x1x1024 .f32) (y : Vec Ideal S1x256x1024 .bf16)
    (d : Fin 1024) : k0_pay6 x acc y (ix3 0 0 d) = acc (ix3 0 0 d) + part x y d := by
  unfold part
  pointwise [k0_pay6, k0_pay3]

/-! ### The blocks at the arrays' indices -/

/-- The loads of one block out of a window. -/
abbrev ldRow (c : Dev nD) (t : Fin cfg0.N) : Vec Ideal S1x1x1024 .f32 :=
  View.ld (iblk m c 3 t) (Rect.unit ![0, 2, 0] ![1, 1, 1024] inb_S1x3x1024_S1x1x1024_0_2_0)
abbrev ldGate (c : Dev nD) (t : Fin cfg0.N) : Vec Ideal S1x1x256x1408 .bf16 :=
  View.ld (iblk m c 2 t) (Rect.unit ![0, 0, 0, 0] ![1, 1, 256, 1408] inb_S2x1x256x1408_S1x1x256x1408_0_0_0_0)
abbrev ldUp (c : Dev nD) (t : Fin cfg0.N) : Vec Ideal S1x1x256x1408 .bf16 :=
  View.ld (iblk m c 2 t) (Rect.unit ![1, 0, 0, 0] ![1, 1, 256, 1408] inb_S2x1x256x1408_S1x1x256x1408_1_0_0_0)
abbrev ldIn0 (c : Dev nD) (t : Fin cfg0.N) : Vec Ideal S1x1x1024x1408 .bf16 :=
  View.ld (iblk m c 4 t) (Rect.unit ![0, 0, 0, 0] ![1, 1, 1024, 1408] inb_S2x1x1024x1408_S1x1x1024x1408_0_0_0_0)
abbrev ldIn1 (c : Dev nD) (t : Fin cfg0.N) : Vec Ideal S1x1x1024x1408 .bf16 :=
  View.ld (iblk m c 4 t) (Rect.unit ![1, 0, 0, 0] ![1, 1, 1024, 1408] inb_S2x1x1024x1408_S1x1x1024x1408_1_0_0_0)

/-- Where the loads stand. -/
theorem stand_row (d : Fin 1024) :
    (Rect.unit (s := S1x3x1024) ![0, 2, 0] ![1, 1, 1024] inb_S1x3x1024_S1x1x1024_0_2_0).idx (ix3 0 0 d) = ix3 0 2 d := by
  ext a
  fin_cases a <;> simp

theorem stand_gate (r : Fin 256) (f : Fin 1408) :
    (Rect.unit (s := S2x1x256x1408) ![0, 0, 0, 0] ![1, 1, 256, 1408] inb_S2x1x256x1408_S1x1x256x1408_0_0_0_0).idx (ix4 0 0 r f)
      = ix4 0 0 r f := by
  ext a
  fin_cases a <;> simp

theorem stand_up (r : Fin 256) (f : Fin 1408) :
    (Rect.unit (s := S2x1x256x1408) ![1, 0, 0, 0] ![1, 1, 256, 1408] inb_S2x1x256x1408_S1x1x256x1408_1_0_0_0).idx (ix4 0 0 r f)
      = ix4 1 0 r f := by
  ext a
  fin_cases a <;> simp

theorem stand_in0 (k : Fin 1024) (f : Fin 1408) :
    (Rect.unit (s := S2x1x1024x1408) ![0, 0, 0, 0] ![1, 1, 1024, 1408] inb_S2x1x1024x1408_S1x1x1024x1408_0_0_0_0).idx (ix4 0 0 k f)
      = ix4 0 0 k f := by
  ext a
  fin_cases a <;> simp

theorem stand_in1 (k : Fin 1024) (f : Fin 1408) :
    (Rect.unit (s := S2x1x1024x1408) ![1, 0, 0, 0] ![1, 1, 1024, 1408] inb_S2x1x1024x1408_S1x1x1024x1408_1_0_0_0).idx (ix4 0 0 k f)
      = ix4 1 0 k f := by
  ext a
  fin_cases a <;> simp

theorem window_gates (c : Dev nD) (t : Fin cfg0.N) (i : Fin 2) (r : Fin 256) (f : Fin 1408) :
    iblk m c 2 t (ix4 i 0 r f) = gates (aH m c) (aIn m c) (ix4 i (seq t) (row t r) ⟨f.val, by omega⟩) := by
  blk_simp [iblk, place t]
  rw [entry_gates]
  blk_ext [place t]

theorem read_gate (c : Dev nD) (t : Fin cfg0.N) (r : Fin 256) (f : Fin 1408) :
    ldGate m c t (ix4 0 0 r f) = prodOf (aH m c) (gateCols (aIn m c)) (ix3 (seq t) (row t r) f) := by
  refine (congrArg (iblk m c 2 t) (stand_gate r f)).trans ((window_gates m c t 0 r f).trans ?_)
  refine (gates_apply_0 _ _ _ _ _ (by show f.val < 5632; omega)).trans ((prodOf_apply _ _ _).trans ?_).symm
  exact Fintype.sum_congr _ _ fun k => congrArg _ (gateCols_apply _ _ (by show f.val < 5632; omega))

theorem read_up (c : Dev nD) (t : Fin cfg0.N) (r : Fin 256) (f : Fin 1408) :
    ldUp m c t (ix4 0 0 r f) = prodOf (aH m c) (upCols (aIn m c)) (ix3 (seq t) (row t r) f) := by
  refine (congrArg (iblk m c 2 t) (stand_up r f)).trans ((window_gates m c t 1 r f).trans ?_)
  refine (gates_apply_1 _ _ _ _ _ (by show 2816 + f.val < 5632; omega)).trans ((prodOf_apply _ _ _).trans ?_).symm
  exact Fintype.sum_congr _ _ fun k => congrArg _ (upCols_apply _ _ (by show 2816 + f.val < 5632; omega))

theorem window_blocks (c : Dev nD) (t : Fin cfg0.N) (i : S2x1x1024x1408.Idx) (h : (i 0).val * 2816 + (i 3).val < 5632) :
    iblk m c 4 t i = aIn m c (ix2 (i 2) ⟨(i 0).val * 2816 + (i 3).val, h⟩) := by
  blk_simp [iblk, place t]
  rw [entry_blocks]
  refine (blocks_apply _ _ ?_).trans ?_
  · blk_simp [place t]
    idx_bounds
    omega
  · blk_ext [place t]

theorem read_in0 (c : Dev nD) (t : Fin cfg0.N) (k : Fin 1024) (f : Fin 1408) :
    ldIn0 m c t (ix4 0 0 k f) = gateCols (aIn m c) (ix2 k f) := by
  refine (congrArg (iblk m c 4 t) (stand_in0 k f)).trans ((window_blocks m c t (ix4 0 0 k f) ?_).trans
    (Eq.trans (by blk_ext) (gateCols_apply _ _ ?_).symm))
  · show 0 * 2816 + f.val < 5632
    omega
  · show f.val < 5632
    omega

theorem read_in1 (c : Dev nD) (t : Fin cfg0.N) (k : Fin 1024) (f : Fin 1408) :
    ldIn1 m c t (ix4 0 0 k f) = upCols (aIn m c) (ix2 k f) := by
  refine (congrArg (iblk m c 4 t) (stand_in1 k f)).trans ((window_blocks m c t (ix4 1 0 k f) ?_).trans
    (Eq.trans (by blk_ext) (upCols_apply _ _ ?_).symm))
  · show 1 * 2816 + f.val < 5632
    omega
  · show 2816 + f.val < 5632
    omega

theorem read_out (c : Dev nD) (t : Fin cfg0.N) (k : Fin 1408) (d : Fin 1024) :
    iblk m c 5 t (ix3 0 k d) = topRows (aOut m c) (ix2 k d) := by
  rw [topRows_apply _ _ (show k.val < 2816 by omega)]
  blk_simp [iblk, place t]
  rw [entry_rows]
  refine (rows_apply _ _ ?_).trans ?_
  · blk_simp [place t]
    idx_bounds
    omega
  · blk_ext [place t]

theorem read_inner (c : Dev nD) (t : Fin cfg0.N) (r : Fin 256) (d : Fin 1024) :
    iblk m c 1 t (ix3 0 r d) = inner (aH m c) (aIn m c) (aOut m c) (ix3 (seq t) (row t r) d) := by
  blk_simp [iblk, place t]
  rw [entry_inner]
  exact congrArg (inner (aH m c) (aIn m c) (aOut m c)) (by blk_ext [place t])

theorem read_res (c : Dev nD) (t : Fin cfg0.N) (r : Fin 256) (d : Fin 1024) :
    iblk m c 0 t (ix3 0 r d) = aRes m c (ix3 (seq t) (row t r) d) := by
  blk_point [iblk, V, place t]

theorem read_row (c : Dev nD) (t : Fin cfg0.N) (d : Fin 1024) :
    ldRow m c t (ix3 0 0 d) = aMod m c (ix3 (seq t) 2 d) := by
  refine (congrArg (iblk m c 3 t) (stand_row d)).trans ?_
  blk_point [iblk, V, place t]

/-! ### The results -/

/-- The gradient of the inner result. -/
theorem dy_point (c : Dev nD) (t : Fin cfg0.N) (r : Fin 256) (d : Fin 1024) :
    k0_pay4 (iblk m c 0 t) (ldRow m c t) (ix2 r d) = dyOf (aMod m c) (aRes m c) (ix3 (seq t) (row t r) d) := by
  refine (dy_apply _ _ _).trans (Eq.trans ?_ (dyOf_apply _ _ _).symm)
  exact congrArg₂ (· * ·) (congrArg₂ (· * ·) rfl (congrArg₂ (· + ·) rfl (read_row m c t d))) (read_res m c t r d)

/-- The gradient of the gated product. -/
theorem da_point (c : Dev nD) (t : Fin cfg0.N) (r : Fin 256) (f : Fin 1408) :
    k0_pay12 (k0_pay4 (iblk m c 0 t) (ldRow m c t)) (iblk m c 5 t) (ix2 r f)
      = daOf (dyOf (aMod m c) (aRes m c)) (topRows (aOut m c)) (ix3 (seq t) (row t r) f) := by
  refine (da_apply _ _ _).trans (Eq.trans ?_ (daOf_apply _ _ _).symm)
  exact Fintype.sum_congr _ _ fun k => congrArg₂ (· * ·) (dy_point m c t r k) (read_out m c t f k)

theorem gate_point (c : Dev nD) (t : Fin cfg0.N) (r : Fin 256) (f : Fin 1408) :
    k0_pay7 (ldGate m c t) (ix2 r f) = prodOf (aH m c) (gateCols (aIn m c)) (ix3 (seq t) (row t r) f) :=
  (gate_apply _ _).trans (read_gate m c t r f)

theorem up_point (c : Dev nD) (t : Fin cfg0.N) (r : Fin 256) (f : Fin 1408) :
    k0_pay8 (ldUp m c t) (ix2 r f) = prodOf (aH m c) (upCols (aIn m c)) (ix3 (seq t) (row t r) f) :=
  (up_apply _ _).trans (read_up m c t r f)

/-- The arguments the precondition speaks of are real numbers. -/
structure Reals (c : Dev nD) : Prop where
  h : ∀ i, IsReal (aH m c i)
  res : ∀ i, IsReal (aRes m c i)
  mod : ∀ i, IsReal (aMod m c i)
  win : ∀ i, IsReal (aIn m c i)
  out : ∀ i, IsReal (aOut m c i)

section real

variable {m} {c : Dev nD} (hr : Reals m c)
include hr

theorem real_dy (i) : IsReal (dyOf (aMod m c) (aRes m c) i) := by
  rw [dyOf_apply, half_f32]
  exact (IsReal.mul ⟨_, rfl⟩ (isReal_one.add (hr.mod _))).mul (hr.res _)

theorem real_gate (i : Cert.BwdARefIdeal.S2x2048x1408.Idx) : IsReal (prodOf (aH m c) (gateCols (aIn m c)) i) := by
  rw [prodOf_apply]
  refine IsReal.sum _ _ fun k => (hr.h _).mul ?_
  rw [gateCols_apply _ _ (by show (i 2).val < 5632; have h : (i 2).val < 1408 := (i 2).isLt; omega)]
  exact hr.win _

theorem real_up (i : Cert.BwdARefIdeal.S2x2048x1408.Idx) : IsReal (prodOf (aH m c) (upCols (aIn m c)) i) := by
  rw [prodOf_apply]
  refine IsReal.sum _ _ fun k => (hr.h _).mul ?_
  rw [upCols_apply _ _ (by show 2816 + (i 2).val < 5632; have h : (i 2).val < 1408 := (i 2).isLt; omega)]
  exact hr.win _

theorem real_da (i : Cert.BwdARefIdeal.S2x2048x1408.Idx) : IsReal (daOf (dyOf (aMod m c) (aRes m c)) (topRows (aOut m c)) i) := by
  rw [daOf_apply]
  refine IsReal.sum _ _ fun k => (real_dy hr _).mul ?_
  rw [topRows_apply _ _ (by show (i 2).val < 2816; have h : (i 2).val < 1408 := (i 2).isLt; omega)]
  exact hr.out _

/-- The gradient of the gate: the factored form of the kernel is the two-term form of the reference. -/
theorem dgt_point (t : Fin cfg0.N) (r : Fin 256) (f : Fin 1408) :
    k0_pay14 (k0_pay4 (iblk m c 0 t) (ldRow m c t)) (ldGate m c t) (ldUp m c t) (iblk m c 5 t) (ix2 r f)
      = dgtOf (prodOf (aH m c) (gateCols (aIn m c))) (prodOf (aH m c) (upCols (aIn m c)))
          (daOf (dyOf (aMod m c) (aRes m c)) (topRows (aOut m c))) (ix3 (seq t) (row t r) f) := by
  exact (dgt_apply _ _ _ _ _).trans ((gate_chain (da_point m c t r f) (gate_point m c t r f) (up_point m c t r f)
    (real_da hr _) (real_gate hr _) (real_up hr _)).trans (dgtOf_apply _ _ _ _).symm)

omit hr in
/-- The gradient of the upper half. -/
theorem dup_point (t : Fin cfg0.N) (r : Fin 256) (f : Fin 1408) :
    k0_pay13 (k0_pay4 (iblk m c 0 t) (ldRow m c t)) (ldGate m c t) (iblk m c 5 t) (ix2 r f)
      = dupOf (prodOf (aH m c) (gateCols (aIn m c))) (daOf (dyOf (aMod m c) (aRes m c)) (topRows (aOut m c)))
          (ix3 (seq t) (row t r) f) := by
  refine (dup_apply _ _ _ _).trans (Eq.trans ?_ ((dupOf_apply _ _ _).trans (mul_comm _ _)).symm)
  exact congrArg₂ (· * ·) (da_point m c t r f)
    (congrArg (fun x : EReal => x * Ideal.logistic x) (gate_point m c t r f))

/-- The gradient of the activations. -/
theorem dh_point (t : Fin cfg0.N) (r : Fin 256) (d : Fin 1024) :
    k0_pay1 (k0_pay13 (k0_pay4 (iblk m c 0 t) (ldRow m c t)) (ldGate m c t) (iblk m c 5 t))
        (k0_pay14 (k0_pay4 (iblk m c 0 t) (ldRow m c t)) (ldGate m c t) (ldUp m c t) (iblk m c 5 t))
        (ldIn0 m c t) (ldIn1 m c t) (ix3 0 r d)
      = dhAll (aH m c) (aRes m c) (aMod m c) (aIn m c) (aOut m c) (ix3 (seq t) (row t r) d) := by
  refine (dh_apply _ _ _ _ _).trans (Eq.trans ?_ ((dhOf_apply _ _ _ _ _).trans (add_comm _ _)).symm)
  refine congrArg₂ (· + ·) (Fintype.sum_congr _ _ fun k => congrArg₂ (· * ·) (dgt_point hr t r k) (read_in0 m c t d k))
    (Fintype.sum_congr _ _ fun k => congrArg₂ (· * ·) (dup_point t r k) (read_in1 m c t d k))

theorem final_dh : (dats m 0 c).arrAt 9 (cfgs 0).N = dhAll (aH m c) (aRes m c) (aMod m c) (aIn m c) (aOut m c) := by
  refine (dats m 0 c).arrAt_eq_of_covers 9 _ (by decide +kernel) fun t hf y => ?_
  blk_simp
  rw [after0_9]
  by_cases h : t.val % 8 = 0
  · rw [outsAt0_A m c t h]
    dsimp only
    frame_out
    refine Eq.trans ?_ ((dh_point hr t (y 1) (y 2)).trans (congrArg _ ?_))
    · exact congrArg _ (by blk_ext)
    · blk_ext [place t]
  · rw [outsAt0_B m c t h]
    dsimp only
    frame_out
    refine Eq.trans ?_ ((dh_point hr t (y 1) (y 2)).trans (congrArg _ ?_))
    · exact congrArg _ (by blk_ext)
    · blk_ext [place t]

end real

theorem store_apply (x : Vec Ideal S1x256x1024 .f32) (y : Vec Ideal S1x1x1024 .f32) (j : S1x256x1024.Idx) :
    k0_pay5 x y j = k0_pay4 x y (ix2 (j 1) (j 2)) := by
  pointwise [k0_pay5]

theorem final_dy (c : Dev nD) : (dats m 0 c).arrAt 8 (cfgs 0).N
    = truncf .bf16 (dyOf (aMod m c) (aRes m c)) Cert.BwdARefIdeal.Gen.bitsLt_bf16_f32 := by
  refine (dats m 0 c).arrAt_eq_of_covers 8 _ (by decide +kernel) fun t hf y => ?_
  blk_simp
  rw [after0_8]
  by_cases h : t.val % 8 = 0
  · rw [outsAt0_A m c t h]
    dsimp only
    frame_out
    refine (store_apply _ _ _).trans ((dy_point m c t (y 1) (y 2)).trans (congrArg (dyOf (aMod m c) (aRes m c)) ?_))
    blk_ext [place t]
  · rw [outsAt0_B m c t h]
    dsimp only
    frame_out
    refine (store_apply _ _ _).trans ((dy_point m c t (y 1) (y 2)).trans (congrArg (dyOf (aMod m c) (aRes m c)) ?_))
    blk_ext [place t]

/-- One token of a block: its share of the gradient of the gate row. -/
theorem share_point (c : Dev nD) (t : Fin cfg0.N) (r : Fin 256) (d : Fin 1024) (b : Fin 2) (k : Fin 2048)
    (hb : t.val / 8 = b.val) (hk : t.val % 8 * 256 + r.val = k.val) (x : FVec Ideal S1x256x1024 .f32)
    (y : FVec Ideal S1x256x1024 .bf16) (hx : x = iblk m c 0 t) (hy : y = iblk m c 1 t) :
    x (ix3 0 r d) * (Ideal.ofBits .bf16 0x3F00#16 * y (ix3 0 r d))
      = ((1 / 2 : ℝ) : EReal) * (aRes m c (ix3 b k d) * inner (aH m c) (aIn m c) (aOut m c) (ix3 b k d)) := by
  obtain rfl : seq t = b := Fin.ext hb
  obtain rfl : row t r = k := Fin.ext hk
  have ex : x (ix3 0 r d) = aRes m c (ix3 (seq t) (row t r) d) := (congrFun hx _).trans (read_res m c t r d)
  have ey : y (ix3 0 r d) = inner (aH m c) (aIn m c) (aOut m c) (ix3 (seq t) (row t r) d) :=
    (congrFun hy _).trans (read_inner m c t r d)
  rw [ex, ey, half_bf16, mul_left_comm]

/-- The gradient of the gate row: eight token blocks, each with its own sum. -/
theorem final_dgate (c : Dev nD) : (dats m 0 c).arrAt 10 (cfgs 0).N
    = dgateOf (aRes m c) (inner (aH m c) (aIn m c) (aOut m c)) := by
  refine (dats m 0 c).arrAt_eq_of_covers 10 _ (by decide +kernel) fun t hf y => ?_
  have hN : t.val < 16 := lt_of_lt_of_eq t.isLt N_0
  blk_simp
  obtain ⟨d, rfl⟩ : ∃ d : Fin 1024, y = ix3 0 0 d := ⟨y 2, by blk_ext⟩
  have e : (win0_10.blk t).view.emb (ix3 0 0 d) = ix3 (seq t) 0 d := by blk_ext [place t]
  rw [after0_10, Pipeline.eq_sum_fin_of_reset_step_apply_of_flush (fun n h => (outsAt0 m c n h).2.2.2.2) 8 (fun _ => 0)
    (fun s (j : S1x1x1024.Idx) => part (iblk m c 0 s) (iblk m c 1 s) (j 2))
    (fun t h j => by
      obtain ⟨d, rfl⟩ : ∃ d : Fin 1024, j = ix3 0 0 d := ⟨j 2, by blk_ext⟩
      rw [outsAt0_A m c t h]; frame_out; rw [dgate_apply, zero_apply]; rfl)
    (fun t h j => by
      obtain ⟨d, rfl⟩ : ∃ d : Fin 1024, j = ix3 0 0 d := ⟨j 2, by blk_ext⟩
      rw [outsAt0_B m c t h]; frame_out; rw [dgate_apply]; rfl)
    t ((flush0_10 t).mp hf) _, zero_add]
  refine Eq.trans ?_ (congrArg (dgateOf (aRes m c) (inner (aH m c) (aIn m c) (aOut m c))) e).symm
  rw [dgateOf_apply, half_f32, mul_sum_of_nonneg _ _ (by norm_num)]
  refine Fin.sum_mul_add_congr fun s r hl => ?_
  exact share_point m c ⟨8 * (t.val / 8) + s.val, _⟩ r d _ _ (by show (8 * (t.val / 8) + s.val) / 8 = t.val / 8; omega)
    (by show (8 * (t.val / 8) + s.val) % 8 * 256 + r.val = s.val * 256 + r.val; omega) _ _ rfl rfl

/-! ### The precondition and the claim -/

/-- What the precondition says: every argument element is a real number. -/
theorem reals_of_pre (h : Cert.Pre_BwdAIdeal_finite_ba m) (c : Dev nD) : Reals m c where
  h i := isReal_of_test (congrFun (h c).1 i)
  res i := isReal_of_test (congrFun (h c).2.1 i)
  mod i := isReal_of_test (congrFun (h c).2.2.1 i)
  win i := isReal_of_test (congrFun (h c).2.2.2.1 i)
  out i := isReal_of_test (congrFun (h c).2.2.2.2 i)

/-- The two programs end with equal results. -/
theorem algebraic : Cert.algebraic_BwdAIdeal_BwdARefIdeal_pre_finite_ba := fun m g m' g' hpre hagree =>
  ⟨fun c => truncf .bf16 (dyOf (aMod m c) (aRes m c)) Cert.BwdARefIdeal.Gen.bitsLt_bf16_f32,
    fun c => dhAll (aH m c) (aRes m c) (aMod m c) (aIn m c) (aOut m c),
    fun c => dgateOf (aRes m c) (inner (aH m c) (aIn m c) (aOut m c)),
    (θ_run defs _ _).mono (fun _ h c => ⟨(h c).2.2.1.trans (final_dy m c),
      (h c).2.2.2.1.trans (final_dh (reals_of_pre m hpre c)), (h c).2.2.2.2.1.trans (final_dgate m c), (h c).2.2.2.2.2⟩) (Cert.BwdAIdeal.Value.run_blocks m g),
    (θ_run Cert.BwdARefIdeal.defs _ _).mono (fun _ h c =>
      have e := hagree c
      ⟨(h c).1.trans (by rw [e.2.1, e.2.2.1]; rfl),
        (h c).2.1.trans ((res_eq m' c).trans (by rw [e.1, e.2.1, e.2.2.1, e.2.2.2.1, e.2.2.2.2])),
        (h c).2.2.1.trans (by rw [e.1, e.2.1, e.2.2.2.1, e.2.2.2.2]; rfl), (h c).2.2.2⟩) (Cert.BwdARefIdeal.Value.run m' g')⟩

end Cert.BwdAIdeal.Back
-- ==== Proof.BackNorm.lean ====
/- One row of the backward pass of the norm, in two forms that agree at real numbers: the kernel's, which subtracts the
   row's projection, and the one of the chain rule through the mean of squares. With them the terms a row of the gated
   product's backward pass sums, and the sum over all columns as the sum over two halves. -/
module

public import proofs.«01_k».proof.Proof.Reals

@[expose] public section

noncomputable section

open Idealize.ShloMosaic

namespace Cert.BackNorm

open Cert.Reals

theorem _root_.Cert.Reals.IsReal.sub {x y : EReal} : IsReal x → IsReal y → IsReal (x - y) := by
  rintro ⟨a, rfl⟩ ⟨b, rfl⟩
  exact ⟨a - b, (EReal.coe_sub a b).symm⟩

/-- The mean of a row's squares, with the offset that keeps it positive. -/
def ms (u : Fin 1024 → EReal) : EReal :=
  Ideal.div (∑ k, u k * u k) (Ideal.ofBits .f32 0x44800000#32) + Ideal.ofBits .f32 0x358637BD#32

/-- A row's gradient as the kernel computes it: `q` is the gradient beside the norm, `dn` the gradient of the normed row. -/
def rowKernel (u dn : Fin 1024 → EReal) (q : EReal) (d : Fin 1024) : EReal :=
  q + Ideal.rsqrt (ms u) * (dn d - u d * Ideal.rsqrt (ms u)
    * Ideal.div (∑ k, dn k * (u k * Ideal.rsqrt (ms u))) (Ideal.ofBits .f32 0x44800000#32))

/-- What the mean of squares passes back to a row's elements. -/
def through (u dn : Fin 1024 → EReal) : EReal :=
  Ideal.div ((∑ k, u k * dn k) * (Ideal.ofBits .f32 0xBF000000#32 * Ideal.div (Ideal.rsqrt (ms u)) (ms u)))
    (Ideal.ofBits .f32 0x44800000#32)

/-- A row's gradient by the chain rule. -/
def rowChain (u dn : Fin 1024 → EReal) (q : EReal) (d : Fin 1024) : EReal :=
  q + dn d * Ideal.rsqrt (ms u) + u d * through u dn + through u dn * u d

theorem c1024 : Ideal.ofBits .f32 0x44800000#32 = ((1024 : ℝ) : EReal) := by
  simp [Ideal.ofBits, Ideal.ieee, -EReal.coe_mul]; norm_num

theorem cNegHalf : Ideal.ofBits .f32 0xBF000000#32 = ((-(1 / 2) : ℝ) : EReal) := by
  simp [Ideal.ofBits, Ideal.ieee, -EReal.coe_mul]; norm_num

theorem cEps : Ideal.ofBits .f32 0x358637BD#32 = ((8796093 / 8796093022208 : ℝ) : EReal) := by
  simp [Ideal.ofBits, Ideal.ieee, -EReal.coe_mul]; norm_num

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mean of squares of a real row is a positive real number. -/
theorem ms_coe (a : Fin 1024 → ℝ) : ∃ v : ℝ, 0 < v ∧ ms (fun k => (a k : EReal)) = (v : EReal) := by
  refine ⟨(∑ k, a k * a k) * (1 / 1024) + 8796093 / 8796093022208, ?_, ?_⟩
  · have h : 0 ≤ ∑ k, a k * a k := Finset.sum_nonneg fun k _ => mul_self_nonneg _
    positivity
  · unfold ms
    rw [c1024, cEps, Ideal.div_coe (by norm_num), Fintype.sum_congr _ _ fun k => (EReal.coe_mul (a k) (a k)).symm, sum_coe]
    norm_cast

/-- The reciprocal root of a positive real number is a real number whose square is the reciprocal. -/
theorem rsqrt_coe_pos {v : ℝ} (hv : 0 < v) : ∃ s : ℝ, Ideal.rsqrt (v : EReal) = (s : EReal) ∧ 1 / v = s * s := by
  refine ⟨(√v)⁻¹, ?_, ?_⟩
  · rw [Ideal.rsqrt_coe, if_neg (not_lt.2 hv.le), if_neg hv.ne']
  · rw [← mul_inv, Real.mul_self_sqrt hv.le, one_div]

/-- The two forms of a row's gradient agree at real numbers. -/
theorem row_eq {u dn : Fin 1024 → EReal} {q : EReal} (hu : ∀ k, IsReal (u k)) (hdn : ∀ k, IsReal (dn k)) (hq : IsReal q)
    (d : Fin 1024) : rowKernel u dn q d = rowChain u dn q d := by
  choose a ha using hu
  choose b hb using hdn
  obtain ⟨q, rfl⟩ := hq
  obtain rfl : u = fun k => (a k : EReal) := funext ha
  obtain rfl : dn = fun k => (b k : EReal) := funext hb
  obtain ⟨v, hv, e⟩ := ms_coe a
  obtain ⟨s, hs, hvs⟩ := rsqrt_coe_pos hv
  have h1 : ∑ k, (b k : EReal) * ((a k : EReal) * (s : EReal)) = (((∑ k, a k * b k) * s : ℝ) : EReal) := by
    rw [Finset.sum_mul, ← sum_coe]
    exact Fintype.sum_congr _ _ fun k => by norm_cast; ring
  have h2 : ∑ k, (a k : EReal) * (b k : EReal) = ((∑ k, a k * b k : ℝ) : EReal) := by
    rw [← sum_coe]
    exact Fintype.sum_congr _ _ fun k => (EReal.coe_mul (a k) (b k)).symm
  unfold rowKernel rowChain through
  rw [e, hs, h1, h2, c1024, cNegHalf, Ideal.div_coe hv.ne', Ideal.div_coe (by norm_num), Ideal.div_coe (by norm_num), hvs]
  generalize (∑ k, a k * b k) = S
  simp only [← EReal.coe_mul, ← EReal.coe_sub, ← EReal.coe_add]
  exact congrArg _ (by ring)

/-- The gradient of the upper half at one column, and of the gate. -/
def upGrad (g a : EReal) : EReal := g * Ideal.logistic g * a

def gateGrad (g u a : EReal) : EReal :=
  a * u * Ideal.logistic g + g * (a * u) * (Ideal.logistic g * (1 - Ideal.logistic g))

/-- Sums over all columns from the sums over the first half and over the second. -/
theorem halves (u g : Fin 2816 → EReal) :
    ((∑ f : Fin 1408, u ⟨f.val, by omega⟩) + ∑ f : Fin 1408, g ⟨f.val, by omega⟩)
      + ((∑ f : Fin 1408, g ⟨1408 + f.val, by omega⟩) + ∑ f : Fin 1408, u ⟨1408 + f.val, by omega⟩)
      = (∑ f, u f) + ∑ f, g f := by
  have s (v : Fin 2816 → EReal) : ∑ f, v f
      = (∑ f : Fin 1408, v ⟨f.val, by omega⟩) + ∑ f : Fin 1408, v ⟨1408 + f.val, by omega⟩ :=
    Fin.sum_univ_add (a := 1408) (b := 1408) v
  rw [s u, s g, add_comm (∑ f : Fin 1408, g ⟨1408 + f.val, _⟩), add_add_add_comm]

end Cert.BackNorm
-- ==== Proof.BwdBRef.lean ====
/- The backward pass of the whole feed-forward block as the reference computes it: the gradients of the block's input, of
   the three rows of the modulation and of the norm's gain, each read at an index. -/
module

public import proofs.«01_k».proof.Proof.Gen.BwdBRefIdeal.Run
public import proofs.«01_k».proof.Proof.BackNorm
public import Idealize.ShloMosaic.Lib.Pipeline.ValueKit

@[expose] public section

set_option maxRecDepth 16384

noncomputable section

open Idealize.ShloMosaic Idealize.ShloMosaic.TcCoe Idealize.SL.Sem

namespace Cert.BwdBRefIdeal.Whole

open Cert.BwdBRefIdeal Cert.BwdBRefIdeal.Gen Cert.BackNorm

/-- The mean of squares of every row, and the rows divided by its root. -/
def msOf (x : FVec Ideal S2x2048x1024 .f32) : FVec Ideal S2x2048x1 .f32 :=
  addf (Host.divf (broadcastInDim S2x2048x1 ![0, 1] bcast_S2x2048_S2x2048x1_0_1 (Host.reduceAdd (mulf x x)
      (constant S_ .f32 0x00000000#32) reducesTo_S2x2048x1024_S2x2048_d2 h_S_))
      (broadcastInDim S2x2048x1 ![] bcast_S_S2x2048x1 (constant S_ .f32 0x44800000#32)))
    (broadcastInDim S2x2048x1 ![] bcast_S_S2x2048x1 (constant S_ .f32 0x358637BD#32))

def rootOf (x : FVec Ideal S2x2048x1024 .f32) : FVec Ideal S2x2048x1024 .f32 :=
  broadcastInDim S2x2048x1024 ![0, 1, 2] bcast_S2x2048x1_S2x2048x1024_0_1_2 (Host.rsqrt (msOf x))

def normed (x : FVec Ideal S2x2048x1024 .f32) : FVec Ideal S2x2048x1024 .f32 := mulf x (rootOf x)

/-- The gain at every element, and one plus the scale. -/
def gainOf (g : FVec Ideal S1024 .f32) : FVec Ideal S2x2048x1024 .f32 :=
  broadcastInDim S2x2048x1024 ![0, 1, 2] bcast_S2x1x1024_S2x2048x1024_0_1_2
    (broadcastInDim S2x1x1024 ![2] bcast_S1024_S2x1x1024_2 g)

def scaleOf (mod : FVec Ideal S2x3x1024 .f32) : FVec Ideal S2x2048x1024 .f32 :=
  broadcastInDim S2x2048x1024 ![0, 1, 2] bcast_S2x1x1024_S2x2048x1024_0_1_2
    (addf (broadcastInDim S2x1x1024 ![] bcast_S_S2x1x1024 (constant S_ .f32 0x3F800000#32))
      (extractStridedSlice S2x1x1024 ![0, 1, 0] mod slices_S2x3x1024_S2x1x1024_0_1_0))

/-- The modulated norm. -/
def hOf (x : FVec Ideal S2x2048x1024 .f32) (mod : FVec Ideal S2x3x1024 .f32) (g : FVec Ideal S1024 .f32) :
    FVec Ideal S2x2048x1024 .f32 :=
  addf (mulf (mulf (normed x) (gainOf g)) (scaleOf mod))
    (broadcastInDim S2x2048x1024 ![0, 1, 2] bcast_S2x1x1024_S2x2048x1024_0_1_2
      (extractStridedSlice S2x1x1024 ![0, 0, 0] mod slices_S2x3x1024_S2x1x1024_0_0_0))

/-- The gradient of the block's inner result. -/
def dyOf (mod : FVec Ideal S2x3x1024 .f32) (dres : FVec Ideal S2x2048x1024 .f32) : FVec Ideal S2x2048x1024 .f32 :=
  mulf (broadcastInDim S2x2048x1024 ![0, 1, 2] bcast_S2x1x1024_S2x2048x1024_0_1_2 (mulf
    (broadcastInDim S2x1x1024 ![] bcast_S_S2x1x1024 (constant S_ .f32 0x3F000000#32))
    (addf (broadcastInDim S2x1x1024 ![] bcast_S_S2x1x1024 (constant S_ .f32 0x3F800000#32))
      (extractStridedSlice S2x1x1024 ![0, 2, 0] mod slices_S2x3x1024_S2x1x1024_0_2_0))))
    (shapeCast _ dres shapeCasts_S2x2048x1024_S2x2048x1024)

def gateCols (w : FVec Ideal S1024x5632 .f32) : FVec Ideal S1024x2816 .f32 :=
  extractStridedSlice S1024x2816 ![0, 0] w slices_S1024x5632_S1024x2816_0_0

def upCols (w : FVec Ideal S1024x5632 .f32) : FVec Ideal S1024x2816 .f32 :=
  extractStridedSlice S1024x2816 ![0, 2816] w slices_S1024x5632_S1024x2816_0_2816

def prodOf (h : FVec Ideal S2x2048x1024 .f32) (w : FVec Ideal S1024x2816 .f32) : FVec Ideal S2x2048x2816 .f32 :=
  Host.dotGeneral (φ₁ := .f32) (φ₂ := .f32) dot_S2x2048x1024_S1024x2816_S2x2048x2816_2_0_01_1_n_n none h w

def daOf (dy : FVec Ideal S2x2048x1024 .f32) (w : FVec Ideal S2816x1024 .f32) : FVec Ideal S2x2048x2816 .f32 :=
  Host.dotGeneral (φ₁ := .f32) (φ₂ := .f32) dot_S2x2048x1024_S2816x1024_S2x2048x2816_2_1_01_0_n_n none dy w

/-- The logistic function as the host writes it. -/
def sigma (g : FVec Ideal S2x2048x2816 .f32) : FVec Ideal S2x2048x2816 .f32 :=
  Host.divf (broadcastInDim S2x2048x2816 ![] bcast_S_S2x2048x2816 (constant S_ .f32 0x3F800000#32))
    (addf (broadcastInDim S2x2048x2816 ![] bcast_S_S2x2048x2816 (constant S_ .f32 0x3F800000#32)) (Host.exp (Host.negf g)))

def dupOf (g da : FVec Ideal S2x2048x2816 .f32) : FVec Ideal S2x2048x2816 .f32 := mulf (mulf g (sigma g)) da

def dgtOf (g u da : FVec Ideal S2x2048x2816 .f32) : FVec Ideal S2x2048x2816 .f32 :=
  addf (mulf (mulf da u) (sigma g)) (mulf (mulf g (mulf da u)) (mulf (sigma g)
    (subf (broadcastInDim S2x2048x2816 ![] bcast_S_S2x2048x2816 (constant S_ .f32 0x3F800000#32)) (sigma g))))

/-- The gradient of the modulated norm. -/
def dhOf (dup dgt : FVec Ideal S2x2048x2816 .f32) (wg wu : FVec Ideal S1024x2816 .f32) : FVec Ideal S2x2048x1024 .f32 :=
  addf (Host.dotGeneral (φ₁ := .f32) (φ₂ := .f32) dot_S2x2048x2816_S1024x2816_S2x2048x1024_2_1_01_0_n_n none dup wu)
    (Host.dotGeneral (φ₁ := .f32) (φ₂ := .f32) dot_S2x2048x2816_S1024x2816_S2x2048x1024_2_1_01_0_n_n none dgt wg)

def dhAll (x dres : FVec Ideal S2x2048x1024 .f32) (mod : FVec Ideal S2x3x1024 .f32) (g : FVec Ideal S1024 .f32)
    (w : FVec Ideal S1024x5632 .f32) (wo : FVec Ideal S2816x1024 .f32) : FVec Ideal S2x2048x1024 .f32 :=
  dhOf (dupOf (prodOf (hOf x mod g) (gateCols w)) (daOf (dyOf mod dres) wo))
    (dgtOf (prodOf (hOf x mod g) (gateCols w)) (prodOf (hOf x mod g) (upCols w)) (daOf (dyOf mod dres) wo))
    (gateCols w) (upCols w)

/-- The sum over a sequence's tokens. -/
def overTokens (a : FVec Ideal S2x2048x1024 .f32) : FVec Ideal S2x1x1024 .f32 :=
  shapeCast _ (Host.reduceAdd a (constant S_ .f32 0x00000000#32) reducesTo_S2x2048x1024_S2x1024_d1 h_S_)
    shapeCasts_S2x1024_S2x1x1024

/-- The gradient of the modulation: of the shift, of the scale, and zero for the gate, whose gradient is another call's. -/
def dmodOf (x : FVec Ideal S2x2048x1024 .f32) (g : FVec Ideal S1024 .f32) (dh : FVec Ideal S2x2048x1024 .f32) :
    FVec Ideal S2x3x1024 .f32 :=
  concatenate S2x3x1024 1 [⟨S2x1x1024, overTokens dh⟩, ⟨S2x1x1024, overTokens (mulf (mulf (normed x) (gainOf g)) dh)⟩,
    ⟨S2x1x1024, broadcastInDim S2x1x1024 ![] bcast_S_S2x1x1024 (constant S_ .f32 0x00000000#32)⟩]
    concatenates_S2x1x1024_S2x1x1024_S2x1x1024_S2x3x1024_d1

/-- The gradient of the gain, per sequence. -/
def dgOf (x : FVec Ideal S2x2048x1024 .f32) (mod : FVec Ideal S2x3x1024 .f32) (dh : FVec Ideal S2x2048x1024 .f32) :
    FVec Ideal S2x1x1024 .f32 := overTokens (mulf (normed x) (mulf dh (scaleOf mod)))

/-- The gradient of the normed rows. -/
def dnOf (mod : FVec Ideal S2x3x1024 .f32) (g : FVec Ideal S1024 .f32) (dh : FVec Ideal S2x2048x1024 .f32) :
    FVec Ideal S2x2048x1024 .f32 := mulf (mulf dh (scaleOf mod)) (gainOf g)

/-- What the mean of squares passes back. -/
def throughOf (x dn : FVec Ideal S2x2048x1024 .f32) : FVec Ideal S2x2048x1024 .f32 :=
  broadcastInDim S2x2048x1024 ![0, 1] bcast_S2x2048_S2x2048x1024_0_1 (Host.reduceAdd (Host.divf
    (mulf (shapeCast _ (Host.reduceAdd (mulf x dn) (constant S_ .f32 0x00000000#32) reducesTo_S2x2048x1024_S2x2048_d2 h_S_)
        shapeCasts_S2x2048_S2x2048x1)
      (mulf (broadcastInDim S2x2048x1 ![] bcast_S_S2x2048x1 (constant S_ .f32 0xBF000000#32))
        (Host.divf (Host.rsqrt (msOf x)) (msOf x))))
    (broadcastInDim S2x2048x1 ![] bcast_S_S2x2048x1 (constant S_ .f32 0x44800000#32)))
    (constant S_ .f32 0x00000000#32) reducesTo_S2x2048x1_S2x2048_d2 h_S_)

/-- The gradient of the block's input. -/
def dxOf (x dres dn : FVec Ideal S2x2048x1024 .f32) : FVec Ideal S2x2048x1024 .f32 :=
  addf (addf (addf dres (mulf dn (rootOf x))) (mulf x (throughOf x dn))) (mulf (throughOf x dn) x)

section results

variable (m : (ℓ : Loc nD τ sig) → Buf (Elt Ideal) ℓ) (c : Dev nD)

abbrev dhRes : FVec Ideal S2x2048x1024 .f32 :=
  dhAll (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

theorem dx_eq : Value.res_main_v75 m c = dxOf (m ((c.tc : Thread nD τ).loc main_arg0)) (m ((c.tc : Thread nD τ).loc main_arg1))
    (dnOf (m ((c.tc : Thread nD τ).loc main_arg2)) (m ((c.tc : Thread nD τ).loc main_arg3)) (dhRes m c)) := rfl

theorem dmod_eq : Value.res_main_v77 m c = dmodOf (m ((c.tc : Thread nD τ).loc main_arg0))
    (m ((c.tc : Thread nD τ).loc main_arg3)) (dhRes m c) := rfl

theorem dg_eq : Value.res_main_v58 m c = dgOf (m ((c.tc : Thread nD τ).loc main_arg0))
    (m ((c.tc : Thread nD τ).loc main_arg2)) (dhRes m c) := rfl

end results

/-! ### The same at an index -/

/-- A row of an array of tokens. -/
abbrev rowAt (x : FVec Ideal S2x2048x1024 .f32) (b : Fin 2) (r : Fin 2048) : Fin 1024 → EReal := fun k => x (ix3 b r k)

/-- The modulated norm, the gradient of the inner result, and their products with the weights' columns. -/
def hAt (x : FVec Ideal S2x2048x1024 .f32) (mod : FVec Ideal S2x3x1024 .f32) (g : FVec Ideal S1024 .f32) (b : Fin 2)
    (r : Fin 2048) (k : Fin 1024) : EReal :=
  x (ix3 b r k) * Ideal.rsqrt (ms (rowAt x b r)) * g (ix1 k) * (1 + mod (ix3 b 1 k)) + mod (ix3 b 0 k)

def dyAt (mod : FVec Ideal S2x3x1024 .f32) (dres : FVec Ideal S2x2048x1024 .f32) (b : Fin 2) (r : Fin 2048) (k : Fin 1024) :
    EReal := Ideal.ofBits .f32 0x3F000000#32 * (1 + mod (ix3 b 2 k)) * dres (ix3 b r k)

def prodAt (h : Fin 1024 → EReal) (w : FVec Ideal S1024x5632 .f32) (f : Fin 5632) : EReal := ∑ k, h k * w (ix2 k f)

def daAt (dy : Fin 1024 → EReal) (wo : FVec Ideal S2816x1024 .f32) (f : Fin 2816) : EReal := ∑ k, dy k * wo (ix2 f k)

/-- What one column of the upper half, and of the gate, adds to the gradient of the modulated norm. -/
def upTerm (h dy : Fin 1024 → EReal) (w : FVec Ideal S1024x5632 .f32) (wo : FVec Ideal S2816x1024 .f32) (d : Fin 1024)
    (f : Fin 2816) : EReal :=
  upGrad (prodAt h w ⟨f.val, by omega⟩) (daAt dy wo f) * w (ix2 d ⟨2816 + f.val, by omega⟩)

def gateTerm (h dy : Fin 1024 → EReal) (w : FVec Ideal S1024x5632 .f32) (wo : FVec Ideal S2816x1024 .f32) (d : Fin 1024)
    (f : Fin 2816) : EReal :=
  gateGrad (prodAt h w ⟨f.val, by omega⟩) (prodAt h w ⟨2816 + f.val, by omega⟩) (daAt dy wo f) * w (ix2 d ⟨f.val, by omega⟩)

theorem hOf_apply (x mod g) (b : Fin 2) (r : Fin 2048) (k : Fin 1024) : hOf x mod g (ix3 b r k) = hAt x mod g b r k := by
  unfold hAt ms
  pointwise [hOf, normed, rootOf, msOf, gainOf, scaleOf]

theorem dyOf_apply (mod dres) (b : Fin 2) (r : Fin 2048) (k : Fin 1024) : dyOf mod dres (ix3 b r k) = dyAt mod dres b r k := by
  unfold dyAt
  pointwise [dyOf]

theorem gateCols_apply (w) (k : Fin 1024) (f : Fin 2816) : gateCols w (ix2 k f) = w (ix2 k ⟨f.val, by omega⟩) := by
  pointwise [gateCols]

theorem upCols_apply (w) (k : Fin 1024) (f : Fin 2816) : upCols w (ix2 k f) = w (ix2 k ⟨2816 + f.val, by omega⟩) := by
  pointwise [upCols]

theorem prodOf_apply (h w) (j : S2x2048x2816.Idx) : prodOf h w j = ∑ k : Fin 1024, h (ix3 (j 0) (j 1) k) * w (ix2 k (j 2)) := by
  pointwise [prodOf]

theorem daOf_apply (dy w) (j : S2x2048x2816.Idx) : daOf dy w j = ∑ k : Fin 1024, dy (ix3 (j 0) (j 1) k) * w (ix2 (j 2) k) := by
  pointwise [daOf]

theorem sigma_apply (g) (j : S2x2048x2816.Idx) : sigma g j = Ideal.logistic (g j) := by
  refine Eq.trans (b := Ideal.div 1 (1 + Ideal.exp (-g j))) ?_ rfl
  pointwise [sigma]

theorem dupOf_apply (g da) (j : S2x2048x2816.Idx) : dupOf g da j = upGrad (g j) (da j) := by
  unfold upGrad
  rw [← sigma_apply]
  rfl

theorem dgtOf_apply (g u da) (j : S2x2048x2816.Idx) : dgtOf g u da j = gateGrad (g j) (u j) (da j) := by
  unfold gateGrad
  rw [← sigma_apply]
  pointwise [dgtOf]

theorem dhOf_apply (dup dgt wg wu) (j : S2x2048x1024.Idx) : dhOf dup dgt wg wu j
    = (∑ k : Fin 2816, dup (ix3 (j 0) (j 1) k) * wu (ix2 (j 2) k)) + ∑ k : Fin 2816, dgt (ix3 (j 0) (j 1) k) * wg (ix2 (j 2) k) := by
  pointwise [dhOf]

theorem gate_apply (x mod g w) (b : Fin 2) (r : Fin 2048) (f : Fin 2816) :
    prodOf (hOf x mod g) (gateCols w) (ix3 b r f) = prodAt (hAt x mod g b r) w ⟨f.val, by omega⟩ :=
  (prodOf_apply _ _ _).trans (Fintype.sum_congr _ _ fun k => congrArg₂ (· * ·) (hOf_apply x mod g b r k) (gateCols_apply w k f))

theorem up_apply (x mod g w) (b : Fin 2) (r : Fin 2048) (f : Fin 2816) :
    prodOf (hOf x mod g) (upCols w) (ix3 b r f) = prodAt (hAt x mod g b r) w ⟨2816 + f.val, by omega⟩ :=
  (prodOf_apply _ _ _).trans (Fintype.sum_congr _ _ fun k => congrArg₂ (· * ·) (hOf_apply x mod g b r k) (upCols_apply w k f))

theorem da_apply (mod dres wo) (b : Fin 2) (r : Fin 2048) (f : Fin 2816) :
    daOf (dyOf mod dres) wo (ix3 b r f) = daAt (dyAt mod dres b r) wo f :=
  (daOf_apply _ _ _).trans (Fintype.sum_congr _ _ fun k => congrArg (· * _) (dyOf_apply mod dres b r k))

theorem gateGrad_congr {g g' u u' a a' : EReal} (hg : g = g') (hu : u = u') (ha : a = a') : gateGrad g u a = gateGrad g' u' a' := by
  rw [hg, hu, ha]

/-- The gradient of the modulated norm: a sum over the columns of both halves of the first weights. -/
theorem dhAll_apply (x dres mod g w wo) (b : Fin 2) (r : Fin 2048) (d : Fin 1024) : dhAll x dres mod g w wo (ix3 b r d)
    = (∑ f, upTerm (hAt x mod g b r) (dyAt mod dres b r) w wo d f) + ∑ f, gateTerm (hAt x mod g b r) (dyAt mod dres b r) w wo d f := by
  refine (dhOf_apply _ _ _ _ _).trans (congrArg₂ (· + ·) ?_ ?_)
  · exact Fintype.sum_congr _ _ fun f => congrArg₂ (· * ·) ((dupOf_apply _ _ _).trans
      (congrArg₂ upGrad (gate_apply x mod g w b r f) (da_apply mod dres wo b r f))) (upCols_apply w d f)
  · exact Fintype.sum_congr _ _ fun f => congrArg₂ (· * ·) ((dgtOf_apply _ _ _ _).trans
      (gateGrad_congr (gate_apply x mod g w b r f) (up_apply x mod g w b r f) (da_apply mod dres wo b r f)))
      (gateCols_apply w d f)

/-- The row of the gradient of the normed rows. -/
def dnAt (mod : FVec Ideal S2x3x1024 .f32) (g : FVec Ideal S1024 .f32) (dh : FVec Ideal S2x2048x1024 .f32) (b : Fin 2)
    (r : Fin 2048) (k : Fin 1024) : EReal := dh (ix3 b r k) * (1 + mod (ix3 b 1 k)) * g (ix1 k)

theorem dnOf_apply (mod g dh) (b : Fin 2) (r : Fin 2048) (k : Fin 1024) : dnOf mod g dh (ix3 b r k) = dnAt mod g dh b r k := by
  unfold dnAt
  pointwise [dnOf, scaleOf, gainOf]

theorem throughOf_apply (x dn) (b : Fin 2) (r : Fin 2048) (d : Fin 1024) :
    throughOf x dn (ix3 b r d) = through (rowAt x b r) (rowAt dn b r) := by
  unfold through ms
  pointwise [throughOf, msOf]
  rw [Fintype.sum_unique]

theorem rootOf_apply (x) (b : Fin 2) (r : Fin 2048) (d : Fin 1024) :
    rootOf x (ix3 b r d) = Ideal.rsqrt (ms (rowAt x b r)) := by
  unfold ms
  pointwise [rootOf, msOf]

theorem dxOf_apply (x dres mod g dh) (b : Fin 2) (r : Fin 2048) (d : Fin 1024) : dxOf x dres (dnOf mod g dh) (ix3 b r d)
    = rowChain (rowAt x b r) (dnAt mod g dh b r) (dres (ix3 b r d)) d := by
  have e : rowAt (dnOf mod g dh) b r = dnAt mod g dh b r := funext (dnOf_apply mod g dh b r)
  have t := (throughOf_apply x (dnOf mod g dh) b r d).trans (congrArg (through (rowAt x b r)) e)
  exact congrArg₂ (· + ·) (congrArg₂ (· + ·) (congrArg (dres (ix3 b r d) + ·)
    (congrArg₂ (· * ·) (dnOf_apply mod g dh b r d) (rootOf_apply x b r d))) (congrArg (x (ix3 b r d) * ·) t))
    (congrArg (· * x (ix3 b r d)) t)

theorem overTokens_apply (a) (b : Fin 2) (d : Fin 1024) : overTokens a (ix3 b 0 d) = ∑ r : Fin 2048, a (ix3 b r d) := by
  pointwise [overTokens]

theorem dgOf_apply (x mod dh) (b : Fin 2) (d : Fin 1024) : dgOf x mod dh (ix3 b 0 d)
    = ∑ r : Fin 2048, x (ix3 b r d) * Ideal.rsqrt (ms (rowAt x b r)) * (dh (ix3 b r d) * (1 + mod (ix3 b 1 d))) := by
  refine (overTokens_apply _ b d).trans (Fintype.sum_congr _ _ fun r => ?_)
  unfold ms
  pointwise [normed, rootOf, msOf, scaleOf]

theorem dmodOf_apply_0 (x g dh) (b : Fin 2) (d : Fin 1024) : dmodOf x g dh (ix3 b 0 d) = ∑ r : Fin 2048, dh (ix3 b r d) := by
  refine Eq.trans ?_ (overTokens_apply dh b d)
  pointwise [dmodOf]

theorem dmodOf_apply_1 (x g dh) (b : Fin 2) (d : Fin 1024) : dmodOf x g dh (ix3 b 1 d)
    = ∑ r : Fin 2048, x (ix3 b r d) * Ideal.rsqrt (ms (rowAt x b r)) * g (ix1 d) * dh (ix3 b r d) := by
  refine Eq.trans (b := overTokens (mulf (mulf (normed x) (gainOf g)) dh) (ix3 b 0 d)) ?_
    ((overTokens_apply _ b d).trans (Fintype.sum_congr _ _ fun r => ?_))
  · pointwise [dmodOf]
  · unfold ms
    pointwise [normed, rootOf, msOf, gainOf]

theorem dmodOf_apply_2 (x g dh) (b : Fin 2) (d : Fin 1024) : dmodOf x g dh (ix3 b 2 d) = 0 := by
  pointwise! [dmodOf]

end Cert.BwdBRefIdeal.Whole
-- ==== Proof.BwdBPoints.lean ====
/- The call of the feed-forward block's second half, piece by piece: what the host prepares, what the kernel's terms are
   at an index, and what every block holds of the arguments. -/
module

public import proofs.«01_k».proof.Proof.Gen.BwdBIdeal.Value
public import proofs.«01_k».proof.Proof.BwdBRef
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.BwdBRefIdeal.Whole Cert.Reals Cert.BackNorm

namespace Cert.BwdBIdeal.Whole

open Cert.BwdBIdeal Cert.BwdBIdeal.Gen

variable (m : (ℓ : Loc nD τ sig) → Buf (Elt Ideal) ℓ)

/-- The arguments. -/
abbrev aX (c : Dev nD) : FVec Ideal S2x2048x1024 .f32 := m ((c : Thread nD τ).loc main_arg0)
abbrev aRes (c : Dev nD) : FVec Ideal S2x2048x1024 .f32 := m ((c : Thread nD τ).loc main_arg1)
abbrev aMod (c : Dev nD) : FVec Ideal S2x3x1024 .f32 := m ((c : Thread nD τ).loc main_arg2)
abbrev aG (c : Dev nD) : FVec Ideal S1024 .f32 := m ((c : Thread nD τ).loc main_arg3)
abbrev aIn (c : Dev nD) : FVec Ideal S1024x5632 .f32 := m ((c : Thread nD τ).loc main_arg4)
abbrev aOut (c : Dev nD) : FVec Ideal S2816x1024 .f32 := m ((c : Thread nD τ).loc main_arg5)

/-- Where the windows stand at a grid point. -/
theorem place : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![0, t.val / 8, t.val % 8, 1] ∧ win0_5.index t = ![t.val / 8, 0, 0]
    ∧ win0_6.index t = ![0, 0] ∧ win0_7.index t = ![0, 1, 0, 0] ∧ win0_8.index t = ![1, 0, 0]
    ∧ win0_9.index t = ![t.val / 8, t.val % 8, 0] ∧ win0_12.index t = ![t.val / 8, 0, 0]
    ∧ win0_13.index t = ![t.val / 8, 0, 0] :=
  (by decide +kernel : ∀ t : Fin grid0.N, _)

/-- The array coordinates of a row of a grid point's token block. -/
abbrev seq (t : Fin cfg0.N) : Fin 2 := ⟨t.val / 8, by have h := lt_of_lt_of_eq t.isLt N_0; omega⟩
abbrev row (t : Fin cfg0.N) (r : Fin 256) : Fin 2048 := ⟨t.val % 8 * 256 + r.val, by have h := r.isLt; omega⟩

/-! ### What the host prepares -/

/-- The modulated norm. -/
def hHost (x : FVec Ideal S2x2048x1024 .f32) (mod : FVec Ideal S2x3x1024 .f32) (g : FVec Ideal S1024 .f32) :
    FVec Ideal S2x2048x1024 .f32 :=
  addf (mulf (mulf (mulf x (broadcastInDim S2x2048x1024 ![0, 1, 2] bcast_S2x2048x1_S2x2048x1024_0_1_2 (Host.rsqrt
      (addf (Host.divf (broadcastInDim S2x2048x1 ![0, 1] bcast_S2x2048_S2x2048x1_0_1 (Host.reduceAdd (mulf x x)
          (constant S_ .f32 0x00000000#32) reducesTo_S2x2048x1024_S2x2048_d2 h_S_))
          (broadcastInDim S2x2048x1 ![] bcast_S_S2x2048x1 (constant S_ .f32 0x44800000#32)))
        (broadcastInDim S2x2048x1 ![] bcast_S_S2x2048x1 (constant S_ .f32 0x358637BD#32))))))
      (broadcastInDim S2x2048x1024 ![0, 1, 2] bcast_S1x1x1024_S2x2048x1024_0_1_2
        (broadcastInDim S1x1x1024 ![2] bcast_S1024_S1x1x1024_2 g)))
      (broadcastInDim S2x2048x1024 ![0, 1, 2] bcast_S2x1x1024_S2x2048x1024_0_1_2
        (addf (broadcastInDim S2x1x1024 ![] bcast_S_S2x1x1024 (constant S_ .f32 0x3F800000#32))
          (extractStridedSlice S2x1x1024 ![0, 1, 0] mod slices_S2x3x1024_S2x1x1024_0_1_0))))
    (broadcastInDim S2x2048x1024 ![0, 1, 2] bcast_S2x1x1024_S2x2048x1024_0_1_2
      (extractStridedSlice S2x1x1024 ![0, 0, 0] mod slices_S2x3x1024_S2x1x1024_0_0_0))

theorem hHost_apply (x mod g) (b : Fin 2) (r : Fin 2048) (k : Fin 1024) : hHost x mod g (ix3 b r k) = hAt x mod g b r k := by
  unfold hAt ms
  pointwise [hHost]

/-- The gradient of the block's inner result. -/
def dyHost (mod : FVec Ideal S2x3x1024 .f32) (dres : FVec Ideal S2x2048x1024 .f32) : FVec Ideal S2x2048x1024 .f32 :=
  mulf (broadcastInDim S2x2048x1024 ![0, 1, 2] bcast_S2x1x1024_S2x2048x1024_0_1_2 (mulf
    (broadcastInDim S2x1x1024 ![] bcast_S_S2x1x1024 (constant S_ .f32 0x3F000000#32))
    (addf (broadcastInDim S2x1x1024 ![] bcast_S_S2x1x1024 (constant S_ .f32 0x3F800000#32))
      (extractStridedSlice S2x1x1024 ![0, 2, 0] mod slices_S2x3x1024_S2x1x1024_0_2_0)))) dres

theorem dyHost_apply (mod dres) (b : Fin 2) (r : Fin 2048) (k : Fin 1024) :
    dyHost mod dres (ix3 b r k) = dyAt mod dres b r k := by
  unfold dyAt
  pointwise [dyHost]

/-- The first half of the weights' columns. -/
def gateLeft (w : FVec Ideal S1024x5632 .f32) : FVec Ideal S1024x1408 .f32 :=
  extractStridedSlice S1024x1408 ![0, 0] (extractStridedSlice S1024x2816 ![0, 0] w slices_S1024x5632_S1024x2816_0_0)
    slices_S1024x2816_S1024x1408_0_0

def upLeft (w : FVec Ideal S1024x5632 .f32) : FVec Ideal S1024x1408 .f32 :=
  extractStridedSlice S1024x1408 ![0, 0] (extractStridedSlice S1024x2816 ![0, 2816] w slices_S1024x5632_S1024x2816_0_2816)
    slices_S1024x2816_S1024x1408_0_0

def outTop (w : FVec Ideal S2816x1024 .f32) : FVec Ideal S1408x1024 .f32 :=
  extractStridedSlice S1408x1024 ![0, 0] w slices_S2816x1024_S1408x1024_0_0

theorem gateLeft_apply (w) (k : Fin 1024) (f : Fin 1408) : gateLeft w (ix2 k f) = w (ix2 k ⟨f.val, by omega⟩) := by
  pointwise [gateLeft]

theorem upLeft_apply (w) (k : Fin 1024) (f : Fin 1408) : upLeft w (ix2 k f) = w (ix2 k ⟨2816 + f.val, by omega⟩) := by
  pointwise [upLeft]

theorem outTop_apply (w) (f : Fin 1408) (k : Fin 1024) : outTop w (ix2 f k) = w (ix2 ⟨f.val, by omega⟩ k) := by
  pointwise [outTop]

def prodHalf (h : FVec Ideal S2x2048x1024 .f32) (w : FVec Ideal S1024x1408 .f32) : FVec Ideal S2x2048x1408 .f32 :=
  Host.dotGeneral (φ₁ := .f32) (φ₂ := .f32) dot_S2x2048x1024_S1024x1408_S2x2048x1408_2_0_01_1_n_n none h w

def daHalf (dy : FVec Ideal S2x2048x1024 .f32) (w : FVec Ideal S1408x1024 .f32) : FVec Ideal S2x2048x1408 .f32 :=
  Host.dotGeneral (φ₁ := .f32) (φ₂ := .f32) dot_S2x2048x1024_S1408x1024_S2x2048x1408_2_1_01_0_n_n none dy w

def sigmaHalf (g : FVec Ideal S2x2048x1408 .f32) : FVec Ideal S2x2048x1408 .f32 :=
  Host.divf (broadcastInDim S2x2048x1408 ![] bcast_S_S2x2048x1408 (constant S_ .f32 0x3F800000#32))
    (addf (broadcastInDim S2x2048x1408 ![] bcast_S_S2x2048x1408 (constant S_ .f32 0x3F800000#32)) (Host.exp (Host.negf g)))

/-- The gradient of the modulated norm through the first half's columns. -/
def dhHalf (g u da : FVec Ideal S2x2048x1408 .f32) (wg wu : FVec Ideal S1024x1408 .f32) : FVec Ideal S2x2048x1024 .f32 :=
  addf (Host.dotGeneral (φ₁ := .f32) (φ₂ := .f32) dot_S2x2048x1408_S1024x1408_S2x2048x1024_2_1_01_0_n_n none
      (mulf (mulf g (sigmaHalf g)) da) wu)
    (Host.dotGeneral (φ₁ := .f32) (φ₂ := .f32) dot_S2x2048x1408_S1024x1408_S2x2048x1024_2_1_01_0_n_n none
      (addf (mulf (mulf da u) (sigmaHalf g)) (mulf (mulf g (mulf da u)) (mulf (sigmaHalf g)
        (subf (broadcastInDim S2x2048x1408 ![] bcast_S_S2x2048x1408 (constant S_ .f32 0x3F800000#32)) (sigmaHalf g))))) wg)

def dhHost (x dres : FVec Ideal S2x2048x1024 .f32) (mod : FVec Ideal S2x3x1024 .f32) (g : FVec Ideal S1024 .f32)
    (w : FVec Ideal S1024x5632 .f32) (wo : FVec Ideal S2816x1024 .f32) : FVec Ideal S2x2048x1024 .f32 :=
  dhHalf (prodHalf (hHost x mod g) (gateLeft w)) (prodHalf (hHost x mod g) (upLeft w)) (daHalf (dyHost mod dres) (outTop wo))
    (gateLeft w) (upLeft w)

theorem prodHalf_apply (h w) (b : Fin 2) (r : Fin 2048) (f : Fin 1408) :
    prodHalf h w (ix3 b r f) = ∑ k : Fin 1024, h (ix3 b r k) * w (ix2 k f) := by
  pointwise [prodHalf]

theorem daHalf_apply (dy w) (b : Fin 2) (r : Fin 2048) (f : Fin 1408) :
    daHalf dy w (ix3 b r f) = ∑ k : Fin 1024, dy (ix3 b r k) * w (ix2 f k) := by
  pointwise [daHalf]

theorem sigmaHalf_apply (g) (j : S2x2048x1408.Idx) : sigmaHalf g j = Ideal.logistic (g j) := by
  refine Eq.trans (b := Ideal.div 1 (1 + Ideal.exp (-g j))) ?_ rfl
  pointwise [sigmaHalf]

theorem dhHalf_apply (g u da wg wu) (b : Fin 2) (r : Fin 2048) (d : Fin 1024) : dhHalf g u da wg wu (ix3 b r d)
    = (∑ f : Fin 1408, upGrad (g (ix3 b r f)) (da (ix3 b r f)) * wu (ix2 d f))
      + ∑ f : Fin 1408, gateGrad (g (ix3 b r f)) (u (ix3 b r f)) (da (ix3 b r f)) * wg (ix2 d f) := by
  simp only [upGrad, gateGrad, ← sigmaHalf_apply]
  pointwise [dhHalf]

theorem dhHost_apply (x dres mod g w wo) (b : Fin 2) (r : Fin 2048) (d : Fin 1024) : dhHost x dres mod g w wo (ix3 b r d)
    = (∑ f : Fin 1408, upTerm (hAt x mod g b r) (dyAt mod dres b r) w wo d ⟨f.val, by omega⟩)
      + ∑ f : Fin 1408, gateTerm (hAt x mod g b r) (dyAt mod dres b r) w wo d ⟨f.val, by omega⟩ := by
  have eg (f : Fin 1408) : prodHalf (hHost x mod g) (gateLeft w) (ix3 b r f) = prodAt (hAt x mod g b r) w ⟨f.val, by omega⟩ :=
    (prodHalf_apply _ _ _ _ _).trans (Fintype.sum_congr _ _ fun k =>
      congrArg₂ (· * ·) (hHost_apply x mod g b r k) (gateLeft_apply w k f))
  have eu (f : Fin 1408) : prodHalf (hHost x mod g) (upLeft w) (ix3 b r f)
      = prodAt (hAt x mod g b r) w ⟨2816 + f.val, by omega⟩ :=
    (prodHalf_apply _ _ _ _ _).trans (Fintype.sum_congr _ _ fun k =>
      congrArg₂ (· * ·) (hHost_apply x mod g b r k) (upLeft_apply w k f))
  have ea (f : Fin 1408) : daHalf (dyHost mod dres) (outTop wo) (ix3 b r f) = daAt (dyAt mod dres b r) wo ⟨f.val, by omega⟩ :=
    (daHalf_apply _ _ _ _ _).trans (Fintype.sum_congr _ _ fun k =>
      congrArg₂ (· * ·) (dyHost_apply mod dres b r k) (outTop_apply wo f k))
  refine (dhHalf_apply _ _ _ _ _ b r d).trans (congrArg₂ (· + ·) ?_ ?_)
  · exact Fintype.sum_congr _ _ fun f => congrArg₂ (· * ·) (congrArg₂ upGrad (eg f) (ea f)) (upLeft_apply w d f)
  · exact Fintype.sum_congr _ _ fun f => congrArg₂ (· * ·) (gateGrad_congr (eg f) (eu f) (ea f)) (gateLeft_apply w d f)

/-- The gates and the upper halves, one above the other. -/
def gates (h : FVec Ideal S2x2048x1024 .f32) (w : FVec Ideal S1024x5632 .f32) : FVec Ideal S2x2x2048x2816 .bf16 :=
  truncf .bf16 (concatenate S2x2x2048x2816 0
    [⟨S1x2x2048x2816, broadcastInDim S1x2x2048x2816 ![1, 2, 3] bcast_S2x2048x2816_S1x2x2048x2816_1_2_3
        (Host.dotGeneral (φ₁ := .f32) (φ₂ := .f32) dot_S2x2048x1024_S1024x2816_S2x2048x2816_2_0_01_1_n_n none h
          (extractStridedSlice S1024x2816 ![0, 0] w slices_S1024x5632_S1024x2816_0_0))⟩,
     ⟨S1x2x2048x2816, broadcastInDim S1x2x2048x2816 ![1, 2, 3] bcast_S2x2048x2816_S1x2x2048x2816_1_2_3
        (Host.dotGeneral (φ₁ := .f32) (φ₂ := .f32) dot_S2x2048x1024_S1024x2816_S2x2048x2816_2_0_01_1_n_n none h
          (extractStridedSlice S1024x2816 ![0, 2816] w slices_S1024x5632_S1024x2816_0_2816))⟩]
    concatenates_S1x2x2048x2816_S1x2x2048x2816_S2x2x2048x2816_d0) bitsLt_bf16_f32

theorem gates_apply_0 (h w) (b : Fin 2) (r : Fin 2048) (f : Fin 2816) :
    gates h w (ix4 0 b r f) = ∑ k : Fin 1024, h (ix3 b r k) * w (ix2 k ⟨f.val, by omega⟩) := by
  pointwise [gates]

theorem gates_apply_1 (h w) (b : Fin 2) (r : Fin 2048) (f : Fin 2816) :
    gates h w (ix4 1 b r f) = ∑ k : Fin 1024, h (ix3 b r k) * w (ix2 k ⟨2816 + f.val, by omega⟩) := by
  pointwise [gates]

/-- The first weights in the version's layout: the column blocks one after another. -/
def blocks (w : FVec Ideal S1024x5632 .f32) : FVec Ideal S2x2x1024x1408 .bf16 :=
  shapeCast _ (truncf .bf16 (transpose S4x1024x1408 [1, 0, 2] (shapeCast S1024x4x1408 w shapeCasts_S1024x5632_S1024x4x1408)
    transposes_S1024x4x1408_S4x1024x1408_1_0_2) bitsLt_bf16_f32) shapeCasts_S4x1024x1408_S2x2x1024x1408

theorem blocks_apply (w) (j : S2x2x1024x1408.Idx) (h : ((j 0).val * 2 + (j 1).val) * 1408 + (j 3).val < 5632) :
    blocks w j = w (ix2 (j 2) ⟨((j 0).val * 2 + (j 1).val) * 1408 + (j 3).val, h⟩) := by
  pointwise [blocks]

/-- The closing weights in the version's layout: two row blocks. -/
def rows (w : FVec Ideal S2816x1024 .f32) : FVec Ideal S2x1408x1024 .bf16 :=
  shapeCast _ (truncf .bf16 (shapeCast S4x704x1024 w shapeCasts_S2816x1024_S4x704x1024) bitsLt_bf16_f32)
    shapeCasts_S4x704x1024_S2x1408x1024

theorem rows_apply (w) (j : S2x1408x1024.Idx) (h : (j 0).val * 1408 + (j 1).val < 2816) :
    rows w j = w (ix2 ⟨(j 0).val * 1408 + (j 1).val, h⟩ (j 2)) := by
  pointwise [rows]
  refine congrArg (fun i => w (ix2 i (j 2))) (Fin.ext ?_)
  show ((j 0).val * 2 + (j 1).val / 704) * 704 + (j 1).val % 704 = (j 0).val * 1408 + (j 1).val
  omega

/-- The gain as a row. -/
def gainRow (g : FVec Ideal S1024 .f32) : FVec Ideal S1x1024 .f32 := shapeCast _ g shapeCasts_S1024_S1x1024

theorem gainRow_apply (g) (d : Fin 1024) : gainRow g (ix2 0 d) = g (ix1 d) := by
  pointwise [gainRow]

theorem entry_dy (c : Dev nD) : V m c main_v60 = truncf (φ := .f32) .bf16 (dyHost (aMod m c) (aRes m c)) bitsLt_bf16_f32 := by
  entry_read
  rfl

theorem entry_dh (c : Dev nD) : V m c main_v46 = dhHost (aX m c) (aRes m c) (aMod m c) (aG m c) (aIn m c) (aOut m c) := by
  entry_read
  rfl

theorem entry_gates (c : Dev nD) : V m c main_v50 = gates (hHost (aX m c) (aMod m c) (aG m c)) (aIn m c) := by
  entry_read
  rfl

theorem entry_gain (c : Dev nD) : V m c main_v61 = gainRow (aG m c) := by
  entry_read
  rfl

theorem entry_blocks (c : Dev nD) : V m c main_v62 = blocks (aIn m c) := by
  entry_read
  rfl

theorem entry_rows (c : Dev nD) : V m c main_v63 = rows (aOut m c) := by
  entry_read
  rfl

/-! ### The payloads -/

theorem gate_apply (x : Vec Ideal S1x1x256x1408 .bf16) (r : Fin 256) (f : Fin 1408) : k0_pay7 x (ix2 r f) = x (ix4 0 0 r f) := by
  pointwise [k0_pay7]

theorem up_apply (x : Vec Ideal S1x1x256x1408 .bf16) (r : Fin 256) (f : Fin 1408) : k0_pay8 x (ix2 r f) = x (ix4 0 0 r f) := by
  pointwise [k0_pay8]

theorem da_apply (dy : Vec Ideal S1x256x1024 .bf16) (w : Vec Ideal S1x1408x1024 .bf16) (r : Fin 256) (f : Fin 1408) :
    k0_pay12 dy w (ix2 r f) = ∑ k : Fin 1024, dy (ix3 0 r k) * w (ix3 0 f k) := by
  pointwise [k0_pay12]

theorem dup_apply (dy : Vec Ideal S1x256x1024 .bf16) (x : Vec Ideal S1x1x256x1408 .bf16) (w : Vec Ideal S1x1408x1024 .bf16)
    (j : S256x1408.Idx) : k0_pay13 dy x w j = k0_pay12 dy w j * (k0_pay7 x j * Ideal.logistic (k0_pay7 x j)) := by
  pointwise [k0_pay13, k0_pay10, k0_pay9]

theorem dgt_apply (dy : Vec Ideal S1x256x1024 .bf16) (x u : Vec Ideal S1x1x256x1408 .bf16) (w : Vec Ideal S1x1408x1024 .bf16)
    (j : S256x1408.Idx) : k0_pay16 (k0_pay9 x) (k0_pay14 dy u w) (k0_pay15 x) j = k0_pay12 dy w j * k0_pay8 u j
      * (Ideal.logistic (k0_pay7 x j) * (1 + k0_pay7 x j * (1 - Ideal.logistic (k0_pay7 x j)))) := by
  pointwise [k0_pay16, k0_pay15, k0_pay14, k0_pay9]

theorem dh_apply (x : Vec Ideal S1x256x1024 .f32) (s du : FVec Ideal S256x1408 .f32) (dup : FVec Ideal S256x1408 .bf16)
    (p : FVec Ideal S256x1408 .f32) (wg wu : Vec Ideal S1x1x1024x1408 .bf16) (r : Fin 256) (d : Fin 1024) :
    k0_pay19 (k0_pay6 x) s dup du p wg wu (ix2 r d)
      = x (ix3 0 r d) + ((∑ k : Fin 1408, k0_pay16 s du p (ix2 r k) * wg (ix4 0 0 d k))
        + ∑ k : Fin 1408, dup (ix2 r k) * wu (ix4 0 0 d k)) := by
  pointwise [k0_pay19, k0_pay6]

/-- A row of a token block. -/
abbrev rowBlk (x : Vec Ideal S1x256x1024 .f32) (r : Fin 256) : Fin 1024 → EReal := fun k => x (ix3 0 r k)

theorem dx_apply (dh : FVec Ideal S256x1024 .f32) (x : Vec Ideal S1x256x1024 .f32) (g : Vec Ideal S1x1024 .f32)
    (sc : Vec Ideal S1x1x1024 .f32) (q : Vec Ideal S1x256x1024 .f32) (r : Fin 256) (d : Fin 1024) :
    k0_pay30 dh (k0_pay20 x) (k0_pay21 g) (k0_pay22 sc) (k0_pay23 x) k0_pay24 q (ix3 0 r d)
      = rowKernel (rowBlk x r) (fun k => dh (ix2 r k) * (1 + sc (ix3 0 0 k)) * g (ix2 0 k)) (q (ix3 0 r d)) d := by
  unfold rowKernel ms
  pointwise [k0_pay30, k0_pay28, k0_pay26, k0_pay25, k0_pay24, k0_pay23, k0_pay22, k0_pay21, k0_pay20]

theorem zeroMod_apply (j : S1x3x1024.Idx) : k0_pay4 (F := Ideal) j = 0 := by
  pointwise! [k0_pay4]

theorem zeroGain_apply (j : S1x1x1024.Idx) : k0_pay5 (F := Ideal) j = 0 := by
  pointwise! [k0_pay5]

/-- What one token block adds to the gradients of the shift, of the scale and of the gain. -/
def shiftPart (dh : FVec Ideal S256x1024 .f32) (d : Fin 1024) : EReal := ∑ r : Fin 256, dh (ix2 r d)

def scalePart (dh : FVec Ideal S256x1024 .f32) (x : Vec Ideal S1x256x1024 .f32) (g : Vec Ideal S1x1024 .f32) (d : Fin 1024) :
    EReal := ∑ r : Fin 256, dh (ix2 r d) * (x (ix3 0 r d) * Ideal.rsqrt (ms (rowBlk x r)) * g (ix2 0 d))

def gainPart (dh : FVec Ideal S256x1024 .f32) (x : Vec Ideal S1x256x1024 .f32) (sc : Vec Ideal S1x1x1024 .f32) (d : Fin 1024) :
    EReal := ∑ r : Fin 256, dh (ix2 r d) * (1 + sc (ix3 0 0 d)) * (x (ix3 0 r d) * Ideal.rsqrt (ms (rowBlk x r)))

theorem shift_apply (dh : FVec Ideal S256x1024 .f32) (acc : Vec Ideal S1x1x1024 .f32) (d : Fin 1024) :
    k0_pay1 (k0_pay31 dh acc) (ix3 0 0 d) = acc (ix3 0 0 d) + shiftPart dh d := by
  unfold shiftPart
  pointwise [k0_pay1, k0_pay31]

theorem scale_apply (dh : FVec Ideal S256x1024 .f32) (x : Vec Ideal S1x256x1024 .f32) (g : Vec Ideal S1x1024 .f32)
    (acc : Vec Ideal S1x1x1024 .f32) (d : Fin 1024) :
    k0_pay2 (k0_pay27 dh (k0_pay20 x) (k0_pay21 g) (k0_pay23 x) k0_pay24) acc (ix3 0 0 d)
      = acc (ix3 0 0 d) + scalePart dh x g d := by
  unfold scalePart ms
  pointwise [k0_pay2, k0_pay27, k0_pay26, k0_pay25, k0_pay24, k0_pay23, k0_pay21, k0_pay20]

theorem gain_apply (dh : FVec Ideal S256x1024 .f32) (x : Vec Ideal S1x256x1024 .f32) (sc acc : Vec Ideal S1x1x1024 .f32)
    (d : Fin 1024) : k0_pay3 (k0_pay29 dh (k0_pay20 x) (k0_pay22 sc) (k0_pay23 x) k0_pay24) acc (ix3 0 0 d)
      = acc (ix3 0 0 d) + gainPart dh x sc d := by
  unfold gainPart ms
  pointwise [k0_pay3, k0_pay29, k0_pay28, k0_pay26, k0_pay25, k0_pay24, k0_pay23, k0_pay22, k0_pay20]

/-! ### The blocks at the arrays' indices -/

/-- The loads of one block out of a window. -/
abbrev ldScale (c : Dev nD) (t : Fin cfg0.N) : Vec Ideal S1x1x1024 .f32 :=
  View.ld (iblk m c 5 t) (Rect.unit ![0, 1, 0] ![1, 1, 1024] inb_S1x3x1024_S1x1x1024_0_1_0)
abbrev ldGate (c : Dev nD) (t : Fin cfg0.N) : Vec Ideal S1x1x256x1408 .bf16 :=
  View.ld (iblk m c 4 t) (Rect.unit ![0, 0, 0, 0] ![1, 1, 256, 1408] inb_S2x1x256x1408_S1x1x256x1408_0_0_0_0)
abbrev ldUp (c : Dev nD) (t : Fin cfg0.N) : Vec Ideal S1x1x256x1408 .bf16 :=
  View.ld (iblk m c 4 t) (Rect.unit ![1, 0, 0, 0] ![1, 1, 256, 1408] inb_S2x1x256x1408_S1x1x256x1408_1_0_0_0)
abbrev ldIn0 (c : Dev nD) (t : Fin cfg0.N) : Vec Ideal S1x1x1024x1408 .bf16 :=
  View.ld (iblk m c 7 t) (Rect.unit ![0, 0, 0, 0] ![1, 1, 1024, 1408] inb_S2x1x1024x1408_S1x1x1024x1408_0_0_0_0)
abbrev ldIn1 (c : Dev nD) (t : Fin cfg0.N) : Vec Ideal S1x1x1024x1408 .bf16 :=
  View.ld (iblk m c 7 t) (Rect.unit ![1, 0, 0, 0] ![1, 1, 1024, 1408] inb_S2x1x1024x1408_S1x1x1024x1408_1_0_0_0)

/-- Where the loads stand. -/
theorem stand_row (i : Fin 3) (inb) (d : Fin 1024) :
    (Rect.unit (s := S1x3x1024) ![0, i.val, 0] ![1, 1, 1024] inb).idx (ix3 0 0 d) = ix3 0 i d := by
  ext a
  fin_cases a <;> simp

theorem stand_half (i : Fin 2) (inb) (r : Fin 256) (f : Fin 1408) :
    (Rect.unit (s := S2x1x256x1408) ![i.val, 0, 0, 0] ![1, 1, 256, 1408] inb).idx (ix4 0 0 r f) = ix4 i 0 r f := by
  ext a
  fin_cases a <;> simp

theorem stand_in (i : Fin 2) (inb) (k : Fin 1024) (f : Fin 1408) :
    (Rect.unit (s := S2x1x1024x1408) ![i.val, 0, 0, 0] ![1, 1, 1024, 1408] inb).idx (ix4 0 0 k f) = ix4 i 0 k f := by
  ext a
  fin_cases a <;> simp

theorem window_gates (c : Dev nD) (t : Fin cfg0.N) (i : Fin 2) (r : Fin 256) (f : Fin 1408) : iblk m c 4 t (ix4 i 0 r f)
    = gates (hHost (aX m c) (aMod m c) (aG m c)) (aIn m c) (ix4 i (seq t) (row t r) ⟨1408 + f.val, by omega⟩) := by
  blk_simp [iblk, place t]
  rw [entry_gates]
  exact congrArg (gates (hHost (aX m c) (aMod m c) (aG m c)) (aIn m c)) (by blk_ext [place t])

/-- The activations of a grid point's row, and the gradient of its inner result. -/
abbrev hRow (c : Dev nD) (t : Fin cfg0.N) (r : Fin 256) : Fin 1024 → EReal := hAt (aX m c) (aMod m c) (aG m c) (seq t) (row t r)
abbrev dyRow (c : Dev nD) (t : Fin cfg0.N) (r : Fin 256) : Fin 1024 → EReal := dyAt (aMod m c) (aRes m c) (seq t) (row t r)

theorem read_gate (c : Dev nD) (t : Fin cfg0.N) (r : Fin 256) (f : Fin 1408) :
    ldGate m c t (ix4 0 0 r f) = prodAt (hRow m c t r) (aIn m c) ⟨1408 + f.val, by omega⟩ := by
  refine (congrArg (iblk m c 4 t) (stand_half 0 _ r f)).trans ((window_gates m c t 0 r f).trans ?_)
  exact (gates_apply_0 _ _ _ _ _).trans (Fintype.sum_congr _ _ fun k => congrArg (· * _) (hHost_apply _ _ _ _ _ k))

theorem read_up (c : Dev nD) (t : Fin cfg0.N) (r : Fin 256) (f : Fin 1408) :
    ldUp m c t (ix4 0 0 r f) = prodAt (hRow m c t r) (aIn m c) ⟨2816 + (1408 + f.val), by omega⟩ := by
  refine (congrArg (iblk m c 4 t) (stand_half 1 _ r f)).trans ((window_gates m c t 1 r f).trans ?_)
  exact (gates_apply_1 _ _ _ _ _).trans (Fintype.sum_congr _ _ fun k => congrArg (· * _) (hHost_apply _ _ _ _ _ k))

theorem window_blocks (c : Dev nD) (t : Fin cfg0.N) (i : Fin 2) (k : Fin 1024) (f : Fin 1408) :
    iblk m c 7 t (ix4 i 0 k f) = aIn m c (ix2 k ⟨i.val * 2816 + (1408 + f.val), by omega⟩) := by
  blk_simp [iblk, place t]
  rw [entry_blocks]
  refine (blocks_apply _ _ ?_).trans ?_
  · blk_simp [place t]
    idx_bounds
    omega
  · blk_ext [place t]

theorem read_in0 (c : Dev nD) (t : Fin cfg0.N) (k : Fin 1024) (f : Fin 1408) :
    ldIn0 m c t (ix4 0 0 k f) = aIn m c (ix2 k ⟨1408 + f.val, by omega⟩) := by
  refine (congrArg (iblk m c 7 t) (stand_in 0 _ k f)).trans ((window_blocks m c t 0 k f).trans ?_)
  blk_ext

theorem read_in1 (c : Dev nD) (t : Fin cfg0.N) (k : Fin 1024) (f : Fin 1408) :
    ldIn1 m c t (ix4 0 0 k f) = aIn m c (ix2 k ⟨2816 + (1408 + f.val), by omega⟩) := by
  refine (congrArg (iblk m c 7 t) (stand_in 1 _ k f)).trans ((window_blocks m c t 1 k f).trans ?_)
  blk_ext

theorem read_out (c : Dev nD) (t : Fin cfg0.N) (k : Fin 1408) (d : Fin 1024) :
    iblk m c 8 t (ix3 0 k d) = aOut m c (ix2 ⟨1408 + k.val, by omega⟩ d) := by
  blk_simp [iblk, place t]
  rw [entry_rows]
  refine (rows_apply _ _ ?_).trans ?_
  · blk_simp [place t]
    idx_bounds
    omega
  · blk_ext [place t]

theorem read_x (c : Dev nD) (t : Fin cfg0.N) (r : Fin 256) (d : Fin 1024) :
    iblk m c 0 t (ix3 0 r d) = aX m c (ix3 (seq t) (row t r) d) := by
  blk_point [iblk, V, place t]

theorem read_res (c : Dev nD) (t : Fin cfg0.N) (r : Fin 256) (d : Fin 1024) :
    iblk m c 1 t (ix3 0 r d) = aRes m c (ix3 (seq t) (row t r) d) := by
  blk_point [iblk, V, place t]

theorem read_dy (c : Dev nD) (t : Fin cfg0.N) (r : Fin 256) (d : Fin 1024) : iblk m c 2 t (ix3 0 r d) = dyRow m c t r d := by
  refine Eq.trans ?_ (dyHost_apply _ _ _ _ _)
  blk_simp [iblk, place t]
  rw [entry_dy]
  exact congrArg (dyHost (aMod m c) (aRes m c)) (by blk_ext [place t])

theorem read_dh (c : Dev nD) (t : Fin cfg0.N) (r : Fin 256) (d : Fin 1024) : iblk m c 3 t (ix3 0 r d)
    = dhHost (aX m c) (aRes m c) (aMod m c) (aG m c) (aIn m c) (aOut m c) (ix3 (seq t) (row t r) d) := by
  blk_simp [iblk, place t]
  rw [entry_dh]
  exact congrArg (dhHost (aX m c) (aRes m c) (aMod m c) (aG m c) (aIn m c) (aOut m c)) (by blk_ext [place t])

theorem read_gain (c : Dev nD) (t : Fin cfg0.N) (d : Fin 1024) : iblk m c 6 t (ix2 0 d) = aG m c (ix1 d) := by
  refine Eq.trans ?_ (gainRow_apply (aG m c) d)
  blk_simp [iblk, place t]
  rw [entry_gain]
  exact congrArg (gainRow (aG m c)) (by blk_ext [place t])

theorem read_scale (c : Dev nD) (t : Fin cfg0.N) (d : Fin 1024) : ldScale m c t (ix3 0 0 d) = aMod m c (ix3 (seq t) 1 d) := by
  refine (congrArg (iblk m c 5 t) (stand_row 1 _ d)).trans ?_
  blk_point [iblk, V, place t]

end Cert.BwdBIdeal.Whole
-- ==== Proof.BwdBStores.lean ====
/- The block of the modulation's gradient has three rows, of which a grid point stores two, each on its own: what the block
   holds after such stores, row by row. -/
module

public import proofs.«01_k».proof.Proof.BwdBPoints
public import Idealize.ShloMosaic.Lib.WritesUnit

@[expose] public section

set_option maxRecDepth 16384

noncomputable section

open Idealize.ShloMosaic Idealize.ShloMosaic.TcCoe

namespace Cert.BwdBIdeal.Whole

open Cert.BwdBIdeal Cert.BwdBIdeal.Gen

/-- Row `i` lies inside the window. -/
abbrev OneRow (i : Fin 3) : Prop :=
  ∀ a, (![0, i.val, 0] : Fin 3 → ℕ) a + (![1, 1, 1024] : Fin 3 → ℕ) a ≤ S1x3x1024.size a

/-- A store of one row of the window. -/
abbrev rowStore (i : Fin 3) (inb : OneRow i)
    (w : Vec Ideal S1x1x1024 .f32) : View.Piece (Elt Ideal) S1x3x1024 .f32 :=
  ⟨Rect.unit (s := S1x3x1024) ![0, i.val, 0] ![1, 1, 1024] inb, w⟩

abbrev zeroStore : View.Piece (Elt Ideal) S1x3x1024 .f32 :=
  ⟨Rect.unit (s := S1x3x1024) ![0, 0, 0] ![1, 3, 1024] inb_S1x3x1024_S1x3x1024_0_0_0, k0_pay4 (F := Ideal)⟩

theorem canon_cons_at {s : Shape} {e : EltTy} (r : Rect s) (w : r.shape.Idx → Elt Ideal e)
    (L : List (View.Piece (Elt Ideal) s e)) {x : r.shape.Idx} {y : s.Idx} (h : r.idx x = y) :
    View.canon (⟨r, w⟩ :: L) y = w x := by
  subst h
  exact View.canon_cons_emb r w L x

variable (L : List (View.Piece (Elt Ideal) S1x3x1024 .f32)) (d : Fin 1024)

theorem canon_row (i : Fin 3) (inb : OneRow i) (w : Vec Ideal S1x1x1024 .f32) :
    View.canon (rowStore i inb w :: L) (ix3 0 i d) = w (ix3 0 0 d) := by
  exact canon_cons_at (Rect.unit (s := S1x3x1024) ![0, i.val, 0] ![1, 1, 1024] inb) w L (stand_row i inb d)

theorem canon_other (i i' : Fin 3) (hne : i ≠ i') (inb : OneRow i') (w : Vec Ideal S1x1x1024 .f32) :
    View.canon (rowStore i' inb w :: L) (ix3 0 i d) = View.canon L (ix3 0 i d) := by
  refine View.canon_cons_of_not_mem _ L fun hm => ?_
  obtain ⟨k, hk, he⟩ := (LoadRect.mem_set _).mp hm (1 : Fin 3)
  have hk1 : k < 1 := hk
  have he' : i.val = i'.val + 1 * k := he
  omega

theorem canon_zero (j : S1x3x1024.Idx) : View.canon [zeroStore] j = 0 :=
  (congrFun (View.canon_cons_unit_lit (S := S1x3x1024) inb_S1x3x1024_S1x3x1024_0_0_0 _ _ (by decide)) j).trans (zeroMod_apply j)

theorem cover (ps : List (View.Piece (Elt Ideal) S1x3x1024 .f32)) (h : zeroStore ∈ ps) (y : S1x3x1024.Idx) :
    ∃ p ∈ ps, y ∈ p.1.set := by
  refine ⟨_, h, (LoadRect.mem_set _).mpr fun a => ⟨(y a).val, ?_, ?_⟩⟩
  · exact lt_of_lt_of_eq (y a).isLt (by fin_cases a <;> rfl)
  · fin_cases a <;> simp

variable (v : View sig .tc .vmem S1x3x1024 .f32)

theorem load_zero (i : Fin 3) (inb : OneRow i) : v.readCov [zeroStore] (Rect.unit (s := S1x3x1024) ![0, i.val, 0] ![1, 1, 1024] inb).toLoadRect
    (ix3 0 0 d) = 0 :=
  (congrFun (View.readCov_eq_canon_ld v _ _ (cover _ List.mem_cons_self)) _).trans (canon_zero _)

theorem load_next (i i' : Fin 3) (hne : i ≠ i') (inb : OneRow i) (inb' : OneRow i')
    (w : Vec Ideal S1x1x1024 .f32) : v.readCov [rowStore i' inb' w, zeroStore]
    (Rect.unit (s := S1x3x1024) ![0, i.val, 0] ![1, 1, 1024] inb).toLoadRect (ix3 0 0 d) = 0 :=
  (congrFun (View.readCov_eq_canon_ld v _ _ (cover _ (List.mem_cons_of_mem _ List.mem_cons_self))) _).trans
    ((congrArg (View.canon [rowStore i' inb' w, zeroStore]) (stand_row i inb d)).trans
      ((canon_other _ d i i' hne inb' w).trans (canon_zero _)))

variable (f : v.ty.Contents (Elt Ideal))

theorem left_row (i : Fin 3) (inb : OneRow i) (w : Vec Ideal S1x1x1024 .f32) :
    v.read (Elt Ideal) (v.writes (Elt Ideal) f (rowStore i inb w :: L)) (ix3 0 i d) = w (ix3 0 0 d) :=
  View.read_writes_cons_unit_of_mem v f inb w L (ix3 0 i d) (ix3 0 0 d) rfl (fun a => by fin_cases a <;> simp)

theorem left_other (i i' : Fin 3) (hne : i.val < i'.val ∨ i'.val + 1 ≤ i.val) (inb : OneRow i')
    (w : Vec Ideal S1x1x1024 .f32) :
    v.read (Elt Ideal) (v.writes (Elt Ideal) f (rowStore i' inb w :: L)) (ix3 0 i d)
      = v.read (Elt Ideal) (v.writes (Elt Ideal) f L) (ix3 0 i d) :=
  View.read_writes_cons_unit_of_not_mem v f inb w L (ix3 0 i d) rfl (a := (1 : Fin 3)) hne

end Cert.BwdBIdeal.Whole
-- ==== Proof.BwdBValue.lean ====
/- The backward pass of the feed-forward block's second half and of its norm: the call adds the second half's columns to
   the gradient of the modulated norm, takes that gradient through the norm to the block's input, and sums over each
   sequence's tokens the gradients of the modulation's rows and of the gain. -/
module

public import proofs.«01_k».proof.Proof.Gen.Pre_finite_bb
public import proofs.«01_k».proof.Proof.BwdBStores
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.BwdBRefIdeal.Whole Cert.Reals Cert.BackNorm

namespace Cert.BwdBIdeal.Whole

open Cert.BwdBIdeal Cert.BwdBIdeal.Gen

variable (m : (ℓ : Loc nD τ sig) → Buf (Elt Ideal) ℓ)

/-- The gradient of the modulated norm, of a grid point's token block and of the whole array. -/
abbrev dhBlk (c : Dev nD) (t : Fin cfg0.N) : FVec Ideal S256x1024 .f32 :=
  k0_pay19 (k0_pay6 (iblk m c 3 t)) (k0_pay9 (ldGate m c t)) (k0_pay13 (iblk m c 2 t) (ldGate m c t) (iblk m c 8 t))
    (k0_pay14 (iblk m c 2 t) (ldUp m c t) (iblk m c 8 t)) (k0_pay15 (ldGate m c t)) (ldIn0 m c t) (ldIn1 m c t)

abbrev dhArr (c : Dev nD) : FVec Ideal S2x2048x1024 .f32 :=
  dhAll (aX m c) (aRes m c) (aMod m c) (aG m c) (aIn m c) (aOut m c)

/-- The arguments the precondition speaks of are real numbers. -/
structure Finite (c : Dev nD) : Prop where
  x : ∀ i, IsReal (aX m c i)
  res : ∀ i, IsReal (aRes m c i)
  mod : ∀ i, IsReal (aMod m c i)
  gain : ∀ i, IsReal (aG m c i)
  win : ∀ i, IsReal (aIn m c i)
  out : ∀ i, IsReal (aOut m c i)

theorem gate_point (c : Dev nD) (t : Fin cfg0.N) (r : Fin 256) (f : Fin 1408) :
    k0_pay7 (ldGate m c t) (ix2 r f) = prodAt (hRow m c t r) (aIn m c) ⟨1408 + f.val, by omega⟩ :=
  (gate_apply _ _ _).trans (read_gate m c t r f)

theorem up_point (c : Dev nD) (t : Fin cfg0.N) (r : Fin 256) (f : Fin 1408) :
    k0_pay8 (ldUp m c t) (ix2 r f) = prodAt (hRow m c t r) (aIn m c) ⟨2816 + (1408 + f.val), by omega⟩ :=
  (up_apply _ _ _).trans (read_up m c t r f)

theorem da_point (c : Dev nD) (t : Fin cfg0.N) (r : Fin 256) (f : Fin 1408) :
    k0_pay12 (iblk m c 2 t) (iblk m c 8 t) (ix2 r f) = daAt (dyRow m c t r) (aOut m c) ⟨1408 + f.val, by omega⟩ :=
  (da_apply _ _ _ _).trans (Fintype.sum_congr _ _ fun k => congrArg₂ (· * ·) (read_dy m c t r k) (read_out m c t f k))

/-- One column's term of the upper half. -/
theorem up_term (c : Dev nD) (t : Fin cfg0.N) (r : Fin 256) (d : Fin 1024) (f : Fin 1408) :
    k0_pay13 (iblk m c 2 t) (ldGate m c t) (iblk m c 8 t) (ix2 r f) * ldIn1 m c t (ix4 0 0 d f)
      = upTerm (hRow m c t r) (dyRow m c t r) (aIn m c) (aOut m c) d ⟨1408 + f.val, by omega⟩ := by
  refine congrArg₂ (· * ·) ((dup_apply _ _ _ _).trans ((mul_comm _ _).trans ?_)) (read_in1 m c t d f)
  exact congrArg₂ (· * ·) (congrArg (fun x : EReal => x * Ideal.logistic x) (gate_point m c t r f)) (da_point m c t r f)

section real

variable {m} {c : Dev nD} (hr : Finite m c)
include hr

theorem real_ms (b : Fin 2) (r : Fin 2048) : IsReal (Ideal.rsqrt (ms (rowAt (aX m c) b r))) := by
  choose a ha using fun k => hr.x (ix3 b r k)
  obtain ⟨v, hv, e⟩ := ms_coe a
  obtain ⟨s, hs, _⟩ := rsqrt_coe_pos hv
  exact ⟨s, (congrArg (fun u => Ideal.rsqrt (ms u)) (funext ha)).trans ((congrArg Ideal.rsqrt e).trans hs)⟩

theorem real_h (b : Fin 2) (r : Fin 2048) (k : Fin 1024) : IsReal (hAt (aX m c) (aMod m c) (aG m c) b r k) :=
  (((((hr.x _).mul (real_ms hr b r)).mul (hr.gain _)).mul (isReal_one.add (hr.mod _)))).add (hr.mod _)

theorem real_dy (b : Fin 2) (r : Fin 2048) (k : Fin 1024) : IsReal (dyAt (aMod m c) (aRes m c) b r k) := by
  unfold dyAt
  rw [half_f32]
  exact (IsReal.mul ⟨_, rfl⟩ (isReal_one.add (hr.mod _))).mul (hr.res _)

theorem real_prod (b : Fin 2) (r : Fin 2048) (f : Fin 5632) :
    IsReal (prodAt (hAt (aX m c) (aMod m c) (aG m c) b r) (aIn m c) f) :=
  IsReal.sum _ _ fun k => (real_h hr b r k).mul (hr.win _)

theorem real_da (b : Fin 2) (r : Fin 2048) (f : Fin 2816) : IsReal (daAt (dyAt (aMod m c) (aRes m c) b r) (aOut m c) f) :=
  IsReal.sum _ _ fun k => (real_dy hr b r k).mul (hr.out _)

/-- One column's term of the gate: the factored form of the kernel is the two-term form of the reference. -/
theorem gate_term (t : Fin cfg0.N) (r : Fin 256) (d : Fin 1024) (f : Fin 1408) :
    k0_pay16 (k0_pay9 (ldGate m c t)) (k0_pay14 (iblk m c 2 t) (ldUp m c t) (iblk m c 8 t)) (k0_pay15 (ldGate m c t)) (ix2 r f)
        * ldIn0 m c t (ix4 0 0 d f)
      = gateTerm (hRow m c t r) (dyRow m c t r) (aIn m c) (aOut m c) d ⟨1408 + f.val, by omega⟩ :=
  congrArg₂ (· * ·) ((dgt_apply _ _ _ _ _).trans (gate_chain (da_point m c t r f) (gate_point m c t r f) (up_point m c t r f)
    (real_da hr _ _ _) (real_prod hr _ _ _) (real_prod hr _ _ _))) (read_in0 m c t d f)

/-- The gradient of the modulated norm: the first half from the argument, the second half from the block's columns. -/
theorem dh_point (t : Fin cfg0.N) (r : Fin 256) (d : Fin 1024) :
    dhBlk m c t (ix2 r d) = dhArr m c (ix3 (seq t) (row t r) d) := by
  refine (dh_apply _ _ _ _ _ _ _ _ _).trans (Eq.trans ?_ ((halves _ _).trans (dhAll_apply _ _ _ _ _ _ _ _ _).symm))
  exact congrArg₂ (· + ·) ((read_dh m c t r d).trans (dhHost_apply _ _ _ _ _ _ _ _ _)) (congrArg₂ (· + ·)
    (Fintype.sum_congr _ _ fun f => gate_term hr t r d f) (Fintype.sum_congr _ _ fun f => up_term m c t r d f))

theorem real_dh (b : Fin 2) (r : Fin 2048) (d : Fin 1024) : IsReal (dhArr m c (ix3 b r d)) := by
  refine (congrArg IsReal (dhAll_apply _ _ _ _ _ _ b r d)).mpr ((IsReal.sum _ _ fun f => ?_).add (IsReal.sum _ _ fun f => ?_))
  · exact (((real_prod hr b r _).mul (real_prod hr b r _).logistic).mul (real_da hr b r _)).mul (hr.win _)
  · have hg := real_prod hr b r ⟨f.val, by omega⟩
    have hu := (real_da hr b r f).mul (real_prod hr b r ⟨2816 + f.val, by omega⟩)
    exact ((hu.mul hg.logistic).add ((hg.mul hu).mul (hg.logistic.mul (isReal_one.sub hg.logistic)))).mul (hr.win _)

theorem row_point (t : Fin cfg0.N) (r : Fin 256) (d : Fin 1024) :
    rowKernel (rowBlk (iblk m c 0 t) r)
        (fun k => dhBlk m c t (ix2 r k) * (1 + ldScale m c t (ix3 0 0 k)) * iblk m c 6 t (ix2 0 k)) (iblk m c 1 t (ix3 0 r d)) d
      = dxOf (aX m c) (aRes m c) (dnOf (aMod m c) (aG m c) (dhArr m c)) (ix3 (seq t) (row t r) d) := by
  have e1 : rowBlk (iblk m c 0 t) r = rowAt (aX m c) (seq t) (row t r) := funext fun k => read_x m c t r k
  have e2 : (fun k => dhBlk m c t (ix2 r k) * (1 + ldScale m c t (ix3 0 0 k)) * iblk m c 6 t (ix2 0 k))
      = dnAt (aMod m c) (aG m c) (dhArr m c) (seq t) (row t r) := funext fun k =>
    congrArg₂ (· * ·) (congrArg₂ (· * ·) (dh_point hr t r k) (congrArg (1 + ·) (read_scale m c t k))) (read_gain m c t k)
  refine Eq.trans ?_ ((row_eq (fun k => hr.x _) (fun k => ((real_dh hr _ _ _).mul (isReal_one.add (hr.mod _))).mul (hr.gain _))
    (hr.res _) d).trans (dxOf_apply _ _ _ _ _ _ _ _).symm)
  exact (congrArg (fun u => rowKernel u _ _ d) e1).trans ((congrArg (fun v => rowKernel _ v _ d) e2).trans
    (congrArg (fun q => rowKernel _ _ q d) (read_res m c t r d)))

theorem final_dx : (dats m 0 c).arrAt 9 (cfgs 0).N = dxOf (aX m c) (aRes m c) (dnOf (aMod m c) (aG m c) (dhArr m c)) := by
  refine (dats m 0 c).arrAt_eq_of_covers 9 _ (by decide +kernel) fun t hf y => ?_
  blk_simp
  rw [after0_9]
  obtain ⟨r, d, rfl⟩ : ∃ (r : Fin 256) (d : Fin 1024), y = ix3 0 r d := ⟨y 1, y 2, by blk_ext⟩
  have e : (win0_9.blk t).view.emb (ix3 0 r d) = ix3 (seq t) (row t r) d := by blk_ext [place t]
  refine Eq.trans ?_ ((row_point hr t r d).trans (congrArg _ e).symm)
  by_cases h : t.val % 8 = 0
  · rw [outsAt0_A m c t h]
    dsimp only
    frame_out
    exact dx_apply _ _ _ _ _ _ _
  · rw [outsAt0_B m c t h]
    dsimp only
    frame_out
    exact dx_apply _ _ _ _ _ _ _

/-- One token of a block: its share of the gradient of the gain. -/
theorem gain_share (t : Fin cfg0.N) (r : Fin 256) (d : Fin 1024) (b : Fin 2) (k : Fin 2048) (hb : t.val / 8 = b.val)
    (hk : t.val % 8 * 256 + r.val = k.val) :
    dhBlk m c t (ix2 r d) * (1 + ldScale m c t (ix3 0 0 d)) * (rowBlk (iblk m c 0 t) r d * Ideal.rsqrt (ms (rowBlk (iblk m c 0 t) r)))
      = aX m c (ix3 b k d) * Ideal.rsqrt (ms (rowAt (aX m c) b k)) * (dhArr m c (ix3 b k d) * (1 + aMod m c (ix3 b 1 d))) := by
  obtain rfl : seq t = b := Fin.ext hb
  obtain rfl : row t r = k := Fin.ext hk
  have e1 : rowBlk (iblk m c 0 t) r = rowAt (aX m c) (seq t) (row t r) := funext fun k => read_x m c t r k
  refine (mul_comm _ _).trans (congrArg₂ (· * ·) (congrArg₂ (· * ·) (read_x m c t r d) (congrArg (fun u => Ideal.rsqrt (ms u)) e1))
    (congrArg₂ (· * ·) (dh_point hr t r d) (congrArg (1 + ·) (read_scale m c t d))))

/-- … and of the scale. -/
theorem scale_share (t : Fin cfg0.N) (r : Fin 256) (d : Fin 1024) (b : Fin 2) (k : Fin 2048) (hb : t.val / 8 = b.val)
    (hk : t.val % 8 * 256 + r.val = k.val) :
    dhBlk m c t (ix2 r d) * (rowBlk (iblk m c 0 t) r d * Ideal.rsqrt (ms (rowBlk (iblk m c 0 t) r)) * iblk m c 6 t (ix2 0 d))
      = aX m c (ix3 b k d) * Ideal.rsqrt (ms (rowAt (aX m c) b k)) * aG m c (ix1 d) * dhArr m c (ix3 b k d) := by
  obtain rfl : seq t = b := Fin.ext hb
  obtain rfl : row t r = k := Fin.ext hk
  have e1 : rowBlk (iblk m c 0 t) r = rowAt (aX m c) (seq t) (row t r) := funext fun k => read_x m c t r k
  refine (mul_comm _ _).trans (congrArg₂ (· * ·) (congrArg₂ (· * ·) (congrArg₂ (· * ·) (read_x m c t r d)
    (congrArg (fun u => Ideal.rsqrt (ms u)) e1)) (read_gain m c t d)) (dh_point hr t r d))

/-- … and of the shift. -/
theorem shift_share (t : Fin cfg0.N) (r : Fin 256) (d : Fin 1024) (b : Fin 2) (k : Fin 2048) (hb : t.val / 8 = b.val)
    (hk : t.val % 8 * 256 + r.val = k.val) : dhBlk m c t (ix2 r d) = dhArr m c (ix3 b k d) := by
  obtain rfl : seq t = b := Fin.ext hb
  obtain rfl : row t r = k := Fin.ext hk
  exact dh_point hr t r d

end real

theorem final_dg (c : Dev nD) (hr : Finite m c) : (dats m 0 c).arrAt 13 (cfgs 0).N = dgOf (aX m c) (aMod m c) (dhArr m c) := by
  refine (dats m 0 c).arrAt_eq_of_covers 13 _ (by decide +kernel) fun t hf y => ?_
  have hN : t.val < 16 := lt_of_lt_of_eq t.isLt N_0
  blk_simp
  obtain ⟨d, rfl⟩ : ∃ d : Fin 1024, y = ix3 0 0 d := ⟨y 2, by blk_ext⟩
  have e : (win0_13.blk t).view.emb (ix3 0 0 d) = ix3 (seq t) 0 d := by blk_ext [place t]
  rw [after0_13, Pipeline.eq_sum_fin_of_reset_step_apply_of_flush (fun n h => (outsAt0 m c n h).2.2.2.2) 8 (fun _ => 0)
    (fun s (j : S1x1x1024.Idx) => gainPart (dhBlk m c s) (iblk m c 0 s) (ldScale m c s) (j 2))
    (fun t h j => by
      obtain ⟨d, rfl⟩ : ∃ d : Fin 1024, j = ix3 0 0 d := ⟨j 2, by blk_ext⟩
      rw [outsAt0_A m c t h]; dsimp only; frame_out
      exact (gain_apply _ _ _ _ _).trans (congrArg (· + _) (zeroGain_apply _)))
    (fun t h j => by
      obtain ⟨d, rfl⟩ : ∃ d : Fin 1024, j = ix3 0 0 d := ⟨j 2, by blk_ext⟩
      rw [outsAt0_B m c t h]; dsimp only; frame_out
      exact gain_apply _ _ _ _ _)
    t ((flush0_13 t).mp hf) _, zero_add]
  refine Eq.trans ?_ (congrArg (dgOf (aX m c) (aMod m c) (dhArr m c)) e).symm
  rw [dgOf_apply]
  refine Fin.sum_mul_add_congr fun s r hl => ?_
  exact gain_share hr ⟨8 * (t.val / 8) + s.val, _⟩ r d _ _ (by show (8 * (t.val / 8) + s.val) / 8 = t.val / 8; omega)
    (by show (8 * (t.val / 8) + s.val) % 8 * 256 + r.val = s.val * 256 + r.val; omega)

/-- What one token block adds to the gradient of the modulation: nothing in the gate's row. -/
def modPart (c : Dev nD) (s : Fin cfg0.N) (j : S1x3x1024.Idx) : EReal :=
  if (j 1).val = 0 then shiftPart (dhBlk m c s) (j 2)
  else if (j 1).val = 1 then scalePart (dhBlk m c s) (iblk m c 0 s) (iblk m c 6 s) (j 2) else 0

theorem modPart_0 (c : Dev nD) (s : Fin cfg0.N) (d : Fin 1024) : modPart m c s (ix3 0 0 d) = shiftPart (dhBlk m c s) d :=
  if_pos rfl

theorem modPart_1 (c : Dev nD) (s : Fin cfg0.N) (d : Fin 1024) :
    modPart m c s (ix3 0 1 d) = scalePart (dhBlk m c s) (iblk m c 0 s) (iblk m c 6 s) d :=
  (if_neg Nat.one_ne_zero).trans (if_pos rfl)

theorem modPart_2 (c : Dev nD) (s : Fin cfg0.N) (d : Fin 1024) : modPart m c s (ix3 0 2 d) = 0 :=
  (if_neg (show ¬2 = 0 by decide)).trans (if_neg (show ¬2 = 1 by decide))

theorem mod_first (c : Dev nD) (t : Fin cfg0.N) (h : t.val % 8 = 0) (j : S1x3x1024.Idx) :
    (outsAt0 m c t.val t.isLt).2.2.2.1 j = 0 + modPart m c t j := by
  obtain ⟨i, d, rfl⟩ : ∃ (i : Fin 3) (d : Fin 1024), j = ix3 0 i d := ⟨j 1, j 2, by blk_ext⟩
  rw [outsAt0_A m c t h]
  dsimp only
  frame_out
  obtain rfl | rfl | rfl := (by decide : ∀ i : Fin 3, i = 0 ∨ i = 1 ∨ i = 2) i
  · exact (canon_other _ d 0 1 (by decide) _ _).trans ((canon_row _ d 0 _ _).trans ((shift_apply _ _ _).trans
      (congrArg₂ (· + ·) (load_zero d _ 0 _) (modPart_0 m c t d).symm)))
  · exact (canon_row _ d 1 _ _).trans ((scale_apply _ _ _ _ _).trans
      (congrArg₂ (· + ·) (load_next d _ 1 0 (by decide) _ _ _) (modPart_1 m c t d).symm))
  · exact (canon_other _ d 2 1 (by decide) _ _).trans ((canon_other _ d 2 0 (by decide) _ _).trans
      ((canon_zero _).trans ((congrArg (0 + ·) (modPart_2 m c t d)).trans (add_zero 0)).symm))

theorem mod_next (c : Dev nD) (t : Fin cfg0.N) (h : ¬t.val % 8 = 0) (j : S1x3x1024.Idx) :
    (outsAt0 m c t.val t.isLt).2.2.2.1 j
      = (outsAt0 m c (t.val - 1) (Nat.lt_of_le_of_lt (Nat.sub_le _ _) t.isLt)).2.2.2.1 j + modPart m c t j := by
  obtain ⟨i, d, rfl⟩ : ∃ (i : Fin 3) (d : Fin 1024), j = ix3 0 i d := ⟨j 1, j 2, by blk_ext⟩
  rw [outsAt0_B m c t h]
  dsimp only
  frame_out
  generalize (outsAt0 m c (t.val - 1) (Nat.lt_of_le_of_lt (Nat.sub_le _ _) t.isLt)).2.2.2.1 = acc
  obtain rfl | rfl | rfl := (by decide : ∀ i : Fin 3, i = 0 ∨ i = 1 ∨ i = 2) i
  · exact (left_other _ d _ _ 0 1 (by decide) _ _).trans ((left_row _ d _ _ 0 _ _).trans ((shift_apply _ _ _).trans
      (congrArg₂ (· + ·) (congrArg acc (stand_row 0 _ d)) (modPart_0 m c t d).symm)))
  · exact (left_row _ d _ _ 1 _ _).trans ((scale_apply _ _ _ _ _).trans
      (congrArg₂ (· + ·) (congrArg acc (stand_row 1 _ d)) (modPart_1 m c t d).symm))
  · exact (left_other _ d _ _ 2 1 (by decide) _ _).trans ((left_other _ d _ _ 2 0 (by decide) _ _).trans
      ((congrFun ((hs0_12 t).read_unread acc) _).trans ((congrArg (acc _ + ·) (modPart_2 m c t d)).trans (add_zero _)).symm))

/-- Eight token blocks make up one sequence. -/
theorem mod_total (c : Dev nD) (hr : Finite m c) (b : Fin 2) (i : Fin 3) (d : Fin 1024) (g : Fin 8 → Fin cfg0.N)
    (hg : ∀ s, (g s).val = 8 * b.val + s.val) :
    ∑ s : Fin 8, modPart m c (g s) (ix3 0 i d) = dmodOf (aX m c) (aG m c) (dhArr m c) (ix3 b i d) := by
  have hb : ∀ s, (g s).val / 8 = b.val := fun s => by rw [hg s]; omega
  obtain rfl | rfl | rfl := (by decide : ∀ i : Fin 3, i = 0 ∨ i = 1 ∨ i = 2) i
  · refine Eq.trans (Fintype.sum_congr _ _ fun s => modPart_0 m c (g s) d) (Eq.trans ?_ (dmodOf_apply_0 _ _ _ b d).symm)
    exact Fin.sum_mul_add_congr fun s r hl => shift_share hr (g s) r d _ _ (hb s)
      (by show (g s).val % 8 * 256 + r.val = s.val * 256 + r.val; rw [hg s]; omega)
  · refine Eq.trans (Fintype.sum_congr _ _ fun s => modPart_1 m c (g s) d) (Eq.trans ?_ (dmodOf_apply_1 _ _ _ b d).symm)
    exact Fin.sum_mul_add_congr fun s r hl => scale_share hr (g s) r d _ _ (hb s)
      (by show (g s).val % 8 * 256 + r.val = s.val * 256 + r.val; rw [hg s]; omega)
  · exact ((Fintype.sum_congr _ _ fun s => modPart_2 m c (g s) d).trans Finset.sum_const_zero).trans
      (dmodOf_apply_2 _ _ _ b d).symm

theorem final_dmod (c : Dev nD) (hr : Finite m c) : (dats m 0 c).arrAt 12 (cfgs 0).N = dmodOf (aX m c) (aG m c) (dhArr m c) := by
  refine (dats m 0 c).arrAt_eq_of_covers 12 _ (by decide +kernel) fun t hf y => ?_
  have hN : t.val < 16 := lt_of_lt_of_eq t.isLt N_0
  blk_simp
  obtain ⟨i, d, rfl⟩ : ∃ (i : Fin 3) (d : Fin 1024), y = ix3 0 i d := ⟨y 1, y 2, by blk_ext⟩
  have e : (win0_12.blk t).view.emb (ix3 0 i d) = ix3 (seq t) i d := by blk_ext [place t]
  rw [after0_12, Pipeline.eq_sum_fin_of_reset_step_apply_of_flush (fun n h => (outsAt0 m c n h).2.2.2.1) 8 (fun _ => 0)
    (modPart m c) (mod_first m c) (mod_next m c) t ((flush0_12 t).mp hf) _, zero_add]
  refine Eq.trans ?_ (congrArg (dmodOf (aX m c) (aG m c) (dhArr m c)) e).symm
  exact mod_total m c hr (seq t) i d _ fun s => rfl

/-! ### The precondition and the claim -/

/-- What the precondition says: every argument element is a real number. -/
theorem finite_of_pre (h : Cert.Pre_BwdBIdeal_finite_bb m) (c : Dev nD) : Finite m c where
  x i := isReal_of_test (congrFun (h c).1 i)
  res i := isReal_of_test (congrFun (h c).2.1 i)
  mod i := isReal_of_test (congrFun (h c).2.2.1 i)
  gain i := isReal_of_test (congrFun (h c).2.2.2.1 i)
  win i := isReal_of_test (congrFun (h c).2.2.2.2.1 i)
  out i := isReal_of_test (congrFun (h c).2.2.2.2.2 i)

/-- The two programs end with equal results. -/
theorem algebraic : Cert.algebraic_BwdBIdeal_BwdBRefIdeal_pre_finite_bb := fun m g m' g' hpre hagree =>
  ⟨fun c => dxOf (aX m c) (aRes m c) (dnOf (aMod m c) (aG m c) (dhArr m c)),
    fun c => dmodOf (aX m c) (aG m c) (dhArr m c), fun c => dgOf (aX m c) (aMod m c) (dhArr m c),
    (θ_run defs _ _).mono (fun _ h c =>
      have hr := finite_of_pre m hpre c
      ⟨(h c).1.trans (final_dx hr), (h c).2.2.2.1.trans (final_dmod m c hr), (h c).2.2.2.2.1.trans (final_dg m c hr),
        (h c).2.2.2.2.2⟩) (Cert.BwdBIdeal.Value.run_blocks m g),
    (θ_run Cert.BwdBRefIdeal.defs _ _).mono (fun _ h c =>
      have e := hagree c
      have ed : dhRes m' c = dhArr m c := by unfold dhRes; rw [e.1, e.2.1, e.2.2.1, e.2.2.2.1, e.2.2.2.2.1, e.2.2.2.2.2]
      ⟨(h c).1.trans ((dx_eq m' c).trans (by rw [ed, e.1, e.2.1, e.2.2.1, e.2.2.2.1])),
        (h c).2.1.trans ((dmod_eq m' c).trans (by rw [ed, e.1, e.2.2.2.1])),
        (h c).2.2.1.trans ((dg_eq m' c).trans (by rw [ed, e.1, e.2.2.1])), (h c).2.2.2⟩) (Cert.BwdBRefIdeal.Value.run m' g')⟩

end Cert.BwdBIdeal.Whole
-- ==== Proof.AdaBValue.lean ====
/- The gradients of the weights and the bias that make the modulation: per layer, the activated conditioning against the
   gradient of the modulation, contracted over all sequences of all devices, and that gradient summed over them. -/
module

public import proofs.«01_k».proof.Proof.Gen.AdaBIdeal.Value
public import proofs.«01_k».proof.Proof.Gen.AdaBRefIdeal.Run
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdaBIdeal.Cond

open Cert.AdaBIdeal Cert.AdaBIdeal.Gen

variable (m : (ℓ : Loc nD τ sig) → Buf (Elt Ideal) ℓ)

abbrev aC (c : Dev nD) : FVec Ideal S16x1024 .f32 := m ((c : Thread nD τ).loc main_arg0)
abbrev aCols (c : Dev nD) : FVec Ideal S4x16x2304 .f32 := m ((c : Thread nD τ).loc main_arg1)
abbrev aAll (c : Dev nD) : FVec Ideal S4x16x9216 .f32 := m ((c : Thread nD τ).loc main_arg2)

/-- The reference's results as terms of their arguments. -/
abbrev weights (x : FVec Ideal S16x1024 .f32) (dm : FVec Ideal S4x16x2304 .f32) : FVec Ideal S4x1024x2304 .f32 :=
  transpose Cert.AdaBRefIdeal.S4x1024x2304 [0, 2, 1]
    (Host.dotGeneral (φ₁ := .f32) (φ₂ := .f32) Cert.AdaBRefIdeal.dot_S16x4x2304_S16x1024_S4x2304x1024_0_0_12_1_n_n none
      (transpose Cert.AdaBRefIdeal.S16x4x2304 [1, 0, 2] dm Cert.AdaBRefIdeal.Gen.transposes_S4x16x2304_S16x4x2304_1_0_2)
      (mulf x (Host.divf
        (broadcastInDim Cert.AdaBRefIdeal.S16x1024 ![] Cert.AdaBRefIdeal.Gen.bcast_S_S16x1024 (constant Cert.AdaBRefIdeal.S_ .f32 0x3F800000#32))
        (addf (broadcastInDim Cert.AdaBRefIdeal.S16x1024 ![] Cert.AdaBRefIdeal.Gen.bcast_S_S16x1024 (constant Cert.AdaBRefIdeal.S_ .f32 0x3F800000#32))
          (Host.exp (Host.negf x))))))
    Cert.AdaBRefIdeal.Gen.transposes_S4x2304x1024_S4x1024x2304_0_2_1

abbrev bias (dm : FVec Ideal S4x16x9216 .f32) : FVec Ideal S4x1x9216 .f32 :=
  broadcastInDim Cert.AdaBRefIdeal.S4x1x9216 ![0, 2] Cert.AdaBRefIdeal.Gen.bcast_S4x9216_S4x1x9216_0_2
    (Host.reduceAdd dm (constant Cert.AdaBRefIdeal.S_ .f32 0x00000000#32) Cert.AdaBRefIdeal.Gen.reducesTo_S4x16x9216_S4x9216_d1
      Cert.AdaBRefIdeal.Gen.h_S_)

theorem place : ∀ t : Fin cfg0.N, win0_0.index t = ![0, 0] ∧ win0_1.index t = ![t.val, 0, 0] ∧ win0_2.index t = ![t.val, 0, 0]
    ∧ win0_3.index t = ![t.val, 0, 0] ∧ win0_4.index t = ![t.val, 0, 0] :=
  (by decide +kernel : ∀ t : Fin grid0.N, _)

theorem weights_apply (x : FVec Ideal S16x1024 .f32) (dm : FVec Ideal S4x16x2304 .f32) (i : Fin 4) (k : Fin 1024) (n : Fin 2304) :
    weights x dm (ix3 i k n) = ∑ b : Fin 16, dm (ix3 i b n) * (x (ix2 b k) * Ideal.logistic (x (ix2 b k))) := by
  unfold Ideal.logistic
  pointwise [weights]

theorem bias_apply (dm : FVec Ideal S4x16x9216 .f32) (i : Fin 4) (n : Fin 9216) :
    bias dm (ix3 i 0 n) = ∑ b : Fin 16, dm (ix3 i b n) := by
  pointwise [bias]

theorem gw_apply (x : Vec Ideal S16x1024 .f32) (dm : Vec Ideal S1x16x2304 .f32) (k : Fin 1024) (n : Fin 2304) :
    k0_pay1 x dm (ix3 0 k n) = ∑ b : Fin 16, (x (ix2 b k) * Ideal.logistic (x (ix2 b k))) * dm (ix3 0 b n) := by
  pointwise [k0_pay1]

theorem gb_apply (dm : Vec Ideal S1x16x9216 .f32) (n : Fin 9216) :
    k0_pay2 dm (ix3 0 0 n) = ∑ b : Fin 16, dm (ix3 0 b n) := by
  pointwise [k0_pay2]

/-- The layer of a grid point. -/
abbrev layer (t : Fin cfg0.N) : Fin 4 := ⟨t.val, lt_of_lt_of_eq t.isLt N_0⟩

theorem read_x (c : Dev nD) (t : Fin cfg0.N) (b : Fin 16) (k : Fin 1024) : iblk m c 0 t (ix2 b k) = aC m c (ix2 b k) := by
  blk_point [iblk, V, place t]

theorem read_cols (c : Dev nD) (t : Fin cfg0.N) (b : Fin 16) (n : Fin 2304) :
    iblk m c 1 t (ix3 0 b n) = aCols m c (ix3 (layer t) b n) := by
  blk_point [iblk, V, place t]

theorem read_all (c : Dev nD) (t : Fin cfg0.N) (b : Fin 16) (n : Fin 9216) :
    (iblk m c 2 t : FVec Ideal S1x16x9216 .f32) (ix3 0 b n) = aAll m c (ix3 (layer t) b n) := by
  blk_point [iblk, V, place t]

theorem final_weights (c : Dev nD) : (dats m 0 c).arrAt 3 (cfgs 0).N = weights (aC m c) (aCols m c) := by
  refine (dats m 0 c).arrAt_eq_of_covers 3 _ (by decide +kernel) fun t hf y => ?_
  blk_simp
  rw [after0_3]
  obtain ⟨k, n, rfl⟩ : ∃ (k : Fin 1024) (n : Fin 2304), y = ix3 0 k n := ⟨y 1, y 2, by blk_ext⟩
  have e : (win0_3.blk t).view.emb (ix3 0 k n) = ix3 (layer t) k n := by blk_ext [place t]
  frame_out
  refine (gw_apply _ _ k n).trans (Eq.trans (Fintype.sum_congr _ _ fun b => ?_)
    ((weights_apply (aC m c) (aCols m c) (layer t) k n).symm.trans (congrArg (weights (aC m c) (aCols m c)) e).symm))
  exact (congrArg₂ (· * ·) (congrArg (fun u => u * Ideal.logistic u) (read_x m c t b k)) (read_cols m c t b n)).trans (mul_comm _ _)

theorem final_bias (c : Dev nD) : (dats m 0 c).arrAt 4 (cfgs 0).N = bias (aAll m c) := by
  refine (dats m 0 c).arrAt_eq_of_covers 4 _ (by decide +kernel) fun t hf y => ?_
  blk_simp
  rw [after0_4]
  obtain ⟨n, rfl⟩ : ∃ (n : Fin 9216), y = ix3 0 0 n := ⟨y 2, by blk_ext⟩
  have e : (win0_4.blk t).view.emb (ix3 0 0 n) = ix3 (layer t) 0 n := by blk_ext [place t]
  frame_out
  exact (gb_apply (iblk m c 2 t) n).trans (Eq.trans (Fintype.sum_congr (α := Fin 16) (M := EReal) _ _ fun b => read_all m c t b n)
    ((bias_apply (aAll m c) (layer t) n).symm.trans (congrArg (bias (aAll m c)) e).symm))

/-- The two programs end with equal results. -/
theorem algebraic : Cert.algebraic_AdaBIdeal_AdaBRefIdeal := fun m g m' g' _ hagree =>
  ⟨fun c => weights (aC m c) (aCols m c), fun c => bias (aAll m c),
    (θ_run defs _ _).mono (fun _ h c => ⟨(h c).1.trans (final_weights m c), (h c).2.1.trans (final_bias m c), (h c).2.2⟩)
      (Cert.AdaBIdeal.Value.run_blocks m g),
    (θ_run Cert.AdaBRefIdeal.defs _ _).mono (fun _ h c =>
      have e := hagree c
      ⟨(h c).1.trans (by rw [e.1, e.2.1]), (h c).2.1.trans (by rw [e.2.2]), (h c).2.2⟩) (Cert.AdaBRefIdeal.Value.run m' g')⟩

end Cert.AdaBIdeal.Cond
-- ==== Proof.Adam.lean ====
/- One step of the optimiser, of one element of a weight: the two running moments and the change of the weight. -/
module

public import Idealize.ShloMosaic.Lib.Pipeline.ValueKit

@[expose] public section

noncomputable section

open Idealize.ShloMosaic

namespace Cert.Adam

/-- The first moment: the running mean of the gradient. -/
def first (g m : EReal) : EReal := Ideal.ofBits .f32 0x3F666666#32 * m + Ideal.ofBits .f32 0x3DCCCCCD#32 * g

/-- The second moment: the running mean of its square. -/
def second (g v : EReal) : EReal := Ideal.ofBits .f32 0x3F7FBE77#32 * v + Ideal.ofBits .f32 0x3A83126F#32 * (g * g)

/-- The change of the weight: the corrected first moment over the root of the corrected second, and the decay. -/
def delta (w g m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- A gradient to which a zero was added. -/
theorem first_at {g g' z m m' : EReal} (eg : g = g') (ez : z = 0) (em : m = m') : first (g + z) m = first g' m' := by
  subst eg ez em
  rw [add_zero]

theorem second_at {g g' z v v' : EReal} (eg : g = g') (ez : z = 0) (ev : v = v') : second (g + z) v = second g' v' := by
  subst eg ez ev
  rw [add_zero]

theorem delta_at {w w' g g' z m m' v v' : EReal} (ew : w = w') (eg : g = g') (ez : z = 0) (em : m = m') (ev : v = v') :
    delta w (g + z) m v = delta w' g' m' v' := by
  subst ew eg ez em ev
  rw [add_zero]

end Cert.Adam
-- ==== Proof.StepAdaValue.lean ====
/- The optimiser's step of the weights that make the modulation: the call walks the weight, its leading axes as one, in blocks of rows, and
   every element of the change and of the two moments is the step of that element. -/
module

public import proofs.«01_k».proof.Proof.Gen.StepAdaIdeal.Value
public import proofs.«01_k».proof.Proof.Gen.StepAdaRefIdeal.Run
public import proofs.«01_k».proof.Proof.Adam
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Adam

namespace Cert.StepAdaIdeal.Step

open Cert.StepAdaIdeal Cert.StepAdaIdeal.Gen

variable (m : (ℓ : Loc nD τ sig) → Buf (Elt Ideal) ℓ)

abbrev aW (c : Dev nD) : FVec Ideal S4x1024x2304 .f32 := m ((c : Thread nD τ).loc main_arg0)
abbrev aG (c : Dev nD) : FVec Ideal S4x1024x2304 .f32 := m ((c : Thread nD τ).loc main_arg1)
abbrev aM (c : Dev nD) : FVec Ideal S4x1024x2304 .f32 := m ((c : Thread nD τ).loc main_arg2)
abbrev aV (c : Dev nD) : FVec Ideal S4x1024x2304 .f32 := m ((c : Thread nD τ).loc main_arg3)

/-- The weight's leading axes as one. -/
def flat (w : FVec Ideal S4x1024x2304 .f32) : FVec Ideal S4096x2304 .f32 := shapeCast S4096x2304 w shapeCasts_S4x1024x2304_S4096x2304

/-- The three results, element by element. -/
def firsts (g q : FVec Ideal S4x1024x2304 .f32) : FVec Ideal S4096x2304 .f32 := fun j => first (flat g j) (flat q j)
def seconds (g q : FVec Ideal S4x1024x2304 .f32) : FVec Ideal S4096x2304 .f32 := fun j => second (flat g j) (flat q j)
def deltas (w g q p : FVec Ideal S4x1024x2304 .f32) : FVec Ideal S4096x2304 .f32 :=
  fun j => delta (flat w j) (flat g j) (flat q j) (flat p j)

/-- Where the windows stand at a grid point. -/
theorem place : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] :=
  (by decide +kernel : ∀ t : Fin grid0.N, _)

theorem entry_w (c : Dev nD) : V m c main_v0 = flat (aW m c) := by
  entry_read
  rfl

theorem entry_g (c : Dev nD) : V m c main_v1 = flat (aG m c) := by
  entry_read
  rfl

theorem entry_m (c : Dev nD) : V m c main_v2 = flat (aM m c) := by
  entry_read
  rfl

theorem entry_v (c : Dev nD) : V m c main_v3 = flat (aV m c) := by
  entry_read
  rfl

theorem entry_zero (c : Dev nD) : V m c main_v4 = fun _ => Ideal.ofBits .f32 0x00000000#32 := by
  entry_read
  rfl

/-- The array's row of a block's row. -/
abbrev row (t : Fin cfg0.N) (r : Fin 128) : Fin 4096 :=
  ⟨t.val * 128 + r.val, by have := lt_of_lt_of_eq t.isLt N_0; omega⟩

theorem read_w (c : Dev nD) (t : Fin cfg0.N) (r : Fin 128) (d : Fin 2304) : iblk m c 0 t (ix2 r d) = flat (aW m c) (ix2 (row t r) d) := by
  blk_simp [iblk, place t]
  rw [entry_w]
  exact congrArg (flat (aW m c)) (by blk_ext [place t])

theorem read_g (c : Dev nD) (t : Fin cfg0.N) (r : Fin 128) (d : Fin 2304) : iblk m c 1 t (ix2 r d) = flat (aG m c) (ix2 (row t r) d) := by
  blk_simp [iblk, place t]
  rw [entry_g]
  exact congrArg (flat (aG m c)) (by blk_ext [place t])

theorem read_m (c : Dev nD) (t : Fin cfg0.N) (r : Fin 128) (d : Fin 2304) : iblk m c 2 t (ix2 r d) = flat (aM m c) (ix2 (row t r) d) := by
  blk_simp [iblk, place t]
  rw [entry_m]
  exact congrArg (flat (aM m c)) (by blk_ext [place t])

theorem read_v (c : Dev nD) (t : Fin cfg0.N) (r : Fin 128) (d : Fin 2304) : iblk m c 3 t (ix2 r d) = flat (aV m c) (ix2 (row t r) d) := by
  blk_simp [iblk, place t]
  rw [entry_v]
  exact congrArg (flat (aV m c)) (by blk_ext [place t])

/-- What is added to the gradient is zero. -/
theorem read_zero (c : Dev nD) (t : Fin cfg0.N) (j) : iblk m c 4 t j = (0 : EReal) := by
  blk_simp [iblk, place t]
  rw [entry_zero]
  simp [Ideal.ofBits, Ideal.ieee]

theorem first_apply (g : Vec Ideal S128x2304 .f32) (z : Vec Ideal S1x1 .f32) (q : Vec Ideal S128x2304 .f32) (r : Fin 128) (d : Fin 2304) :
    k0_pay2 g z q (ix2 r d) = first (g (ix2 r d) + z (ix2 0 0)) (q (ix2 r d)) := by
  unfold first
  pointwise [k0_pay2, k0_pay1]

theorem second_apply (g : Vec Ideal S128x2304 .f32) (z : Vec Ideal S1x1 .f32) (q : Vec Ideal S128x2304 .f32) (r : Fin 128) (d : Fin 2304) :
    k0_pay3 g z q (ix2 r d) = second (g (ix2 r d) + z (ix2 0 0)) (q (ix2 r d)) := by
  unfold second
  pointwise [k0_pay3, k0_pay1]

theorem delta_apply (g : Vec Ideal S128x2304 .f32) (z : Vec Ideal S1x1 .f32) (q p w : Vec Ideal S128x2304 .f32) (r : Fin 128) (d : Fin 2304) :
    k0_pay4 g z q p w (ix2 r d) = delta (w (ix2 r d)) (g (ix2 r d) + z (ix2 0 0)) (q (ix2 r d)) (p (ix2 r d)) := by
  unfold delta first second
  pointwise [k0_pay4, k0_pay3, k0_pay2, k0_pay1]

theorem final_delta (c : Dev nD) : (dats m 0 c).arrAt 5 (cfgs 0).N = deltas (aW m c) (aG m c) (aM m c) (aV m c) := by
  refine (dats m 0 c).arrAt_eq_of_covers 5 _ (by decide +kernel) fun t hf y => ?_
  blk_simp
  rw [after0_5]
  obtain ⟨r, d, rfl⟩ : ∃ (r : Fin 128) (d : Fin 2304), y = ix2 r d := ⟨y 0, y 1, by blk_ext⟩
  have e : (win0_5.blk t).view.emb (ix2 r d) = ix2 (row t r) d := by blk_ext [place t]
  frame_out
  exact (delta_apply _ _ _ _ _ r d).trans ((delta_at (read_w m c t r d) (read_g m c t r d) (read_zero m c t _)
    (read_m m c t r d) (read_v m c t r d)).trans (congrArg (deltas (aW m c) (aG m c) (aM m c) (aV m c)) e).symm)

theorem final_first (c : Dev nD) : (dats m 0 c).arrAt 6 (cfgs 0).N = firsts (aG m c) (aM m c) := by
  refine (dats m 0 c).arrAt_eq_of_covers 6 _ (by decide +kernel) fun t hf y => ?_
  blk_simp
  rw [after0_6]
  obtain ⟨r, d, rfl⟩ : ∃ (r : Fin 128) (d : Fin 2304), y = ix2 r d := ⟨y 0, y 1, by blk_ext⟩
  have e : (win0_6.blk t).view.emb (ix2 r d) = ix2 (row t r) d := by blk_ext [place t]
  frame_out
  exact (first_apply _ _ _ r d).trans ((first_at (read_g m c t r d) (read_zero m c t _) (read_m m c t r d)).trans
    (congrArg (firsts (aG m c) (aM m c)) e).symm)

theorem final_second (c : Dev nD) : (dats m 0 c).arrAt 7 (cfgs 0).N = seconds (aG m c) (aV m c) := by
  refine (dats m 0 c).arrAt_eq_of_covers 7 _ (by decide +kernel) fun t hf y => ?_
  blk_simp
  rw [after0_7]
  obtain ⟨r, d, rfl⟩ : ∃ (r : Fin 128) (d : Fin 2304), y = ix2 r d := ⟨y 0, y 1, by blk_ext⟩
  have e : (win0_7.blk t).view.emb (ix2 r d) = ix2 (row t r) d := by blk_ext [place t]
  frame_out
  exact (second_apply _ _ _ r d).trans ((second_at (read_g m c t r d) (read_zero m c t _) (read_v m c t r d)).trans
    (congrArg (seconds (aG m c) (aV m c)) e).symm)

/-- The two programs end with equal results. -/
theorem algebraic : Cert.algebraic_StepAdaIdeal_StepAdaRefIdeal := fun m g m' g' _ hagree =>
  ⟨fun c => deltas (aW m c) (aG m c) (aM m c) (aV m c), fun c => firsts (aG m c) (aM m c), fun c => seconds (aG m c) (aV m c),
    (θ_run defs _ _).mono (fun _ h c => ⟨(h c).1.trans (final_delta m c), (h c).2.1.trans (final_first m c),
      (h c).2.2.1.trans (final_second m c), (h c).2.2.2⟩) (Cert.StepAdaIdeal.Value.run_blocks m g),
    (θ_run Cert.StepAdaRefIdeal.defs _ _).mono (fun _ h c =>
      have e := hagree c
      ⟨(h c).1.trans (by rw [e.1, e.2.1, e.2.2.1, e.2.2.2]; rfl), (h c).2.1.trans (by rw [e.2.1, e.2.2.1]; rfl),
        (h c).2.2.1.trans (by rw [e.2.1, e.2.2.2]; rfl), (h c).2.2.2⟩) (Cert.StepAdaRefIdeal.Value.run m' g')⟩

end Cert.StepAdaIdeal.Step
-- ==== Proof.StepInValue.lean ====
/- The optimiser's step of the feed-forward blocks' first weights: the call walks the weight, its leading axes as one, in blocks of rows, and
   every element of the change and of the two moments is the step of that element. -/
module

public import proofs.«01_k».proof.Proof.Gen.StepInIdeal.Value
public import proofs.«01_k».proof.Proof.Gen.StepInRefIdeal.Run
public import proofs.«01_k».proof.Proof.Adam
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Adam

namespace Cert.StepInIdeal.Step

open Cert.StepInIdeal Cert.StepInIdeal.Gen

variable (m : (ℓ : Loc nD τ sig) → Buf (Elt Ideal) ℓ)

abbrev aW (c : Dev nD) : FVec Ideal S4x2x1024x1408 .f32 := m ((c : Thread nD τ).loc main_arg0)
abbrev aG (c : Dev nD) : FVec Ideal S4x2x1024x1408 .f32 := m ((c : Thread nD τ).loc main_arg1)
abbrev aM (c : Dev nD) : FVec Ideal S4x2x1024x1408 .f32 := m ((c : Thread nD τ).loc main_arg2)
abbrev aV (c : Dev nD) : FVec Ideal S4x2x1024x1408 .f32 := m ((c : Thread nD τ).loc main_arg3)

/-- The weight's leading axes as one. -/
def flat (w : FVec Ideal S4x2x1024x1408 .f32) : FVec Ideal S8192x1408 .f32 := shapeCast S8192x1408 w shapeCasts_S4x2x1024x1408_S8192x1408

/-- The three results, element by element. -/
def firsts (g q : FVec Ideal S4x2x1024x1408 .f32) : FVec Ideal S8192x1408 .f32 := fun j => first (flat g j) (flat q j)
def seconds (g q : FVec Ideal S4x2x1024x1408 .f32) : FVec Ideal S8192x1408 .f32 := fun j => second (flat g j) (flat q j)
def deltas (w g q p : FVec Ideal S4x2x1024x1408 .f32) : FVec Ideal S8192x1408 .f32 :=
  fun j => delta (flat w j) (flat g j) (flat q j) (flat p j)

/-- Where the windows stand at a grid point. -/
theorem place : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] :=
  (by decide +kernel : ∀ t : Fin grid0.N, _)

theorem entry_w (c : Dev nD) : V m c main_v0 = flat (aW m c) := by
  entry_read
  rfl

theorem entry_g (c : Dev nD) : V m c main_v1 = flat (aG m c) := by
  entry_read
  rfl

theorem entry_m (c : Dev nD) : V m c main_v2 = flat (aM m c) := by
  entry_read
  rfl

theorem entry_v (c : Dev nD) : V m c main_v3 = flat (aV m c) := by
  entry_read
  rfl

theorem entry_zero (c : Dev nD) : V m c main_v4 = fun _ => Ideal.ofBits .f32 0x00000000#32 := by
  entry_read
  rfl

/-- The array's row of a block's row. -/
abbrev row (t : Fin cfg0.N) (r : Fin 256) : Fin 8192 :=
  ⟨t.val * 256 + r.val, by have := lt_of_lt_of_eq t.isLt N_0; omega⟩

theorem read_w (c : Dev nD) (t : Fin cfg0.N) (r : Fin 256) (d : Fin 1408) : iblk m c 0 t (ix2 r d) = flat (aW m c) (ix2 (row t r) d) := by
  blk_simp [iblk, place t]
  rw [entry_w]
  exact congrArg (flat (aW m c)) (by blk_ext [place t])

theorem read_g (c : Dev nD) (t : Fin cfg0.N) (r : Fin 256) (d : Fin 1408) : iblk m c 1 t (ix2 r d) = flat (aG m c) (ix2 (row t r) d) := by
  blk_simp [iblk, place t]
  rw [entry_g]
  exact congrArg (flat (aG m c)) (by blk_ext [place t])

theorem read_m (c : Dev nD) (t : Fin cfg0.N) (r : Fin 256) (d : Fin 1408) : iblk m c 2 t (ix2 r d) = flat (aM m c) (ix2 (row t r) d) := by
  blk_simp [iblk, place t]
  rw [entry_m]
  exact congrArg (flat (aM m c)) (by blk_ext [place t])

theorem read_v (c : Dev nD) (t : Fin cfg0.N) (r : Fin 256) (d : Fin 1408) : iblk m c 3 t (ix2 r d) = flat (aV m c) (ix2 (row t r) d) := by
  blk_simp [iblk, place t]
  rw [entry_v]
  exact congrArg (flat (aV m c)) (by blk_ext [place t])

/-- What is added to the gradient is zero. -/
theorem read_zero (c : Dev nD) (t : Fin cfg0.N) (j) : iblk m c 4 t j = (0 : EReal) := by
  blk_simp [iblk, place t]
  rw [entry_zero]
  simp [Ideal.ofBits, Ideal.ieee]

theorem first_apply (g : Vec Ideal S256x1408 .f32) (z : Vec Ideal S1x1 .f32) (q : Vec Ideal S256x1408 .f32) (r : Fin 256) (d : Fin 1408) :
    k0_pay2 g z q (ix2 r d) = first (g (ix2 r d) + z (ix2 0 0)) (q (ix2 r d)) := by
  unfold first
  pointwise [k0_pay2, k0_pay1]

theorem second_apply (g : Vec Ideal S256x1408 .f32) (z : Vec Ideal S1x1 .f32) (q : Vec Ideal S256x1408 .f32) (r : Fin 256) (d : Fin 1408) :
    k0_pay3 g z q (ix2 r d) = second (g (ix2 r d) + z (ix2 0 0)) (q (ix2 r d)) := by
  unfold second
  pointwise [k0_pay3, k0_pay1]

theorem delta_apply (g : Vec Ideal S256x1408 .f32) (z : Vec Ideal S1x1 .f32) (q p w : Vec Ideal S256x1408 .f32) (r : Fin 256) (d : Fin 1408) :
    k0_pay4 g z q p w (ix2 r d) = delta (w (ix2 r d)) (g (ix2 r d) + z (ix2 0 0)) (q (ix2 r d)) (p (ix2 r d)) := by
  unfold delta first second
  pointwise [k0_pay4, k0_pay3, k0_pay2, k0_pay1]

theorem final_delta (c : Dev nD) : (dats m 0 c).arrAt 5 (cfgs 0).N = deltas (aW m c) (aG m c) (aM m c) (aV m c) := by
  refine (dats m 0 c).arrAt_eq_of_covers 5 _ (by decide +kernel) fun t hf y => ?_
  blk_simp
  rw [after0_5]
  obtain ⟨r, d, rfl⟩ : ∃ (r : Fin 256) (d : Fin 1408), y = ix2 r d := ⟨y 0, y 1, by blk_ext⟩
  have e : (win0_5.blk t).view.emb (ix2 r d) = ix2 (row t r) d := by blk_ext [place t]
  frame_out
  exact (delta_apply _ _ _ _ _ r d).trans ((delta_at (read_w m c t r d) (read_g m c t r d) (read_zero m c t _)
    (read_m m c t r d) (read_v m c t r d)).trans (congrArg (deltas (aW m c) (aG m c) (aM m c) (aV m c)) e).symm)

theorem final_first (c : Dev nD) : (dats m 0 c).arrAt 6 (cfgs 0).N = firsts (aG m c) (aM m c) := by
  refine (dats m 0 c).arrAt_eq_of_covers 6 _ (by decide +kernel) fun t hf y => ?_
  blk_simp
  rw [after0_6]
  obtain ⟨r, d, rfl⟩ : ∃ (r : Fin 256) (d : Fin 1408), y = ix2 r d := ⟨y 0, y 1, by blk_ext⟩
  have e : (win0_6.blk t).view.emb (ix2 r d) = ix2 (row t r) d := by blk_ext [place t]
  frame_out
  exact (first_apply _ _ _ r d).trans ((first_at (read_g m c t r d) (read_zero m c t _) (read_m m c t r d)).trans
    (congrArg (firsts (aG m c) (aM m c)) e).symm)

theorem final_second (c : Dev nD) : (dats m 0 c).arrAt 7 (cfgs 0).N = seconds (aG m c) (aV m c) := by
  refine (dats m 0 c).arrAt_eq_of_covers 7 _ (by decide +kernel) fun t hf y => ?_
  blk_simp
  rw [after0_7]
  obtain ⟨r, d, rfl⟩ : ∃ (r : Fin 256) (d : Fin 1408), y = ix2 r d := ⟨y 0, y 1, by blk_ext⟩
  have e : (win0_7.blk t).view.emb (ix2 r d) = ix2 (row t r) d := by blk_ext [place t]
  frame_out
  exact (second_apply _ _ _ r d).trans ((second_at (read_g m c t r d) (read_zero m c t _) (read_v m c t r d)).trans
    (congrArg (seconds (aG m c) (aV m c)) e).symm)

/-- The two programs end with equal results. -/
theorem algebraic : Cert.algebraic_StepInIdeal_StepInRefIdeal := fun m g m' g' _ hagree =>
  ⟨fun c => deltas (aW m c) (aG m c) (aM m c) (aV m c), fun c => firsts (aG m c) (aM m c), fun c => seconds (aG m c) (aV m c),
    (θ_run defs _ _).mono (fun _ h c => ⟨(h c).1.trans (final_delta m c), (h c).2.1.trans (final_first m c),
      (h c).2.2.1.trans (final_second m c), (h c).2.2.2⟩) (Cert.StepInIdeal.Value.run_blocks m g),
    (θ_run Cert.StepInRefIdeal.defs _ _).mono (fun _ h c =>
      have e := hagree c
      ⟨(h c).1.trans (by rw [e.1, e.2.1, e.2.2.1, e.2.2.2]; rfl), (h c).2.1.trans (by rw [e.2.1, e.2.2.1]; rfl),
        (h c).2.2.1.trans (by rw [e.2.1, e.2.2.2]; rfl), (h c).2.2.2⟩) (Cert.StepInRefIdeal.Value.run m' g')⟩

end Cert.StepInIdeal.Step
-- ==== Proof.StepOutValue.lean ====
/- The optimiser's step of the feed-forward blocks' last weights: the call walks the weight, its leading axes as one, in blocks of rows, and
   every element of the change and of the two moments is the step of that element. -/
module

public import proofs.«01_k».proof.Proof.Gen.StepOutIdeal.Value
public import proofs.«01_k».proof.Proof.Gen.StepOutRefIdeal.Run
public import proofs.«01_k».proof.Proof.Adam
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Adam

namespace Cert.StepOutIdeal.Step

open Cert.StepOutIdeal Cert.StepOutIdeal.Gen

variable (m : (ℓ : Loc nD τ sig) → Buf (Elt Ideal) ℓ)

abbrev aW (c : Dev nD) : FVec Ideal S4x2x704x1024 .f32 := m ((c : Thread nD τ).loc main_arg0)
abbrev aG (c : Dev nD) : FVec Ideal S4x2x704x1024 .f32 := m ((c : Thread nD τ).loc main_arg1)
abbrev aM (c : Dev nD) : FVec Ideal S4x2x704x1024 .f32 := m ((c : Thread nD τ).loc main_arg2)
abbrev aV (c : Dev nD) : FVec Ideal S4x2x704x1024 .f32 := m ((c : Thread nD τ).loc main_arg3)

/-- The weight's leading axes as one. -/
def flat (w : FVec Ideal S4x2x704x1024 .f32) : FVec Ideal S5632x1024 .f32 := shapeCast S5632x1024 w shapeCasts_S4x2x704x1024_S5632x1024

/-- The three results, element by element. -/
def firsts (g q : FVec Ideal S4x2x704x1024 .f32) : FVec Ideal S5632x1024 .f32 := fun j => first (flat g j) (flat q j)
def seconds (g q : FVec Ideal S4x2x704x1024 .f32) : FVec Ideal S5632x1024 .f32 := fun j => second (flat g j) (flat q j)
def deltas (w g q p : FVec Ideal S4x2x704x1024 .f32) : FVec Ideal S5632x1024 .f32 :=
  fun j => delta (flat w j) (flat g j) (flat q j) (flat p j)

/-- Where the windows stand at a grid point. -/
theorem place : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] :=
  (by decide +kernel : ∀ t : Fin grid0.N, _)

theorem entry_w (c : Dev nD) : V m c main_v0 = flat (aW m c) := by
  entry_read
  rfl

theorem entry_g (c : Dev nD) : V m c main_v1 = flat (aG m c) := by
  entry_read
  rfl

theorem entry_m (c : Dev nD) : V m c main_v2 = flat (aM m c) := by
  entry_read
  rfl

theorem entry_v (c : Dev nD) : V m c main_v3 = flat (aV m c) := by
  entry_read
  rfl

theorem entry_zero (c : Dev nD) : V m c main_v4 = fun _ => Ideal.ofBits .f32 0x00000000#32 := by
  entry_read
  rfl

/-- The array's row of a block's row. -/
abbrev row (t : Fin cfg0.N) (r : Fin 512) : Fin 5632 :=
  ⟨t.val * 512 + r.val, by have := lt_of_lt_of_eq t.isLt N_0; omega⟩

theorem read_w (c : Dev nD) (t : Fin cfg0.N) (r : Fin 512) (d : Fin 1024) : iblk m c 0 t (ix2 r d) = flat (aW m c) (ix2 (row t r) d) := by
  blk_simp [iblk, place t]
  rw [entry_w]
  exact congrArg (flat (aW m c)) (by blk_ext [place t])

theorem read_g (c : Dev nD) (t : Fin cfg0.N) (r : Fin 512) (d : Fin 1024) : iblk m c 1 t (ix2 r d) = flat (aG m c) (ix2 (row t r) d) := by
  blk_simp [iblk, place t]
  rw [entry_g]
  exact congrArg (flat (aG m c)) (by blk_ext [place t])

theorem read_m (c : Dev nD) (t : Fin cfg0.N) (r : Fin 512) (d : Fin 1024) : iblk m c 2 t (ix2 r d) = flat (aM m c) (ix2 (row t r) d) := by
  blk_simp [iblk, place t]
  rw [entry_m]
  exact congrArg (flat (aM m c)) (by blk_ext [place t])

theorem read_v (c : Dev nD) (t : Fin cfg0.N) (r : Fin 512) (d : Fin 1024) : iblk m c 3 t (ix2 r d) = flat (aV m c) (ix2 (row t r) d) := by
  blk_simp [iblk, place t]
  rw [entry_v]
  exact congrArg (flat (aV m c)) (by blk_ext [place t])

/-- What is added to the gradient is zero. -/
theorem read_zero (c : Dev nD) (t : Fin cfg0.N) (j) : iblk m c 4 t j = (0 : EReal) := by
  blk_simp [iblk, place t]
  rw [entry_zero]
  simp [Ideal.ofBits, Ideal.ieee]

theorem first_apply (g : Vec Ideal S512x1024 .f32) (z : Vec Ideal S1x1 .f32) (q : Vec Ideal S512x1024 .f32) (r : Fin 512) (d : Fin 1024) :
    k0_pay2 g z q (ix2 r d) = first (g (ix2 r d) + z (ix2 0 0)) (q (ix2 r d)) := by
  unfold first
  pointwise [k0_pay2, k0_pay1]

theorem second_apply (g : Vec Ideal S512x1024 .f32) (z : Vec Ideal S1x1 .f32) (q : Vec Ideal S512x1024 .f32) (r : Fin 512) (d : Fin 1024) :
    k0_pay3 g z q (ix2 r d) = second (g (ix2 r d) + z (ix2 0 0)) (q (ix2 r d)) := by
  unfold second
  pointwise [k0_pay3, k0_pay1]

theorem delta_apply (g : Vec Ideal S512x1024 .f32) (z : Vec Ideal S1x1 .f32) (q p w : Vec Ideal S512x1024 .f32) (r : Fin 512) (d : Fin 1024) :
    k0_pay4 g z q p w (ix2 r d) = delta (w (ix2 r d)) (g (ix2 r d) + z (ix2 0 0)) (q (ix2 r d)) (p (ix2 r d)) := by
  unfold delta first second
  pointwise [k0_pay4, k0_pay3, k0_pay2, k0_pay1]

theorem final_delta (c : Dev nD) : (dats m 0 c).arrAt 5 (cfgs 0).N = deltas (aW m c) (aG m c) (aM m c) (aV m c) := by
  refine (dats m 0 c).arrAt_eq_of_covers 5 _ (by decide +kernel) fun t hf y => ?_
  blk_simp
  rw [after0_5]
  obtain ⟨r, d, rfl⟩ : ∃ (r : Fin 512) (d : Fin 1024), y = ix2 r d := ⟨y 0, y 1, by blk_ext⟩
  have e : (win0_5.blk t).view.emb (ix2 r d) = ix2 (row t r) d := by blk_ext [place t]
  frame_out
  exact (delta_apply _ _ _ _ _ r d).trans ((delta_at (read_w m c t r d) (read_g m c t r d) (read_zero m c t _)
    (read_m m c t r d) (read_v m c t r d)).trans (congrArg (deltas (aW m c) (aG m c) (aM m c) (aV m c)) e).symm)

theorem final_first (c : Dev nD) : (dats m 0 c).arrAt 6 (cfgs 0).N = firsts (aG m c) (aM m c) := by
  refine (dats m 0 c).arrAt_eq_of_covers 6 _ (by decide +kernel) fun t hf y => ?_
  blk_simp
  rw [after0_6]
  obtain ⟨r, d, rfl⟩ : ∃ (r : Fin 512) (d : Fin 1024), y = ix2 r d := ⟨y 0, y 1, by blk_ext⟩
  have e : (win0_6.blk t).view.emb (ix2 r d) = ix2 (row t r) d := by blk_ext [place t]
  frame_out
  exact (first_apply _ _ _ r d).trans ((first_at (read_g m c t r d) (read_zero m c t _) (read_m m c t r d)).trans
    (congrArg (firsts (aG m c) (aM m c)) e).symm)

theorem final_second (c : Dev nD) : (dats m 0 c).arrAt 7 (cfgs 0).N = seconds (aG m c) (aV m c) := by
  refine (dats m 0 c).arrAt_eq_of_covers 7 _ (by decide +kernel) fun t hf y => ?_
  blk_simp
  rw [after0_7]
  obtain ⟨r, d, rfl⟩ : ∃ (r : Fin 512) (d : Fin 1024), y = ix2 r d := ⟨y 0, y 1, by blk_ext⟩
  have e : (win0_7.blk t).view.emb (ix2 r d) = ix2 (row t r) d := by blk_ext [place t]
  frame_out
  exact (second_apply _ _ _ r d).trans ((second_at (read_g m c t r d) (read_zero m c t _) (read_v m c t r d)).trans
    (congrArg (seconds (aG m c) (aV m c)) e).symm)

/-- The two programs end with equal results. -/
theorem algebraic : Cert.algebraic_StepOutIdeal_StepOutRefIdeal := fun m g m' g' _ hagree =>
  ⟨fun c => deltas (aW m c) (aG m c) (aM m c) (aV m c), fun c => firsts (aG m c) (aM m c), fun c => seconds (aG m c) (aV m c),
    (θ_run defs _ _).mono (fun _ h c => ⟨(h c).1.trans (final_delta m c), (h c).2.1.trans (final_first m c),
      (h c).2.2.1.trans (final_second m c), (h c).2.2.2⟩) (Cert.StepOutIdeal.Value.run_blocks m g),
    (θ_run Cert.StepOutRefIdeal.defs _ _).mono (fun _ h c =>
      have e := hagree c
      ⟨(h c).1.trans (by rw [e.1, e.2.1, e.2.2.1, e.2.2.2]; rfl), (h c).2.1.trans (by rw [e.2.1, e.2.2.1]; rfl),
        (h c).2.2.1.trans (by rw [e.2.1, e.2.2.2]; rfl), (h c).2.2.2⟩) (Cert.StepOutRefIdeal.Value.run m' g')⟩

end Cert.StepOutIdeal.Step
-- ==== Proof.StepGluValue.lean ====
/- The optimiser's step of the convolution module's first weights: the call walks the weight, its leading axes as one, in blocks of rows, and
   every element of the change and of the two moments is the step of that element. -/
module

public import proofs.«01_k».proof.Proof.Gen.StepGluIdeal.Value
public import proofs.«01_k».proof.Proof.Gen.StepGluRefIdeal.Run
public import proofs.«01_k».proof.Proof.Adam
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Adam

namespace Cert.StepGluIdeal.Step

open Cert.StepGluIdeal Cert.StepGluIdeal.Gen

variable (m : (ℓ : Loc nD τ sig) → Buf (Elt Ideal) ℓ)

abbrev aW (c : Dev nD) : FVec Ideal S2x1024x512 .f32 := m ((c : Thread nD τ).loc main_arg0)
abbrev aG (c : Dev nD) : FVec Ideal S2x1024x512 .f32 := m ((c : Thread nD τ).loc main_arg1)
abbrev aM (c : Dev nD) : FVec Ideal S2x1024x512 .f32 := m ((c : Thread nD τ).loc main_arg2)
abbrev aV (c : Dev nD) : FVec Ideal S2x1024x512 .f32 := m ((c : Thread nD τ).loc main_arg3)

/-- The weight's leading axes as one. -/
def flat (w : FVec Ideal S2x1024x512 .f32) : FVec Ideal S2048x512 .f32 := shapeCast S2048x512 w shapeCasts_S2x1024x512_S2048x512

/-- The three results, element by element. -/
def firsts (g q : FVec Ideal S2x1024x512 .f32) : FVec Ideal S2048x512 .f32 := fun j => first (flat g j) (flat q j)
def seconds (g q : FVec Ideal S2x1024x512 .f32) : FVec Ideal S2048x512 .f32 := fun j => second (flat g j) (flat q j)
def deltas (w g q p : FVec Ideal S2x1024x512 .f32) : FVec Ideal S2048x512 .f32 :=
  fun j => delta (flat w j) (flat g j) (flat q j) (flat p j)

/-- Where the windows stand at a grid point. -/
theorem place : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] :=
  (by decide +kernel : ∀ t : Fin grid0.N, _)

theorem entry_w (c : Dev nD) : V m c main_v0 = flat (aW m c) := by
  entry_read
  rfl

theorem entry_g (c : Dev nD) : V m c main_v1 = flat (aG m c) := by
  entry_read
  rfl

theorem entry_m (c : Dev nD) : V m c main_v2 = flat (aM m c) := by
  entry_read
  rfl

theorem entry_v (c : Dev nD) : V m c main_v3 = flat (aV m c) := by
  entry_read
  rfl

theorem entry_zero (c : Dev nD) : V m c main_v4 = fun _ => Ideal.ofBits .f32 0x00000000#32 := by
  entry_read
  rfl

/-- The array's row of a block's row. -/
abbrev row (t : Fin cfg0.N) (r : Fin 1024) : Fin 2048 :=
  ⟨t.val * 1024 + r.val, by have := lt_of_lt_of_eq t.isLt N_0; omega⟩

theorem read_w (c : Dev nD) (t : Fin cfg0.N) (r : Fin 1024) (d : Fin 512) : iblk m c 0 t (ix2 r d) = flat (aW m c) (ix2 (row t r) d) := by
  blk_simp [iblk, place t]
  rw [entry_w]
  exact congrArg (flat (aW m c)) (by blk_ext [place t])

theorem read_g (c : Dev nD) (t : Fin cfg0.N) (r : Fin 1024) (d : Fin 512) : iblk m c 1 t (ix2 r d) = flat (aG m c) (ix2 (row t r) d) := by
  blk_simp [iblk, place t]
  rw [entry_g]
  exact congrArg (flat (aG m c)) (by blk_ext [place t])

theorem read_m (c : Dev nD) (t : Fin cfg0.N) (r : Fin 1024) (d : Fin 512) : iblk m c 2 t (ix2 r d) = flat (aM m c) (ix2 (row t r) d) := by
  blk_simp [iblk, place t]
  rw [entry_m]
  exact congrArg (flat (aM m c)) (by blk_ext [place t])

theorem read_v (c : Dev nD) (t : Fin cfg0.N) (r : Fin 1024) (d : Fin 512) : iblk m c 3 t (ix2 r d) = flat (aV m c) (ix2 (row t r) d) := by
  blk_simp [iblk, place t]
  rw [entry_v]
  exact congrArg (flat (aV m c)) (by blk_ext [place t])

/-- What is added to the gradient is zero. -/
theorem read_zero (c : Dev nD) (t : Fin cfg0.N) (j) : iblk m c 4 t j = (0 : EReal) := by
  blk_simp [iblk, place t]
  rw [entry_zero]
  simp [Ideal.ofBits, Ideal.ieee]

theorem first_apply (g : Vec Ideal S1024x512 .f32) (z : Vec Ideal S1x1 .f32) (q : Vec Ideal S1024x512 .f32) (r : Fin 1024) (d : Fin 512) :
    k0_pay2 g z q (ix2 r d) = first (g (ix2 r d) + z (ix2 0 0)) (q (ix2 r d)) := by
  unfold first
  pointwise [k0_pay2, k0_pay1]

theorem second_apply (g : Vec Ideal S1024x512 .f32) (z : Vec Ideal S1x1 .f32) (q : Vec Ideal S1024x512 .f32) (r : Fin 1024) (d : Fin 512) :
    k0_pay3 g z q (ix2 r d) = second (g (ix2 r d) + z (ix2 0 0)) (q (ix2 r d)) := by
  unfold second
  pointwise [k0_pay3, k0_pay1]

theorem delta_apply (g : Vec Ideal S1024x512 .f32) (z : Vec Ideal S1x1 .f32) (q p w : Vec Ideal S1024x512 .f32) (r : Fin 1024) (d : Fin 512) :
    k0_pay4 g z q p w (ix2 r d) = delta (w (ix2 r d)) (g (ix2 r d) + z (ix2 0 0)) (q (ix2 r d)) (p (ix2 r d)) := by
  unfold delta first second
  pointwise [k0_pay4, k0_pay3, k0_pay2, k0_pay1]

theorem final_delta (c : Dev nD) : (dats m 0 c).arrAt 5 (cfgs 0).N = deltas (aW m c) (aG m c) (aM m c) (aV m c) := by
  refine (dats m 0 c).arrAt_eq_of_covers 5 _ (by decide +kernel) fun t hf y => ?_
  blk_simp
  rw [after0_5]
  obtain ⟨r, d, rfl⟩ : ∃ (r : Fin 1024) (d : Fin 512), y = ix2 r d := ⟨y 0, y 1, by blk_ext⟩
  have e : (win0_5.blk t).view.emb (ix2 r d) = ix2 (row t r) d := by blk_ext [place t]
  frame_out
  exact (delta_apply _ _ _ _ _ r d).trans ((delta_at (read_w m c t r d) (read_g m c t r d) (read_zero m c t _)
    (read_m m c t r d) (read_v m c t r d)).trans (congrArg (deltas (aW m c) (aG m c) (aM m c) (aV m c)) e).symm)

theorem final_first (c : Dev nD) : (dats m 0 c).arrAt 6 (cfgs 0).N = firsts (aG m c) (aM m c) := by
  refine (dats m 0 c).arrAt_eq_of_covers 6 _ (by decide +kernel) fun t hf y => ?_
  blk_simp
  rw [after0_6]
  obtain ⟨r, d, rfl⟩ : ∃ (r : Fin 1024) (d : Fin 512), y = ix2 r d := ⟨y 0, y 1, by blk_ext⟩
  have e : (win0_6.blk t).view.emb (ix2 r d) = ix2 (row t r) d := by blk_ext [place t]
  frame_out
  exact (first_apply _ _ _ r d).trans ((first_at (read_g m c t r d) (read_zero m c t _) (read_m m c t r d)).trans
    (congrArg (firsts (aG m c) (aM m c)) e).symm)

theorem final_second (c : Dev nD) : (dats m 0 c).arrAt 7 (cfgs 0).N = seconds (aG m c) (aV m c) := by
  refine (dats m 0 c).arrAt_eq_of_covers 7 _ (by decide +kernel) fun t hf y => ?_
  blk_simp
  rw [after0_7]
  obtain ⟨r, d, rfl⟩ : ∃ (r : Fin 1024) (d : Fin 512), y = ix2 r d := ⟨y 0, y 1, by blk_ext⟩
  have e : (win0_7.blk t).view.emb (ix2 r d) = ix2 (row t r) d := by blk_ext [place t]
  frame_out
  exact (second_apply _ _ _ r d).trans ((second_at (read_g m c t r d) (read_zero m c t _) (read_v m c t r d)).trans
    (congrArg (seconds (aG m c) (aV m c)) e).symm)

/-- The two programs end with equal results. -/
theorem algebraic : Cert.algebraic_StepGluIdeal_StepGluRefIdeal := fun m g m' g' _ hagree =>
  ⟨fun c => deltas (aW m c) (aG m c) (aM m c) (aV m c), fun c => firsts (aG m c) (aM m c), fun c => seconds (aG m c) (aV m c),
    (θ_run defs _ _).mono (fun _ h c => ⟨(h c).1.trans (final_delta m c), (h c).2.1.trans (final_first m c),
      (h c).2.2.1.trans (final_second m c), (h c).2.2.2⟩) (Cert.StepGluIdeal.Value.run_blocks m g),
    (θ_run Cert.StepGluRefIdeal.defs _ _).mono (fun _ h c =>
      have e := hagree c
      ⟨(h c).1.trans (by rw [e.1, e.2.1, e.2.2.1, e.2.2.2]; rfl), (h c).2.1.trans (by rw [e.2.1, e.2.2.1]; rfl),
        (h c).2.2.1.trans (by rw [e.2.1, e.2.2.2]; rfl), (h c).2.2.2⟩) (Cert.StepGluRefIdeal.Value.run m' g')⟩

end Cert.StepGluIdeal.Step
-- ==== Proof.StepSqValue.lean ====
/- The optimiser's step of the two mixers' last weights: the call walks the weight, its leading axes as one, in blocks of rows, and
   every element of the change and of the two moments is the step of that element. -/
module

public import proofs.«01_k».proof.Proof.Gen.StepSqIdeal.Value
public import proofs.«01_k».proof.Proof.Gen.StepSqRefIdeal.Run
public import proofs.«01_k».proof.Proof.Adam
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Adam

namespace Cert.StepSqIdeal.Step

open Cert.StepSqIdeal Cert.StepSqIdeal.Gen

variable (m : (ℓ : Loc nD τ sig) → Buf (Elt Ideal) ℓ)

abbrev aW (c : Dev nD) : FVec Ideal S2x256x1024 .f32 := m ((c : Thread nD τ).loc main_arg0)
abbrev aG (c : Dev nD) : FVec Ideal S2x256x1024 .f32 := m ((c : Thread nD τ).loc main_arg1)
abbrev aM (c : Dev nD) : FVec Ideal S2x256x1024 .f32 := m ((c : Thread nD τ).loc main_arg2)
abbrev aV (c : Dev nD) : FVec Ideal S2x256x1024 .f32 := m ((c : Thread nD τ).loc main_arg3)

/-- The weight's leading axes as one. -/
def flat (w : FVec Ideal S2x256x1024 .f32) : FVec Ideal S512x1024 .f32 := shapeCast S512x1024 w shapeCasts_S2x256x1024_S512x1024

/-- The three results, element by element. -/
def firsts (g q : FVec Ideal S2x256x1024 .f32) : FVec Ideal S512x1024 .f32 := fun j => first (flat g j) (flat q j)
def seconds (g q : FVec Ideal S2x256x1024 .f32) : FVec Ideal S512x1024 .f32 := fun j => second (flat g j) (flat q j)
def deltas (w g q p : FVec Ideal S2x256x1024 .f32) : FVec Ideal S512x1024 .f32 :=
  fun j => delta (flat w j) (flat g j) (flat q j) (flat p j)

/-- Where the windows stand at a grid point. -/
theorem place : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] :=
  (by decide +kernel : ∀ t : Fin grid0.N, _)

theorem entry_w (c : Dev nD) : V m c main_v0 = flat (aW m c) := by
  entry_read
  rfl

theorem entry_g (c : Dev nD) : V m c main_v1 = flat (aG m c) := by
  entry_read
  rfl

theorem entry_m (c : Dev nD) : V m c main_v2 = flat (aM m c) := by
  entry_read
  rfl

theorem entry_v (c : Dev nD) : V m c main_v3 = flat (aV m c) := by
  entry_read
  rfl

theorem entry_zero (c : Dev nD) : V m c main_v4 = fun _ => Ideal.ofBits .f32 0x00000000#32 := by
  entry_read
  rfl

/-- The array's row of a block's row. -/
abbrev row (t : Fin cfg0.N) (r : Fin 512) : Fin 512 :=
  ⟨t.val * 512 + r.val, by have := lt_of_lt_of_eq t.isLt N_0; omega⟩

theorem read_w (c : Dev nD) (t : Fin cfg0.N) (r : Fin 512) (d : Fin 1024) : iblk m c 0 t (ix2 r d) = flat (aW m c) (ix2 (row t r) d) := by
  blk_simp [iblk, place t]
  rw [entry_w]
  exact congrArg (flat (aW m c)) (by blk_ext [place t])

theorem read_g (c : Dev nD) (t : Fin cfg0.N) (r : Fin 512) (d : Fin 1024) : iblk m c 1 t (ix2 r d) = flat (aG m c) (ix2 (row t r) d) := by
  blk_simp [iblk, place t]
  rw [entry_g]
  exact congrArg (flat (aG m c)) (by blk_ext [place t])

theorem read_m (c : Dev nD) (t : Fin cfg0.N) (r : Fin 512) (d : Fin 1024) : iblk m c 2 t (ix2 r d) = flat (aM m c) (ix2 (row t r) d) := by
  blk_simp [iblk, place t]
  rw [entry_m]
  exact congrArg (flat (aM m c)) (by blk_ext [place t])

theorem read_v (c : Dev nD) (t : Fin cfg0.N) (r : Fin 512) (d : Fin 1024) : iblk m c 3 t (ix2 r d) = flat (aV m c) (ix2 (row t r) d) := by
  blk_simp [iblk, place t]
  rw [entry_v]
  exact congrArg (flat (aV m c)) (by blk_ext [place t])

/-- What is added to the gradient is zero. -/
theorem read_zero (c : Dev nD) (t : Fin cfg0.N) (j) : iblk m c 4 t j = (0 : EReal) := by
  blk_simp [iblk, place t]
  rw [entry_zero]
  simp [Ideal.ofBits, Ideal.ieee]

theorem first_apply (g : Vec Ideal S512x1024 .f32) (z : Vec Ideal S1x1 .f32) (q : Vec Ideal S512x1024 .f32) (r : Fin 512) (d : Fin 1024) :
    k0_pay2 g z q (ix2 r d) = first (g (ix2 r d) + z (ix2 0 0)) (q (ix2 r d)) := by
  unfold first
  pointwise [k0_pay2, k0_pay1]

theorem second_apply (g : Vec Ideal S512x1024 .f32) (z : Vec Ideal S1x1 .f32) (q : Vec Ideal S512x1024 .f32) (r : Fin 512) (d : Fin 1024) :
    k0_pay3 g z q (ix2 r d) = second (g (ix2 r d) + z (ix2 0 0)) (q (ix2 r d)) := by
  unfold second
  pointwise [k0_pay3, k0_pay1]

theorem delta_apply (g : Vec Ideal S512x1024 .f32) (z : Vec Ideal S1x1 .f32) (q p w : Vec Ideal S512x1024 .f32) (r : Fin 512) (d : Fin 1024) :
    k0_pay4 g z q p w (ix2 r d) = delta (w (ix2 r d)) (g (ix2 r d) + z (ix2 0 0)) (q (ix2 r d)) (p (ix2 r d)) := by
  unfold delta first second
  pointwise [k0_pay4, k0_pay3, k0_pay2, k0_pay1]

theorem final_delta (c : Dev nD) : (dats m 0 c).arrAt 5 (cfgs 0).N = deltas (aW m c) (aG m c) (aM m c) (aV m c) := by
  refine (dats m 0 c).arrAt_eq_of_covers 5 _ (by decide +kernel) fun t hf y => ?_
  blk_simp
  rw [after0_5]
  obtain ⟨r, d, rfl⟩ : ∃ (r : Fin 512) (d : Fin 1024), y = ix2 r d := ⟨y 0, y 1, by blk_ext⟩
  have e : (win0_5.blk t).view.emb (ix2 r d) = ix2 (row t r) d := by blk_ext [place t]
  frame_out
  exact (delta_apply _ _ _ _ _ r d).trans ((delta_at (read_w m c t r d) (read_g m c t r d) (read_zero m c t _)
    (read_m m c t r d) (read_v m c t r d)).trans (congrArg (deltas (aW m c) (aG m c) (aM m c) (aV m c)) e).symm)

theorem final_first (c : Dev nD) : (dats m 0 c).arrAt 6 (cfgs 0).N = firsts (aG m c) (aM m c) := by
  refine (dats m 0 c).arrAt_eq_of_covers 6 _ (by decide +kernel) fun t hf y => ?_
  blk_simp
  rw [after0_6]
  obtain ⟨r, d, rfl⟩ : ∃ (r : Fin 512) (d : Fin 1024), y = ix2 r d := ⟨y 0, y 1, by blk_ext⟩
  have e : (win0_6.blk t).view.emb (ix2 r d) = ix2 (row t r) d := by blk_ext [place t]
  frame_out
  exact (first_apply _ _ _ r d).trans ((first_at (read_g m c t r d) (read_zero m c t _) (read_m m c t r d)).trans
    (congrArg (firsts (aG m c) (aM m c)) e).symm)

theorem final_second (c : Dev nD) : (dats m 0 c).arrAt 7 (cfgs 0).N = seconds (aG m c) (aV m c) := by
  refine (dats m 0 c).arrAt_eq_of_covers 7 _ (by decide +kernel) fun t hf y => ?_
  blk_simp
  rw [after0_7]
  obtain ⟨r, d, rfl⟩ : ∃ (r : Fin 512) (d : Fin 1024), y = ix2 r d := ⟨y 0, y 1, by blk_ext⟩
  have e : (win0_7.blk t).view.emb (ix2 r d) = ix2 (row t r) d := by blk_ext [place t]
  frame_out
  exact (second_apply _ _ _ r d).trans ((second_at (read_g m c t r d) (read_zero m c t _) (read_v m c t r d)).trans
    (congrArg (seconds (aG m c) (aV m c)) e).symm)

/-- The two programs end with equal results. -/
theorem algebraic : Cert.algebraic_StepSqIdeal_StepSqRefIdeal := fun m g m' g' _ hagree =>
  ⟨fun c => deltas (aW m c) (aG m c) (aM m c) (aV m c), fun c => firsts (aG m c) (aM m c), fun c => seconds (aG m c) (aV m c),
    (θ_run defs _ _).mono (fun _ h c => ⟨(h c).1.trans (final_delta m c), (h c).2.1.trans (final_first m c),
      (h c).2.2.1.trans (final_second m c), (h c).2.2.2⟩) (Cert.StepSqIdeal.Value.run_blocks m g),
    (θ_run Cert.StepSqRefIdeal.defs _ _).mono (fun _ h c =>
      have e := hagree c
      ⟨(h c).1.trans (by rw [e.1, e.2.1, e.2.2.1, e.2.2.2]; rfl), (h c).2.1.trans (by rw [e.2.1, e.2.2.1]; rfl),
        (h c).2.2.1.trans (by rw [e.2.1, e.2.2.2]; rfl), (h c).2.2.2⟩) (Cert.StepSqRefIdeal.Value.run m' g')⟩

end Cert.StepSqIdeal.Step
-- ==== Proof.StepDnValue.lean ====
/- The optimiser's step of the delta rule's first weights: the call walks the weight, its leading axes as one, in blocks of rows, and
   every element of the change and of the two moments is the step of that element. -/
module

public import proofs.«01_k».proof.Proof.Gen.StepDnIdeal.Value
public import proofs.«01_k».proof.Proof.Gen.StepDnRefIdeal.Run
public import proofs.«01_k».proof.Proof.Adam
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.Adam

namespace Cert.StepDnIdeal.Step

open Cert.StepDnIdeal Cert.StepDnIdeal.Gen

variable (m : (ℓ : Loc nD τ sig) → Buf (Elt Ideal) ℓ)

abbrev aW (c : Dev nD) : FVec Ideal S2x1024x1028 .f32 := m ((c : Thread nD τ).loc main_arg0)
abbrev aG (c : Dev nD) : FVec Ideal S2x1024x1028 .f32 := m ((c : Thread nD τ).loc main_arg1)
abbrev aM (c : Dev nD) : FVec Ideal S2x1024x1028 .f32 := m ((c : Thread nD τ).loc main_arg2)
abbrev aV (c : Dev nD) : FVec Ideal S2x1024x1028 .f32 := m ((c : Thread nD τ).loc main_arg3)

/-- The weight's leading axes as one. -/
def flat (w : FVec Ideal S2x1024x1028 .f32) : FVec Ideal S2048x1028 .f32 := shapeCast S2048x1028 w shapeCasts_S2x1024x1028_S2048x1028

/-- The three results, element by element. -/
def firsts (g q : FVec Ideal S2x1024x1028 .f32) : FVec Ideal S2048x1028 .f32 := fun j => first (flat g j) (flat q j)
def seconds (g q : FVec Ideal S2x1024x1028 .f32) : FVec Ideal S2048x1028 .f32 := fun j => second (flat g j) (flat q j)
def deltas (w g q p : FVec Ideal S2x1024x1028 .f32) : FVec Ideal S2048x1028 .f32 :=
  fun j => delta (flat w j) (flat g j) (flat q j) (flat p j)

/-- Where the windows stand at a grid point. -/
theorem place : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] :=
  (by decide +kernel : ∀ t : Fin grid0.N, _)

theorem entry_w (c : Dev nD) : V m c main_v0 = flat (aW m c) := by
  entry_read
  rfl

theorem entry_g (c : Dev nD) : V m c main_v1 = flat (aG m c) := by
  entry_read
  rfl

theorem entry_m (c : Dev nD) : V m c main_v2 = flat (aM m c) := by
  entry_read
  rfl

theorem entry_v (c : Dev nD) : V m c main_v3 = flat (aV m c) := by
  entry_read
  rfl

theorem entry_zero (c : Dev nD) : V m c main_v4 = fun _ => Ideal.ofBits .f32 0x00000000#32 := by
  entry_read
  rfl

/-- The array's row of a block's row. -/
abbrev row (t : Fin cfg0.N) (r : Fin 256) : Fin 2048 :=
  ⟨t.val * 256 + r.val, by have := lt_of_lt_of_eq t.isLt N_0; omega⟩

theorem read_w (c : Dev nD) (t : Fin cfg0.N) (r : Fin 256) (d : Fin 1028) : iblk m c 0 t (ix2 r d) = flat (aW m c) (ix2 (row t r) d) := by
  blk_simp [iblk, place t]
  rw [entry_w]
  exact congrArg (flat (aW m c)) (by blk_ext [place t])

theorem read_g (c : Dev nD) (t : Fin cfg0.N) (r : Fin 256) (d : Fin 1028) : iblk m c 1 t (ix2 r d) = flat (aG m c) (ix2 (row t r) d) := by
  blk_simp [iblk, place t]
  rw [entry_g]
  exact congrArg (flat (aG m c)) (by blk_ext [place t])

theorem read_m (c : Dev nD) (t : Fin cfg0.N) (r : Fin 256) (d : Fin 1028) : iblk m c 2 t (ix2 r d) = flat (aM m c) (ix2 (row t r) d) := by
  blk_simp [iblk, place t]
  rw [entry_m]
  exact congrArg (flat (aM m c)) (by blk_ext [place t])

theorem read_v (c : Dev nD) (t : Fin cfg0.N) (r : Fin 256) (d : Fin 1028) : iblk m c 3 t (ix2 r d) = flat (aV m c) (ix2 (row t r) d) := by
  blk_simp [iblk, place t]
  rw [entry_v]
  exact congrArg (flat (aV m c)) (by blk_ext [place t])

/-- What is added to the gradient is zero. -/
theorem read_zero (c : Dev nD) (t : Fin cfg0.N) (j) : iblk m c 4 t j = (0 : EReal) := by
  blk_simp [iblk, place t]
  rw [entry_zero]
  simp [Ideal.ofBits, Ideal.ieee]

theorem first_apply (g : Vec Ideal S256x1028 .f32) (z : Vec Ideal S1x1 .f32) (q : Vec Ideal S256x1028 .f32) (r : Fin 256) (d : Fin 1028) :
    k0_pay2 g z q (ix2 r d) = first (g (ix2 r d) + z (ix2 0 0)) (q (ix2 r d)) := by
  unfold first
  pointwise [k0_pay2, k0_pay1]

theorem second_apply (g : Vec Ideal S256x1028 .f32) (z : Vec Ideal S1x1 .f32) (q : Vec Ideal S256x1028 .f32) (r : Fin 256) (d : Fin 1028) :
    k0_pay3 g z q (ix2 r d) = second (g (ix2 r d) + z (ix2 0 0)) (q (ix2 r d)) := by
  unfold second
  pointwise [k0_pay3, k0_pay1]

theorem delta_apply (g : Vec Ideal S256x1028 .f32) (z : Vec Ideal S1x1 .f32) (q p w : Vec Ideal S256x1028 .f32) (r : Fin 256) (d : Fin 1028) :
    k0_pay4 g z q p w (ix2 r d) = delta (w (ix2 r d)) (g (ix2 r d) + z (ix2 0 0)) (q (ix2 r d)) (p (ix2 r d)) := by
  unfold delta first second
  pointwise [k0_pay4, k0_pay3, k0_pay2, k0_pay1]

theorem final_delta (c : Dev nD) : (dats m 0 c).arrAt 5 (cfgs 0).N = deltas (aW m c) (aG m c) (aM m c) (aV m c) := by
  refine (dats m 0 c).arrAt_eq_of_covers 5 _ (by decide +kernel) fun t hf y => ?_
  blk_simp
  rw [after0_5]
  obtain ⟨r, d, rfl⟩ : ∃ (r : Fin 256) (d : Fin 1028), y = ix2 r d := ⟨y 0, y 1, by blk_ext⟩
  have e : (win0_5.blk t).view.emb (ix2 r d) = ix2 (row t r) d := by blk_ext [place t]
  frame_out
  exact (delta_apply _ _ _ _ _ r d).trans ((delta_at (read_w m c t r d) (read_g m c t r d) (read_zero m c t _)
    (read_m m c t r d) (read_v m c t r d)).trans (congrArg (deltas (aW m c) (aG m c) (aM m c) (aV m c)) e).symm)

theorem final_first (c : Dev nD) : (dats m 0 c).arrAt 6 (cfgs 0).N = firsts (aG m c) (aM m c) := by
  refine (dats m 0 c).arrAt_eq_of_covers 6 _ (by decide +kernel) fun t hf y => ?_
  blk_simp
  rw [after0_6]
  obtain ⟨r, d, rfl⟩ : ∃ (r : Fin 256) (d : Fin 1028), y = ix2 r d := ⟨y 0, y 1, by blk_ext⟩
  have e : (win0_6.blk t).view.emb (ix2 r d) = ix2 (row t r) d := by blk_ext [place t]
  frame_out
  exact (first_apply _ _ _ r d).trans ((first_at (read_g m c t r d) (read_zero m c t _) (read_m m c t r d)).trans
    (congrArg (firsts (aG m c) (aM m c)) e).symm)

theorem final_second (c : Dev nD) : (dats m 0 c).arrAt 7 (cfgs 0).N = seconds (aG m c) (aV m c) := by
  refine (dats m 0 c).arrAt_eq_of_covers 7 _ (by decide +kernel) fun t hf y => ?_
  blk_simp
  rw [after0_7]
  obtain ⟨r, d, rfl⟩ : ∃ (r : Fin 256) (d : Fin 1028), y = ix2 r d := ⟨y 0, y 1, by blk_ext⟩
  have e : (win0_7.blk t).view.emb (ix2 r d) = ix2 (row t r) d := by blk_ext [place t]
  frame_out
  exact (second_apply _ _ _ r d).trans ((second_at (read_g m c t r d) (read_zero m c t _) (read_v m c t r d)).trans
    (congrArg (seconds (aG m c) (aV m c)) e).symm)

/-- The two programs end with equal results. -/
theorem algebraic : Cert.algebraic_StepDnIdeal_StepDnRefIdeal := fun m g m' g' _ hagree =>
  ⟨fun c => deltas (aW m c) (aG m c) (aM m c) (aV m c), fun c => firsts (aG m c) (aM m c), fun c => seconds (aG m c) (aV m c),
    (θ_run defs _ _).mono (fun _ h c => ⟨(h c).1.trans (final_delta m c), (h c).2.1.trans (final_first m c),
      (h c).2.2.1.trans (final_second m c), (h c).2.2.2⟩) (Cert.StepDnIdeal.Value.run_blocks m g),
    (θ_run Cert.StepDnRefIdeal.defs _ _).mono (fun _ h c =>
      have e := hagree c
      ⟨(h c).1.trans (by rw [e.1, e.2.1, e.2.2.1, e.2.2.2]; rfl), (h c).2.1.trans (by rw [e.2.1, e.2.2.1]; rfl),
        (h c).2.2.1.trans (by rw [e.2.1, e.2.2.2]; rfl), (h c).2.2.2⟩) (Cert.StepDnRefIdeal.Value.run m' g')⟩

end Cert.StepDnIdeal.Step
-- ==== Proof.SmallPack.lean ====
/- The small weights laid end to end: one array of 592 rows of 128, zeros after the last weight, and each weight read
   back out of it. -/
module

public import proofs.«01_k».proof.Proof.Gen.StepSmallIdeal.Frame
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.StepSmallIdeal.Pack

open Cert.StepSmallIdeal Cert.StepSmallIdeal.Gen

/-- One piece of a concatenation of vectors, padded at its end, cut out again. -/
theorem piece {α : Type} {n total padded off hi : Nat} (xs : List ((s : Shape) × (s.Idx → α)))
    (h : Shape.Concatenates (xs.map (·.1)) ⟨1, ![total]⟩ 0) {u : Shape} (v : u.Idx → α) (hu : 0 < u.numel)
    (hp : (⟨1, ![total]⟩ : Shape).Pads (![0] : Fin 1 → Nat) ![hi] ![0] ⟨1, ![padded]⟩)
    (hs : (⟨1, ![padded]⟩ : Shape).Slices ![off] ⟨1, ![n]⟩) (x : (⟨1, ![n]⟩ : Shape).Idx → α)
    (k : Nat) (hk : k < xs.length) (hx : xs[k] = ⟨⟨1, ![n]⟩, x⟩) (ss : List Shape) (hss : xs.map (·.1) = ss)
    (hpre : ((ss.take k).map fun s => if e : s.rank = 1 then s.size ((0 : Fin 1).cast e.symm) else 0).sum = off)
    (ht : off + n ≤ total) (htp : total ≤ padded) :
    extractStridedSlice ⟨1, ![n]⟩ ![off] (pad ⟨1, ![padded]⟩ ![0] ![hi] ![0] (concatenate ⟨1, ![total]⟩ 0 xs h) v hp hu) hs = x := by
  funext j
  obtain ⟨i, rfl⟩ : ∃ i : Fin n, j = ix1 i := ⟨j 0, by funext a; have : a = 0 := Subsingleton.elim _ _; subst this; rfl⟩
  have hi' : off + i.val < total := by have := i.isLt; omega
  refine (extractStridedSlice_apply _ _ hs (ix1 i) (ix1 (⟨off + i.val, by omega⟩ : Fin padded)) (by
    intro a; have ha : a = 0 := Subsingleton.elim _ _; subst ha; rfl)).trans ?_
  refine (pad_apply_of_inside _ _ _ _ v hp hu _ (ix1 (⟨off + i.val, hi'⟩ : Fin total)) (by
    intro a; have ha : a = 0 := Subsingleton.elim _ _; subst ha
    show off + i.val = 0 + (off + i.val) * (0 + 1); omega)).trans ?_
  exact concatenate_apply_piece 0 xs h _ k hk _ x hx rfl off (by rw [List.map_take, hss]; exact hpre) (ix1 i)
    (fun b hb => absurd (Subsingleton.elim _ _) hb) rfl

/-- Their extents. -/
abbrev parts : List Shape := [S3072, S36864, S4096, S15872, S2048, S2048, S2048, S2048, S6144, S16, S16, S256, S1024]

/-- The pieces, each as one vector. -/
abbrev pieces (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : List ((s : Shape) × (s.Idx → EReal)) :=
  [⟨S3072, shapeCast S3072 x0 shapeCasts_S4x3x256_S3072⟩, ⟨S36864, shapeCast S36864 x1 shapeCasts_S4x9216_S36864⟩, ⟨S4096, shapeCast S4096 x2 shapeCasts_S2x2048_S4096⟩, ⟨S15872, shapeCast S15872 x3 shapeCasts_S2x31x256_S15872⟩, ⟨S2048, shapeCast S2048 x4 shapeCasts_S2x1024_S2048⟩, ⟨S2048, shapeCast S2048 x5 shapeCasts_S2x1024_S2048⟩, ⟨S2048, shapeCast S2048 x6 shapeCasts_S2x1024_S2048⟩, ⟨S2048, shapeCast S2048 x7 shapeCasts_S2x1024_S2048⟩, ⟨S6144, shapeCast S6144 x8 shapeCasts_S2x4x768_S6144⟩, ⟨S16, shapeCast S16 x9 shapeCasts_S2x8_S16⟩, ⟨S16, shapeCast S16 x10 shapeCasts_S2x8_S16⟩, ⟨S256, shapeCast S256 x11 shapeCasts_S2x128_S256⟩, ⟨S1024, x12⟩]

/-- The weights laid end to end. -/
def pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : FVec Ideal S592x128 .f32 :=
  shapeCast S592x128 (pad S75776 ![0] ![224] ![0] (concatenate S75552 0 (pieces x0 x1 x2 x3 x4 x5 x6 x7 x8 x9 x10 x11 x12) concatenates_S3072_S36864_S4096_S15872_S2048_S2048_S2048_S2048_S6144_S16_S16_S256_S1024_S75552_d0)
    (sitofp (F := Ideal) .f32 (constantI S_ 32 0#32)) pads_S75552_S75776_02240 h_S_) shapeCasts_S75776_S592x128

/-- The array's part number 0. -/
def out0 (a : FVec Ideal S592x128 .f32) : FVec Ideal S4x3x256 .f32 :=
  shapeCast S4x3x256 (extractStridedSlice S3072 ![0] (shapeCast S75776 a shapeCasts_S592x128_S75776) slices_S75776_S3072_0) shapeCasts_S3072_S4x3x256

theorem out0_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out0 (pack x0 x1 x2 x3 x4 x5 x6 x7 x8 x9 x10 x11 x12) = x0 := by
  unfold out0 pack
  rw [shapeCast_shapeCast]
  exact (congrArg (fun u => shapeCast S4x3x256 u shapeCasts_S3072_S4x3x256) (piece (pieces x0 x1 x2 x3 x4 x5 x6 x7 x8 x9 x10 x11 x12) _ _ h_S_ pads_S75552_S75776_02240 slices_S75776_S3072_0 (shapeCast S3072 x0 shapeCasts_S4x3x256_S3072) 0 (by show 0 < 13; decide) rfl parts rfl (by decide +kernel) (by omega) (by omega))).trans (shapeCast_shapeCast _ _ _)

/-- The array's part number 1. -/
def out1 (a : FVec Ideal S592x128 .f32) : FVec Ideal S4x9216 .f32 :=
  shapeCast S4x9216 (extractStridedSlice S36864 ![3072] (shapeCast S75776 a shapeCasts_S592x128_S75776) slices_S75776_S36864_3072) shapeCasts_S36864_S4x9216

theorem out1_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out1 (pack x0 x1 x2 x3 x4 x5 x6 x7 x8 x9 x10 x11 x12) = x1 := by
  unfold out1 pack
  rw [shapeCast_shapeCast]
  exact (congrArg (fun u => shapeCast S4x9216 u shapeCasts_S36864_S4x9216) (piece (pieces x0 x1 x2 x3 x4 x5 x6 x7 x8 x9 x10 x11 x12) _ _ h_S_ pads_S75552_S75776_02240 slices_S75776_S36864_3072 (shapeCast S36864 x1 shapeCasts_S4x9216_S36864) 1 (by show 1 < 13; decide) rfl parts rfl (by decide +kernel) (by omega) (by omega))).trans (shapeCast_shapeCast _ _ _)

/-- The array's part number 2. -/
def out2 (a : FVec Ideal S592x128 .f32) : FVec Ideal S2x2048 .f32 :=
  shapeCast S2x2048 (extractStridedSlice S4096 ![39936] (shapeCast S75776 a shapeCasts_S592x128_S75776) slices_S75776_S4096_39936) shapeCasts_S4096_S2x2048

theorem out2_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out2 (pack x0 x1 x2 x3 x4 x5 x6 x7 x8 x9 x10 x11 x12) = x2 := by
  unfold out2 pack
  rw [shapeCast_shapeCast]
  exact (congrArg (fun u => shapeCast S2x2048 u shapeCasts_S4096_S2x2048) (piece (pieces x0 x1 x2 x3 x4 x5 x6 x7 x8 x9 x10 x11 x12) _ _ h_S_ pads_S75552_S75776_02240 slices_S75776_S4096_39936 (shapeCast S4096 x2 shapeCasts_S2x2048_S4096) 2 (by show 2 < 13; decide) rfl parts rfl (by decide +kernel) (by omega) (by omega))).trans (shapeCast_shapeCast _ _ _)

/-- The array's part number 3. -/
def out3 (a : FVec Ideal S592x128 .f32) : FVec Ideal S2x31x256 .f32 :=
  shapeCast S2x31x256 (extractStridedSlice S15872 ![44032] (shapeCast S75776 a shapeCasts_S592x128_S75776) slices_S75776_S15872_44032) shapeCasts_S15872_S2x31x256

theorem out3_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out3 (pack x0 x1 x2 x3 x4 x5 x6 x7 x8 x9 x10 x11 x12) = x3 := by
  unfold out3 pack
  rw [shapeCast_shapeCast]
  exact (congrArg (fun u => shapeCast S2x31x256 u shapeCasts_S15872_S2x31x256) (piece (pieces x0 x1 x2 x3 x4 x5 x6 x7 x8 x9 x10 x11 x12) _ _ h_S_ pads_S75552_S75776_02240 slices_S75776_S15872_44032 (shapeCast S15872 x3 shapeCasts_S2x31x256_S15872) 3 (by show 3 < 13; decide) rfl parts rfl (by decide +kernel) (by omega) (by omega))).trans (shapeCast_shapeCast _ _ _)

/-- The array's part number 4. -/
def out4 (a : FVec Ideal S592x128 .f32) : FVec Ideal S2x1024 .f32 :=
  shapeCast S2x1024 (extractStridedSlice S2048 ![59904] (shapeCast S75776 a shapeCasts_S592x128_S75776) slices_S75776_S2048_59904) shapeCasts_S2048_S2x1024

theorem out4_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out4 (pack x0 x1 x2 x3 x4 x5 x6 x7 x8 x9 x10 x11 x12) = x4 := by
  unfold out4 pack
  rw [shapeCast_shapeCast]
  exact (congrArg (fun u => shapeCast S2x1024 u shapeCasts_S2048_S2x1024) (piece (pieces x0 x1 x2 x3 x4 x5 x6 x7 x8 x9 x10 x11 x12) _ _ h_S_ pads_S75552_S75776_02240 slices_S75776_S2048_59904 (shapeCast S2048 x4 shapeCasts_S2x1024_S2048) 4 (by show 4 < 13; decide) rfl parts rfl (by decide +kernel) (by omega) (by omega))).trans (shapeCast_shapeCast _ _ _)

/-- The array's part number 5. -/
def out5 (a : FVec Ideal S592x128 .f32) : FVec Ideal S2x1024 .f32 :=
  shapeCast S2x1024 (extractStridedSlice S2048 ![61952] (shapeCast S75776 a shapeCasts_S592x128_S75776) slices_S75776_S2048_61952) shapeCasts_S2048_S2x1024

theorem out5_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out5 (pack x0 x1 x2 x3 x4 x5 x6 x7 x8 x9 x10 x11 x12) = x5 := by
  unfold out5 pack
  rw [shapeCast_shapeCast]
  exact (congrArg (fun u => shapeCast S2x1024 u shapeCasts_S2048_S2x1024) (piece (pieces x0 x1 x2 x3 x4 x5 x6 x7 x8 x9 x10 x11 x12) _ _ h_S_ pads_S75552_S75776_02240 slices_S75776_S2048_61952 (shapeCast S2048 x5 shapeCasts_S2x1024_S2048) 5 (by show 5 < 13; decide) rfl parts rfl (by decide +kernel) (by omega) (by omega))).trans (shapeCast_shapeCast _ _ _)

/-- The array's part number 6. -/
def out6 (a : FVec Ideal S592x128 .f32) : FVec Ideal S2x1024 .f32 :=
  shapeCast S2x1024 (extractStridedSlice S2048 ![64000] (shapeCast S75776 a shapeCasts_S592x128_S75776) slices_S75776_S2048_64000) shapeCasts_S2048_S2x1024

theorem out6_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out6 (pack x0 x1 x2 x3 x4 x5 x6 x7 x8 x9 x10 x11 x12) = x6 := by
  unfold out6 pack
  rw [shapeCast_shapeCast]
  exact (congrArg (fun u => shapeCast S2x1024 u shapeCasts_S2048_S2x1024) (piece (pieces x0 x1 x2 x3 x4 x5 x6 x7 x8 x9 x10 x11 x12) _ _ h_S_ pads_S75552_S75776_02240 slices_S75776_S2048_64000 (shapeCast S2048 x6 shapeCasts_S2x1024_S2048) 6 (by show 6 < 13; decide) rfl parts rfl (by decide +kernel) (by omega) (by omega))).trans (shapeCast_shapeCast _ _ _)

/-- The array's part number 7. -/
def out7 (a : FVec Ideal S592x128 .f32) : FVec Ideal S2x1024 .f32 :=
  shapeCast S2x1024 (extractStridedSlice S2048 ![66048] (shapeCast S75776 a shapeCasts_S592x128_S75776) slices_S75776_S2048_66048) shapeCasts_S2048_S2x1024

theorem out7_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out7 (pack x0 x1 x2 x3 x4 x5 x6 x7 x8 x9 x10 x11 x12) = x7 := by
  unfold out7 pack
  rw [shapeCast_shapeCast]
  exact (congrArg (fun u => shapeCast S2x1024 u shapeCasts_S2048_S2x1024) (piece (pieces x0 x1 x2 x3 x4 x5 x6 x7 x8 x9 x10 x11 x12) _ _ h_S_ pads_S75552_S75776_02240 slices_S75776_S2048_66048 (shapeCast S2048 x7 shapeCasts_S2x1024_S2048) 7 (by show 7 < 13; decide) rfl parts rfl (by decide +kernel) (by omega) (by omega))).trans (shapeCast_shapeCast _ _ _)

/-- The array's part number 8. -/
def out8 (a : FVec Ideal S592x128 .f32) : FVec Ideal S2x4x768 .f32 :=
  shapeCast S2x4x768 (extractStridedSlice S6144 ![68096] (shapeCast S75776 a shapeCasts_S592x128_S75776) slices_S75776_S6144_68096) shapeCasts_S6144_S2x4x768

theorem out8_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out8 (pack x0 x1 x2 x3 x4 x5 x6 x7 x8 x9 x10 x11 x12) = x8 := by
  unfold out8 pack
  rw [shapeCast_shapeCast]
  exact (congrArg (fun u => shapeCast S2x4x768 u shapeCasts_S6144_S2x4x768) (piece (pieces x0 x1 x2 x3 x4 x5 x6 x7 x8 x9 x10 x11 x12) _ _ h_S_ pads_S75552_S75776_02240 slices_S75776_S6144_68096 (shapeCast S6144 x8 shapeCasts_S2x4x768_S6144) 8 (by show 8 < 13; decide) rfl parts rfl (by decide +kernel) (by omega) (by omega))).trans (shapeCast_shapeCast _ _ _)

/-- The array's part number 9. -/
def out9 (a : FVec Ideal S592x128 .f32) : FVec Ideal S2x8 .f32 :=
  shapeCast S2x8 (extractStridedSlice S16 ![74240] (shapeCast S75776 a shapeCasts_S592x128_S75776) slices_S75776_S16_74240) shapeCasts_S16_S2x8

theorem out9_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out9 (pack x0 x1 x2 x3 x4 x5 x6 x7 x8 x9 x10 x11 x12) = x9 := by
  unfold out9 pack
  rw [shapeCast_shapeCast]
  exact (congrArg (fun u => shapeCast S2x8 u shapeCasts_S16_S2x8) (piece (pieces x0 x1 x2 x3 x4 x5 x6 x7 x8 x9 x10 x11 x12) _ _ h_S_ pads_S75552_S75776_02240 slices_S75776_S16_74240 (shapeCast S16 x9 shapeCasts_S2x8_S16) 9 (by show 9 < 13; decide) rfl parts rfl (by decide +kernel) (by omega) (by omega))).trans (shapeCast_shapeCast _ _ _)

/-- The array's part number 10. -/
def out10 (a : FVec Ideal S592x128 .f32) : FVec Ideal S2x8 .f32 :=
  shapeCast S2x8 (extractStridedSlice S16 ![74256] (shapeCast S75776 a shapeCasts_S592x128_S75776) slices_S75776_S16_74256) shapeCasts_S16_S2x8

theorem out10_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out10 (pack x0 x1 x2 x3 x4 x5 x6 x7 x8 x9 x10 x11 x12) = x10 := by
  unfold out10 pack
  rw [shapeCast_shapeCast]
  exact (congrArg (fun u => shapeCast S2x8 u shapeCasts_S16_S2x8) (piece (pieces x0 x1 x2 x3 x4 x5 x6 x7 x8 x9 x10 x11 x12) _ _ h_S_ pads_S75552_S75776_02240 slices_S75776_S16_74256 (shapeCast S16 x10 shapeCasts_S2x8_S16) 10 (by show 10 < 13; decide) rfl parts rfl (by decide +kernel) (by omega) (by omega))).trans (shapeCast_shapeCast _ _ _)

/-- The array's part number 11. -/
def out11 (a : FVec Ideal S592x128 .f32) : FVec Ideal S2x128 .f32 :=
  shapeCast S2x128 (extractStridedSlice S256 ![74272] (shapeCast S75776 a shapeCasts_S592x128_S75776) slices_S75776_S256_74272) shapeCasts_S256_S2x128

theorem out11_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out11 (pack x0 x1 x2 x3 x4 x5 x6 x7 x8 x9 x10 x11 x12) = x11 := by
  unfold out11 pack
  rw [shapeCast_shapeCast]
  exact (congrArg (fun u => shapeCast S2x128 u shapeCasts_S256_S2x128) (piece (pieces x0 x1 x2 x3 x4 x5 x6 x7 x8 x9 x10 x11 x12) _ _ h_S_ pads_S75552_S75776_02240 slices_S75776_S256_74272 (shapeCast S256 x11 shapeCasts_S2x128_S256) 11 (by show 11 < 13; decide) rfl parts rfl (by decide +kernel) (by omega) (by omega))).trans (shapeCast_shapeCast _ _ _)

/-- The array's part number 12. -/
def out12 (a : FVec Ideal S592x128 .f32) : FVec Ideal S1024 .f32 :=
  extractStridedSlice S1024 ![74528] (shapeCast S75776 a shapeCasts_S592x128_S75776) slices_S75776_S1024_74528

theorem out12_pack (x0 : FVec Ideal S4x3x256 .f32) (x1 : FVec Ideal S4x9216 .f32) (x2 : FVec Ideal S2x2048 .f32) (x3 : FVec Ideal S2x31x256 .f32) (x4 : FVec Ideal S2x1024 .f32) (x5 : FVec Ideal S2x1024 .f32) (x6 : FVec Ideal S2x1024 .f32) (x7 : FVec Ideal S2x1024 .f32) (x8 : FVec Ideal S2x4x768 .f32) (x9 : FVec Ideal S2x8 .f32) (x10 : FVec Ideal S2x8 .f32) (x11 : FVec Ideal S2x128 .f32) (x12 : FVec Ideal S1024 .f32) : out12 (pack x0 x1 x2 x3 x4 x5 x6 x7 x8 x9 x10 x11 x12) = x12 := by
  unfold out12 pack
  rw [shapeCast_shapeCast]
  exact piece (pieces x0 x1 x2 x3 x4 x5 x6 x7 x8 x9 x10 x11 x12) _ _ h_S_ pads_S75552_S75776_02240 slices_S75776_S1024_74528 (x12) 12 (by show 12 < 13; decide) rfl parts rfl (by decide +kernel) (by omega) (by omega)

end Cert.StepSmallIdeal.Pack
-- ==== Proof.SmallCall.lean ====
/- The call on the packed small weights: every element of the change and of the two moments is the step of that
   element. -/
module

public import proofs.«01_k».proof.Proof.Gen.StepSmallIdeal.Frame
public import proofs.«01_k».proof.Proof.SmallPack
public import proofs.«01_k».proof.Proof.Adam
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

open Cert.Adam

namespace Cert.StepSmallIdeal.Pack

open Cert.StepSmallIdeal Cert.StepSmallIdeal.Gen

variable (m : (ℓ : Loc nD τ sig) → Buf (Elt Ideal) ℓ)

abbrev pW (c : Dev nD) : FVec Ideal S592x128 .f32 :=
  pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

abbrev pG (c : Dev nD) : FVec Ideal S592x128 .f32 :=
  pack (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

abbrev pM (c : Dev nD) : FVec Ideal S592x128 .f32 :=
  pack (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38))

abbrev pV (c : Dev nD) : FVec Ideal S592x128 .f32 :=
  pack (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51))

/-- The three results, element by element. -/
abbrev firsts (g q : FVec Ideal S592x128 .f32) : FVec Ideal S592x128 .f32 := fun j => first (g j) (q j)
abbrev seconds (g q : FVec Ideal S592x128 .f32) : FVec Ideal S592x128 .f32 := fun j => second (g j) (q j)
abbrev deltas (w g q p : FVec Ideal S592x128 .f32) : FVec Ideal S592x128 .f32 := fun j => delta (w j) (g j) (q j) (p j)

theorem place : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] :=
  (by decide +kernel : ∀ t : Fin grid0.N, _)

theorem entry_W (c : Dev nD) : V m c main_v14 = pW m c := by
  entry_read
  rfl

theorem entry_G (c : Dev nD) : V m c main_v29 = pG m c := by
  entry_read
  rfl

theorem entry_M (c : Dev nD) : V m c main_v44 = pM m c := by
  entry_read
  rfl

theorem entry_V (c : Dev nD) : V m c main_v59 = pV m c := by
  entry_read
  rfl

theorem entry_zero (c : Dev nD) : V m c main_v60 = fun _ => Ideal.ofBits .f32 0x00000000#32 := by
  entry_read
  rfl

/-- The array's row of a block's row. -/
abbrev row (t : Fin cfg0.N) (r : Fin 592) : Fin 592 :=
  ⟨t.val * 592 + r.val, by have := lt_of_lt_of_eq t.isLt N_0; omega⟩

theorem read_W (c : Dev nD) (t : Fin cfg0.N) (r : Fin 592) (d : Fin 128) : iblk m c 0 t (ix2 r d) = pW m c (ix2 (row t r) d) := by
  blk_simp [iblk, place t]
  rw [entry_W]
  exact congrArg (pW m c) (by blk_ext [place t])

theorem read_G (c : Dev nD) (t : Fin cfg0.N) (r : Fin 592) (d : Fin 128) : iblk m c 1 t (ix2 r d) = pG m c (ix2 (row t r) d) := by
  blk_simp [iblk, place t]
  rw [entry_G]
  exact congrArg (pG m c) (by blk_ext [place t])

theorem read_M (c : Dev nD) (t : Fin cfg0.N) (r : Fin 592) (d : Fin 128) : iblk m c 2 t (ix2 r d) = pM m c (ix2 (row t r) d) := by
  blk_simp [iblk, place t]
  rw [entry_M]
  exact congrArg (pM m c) (by blk_ext [place t])

theorem read_V (c : Dev nD) (t : Fin cfg0.N) (r : Fin 592) (d : Fin 128) : iblk m c 3 t (ix2 r d) = pV m c (ix2 (row t r) d) := by
  blk_simp [iblk, place t]
  rw [entry_V]
  exact congrArg (pV m c) (by blk_ext [place t])

/-- What is added to the gradient is zero. -/
theorem read_zero (c : Dev nD) (t : Fin cfg0.N) (j) : iblk m c 4 t j = (0 : EReal) := by
  blk_simp [iblk, place t]
  rw [entry_zero]
  simp [Ideal.ofBits, Ideal.ieee]

theorem first_apply (g : Vec Ideal S592x128 .f32) (z : Vec Ideal S1x1 .f32) (q : Vec Ideal S592x128 .f32) (r : Fin 592) (d : Fin 128) :
    k0_pay2 g z q (ix2 r d) = first (g (ix2 r d) + z (ix2 0 0)) (q (ix2 r d)) := by
  unfold first
  pointwise [k0_pay2, k0_pay1]

theorem second_apply (g : Vec Ideal S592x128 .f32) (z : Vec Ideal S1x1 .f32) (q : Vec Ideal S592x128 .f32) (r : Fin 592) (d : Fin 128) :
    k0_pay3 g z q (ix2 r d) = second (g (ix2 r d) + z (ix2 0 0)) (q (ix2 r d)) := by
  unfold second
  pointwise [k0_pay3, k0_pay1]

theorem delta_apply (g : Vec Ideal S592x128 .f32) (z : Vec Ideal S1x1 .f32) (q p w : Vec Ideal S592x128 .f32) (r : Fin 592) (d : Fin 128) :
    k0_pay4 g z q p w (ix2 r d) = delta (w (ix2 r d)) (g (ix2 r d) + z (ix2 0 0)) (q (ix2 r d)) (p (ix2 r d)) := by
  unfold delta first second
  pointwise [k0_pay4, k0_pay3, k0_pay2, k0_pay1]

theorem final_delta (c : Dev nD) : (dats m 0 c).arrAt 5 (cfgs 0).N = deltas (pW m c) (pG m c) (pM m c) (pV m c) := by
  refine (dats m 0 c).arrAt_eq_of_covers 5 _ (by decide +kernel) fun t hf y => ?_
  blk_simp
  rw [after0_5]
  obtain ⟨r, d, rfl⟩ : ∃ (r : Fin 592) (d : Fin 128), y = ix2 r d := ⟨y 0, y 1, by blk_ext⟩
  have e : (win0_5.blk t).view.emb (ix2 r d) = ix2 (row t r) d := by blk_ext [place t]
  frame_out
  exact (delta_apply _ _ _ _ _ r d).trans ((delta_at (read_W m c t r d) (read_G m c t r d) (read_zero m c t _)
    (read_M m c t r d) (read_V m c t r d)).trans
    (congrArg (deltas (pW m c) (pG m c) (pM m c) (pV m c)) e).symm)

theorem final_first (c : Dev nD) : (dats m 0 c).arrAt 6 (cfgs 0).N = firsts (pG m c) (pM m c) := by
  refine (dats m 0 c).arrAt_eq_of_covers 6 _ (by decide +kernel) fun t hf y => ?_
  blk_simp
  rw [after0_6]
  obtain ⟨r, d, rfl⟩ : ∃ (r : Fin 592) (d : Fin 128), y = ix2 r d := ⟨y 0, y 1, by blk_ext⟩
  have e : (win0_6.blk t).view.emb (ix2 r d) = ix2 (row t r) d := by blk_ext [place t]
  frame_out
  exact (first_apply _ _ _ r d).trans ((first_at (read_G m c t r d) (read_zero m c t _) (read_M m c t r d)).trans
    (congrArg (firsts (pG m c) (pM m c)) e).symm)

theorem final_second (c : Dev nD) : (dats m 0 c).arrAt 7 (cfgs 0).N = seconds (pG m c) (pV m c) := by
  refine (dats m 0 c).arrAt_eq_of_covers 7 _ (by decide +kernel) fun t hf y => ?_
  blk_simp
  rw [after0_7]
  obtain ⟨r, d, rfl⟩ : ∃ (r : Fin 592) (d : Fin 128), y = ix2 r d := ⟨y 0, y 1, by blk_ext⟩
  have e : (win0_7.blk t).view.emb (ix2 r d) = ix2 (row t r) d := by blk_ext [place t]
  frame_out
  exact (second_apply _ _ _ r d).trans ((second_at (read_G m c t r d) (read_zero m c t _) (read_V m c t r d)).trans
    (congrArg (seconds (pG m c) (pV m c)) e).symm)

end Cert.StepSmallIdeal.Pack
-- ==== Proof.SmallTail.lean ====
/- What the host code after the call reads out of the three packed results. -/
module

public import proofs.«01_k».proof.Proof.Gen.StepSmallIdeal.Frame
public import proofs.«01_k».proof.Proof.SmallPack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.StepSmallIdeal.Pack

open Cert.StepSmallIdeal Cert.StepSmallIdeal.Gen

variable (m : (ℓ : Loc nD τ sig) → Buf (Elt Ideal) ℓ)

theorem tail_0_0 (σ : Valuation τ sig (Elt Ideal)) :
    StableHlo.after (hostOps1 (F := Ideal)) σ (Proc.devRef .tc main_v64) = out0 (σ (Proc.devRef .tc main_v61_0)) := by
  entry_read
  rfl

theorem tail_0_1 (σ : Valuation τ sig (Elt Ideal)) :
    StableHlo.after (hostOps1 (F := Ideal)) σ (Proc.devRef .tc main_v66) = out1 (σ (Proc.devRef .tc main_v61_0)) := by
  entry_read
  rfl

theorem tail_0_2 (σ : Valuation τ sig (Elt Ideal)) :
    StableHlo.after (hostOps1 (F := Ideal)) σ (Proc.devRef .tc main_v68) = out2 (σ (Proc.devRef .tc main_v61_0)) := by
  entry_read
  rfl

theorem tail_0_3 (σ : Valuation τ sig (Elt Ideal)) :
    StableHlo.after (hostOps1 (F := Ideal)) σ (Proc.devRef .tc main_v70) = out3 (σ (Proc.devRef .tc main_v61_0)) := by
  entry_read
  rfl

theorem tail_0_4 (σ : Valuation τ sig (Elt Ideal)) :
    StableHlo.after (hostOps1 (F := Ideal)) σ (Proc.devRef .tc main_v72) = out4 (σ (Proc.devRef .tc main_v61_0)) := by
  entry_read
  rfl

theorem tail_0_5 (σ : Valuation τ sig (Elt Ideal)) :
    StableHlo.after (hostOps1 (F := Ideal)) σ (Proc.devRef .tc main_v74) = out5 (σ (Proc.devRef .tc main_v61_0)) := by
  entry_read
  rfl

theorem tail_0_6 (σ : Valuation τ sig (Elt Ideal)) :
    StableHlo.after (hostOps1 (F := Ideal)) σ (Proc.devRef .tc main_v76) = out6 (σ (Proc.devRef .tc main_v61_0)) := by
  entry_read
  rfl

theorem tail_0_7 (σ : Valuation τ sig (Elt Ideal)) :
    StableHlo.after (hostOps1 (F := Ideal)) σ (Proc.devRef .tc main_v78) = out7 (σ (Proc.devRef .tc main_v61_0)) := by
  entry_read
  rfl

theorem tail_0_8 (σ : Valuation τ sig (Elt Ideal)) :
    StableHlo.after (hostOps1 (F := Ideal)) σ (Proc.devRef .tc main_v80) = out8 (σ (Proc.devRef .tc main_v61_0)) := by
  entry_read
  rfl

theorem tail_0_9 (σ : Valuation τ sig (Elt Ideal)) :
    StableHlo.after (hostOps1 (F := Ideal)) σ (Proc.devRef .tc main_v82) = out9 (σ (Proc.devRef .tc main_v61_0)) := by
  entry_read
  rfl

theorem tail_0_10 (σ : Valuation τ sig (Elt Ideal)) :
    StableHlo.after (hostOps1 (F := Ideal)) σ (Proc.devRef .tc main_v84) = out10 (σ (Proc.devRef .tc main_v61_0)) := by
  entry_read
  rfl

theorem tail_0_11 (σ : Valuation τ sig (Elt Ideal)) :
    StableHlo.after (hostOps1 (F := Ideal)) σ (Proc.devRef .tc main_v86) = out11 (σ (Proc.devRef .tc main_v61_0)) := by
  entry_read
  rfl

theorem tail_0_12 (σ : Valuation τ sig (Elt Ideal)) :
    StableHlo.after (hostOps1 (F := Ideal)) σ (Proc.devRef .tc main_v87) = out12 (σ (Proc.devRef .tc main_v61_0)) := by
  entry_read
  rfl

theorem tail_1_0 (σ : Valuation τ sig (Elt Ideal)) :
    StableHlo.after (hostOps1 (F := Ideal)) σ (Proc.devRef .tc main_v90) = out0 (σ (Proc.devRef .tc main_v61_1)) := by
  entry_read
  rfl

theorem tail_1_1 (σ : Valuation τ sig (Elt Ideal)) :
    StableHlo.after (hostOps1 (F := Ideal)) σ (Proc.devRef .tc main_v92) = out1 (σ (Proc.devRef .tc main_v61_1)) := by
  entry_read
  rfl

theorem tail_1_2 (σ : Valuation τ sig (Elt Ideal)) :
    StableHlo.after (hostOps1 (F := Ideal)) σ (Proc.devRef .tc main_v94) = out2 (σ (Proc.devRef .tc main_v61_1)) := by
  entry_read
  rfl

theorem tail_1_3 (σ : Valuation τ sig (Elt Ideal)) :
    StableHlo.after (hostOps1 (F := Ideal)) σ (Proc.devRef .tc main_v96) = out3 (σ (Proc.devRef .tc main_v61_1)) := by
  entry_read
  rfl

theorem tail_1_4 (σ : Valuation τ sig (Elt Ideal)) :
    StableHlo.after (hostOps1 (F := Ideal)) σ (Proc.devRef .tc main_v98) = out4 (σ (Proc.devRef .tc main_v61_1)) := by
  entry_read
  rfl

theorem tail_1_5 (σ : Valuation τ sig (Elt Ideal)) :
    StableHlo.after (hostOps1 (F := Ideal)) σ (Proc.devRef .tc main_v100) = out5 (σ (Proc.devRef .tc main_v61_1)) := by
  entry_read
  rfl

theorem tail_1_6 (σ : Valuation τ sig (Elt Ideal)) :
    StableHlo.after (hostOps1 (F := Ideal)) σ (Proc.devRef .tc main_v102) = out6 (σ (Proc.devRef .tc main_v61_1)) := by
  entry_read
  rfl

theorem tail_1_7 (σ : Valuation τ sig (Elt Ideal)) :
    StableHlo.after (hostOps1 (F := Ideal)) σ (Proc.devRef .tc main_v104) = out7 (σ (Proc.devRef .tc main_v61_1)) := by
  entry_read
  rfl

theorem tail_1_8 (σ : Valuation τ sig (Elt Ideal)) :
    StableHlo.after (hostOps1 (F := Ideal)) σ (Proc.devRef .tc main_v106) = out8 (σ (Proc.devRef .tc main_v61_1)) := by
  entry_read
  rfl

theorem tail_1_9 (σ : Valuation τ sig (Elt Ideal)) :
    StableHlo.after (hostOps1 (F := Ideal)) σ (Proc.devRef .tc main_v108) = out9 (σ (Proc.devRef .tc main_v61_1)) := by
  entry_read
  rfl

theorem tail_1_10 (σ : Valuation τ sig (Elt Ideal)) :
    StableHlo.after (hostOps1 (F := Ideal)) σ (Proc.devRef .tc main_v110) = out10 (σ (Proc.devRef .tc main_v61_1)) := by
  entry_read
  rfl

theorem tail_1_11 (σ : Valuation τ sig (Elt Ideal)) :
    StableHlo.after (hostOps1 (F := Ideal)) σ (Proc.devRef .tc main_v112) = out11 (σ (Proc.devRef .tc main_v61_1)) := by
  entry_read
  rfl

theorem tail_1_12 (σ : Valuation τ sig (Elt Ideal)) :
    StableHlo.after (hostOps1 (F := Ideal)) σ (Proc.devRef .tc main_v113) = out12 (σ (Proc.devRef .tc main_v61_1)) := by
  entry_read
  rfl

theorem tail_2_0 (σ : Valuation τ sig (Elt Ideal)) :
    StableHlo.after (hostOps1 (F := Ideal)) σ (Proc.devRef .tc main_v116) = out0 (σ (Proc.devRef .tc main_v61_2)) := by
  entry_read
  rfl

theorem tail_2_1 (σ : Valuation τ sig (Elt Ideal)) :
    StableHlo.after (hostOps1 (F := Ideal)) σ (Proc.devRef .tc main_v118) = out1 (σ (Proc.devRef .tc main_v61_2)) := by
  entry_read
  rfl

theorem tail_2_2 (σ : Valuation τ sig (Elt Ideal)) :
    StableHlo.after (hostOps1 (F := Ideal)) σ (Proc.devRef .tc main_v120) = out2 (σ (Proc.devRef .tc main_v61_2)) := by
  entry_read
  rfl

theorem tail_2_3 (σ : Valuation τ sig (Elt Ideal)) :
    StableHlo.after (hostOps1 (F := Ideal)) σ (Proc.devRef .tc main_v122) = out3 (σ (Proc.devRef .tc main_v61_2)) := by
  entry_read
  rfl

theorem tail_2_4 (σ : Valuation τ sig (Elt Ideal)) :
    StableHlo.after (hostOps1 (F := Ideal)) σ (Proc.devRef .tc main_v124) = out4 (σ (Proc.devRef .tc main_v61_2)) := by
  entry_read
  rfl

theorem tail_2_5 (σ : Valuation τ sig (Elt Ideal)) :
    StableHlo.after (hostOps1 (F := Ideal)) σ (Proc.devRef .tc main_v126) = out5 (σ (Proc.devRef .tc main_v61_2)) := by
  entry_read
  rfl

theorem tail_2_6 (σ : Valuation τ sig (Elt Ideal)) :
    StableHlo.after (hostOps1 (F := Ideal)) σ (Proc.devRef .tc main_v128) = out6 (σ (Proc.devRef .tc main_v61_2)) := by
  entry_read
  rfl

theorem tail_2_7 (σ : Valuation τ sig (Elt Ideal)) :
    StableHlo.after (hostOps1 (F := Ideal)) σ (Proc.devRef .tc main_v130) = out7 (σ (Proc.devRef .tc main_v61_2)) := by
  entry_read
  rfl

theorem tail_2_8 (σ : Valuation τ sig (Elt Ideal)) :
    StableHlo.after (hostOps1 (F := Ideal)) σ (Proc.devRef .tc main_v132) = out8 (σ (Proc.devRef .tc main_v61_2)) := by
  entry_read
  rfl

theorem tail_2_9 (σ : Valuation τ sig (Elt Ideal)) :
    StableHlo.after (hostOps1 (F := Ideal)) σ (Proc.devRef .tc main_v134) = out9 (σ (Proc.devRef .tc main_v61_2)) := by
  entry_read
  rfl

theorem tail_2_10 (σ : Valuation τ sig (Elt Ideal)) :
    StableHlo.after (hostOps1 (F := Ideal)) σ (Proc.devRef .tc main_v136) = out10 (σ (Proc.devRef .tc main_v61_2)) := by
  entry_read
  rfl

theorem tail_2_11 (σ : Valuation τ sig (Elt Ideal)) :
    StableHlo.after (hostOps1 (F := Ideal)) σ (Proc.devRef .tc main_v138) = out11 (σ (Proc.devRef .tc main_v61_2)) := by
  entry_read
  rfl

theorem tail_2_12 (σ : Valuation τ sig (Elt Ideal)) :
    StableHlo.after (hostOps1 (F := Ideal)) σ (Proc.devRef .tc main_v139) = out12 (σ (Proc.devRef .tc main_v61_2)) := by
  entry_read
  rfl

end Cert.StepSmallIdeal.Pack
-- ==== Proof.SmallValue.lean ====
/- The optimiser's step of the thirteen small weights: packed, stepped by one call, and read back out. -/
module

public import proofs.«01_k».proof.Proof.Gen.StepSmallIdeal.Frame
public import proofs.«01_k».proof.Proof.SmallCall
public import proofs.«01_k».proof.Proof.SmallTail
public import proofs.«01_k».proof.Proof.Gen.StepSmallRefIdeal.Run
public import proofs.«01_k».proof.Defs

@[expose] public section

set_option maxRecDepth 16384

noncomputable section

open Idealize.ShloMosaic Idealize.ShloMosaic.TcCoe Idealize.SL.Sem
open Idealize.ShloMosaic.Pipeline (Dat)

open Cert.Adam

namespace Cert.StepSmallIdeal.Pack

open Cert.StepSmallIdeal Cert.StepSmallIdeal.Gen

variable (m : (ℓ : Loc nD τ sig) → Buf (Elt Ideal) ℓ)

/-- The step of every element of a weight of any shape. -/
abbrev step {s : Shape} (w g q p : FVec Ideal s .f32) : FVec Ideal s .f32 := fun j => delta (w j) (g j) (q j) (p j)
abbrev step1 {s : Shape} (g q : FVec Ideal s .f32) : FVec Ideal s .f32 := fun j => first (g j) (q j)
abbrev step2 {s : Shape} (g p : FVec Ideal s .f32) : FVec Ideal s .f32 := fun j => second (g j) (p j)

theorem step_same {s : Shape} {w w' g g' q q' p p' : FVec Ideal s .f32} (ew : w' = w) (eg : g' = g) (eq : q' = q) (ep : p' = p) :
    step w' g' q' p' = step w g q p := by rw [ew, eg, eq, ep]

theorem step1_same {s : Shape} {g g' q q' : FVec Ideal s .f32} (eg : g' = g) (eq : q' = q) : step1 g' q' = step1 g q := by rw [eg, eq]

theorem step2_same {s : Shape} {g g' p p' : FVec Ideal s .f32} (eg : g' = g) (ep : p' = p) : step2 g' p' = step2 g p := by rw [eg, ep]

/-- After the call its result number 0 holds the step. -/
theorem exit_0 (c : Dev nD) :
    Pipeline.withArrays spec0 c (V0 m c) (fun w => (dats m 0 c).arrAt w (cfgs 0).N) (Proc.devRef .tc main_v61_0) = deltas (pW m c) (pG m c) (pM m c) (pV m c) :=
  (Pipeline.withArrays_arr spec0 launch0.win.arr_inj c (V0 m c) (fun w => (dats m 0 c).arrAt w (cfgs 0).N) 5).trans (final_delta m c)

/-- After the call its result number 1 holds the step. -/
theorem exit_1 (c : Dev nD) :
    Pipeline.withArrays spec0 c (V0 m c) (fun w => (dats m 0 c).arrAt w (cfgs 0).N) (Proc.devRef .tc main_v61_1) = firsts (pG m c) (pM m c) :=
  (Pipeline.withArrays_arr spec0 launch0.win.arr_inj c (V0 m c) (fun w => (dats m 0 c).arrAt w (cfgs 0).N) 6).trans (final_first m c)

/-- After the call its result number 2 holds the step. -/
theorem exit_2 (c : Dev nD) :
    Pipeline.withArrays spec0 c (V0 m c) (fun w => (dats m 0 c).arrAt w (cfgs 0).N) (Proc.devRef .tc main_v61_2) = seconds (pG m c) (pV m c) :=
  (Pipeline.withArrays_arr spec0 launch0.win.arr_inj c (V0 m c) (fun w => (dats m 0 c).arrAt w (cfgs 0).N) 7).trans (final_second m c)

abbrev a0 (c : Dev nD) : FVec Ideal S4x3x256 .f32 := m ((c : Thread nD τ).loc main_arg0)
abbrev a1 (c : Dev nD) : FVec Ideal S4x9216 .f32 := m ((c : Thread nD τ).loc main_arg1)
abbrev a2 (c : Dev nD) : FVec Ideal S2x2048 .f32 := m ((c : Thread nD τ).loc main_arg2)
abbrev a3 (c : Dev nD) : FVec Ideal S2x31x256 .f32 := m ((c : Thread nD τ).loc main_arg3)
abbrev a4 (c : Dev nD) : FVec Ideal S2x1024 .f32 := m ((c : Thread nD τ).loc main_arg4)
abbrev a5 (c : Dev nD) : FVec Ideal S2x1024 .f32 := m ((c : Thread nD τ).loc main_arg5)
abbrev a6 (c : Dev nD) : FVec Ideal S2x1024 .f32 := m ((c : Thread nD τ).loc main_arg6)
abbrev a7 (c : Dev nD) : FVec Ideal S2x1024 .f32 := m ((c : Thread nD τ).loc main_arg7)
abbrev a8 (c : Dev nD) : FVec Ideal S2x4x768 .f32 := m ((c : Thread nD τ).loc main_arg8)
abbrev a9 (c : Dev nD) : FVec Ideal S2x8 .f32 := m ((c : Thread nD τ).loc main_arg9)
abbrev a10 (c : Dev nD) : FVec Ideal S2x8 .f32 := m ((c : Thread nD τ).loc main_arg10)
abbrev a11 (c : Dev nD) : FVec Ideal S2x128 .f32 := m ((c : Thread nD τ).loc main_arg11)
abbrev a12 (c : Dev nD) : FVec Ideal S1024 .f32 := m ((c : Thread nD τ).loc main_arg12)
abbrev a13 (c : Dev nD) : FVec Ideal S4x3x256 .f32 := m ((c : Thread nD τ).loc main_arg13)
abbrev a14 (c : Dev nD) : FVec Ideal S4x9216 .f32 := m ((c : Thread nD τ).loc main_arg14)
abbrev a15 (c : Dev nD) : FVec Ideal S2x2048 .f32 := m ((c : Thread nD τ).loc main_arg15)
abbrev a16 (c : Dev nD) : FVec Ideal S2x31x256 .f32 := m ((c : Thread nD τ).loc main_arg16)
abbrev a17 (c : Dev nD) : FVec Ideal S2x1024 .f32 := m ((c : Thread nD τ).loc main_arg17)
abbrev a18 (c : Dev nD) : FVec Ideal S2x1024 .f32 := m ((c : Thread nD τ).loc main_arg18)
abbrev a19 (c : Dev nD) : FVec Ideal S2x1024 .f32 := m ((c : Thread nD τ).loc main_arg19)
abbrev a20 (c : Dev nD) : FVec Ideal S2x1024 .f32 := m ((c : Thread nD τ).loc main_arg20)
abbrev a21 (c : Dev nD) : FVec Ideal S2x4x768 .f32 := m ((c : Thread nD τ).loc main_arg21)
abbrev a22 (c : Dev nD) : FVec Ideal S2x8 .f32 := m ((c : Thread nD τ).loc main_arg22)
abbrev a23 (c : Dev nD) : FVec Ideal S2x8 .f32 := m ((c : Thread nD τ).loc main_arg23)
abbrev a24 (c : Dev nD) : FVec Ideal S2x128 .f32 := m ((c : Thread nD τ).loc main_arg24)
abbrev a25 (c : Dev nD) : FVec Ideal S1024 .f32 := m ((c : Thread nD τ).loc main_arg25)
abbrev a26 (c : Dev nD) : FVec Ideal S4x3x256 .f32 := m ((c : Thread nD τ).loc main_arg26)
abbrev a27 (c : Dev nD) : FVec Ideal S4x9216 .f32 := m ((c : Thread nD τ).loc main_arg27)
abbrev a28 (c : Dev nD) : FVec Ideal S2x2048 .f32 := m ((c : Thread nD τ).loc main_arg28)
abbrev a29 (c : Dev nD) : FVec Ideal S2x31x256 .f32 := m ((c : Thread nD τ).loc main_arg29)
abbrev a30 (c : Dev nD) : FVec Ideal S2x1024 .f32 := m ((c : Thread nD τ).loc main_arg30)
abbrev a31 (c : Dev nD) : FVec Ideal S2x1024 .f32 := m ((c : Thread nD τ).loc main_arg31)
abbrev a32 (c : Dev nD) : FVec Ideal S2x1024 .f32 := m ((c : Thread nD τ).loc main_arg32)
abbrev a33 (c : Dev nD) : FVec Ideal S2x1024 .f32 := m ((c : Thread nD τ).loc main_arg33)
abbrev a34 (c : Dev nD) : FVec Ideal S2x4x768 .f32 := m ((c : Thread nD τ).loc main_arg34)
abbrev a35 (c : Dev nD) : FVec Ideal S2x8 .f32 := m ((c : Thread nD τ).loc main_arg35)
abbrev a36 (c : Dev nD) : FVec Ideal S2x8 .f32 := m ((c : Thread nD τ).loc main_arg36)
abbrev a37 (c : Dev nD) : FVec Ideal S2x128 .f32 := m ((c : Thread nD τ).loc main_arg37)
abbrev a38 (c : Dev nD) : FVec Ideal S1024 .f32 := m ((c : Thread nD τ).loc main_arg38)
abbrev a39 (c : Dev nD) : FVec Ideal S4x3x256 .f32 := m ((c : Thread nD τ).loc main_arg39)
abbrev a40 (c : Dev nD) : FVec Ideal S4x9216 .f32 := m ((c : Thread nD τ).loc main_arg40)
abbrev a41 (c : Dev nD) : FVec Ideal S2x2048 .f32 := m ((c : Thread nD τ).loc main_arg41)
abbrev a42 (c : Dev nD) : FVec Ideal S2x31x256 .f32 := m ((c : Thread nD τ).loc main_arg42)
abbrev a43 (c : Dev nD) : FVec Ideal S2x1024 .f32 := m ((c : Thread nD τ).loc main_arg43)
abbrev a44 (c : Dev nD) : FVec Ideal S2x1024 .f32 := m ((c : Thread nD τ).loc main_arg44)
abbrev a45 (c : Dev nD) : FVec Ideal S2x1024 .f32 := m ((c : Thread nD τ).loc main_arg45)
abbrev a46 (c : Dev nD) : FVec Ideal S2x1024 .f32 := m ((c : Thread nD τ).loc main_arg46)
abbrev a47 (c : Dev nD) : FVec Ideal S2x4x768 .f32 := m ((c : Thread nD τ).loc main_arg47)
abbrev a48 (c : Dev nD) : FVec Ideal S2x8 .f32 := m ((c : Thread nD τ).loc main_arg48)
abbrev a49 (c : Dev nD) : FVec Ideal S2x8 .f32 := m ((c : Thread nD τ).loc main_arg49)
abbrev a50 (c : Dev nD) : FVec Ideal S2x128 .f32 := m ((c : Thread nD τ).loc main_arg50)
abbrev a51 (c : Dev nD) : FVec Ideal S1024 .f32 := m ((c : Thread nD τ).loc main_arg51)

theorem value_0_0 (c : Dev nD) :
    Pipeline.afterTail₀ cfgs (dats m) 0 (V0 m) [hostOps1] c main_v64 = step (a0 m c) (a13 m c) (a26 m c) (a39 m c) := by
  unfold Pipeline.afterTail₀
  rw [List.flatten_cons, List.flatten_nil, List.append_nil, tail_0_0]
  exact (congrArg out0 (exit_0 m c)).trans (step_same (out0_pack (a0 m c) (a1 m c) (a2 m c) (a3 m c) (a4 m c) (a5 m c) (a6 m c) (a7 m c) (a8 m c) (a9 m c) (a10 m c) (a11 m c) (a12 m c)) (out0_pack (a13 m c) (a14 m c) (a15 m c) (a16 m c) (a17 m c) (a18 m c) (a19 m c) (a20 m c) (a21 m c) (a22 m c) (a23 m c) (a24 m c) (a25 m c)) (out0_pack (a26 m c) (a27 m c) (a28 m c) (a29 m c) (a30 m c) (a31 m c) (a32 m c) (a33 m c) (a34 m c) (a35 m c) (a36 m c) (a37 m c) (a38 m c)) (out0_pack (a39 m c) (a40 m c) (a41 m c) (a42 m c) (a43 m c) (a44 m c) (a45 m c) (a46 m c) (a47 m c) (a48 m c) (a49 m c) (a50 m c) (a51 m c)))

theorem value_0_1 (c : Dev nD) :
    Pipeline.afterTail₀ cfgs (dats m) 0 (V0 m) [hostOps1] c main_v66 = step (a1 m c) (a14 m c) (a27 m c) (a40 m c) := by
  unfold Pipeline.afterTail₀
  rw [List.flatten_cons, List.flatten_nil, List.append_nil, tail_0_1]
  exact (congrArg out1 (exit_0 m c)).trans (step_same (out1_pack (a0 m c) (a1 m c) (a2 m c) (a3 m c) (a4 m c) (a5 m c) (a6 m c) (a7 m c) (a8 m c) (a9 m c) (a10 m c) (a11 m c) (a12 m c)) (out1_pack (a13 m c) (a14 m c) (a15 m c) (a16 m c) (a17 m c) (a18 m c) (a19 m c) (a20 m c) (a21 m c) (a22 m c) (a23 m c) (a24 m c) (a25 m c)) (out1_pack (a26 m c) (a27 m c) (a28 m c) (a29 m c) (a30 m c) (a31 m c) (a32 m c) (a33 m c) (a34 m c) (a35 m c) (a36 m c) (a37 m c) (a38 m c)) (out1_pack (a39 m c) (a40 m c) (a41 m c) (a42 m c) (a43 m c) (a44 m c) (a45 m c) (a46 m c) (a47 m c) (a48 m c) (a49 m c) (a50 m c) (a51 m c)))

theorem value_0_2 (c : Dev nD) :
    Pipeline.afterTail₀ cfgs (dats m) 0 (V0 m) [hostOps1] c main_v68 = step (a2 m c) (a15 m c) (a28 m c) (a41 m c) := by
  unfold Pipeline.afterTail₀
  rw [List.flatten_cons, List.flatten_nil, List.append_nil, tail_0_2]
  exact (congrArg out2 (exit_0 m c)).trans (step_same (out2_pack (a0 m c) (a1 m c) (a2 m c) (a3 m c) (a4 m c) (a5 m c) (a6 m c) (a7 m c) (a8 m c) (a9 m c) (a10 m c) (a11 m c) (a12 m c)) (out2_pack (a13 m c) (a14 m c) (a15 m c) (a16 m c) (a17 m c) (a18 m c) (a19 m c) (a20 m c) (a21 m c) (a22 m c) (a23 m c) (a24 m c) (a25 m c)) (out2_pack (a26 m c) (a27 m c) (a28 m c) (a29 m c) (a30 m c) (a31 m c) (a32 m c) (a33 m c) (a34 m c) (a35 m c) (a36 m c) (a37 m c) (a38 m c)) (out2_pack (a39 m c) (a40 m c) (a41 m c) (a42 m c) (a43 m c) (a44 m c) (a45 m c) (a46 m c) (a47 m c) (a48 m c) (a49 m c) (a50 m c) (a51 m c)))

theorem value_0_3 (c : Dev nD) :
    Pipeline.afterTail₀ cfgs (dats m) 0 (V0 m) [hostOps1] c main_v70 = step (a3 m c) (a16 m c) (a29 m c) (a42 m c) := by
  unfold Pipeline.afterTail₀
  rw [List.flatten_cons, List.flatten_nil, List.append_nil, tail_0_3]
  exact (congrArg out3 (exit_0 m c)).trans (step_same (out3_pack (a0 m c) (a1 m c) (a2 m c) (a3 m c) (a4 m c) (a5 m c) (a6 m c) (a7 m c) (a8 m c) (a9 m c) (a10 m c) (a11 m c) (a12 m c)) (out3_pack (a13 m c) (a14 m c) (a15 m c) (a16 m c) (a17 m c) (a18 m c) (a19 m c) (a20 m c) (a21 m c) (a22 m c) (a23 m c) (a24 m c) (a25 m c)) (out3_pack (a26 m c) (a27 m c) (a28 m c) (a29 m c) (a30 m c) (a31 m c) (a32 m c) (a33 m c) (a34 m c) (a35 m c) (a36 m c) (a37 m c) (a38 m c)) (out3_pack (a39 m c) (a40 m c) (a41 m c) (a42 m c) (a43 m c) (a44 m c) (a45 m c) (a46 m c) (a47 m c) (a48 m c) (a49 m c) (a50 m c) (a51 m c)))

theorem value_0_4 (c : Dev nD) :
    Pipeline.afterTail₀ cfgs (dats m) 0 (V0 m) [hostOps1] c main_v72 = step (a4 m c) (a17 m c) (a30 m c) (a43 m c) := by
  unfold Pipeline.afterTail₀
  rw [List.flatten_cons, List.flatten_nil, List.append_nil, tail_0_4]
  exact (congrArg out4 (exit_0 m c)).trans (step_same (out4_pack (a0 m c) (a1 m c) (a2 m c) (a3 m c) (a4 m c) (a5 m c) (a6 m c) (a7 m c) (a8 m c) (a9 m c) (a10 m c) (a11 m c) (a12 m c)) (out4_pack (a13 m c) (a14 m c) (a15 m c) (a16 m c) (a17 m c) (a18 m c) (a19 m c) (a20 m c) (a21 m c) (a22 m c) (a23 m c) (a24 m c) (a25 m c)) (out4_pack (a26 m c) (a27 m c) (a28 m c) (a29 m c) (a30 m c) (a31 m c) (a32 m c) (a33 m c) (a34 m c) (a35 m c) (a36 m c) (a37 m c) (a38 m c)) (out4_pack (a39 m c) (a40 m c) (a41 m c) (a42 m c) (a43 m c) (a44 m c) (a45 m c) (a46 m c) (a47 m c) (a48 m c) (a49 m c) (a50 m c) (a51 m c)))

theorem value_0_5 (c : Dev nD) :
    Pipeline.afterTail₀ cfgs (dats m) 0 (V0 m) [hostOps1] c main_v74 = step (a5 m c) (a18 m c) (a31 m c) (a44 m c) := by
  unfold Pipeline.afterTail₀
  rw [List.flatten_cons, List.flatten_nil, List.append_nil, tail_0_5]
  exact (congrArg out5 (exit_0 m c)).trans (step_same (out5_pack (a0 m c) (a1 m c) (a2 m c) (a3 m c) (a4 m c) (a5 m c) (a6 m c) (a7 m c) (a8 m c) (a9 m c) (a10 m c) (a11 m c) (a12 m c)) (out5_pack (a13 m c) (a14 m c) (a15 m c) (a16 m c) (a17 m c) (a18 m c) (a19 m c) (a20 m c) (a21 m c) (a22 m c) (a23 m c) (a24 m c) (a25 m c)) (out5_pack (a26 m c) (a27 m c) (a28 m c) (a29 m c) (a30 m c) (a31 m c) (a32 m c) (a33 m c) (a34 m c) (a35 m c) (a36 m c) (a37 m c) (a38 m c)) (out5_pack (a39 m c) (a40 m c) (a41 m c) (a42 m c) (a43 m c) (a44 m c) (a45 m c) (a46 m c) (a47 m c) (a48 m c) (a49 m c) (a50 m c) (a51 m c)))

theorem value_0_6 (c : Dev nD) :
    Pipeline.afterTail₀ cfgs (dats m) 0 (V0 m) [hostOps1] c main_v76 = step (a6 m c) (a19 m c) (a32 m c) (a45 m c) := by
  unfold Pipeline.afterTail₀
  rw [List.flatten_cons, List.flatten_nil, List.append_nil, tail_0_6]
  exact (congrArg out6 (exit_0 m c)).trans (step_same (out6_pack (a0 m c) (a1 m c) (a2 m c) (a3 m c) (a4 m c) (a5 m c) (a6 m c) (a7 m c) (a8 m c) (a9 m c) (a10 m c) (a11 m c) (a12 m c)) (out6_pack (a13 m c) (a14 m c) (a15 m c) (a16 m c) (a17 m c) (a18 m c) (a19 m c) (a20 m c) (a21 m c) (a22 m c) (a23 m c) (a24 m c) (a25 m c)) (out6_pack (a26 m c) (a27 m c) (a28 m c) (a29 m c) (a30 m c) (a31 m c) (a32 m c) (a33 m c) (a34 m c) (a35 m c) (a36 m c) (a37 m c) (a38 m c)) (out6_pack (a39 m c) (a40 m c) (a41 m c) (a42 m c) (a43 m c) (a44 m c) (a45 m c) (a46 m c) (a47 m c) (a48 m c) (a49 m c) (a50 m c) (a51 m c)))

theorem value_0_7 (c : Dev nD) :
    Pipeline.afterTail₀ cfgs (dats m) 0 (V0 m) [hostOps1] c main_v78 = step (a7 m c) (a20 m c) (a33 m c) (a46 m c) := by
  unfold Pipeline.afterTail₀
  rw [List.flatten_cons, List.flatten_nil, List.append_nil, tail_0_7]
  exact (congrArg out7 (exit_0 m c)).trans (step_same (out7_pack (a0 m c) (a1 m c) (a2 m c) (a3 m c) (a4 m c) (a5 m c) (a6 m c) (a7 m c) (a8 m c) (a9 m c) (a10 m c) (a11 m c) (a12 m c)) (out7_pack (a13 m c) (a14 m c) (a15 m c) (a16 m c) (a17 m c) (a18 m c) (a19 m c) (a20 m c) (a21 m c) (a22 m c) (a23 m c) (a24 m c) (a25 m c)) (out7_pack (a26 m c) (a27 m c) (a28 m c) (a29 m c) (a30 m c) (a31 m c) (a32 m c) (a33 m c) (a34 m c) (a35 m c) (a36 m c) (a37 m c) (a38 m c)) (out7_pack (a39 m c) (a40 m c) (a41 m c) (a42 m c) (a43 m c) (a44 m c) (a45 m c) (a46 m c) (a47 m c) (a48 m c) (a49 m c) (a50 m c) (a51 m c)))

theorem value_0_8 (c : Dev nD) :
    Pipeline.afterTail₀ cfgs (dats m) 0 (V0 m) [hostOps1] c main_v80 = step (a8 m c) (a21 m c) (a34 m c) (a47 m c) := by
  unfold Pipeline.afterTail₀
  rw [List.flatten_cons, List.flatten_nil, List.append_nil, tail_0_8]
  exact (congrArg out8 (exit_0 m c)).trans (step_same (out8_pack (a0 m c) (a1 m c) (a2 m c) (a3 m c) (a4 m c) (a5 m c) (a6 m c) (a7 m c) (a8 m c) (a9 m c) (a10 m c) (a11 m c) (a12 m c)) (out8_pack (a13 m c) (a14 m c) (a15 m c) (a16 m c) (a17 m c) (a18 m c) (a19 m c) (a20 m c) (a21 m c) (a22 m c) (a23 m c) (a24 m c) (a25 m c)) (out8_pack (a26 m c) (a27 m c) (a28 m c) (a29 m c) (a30 m c) (a31 m c) (a32 m c) (a33 m c) (a34 m c) (a35 m c) (a36 m c) (a37 m c) (a38 m c)) (out8_pack (a39 m c) (a40 m c) (a41 m c) (a42 m c) (a43 m c) (a44 m c) (a45 m c) (a46 m c) (a47 m c) (a48 m c) (a49 m c) (a50 m c) (a51 m c)))

theorem value_0_9 (c : Dev nD) :
    Pipeline.afterTail₀ cfgs (dats m) 0 (V0 m) [hostOps1] c main_v82 = step (a9 m c) (a22 m c) (a35 m c) (a48 m c) := by
  unfold Pipeline.afterTail₀
  rw [List.flatten_cons, List.flatten_nil, List.append_nil, tail_0_9]
  exact (congrArg out9 (exit_0 m c)).trans (step_same (out9_pack (a0 m c) (a1 m c) (a2 m c) (a3 m c) (a4 m c) (a5 m c) (a6 m c) (a7 m c) (a8 m c) (a9 m c) (a10 m c) (a11 m c) (a12 m c)) (out9_pack (a13 m c) (a14 m c) (a15 m c) (a16 m c) (a17 m c) (a18 m c) (a19 m c) (a20 m c) (a21 m c) (a22 m c) (a23 m c) (a24 m c) (a25 m c)) (out9_pack (a26 m c) (a27 m c) (a28 m c) (a29 m c) (a30 m c) (a31 m c) (a32 m c) (a33 m c) (a34 m c) (a35 m c) (a36 m c) (a37 m c) (a38 m c)) (out9_pack (a39 m c) (a40 m c) (a41 m c) (a42 m c) (a43 m c) (a44 m c) (a45 m c) (a46 m c) (a47 m c) (a48 m c) (a49 m c) (a50 m c) (a51 m c)))

theorem value_0_10 (c : Dev nD) :
    Pipeline.afterTail₀ cfgs (dats m) 0 (V0 m) [hostOps1] c main_v84 = step (a10 m c) (a23 m c) (a36 m c) (a49 m c) := by
  unfold Pipeline.afterTail₀
  rw [List.flatten_cons, List.flatten_nil, List.append_nil, tail_0_10]
  exact (congrArg out10 (exit_0 m c)).trans (step_same (out10_pack (a0 m c) (a1 m c) (a2 m c) (a3 m c) (a4 m c) (a5 m c) (a6 m c) (a7 m c) (a8 m c) (a9 m c) (a10 m c) (a11 m c) (a12 m c)) (out10_pack (a13 m c) (a14 m c) (a15 m c) (a16 m c) (a17 m c) (a18 m c) (a19 m c) (a20 m c) (a21 m c) (a22 m c) (a23 m c) (a24 m c) (a25 m c)) (out10_pack (a26 m c) (a27 m c) (a28 m c) (a29 m c) (a30 m c) (a31 m c) (a32 m c) (a33 m c) (a34 m c) (a35 m c) (a36 m c) (a37 m c) (a38 m c)) (out10_pack (a39 m c) (a40 m c) (a41 m c) (a42 m c) (a43 m c) (a44 m c) (a45 m c) (a46 m c) (a47 m c) (a48 m c) (a49 m c) (a50 m c) (a51 m c)))

theorem value_0_11 (c : Dev nD) :
    Pipeline.afterTail₀ cfgs (dats m) 0 (V0 m) [hostOps1] c main_v86 = step (a11 m c) (a24 m c) (a37 m c) (a50 m c) := by
  unfold Pipeline.afterTail₀
  rw [List.flatten_cons, List.flatten_nil, List.append_nil, tail_0_11]
  exact (congrArg out11 (exit_0 m c)).trans (step_same (out11_pack (a0 m c) (a1 m c) (a2 m c) (a3 m c) (a4 m c) (a5 m c) (a6 m c) (a7 m c) (a8 m c) (a9 m c) (a10 m c) (a11 m c) (a12 m c)) (out11_pack (a13 m c) (a14 m c) (a15 m c) (a16 m c) (a17 m c) (a18 m c) (a19 m c) (a20 m c) (a21 m c) (a22 m c) (a23 m c) (a24 m c) (a25 m c)) (out11_pack (a26 m c) (a27 m c) (a28 m c) (a29 m c) (a30 m c) (a31 m c) (a32 m c) (a33 m c) (a34 m c) (a35 m c) (a36 m c) (a37 m c) (a38 m c)) (out11_pack (a39 m c) (a40 m c) (a41 m c) (a42 m c) (a43 m c) (a44 m c) (a45 m c) (a46 m c) (a47 m c) (a48 m c) (a49 m c) (a50 m c) (a51 m c)))

theorem value_0_12 (c : Dev nD) :
    Pipeline.afterTail₀ cfgs (dats m) 0 (V0 m) [hostOps1] c main_v87 = step (a12 m c) (a25 m c) (a38 m c) (a51 m c) := by
  unfold Pipeline.afterTail₀
  rw [List.flatten_cons, List.flatten_nil, List.append_nil, tail_0_12]
  exact (congrArg out12 (exit_0 m c)).trans (step_same (out12_pack (a0 m c) (a1 m c) (a2 m c) (a3 m c) (a4 m c) (a5 m c) (a6 m c) (a7 m c) (a8 m c) (a9 m c) (a10 m c) (a11 m c) (a12 m c)) (out12_pack (a13 m c) (a14 m c) (a15 m c) (a16 m c) (a17 m c) (a18 m c) (a19 m c) (a20 m c) (a21 m c) (a22 m c) (a23 m c) (a24 m c) (a25 m c)) (out12_pack (a26 m c) (a27 m c) (a28 m c) (a29 m c) (a30 m c) (a31 m c) (a32 m c) (a33 m c) (a34 m c) (a35 m c) (a36 m c) (a37 m c) (a38 m c)) (out12_pack (a39 m c) (a40 m c) (a41 m c) (a42 m c) (a43 m c) (a44 m c) (a45 m c) (a46 m c) (a47 m c) (a48 m c) (a49 m c) (a50 m c) (a51 m c)))

theorem value_1_0 (c : Dev nD) :
    Pipeline.afterTail₀ cfgs (dats m) 0 (V0 m) [hostOps1] c main_v90 = step1 (a13 m c) (a26 m c) := by
  unfold Pipeline.afterTail₀
  rw [List.flatten_cons, List.flatten_nil, List.append_nil, tail_1_0]
  exact (congrArg out0 (exit_1 m c)).trans (step1_same (out0_pack (a13 m c) (a14 m c) (a15 m c) (a16 m c) (a17 m c) (a18 m c) (a19 m c) (a20 m c) (a21 m c) (a22 m c) (a23 m c) (a24 m c) (a25 m c)) (out0_pack (a26 m c) (a27 m c) (a28 m c) (a29 m c) (a30 m c) (a31 m c) (a32 m c) (a33 m c) (a34 m c) (a35 m c) (a36 m c) (a37 m c) (a38 m c)))

theorem value_1_1 (c : Dev nD) :
    Pipeline.afterTail₀ cfgs (dats m) 0 (V0 m) [hostOps1] c main_v92 = step1 (a14 m c) (a27 m c) := by
  unfold Pipeline.afterTail₀
  rw [List.flatten_cons, List.flatten_nil, List.append_nil, tail_1_1]
  exact (congrArg out1 (exit_1 m c)).trans (step1_same (out1_pack (a13 m c) (a14 m c) (a15 m c) (a16 m c) (a17 m c) (a18 m c) (a19 m c) (a20 m c) (a21 m c) (a22 m c) (a23 m c) (a24 m c) (a25 m c)) (out1_pack (a26 m c) (a27 m c) (a28 m c) (a29 m c) (a30 m c) (a31 m c) (a32 m c) (a33 m c) (a34 m c) (a35 m c) (a36 m c) (a37 m c) (a38 m c)))

theorem value_1_2 (c : Dev nD) :
    Pipeline.afterTail₀ cfgs (dats m) 0 (V0 m) [hostOps1] c main_v94 = step1 (a15 m c) (a28 m c) := by
  unfold Pipeline.afterTail₀
  rw [List.flatten_cons, List.flatten_nil, List.append_nil, tail_1_2]
  exact (congrArg out2 (exit_1 m c)).trans (step1_same (out2_pack (a13 m c) (a14 m c) (a15 m c) (a16 m c) (a17 m c) (a18 m c) (a19 m c) (a20 m c) (a21 m c) (a22 m c) (a23 m c) (a24 m c) (a25 m c)) (out2_pack (a26 m c) (a27 m c) (a28 m c) (a29 m c) (a30 m c) (a31 m c) (a32 m c) (a33 m c) (a34 m c) (a35 m c) (a36 m c) (a37 m c) (a38 m c)))

theorem value_1_3 (c : Dev nD) :
    Pipeline.afterTail₀ cfgs (dats m) 0 (V0 m) [hostOps1] c main_v96 = step1 (a16 m c) (a29 m c) := by
  unfold Pipeline.afterTail₀
  rw [List.flatten_cons, List.flatten_nil, List.append_nil, tail_1_3]
  exact (congrArg out3 (exit_1 m c)).trans (step1_same (out3_pack (a13 m c) (a14 m c) (a15 m c) (a16 m c) (a17 m c) (a18 m c) (a19 m c) (a20 m c) (a21 m c) (a22 m c) (a23 m c) (a24 m c) (a25 m c)) (out3_pack (a26 m c) (a27 m c) (a28 m c) (a29 m c) (a30 m c) (a31 m c) (a32 m c) (a33 m c) (a34 m c) (a35 m c) (a36 m c) (a37 m c) (a38 m c)))

theorem value_1_4 (c : Dev nD) :
    Pipeline.afterTail₀ cfgs (dats m) 0 (V0 m) [hostOps1] c main_v98 = step1 (a17 m c) (a30 m c) := by
  unfold Pipeline.afterTail₀
  rw [List.flatten_cons, List.flatten_nil, List.append_nil, tail_1_4]
  exact (congrArg out4 (exit_1 m c)).trans (step1_same (out4_pack (a13 m c) (a14 m c) (a15 m c) (a16 m c) (a17 m c) (a18 m c) (a19 m c) (a20 m c) (a21 m c) (a22 m c) (a23 m c) (a24 m c) (a25 m c)) (out4_pack (a26 m c) (a27 m c) (a28 m c) (a29 m c) (a30 m c) (a31 m c) (a32 m c) (a33 m c) (a34 m c) (a35 m c) (a36 m c) (a37 m c) (a38 m c)))

theorem value_1_5 (c : Dev nD) :
    Pipeline.afterTail₀ cfgs (dats m) 0 (V0 m) [hostOps1] c main_v100 = step1 (a18 m c) (a31 m c) := by
  unfold Pipeline.afterTail₀
  rw [List.flatten_cons, List.flatten_nil, List.append_nil, tail_1_5]
  exact (congrArg out5 (exit_1 m c)).trans (step1_same (out5_pack (a13 m c) (a14 m c) (a15 m c) (a16 m c) (a17 m c) (a18 m c) (a19 m c) (a20 m c) (a21 m c) (a22 m c) (a23 m c) (a24 m c) (a25 m c)) (out5_pack (a26 m c) (a27 m c) (a28 m c) (a29 m c) (a30 m c) (a31 m c) (a32 m c) (a33 m c) (a34 m c) (a35 m c) (a36 m c) (a37 m c) (a38 m c)))

theorem value_1_6 (c : Dev nD) :
    Pipeline.afterTail₀ cfgs (dats m) 0 (V0 m) [hostOps1] c main_v102 = step1 (a19 m c) (a32 m c) := by
  unfold Pipeline.afterTail₀
  rw [List.flatten_cons, List.flatten_nil, List.append_nil, tail_1_6]
  exact (congrArg out6 (exit_1 m c)).trans (step1_same (out6_pack (a13 m c) (a14 m c) (a15 m c) (a16 m c) (a17 m c) (a18 m c) (a19 m c) (a20 m c) (a21 m c) (a22 m c) (a23 m c) (a24 m c) (a25 m c)) (out6_pack (a26 m c) (a27 m c) (a28 m c) (a29 m c) (a30 m c) (a31 m c) (a32 m c) (a33 m c) (a34 m c) (a35 m c) (a36 m c) (a37 m c) (a38 m c)))

theorem value_1_7 (c : Dev nD) :
    Pipeline.afterTail₀ cfgs (dats m) 0 (V0 m) [hostOps1] c main_v104 = step1 (a20 m c) (a33 m c) := by
  unfold Pipeline.afterTail₀
  rw [List.flatten_cons, List.flatten_nil, List.append_nil, tail_1_7]
  exact (congrArg out7 (exit_1 m c)).trans (step1_same (out7_pack (a13 m c) (a14 m c) (a15 m c) (a16 m c) (a17 m c) (a18 m c) (a19 m c) (a20 m c) (a21 m c) (a22 m c) (a23 m c) (a24 m c) (a25 m c)) (out7_pack (a26 m c) (a27 m c) (a28 m c) (a29 m c) (a30 m c) (a31 m c) (a32 m c) (a33 m c) (a34 m c) (a35 m c) (a36 m c) (a37 m c) (a38 m c)))

theorem value_1_8 (c : Dev nD) :
    Pipeline.afterTail₀ cfgs (dats m) 0 (V0 m) [hostOps1] c main_v106 = step1 (a21 m c) (a34 m c) := by
  unfold Pipeline.afterTail₀
  rw [List.flatten_cons, List.flatten_nil, List.append_nil, tail_1_8]
  exact (congrArg out8 (exit_1 m c)).trans (step1_same (out8_pack (a13 m c) (a14 m c) (a15 m c) (a16 m c) (a17 m c) (a18 m c) (a19 m c) (a20 m c) (a21 m c) (a22 m c) (a23 m c) (a24 m c) (a25 m c)) (out8_pack (a26 m c) (a27 m c) (a28 m c) (a29 m c) (a30 m c) (a31 m c) (a32 m c) (a33 m c) (a34 m c) (a35 m c) (a36 m c) (a37 m c) (a38 m c)))

theorem value_1_9 (c : Dev nD) :
    Pipeline.afterTail₀ cfgs (dats m) 0 (V0 m) [hostOps1] c main_v108 = step1 (a22 m c) (a35 m c) := by
  unfold Pipeline.afterTail₀
  rw [List.flatten_cons, List.flatten_nil, List.append_nil, tail_1_9]
  exact (congrArg out9 (exit_1 m c)).trans (step1_same (out9_pack (a13 m c) (a14 m c) (a15 m c) (a16 m c) (a17 m c) (a18 m c) (a19 m c) (a20 m c) (a21 m c) (a22 m c) (a23 m c) (a24 m c) (a25 m c)) (out9_pack (a26 m c) (a27 m c) (a28 m c) (a29 m c) (a30 m c) (a31 m c) (a32 m c) (a33 m c) (a34 m c) (a35 m c) (a36 m c) (a37 m c) (a38 m c)))

theorem value_1_10 (c : Dev nD) :
    Pipeline.afterTail₀ cfgs (dats m) 0 (V0 m) [hostOps1] c main_v110 = step1 (a23 m c) (a36 m c) := by
  unfold Pipeline.afterTail₀
  rw [List.flatten_cons, List.flatten_nil, List.append_nil, tail_1_10]
  exact (congrArg out10 (exit_1 m c)).trans (step1_same (out10_pack (a13 m c) (a14 m c) (a15 m c) (a16 m c) (a17 m c) (a18 m c) (a19 m c) (a20 m c) (a21 m c) (a22 m c) (a23 m c) (a24 m c) (a25 m c)) (out10_pack (a26 m c) (a27 m c) (a28 m c) (a29 m c) (a30 m c) (a31 m c) (a32 m c) (a33 m c) (a34 m c) (a35 m c) (a36 m c) (a37 m c) (a38 m c)))

theorem value_1_11 (c : Dev nD) :
    Pipeline.afterTail₀ cfgs (dats m) 0 (V0 m) [hostOps1] c main_v112 = step1 (a24 m c) (a37 m c) := by
  unfold Pipeline.afterTail₀
  rw [List.flatten_cons, List.flatten_nil, List.append_nil, tail_1_11]
  exact (congrArg out11 (exit_1 m c)).trans (step1_same (out11_pack (a13 m c) (a14 m c) (a15 m c) (a16 m c) (a17 m c) (a18 m c) (a19 m c) (a20 m c) (a21 m c) (a22 m c) (a23 m c) (a24 m c) (a25 m c)) (out11_pack (a26 m c) (a27 m c) (a28 m c) (a29 m c) (a30 m c) (a31 m c) (a32 m c) (a33 m c) (a34 m c) (a35 m c) (a36 m c) (a37 m c) (a38 m c)))

theorem value_1_12 (c : Dev nD) :
    Pipeline.afterTail₀ cfgs (dats m) 0 (V0 m) [hostOps1] c main_v113 = step1 (a25 m c) (a38 m c) := by
  unfold Pipeline.afterTail₀
  rw [List.flatten_cons, List.flatten_nil, List.append_nil, tail_1_12]
  exact (congrArg out12 (exit_1 m c)).trans (step1_same (out12_pack (a13 m c) (a14 m c) (a15 m c) (a16 m c) (a17 m c) (a18 m c) (a19 m c) (a20 m c) (a21 m c) (a22 m c) (a23 m c) (a24 m c) (a25 m c)) (out12_pack (a26 m c) (a27 m c) (a28 m c) (a29 m c) (a30 m c) (a31 m c) (a32 m c) (a33 m c) (a34 m c) (a35 m c) (a36 m c) (a37 m c) (a38 m c)))

theorem value_2_0 (c : Dev nD) :
    Pipeline.afterTail₀ cfgs (dats m) 0 (V0 m) [hostOps1] c main_v116 = step2 (a13 m c) (a39 m c) := by
  unfold Pipeline.afterTail₀
  rw [List.flatten_cons, List.flatten_nil, List.append_nil, tail_2_0]
  exact (congrArg out0 (exit_2 m c)).trans (step2_same (out0_pack (a13 m c) (a14 m c) (a15 m c) (a16 m c) (a17 m c) (a18 m c) (a19 m c) (a20 m c) (a21 m c) (a22 m c) (a23 m c) (a24 m c) (a25 m c)) (out0_pack (a39 m c) (a40 m c) (a41 m c) (a42 m c) (a43 m c) (a44 m c) (a45 m c) (a46 m c) (a47 m c) (a48 m c) (a49 m c) (a50 m c) (a51 m c)))

theorem value_2_1 (c : Dev nD) :
    Pipeline.afterTail₀ cfgs (dats m) 0 (V0 m) [hostOps1] c main_v118 = step2 (a14 m c) (a40 m c) := by
  unfold Pipeline.afterTail₀
  rw [List.flatten_cons, List.flatten_nil, List.append_nil, tail_2_1]
  exact (congrArg out1 (exit_2 m c)).trans (step2_same (out1_pack (a13 m c) (a14 m c) (a15 m c) (a16 m c) (a17 m c) (a18 m c) (a19 m c) (a20 m c) (a21 m c) (a22 m c) (a23 m c) (a24 m c) (a25 m c)) (out1_pack (a39 m c) (a40 m c) (a41 m c) (a42 m c) (a43 m c) (a44 m c) (a45 m c) (a46 m c) (a47 m c) (a48 m c) (a49 m c) (a50 m c) (a51 m c)))

theorem value_2_2 (c : Dev nD) :
    Pipeline.afterTail₀ cfgs (dats m) 0 (V0 m) [hostOps1] c main_v120 = step2 (a15 m c) (a41 m c) := by
  unfold Pipeline.afterTail₀
  rw [List.flatten_cons, List.flatten_nil, List.append_nil, tail_2_2]
  exact (congrArg out2 (exit_2 m c)).trans (step2_same (out2_pack (a13 m c) (a14 m c) (a15 m c) (a16 m c) (a17 m c) (a18 m c) (a19 m c) (a20 m c) (a21 m c) (a22 m c) (a23 m c) (a24 m c) (a25 m c)) (out2_pack (a39 m c) (a40 m c) (a41 m c) (a42 m c) (a43 m c) (a44 m c) (a45 m c) (a46 m c) (a47 m c) (a48 m c) (a49 m c) (a50 m c) (a51 m c)))

theorem value_2_3 (c : Dev nD) :
    Pipeline.afterTail₀ cfgs (dats m) 0 (V0 m) [hostOps1] c main_v122 = step2 (a16 m c) (a42 m c) := by
  unfold Pipeline.afterTail₀
  rw [List.flatten_cons, List.flatten_nil, List.append_nil, tail_2_3]
  exact (congrArg out3 (exit_2 m c)).trans (step2_same (out3_pack (a13 m c) (a14 m c) (a15 m c) (a16 m c) (a17 m c) (a18 m c) (a19 m c) (a20 m c) (a21 m c) (a22 m c) (a23 m c) (a24 m c) (a25 m c)) (out3_pack (a39 m c) (a40 m c) (a41 m c) (a42 m c) (a43 m c) (a44 m c) (a45 m c) (a46 m c) (a47 m c) (a48 m c) (a49 m c) (a50 m c) (a51 m c)))

theorem value_2_4 (c : Dev nD) :
    Pipeline.afterTail₀ cfgs (dats m) 0 (V0 m) [hostOps1] c main_v124 = step2 (a17 m c) (a43 m c) := by
  unfold Pipeline.afterTail₀
  rw [List.flatten_cons, List.flatten_nil, List.append_nil, tail_2_4]
  exact (congrArg out4 (exit_2 m c)).trans (step2_same (out4_pack (a13 m c) (a14 m c) (a15 m c) (a16 m c) (a17 m c) (a18 m c) (a19 m c) (a20 m c) (a21 m c) (a22 m c) (a23 m c) (a24 m c) (a25 m c)) (out4_pack (a39 m c) (a40 m c) (a41 m c) (a42 m c) (a43 m c) (a44 m c) (a45 m c) (a46 m c) (a47 m c) (a48 m c) (a49 m c) (a50 m c) (a51 m c)))

theorem value_2_5 (c : Dev nD) :
    Pipeline.afterTail₀ cfgs (dats m) 0 (V0 m) [hostOps1] c main_v126 = step2 (a18 m c) (a44 m c) := by
  unfold Pipeline.afterTail₀
  rw [List.flatten_cons, List.flatten_nil, List.append_nil, tail_2_5]
  exact (congrArg out5 (exit_2 m c)).trans (step2_same (out5_pack (a13 m c) (a14 m c) (a15 m c) (a16 m c) (a17 m c) (a18 m c) (a19 m c) (a20 m c) (a21 m c) (a22 m c) (a23 m c) (a24 m c) (a25 m c)) (out5_pack (a39 m c) (a40 m c) (a41 m c) (a42 m c) (a43 m c) (a44 m c) (a45 m c) (a46 m c) (a47 m c) (a48 m c) (a49 m c) (a50 m c) (a51 m c)))

theorem value_2_6 (c : Dev nD) :
    Pipeline.afterTail₀ cfgs (dats m) 0 (V0 m) [hostOps1] c main_v128 = step2 (a19 m c) (a45 m c) := by
  unfold Pipeline.afterTail₀
  rw [List.flatten_cons, List.flatten_nil, List.append_nil, tail_2_6]
  exact (congrArg out6 (exit_2 m c)).trans (step2_same (out6_pack (a13 m c) (a14 m c) (a15 m c) (a16 m c) (a17 m c) (a18 m c) (a19 m c) (a20 m c) (a21 m c) (a22 m c) (a23 m c) (a24 m c) (a25 m c)) (out6_pack (a39 m c) (a40 m c) (a41 m c) (a42 m c) (a43 m c) (a44 m c) (a45 m c) (a46 m c) (a47 m c) (a48 m c) (a49 m c) (a50 m c) (a51 m c)))

theorem value_2_7 (c : Dev nD) :
    Pipeline.afterTail₀ cfgs (dats m) 0 (V0 m) [hostOps1] c main_v130 = step2 (a20 m c) (a46 m c) := by
  unfold Pipeline.afterTail₀
  rw [List.flatten_cons, List.flatten_nil, List.append_nil, tail_2_7]
  exact (congrArg out7 (exit_2 m c)).trans (step2_same (out7_pack (a13 m c) (a14 m c) (a15 m c) (a16 m c) (a17 m c) (a18 m c) (a19 m c) (a20 m c) (a21 m c) (a22 m c) (a23 m c) (a24 m c) (a25 m c)) (out7_pack (a39 m c) (a40 m c) (a41 m c) (a42 m c) (a43 m c) (a44 m c) (a45 m c) (a46 m c) (a47 m c) (a48 m c) (a49 m c) (a50 m c) (a51 m c)))

theorem value_2_8 (c : Dev nD) :
    Pipeline.afterTail₀ cfgs (dats m) 0 (V0 m) [hostOps1] c main_v132 = step2 (a21 m c) (a47 m c) := by
  unfold Pipeline.afterTail₀
  rw [List.flatten_cons, List.flatten_nil, List.append_nil, tail_2_8]
  exact (congrArg out8 (exit_2 m c)).trans (step2_same (out8_pack (a13 m c) (a14 m c) (a15 m c) (a16 m c) (a17 m c) (a18 m c) (a19 m c) (a20 m c) (a21 m c) (a22 m c) (a23 m c) (a24 m c) (a25 m c)) (out8_pack (a39 m c) (a40 m c) (a41 m c) (a42 m c) (a43 m c) (a44 m c) (a45 m c) (a46 m c) (a47 m c) (a48 m c) (a49 m c) (a50 m c) (a51 m c)))

theorem value_2_9 (c : Dev nD) :
    Pipeline.afterTail₀ cfgs (dats m) 0 (V0 m) [hostOps1] c main_v134 = step2 (a22 m c) (a48 m c) := by
  unfold Pipeline.afterTail₀
  rw [List.flatten_cons, List.flatten_nil, List.append_nil, tail_2_9]
  exact (congrArg out9 (exit_2 m c)).trans (step2_same (out9_pack (a13 m c) (a14 m c) (a15 m c) (a16 m c) (a17 m c) (a18 m c) (a19 m c) (a20 m c) (a21 m c) (a22 m c) (a23 m c) (a24 m c) (a25 m c)) (out9_pack (a39 m c) (a40 m c) (a41 m c) (a42 m c) (a43 m c) (a44 m c) (a45 m c) (a46 m c) (a47 m c) (a48 m c) (a49 m c) (a50 m c) (a51 m c)))

theorem value_2_10 (c : Dev nD) :
    Pipeline.afterTail₀ cfgs (dats m) 0 (V0 m) [hostOps1] c main_v136 = step2 (a23 m c) (a49 m c) := by
  unfold Pipeline.afterTail₀
  rw [List.flatten_cons, List.flatten_nil, List.append_nil, tail_2_10]
  exact (congrArg out10 (exit_2 m c)).trans (step2_same (out10_pack (a13 m c) (a14 m c) (a15 m c) (a16 m c) (a17 m c) (a18 m c) (a19 m c) (a20 m c) (a21 m c) (a22 m c) (a23 m c) (a24 m c) (a25 m c)) (out10_pack (a39 m c) (a40 m c) (a41 m c) (a42 m c) (a43 m c) (a44 m c) (a45 m c) (a46 m c) (a47 m c) (a48 m c) (a49 m c) (a50 m c) (a51 m c)))

theorem value_2_11 (c : Dev nD) :
    Pipeline.afterTail₀ cfgs (dats m) 0 (V0 m) [hostOps1] c main_v138 = step2 (a24 m c) (a50 m c) := by
  unfold Pipeline.afterTail₀
  rw [List.flatten_cons, List.flatten_nil, List.append_nil, tail_2_11]
  exact (congrArg out11 (exit_2 m c)).trans (step2_same (out11_pack (a13 m c) (a14 m c) (a15 m c) (a16 m c) (a17 m c) (a18 m c) (a19 m c) (a20 m c) (a21 m c) (a22 m c) (a23 m c) (a24 m c) (a25 m c)) (out11_pack (a39 m c) (a40 m c) (a41 m c) (a42 m c) (a43 m c) (a44 m c) (a45 m c) (a46 m c) (a47 m c) (a48 m c) (a49 m c) (a50 m c) (a51 m c)))

theorem value_2_12 (c : Dev nD) :
    Pipeline.afterTail₀ cfgs (dats m) 0 (V0 m) [hostOps1] c main_v139 = step2 (a25 m c) (a51 m c) := by
  unfold Pipeline.afterTail₀
  rw [List.flatten_cons, List.flatten_nil, List.append_nil, tail_2_12]
  exact (congrArg out12 (exit_2 m c)).trans (step2_same (out12_pack (a13 m c) (a14 m c) (a15 m c) (a16 m c) (a17 m c) (a18 m c) (a19 m c) (a20 m c) (a21 m c) (a22 m c) (a23 m c) (a24 m c) (a25 m c)) (out12_pack (a39 m c) (a40 m c) (a41 m c) (a42 m c) (a43 m c) (a44 m c) (a45 m c) (a46 m c) (a47 m c) (a48 m c) (a49 m c) (a50 m c) (a51 m c)))

/-- The two programs end with equal results. -/
theorem algebraic : Cert.algebraic_StepSmallIdeal_StepSmallRefIdeal := fun m g m' g' _ hagree =>
  ⟨fun c => step (a0 m c) (a13 m c) (a26 m c) (a39 m c),
    fun c => step (a1 m c) (a14 m c) (a27 m c) (a40 m c),
    fun c => step (a2 m c) (a15 m c) (a28 m c) (a41 m c),
    fun c => step (a3 m c) (a16 m c) (a29 m c) (a42 m c),
    fun c => step (a4 m c) (a17 m c) (a30 m c) (a43 m c),
    fun c => step (a5 m c) (a18 m c) (a31 m c) (a44 m c),
    fun c => step (a6 m c) (a19 m c) (a32 m c) (a45 m c),
    fun c => step (a7 m c) (a20 m c) (a33 m c) (a46 m c),
    fun c => step (a8 m c) (a21 m c) (a34 m c) (a47 m c),
    fun c => step (a9 m c) (a22 m c) (a35 m c) (a48 m c),
    fun c => step (a10 m c) (a23 m c) (a36 m c) (a49 m c),
    fun c => step (a11 m c) (a24 m c) (a37 m c) (a50 m c),
    fun c => step (a12 m c) (a25 m c) (a38 m c) (a51 m c),
    fun c => step1 (a13 m c) (a26 m c),
    fun c => step1 (a14 m c) (a27 m c),
    fun c => step1 (a15 m c) (a28 m c),
    fun c => step1 (a16 m c) (a29 m c),
    fun c => step1 (a17 m c) (a30 m c),
    fun c => step1 (a18 m c) (a31 m c),
    fun c => step1 (a19 m c) (a32 m c),
    fun c => step1 (a20 m c) (a33 m c),
    fun c => step1 (a21 m c) (a34 m c),
    fun c => step1 (a22 m c) (a35 m c),
    fun c => step1 (a23 m c) (a36 m c),
    fun c => step1 (a24 m c) (a37 m c),
    fun c => step1 (a25 m c) (a38 m c),
    fun c => step2 (a13 m c) (a39 m c),
    fun c => step2 (a14 m c) (a40 m c),
    fun c => step2 (a15 m c) (a41 m c),
    fun c => step2 (a16 m c) (a42 m c),
    fun c => step2 (a17 m c) (a43 m c),
    fun c => step2 (a18 m c) (a44 m c),
    fun c => step2 (a19 m c) (a45 m c),
    fun c => step2 (a20 m c) (a46 m c),
    fun c => step2 (a21 m c) (a47 m c),
    fun c => step2 (a22 m c) (a48 m c),
    fun c => step2 (a23 m c) (a49 m c),
    fun c => step2 (a24 m c) (a50 m c),
    fun c => step2 (a25 m c) (a51 m c),
    (θ_run defs _ _).mono (fun r h c => ⟨((h.1 c).2 main_v64 (Pipeline.mem_restRefs_of main_v64 (by decide) (by decide))).trans (value_0_0 m c),
        ((h.1 c).2 main_v66 (Pipeline.mem_restRefs_of main_v66 (by decide) (by decide))).trans (value_0_1 m c),
        ((h.1 c).2 main_v68 (Pipeline.mem_restRefs_of main_v68 (by decide) (by decide))).trans (value_0_2 m c),
        ((h.1 c).2 main_v70 (Pipeline.mem_restRefs_of main_v70 (by decide) (by decide))).trans (value_0_3 m c),
        ((h.1 c).2 main_v72 (Pipeline.mem_restRefs_of main_v72 (by decide) (by decide))).trans (value_0_4 m c),
        ((h.1 c).2 main_v74 (Pipeline.mem_restRefs_of main_v74 (by decide) (by decide))).trans (value_0_5 m c),
        ((h.1 c).2 main_v76 (Pipeline.mem_restRefs_of main_v76 (by decide) (by decide))).trans (value_0_6 m c),
        ((h.1 c).2 main_v78 (Pipeline.mem_restRefs_of main_v78 (by decide) (by decide))).trans (value_0_7 m c),
        ((h.1 c).2 main_v80 (Pipeline.mem_restRefs_of main_v80 (by decide) (by decide))).trans (value_0_8 m c),
        ((h.1 c).2 main_v82 (Pipeline.mem_restRefs_of main_v82 (by decide) (by decide))).trans (value_0_9 m c),
        ((h.1 c).2 main_v84 (Pipeline.mem_restRefs_of main_v84 (by decide) (by decide))).trans (value_0_10 m c),
        ((h.1 c).2 main_v86 (Pipeline.mem_restRefs_of main_v86 (by decide) (by decide))).trans (value_0_11 m c),
        ((h.1 c).2 main_v87 (Pipeline.mem_restRefs_of main_v87 (by decide) (by decide))).trans (value_0_12 m c),
        ((h.1 c).2 main_v90 (Pipeline.mem_restRefs_of main_v90 (by decide) (by decide))).trans (value_1_0 m c),
        ((h.1 c).2 main_v92 (Pipeline.mem_restRefs_of main_v92 (by decide) (by decide))).trans (value_1_1 m c),
        ((h.1 c).2 main_v94 (Pipeline.mem_restRefs_of main_v94 (by decide) (by decide))).trans (value_1_2 m c),
        ((h.1 c).2 main_v96 (Pipeline.mem_restRefs_of main_v96 (by decide) (by decide))).trans (value_1_3 m c),
        ((h.1 c).2 main_v98 (Pipeline.mem_restRefs_of main_v98 (by decide) (by decide))).trans (value_1_4 m c),
        ((h.1 c).2 main_v100 (Pipeline.mem_restRefs_of main_v100 (by decide) (by decide))).trans (value_1_5 m c),
        ((h.1 c).2 main_v102 (Pipeline.mem_restRefs_of main_v102 (by decide) (by decide))).trans (value_1_6 m c),
        ((h.1 c).2 main_v104 (Pipeline.mem_restRefs_of main_v104 (by decide) (by decide))).trans (value_1_7 m c),
        ((h.1 c).2 main_v106 (Pipeline.mem_restRefs_of main_v106 (by decide) (by decide))).trans (value_1_8 m c),
        ((h.1 c).2 main_v108 (Pipeline.mem_restRefs_of main_v108 (by decide) (by decide))).trans (value_1_9 m c),
        ((h.1 c).2 main_v110 (Pipeline.mem_restRefs_of main_v110 (by decide) (by decide))).trans (value_1_10 m c),
        ((h.1 c).2 main_v112 (Pipeline.mem_restRefs_of main_v112 (by decide) (by decide))).trans (value_1_11 m c),
        ((h.1 c).2 main_v113 (Pipeline.mem_restRefs_of main_v113 (by decide) (by decide))).trans (value_1_12 m c),
        ((h.1 c).2 main_v116 (Pipeline.mem_restRefs_of main_v116 (by decide) (by decide))).trans (value_2_0 m c),
        ((h.1 c).2 main_v118 (Pipeline.mem_restRefs_of main_v118 (by decide) (by decide))).trans (value_2_1 m c),
        ((h.1 c).2 main_v120 (Pipeline.mem_restRefs_of main_v120 (by decide) (by decide))).trans (value_2_2 m c),
        ((h.1 c).2 main_v122 (Pipeline.mem_restRefs_of main_v122 (by decide) (by decide))).trans (value_2_3 m c),
        ((h.1 c).2 main_v124 (Pipeline.mem_restRefs_of main_v124 (by decide) (by decide))).trans (value_2_4 m c),
        ((h.1 c).2 main_v126 (Pipeline.mem_restRefs_of main_v126 (by decide) (by decide))).trans (value_2_5 m c),
        ((h.1 c).2 main_v128 (Pipeline.mem_restRefs_of main_v128 (by decide) (by decide))).trans (value_2_6 m c),
        ((h.1 c).2 main_v130 (Pipeline.mem_restRefs_of main_v130 (by decide) (by decide))).trans (value_2_7 m c),
        ((h.1 c).2 main_v132 (Pipeline.mem_restRefs_of main_v132 (by decide) (by decide))).trans (value_2_8 m c),
        ((h.1 c).2 main_v134 (Pipeline.mem_restRefs_of main_v134 (by decide) (by decide))).trans (value_2_9 m c),
        ((h.1 c).2 main_v136 (Pipeline.mem_restRefs_of main_v136 (by decide) (by decide))).trans (value_2_10 m c),
        ((h.1 c).2 main_v138 (Pipeline.mem_restRefs_of main_v138 (by decide) (by decide))).trans (value_2_11 m c),
        ((h.1 c).2 main_v139 (Pipeline.mem_restRefs_of main_v139 (by decide) (by decide))).trans (value_2_12 m c),
        h.2 c⟩) (θ_run_and (run_main m g) (unchanged m g)),
    (θ_run Cert.StepSmallRefIdeal.defs _ _).mono (fun _ h c => by
      obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51⟩ := hagree c
      obtain ⟨h0, h1, h2, h3, h4, h5, h6, h7, h8, h9, h10, h11, h12, h13, h14, h15, h16, h17, h18, h19, h20, h21, h22, h23, h24, h25, h26, h27, h28, h29, h30, h31, h32, h33, h34, h35, h36, h37, h38, hk⟩ := h c
      exact ⟨h0.trans (step_same e0 e13 e26 e39),
        h1.trans (step_same e1 e14 e27 e40),
        h2.trans (step_same e2 e15 e28 e41),
        h3.trans (step_same e3 e16 e29 e42),
        h4.trans (step_same e4 e17 e30 e43),
        h5.trans (step_same e5 e18 e31 e44),
        h6.trans (step_same e6 e19 e32 e45),
        h7.trans (step_same e7 e20 e33 e46),
        h8.trans (step_same e8 e21 e34 e47),
        h9.trans (step_same e9 e22 e35 e48),
        h10.trans (step_same e10 e23 e36 e49),
        h11.trans (step_same e11 e24 e37 e50),
        h12.trans (step_same e12 e25 e38 e51),
        h13.trans (step1_same e13 e26),
        h14.trans (step1_same e14 e27),
        h15.trans (step1_same e15 e28),
        h16.trans (step1_same e16 e29),
        h17.trans (step1_same e17 e30),
        h18.trans (step1_same e18 e31),
        h19.trans (step1_same e19 e32),
        h20.trans (step1_same e20 e33),
        h21.trans (step1_same e21 e34),
        h22.trans (step1_same e22 e35),
        h23.trans (step1_same e23 e36),
        h24.trans (step1_same e24 e37),
        h25.trans (step1_same e25 e38),
        h26.trans (step2_same e13 e39),
        h27.trans (step2_same e14 e40),
        h28.trans (step2_same e15 e41),
        h29.trans (step2_same e16 e42),
        h30.trans (step2_same e17 e43),
        h31.trans (step2_same e18 e44),
        h32.trans (step2_same e19 e45),
        h33.trans (step2_same e20 e46),
        h34.trans (step2_same e21 e47),
        h35.trans (step2_same e22 e48),
        h36.trans (step2_same e23 e49),
        h37.trans (step2_same e24 e50),
        h38.trans (step2_same e25 e51), hk⟩) (Cert.StepSmallRefIdeal.Value.run m' g')⟩

end Cert.StepSmallIdeal.Pack
-- ==== Proof.SumsParts.lean ====
/- What the eight devices have summed by themselves, each device's arrays laid end to end in rows of 128, and each array
   read back out. -/
module

public import proofs.«01_k».proof.Proof.Gen.SumsIdeal.Frame
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.SumsIdeal.Parts

open Cert.SumsIdeal Cert.SumsIdeal.Gen

/-- One device's row. -/
abbrev row {n : Nat} (d : Fin 8) (a : (⟨2, ![8, n]⟩ : Shape).Idx → EReal) : (⟨1, ![n]⟩ : Shape).Idx → EReal := fun i => a (ix2 d (i 0))

/-- One device's block of the gathered array. -/
abbrev slab (d : Fin 8) (a : FVec Ideal S8x1472x128 .f32) : FVec Ideal S1472x128 .f32 := fun j => a (ix3 d (j 0) (j 1))

/-- The sum over the devices, from the first to the last. -/
abbrev total {s : Shape} (f : Fin 8 → s.Idx → EReal) : s.Idx → EReal :=
  fun j => f 0 j + f 1 j + f 2 j + f 3 j + f 4 j + f 5 j + f 6 j + f 7 j

/-- A device's block, read as one vector, is the device's row. -/
theorem slab_flat (p : (⟨2, ![8, 188416]⟩ : Shape).Idx → EReal) (h : S8x188416.ShapeCasts S8x1472x128) (h' : S1472x128.ShapeCasts S188416) (d : Fin 8) :
    shapeCast S188416 (slab d (shapeCast S8x1472x128 p h)) h' = row d p := by
  funext i
  have hi : (i 0).val < 188416 := (i 0).isLt
  refine (shapeCast_apply _ h' i (ix2 (⟨(i 0).val / 128, by omega⟩ : Fin 1472) (⟨(i 0).val % 128, by omega⟩ : Fin 128)) (by
    rw [Shape.rowMajor_val_two, Shape.rowMajor_val_one]
    show (i 0).val / 128 * 128 + (i 0).val % 128 = (i 0).val; omega)).trans ?_
  exact shapeCast_apply p h (ix3 d (⟨(i 0).val / 128, by omega⟩ : Fin 1472) (⟨(i 0).val % 128, by omega⟩ : Fin 128)) (ix2 d (i 0)) (by
    rw [Shape.rowMajor_val_two, Shape.rowMajor_val_three]
    show d.val * 188416 + (i 0).val = (d.val * 1472 + (i 0).val / 128) * 128 + (i 0).val % 128; omega)

/-- An array of two axes beside the devices': a device's row in the array's shape is the device's array. -/
theorem row_two {a b n : Nat} (hn : n = a * b) (x : (⟨3, ![8, a, b]⟩ : Shape).Idx → EReal)
    (hc : (⟨3, ![8, a, b]⟩ : Shape).ShapeCasts ⟨2, ![8, n]⟩) (hs : (⟨1, ![n]⟩ : Shape).ShapeCasts ⟨2, ![a, b]⟩) (d : Fin 8) :
    shapeCast ⟨2, ![a, b]⟩ (row d (shapeCast ⟨2, ![8, n]⟩ x hc)) hs = fun j => x (ix3 d (j 0) (j 1)) := by
  subst hn
  funext j
  have h0 : (j 0).val < a := (j 0).isLt
  have h1 : (j 1).val < b := (j 1).isLt
  have lt : (j 0).val * b + (j 1).val < a * b := by nlinarith
  refine (shapeCast_apply _ hs j (ix1 (⟨_, lt⟩ : Fin (a * b))) (by rw [Shape.rowMajor_val_one, Shape.rowMajor_val_two]; rfl)).trans ?_
  exact shapeCast_apply x hc (ix2 d (⟨_, lt⟩ : Fin (a * b))) (ix3 d (j 0) (j 1)) (by
    rw [Shape.rowMajor_val_two, Shape.rowMajor_val_three]
    show (d.val * a + (j 0).val) * b + (j 1).val = d.val * (a * b) + ((j 0).val * b + (j 1).val); ring)

/-- An array of three axes beside the devices'. -/
theorem row_three {a b e n : Nat} (hn : n = a * b * e) (x : (⟨4, ![8, a, b, e]⟩ : Shape).Idx → EReal)
    (hc : (⟨4, ![8, a, b, e]⟩ : Shape).ShapeCasts ⟨2, ![8, n]⟩) (hs : (⟨1, ![n]⟩ : Shape).ShapeCasts ⟨3, ![a, b, e]⟩) (d : Fin 8) :
    shapeCast ⟨3, ![a, b, e]⟩ (row d (shapeCast ⟨2, ![8, n]⟩ x hc)) hs = fun j => x (ix4 d (j 0) (j 1) (j 2)) := by
  subst hn
  funext j
  have h0 : (j 0).val < a := (j 0).isLt
  have h1 : (j 1).val < b := (j 1).isLt
  have h2 : (j 2).val < e := (j 2).isLt
  have l1 : (j 0).val * b + (j 1).val < a * b := by nlinarith
  have lt : ((j 0).val * b + (j 1).val) * e + (j 2).val < a * b * e := by nlinarith
  refine (shapeCast_apply _ hs j (ix1 (⟨_, lt⟩ : Fin (a * b * e))) (by rw [Shape.rowMajor_val_one, Shape.rowMajor_val_three]; rfl)).trans ?_
  exact shapeCast_apply x hc (ix2 d (⟨_, lt⟩ : Fin (a * b * e))) (ix4 d (j 0) (j 1) (j 2)) (by
    rw [Shape.rowMajor_val_two, Shape.rowMajor_val_four]
    show ((d.val * a + (j 0).val) * b + (j 1).val) * e + (j 2).val = d.val * (a * b * e) + (((j 0).val * b + (j 1).val) * e + (j 2).val); ring)

/-- One piece of a concatenation of rows, padded at the rows' end, cut out of a device's row again. -/
theorem piece {n total padded off hi : Nat} (xs : List ((s : Shape) × (s.Idx → EReal)))
    (h : Shape.Concatenates (xs.map (·.1)) ⟨2, ![8, total]⟩ 1) {u : Shape} (v : u.Idx → EReal) (hu : 0 < u.numel)
    (hp : (⟨2, ![8, total]⟩ : Shape).Pads (![0, 0] : Fin 2 → Nat) ![0, hi] ![0, 0] ⟨2, ![8, padded]⟩)
    (hs : (⟨1, ![padded]⟩ : Shape).Slices ![off] ⟨1, ![n]⟩) (x : (⟨2, ![8, n]⟩ : Shape).Idx → EReal)
    (k : Nat) (hk : k < xs.length) (hx : xs[k] = ⟨⟨2, ![8, n]⟩, x⟩) (ss : List Shape) (hss : xs.map (·.1) = ss)
    (hpre : ((ss.take k).map fun s => if e : s.rank = 2 then s.size ((1 : Fin 2).cast e.symm) else 0).sum = off)
    (ht : off + n ≤ total) (htp : total ≤ padded) (d : Fin 8) :
    extractStridedSlice ⟨1, ![n]⟩ ![off] (row d (pad ⟨2, ![8, padded]⟩ ![0, 0] ![0, hi] ![0, 0] (concatenate ⟨2, ![8, total]⟩ 1 xs h) v hp hu)) hs
      = row d x := by
  funext j
  obtain ⟨i, rfl⟩ : ∃ i : Fin n, j = ix1 i := ⟨j 0, by funext a; have : a = 0 := Subsingleton.elim _ _; subst this; rfl⟩
  have hi' : off + i.val < total := by have := i.isLt; omega
  refine (extractStridedSlice_apply _ _ hs (ix1 i) (ix1 (⟨off + i.val, by omega⟩ : Fin padded)) (by
    intro a; have ha : a = 0 := Subsingleton.elim _ _; subst ha; rfl)).trans ?_
  refine (pad_apply_of_inside _ _ _ _ v hp hu _ (ix2 d (⟨off + i.val, hi'⟩ : Fin total)) (by
    intro a
    match a with
    | ⟨0, _⟩ => show d.val = 0 + d.val * (0 + 1); omega
    | ⟨1, _⟩ => show off + i.val = 0 + (off + i.val) * (0 + 1); omega)).trans ?_
  exact concatenate_apply_piece 1 xs h _ k hk _ x hx rfl off (by rw [List.map_take, hss]; exact hpre) (ix2 d i)
    (fun b hb => by
      match b with
      | ⟨0, _⟩ => rfl
      | ⟨1, _⟩ => exact absurd rfl hb) rfl

/-- Their extents. -/
abbrev parts : List Shape := [S8x12288, S8x4096, S8x63488, S8x2048, S8x2048, S8x2048, S8x2048, S8x24576, S8x16, S8x16, S8x256, S8x1024, S8x1, S8x73728]

/-- The pieces, each device's part of an array as one row. -/
abbrev pieces (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) : List ((s : Shape) × (s.Idx → EReal)) :=
  [⟨S8x12288, shapeCast S8x12288 x0 shapeCasts_S8x4x3x1024_S8x12288⟩, ⟨S8x4096, shapeCast S8x4096 x1 shapeCasts_S8x2x2048_S8x4096⟩, ⟨S8x63488, shapeCast S8x63488 x2 shapeCasts_S8x2x31x1024_S8x63488⟩, ⟨S8x2048, shapeCast S8x2048 x3 shapeCasts_S8x2x1024_S8x2048⟩, ⟨S8x2048, shapeCast S8x2048 x4 shapeCasts_S8x2x1024_S8x2048⟩, ⟨S8x2048, shapeCast S8x2048 x5 shapeCasts_S8x2x1024_S8x2048⟩, ⟨S8x2048, shapeCast S8x2048 x6 shapeCasts_S8x2x1024_S8x2048⟩, ⟨S8x24576, shapeCast S8x24576 x7 shapeCasts_S8x2x4x3072_S8x24576⟩, ⟨S8x16, shapeCast S8x16 x8 shapeCasts_S8x2x8_S8x16⟩, ⟨S8x16, shapeCast S8x16 x9 shapeCasts_S8x2x8_S8x16⟩, ⟨S8x256, shapeCast S8x256 x10 shapeCasts_S8x2x128_S8x256⟩, ⟨S8x1024, x11⟩, ⟨S8x1, x12⟩, ⟨S8x73728, shapeCast S8x73728 x13 shapeCasts_S8x4x2x9216_S8x73728⟩]

/-- The devices' arrays laid end to end. -/
def gathered (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) : FVec Ideal S8x1472x128 .f32 :=
  shapeCast S8x1472x128 (pad S8x188416 ![0, 0] ![0, 735] ![0, 0] (concatenate S8x187681 1 (pieces x0 x1 x2 x3 x4 x5 x6 x7 x8 x9 x10 x11 x12 x13) concatenates_S8x12288_S8x4096_S8x63488_S8x2048_S8x2048_S8x2048_S8x2048_S8x24576_S8x16_S8x16_S8x256_S8x1024_S8x1_S8x73728_S8x187681_d1)
    (sitofp (F := Ideal) .f32 (constantI S_ 32 0#32)) pads_S8x187681_S8x188416_000_07350 h_S_) shapeCasts_S8x188416_S8x1472x128

/-- A packed array's part number 0. -/
def part0 (a : FVec Ideal S1472x128 .f32) : FVec Ideal S4x3x1024 .f32 :=
  shapeCast S4x3x1024 (extractStridedSlice S12288 ![0] (shapeCast S188416 a shapeCasts_S1472x128_S188416) slices_S188416_S12288_0) shapeCasts_S12288_S4x3x1024

theorem part0_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part0 (slab d (gathered x0 x1 x2 x3 x4 x5 x6 x7 x8 x9 x10 x11 x12 x13)) = fun j => x0 (ix4 d (j 0) (j 1) (j 2)) := by
  unfold part0 gathered
  rw [slab_flat]
  exact (congrArg (fun u => shapeCast S4x3x1024 u shapeCasts_S12288_S4x3x1024) (piece (pieces x0 x1 x2 x3 x4 x5 x6 x7 x8 x9 x10 x11 x12 x13) _ _ h_S_ pads_S8x187681_S8x188416_000_07350 slices_S188416_S12288_0 (shapeCast S8x12288 x0 shapeCasts_S8x4x3x1024_S8x12288) 0 (by show 0 < 14; decide) rfl parts rfl (by decide +kernel) (by omega) (by omega) d)).trans
    (row_three (by decide) x0 shapeCasts_S8x4x3x1024_S8x12288 shapeCasts_S12288_S4x3x1024 d)

/-- A packed array's part number 1. -/
def part1 (a : FVec Ideal S1472x128 .f32) : FVec Ideal S2x2048 .f32 :=
  shapeCast S2x2048 (extractStridedSlice S4096 ![12288] (shapeCast S188416 a shapeCasts_S1472x128_S188416) slices_S188416_S4096_12288) shapeCasts_S4096_S2x2048

theorem part1_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part1 (slab d (gathered x0 x1 x2 x3 x4 x5 x6 x7 x8 x9 x10 x11 x12 x13)) = fun j => x1 (ix3 d (j 0) (j 1)) := by
  unfold part1 gathered
  rw [slab_flat]
  exact (congrArg (fun u => shapeCast S2x2048 u shapeCasts_S4096_S2x2048) (piece (pieces x0 x1 x2 x3 x4 x5 x6 x7 x8 x9 x10 x11 x12 x13) _ _ h_S_ pads_S8x187681_S8x188416_000_07350 slices_S188416_S4096_12288 (shapeCast S8x4096 x1 shapeCasts_S8x2x2048_S8x4096) 1 (by show 1 < 14; decide) rfl parts rfl (by decide +kernel) (by omega) (by omega) d)).trans
    (row_two (by decide) x1 shapeCasts_S8x2x2048_S8x4096 shapeCasts_S4096_S2x2048 d)

/-- A packed array's part number 2. -/
def part2 (a : FVec Ideal S1472x128 .f32) : FVec Ideal S2x31x1024 .f32 :=
  shapeCast S2x31x1024 (extractStridedSlice S63488 ![16384] (shapeCast S188416 a shapeCasts_S1472x128_S188416) slices_S188416_S63488_16384) shapeCasts_S63488_S2x31x1024

theorem part2_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part2 (slab d (gathered x0 x1 x2 x3 x4 x5 x6 x7 x8 x9 x10 x11 x12 x13)) = fun j => x2 (ix4 d (j 0) (j 1) (j 2)) := by
  unfold part2 gathered
  rw [slab_flat]
  exact (congrArg (fun u => shapeCast S2x31x1024 u shapeCasts_S63488_S2x31x1024) (piece (pieces x0 x1 x2 x3 x4 x5 x6 x7 x8 x9 x10 x11 x12 x13) _ _ h_S_ pads_S8x187681_S8x188416_000_07350 slices_S188416_S63488_16384 (shapeCast S8x63488 x2 shapeCasts_S8x2x31x1024_S8x63488) 2 (by show 2 < 14; decide) rfl parts rfl (by decide +kernel) (by omega) (by omega) d)).trans
    (row_three (by decide) x2 shapeCasts_S8x2x31x1024_S8x63488 shapeCasts_S63488_S2x31x1024 d)

/-- A packed array's part number 3. -/
def part3 (a : FVec Ideal S1472x128 .f32) : FVec Ideal S2x1024 .f32 :=
  shapeCast S2x1024 (extractStridedSlice S2048 ![79872] (shapeCast S188416 a shapeCasts_S1472x128_S188416) slices_S188416_S2048_79872) shapeCasts_S2048_S2x1024

theorem part3_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part3 (slab d (gathered x0 x1 x2 x3 x4 x5 x6 x7 x8 x9 x10 x11 x12 x13)) = fun j => x3 (ix3 d (j 0) (j 1)) := by
  unfold part3 gathered
  rw [slab_flat]
  exact (congrArg (fun u => shapeCast S2x1024 u shapeCasts_S2048_S2x1024) (piece (pieces x0 x1 x2 x3 x4 x5 x6 x7 x8 x9 x10 x11 x12 x13) _ _ h_S_ pads_S8x187681_S8x188416_000_07350 slices_S188416_S2048_79872 (shapeCast S8x2048 x3 shapeCasts_S8x2x1024_S8x2048) 3 (by show 3 < 14; decide) rfl parts rfl (by decide +kernel) (by omega) (by omega) d)).trans
    (row_two (by decide) x3 shapeCasts_S8x2x1024_S8x2048 shapeCasts_S2048_S2x1024 d)

/-- A packed array's part number 4. -/
def part4 (a : FVec Ideal S1472x128 .f32) : FVec Ideal S2x1024 .f32 :=
  shapeCast S2x1024 (extractStridedSlice S2048 ![81920] (shapeCast S188416 a shapeCasts_S1472x128_S188416) slices_S188416_S2048_81920) shapeCasts_S2048_S2x1024

theorem part4_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part4 (slab d (gathered x0 x1 x2 x3 x4 x5 x6 x7 x8 x9 x10 x11 x12 x13)) = fun j => x4 (ix3 d (j 0) (j 1)) := by
  unfold part4 gathered
  rw [slab_flat]
  exact (congrArg (fun u => shapeCast S2x1024 u shapeCasts_S2048_S2x1024) (piece (pieces x0 x1 x2 x3 x4 x5 x6 x7 x8 x9 x10 x11 x12 x13) _ _ h_S_ pads_S8x187681_S8x188416_000_07350 slices_S188416_S2048_81920 (shapeCast S8x2048 x4 shapeCasts_S8x2x1024_S8x2048) 4 (by show 4 < 14; decide) rfl parts rfl (by decide +kernel) (by omega) (by omega) d)).trans
    (row_two (by decide) x4 shapeCasts_S8x2x1024_S8x2048 shapeCasts_S2048_S2x1024 d)

/-- A packed array's part number 5. -/
def part5 (a : FVec Ideal S1472x128 .f32) : FVec Ideal S2x1024 .f32 :=
  shapeCast S2x1024 (extractStridedSlice S2048 ![83968] (shapeCast S188416 a shapeCasts_S1472x128_S188416) slices_S188416_S2048_83968) shapeCasts_S2048_S2x1024

theorem part5_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part5 (slab d (gathered x0 x1 x2 x3 x4 x5 x6 x7 x8 x9 x10 x11 x12 x13)) = fun j => x5 (ix3 d (j 0) (j 1)) := by
  unfold part5 gathered
  rw [slab_flat]
  exact (congrArg (fun u => shapeCast S2x1024 u shapeCasts_S2048_S2x1024) (piece (pieces x0 x1 x2 x3 x4 x5 x6 x7 x8 x9 x10 x11 x12 x13) _ _ h_S_ pads_S8x187681_S8x188416_000_07350 slices_S188416_S2048_83968 (shapeCast S8x2048 x5 shapeCasts_S8x2x1024_S8x2048) 5 (by show 5 < 14; decide) rfl parts rfl (by decide +kernel) (by omega) (by omega) d)).trans
    (row_two (by decide) x5 shapeCasts_S8x2x1024_S8x2048 shapeCasts_S2048_S2x1024 d)

/-- A packed array's part number 6. -/
def part6 (a : FVec Ideal S1472x128 .f32) : FVec Ideal S2x1024 .f32 :=
  shapeCast S2x1024 (extractStridedSlice S2048 ![86016] (shapeCast S188416 a shapeCasts_S1472x128_S188416) slices_S188416_S2048_86016) shapeCasts_S2048_S2x1024

theorem part6_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part6 (slab d (gathered x0 x1 x2 x3 x4 x5 x6 x7 x8 x9 x10 x11 x12 x13)) = fun j => x6 (ix3 d (j 0) (j 1)) := by
  unfold part6 gathered
  rw [slab_flat]
  exact (congrArg (fun u => shapeCast S2x1024 u shapeCasts_S2048_S2x1024) (piece (pieces x0 x1 x2 x3 x4 x5 x6 x7 x8 x9 x10 x11 x12 x13) _ _ h_S_ pads_S8x187681_S8x188416_000_07350 slices_S188416_S2048_86016 (shapeCast S8x2048 x6 shapeCasts_S8x2x1024_S8x2048) 6 (by show 6 < 14; decide) rfl parts rfl (by decide +kernel) (by omega) (by omega) d)).trans
    (row_two (by decide) x6 shapeCasts_S8x2x1024_S8x2048 shapeCasts_S2048_S2x1024 d)

/-- A packed array's part number 7. -/
def part7 (a : FVec Ideal S1472x128 .f32) : FVec Ideal S2x4x3072 .f32 :=
  shapeCast S2x4x3072 (extractStridedSlice S24576 ![88064] (shapeCast S188416 a shapeCasts_S1472x128_S188416) slices_S188416_S24576_88064) shapeCasts_S24576_S2x4x3072

theorem part7_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part7 (slab d (gathered x0 x1 x2 x3 x4 x5 x6 x7 x8 x9 x10 x11 x12 x13)) = fun j => x7 (ix4 d (j 0) (j 1) (j 2)) := by
  unfold part7 gathered
  rw [slab_flat]
  exact (congrArg (fun u => shapeCast S2x4x3072 u shapeCasts_S24576_S2x4x3072) (piece (pieces x0 x1 x2 x3 x4 x5 x6 x7 x8 x9 x10 x11 x12 x13) _ _ h_S_ pads_S8x187681_S8x188416_000_07350 slices_S188416_S24576_88064 (shapeCast S8x24576 x7 shapeCasts_S8x2x4x3072_S8x24576) 7 (by show 7 < 14; decide) rfl parts rfl (by decide +kernel) (by omega) (by omega) d)).trans
    (row_three (by decide) x7 shapeCasts_S8x2x4x3072_S8x24576 shapeCasts_S24576_S2x4x3072 d)

/-- A packed array's part number 8. -/
def part8 (a : FVec Ideal S1472x128 .f32) : FVec Ideal S2x8 .f32 :=
  shapeCast S2x8 (extractStridedSlice S16 ![112640] (shapeCast S188416 a shapeCasts_S1472x128_S188416) slices_S188416_S16_112640) shapeCasts_S16_S2x8

theorem part8_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part8 (slab d (gathered x0 x1 x2 x3 x4 x5 x6 x7 x8 x9 x10 x11 x12 x13)) = fun j => x8 (ix3 d (j 0) (j 1)) := by
  unfold part8 gathered
  rw [slab_flat]
  exact (congrArg (fun u => shapeCast S2x8 u shapeCasts_S16_S2x8) (piece (pieces x0 x1 x2 x3 x4 x5 x6 x7 x8 x9 x10 x11 x12 x13) _ _ h_S_ pads_S8x187681_S8x188416_000_07350 slices_S188416_S16_112640 (shapeCast S8x16 x8 shapeCasts_S8x2x8_S8x16) 8 (by show 8 < 14; decide) rfl parts rfl (by decide +kernel) (by omega) (by omega) d)).trans
    (row_two (by decide) x8 shapeCasts_S8x2x8_S8x16 shapeCasts_S16_S2x8 d)

/-- A packed array's part number 9. -/
def part9 (a : FVec Ideal S1472x128 .f32) : FVec Ideal S2x8 .f32 :=
  shapeCast S2x8 (extractStridedSlice S16 ![112656] (shapeCast S188416 a shapeCasts_S1472x128_S188416) slices_S188416_S16_112656) shapeCasts_S16_S2x8

theorem part9_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part9 (slab d (gathered x0 x1 x2 x3 x4 x5 x6 x7 x8 x9 x10 x11 x12 x13)) = fun j => x9 (ix3 d (j 0) (j 1)) := by
  unfold part9 gathered
  rw [slab_flat]
  exact (congrArg (fun u => shapeCast S2x8 u shapeCasts_S16_S2x8) (piece (pieces x0 x1 x2 x3 x4 x5 x6 x7 x8 x9 x10 x11 x12 x13) _ _ h_S_ pads_S8x187681_S8x188416_000_07350 slices_S188416_S16_112656 (shapeCast S8x16 x9 shapeCasts_S8x2x8_S8x16) 9 (by show 9 < 14; decide) rfl parts rfl (by decide +kernel) (by omega) (by omega) d)).trans
    (row_two (by decide) x9 shapeCasts_S8x2x8_S8x16 shapeCasts_S16_S2x8 d)

/-- A packed array's part number 10. -/
def part10 (a : FVec Ideal S1472x128 .f32) : FVec Ideal S2x128 .f32 :=
  shapeCast S2x128 (extractStridedSlice S256 ![112672] (shapeCast S188416 a shapeCasts_S1472x128_S188416) slices_S188416_S256_112672) shapeCasts_S256_S2x128

theorem part10_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part10 (slab d (gathered x0 x1 x2 x3 x4 x5 x6 x7 x8 x9 x10 x11 x12 x13)) = fun j => x10 (ix3 d (j 0) (j 1)) := by
  unfold part10 gathered
  rw [slab_flat]
  exact (congrArg (fun u => shapeCast S2x128 u shapeCasts_S256_S2x128) (piece (pieces x0 x1 x2 x3 x4 x5 x6 x7 x8 x9 x10 x11 x12 x13) _ _ h_S_ pads_S8x187681_S8x188416_000_07350 slices_S188416_S256_112672 (shapeCast S8x256 x10 shapeCasts_S8x2x128_S8x256) 10 (by show 10 < 14; decide) rfl parts rfl (by decide +kernel) (by omega) (by omega) d)).trans
    (row_two (by decide) x10 shapeCasts_S8x2x128_S8x256 shapeCasts_S256_S2x128 d)

/-- A packed array's part number 11. -/
def part11 (a : FVec Ideal S1472x128 .f32) : FVec Ideal S1024 .f32 :=
  extractStridedSlice S1024 ![112928] (shapeCast S188416 a shapeCasts_S1472x128_S188416) slices_S188416_S1024_112928

theorem part11_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part11 (slab d (gathered x0 x1 x2 x3 x4 x5 x6 x7 x8 x9 x10 x11 x12 x13)) = fun j => x11 (ix2 d (j 0)) := by
  unfold part11 gathered
  rw [slab_flat]
  exact piece (pieces x0 x1 x2 x3 x4 x5 x6 x7 x8 x9 x10 x11 x12 x13) _ _ h_S_ pads_S8x187681_S8x188416_000_07350 slices_S188416_S1024_112928 (x11) 11 (by show 11 < 14; decide) rfl parts rfl (by decide +kernel) (by omega) (by omega) d

/-- A packed array's part number 12. -/
def part12 (a : FVec Ideal S1472x128 .f32) : FVec Ideal S1 .f32 :=
  extractStridedSlice S1 ![113952] (shapeCast S188416 a shapeCasts_S1472x128_S188416) slices_S188416_S1_113952

theorem part12_slab (x0 : FVec Ideal S8x4x3x1024 .f32) (x1 : FVec Ideal S8x2x2048 .f32) (x2 : FVec Ideal S8x2x31x1024 .f32) (x3 : FVec Ideal S8x2x1024 .f32) (x4 : FVec Ideal S8x2x1024 .f32) (x5 : FVec Ideal S8x2x1024 .f32) (x6 : FVec Ideal S8x2x1024 .f32) (x7 : FVec Ideal S8x2x4x3072 .f32) (x8 : FVec Ideal S8x2x8 .f32) (x9 : FVec Ideal S8x2x8 .f32) (x10 : FVec Ideal S8x2x128 .f32) (x11 : FVec Ideal S8x1024 .f32) (x12 : FVec Ideal S8x1 .f32) (x13 : FVec Ideal S8x4x2x9216 .f32) (d : Fin 8) :
    part12 (slab d (gathered x0 x1 x2 x3 x4 x5 x6 x7 x8 x9 x10 x11 x12 x13)) = fun j => x12 (ix2 d (j 0)) := by
  unfold part12 gathered
  rw [slab_flat]
  exact piece (pieces x0 x1 x2 x3 x4 x5 x6 x7 x8 x9 x10 x11 x12 x13) _ _ h_S_ pads_S8x187681_S8x188416_000_07350 slices_S188416_S1_113952 (x12) 12 (by show 12 < 14; decide) rfl parts rfl (by decide +kernel) (by omega) (by omega) d

end Cert.SumsIdeal.Parts
-- ==== Proof.SumsCall.lean ====
/- The sum over the devices: the call, and the arrays read out of its result by the host code after it. -/
module

public import proofs.«01_k».proof.Proof.Gen.SumsIdeal.Frame
public import proofs.«01_k».proof.Proof.SumsParts
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SumsIdeal.Parts

open Cert.SumsIdeal Cert.SumsIdeal.Gen

variable (m : (ℓ : Loc nD τ sig) → Buf (Elt Ideal) ℓ)

abbrev all (c : Dev nD) : FVec Ideal S8x1472x128 .f32 :=
  gathered (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem place : ∀ t : Fin cfg0.N, win0_0.index t = ![0, 0, 0] ∧ win0_1.index t = ![0, 0] :=
  (by decide +kernel : ∀ t : Fin grid0.N, _)

theorem entry_all (c : Dev nD) : V m c main_v14 = all m c := by
  entry_read
  rfl

/-- The call's block is the whole gathered array. -/
theorem read_all (c : Dev nD) (t : Fin cfg0.N) (d : Fin 8) (r : Fin 1472) (l : Fin 128) : iblk m c 0 t (ix3 d r l) = all m c (ix3 d r l) := by
  blk_simp [iblk, place t]
  rw [entry_all]
  exact congrArg (all m c) (by blk_ext [place t])

theorem pay_apply (a : Vec Ideal S8x1472x128 .f32) (r : Fin 1472) (l : Fin 128) :
    k0_pay1 (View.ld a r0_0) (View.ld a r0_1) (View.ld a r0_2) (View.ld a r0_3) (View.ld a r0_4) (View.ld a r0_5) (View.ld a r0_6) (View.ld a r0_7) (ix2 r l)
      = total (fun d => slab d a) (ix2 r l) := by
  pointwise [k0_pay1]
  rfl

/-- Its result is the sum of the devices' blocks. -/
theorem final_sum (c : Dev nD) : (dats m 0 c).arrAt 1 (cfgs 0).N = total (fun d => slab d (all m c)) := by
  refine (dats m 0 c).arrAt_eq_of_covers 1 _ (by decide +kernel) fun t hf y => ?_
  blk_simp
  rw [after0_1]
  obtain ⟨r, l, rfl⟩ : ∃ (r : Fin 1472) (l : Fin 128), y = ix2 r l := ⟨y 0, y 1, by blk_ext⟩
  have e : (win0_1.blk t).view.emb (ix2 r l) = ix2 r l := by blk_ext [place t]
  frame_out
  refine (pay_apply _ r l).trans (Eq.trans ?_ (congrArg (total (fun d => slab d (all m c))) e).symm)
  simp only [total, slab]
  exact congrArg₂ (· + ·) (congrArg₂ (· + ·) (congrArg₂ (· + ·) (congrArg₂ (· + ·) (congrArg₂ (· + ·) (congrArg₂ (· + ·) (congrArg₂ (· + ·)
    (read_all m c t 0 r l) (read_all m c t 1 r l)) (read_all m c t 2 r l)) (read_all m c t 3 r l)) (read_all m c t 4 r l)) (read_all m c t 5 r l))
    (read_all m c t 6 r l)) (read_all m c t 7 r l)

/-- After the call its result holds the sum. -/
theorem exit_sum (c : Dev nD) :
    Pipeline.withArrays spec0 c (V0 m c) (fun w => (dats m 0 c).arrAt w (cfgs 0).N) (Proc.devRef .tc main_v15) = total (fun d => slab d (all m c)) :=
  (Pipeline.withArrays_arr spec0 launch0.win.arr_inj c (V0 m c) (fun w => (dats m 0 c).arrAt w (cfgs 0).N) 1).trans (final_sum m c)

theorem tail_0 (σ : Valuation τ sig (Elt Ideal)) :
    StableHlo.after (hostOps1 (F := Ideal)) σ (Proc.devRef .tc main_v18) = part0 (σ (Proc.devRef .tc main_v15)) := by
  entry_read
  rfl

theorem tail_1 (σ : Valuation τ sig (Elt Ideal)) :
    StableHlo.after (hostOps1 (F := Ideal)) σ (Proc.devRef .tc main_v20) = part1 (σ (Proc.devRef .tc main_v15)) := by
  entry_read
  rfl

theorem tail_2 (σ : Valuation τ sig (Elt Ideal)) :
    StableHlo.after (hostOps1 (F := Ideal)) σ (Proc.devRef .tc main_v22) = part2 (σ (Proc.devRef .tc main_v15)) := by
  entry_read
  rfl

theorem tail_3 (σ : Valuation τ sig (Elt Ideal)) :
    StableHlo.after (hostOps1 (F := Ideal)) σ (Proc.devRef .tc main_v24) = part3 (σ (Proc.devRef .tc main_v15)) := by
  entry_read
  rfl

theorem tail_4 (σ : Valuation τ sig (Elt Ideal)) :
    StableHlo.after (hostOps1 (F := Ideal)) σ (Proc.devRef .tc main_v26) = part4 (σ (Proc.devRef .tc main_v15)) := by
  entry_read
  rfl

theorem tail_5 (σ : Valuation τ sig (Elt Ideal)) :
    StableHlo.after (hostOps1 (F := Ideal)) σ (Proc.devRef .tc main_v28) = part5 (σ (Proc.devRef .tc main_v15)) := by
  entry_read
  rfl

theorem tail_6 (σ : Valuation τ sig (Elt Ideal)) :
    StableHlo.after (hostOps1 (F := Ideal)) σ (Proc.devRef .tc main_v30) = part6 (σ (Proc.devRef .tc main_v15)) := by
  entry_read
  rfl

theorem tail_7 (σ : Valuation τ sig (Elt Ideal)) :
    StableHlo.after (hostOps1 (F := Ideal)) σ (Proc.devRef .tc main_v32) = part7 (σ (Proc.devRef .tc main_v15)) := by
  entry_read
  rfl

theorem tail_8 (σ : Valuation τ sig (Elt Ideal)) :
    StableHlo.after (hostOps1 (F := Ideal)) σ (Proc.devRef .tc main_v34) = part8 (σ (Proc.devRef .tc main_v15)) := by
  entry_read
  rfl

theorem tail_9 (σ : Valuation τ sig (Elt Ideal)) :
    StableHlo.after (hostOps1 (F := Ideal)) σ (Proc.devRef .tc main_v36) = part9 (σ (Proc.devRef .tc main_v15)) := by
  entry_read
  rfl

theorem tail_10 (σ : Valuation τ sig (Elt Ideal)) :
    StableHlo.after (hostOps1 (F := Ideal)) σ (Proc.devRef .tc main_v38) = part10 (σ (Proc.devRef .tc main_v15)) := by
  entry_read
  rfl

theorem tail_11 (σ : Valuation τ sig (Elt Ideal)) :
    StableHlo.after (hostOps1 (F := Ideal)) σ (Proc.devRef .tc main_v39) = part11 (σ (Proc.devRef .tc main_v15)) := by
  entry_read
  rfl

theorem tail_12 (σ : Valuation τ sig (Elt Ideal)) :
    StableHlo.after (hostOps1 (F := Ideal)) σ (Proc.devRef .tc main_v40) = part12 (σ (Proc.devRef .tc main_v15)) := by
  entry_read
  rfl

abbrev a0 (c : Dev nD) : FVec Ideal S8x4x3x1024 .f32 := m ((c : Thread nD τ).loc main_arg0)
abbrev a1 (c : Dev nD) : FVec Ideal S8x2x2048 .f32 := m ((c : Thread nD τ).loc main_arg1)
abbrev a2 (c : Dev nD) : FVec Ideal S8x2x31x1024 .f32 := m ((c : Thread nD τ).loc main_arg2)
abbrev a3 (c : Dev nD) : FVec Ideal S8x2x1024 .f32 := m ((c : Thread nD τ).loc main_arg3)
abbrev a4 (c : Dev nD) : FVec Ideal S8x2x1024 .f32 := m ((c : Thread nD τ).loc main_arg4)
abbrev a5 (c : Dev nD) : FVec Ideal S8x2x1024 .f32 := m ((c : Thread nD τ).loc main_arg5)
abbrev a6 (c : Dev nD) : FVec Ideal S8x2x1024 .f32 := m ((c : Thread nD τ).loc main_arg6)
abbrev a7 (c : Dev nD) : FVec Ideal S8x2x4x3072 .f32 := m ((c : Thread nD τ).loc main_arg7)
abbrev a8 (c : Dev nD) : FVec Ideal S8x2x8 .f32 := m ((c : Thread nD τ).loc main_arg8)
abbrev a9 (c : Dev nD) : FVec Ideal S8x2x8 .f32 := m ((c : Thread nD τ).loc main_arg9)
abbrev a10 (c : Dev nD) : FVec Ideal S8x2x128 .f32 := m ((c : Thread nD τ).loc main_arg10)
abbrev a11 (c : Dev nD) : FVec Ideal S8x1024 .f32 := m ((c : Thread nD τ).loc main_arg11)
abbrev a12 (c : Dev nD) : FVec Ideal S8x1 .f32 := m ((c : Thread nD τ).loc main_arg12)
abbrev a13 (c : Dev nD) : FVec Ideal S8x4x2x9216 .f32 := m ((c : Thread nD τ).loc main_arg13)

theorem value_0 (c : Dev nD) :
    Pipeline.afterTail₀ cfgs (dats m) 0 (V0 m) [hostOps1] c main_v18 = total (s := S4x3x1024) (fun d j => a0 m c (ix4 d (j 0) (j 1) (j 2))) := by
  unfold Pipeline.afterTail₀
  rw [List.flatten_cons, List.flatten_nil, List.append_nil, tail_0]
  refine (congrArg part0 (exit_sum m c)).trans ?_
  have e : part0 (total (fun d => slab d (all m c))) = total (fun d => part0 (slab d (all m c))) := rfl
  exact e.trans (congrArg (fun f => total (s := S4x3x1024) f) (funext fun d => part0_slab (a0 m c) (a1 m c) (a2 m c) (a3 m c) (a4 m c) (a5 m c) (a6 m c) (a7 m c) (a8 m c) (a9 m c) (a10 m c) (a11 m c) (a12 m c) (a13 m c) d))

theorem value_1 (c : Dev nD) :
    Pipeline.afterTail₀ cfgs (dats m) 0 (V0 m) [hostOps1] c main_v20 = total (s := S2x2048) (fun d j => a1 m c (ix3 d (j 0) (j 1))) := by
  unfold Pipeline.afterTail₀
  rw [List.flatten_cons, List.flatten_nil, List.append_nil, tail_1]
  refine (congrArg part1 (exit_sum m c)).trans ?_
  have e : part1 (total (fun d => slab d (all m c))) = total (fun d => part1 (slab d (all m c))) := rfl
  exact e.trans (congrArg (fun f => total (s := S2x2048) f) (funext fun d => part1_slab (a0 m c) (a1 m c) (a2 m c) (a3 m c) (a4 m c) (a5 m c) (a6 m c) (a7 m c) (a8 m c) (a9 m c) (a10 m c) (a11 m c) (a12 m c) (a13 m c) d))

theorem value_2 (c : Dev nD) :
    Pipeline.afterTail₀ cfgs (dats m) 0 (V0 m) [hostOps1] c main_v22 = total (s := S2x31x1024) (fun d j => a2 m c (ix4 d (j 0) (j 1) (j 2))) := by
  unfold Pipeline.afterTail₀
  rw [List.flatten_cons, List.flatten_nil, List.append_nil, tail_2]
  refine (congrArg part2 (exit_sum m c)).trans ?_
  have e : part2 (total (fun d => slab d (all m c))) = total (fun d => part2 (slab d (all m c))) := rfl
  exact e.trans (congrArg (fun f => total (s := S2x31x1024) f) (funext fun d => part2_slab (a0 m c) (a1 m c) (a2 m c) (a3 m c) (a4 m c) (a5 m c) (a6 m c) (a7 m c) (a8 m c) (a9 m c) (a10 m c) (a11 m c) (a12 m c) (a13 m c) d))

theorem value_3 (c : Dev nD) :
    Pipeline.afterTail₀ cfgs (dats m) 0 (V0 m) [hostOps1] c main_v24 = total (s := S2x1024) (fun d j => a3 m c (ix3 d (j 0) (j 1))) := by
  unfold Pipeline.afterTail₀
  rw [List.flatten_cons, List.flatten_nil, List.append_nil, tail_3]
  refine (congrArg part3 (exit_sum m c)).trans ?_
  have e : part3 (total (fun d => slab d (all m c))) = total (fun d => part3 (slab d (all m c))) := rfl
  exact e.trans (congrArg (fun f => total (s := S2x1024) f) (funext fun d => part3_slab (a0 m c) (a1 m c) (a2 m c) (a3 m c) (a4 m c) (a5 m c) (a6 m c) (a7 m c) (a8 m c) (a9 m c) (a10 m c) (a11 m c) (a12 m c) (a13 m c) d))

theorem value_4 (c : Dev nD) :
    Pipeline.afterTail₀ cfgs (dats m) 0 (V0 m) [hostOps1] c main_v26 = total (s := S2x1024) (fun d j => a4 m c (ix3 d (j 0) (j 1))) := by
  unfold Pipeline.afterTail₀
  rw [List.flatten_cons, List.flatten_nil, List.append_nil, tail_4]
  refine (congrArg part4 (exit_sum m c)).trans ?_
  have e : part4 (total (fun d => slab d (all m c))) = total (fun d => part4 (slab d (all m c))) := rfl
  exact e.trans (congrArg (fun f => total (s := S2x1024) f) (funext fun d => part4_slab (a0 m c) (a1 m c) (a2 m c) (a3 m c) (a4 m c) (a5 m c) (a6 m c) (a7 m c) (a8 m c) (a9 m c) (a10 m c) (a11 m c) (a12 m c) (a13 m c) d))

theorem value_5 (c : Dev nD) :
    Pipeline.afterTail₀ cfgs (dats m) 0 (V0 m) [hostOps1] c main_v28 = total (s := S2x1024) (fun d j => a5 m c (ix3 d (j 0) (j 1))) := by
  unfold Pipeline.afterTail₀
  rw [List.flatten_cons, List.flatten_nil, List.append_nil, tail_5]
  refine (congrArg part5 (exit_sum m c)).trans ?_
  have e : part5 (total (fun d => slab d (all m c))) = total (fun d => part5 (slab d (all m c))) := rfl
  exact e.trans (congrArg (fun f => total (s := S2x1024) f) (funext fun d => part5_slab (a0 m c) (a1 m c) (a2 m c) (a3 m c) (a4 m c) (a5 m c) (a6 m c) (a7 m c) (a8 m c) (a9 m c) (a10 m c) (a11 m c) (a12 m c) (a13 m c) d))

theorem value_6 (c : Dev nD) :
    Pipeline.afterTail₀ cfgs (dats m) 0 (V0 m) [hostOps1] c main_v30 = total (s := S2x1024) (fun d j => a6 m c (ix3 d (j 0) (j 1))) := by
  unfold Pipeline.afterTail₀
  rw [List.flatten_cons, List.flatten_nil, List.append_nil, tail_6]
  refine (congrArg part6 (exit_sum m c)).trans ?_
  have e : part6 (total (fun d => slab d (all m c))) = total (fun d => part6 (slab d (all m c))) := rfl
  exact e.trans (congrArg (fun f => total (s := S2x1024) f) (funext fun d => part6_slab (a0 m c) (a1 m c) (a2 m c) (a3 m c) (a4 m c) (a5 m c) (a6 m c) (a7 m c) (a8 m c) (a9 m c) (a10 m c) (a11 m c) (a12 m c) (a13 m c) d))

theorem value_7 (c : Dev nD) :
    Pipeline.afterTail₀ cfgs (dats m) 0 (V0 m) [hostOps1] c main_v32 = total (s := S2x4x3072) (fun d j => a7 m c (ix4 d (j 0) (j 1) (j 2))) := by
  unfold Pipeline.afterTail₀
  rw [List.flatten_cons, List.flatten_nil, List.append_nil, tail_7]
  refine (congrArg part7 (exit_sum m c)).trans ?_
  have e : part7 (total (fun d => slab d (all m c))) = total (fun d => part7 (slab d (all m c))) := rfl
  exact e.trans (congrArg (fun f => total (s := S2x4x3072) f) (funext fun d => part7_slab (a0 m c) (a1 m c) (a2 m c) (a3 m c) (a4 m c) (a5 m c) (a6 m c) (a7 m c) (a8 m c) (a9 m c) (a10 m c) (a11 m c) (a12 m c) (a13 m c) d))

theorem value_8 (c : Dev nD) :
    Pipeline.afterTail₀ cfgs (dats m) 0 (V0 m) [hostOps1] c main_v34 = total (s := S2x8) (fun d j => a8 m c (ix3 d (j 0) (j 1))) := by
  unfold Pipeline.afterTail₀
  rw [List.flatten_cons, List.flatten_nil, List.append_nil, tail_8]
  refine (congrArg part8 (exit_sum m c)).trans ?_
  have e : part8 (total (fun d => slab d (all m c))) = total (fun d => part8 (slab d (all m c))) := rfl
  exact e.trans (congrArg (fun f => total (s := S2x8) f) (funext fun d => part8_slab (a0 m c) (a1 m c) (a2 m c) (a3 m c) (a4 m c) (a5 m c) (a6 m c) (a7 m c) (a8 m c) (a9 m c) (a10 m c) (a11 m c) (a12 m c) (a13 m c) d))

theorem value_9 (c : Dev nD) :
    Pipeline.afterTail₀ cfgs (dats m) 0 (V0 m) [hostOps1] c main_v36 = total (s := S2x8) (fun d j => a9 m c (ix3 d (j 0) (j 1))) := by
  unfold Pipeline.afterTail₀
  rw [List.flatten_cons, List.flatten_nil, List.append_nil, tail_9]
  refine (congrArg part9 (exit_sum m c)).trans ?_
  have e : part9 (total (fun d => slab d (all m c))) = total (fun d => part9 (slab d (all m c))) := rfl
  exact e.trans (congrArg (fun f => total (s := S2x8) f) (funext fun d => part9_slab (a0 m c) (a1 m c) (a2 m c) (a3 m c) (a4 m c) (a5 m c) (a6 m c) (a7 m c) (a8 m c) (a9 m c) (a10 m c) (a11 m c) (a12 m c) (a13 m c) d))

theorem value_10 (c : Dev nD) :
    Pipeline.afterTail₀ cfgs (dats m) 0 (V0 m) [hostOps1] c main_v38 = total (s := S2x128) (fun d j => a10 m c (ix3 d (j 0) (j 1))) := by
  unfold Pipeline.afterTail₀
  rw [List.flatten_cons, List.flatten_nil, List.append_nil, tail_10]
  refine (congrArg part10 (exit_sum m c)).trans ?_
  have e : part10 (total (fun d => slab d (all m c))) = total (fun d => part10 (slab d (all m c))) := rfl
  exact e.trans (congrArg (fun f => total (s := S2x128) f) (funext fun d => part10_slab (a0 m c) (a1 m c) (a2 m c) (a3 m c) (a4 m c) (a5 m c) (a6 m c) (a7 m c) (a8 m c) (a9 m c) (a10 m c) (a11 m c) (a12 m c) (a13 m c) d))

theorem value_11 (c : Dev nD) :
    Pipeline.afterTail₀ cfgs (dats m) 0 (V0 m) [hostOps1] c main_v39 = total (s := S1024) (fun d j => a11 m c (ix2 d (j 0))) := by
  unfold Pipeline.afterTail₀
  rw [List.flatten_cons, List.flatten_nil, List.append_nil, tail_11]
  refine (congrArg part11 (exit_sum m c)).trans ?_
  have e : part11 (total (fun d => slab d (all m c))) = total (fun d => part11 (slab d (all m c))) := rfl
  exact e.trans (congrArg (fun f => total (s := S1024) f) (funext fun d => part11_slab (a0 m c) (a1 m c) (a2 m c) (a3 m c) (a4 m c) (a5 m c) (a6 m c) (a7 m c) (a8 m c) (a9 m c) (a10 m c) (a11 m c) (a12 m c) (a13 m c) d))

theorem value_12 (c : Dev nD) :
    Pipeline.afterTail₀ cfgs (dats m) 0 (V0 m) [hostOps1] c main_v40 = total (s := S1) (fun d j => a12 m c (ix2 d (j 0))) := by
  unfold Pipeline.afterTail₀
  rw [List.flatten_cons, List.flatten_nil, List.append_nil, tail_12]
  refine (congrArg part12 (exit_sum m c)).trans ?_
  have e : part12 (total (fun d => slab d (all m c))) = total (fun d => part12 (slab d (all m c))) := rfl
  exact e.trans (congrArg (fun f => total (s := S1) f) (funext fun d => part12_slab (a0 m c) (a1 m c) (a2 m c) (a3 m c) (a4 m c) (a5 m c) (a6 m c) (a7 m c) (a8 m c) (a9 m c) (a10 m c) (a11 m c) (a12 m c) (a13 m c) d))

end Cert.SumsIdeal.Parts
-- ==== Proof.SumsValue.lean ====
/- The sum over the devices of every array the devices have summed by themselves. -/
module

public import proofs.«01_k».proof.Proof.Gen.SumsIdeal.Frame
public import proofs.«01_k».proof.Proof.SumsCall
public import proofs.«01_k».proof.Proof.Gen.SumsRefIdeal.Run
public import proofs.«01_k».proof.Proof.Gen.SumsRefIdeal.Read
public import proofs.«01_k».proof.Defs

@[expose] public section

set_option maxRecDepth 16384

noncomputable section

open Idealize.ShloMosaic Idealize.ShloMosaic.TcCoe Idealize.SL.Sem
open Idealize.ShloMosaic.Pipeline (Dat)

namespace Cert.SumsIdeal.Parts

open Cert.SumsIdeal Cert.SumsIdeal.Gen

variable (m : (ℓ : Loc nD τ sig) → Buf (Elt Ideal) ℓ)

/-- The reference's sum over the first axis of an array of this shape. -/
theorem ref_0 (x : FVec Ideal S8x4x3x1024 .f32) :
    Host.reduceAdd x (constant Cert.SumsRefIdeal.S_ .f32 0x00000000#32) Cert.SumsRefIdeal.Gen.reducesTo_S8x4x3x1024_S4x3x1024_d0 Cert.SumsRefIdeal.Gen.h_S_
      = total (s := S4x3x1024) (fun d j => x (ix4 d (j 0) (j 1) (j 2))) := by
  refine (Cert.SumsRefIdeal.Read.val_main_v0_eq (F := Ideal) x).trans (funext fun j => ?_)
  rw [Cert.SumsRefIdeal.Read.val_main_v0_apply, Fin.sum_univ_eight]
  have z : Cert.SumsRefIdeal.Read.val_main_cst (F := Ideal) (Shape.Idx.first Cert.SumsRefIdeal.Gen.h_S_) = (0 : EReal) := by
    simp [Cert.SumsRefIdeal.Read.val_main_cst_apply, Ideal.ofBits, Ideal.ieee]
  rw [z, zero_add]
  have e : ∀ d : Fin 8, Cert.SumsRefIdeal.Read.idx_main_v0 j d = (ix4 d (j 0) (j 1) (j 2)) := fun d => by
    funext a
    match a with
    | ⟨0, _⟩ => rfl
    | ⟨1, _⟩ => rfl
    | ⟨2, _⟩ => rfl
    | ⟨3, _⟩ => rfl
  simp only [e]
  rfl

/-- The reference's sum over the first axis of an array of this shape. -/
theorem ref_1 (x : FVec Ideal S8x2x2048 .f32) :
    Host.reduceAdd x (constant Cert.SumsRefIdeal.S_ .f32 0x00000000#32) Cert.SumsRefIdeal.Gen.reducesTo_S8x2x2048_S2x2048_d0 Cert.SumsRefIdeal.Gen.h_S_
      = total (s := S2x2048) (fun d j => x (ix3 d (j 0) (j 1))) := by
  refine (Cert.SumsRefIdeal.Read.val_main_v1_eq (F := Ideal) x).trans (funext fun j => ?_)
  rw [Cert.SumsRefIdeal.Read.val_main_v1_apply, Fin.sum_univ_eight]
  have z : Cert.SumsRefIdeal.Read.val_main_cst_0 (F := Ideal) (Shape.Idx.first Cert.SumsRefIdeal.Gen.h_S_) = (0 : EReal) := by
    simp [Cert.SumsRefIdeal.Read.val_main_cst_0_apply, Ideal.ofBits, Ideal.ieee]
  rw [z, zero_add]
  have e : ∀ d : Fin 8, Cert.SumsRefIdeal.Read.idx_main_v1 j d = (ix3 d (j 0) (j 1)) := fun d => by
    funext a
    match a with
    | ⟨0, _⟩ => rfl
    | ⟨1, _⟩ => rfl
    | ⟨2, _⟩ => rfl
  simp only [e]
  rfl

/-- The reference's sum over the first axis of an array of this shape. -/
theorem ref_2 (x : FVec Ideal S8x2x31x1024 .f32) :
    Host.reduceAdd x (constant Cert.SumsRefIdeal.S_ .f32 0x00000000#32) Cert.SumsRefIdeal.Gen.reducesTo_S8x2x31x1024_S2x31x1024_d0 Cert.SumsRefIdeal.Gen.h_S_
      = total (s := S2x31x1024) (fun d j => x (ix4 d (j 0) (j 1) (j 2))) := by
  refine (Cert.SumsRefIdeal.Read.val_main_v2_eq (F := Ideal) x).trans (funext fun j => ?_)
  rw [Cert.SumsRefIdeal.Read.val_main_v2_apply, Fin.sum_univ_eight]
  have z : Cert.SumsRefIdeal.Read.val_main_cst_1 (F := Ideal) (Shape.Idx.first Cert.SumsRefIdeal.Gen.h_S_) = (0 : EReal) := by
    simp [Cert.SumsRefIdeal.Read.val_main_cst_1_apply, Ideal.ofBits, Ideal.ieee]
  rw [z, zero_add]
  have e : ∀ d : Fin 8, Cert.SumsRefIdeal.Read.idx_main_v2 j d = (ix4 d (j 0) (j 1) (j 2)) := fun d => by
    funext a
    match a with
    | ⟨0, _⟩ => rfl
    | ⟨1, _⟩ => rfl
    | ⟨2, _⟩ => rfl
    | ⟨3, _⟩ => rfl
  simp only [e]
  rfl

/-- The reference's sum over the first axis of an array of this shape. -/
theorem ref_3 (x : FVec Ideal S8x2x1024 .f32) :
    Host.reduceAdd x (constant Cert.SumsRefIdeal.S_ .f32 0x00000000#32) Cert.SumsRefIdeal.Gen.reducesTo_S8x2x1024_S2x1024_d0 Cert.SumsRefIdeal.Gen.h_S_
      = total (s := S2x1024) (fun d j => x (ix3 d (j 0) (j 1))) := by
  refine (Cert.SumsRefIdeal.Read.val_main_v3_eq (F := Ideal) x).trans (funext fun j => ?_)
  rw [Cert.SumsRefIdeal.Read.val_main_v3_apply, Fin.sum_univ_eight]
  have z : Cert.SumsRefIdeal.Read.val_main_cst_2 (F := Ideal) (Shape.Idx.first Cert.SumsRefIdeal.Gen.h_S_) = (0 : EReal) := by
    simp [Cert.SumsRefIdeal.Read.val_main_cst_2_apply, Ideal.ofBits, Ideal.ieee]
  rw [z, zero_add]
  have e : ∀ d : Fin 8, Cert.SumsRefIdeal.Read.idx_main_v3 j d = (ix3 d (j 0) (j 1)) := fun d => by
    funext a
    match a with
    | ⟨0, _⟩ => rfl
    | ⟨1, _⟩ => rfl
    | ⟨2, _⟩ => rfl
  simp only [e]
  rfl

/-- The reference's sum over the first axis of an array of this shape. -/
theorem ref_7 (x : FVec Ideal S8x2x4x3072 .f32) :
    Host.reduceAdd x (constant Cert.SumsRefIdeal.S_ .f32 0x00000000#32) Cert.SumsRefIdeal.Gen.reducesTo_S8x2x4x3072_S2x4x3072_d0 Cert.SumsRefIdeal.Gen.h_S_
      = total (s := S2x4x3072) (fun d j => x (ix4 d (j 0) (j 1) (j 2))) := by
  refine (Cert.SumsRefIdeal.Read.val_main_v7_eq (F := Ideal) x).trans (funext fun j => ?_)
  rw [Cert.SumsRefIdeal.Read.val_main_v7_apply, Fin.sum_univ_eight]
  have z : Cert.SumsRefIdeal.Read.val_main_cst_6 (F := Ideal) (Shape.Idx.first Cert.SumsRefIdeal.Gen.h_S_) = (0 : EReal) := by
    simp [Cert.SumsRefIdeal.Read.val_main_cst_6_apply, Ideal.ofBits, Ideal.ieee]
  rw [z, zero_add]
  have e : ∀ d : Fin 8, Cert.SumsRefIdeal.Read.idx_main_v7 j d = (ix4 d (j 0) (j 1) (j 2)) := fun d => by
    funext a
    match a with
    | ⟨0, _⟩ => rfl
    | ⟨1, _⟩ => rfl
    | ⟨2, _⟩ => rfl
    | ⟨3, _⟩ => rfl
  simp only [e]
  rfl

/-- The reference's sum over the first axis of an array of this shape. -/
theorem ref_8 (x : FVec Ideal S8x2x8 .f32) :
    Host.reduceAdd x (constant Cert.SumsRefIdeal.S_ .f32 0x00000000#32) Cert.SumsRefIdeal.Gen.reducesTo_S8x2x8_S2x8_d0 Cert.SumsRefIdeal.Gen.h_S_
      = total (s := S2x8) (fun d j => x (ix3 d (j 0) (j 1))) := by
  refine (Cert.SumsRefIdeal.Read.val_main_v8_eq (F := Ideal) x).trans (funext fun j => ?_)
  rw [Cert.SumsRefIdeal.Read.val_main_v8_apply, Fin.sum_univ_eight]
  have z : Cert.SumsRefIdeal.Read.val_main_cst_7 (F := Ideal) (Shape.Idx.first Cert.SumsRefIdeal.Gen.h_S_) = (0 : EReal) := by
    simp [Cert.SumsRefIdeal.Read.val_main_cst_7_apply, Ideal.ofBits, Ideal.ieee]
  rw [z, zero_add]
  have e : ∀ d : Fin 8, Cert.SumsRefIdeal.Read.idx_main_v8 j d = (ix3 d (j 0) (j 1)) := fun d => by
    funext a
    match a with
    | ⟨0, _⟩ => rfl
    | ⟨1, _⟩ => rfl
    | ⟨2, _⟩ => rfl
  simp only [e]
  rfl

/-- The reference's sum over the first axis of an array of this shape. -/
theorem ref_10 (x : FVec Ideal S8x2x128 .f32) :
    Host.reduceAdd x (constant Cert.SumsRefIdeal.S_ .f32 0x00000000#32) Cert.SumsRefIdeal.Gen.reducesTo_S8x2x128_S2x128_d0 Cert.SumsRefIdeal.Gen.h_S_
      = total (s := S2x128) (fun d j => x (ix3 d (j 0) (j 1))) := by
  refine (Cert.SumsRefIdeal.Read.val_main_v10_eq (F := Ideal) x).trans (funext fun j => ?_)
  rw [Cert.SumsRefIdeal.Read.val_main_v10_apply, Fin.sum_univ_eight]
  have z : Cert.SumsRefIdeal.Read.val_main_cst_9 (F := Ideal) (Shape.Idx.first Cert.SumsRefIdeal.Gen.h_S_) = (0 : EReal) := by
    simp [Cert.SumsRefIdeal.Read.val_main_cst_9_apply, Ideal.ofBits, Ideal.ieee]
  rw [z, zero_add]
  have e : ∀ d : Fin 8, Cert.SumsRefIdeal.Read.idx_main_v10 j d = (ix3 d (j 0) (j 1)) := fun d => by
    funext a
    match a with
    | ⟨0, _⟩ => rfl
    | ⟨1, _⟩ => rfl
    | ⟨2, _⟩ => rfl
  simp only [e]
  rfl

/-- The reference's sum over the first axis of an array of this shape. -/
theorem ref_11 (x : FVec Ideal S8x1024 .f32) :
    Host.reduceAdd x (constant Cert.SumsRefIdeal.S_ .f32 0x00000000#32) Cert.SumsRefIdeal.Gen.reducesTo_S8x1024_S1024_d0 Cert.SumsRefIdeal.Gen.h_S_
      = total (s := S1024) (fun d j => x (ix2 d (j 0))) := by
  refine (Cert.SumsRefIdeal.Read.val_main_v11_eq (F := Ideal) x).trans (funext fun j => ?_)
  rw [Cert.SumsRefIdeal.Read.val_main_v11_apply, Fin.sum_univ_eight]
  have z : Cert.SumsRefIdeal.Read.val_main_cst_10 (F := Ideal) (Shape.Idx.first Cert.SumsRefIdeal.Gen.h_S_) = (0 : EReal) := by
    simp [Cert.SumsRefIdeal.Read.val_main_cst_10_apply, Ideal.ofBits, Ideal.ieee]
  rw [z, zero_add]
  have e : ∀ d : Fin 8, Cert.SumsRefIdeal.Read.idx_main_v11 j d = (ix2 d (j 0)) := fun d => by
    funext a
    match a with
    | ⟨0, _⟩ => rfl
    | ⟨1, _⟩ => rfl
  simp only [e]
  rfl

/-- The reference's sum over the first axis of an array of this shape. -/
theorem ref_12 (x : FVec Ideal S8x1 .f32) :
    Host.reduceAdd x (constant Cert.SumsRefIdeal.S_ .f32 0x00000000#32) Cert.SumsRefIdeal.Gen.reducesTo_S8x1_S1_d0 Cert.SumsRefIdeal.Gen.h_S_
      = total (s := S1) (fun d j => x (ix2 d (j 0))) := by
  refine (Cert.SumsRefIdeal.Read.val_main_v12_eq (F := Ideal) x).trans (funext fun j => ?_)
  rw [Cert.SumsRefIdeal.Read.val_main_v12_apply, Fin.sum_univ_eight]
  have z : Cert.SumsRefIdeal.Read.val_main_cst_11 (F := Ideal) (Shape.Idx.first Cert.SumsRefIdeal.Gen.h_S_) = (0 : EReal) := by
    simp [Cert.SumsRefIdeal.Read.val_main_cst_11_apply, Ideal.ofBits, Ideal.ieee]
  rw [z, zero_add]
  have e : ∀ d : Fin 8, Cert.SumsRefIdeal.Read.idx_main_v12 j d = (ix2 d (j 0)) := fun d => by
    funext a
    match a with
    | ⟨0, _⟩ => rfl
    | ⟨1, _⟩ => rfl
  simp only [e]
  rfl

/-- The two programs end with equal results. -/
theorem algebraic : Cert.algebraic_SumsIdeal_SumsRefIdeal := fun m g m' g' _ hagree =>
  ⟨fun c => total (s := S4x3x1024) (fun d j => a0 m c (ix4 d (j 0) (j 1) (j 2))),
    fun c => total (s := S2x2048) (fun d j => a1 m c (ix3 d (j 0) (j 1))),
    fun c => total (s := S2x31x1024) (fun d j => a2 m c (ix4 d (j 0) (j 1) (j 2))),
    fun c => total (s := S2x1024) (fun d j => a3 m c (ix3 d (j 0) (j 1))),
    fun c => total (s := S2x1024) (fun d j => a4 m c (ix3 d (j 0) (j 1))),
    fun c => total (s := S2x1024) (fun d j => a5 m c (ix3 d (j 0) (j 1))),
    fun c => total (s := S2x1024) (fun d j => a6 m c (ix3 d (j 0) (j 1))),
    fun c => total (s := S2x4x3072) (fun d j => a7 m c (ix4 d (j 0) (j 1) (j 2))),
    fun c => total (s := S2x8) (fun d j => a8 m c (ix3 d (j 0) (j 1))),
    fun c => total (s := S2x8) (fun d j => a9 m c (ix3 d (j 0) (j 1))),
    fun c => total (s := S2x128) (fun d j => a10 m c (ix3 d (j 0) (j 1))),
    fun c => total (s := S1024) (fun d j => a11 m c (ix2 d (j 0))),
    fun c => total (s := S1) (fun d j => a12 m c (ix2 d (j 0))),
    (θ_run defs _ _).mono (fun r h c => ⟨((h.1 c).2 main_v18 (Pipeline.mem_restRefs_of main_v18 (by decide) (by decide))).trans (value_0 m c),
        ((h.1 c).2 main_v20 (Pipeline.mem_restRefs_of main_v20 (by decide) (by decide))).trans (value_1 m c),
        ((h.1 c).2 main_v22 (Pipeline.mem_restRefs_of main_v22 (by decide) (by decide))).trans (value_2 m c),
        ((h.1 c).2 main_v24 (Pipeline.mem_restRefs_of main_v24 (by decide) (by decide))).trans (value_3 m c),
        ((h.1 c).2 main_v26 (Pipeline.mem_restRefs_of main_v26 (by decide) (by decide))).trans (value_4 m c),
        ((h.1 c).2 main_v28 (Pipeline.mem_restRefs_of main_v28 (by decide) (by decide))).trans (value_5 m c),
        ((h.1 c).2 main_v30 (Pipeline.mem_restRefs_of main_v30 (by decide) (by decide))).trans (value_6 m c),
        ((h.1 c).2 main_v32 (Pipeline.mem_restRefs_of main_v32 (by decide) (by decide))).trans (value_7 m c),
        ((h.1 c).2 main_v34 (Pipeline.mem_restRefs_of main_v34 (by decide) (by decide))).trans (value_8 m c),
        ((h.1 c).2 main_v36 (Pipeline.mem_restRefs_of main_v36 (by decide) (by decide))).trans (value_9 m c),
        ((h.1 c).2 main_v38 (Pipeline.mem_restRefs_of main_v38 (by decide) (by decide))).trans (value_10 m c),
        ((h.1 c).2 main_v39 (Pipeline.mem_restRefs_of main_v39 (by decide) (by decide))).trans (value_11 m c),
        ((h.1 c).2 main_v40 (Pipeline.mem_restRefs_of main_v40 (by decide) (by decide))).trans (value_12 m c),
        h.2 c⟩) (θ_run_and (run_main m g) (unchanged m g)),
    (θ_run Cert.SumsRefIdeal.defs _ _).mono (fun _ h c => by
      obtain ⟨e0, e1, e2, e3, e4, e5, e6, e7, e8, e9, e10, e11, e12, e13⟩ := hagree c
      obtain ⟨h0, h1, h2, h3, h4, h5, h6, h7, h8, h9, h10, h11, h12, hk⟩ := h c
      exact ⟨h0.trans ((ref_0 _).trans (congrArg (fun x : FVec Ideal S8x4x3x1024 .f32 => total (s := S4x3x1024) (fun d j => x (ix4 d (j 0) (j 1) (j 2)))) e0)),
        h1.trans ((ref_1 _).trans (congrArg (fun x : FVec Ideal S8x2x2048 .f32 => total (s := S2x2048) (fun d j => x (ix3 d (j 0) (j 1)))) e1)),
        h2.trans ((ref_2 _).trans (congrArg (fun x : FVec Ideal S8x2x31x1024 .f32 => total (s := S2x31x1024) (fun d j => x (ix4 d (j 0) (j 1) (j 2)))) e2)),
        h3.trans ((ref_3 _).trans (congrArg (fun x : FVec Ideal S8x2x1024 .f32 => total (s := S2x1024) (fun d j => x (ix3 d (j 0) (j 1)))) e3)),
        h4.trans ((ref_3 _).trans (congrArg (fun x : FVec Ideal S8x2x1024 .f32 => total (s := S2x1024) (fun d j => x (ix3 d (j 0) (j 1)))) e4)),
        h5.trans ((ref_3 _).trans (congrArg (fun x : FVec Ideal S8x2x1024 .f32 => total (s := S2x1024) (fun d j => x (ix3 d (j 0) (j 1)))) e5)),
        h6.trans ((ref_3 _).trans (congrArg (fun x : FVec Ideal S8x2x1024 .f32 => total (s := S2x1024) (fun d j => x (ix3 d (j 0) (j 1)))) e6)),
        h7.trans ((ref_7 _).trans (congrArg (fun x : FVec Ideal S8x2x4x3072 .f32 => total (s := S2x4x3072) (fun d j => x (ix4 d (j 0) (j 1) (j 2)))) e7)),
        h8.trans ((ref_8 _).trans (congrArg (fun x : FVec Ideal S8x2x8 .f32 => total (s := S2x8) (fun d j => x (ix3 d (j 0) (j 1)))) e8)),
        h9.trans ((ref_8 _).trans (congrArg (fun x : FVec Ideal S8x2x8 .f32 => total (s := S2x8) (fun d j => x (ix3 d (j 0) (j 1)))) e9)),
        h10.trans ((ref_10 _).trans (congrArg (fun x : FVec Ideal S8x2x128 .f32 => total (s := S2x128) (fun d j => x (ix3 d (j 0) (j 1)))) e10)),
        h11.trans ((ref_11 _).trans (congrArg (fun x : FVec Ideal S8x1024 .f32 => total (s := S1024) (fun d j => x (ix2 d (j 0)))) e11)),
        h12.trans ((ref_12 _).trans (congrArg (fun x : FVec Ideal S8x1 .f32 => total (s := S1) (fun d j => x (ix2 d (j 0)))) e12)), hk⟩) (Cert.SumsRefIdeal.Value.run m' g')⟩

end Cert.SumsIdeal.Parts
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.DwIn
public import proofs.«01_k».proof.Proof.Gen.DwInIdeal
public import proofs.«01_k».proof.Proof.Gen.DwInRefIdeal
public import proofs.«01_k».proof.Proof.Gen.DwOut
public import proofs.«01_k».proof.Proof.Gen.DwOutIdeal
public import proofs.«01_k».proof.Proof.Gen.DwOutRefIdeal
public import proofs.«01_k».proof.Proof.Gen.FwdA
public import proofs.«01_k».proof.Proof.Gen.FwdAIdeal
public import proofs.«01_k».proof.Proof.Gen.FwdARefIdeal
public import proofs.«01_k».proof.Proof.Gen.FwdB
public import proofs.«01_k».proof.Proof.Gen.FwdBIdeal
public import proofs.«01_k».proof.Proof.Gen.FwdBRefIdeal
public import proofs.«01_k».proof.Proof.Gen.BwdA
public import proofs.«01_k».proof.Proof.Gen.BwdAIdeal
public import proofs.«01_k».proof.Proof.Gen.BwdARefIdeal
public import proofs.«01_k».proof.Proof.Gen.BwdB
public import proofs.«01_k».proof.Proof.Gen.BwdBIdeal
public import proofs.«01_k».proof.Proof.Gen.BwdBRefIdeal
public import proofs.«01_k».proof.Proof.Gen.AdaB
public import proofs.«01_k».proof.Proof.Gen.AdaBIdeal
public import proofs.«01_k».proof.Proof.Gen.AdaBRefIdeal
public import proofs.«01_k».proof.Proof.Gen.StepAda
public import proofs.«01_k».proof.Proof.Gen.StepAdaIdeal
public import proofs.«01_k».proof.Proof.Gen.StepAdaRefIdeal
public import proofs.«01_k».proof.Proof.Gen.StepIn
public import proofs.«01_k».proof.Proof.Gen.StepInIdeal
public import proofs.«01_k».proof.Proof.Gen.StepInRefIdeal
public import proofs.«01_k».proof.Proof.Gen.StepOut
public import proofs.«01_k».proof.Proof.Gen.StepOutIdeal
public import proofs.«01_k».proof.Proof.Gen.StepOutRefIdeal
public import proofs.«01_k».proof.Proof.Gen.StepGlu
public import proofs.«01_k».proof.Proof.Gen.StepGluIdeal
public import proofs.«01_k».proof.Proof.Gen.StepGluRefIdeal
public import proofs.«01_k».proof.Proof.Gen.StepSq
public import proofs.«01_k».proof.Proof.Gen.StepSqIdeal
public import proofs.«01_k».proof.Proof.Gen.StepSqRefIdeal
public import proofs.«01_k».proof.Proof.Gen.StepDn
public import proofs.«01_k».proof.Proof.Gen.StepDnIdeal
public import proofs.«01_k».proof.Proof.Gen.StepDnRefIdeal
public import proofs.«01_k».proof.Proof.Gen.StepSmall
public import proofs.«01_k».proof.Proof.Gen.StepSmallIdeal
public import proofs.«01_k».proof.Proof.Gen.StepSmallRefIdeal
public import proofs.«01_k».proof.Proof.Gen.Sums
public import proofs.«01_k».proof.Proof.Gen.SumsIdeal
public import proofs.«01_k».proof.Proof.Gen.SumsRefIdeal
public import proofs.«01_k».proof.Proof.Gen.Pre_finite_ba
public import proofs.«01_k».proof.Proof.Gen.Pre_finite_bb
public import proofs.«01_k».proof.Proof.BitsFrame
public import proofs.«01_k».proof.Proof.BwdFrame
public import proofs.«01_k».proof.Proof.Gen.ReferenceIdeal.Run
public import proofs.«01_k».proof.Proof.Gen.DwInIdeal.Frame
public import proofs.«01_k».proof.Proof.DwInValue
public import proofs.«01_k».proof.Proof.Gen.DwOutIdeal.Frame
public import proofs.«01_k».proof.Proof.DwOutValue
public import proofs.«01_k».proof.Proof.Gen.FwdAIdeal.Frame
public import proofs.«01_k».proof.Proof.FwdAValue
public import proofs.«01_k».proof.Proof.Gen.FwdBIdeal.Frame
public import proofs.«01_k».proof.Proof.FwdBValue
public import proofs.«01_k».proof.Proof.Gen.BwdAIdeal.Frame
public import proofs.«01_k».proof.Proof.BwdAValue
public import proofs.«01_k».proof.Proof.Gen.BwdBIdeal.Frame
public import proofs.«01_k».proof.Proof.BwdBValue
public import proofs.«01_k».proof.Proof.Gen.AdaBIdeal.Frame
public import proofs.«01_k».proof.Proof.AdaBValue
public import proofs.«01_k».proof.Proof.Gen.StepAdaIdeal.Frame
public import proofs.«01_k».proof.Proof.StepAdaValue
public import proofs.«01_k».proof.Proof.Gen.StepInIdeal.Frame
public import proofs.«01_k».proof.Proof.StepInValue
public import proofs.«01_k».proof.Proof.Gen.StepOutIdeal.Frame
public import proofs.«01_k».proof.Proof.StepOutValue
public import proofs.«01_k».proof.Proof.Gen.StepGluIdeal.Frame
public import proofs.«01_k».proof.Proof.StepGluValue
public import proofs.«01_k».proof.Proof.Gen.StepSqIdeal.Frame
public import proofs.«01_k».proof.Proof.StepSqValue
public import proofs.«01_k».proof.Proof.Gen.StepDnIdeal.Frame
public import proofs.«01_k».proof.Proof.StepDnValue
public import proofs.«01_k».proof.Proof.Gen.StepSmallIdeal.Frame
public import proofs.«01_k».proof.Proof.SmallValue
public import proofs.«01_k».proof.Proof.Gen.SumsIdeal.Frame
public import proofs.«01_k».proof.Proof.SumsValue
public import Idealize.ShloMosaic.Lib.Quiescent
public import Idealize.ShloMosaic.Adequacy
public import Idealize.ShloMosaic.Init

@[expose] public section

noncomputable section

namespace Cert.Proof

open Idealize.ShloMosaic Idealize.SL.Sem

/-! ## The backward pass of the gated delta rule -/

/-- The kernel as printed runs, leaves its arguments and its counters. -/
theorem frame_Kernel : Cert.quiescent_Kernel := Cert.Bits.frameKernel

/-- The idealized kernel runs, leaves its arguments and its counters. -/
theorem frame_KernelIdeal : Cert.quiescent_KernelIdeal := fun m ρ _ => Cert.KernelIdeal.Bwd.frame (F := Ideal) m ρ

/-- The reference runs and leaves its arguments; it declares no semaphore. -/
theorem frame_ReferenceIdeal : Cert.quiescent_ReferenceIdeal := fun m ρ _ =>
  (θ_run Cert.ReferenceIdeal.defs _ _).mono
    (fun _ h => ⟨fun c => (h c).2.2.2.2.2, sem_eq_zero_of_no_sems rfl _⟩)
    (Cert.ReferenceIdeal.Value.run m ρ)

/-! ## The gradient of the feed-forward block's first weights -/

/-- The kernel as printed runs, leaves its arguments and its counters. -/
theorem frame_DwIn : Cert.quiescent_DwIn := Cert.Bits.frameDwIn

/-- The idealized kernel runs, leaves its arguments and its counters. -/
theorem frame_DwInIdeal : Cert.quiescent_DwInIdeal := fun m ρ _ => Cert.DwInIdeal.Gen.frame (F := Ideal) m ρ

/-- The reference runs and leaves its arguments; it declares no semaphore. -/
theorem frame_DwInRefIdeal : Cert.quiescent_DwInRefIdeal := fun m ρ _ =>
  (θ_run Cert.DwInRefIdeal.defs _ _).mono
    (fun _ h => ⟨fun c => (h c).2, sem_eq_zero_of_no_sems rfl _⟩)
    (Cert.DwInRefIdeal.Value.run m ρ)

/-! ## The gradient of the feed-forward block's last weights -/

/-- The kernel as printed runs, leaves its arguments and its counters. -/
theorem frame_DwOut : Cert.quiescent_DwOut := Cert.Bits.frameDwOut

/-- The idealized kernel runs, leaves its arguments and its counters. -/
theorem frame_DwOutIdeal : Cert.quiescent_DwOutIdeal := fun m ρ _ => Cert.DwOutIdeal.Gen.frame (F := Ideal) m ρ

/-- The reference runs and leaves its arguments; it declares no semaphore. -/
theorem frame_DwOutRefIdeal : Cert.quiescent_DwOutRefIdeal := fun m ρ _ =>
  (θ_run Cert.DwOutRefIdeal.defs _ _).mono
    (fun _ h => ⟨fun c => (h c).2, sem_eq_zero_of_no_sems rfl _⟩)
    (Cert.DwOutRefIdeal.Value.run m ρ)

/-! ## The first half of the feed-forward block -/

/-- The kernel as printed runs, leaves its arguments and its counters. -/
theorem frame_FwdA : Cert.quiescent_FwdA := Cert.Bits.frameFwdA

/-- The idealized kernel runs, leaves its arguments and its counters. -/
theorem frame_FwdAIdeal : Cert.quiescent_FwdAIdeal := fun m ρ _ => Cert.FwdAIdeal.Gen.frame (F := Ideal) m ρ

/-- The reference runs and leaves its arguments; it declares no semaphore. -/
theorem frame_FwdARefIdeal : Cert.quiescent_FwdARefIdeal := fun m ρ _ =>
  (θ_run Cert.FwdARefIdeal.defs _ _).mono
    (fun _ h => ⟨fun c => (h c).2.2, sem_eq_zero_of_no_sems rfl _⟩)
    (Cert.FwdARefIdeal.Value.run m ρ)

/-! ## The second half of the feed-forward block, and the residual sum -/

/-- The kernel as printed runs, leaves its arguments and its counters. -/
theorem frame_FwdB : Cert.quiescent_FwdB := Cert.Bits.frameFwdB

/-- The idealized kernel runs, leaves its arguments and its counters. -/
theorem frame_FwdBIdeal : Cert.quiescent_FwdBIdeal := fun m ρ _ => Cert.FwdBIdeal.Gen.frame (F := Ideal) m ρ

/-- The reference runs and leaves its arguments; it declares no semaphore. -/
theorem frame_FwdBRefIdeal : Cert.quiescent_FwdBRefIdeal := fun m ρ _ =>
  (θ_run Cert.FwdBRefIdeal.defs _ _).mono
    (fun _ h => ⟨fun c => (h c).2.2, sem_eq_zero_of_no_sems rfl _⟩)
    (Cert.FwdBRefIdeal.Value.run m ρ)

/-! ## The gradient through the first half of the feed-forward block -/

/-- The kernel as printed runs, leaves its arguments and its counters. -/
theorem frame_BwdA : Cert.quiescent_BwdA := Cert.Bits.frameBwdA

/-- The idealized kernel runs, leaves its arguments and its counters. -/
theorem frame_BwdAIdeal : Cert.quiescent_BwdAIdeal := fun m ρ _ => Cert.BwdAIdeal.Gen.frame (F := Ideal) m ρ

/-- The reference runs and leaves its arguments; it declares no semaphore. -/
theorem frame_BwdARefIdeal : Cert.quiescent_BwdARefIdeal := fun m ρ _ =>
  (θ_run Cert.BwdARefIdeal.defs _ _).mono
    (fun _ h => ⟨fun c => (h c).2.2.2, sem_eq_zero_of_no_sems rfl _⟩)
    (Cert.BwdARefIdeal.Value.run m ρ)

/-- The idealized kernel from finite arguments: the same run. -/
theorem frame_BwdAIdeal_pre : Cert.quiescent_BwdAIdeal_pre_finite_ba := fun m ρ _ => Cert.BwdAIdeal.Gen.frame (F := Ideal) m ρ

/-- The reference from finite arguments: the same run. -/
theorem frame_BwdARefIdeal_pre : Cert.quiescent_BwdARefIdeal_pre_finite_ba := fun m ρ _ =>
  (θ_run Cert.BwdARefIdeal.defs _ _).mono
    (fun _ h => ⟨fun c => (h c).2.2.2, sem_eq_zero_of_no_sems rfl _⟩)
    (Cert.BwdARefIdeal.Value.run m ρ)

/-! ## The gradient through the second half of the feed-forward block and its norm -/

/-- The kernel as printed runs, leaves its arguments and its counters. -/
theorem frame_BwdB : Cert.quiescent_BwdB := Cert.Bits.frameBwdB

/-- The idealized kernel runs, leaves its arguments and its counters. -/
theorem frame_BwdBIdeal : Cert.quiescent_BwdBIdeal := fun m ρ _ => Cert.BwdBIdeal.Gen.frame (F := Ideal) m ρ

/-- The reference runs and leaves its arguments; it declares no semaphore. -/
theorem frame_BwdBRefIdeal : Cert.quiescent_BwdBRefIdeal := fun m ρ _ =>
  (θ_run Cert.BwdBRefIdeal.defs _ _).mono
    (fun _ h => ⟨fun c => (h c).2.2.2, sem_eq_zero_of_no_sems rfl _⟩)
    (Cert.BwdBRefIdeal.Value.run m ρ)

/-- The idealized kernel from finite arguments: the same run. -/
theorem frame_BwdBIdeal_pre : Cert.quiescent_BwdBIdeal_pre_finite_bb := fun m ρ _ => Cert.BwdBIdeal.Gen.frame (F := Ideal) m ρ

/-- The reference from finite arguments: the same run. -/
theorem frame_BwdBRefIdeal_pre : Cert.quiescent_BwdBRefIdeal_pre_finite_bb := fun m ρ _ =>
  (θ_run Cert.BwdBRefIdeal.defs _ _).mono
    (fun _ h => ⟨fun c => (h c).2.2.2, sem_eq_zero_of_no_sems rfl _⟩)
    (Cert.BwdBRefIdeal.Value.run m ρ)

/-! ## The gradients of the modulation's weights and bias -/

/-- The kernel as printed runs, leaves its arguments and its counters. -/
theorem frame_AdaB : Cert.quiescent_AdaB := Cert.Bits.frameAdaB

/-- The idealized kernel runs, leaves its arguments and its counters. -/
theorem frame_AdaBIdeal : Cert.quiescent_AdaBIdeal := fun m ρ _ => Cert.AdaBIdeal.Gen.frame (F := Ideal) m ρ

/-- The reference runs and leaves its arguments; it declares no semaphore. -/
theorem frame_AdaBRefIdeal : Cert.quiescent_AdaBRefIdeal := fun m ρ _ =>
  (θ_run Cert.AdaBRefIdeal.defs _ _).mono
    (fun _ h => ⟨fun c => (h c).2.2, sem_eq_zero_of_no_sems rfl _⟩)
    (Cert.AdaBRefIdeal.Value.run m ρ)

/-! ## The optimiser's step of the modulation's weights -/

/-- The kernel as printed runs, leaves its arguments and its counters. -/
theorem frame_StepAda : Cert.quiescent_StepAda := Cert.Bits.frameStepAda

/-- The idealized kernel runs, leaves its arguments and its counters. -/
theorem frame_StepAdaIdeal : Cert.quiescent_StepAdaIdeal := fun m ρ _ => Cert.StepAdaIdeal.Gen.frame (F := Ideal) m ρ

/-- The reference runs and leaves its arguments; it declares no semaphore. -/
theorem frame_StepAdaRefIdeal : Cert.quiescent_StepAdaRefIdeal := fun m ρ _ =>
  (θ_run Cert.StepAdaRefIdeal.defs _ _).mono
    (fun _ h => ⟨fun c => (h c).2.2.2, sem_eq_zero_of_no_sems rfl _⟩)
    (Cert.StepAdaRefIdeal.Value.run m ρ)

/-! ## The optimiser's step of the feed-forward blocks' first weights -/

/-- The kernel as printed runs, leaves its arguments and its counters. -/
theorem frame_StepIn : Cert.quiescent_StepIn := Cert.Bits.frameStepIn

/-- The idealized kernel runs, leaves its arguments and its counters. -/
theorem frame_StepInIdeal : Cert.quiescent_StepInIdeal := fun m ρ _ => Cert.StepInIdeal.Gen.frame (F := Ideal) m ρ

/-- The reference runs and leaves its arguments; it declares no semaphore. -/
theorem frame_StepInRefIdeal : Cert.quiescent_StepInRefIdeal := fun m ρ _ =>
  (θ_run Cert.StepInRefIdeal.defs _ _).mono
    (fun _ h => ⟨fun c => (h c).2.2.2, sem_eq_zero_of_no_sems rfl _⟩)
    (Cert.StepInRefIdeal.Value.run m ρ)

/-! ## The optimiser's step of the feed-forward blocks' last weights -/

/-- The kernel as printed runs, leaves its arguments and its counters. -/
theorem frame_StepOut : Cert.quiescent_StepOut := Cert.Bits.frameStepOut

/-- The idealized kernel runs, leaves its arguments and its counters. -/
theorem frame_StepOutIdeal : Cert.quiescent_StepOutIdeal := fun m ρ _ => Cert.StepOutIdeal.Gen.frame (F := Ideal) m ρ

/-- The reference runs and leaves its arguments; it declares no semaphore. -/
theorem frame_StepOutRefIdeal : Cert.quiescent_StepOutRefIdeal := fun m ρ _ =>
  (θ_run Cert.StepOutRefIdeal.defs _ _).mono
    (fun _ h => ⟨fun c => (h c).2.2.2, sem_eq_zero_of_no_sems rfl _⟩)
    (Cert.StepOutRefIdeal.Value.run m ρ)

/-! ## The optimiser's step of the convolution module's gated weights -/

/-- The kernel as printed runs, leaves its arguments and its counters. -/
theorem frame_StepGlu : Cert.quiescent_StepGlu := Cert.Bits.frameStepGlu

/-- The idealized kernel runs, leaves its arguments and its counters. -/
theorem frame_StepGluIdeal : Cert.quiescent_StepGluIdeal := fun m ρ _ => Cert.StepGluIdeal.Gen.frame (F := Ideal) m ρ

/-- The reference runs and leaves its arguments; it declares no semaphore. -/
theorem frame_StepGluRefIdeal : Cert.quiescent_StepGluRefIdeal := fun m ρ _ =>
  (θ_run Cert.StepGluRefIdeal.defs _ _).mono
    (fun _ h => ⟨fun c => (h c).2.2.2, sem_eq_zero_of_no_sems rfl _⟩)
    (Cert.StepGluRefIdeal.Value.run m ρ)

/-! ## The optimiser's step of the mixers' closing weights -/

/-- The kernel as printed runs, leaves its arguments and its counters. -/
theorem frame_StepSq : Cert.quiescent_StepSq := Cert.Bits.frameStepSq

/-- The idealized kernel runs, leaves its arguments and its counters. -/
theorem frame_StepSqIdeal : Cert.quiescent_StepSqIdeal := fun m ρ _ => Cert.StepSqIdeal.Gen.frame (F := Ideal) m ρ

/-- The reference runs and leaves its arguments; it declares no semaphore. -/
theorem frame_StepSqRefIdeal : Cert.quiescent_StepSqRefIdeal := fun m ρ _ =>
  (θ_run Cert.StepSqRefIdeal.defs _ _).mono
    (fun _ h => ⟨fun c => (h c).2.2.2, sem_eq_zero_of_no_sems rfl _⟩)
    (Cert.StepSqRefIdeal.Value.run m ρ)

/-! ## The optimiser's step of the delta rule's opening weights -/

/-- The kernel as printed runs, leaves its arguments and its counters. -/
theorem frame_StepDn : Cert.quiescent_StepDn := Cert.Bits.frameStepDn

/-- The idealized kernel runs, leaves its arguments and its counters. -/
theorem frame_StepDnIdeal : Cert.quiescent_StepDnIdeal := fun m ρ _ => Cert.StepDnIdeal.Gen.frame (F := Ideal) m ρ

/-- The reference runs and leaves its arguments; it declares no semaphore. -/
theorem frame_StepDnRefIdeal : Cert.quiescent_StepDnRefIdeal := fun m ρ _ =>
  (θ_run Cert.StepDnRefIdeal.defs _ _).mono
    (fun _ h => ⟨fun c => (h c).2.2.2, sem_eq_zero_of_no_sems rfl _⟩)
    (Cert.StepDnRefIdeal.Value.run m ρ)

/-! ## The optimiser's step of the small weights -/

/-- The kernel as printed runs, leaves its arguments and its counters. -/
theorem frame_StepSmall : Cert.quiescent_StepSmall := Cert.Bits.frameStepSmall

/-- The idealized kernel runs, leaves its arguments and its counters. -/
theorem frame_StepSmallIdeal : Cert.quiescent_StepSmallIdeal := fun m ρ _ => Cert.StepSmallIdeal.Gen.frame (F := Ideal) m ρ

/-- The reference runs and leaves its arguments; it declares no semaphore. -/
theorem frame_StepSmallRefIdeal : Cert.quiescent_StepSmallRefIdeal := fun m ρ _ =>
  (θ_run Cert.StepSmallRefIdeal.defs _ _).mono
    (fun _ h => ⟨fun c => (h c).2.2.2.2.2.2.2.2.2.2.2.2.2.2.2.2.2.2.2.2.2.2.2.2.2.2.2.2.2.2.2.2.2.2.2.2.2.2.2, sem_eq_zero_of_no_sems rfl _⟩)
    (Cert.StepSmallRefIdeal.Value.run m ρ)

/-! ## The sum over the devices -/

/-- The kernel as printed runs, leaves its arguments and its counters. -/
theorem frame_Sums : Cert.quiescent_Sums := Cert.Bits.frameSums

/-- The idealized kernel runs, leaves its arguments and its counters. -/
theorem frame_SumsIdeal : Cert.quiescent_SumsIdeal := fun m ρ _ => Cert.SumsIdeal.Gen.frame (F := Ideal) m ρ

/-- The reference runs and leaves its arguments; it declares no semaphore. -/
theorem frame_SumsRefIdeal : Cert.quiescent_SumsRefIdeal := fun m ρ _ =>
  (θ_run Cert.SumsRefIdeal.defs _ _).mono
    (fun _ h => ⟨fun c => (h c).2.2.2.2.2.2.2.2.2.2.2.2.2, sem_eq_zero_of_no_sems rfl _⟩)
    (Cert.SumsRefIdeal.Value.run m ρ)

theorem claim : Cert.Claim :=
  ⟨Cert.Kernel.Gen.facts,
    Cert.KernelIdeal.Gen.facts,
    Cert.ReferenceIdeal.Gen.facts,
    Cert.DwIn.Gen.facts,
    Cert.DwInIdeal.Gen.facts,
    Cert.DwInRefIdeal.Gen.facts,
    Cert.DwOut.Gen.facts,
    Cert.DwOutIdeal.Gen.facts,
    Cert.DwOutRefIdeal.Gen.facts,
    Cert.FwdA.Gen.facts,
    Cert.FwdAIdeal.Gen.facts,
    Cert.FwdARefIdeal.Gen.facts,
    Cert.FwdB.Gen.facts,
    Cert.FwdBIdeal.Gen.facts,
    Cert.FwdBRefIdeal.Gen.facts,
    Cert.BwdA.Gen.facts,
    Cert.BwdAIdeal.Gen.facts,
    Cert.BwdARefIdeal.Gen.facts,
    Cert.BwdB.Gen.facts,
    Cert.BwdBIdeal.Gen.facts,
    Cert.BwdBRefIdeal.Gen.facts,
    Cert.AdaB.Gen.facts,
    Cert.AdaBIdeal.Gen.facts,
    Cert.AdaBRefIdeal.Gen.facts,
    Cert.StepAda.Gen.facts,
    Cert.StepAdaIdeal.Gen.facts,
    Cert.StepAdaRefIdeal.Gen.facts,
    Cert.StepIn.Gen.facts,
    Cert.StepInIdeal.Gen.facts,
    Cert.StepInRefIdeal.Gen.facts,
    Cert.StepOut.Gen.facts,
    Cert.StepOutIdeal.Gen.facts,
    Cert.StepOutRefIdeal.Gen.facts,
    Cert.StepGlu.Gen.facts,
    Cert.StepGluIdeal.Gen.facts,
    Cert.StepGluRefIdeal.Gen.facts,
    Cert.StepSq.Gen.facts,
    Cert.StepSqIdeal.Gen.facts,
    Cert.StepSqRefIdeal.Gen.facts,
    Cert.StepDn.Gen.facts,
    Cert.StepDnIdeal.Gen.facts,
    Cert.StepDnRefIdeal.Gen.facts,
    Cert.StepSmall.Gen.facts,
    Cert.StepSmallIdeal.Gen.facts,
    Cert.StepSmallRefIdeal.Gen.facts,
    Cert.Sums.Gen.facts,
    Cert.SumsIdeal.Gen.facts,
    Cert.SumsRefIdeal.Gen.facts,
    Cert.Pre_finite_ba.Gen.facts,
    Cert.Pre_finite_bb.Gen.facts,
    frame_Kernel, frame_KernelIdeal, frame_ReferenceIdeal,
    frame_DwIn, frame_DwInIdeal, frame_DwInRefIdeal,
    frame_DwOut, frame_DwOutIdeal, frame_DwOutRefIdeal,
    frame_FwdA, frame_FwdAIdeal, frame_FwdARefIdeal,
    frame_FwdB, frame_FwdBIdeal, frame_FwdBRefIdeal,
    frame_BwdA, frame_BwdAIdeal, frame_BwdAIdeal_pre, frame_BwdARefIdeal, frame_BwdARefIdeal_pre,
    frame_BwdB, frame_BwdBIdeal, frame_BwdBIdeal_pre, frame_BwdBRefIdeal, frame_BwdBRefIdeal_pre,
    frame_AdaB, frame_AdaBIdeal, frame_AdaBRefIdeal,
    frame_StepAda, frame_StepAdaIdeal, frame_StepAdaRefIdeal,
    frame_StepIn, frame_StepInIdeal, frame_StepInRefIdeal,
    frame_StepOut, frame_StepOutIdeal, frame_StepOutRefIdeal,
    frame_StepGlu, frame_StepGluIdeal, frame_StepGluRefIdeal,
    frame_StepSq, frame_StepSqIdeal, frame_StepSqRefIdeal,
    frame_StepDn, frame_StepDnIdeal, frame_StepDnRefIdeal,
    frame_StepSmall, frame_StepSmallIdeal, frame_StepSmallRefIdeal,
    frame_Sums, frame_SumsIdeal, frame_SumsRefIdeal,
    trivial,
    trivial,
    Cert.DwInIdeal.Weights.algebraic,
    trivial,
    Cert.DwOutIdeal.Weights.algebraic,
    trivial,
    Cert.FwdAIdeal.Half.algebraic,
    trivial,
    Cert.FwdBIdeal.Whole.algebraic,
    trivial,
    Cert.BwdAIdeal.Back.algebraic,
    trivial,
    Cert.BwdBIdeal.Whole.algebraic,
    trivial,
    Cert.AdaBIdeal.Cond.algebraic,
    trivial,
    Cert.StepAdaIdeal.Step.algebraic,
    trivial,
    Cert.StepInIdeal.Step.algebraic,
    trivial,
    Cert.StepOutIdeal.Step.algebraic,
    trivial,
    Cert.StepGluIdeal.Step.algebraic,
    trivial,
    Cert.StepSqIdeal.Step.algebraic,
    trivial,
    Cert.StepDnIdeal.Step.algebraic,
    trivial,
    Cert.StepSmallIdeal.Pack.algebraic,
    trivial,
    Cert.SumsIdeal.Parts.algebraic⟩

end Cert.Proof

end
